-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_Ff2 (m : (ℓ : Loc Cert.Ff2.nD Cert.Ff2.τ Cert.Ff2.sig) → Buf (Elt Bits) ℓ) : Prop :=
  True

def Pre_Ff2Ideal (m : (ℓ : Loc Cert.Ff2Ideal.nD Cert.Ff2Ideal.τ Cert.Ff2Ideal.sig) → Buf (Elt Ideal) ℓ) : Prop :=
  True

def Pre_Ff2Ideal_below_top_ff2 [hPre_below_top_ff2 : Cert.Pre_below_top_ff2.Facts] (m : (ℓ : Loc Cert.Ff2Ideal.nD Cert.Ff2Ideal.τ Cert.Ff2Ideal.sig) → Buf (Elt Ideal) ℓ) : Prop :=
  ∀ c : Dev Cert.Ff2Ideal.nD,
    (Cert.Pre_below_top_ff2.fn (F := Ideal) (m ((c.tc : Thread Cert.Ff2Ideal.nD Cert.Ff2Ideal.τ).loc Cert.Ff2Ideal.main_arg0)) (m ((c.tc : Thread Cert.Ff2Ideal.nD Cert.Ff2Ideal.τ).loc Cert.Ff2Ideal.main_arg1)) (m ((c.tc : Thread Cert.Ff2Ideal.nD Cert.Ff2Ideal.τ).loc Cert.Ff2Ideal.main_arg2)) (m ((c.tc : Thread Cert.Ff2Ideal.nD Cert.Ff2Ideal.τ).loc Cert.Ff2Ideal.main_arg3))) = (fun _ => 1#1)

def Pre_Ff2RefIdeal (m : (ℓ : Loc Cert.Ff2RefIdeal.nD Cert.Ff2RefIdeal.τ Cert.Ff2RefIdeal.sig) → Buf (Elt Ideal) ℓ) : Prop :=
  True

def Pre_Ff2RefIdeal_below_top_ff2 [hPre_below_top_ff2 : Cert.Pre_below_top_ff2.Facts] (m : (ℓ : Loc Cert.Ff2RefIdeal.nD Cert.Ff2RefIdeal.τ Cert.Ff2RefIdeal.sig) → Buf (Elt Ideal) ℓ) : Prop :=
  ∀ c : Dev Cert.Ff2RefIdeal.nD,
    (Cert.Pre_below_top_ff2.fn (F := Ideal) (m ((c.tc : Thread Cert.Ff2RefIdeal.nD Cert.Ff2RefIdeal.τ).loc Cert.Ff2RefIdeal.main_arg0)) (m ((c.tc : Thread Cert.Ff2RefIdeal.nD Cert.Ff2RefIdeal.τ).loc Cert.Ff2RefIdeal.main_arg1)) (m ((c.tc : Thread Cert.Ff2RefIdeal.nD Cert.Ff2RefIdeal.τ).loc Cert.Ff2RefIdeal.main_arg2)) (m ((c.tc : Thread Cert.Ff2RefIdeal.nD Cert.Ff2RefIdeal.τ).loc Cert.Ff2RefIdeal.main_arg3))) = (fun _ => 1#1)

def Pre_Ff1 (m : (ℓ : Loc Cert.Ff1.nD Cert.Ff1.τ Cert.Ff1.sig) → Buf (Elt Bits) ℓ) : Prop :=
  True

def Pre_Ff1Ideal (m : (ℓ : Loc Cert.Ff1Ideal.nD Cert.Ff1Ideal.τ Cert.Ff1Ideal.sig) → Buf (Elt Ideal) ℓ) : Prop :=
  True

def Pre_Ff1Ideal_finite_ff1 [hPre_finite_ff1 : Cert.Pre_finite_ff1.Facts] (m : (ℓ : Loc Cert.Ff1Ideal.nD Cert.Ff1Ideal.τ Cert.Ff1Ideal.sig) → Buf (Elt Ideal) ℓ) : Prop :=
  ∀ c : Dev Cert.Ff1Ideal.nD,
    (Cert.Pre_finite_ff1.fn (F := Ideal) (m ((c.tc : Thread Cert.Ff1Ideal.nD Cert.Ff1Ideal.τ).loc Cert.Ff1Ideal.main_arg0)) (m ((c.tc : Thread Cert.Ff1Ideal.nD Cert.Ff1Ideal.τ).loc Cert.Ff1Ideal.main_arg1)) (m ((c.tc : Thread Cert.Ff1Ideal.nD Cert.Ff1Ideal.τ).loc Cert.Ff1Ideal.main_arg2)) (m ((c.tc : Thread Cert.Ff1Ideal.nD Cert.Ff1Ideal.τ).loc Cert.Ff1Ideal.main_arg3)) (m ((c.tc : Thread Cert.Ff1Ideal.nD Cert.Ff1Ideal.τ).loc Cert.Ff1Ideal.main_arg4)) (m ((c.tc : Thread Cert.Ff1Ideal.nD Cert.Ff1Ideal.τ).loc Cert.Ff1Ideal.main_arg5)) (m ((c.tc : Thread Cert.Ff1Ideal.nD Cert.Ff1Ideal.τ).loc Cert.Ff1Ideal.main_arg6))) = (fun _ => 1#1)

def Pre_Ff1RefIdeal (m : (ℓ : Loc Cert.Ff1RefIdeal.nD Cert.Ff1RefIdeal.τ Cert.Ff1RefIdeal.sig) → Buf (Elt Ideal) ℓ) : Prop :=
  True

def Pre_Ff1RefIdeal_finite_ff1 [hPre_finite_ff1 : Cert.Pre_finite_ff1.Facts] (m : (ℓ : Loc Cert.Ff1RefIdeal.nD Cert.Ff1RefIdeal.τ Cert.Ff1RefIdeal.sig) → Buf (Elt Ideal) ℓ) : Prop :=
  ∀ c : Dev Cert.Ff1RefIdeal.nD,
    (Cert.Pre_finite_ff1.fn (F := Ideal) (m ((c.tc : Thread Cert.Ff1RefIdeal.nD Cert.Ff1RefIdeal.τ).loc Cert.Ff1RefIdeal.main_arg0)) (m ((c.tc : Thread Cert.Ff1RefIdeal.nD Cert.Ff1RefIdeal.τ).loc Cert.Ff1RefIdeal.main_arg1)) (m ((c.tc : Thread Cert.Ff1RefIdeal.nD Cert.Ff1RefIdeal.τ).loc Cert.Ff1RefIdeal.main_arg2)) (m ((c.tc : Thread Cert.Ff1RefIdeal.nD Cert.Ff1RefIdeal.τ).loc Cert.Ff1RefIdeal.main_arg3)) (m ((c.tc : Thread Cert.Ff1RefIdeal.nD Cert.Ff1RefIdeal.τ).loc Cert.Ff1RefIdeal.main_arg4)) (m ((c.tc : Thread Cert.Ff1RefIdeal.nD Cert.Ff1RefIdeal.τ).loc Cert.Ff1RefIdeal.main_arg5)) (m ((c.tc : Thread Cert.Ff1RefIdeal.nD Cert.Ff1RefIdeal.τ).loc Cert.Ff1RefIdeal.main_arg6))) = (fun _ => 1#1)

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Wff2 (m : (ℓ : Loc Cert.Wff2.nD Cert.Wff2.τ Cert.Wff2.sig) → Buf (Elt Bits) ℓ) : Prop :=
  True

def Pre_Wff2Ideal (m : (ℓ : Loc Cert.Wff2Ideal.nD Cert.Wff2Ideal.τ Cert.Wff2Ideal.sig) → Buf (Elt Ideal) ℓ) : Prop :=
  True

def Pre_Wff2RefIdeal (m : (ℓ : Loc Cert.Wff2RefIdeal.nD Cert.Wff2RefIdeal.τ Cert.Wff2RefIdeal.sig) → Buf (Elt Ideal) ℓ) : Prop :=
  True

def Pre_Wff1 (m : (ℓ : Loc Cert.Wff1.nD Cert.Wff1.τ Cert.Wff1.sig) → Buf (Elt Bits) ℓ) : Prop :=
  True

def Pre_Wff1Ideal (m : (ℓ : Loc Cert.Wff1Ideal.nD Cert.Wff1Ideal.τ Cert.Wff1Ideal.sig) → Buf (Elt Ideal) ℓ) : Prop :=
  True

def Pre_Wff1RefIdeal (m : (ℓ : Loc Cert.Wff1RefIdeal.nD Cert.Wff1RefIdeal.τ Cert.Wff1RefIdeal.sig) → Buf (Elt Ideal) ℓ) : Prop :=
  True

def Pre_In (m : (ℓ : Loc Cert.In.nD Cert.In.τ Cert.In.sig) → Buf (Elt Bits) ℓ) : Prop :=
  True

def Pre_InIdeal (m : (ℓ : Loc Cert.InIdeal.nD Cert.InIdeal.τ Cert.InIdeal.sig) → Buf (Elt Ideal) ℓ) : Prop :=
  True

def Pre_InRefIdeal (m : (ℓ : Loc Cert.InRefIdeal.nD Cert.InRefIdeal.τ Cert.InRefIdeal.sig) → Buf (Elt Ideal) ℓ) : Prop :=
  True

def Pre_Mixf (m : (ℓ : Loc Cert.Mixf.nD Cert.Mixf.τ Cert.Mixf.sig) → Buf (Elt Bits) ℓ) : Prop :=
  True

def Pre_MixfIdeal (m : (ℓ : Loc Cert.MixfIdeal.nD Cert.MixfIdeal.τ Cert.MixfIdeal.sig) → Buf (Elt Ideal) ℓ) : Prop :=
  True

def Pre_MixfRefIdeal (m : (ℓ : Loc Cert.MixfRefIdeal.nD Cert.MixfRefIdeal.τ Cert.MixfRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Ff1f (m : (ℓ : Loc Cert.Ff1f.nD Cert.Ff1f.τ Cert.Ff1f.sig) → Buf (Elt Bits) ℓ) : Prop :=
  True

def Pre_Ff1fIdeal (m : (ℓ : Loc Cert.Ff1fIdeal.nD Cert.Ff1fIdeal.τ Cert.Ff1fIdeal.sig) → Buf (Elt Ideal) ℓ) : Prop :=
  True

def Pre_Ff1fRefIdeal (m : (ℓ : Loc Cert.Ff1fRefIdeal.nD Cert.Ff1fRefIdeal.τ Cert.Ff1fRefIdeal.sig) → Buf (Elt Ideal) ℓ) : Prop :=
  True

def Pre_Ff2f (m : (ℓ : Loc Cert.Ff2f.nD Cert.Ff2f.τ Cert.Ff2f.sig) → Buf (Elt Bits) ℓ) : Prop :=
  True

def Pre_Ff2fIdeal (m : (ℓ : Loc Cert.Ff2fIdeal.nD Cert.Ff2fIdeal.τ Cert.Ff2fIdeal.sig) → Buf (Elt Ideal) ℓ) : Prop :=
  True

def Pre_Ff2fRefIdeal (m : (ℓ : Loc Cert.Ff2fRefIdeal.nD Cert.Ff2fRefIdeal.τ Cert.Ff2fRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2)) (m ((c.tc : Thread Cert.LossIdeal.nD Cert.LossIdeal.τ).loc Cert.LossIdeal.main_arg3))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_finite_loss [hPre_finite_loss : Cert.Pre_finite_loss.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_finite_loss.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3))) = (fun _ => 1#1)

def Pre_Inb (m : (ℓ : Loc Cert.Inb.nD Cert.Inb.τ Cert.Inb.sig) → Buf (Elt Bits) ℓ) : Prop :=
  True

def Pre_InbIdeal (m : (ℓ : Loc Cert.InbIdeal.nD Cert.InbIdeal.τ Cert.InbIdeal.sig) → Buf (Elt Ideal) ℓ) : Prop :=
  True

def Pre_InbIdeal_finite_inb [hPre_finite_inb : Cert.Pre_finite_inb.Facts] (m : (ℓ : Loc Cert.InbIdeal.nD Cert.InbIdeal.τ Cert.InbIdeal.sig) → Buf (Elt Ideal) ℓ) : Prop :=
  ∀ c : Dev Cert.InbIdeal.nD,
    (Cert.Pre_finite_inb.fn (F := Ideal) (m ((c.tc : Thread Cert.InbIdeal.nD Cert.InbIdeal.τ).loc Cert.InbIdeal.main_arg0)) (m ((c.tc : Thread Cert.InbIdeal.nD Cert.InbIdeal.τ).loc Cert.InbIdeal.main_arg1)) (m ((c.tc : Thread Cert.InbIdeal.nD Cert.InbIdeal.τ).loc Cert.InbIdeal.main_arg2)) (m ((c.tc : Thread Cert.InbIdeal.nD Cert.InbIdeal.τ).loc Cert.InbIdeal.main_arg3)) (m ((c.tc : Thread Cert.InbIdeal.nD Cert.InbIdeal.τ).loc Cert.InbIdeal.main_arg4)) (m ((c.tc : Thread Cert.InbIdeal.nD Cert.InbIdeal.τ).loc Cert.InbIdeal.main_arg5)) (m ((c.tc : Thread Cert.InbIdeal.nD Cert.InbIdeal.τ).loc Cert.InbIdeal.main_arg6)) (m ((c.tc : Thread Cert.InbIdeal.nD Cert.InbIdeal.τ).loc Cert.InbIdeal.main_arg7)) (m ((c.tc : Thread Cert.InbIdeal.nD Cert.InbIdeal.τ).loc Cert.InbIdeal.main_arg8))) = (fun _ => 1#1)

def Pre_InbRefIdeal (m : (ℓ : Loc Cert.InbRefIdeal.nD Cert.InbRefIdeal.τ Cert.InbRefIdeal.sig) → Buf (Elt Ideal) ℓ) : Prop :=
  True

def Pre_InbRefIdeal_finite_inb [hPre_finite_inb : Cert.Pre_finite_inb.Facts] (m : (ℓ : Loc Cert.InbRefIdeal.nD Cert.InbRefIdeal.τ Cert.InbRefIdeal.sig) → Buf (Elt Ideal) ℓ) : Prop :=
  ∀ c : Dev Cert.InbRefIdeal.nD,
    (Cert.Pre_finite_inb.fn (F := Ideal) (m ((c.tc : Thread Cert.InbRefIdeal.nD Cert.InbRefIdeal.τ).loc Cert.InbRefIdeal.main_arg0)) (m ((c.tc : Thread Cert.InbRefIdeal.nD Cert.InbRefIdeal.τ).loc Cert.InbRefIdeal.main_arg1)) (m ((c.tc : Thread Cert.InbRefIdeal.nD Cert.InbRefIdeal.τ).loc Cert.InbRefIdeal.main_arg2)) (m ((c.tc : Thread Cert.InbRefIdeal.nD Cert.InbRefIdeal.τ).loc Cert.InbRefIdeal.main_arg3)) (m ((c.tc : Thread Cert.InbRefIdeal.nD Cert.InbRefIdeal.τ).loc Cert.InbRefIdeal.main_arg4)) (m ((c.tc : Thread Cert.InbRefIdeal.nD Cert.InbRefIdeal.τ).loc Cert.InbRefIdeal.main_arg5)) (m ((c.tc : Thread Cert.InbRefIdeal.nD Cert.InbRefIdeal.τ).loc Cert.InbRefIdeal.main_arg6)) (m ((c.tc : Thread Cert.InbRefIdeal.nD Cert.InbRefIdeal.τ).loc Cert.InbRefIdeal.main_arg7)) (m ((c.tc : Thread Cert.InbRefIdeal.nD Cert.InbRefIdeal.τ).loc Cert.InbRefIdeal.main_arg8))) = (fun _ => 1#1)

def Pre_Inb0 (m : (ℓ : Loc Cert.Inb0.nD Cert.Inb0.τ Cert.Inb0.sig) → Buf (Elt Bits) ℓ) : Prop :=
  True

def Pre_Inb0Ideal (m : (ℓ : Loc Cert.Inb0Ideal.nD Cert.Inb0Ideal.τ Cert.Inb0Ideal.sig) → Buf (Elt Ideal) ℓ) : Prop :=
  True

def Pre_Inb0RefIdeal (m : (ℓ : Loc Cert.Inb0RefIdeal.nD Cert.Inb0RefIdeal.τ Cert.Inb0RefIdeal.sig) → Buf (Elt Ideal) ℓ) : Prop :=
  True

def Pre_Wout (m : (ℓ : Loc Cert.Wout.nD Cert.Wout.τ Cert.Wout.sig) → Buf (Elt Bits) ℓ) : Prop :=
  True

def Pre_WoutIdeal (m : (ℓ : Loc Cert.WoutIdeal.nD Cert.WoutIdeal.τ Cert.WoutIdeal.sig) → Buf (Elt Ideal) ℓ) : Prop :=
  True

def Pre_WoutRefIdeal (m : (ℓ : Loc Cert.WoutRefIdeal.nD Cert.WoutRefIdeal.τ Cert.WoutRefIdeal.sig) → Buf (Elt Ideal) ℓ) : Prop :=
  True

def Pre_Wglu (m : (ℓ : Loc Cert.Wglu.nD Cert.Wglu.τ Cert.Wglu.sig) → Buf (Elt Bits) ℓ) : Prop :=
  True

def Pre_WgluIdeal (m : (ℓ : Loc Cert.WgluIdeal.nD Cert.WgluIdeal.τ Cert.WgluIdeal.sig) → Buf (Elt Ideal) ℓ) : Prop :=
  True

def Pre_WgluRefIdeal (m : (ℓ : Loc Cert.WgluRefIdeal.nD Cert.WgluRefIdeal.τ Cert.WgluRefIdeal.sig) → Buf (Elt Ideal) ℓ) : Prop :=
  True

def Pre_Win (m : (ℓ : Loc Cert.Win.nD Cert.Win.τ Cert.Win.sig) → Buf (Elt Bits) ℓ) : Prop :=
  True

def Pre_WinIdeal (m : (ℓ : Loc Cert.WinIdeal.nD Cert.WinIdeal.τ Cert.WinIdeal.sig) → Buf (Elt Ideal) ℓ) : Prop :=
  True

def Pre_WinRefIdeal (m : (ℓ : Loc Cert.WinRefIdeal.nD Cert.WinRefIdeal.τ Cert.WinRefIdeal.sig) → Buf (Elt Ideal) ℓ) : Prop :=
  True

def Pre_Awin (m : (ℓ : Loc Cert.Awin.nD Cert.Awin.τ Cert.Awin.sig) → Buf (Elt Bits) ℓ) : Prop :=
  True

def Pre_AwinIdeal (m : (ℓ : Loc Cert.AwinIdeal.nD Cert.AwinIdeal.τ Cert.AwinIdeal.sig) → Buf (Elt Ideal) ℓ) : Prop :=
  True

def Pre_AwinRefIdeal (m : (ℓ : Loc Cert.AwinRefIdeal.nD Cert.AwinRefIdeal.τ Cert.AwinRefIdeal.sig) → Buf (Elt Ideal) ℓ) : Prop :=
  True

def Pre_Awglu (m : (ℓ : Loc Cert.Awglu.nD Cert.Awglu.τ Cert.Awglu.sig) → Buf (Elt Bits) ℓ) : Prop :=
  True

def Pre_AwgluIdeal (m : (ℓ : Loc Cert.AwgluIdeal.nD Cert.AwgluIdeal.τ Cert.AwgluIdeal.sig) → Buf (Elt Ideal) ℓ) : Prop :=
  True

def Pre_AwgluRefIdeal (m : (ℓ : Loc Cert.AwgluRefIdeal.nD Cert.AwgluRefIdeal.τ Cert.AwgluRefIdeal.sig) → Buf (Elt Ideal) ℓ) : Prop :=
  True

def Pre_Awout (m : (ℓ : Loc Cert.Awout.nD Cert.Awout.τ Cert.Awout.sig) → Buf (Elt Bits) ℓ) : Prop :=
  True

def Pre_AwoutIdeal (m : (ℓ : Loc Cert.AwoutIdeal.nD Cert.AwoutIdeal.τ Cert.AwoutIdeal.sig) → Buf (Elt Ideal) ℓ) : Prop :=
  True

def Pre_AwoutRefIdeal (m : (ℓ : Loc Cert.AwoutRefIdeal.nD Cert.AwoutRefIdeal.τ Cert.AwoutRefIdeal.sig) → Buf (Elt Ideal) ℓ) : Prop :=
  True

def Pre_Awff1 (m : (ℓ : Loc Cert.Awff1.nD Cert.Awff1.τ Cert.Awff1.sig) → Buf (Elt Bits) ℓ) : Prop :=
  True

def Pre_Awff1Ideal (m : (ℓ : Loc Cert.Awff1Ideal.nD Cert.Awff1Ideal.τ Cert.Awff1Ideal.sig) → Buf (Elt Ideal) ℓ) : Prop :=
  True

def Pre_Awff1RefIdeal (m : (ℓ : Loc Cert.Awff1RefIdeal.nD Cert.Awff1RefIdeal.τ Cert.Awff1RefIdeal.sig) → Buf (Elt Ideal) ℓ) : Prop :=
  True

def Pre_Awff2 (m : (ℓ : Loc Cert.Awff2.nD Cert.Awff2.τ Cert.Awff2.sig) → Buf (Elt Bits) ℓ) : Prop :=
  True

def Pre_Awff2Ideal (m : (ℓ : Loc Cert.Awff2Ideal.nD Cert.Awff2Ideal.τ Cert.Awff2Ideal.sig) → Buf (Elt Ideal) ℓ) : Prop :=
  True

def Pre_Awff2RefIdeal (m : (ℓ : Loc Cert.Awff2RefIdeal.nD Cert.Awff2RefIdeal.τ Cert.Awff2RefIdeal.sig) → Buf (Elt Ideal) ℓ) : Prop :=
  True

def Pre_Asmall (m : (ℓ : Loc Cert.Asmall.nD Cert.Asmall.τ Cert.Asmall.sig) → Buf (Elt Bits) ℓ) : Prop :=
  True

def Pre_AsmallIdeal (m : (ℓ : Loc Cert.AsmallIdeal.nD Cert.AsmallIdeal.τ Cert.AsmallIdeal.sig) → Buf (Elt Ideal) ℓ) : Prop :=
  True

def Pre_AsmallRefIdeal (m : (ℓ : Loc Cert.AsmallRefIdeal.nD Cert.AsmallRefIdeal.τ Cert.AsmallRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_Ff2 [hFf2 : Cert.Ff2.Facts] : Prop :=
  ∀ (m : (ℓ : Loc Cert.Ff2.nD Cert.Ff2.τ Cert.Ff2.sig) → Buf (Elt Bits) ℓ) (g : Dev Cert.Ff2.nD → PrngReg), Pre_Ff2 m →
    θ_run (Cert.Ff2.defs (F := Bits)) (onTc (τ := Cert.Ff2.τ) (Cert.Ff2.main (F := Bits))) ⟨m, fun _ => 0, g⟩ (fun r => (∀ c : Dev Cert.Ff2.nD,
      r.2.mem ((c.tc : Thread Cert.Ff2.nD Cert.Ff2.τ).loc Cert.Ff2.main_arg0) = m ((c.tc : Thread Cert.Ff2.nD Cert.Ff2.τ).loc Cert.Ff2.main_arg0)
      ∧ r.2.mem ((c.tc : Thread Cert.Ff2.nD Cert.Ff2.τ).loc Cert.Ff2.main_arg1) = m ((c.tc : Thread Cert.Ff2.nD Cert.Ff2.τ).loc Cert.Ff2.main_arg1)
      ∧ r.2.mem ((c.tc : Thread Cert.Ff2.nD Cert.Ff2.τ).loc Cert.Ff2.main_arg2) = m ((c.tc : Thread Cert.Ff2.nD Cert.Ff2.τ).loc Cert.Ff2.main_arg2)
      ∧ r.2.mem ((c.tc : Thread Cert.Ff2.nD Cert.Ff2.τ).loc Cert.Ff2.main_arg3) = m ((c.tc : Thread Cert.Ff2.nD Cert.Ff2.τ).loc Cert.Ff2.main_arg3))
      ∧ r.2.sem = fun _ => 0)

def quiescent_Ff2Ideal [hFf2Ideal : Cert.Ff2Ideal.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
      ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3))
      ∧ r.2.sem = fun _ => 0)

def quiescent_Ff2Ideal_pre_below_top_ff2 [hFf2Ideal : Cert.Ff2Ideal.Facts] [hPre_below_top_ff2 : Cert.Pre_below_top_ff2.Facts] : Prop :=
  ∀ (m : (ℓ : Loc Cert.Ff2Ideal.nD Cert.Ff2Ideal.τ Cert.Ff2Ideal.sig) → Buf (Elt Ideal) ℓ) (g : Dev Cert.Ff2Ideal.nD → PrngReg), Pre_Ff2Ideal_below_top_ff2 m →
    θ_run (Cert.Ff2Ideal.defs (F := Ideal)) (onTc (τ := Cert.Ff2Ideal.τ) (Cert.Ff2Ideal.main (F := Ideal))) ⟨m, fun _ => 0, g⟩ (fun r => (∀ c : Dev Cert.Ff2Ideal.nD,
      r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
      ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
      ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
      ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3))
      ∧ r.2.sem = fun _ => 0)

def quiescent_Ff2RefIdeal [hFf2RefIdeal : Cert.Ff2RefIdeal.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2)
      ∧ r.2.mem ((c.tc : Thread Cert.Ff2RefIdeal.nD Cert.Ff2RefIdeal.τ).loc Cert.Ff2RefIdeal.main_arg3) = m ((c.tc : Thread Cert.Ff2RefIdeal.nD Cert.Ff2RefIdeal.τ).loc Cert.Ff2RefIdeal.main_arg3))
      ∧ r.2.sem = fun _ => 0)

def quiescent_Ff2RefIdeal_pre_below_top_ff2 [hFf2RefIdeal : Cert.Ff2RefIdeal.Facts] [hPre_below_top_ff2 : Cert.Pre_below_top_ff2.Facts] : Prop :=
  ∀ (m : (ℓ : Loc Cert.Ff2RefIdeal.nD Cert.Ff2RefIdeal.τ Cert.Ff2RefIdeal.sig) → Buf (Elt Ideal) ℓ) (g : Dev Cert.Ff2RefIdeal.nD → PrngReg), Pre_Ff2RefIdeal_below_top_ff2 m →
    θ_run (Cert.Ff2RefIdeal.defs (F := Ideal)) (onTc (τ := Cert.Ff2RefIdeal.τ) (Cert.Ff2RefIdeal.main (F := Ideal))) ⟨m, fun _ => 0, g⟩ (fun r => (∀ c : Dev Cert.Ff2RefIdeal.nD,
      r.2.mem ((c.tc : Thread Cert.Ff2RefIdeal.nD Cert.Ff2RefIdeal.τ).loc Cert.Ff2RefIdeal.main_arg0) = m ((c.tc : Thread Cert.Ff2RefIdeal.nD Cert.Ff2RefIdeal.τ).loc Cert.Ff2RefIdeal.main_arg0)
      ∧ r.2.mem ((c.tc : Thread Cert.Ff2RefIdeal.nD Cert.Ff2RefIdeal.τ).loc Cert.Ff2RefIdeal.main_arg1) = m ((c.tc : Thread Cert.Ff2RefIdeal.nD Cert.Ff2RefIdeal.τ).loc Cert.Ff2RefIdeal.main_arg1)
      ∧ r.2.mem ((c.tc : Thread Cert.Ff2RefIdeal.nD Cert.Ff2RefIdeal.τ).loc Cert.Ff2RefIdeal.main_arg2) = m ((c.tc : Thread Cert.Ff2RefIdeal.nD Cert.Ff2RefIdeal.τ).loc Cert.Ff2RefIdeal.main_arg2)
      ∧ r.2.mem ((c.tc : Thread Cert.Ff2RefIdeal.nD Cert.Ff2RefIdeal.τ).loc Cert.Ff2RefIdeal.main_arg3) = m ((c.tc : Thread Cert.Ff2RefIdeal.nD Cert.Ff2RefIdeal.τ).loc Cert.Ff2RefIdeal.main_arg3))
      ∧ r.2.sem = fun _ => 0)

def quiescent_Ff1 [hFf1 : Cert.Ff1.Facts] : Prop :=
  ∀ (m : (ℓ : Loc Cert.Ff1.nD Cert.Ff1.τ Cert.Ff1.sig) → Buf (Elt Bits) ℓ) (g : Dev Cert.Ff1.nD → PrngReg), Pre_Ff1 m →
    θ_run (Cert.Ff1.defs (F := Bits)) (onTc (τ := Cert.Ff1.τ) (Cert.Ff1.main (F := Bits))) ⟨m, fun _ => 0, g⟩ (fun r => (∀ c : Dev Cert.Ff1.nD,
      r.2.mem ((c.tc : Thread Cert.Ff1.nD Cert.Ff1.τ).loc Cert.Ff1.main_arg0) = m ((c.tc : Thread Cert.Ff1.nD Cert.Ff1.τ).loc Cert.Ff1.main_arg0)
      ∧ r.2.mem ((c.tc : Thread Cert.Ff1.nD Cert.Ff1.τ).loc Cert.Ff1.main_arg1) = m ((c.tc : Thread Cert.Ff1.nD Cert.Ff1.τ).loc Cert.Ff1.main_arg1)
      ∧ r.2.mem ((c.tc : Thread Cert.Ff1.nD Cert.Ff1.τ).loc Cert.Ff1.main_arg2) = m ((c.tc : Thread Cert.Ff1.nD Cert.Ff1.τ).loc Cert.Ff1.main_arg2)
      ∧ r.2.mem ((c.tc : Thread Cert.Ff1.nD Cert.Ff1.τ).loc Cert.Ff1.main_arg3) = m ((c.tc : Thread Cert.Ff1.nD Cert.Ff1.τ).loc Cert.Ff1.main_arg3)
      ∧ r.2.mem ((c.tc : Thread Cert.Ff1.nD Cert.Ff1.τ).loc Cert.Ff1.main_arg4) = m ((c.tc : Thread Cert.Ff1.nD Cert.Ff1.τ).loc Cert.Ff1.main_arg4)
      ∧ r.2.mem ((c.tc : Thread Cert.Ff1.nD Cert.Ff1.τ).loc Cert.Ff1.main_arg5) = m ((c.tc : Thread Cert.Ff1.nD Cert.Ff1.τ).loc Cert.Ff1.main_arg5)
      ∧ r.2.mem ((c.tc : Thread Cert.Ff1.nD Cert.Ff1.τ).loc Cert.Ff1.main_arg6) = m ((c.tc : Thread Cert.Ff1.nD Cert.Ff1.τ).loc Cert.Ff1.main_arg6))
      ∧ r.2.sem = fun _ => 0)

def quiescent_Ff1Ideal [hFf1Ideal : Cert.Ff1Ideal.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
      ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2)
      ∧ r.2.mem ((c.tc : Thread Cert.Ff1Ideal.nD Cert.Ff1Ideal.τ).loc Cert.Ff1Ideal.main_arg3) = m ((c.tc : Thread Cert.Ff1Ideal.nD Cert.Ff1Ideal.τ).loc Cert.Ff1Ideal.main_arg3)
      ∧ r.2.mem ((c.tc : Thread Cert.Ff1Ideal.nD Cert.Ff1Ideal.τ).loc Cert.Ff1Ideal.main_arg4) = m ((c.tc : Thread Cert.Ff1Ideal.nD Cert.Ff1Ideal.τ).loc Cert.Ff1Ideal.main_arg4)
      ∧ r.2.mem ((c.tc : Thread Cert.Ff1Ideal.nD Cert.Ff1Ideal.τ).loc Cert.Ff1Ideal.main_arg5) = m ((c.tc : Thread Cert.Ff1Ideal.nD Cert.Ff1Ideal.τ).loc Cert.Ff1Ideal.main_arg5)
      ∧ r.2.mem ((c.tc : Thread Cert.Ff1Ideal.nD Cert.Ff1Ideal.τ).loc Cert.Ff1Ideal.main_arg6) = m ((c.tc : Thread Cert.Ff1Ideal.nD Cert.Ff1Ideal.τ).loc Cert.Ff1Ideal.main_arg6))
      ∧ r.2.sem = fun _ => 0)

def quiescent_Ff1Ideal_pre_finite_ff1 [hFf1Ideal : Cert.Ff1Ideal.Facts] [hPre_finite_ff1 : Cert.Pre_finite_ff1.Facts] : Prop :=
  ∀ (m : (ℓ : Loc Cert.Ff1Ideal.nD Cert.Ff1Ideal.τ Cert.Ff1Ideal.sig) → Buf (Elt Ideal) ℓ) (g : Dev Cert.Ff1Ideal.nD → PrngReg), Pre_Ff1Ideal_finite_ff1 m →
    θ_run (Cert.Ff1Ideal.defs (F := Ideal)) (onTc (τ := Cert.Ff1Ideal.τ) (Cert.Ff1Ideal.main (F := Ideal))) ⟨m, fun _ => 0, g⟩ (fun r => (∀ c : Dev Cert.Ff1Ideal.nD,
      r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
      ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
      ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2)
      ∧ r.2.mem ((c.tc : Thread Cert.Ff1Ideal.nD Cert.Ff1Ideal.τ).loc Cert.Ff1Ideal.main_arg3) = m ((c.tc : Thread Cert.Ff1Ideal.nD Cert.Ff1Ideal.τ).loc Cert.Ff1Ideal.main_arg3)
      ∧ r.2.mem ((c.tc : Thread Cert.Ff1Ideal.nD Cert.Ff1Ideal.τ).loc Cert.Ff1Ideal.main_arg4) = m ((c.tc : Thread Cert.Ff1Ideal.nD Cert.Ff1Ideal.τ).loc Cert.Ff1Ideal.main_arg4)
      ∧ r.2.mem ((c.tc : Thread Cert.Ff1Ideal.nD Cert.Ff1Ideal.τ).loc Cert.Ff1Ideal.main_arg5) = m ((c.tc : Thread Cert.Ff1Ideal.nD Cert.Ff1Ideal.τ).loc Cert.Ff1Ideal.main_arg5)
      ∧ r.2.mem ((c.tc : Thread Cert.Ff1Ideal.nD Cert.Ff1Ideal.τ).loc Cert.Ff1Ideal.main_arg6) = m ((c.tc : Thread Cert.Ff1Ideal.nD Cert.Ff1Ideal.τ).loc Cert.Ff1Ideal.main_arg6))
      ∧ r.2.sem = fun _ => 0)

def quiescent_Ff1RefIdeal [hFf1RefIdeal : Cert.Ff1RefIdeal.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1)
      ∧ r.2.mem ((c.tc : Thread Cert.Ff1RefIdeal.nD Cert.Ff1RefIdeal.τ).loc Cert.Ff1RefIdeal.main_arg2) = m ((c.tc : Thread Cert.Ff1RefIdeal.nD Cert.Ff1RefIdeal.τ).loc Cert.Ff1RefIdeal.main_arg2)
      ∧ r.2.mem ((c.tc : Thread Cert.Ff1RefIdeal.nD Cert.Ff1RefIdeal.τ).loc Cert.Ff1RefIdeal.main_arg3) = m ((c.tc : Thread Cert.Ff1RefIdeal.nD Cert.Ff1RefIdeal.τ).loc Cert.Ff1RefIdeal.main_arg3)
      ∧ r.2.mem ((c.tc : Thread Cert.Ff1RefIdeal.nD Cert.Ff1RefIdeal.τ).loc Cert.Ff1RefIdeal.main_arg4) = m ((c.tc : Thread Cert.Ff1RefIdeal.nD Cert.Ff1RefIdeal.τ).loc Cert.Ff1RefIdeal.main_arg4)
      ∧ r.2.mem ((c.tc : Thread Cert.Ff1RefIdeal.nD Cert.Ff1RefIdeal.τ).loc Cert.Ff1RefIdeal.main_arg5) = m ((c.tc : Thread Cert.Ff1RefIdeal.nD Cert.Ff1RefIdeal.τ).loc Cert.Ff1RefIdeal.main_arg5)
      ∧ r.2.mem ((c.tc : Thread Cert.Ff1RefIdeal.nD Cert.Ff1RefIdeal.τ).loc Cert.Ff1RefIdeal.main_arg6) = m ((c.tc : Thread Cert.Ff1RefIdeal.nD Cert.Ff1RefIdeal.τ).loc Cert.Ff1RefIdeal.main_arg6))
      ∧ r.2.sem = fun _ => 0)

def quiescent_Ff1RefIdeal_pre_finite_ff1 [hFf1RefIdeal : Cert.Ff1RefIdeal.Facts] [hPre_finite_ff1 : Cert.Pre_finite_ff1.Facts] : Prop :=
  ∀ (m : (ℓ : Loc Cert.Ff1RefIdeal.nD Cert.Ff1RefIdeal.τ Cert.Ff1RefIdeal.sig) → Buf (Elt Ideal) ℓ) (g : Dev Cert.Ff1RefIdeal.nD → PrngReg), Pre_Ff1RefIdeal_finite_ff1 m →
    θ_run (Cert.Ff1RefIdeal.defs (F := Ideal)) (onTc (τ := Cert.Ff1RefIdeal.τ) (Cert.Ff1RefIdeal.main (F := Ideal))) ⟨m, fun _ => 0, g⟩ (fun r => (∀ c : Dev Cert.Ff1RefIdeal.nD,
      r.2.mem ((c.tc : Thread Cert.Ff1RefIdeal.nD Cert.Ff1RefIdeal.τ).loc Cert.Ff1RefIdeal.main_arg0) = m ((c.tc : Thread Cert.Ff1RefIdeal.nD Cert.Ff1RefIdeal.τ).loc Cert.Ff1RefIdeal.main_arg0)
      ∧ r.2.mem ((c.tc : Thread Cert.Ff1RefIdeal.nD Cert.Ff1RefIdeal.τ).loc Cert.Ff1RefIdeal.main_arg1) = m ((c.tc : Thread Cert.Ff1RefIdeal.nD Cert.Ff1RefIdeal.τ).loc Cert.Ff1RefIdeal.main_arg1)
      ∧ r.2.mem ((c.tc : Thread Cert.Ff1RefIdeal.nD Cert.Ff1RefIdeal.τ).loc Cert.Ff1RefIdeal.main_arg2) = m ((c.tc : Thread Cert.Ff1RefIdeal.nD Cert.Ff1RefIdeal.τ).loc Cert.Ff1RefIdeal.main_arg2)
      ∧ r.2.mem ((c.tc : Thread Cert.Ff1RefIdeal.nD Cert.Ff1RefIdeal.τ).loc Cert.Ff1RefIdeal.main_arg3) = m ((c.tc : Thread Cert.Ff1RefIdeal.nD Cert.Ff1RefIdeal.τ).loc Cert.Ff1RefIdeal.main_arg3)
      ∧ r.2.mem ((c.tc : Thread Cert.Ff1RefIdeal.nD Cert.Ff1RefIdeal.τ).loc Cert.Ff1RefIdeal.main_arg4) = m ((c.tc : Thread Cert.Ff1RefIdeal.nD Cert.Ff1RefIdeal.τ).loc Cert.Ff1RefIdeal.main_arg4)
      ∧ r.2.mem ((c.tc : Thread Cert.Ff1RefIdeal.nD Cert.Ff1RefIdeal.τ).loc Cert.Ff1RefIdeal.main_arg5) = m ((c.tc : Thread Cert.Ff1RefIdeal.nD Cert.Ff1RefIdeal.τ).loc Cert.Ff1RefIdeal.main_arg5)
      ∧ r.2.mem ((c.tc : Thread Cert.Ff1RefIdeal.nD Cert.Ff1RefIdeal.τ).loc Cert.Ff1RefIdeal.main_arg6) = m ((c.tc : Thread Cert.Ff1RefIdeal.nD Cert.Ff1RefIdeal.τ).loc Cert.Ff1RefIdeal.main_arg6))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7))
      ∧ r.2.sem = fun _ => 0)

def quiescent_Wff2 [hWff2 : Cert.Wff2.Facts] : Prop :=
  ∀ (m : (ℓ : Loc Cert.Wff2.nD Cert.Wff2.τ Cert.Wff2.sig) → Buf (Elt Bits) ℓ) (g : Dev Cert.Wff2.nD → PrngReg), Pre_Wff2 m →
    θ_run (Cert.Wff2.defs (F := Bits)) (onTc (τ := Cert.Wff2.τ) (Cert.Wff2.main (F := Bits))) ⟨m, fun _ => 0, g⟩ (fun r => (∀ c : Dev Cert.Wff2.nD,
      r.2.mem ((c.tc : Thread Cert.Wff2.nD Cert.Wff2.τ).loc Cert.Wff2.main_arg0) = m ((c.tc : Thread Cert.Wff2.nD Cert.Wff2.τ).loc Cert.Wff2.main_arg0)
      ∧ r.2.mem ((c.tc : Thread Cert.Wff2.nD Cert.Wff2.τ).loc Cert.Wff2.main_arg1) = m ((c.tc : Thread Cert.Wff2.nD Cert.Wff2.τ).loc Cert.Wff2.main_arg1)
      ∧ r.2.mem ((c.tc : Thread Cert.Wff2.nD Cert.Wff2.τ).loc Cert.Wff2.main_arg2) = m ((c.tc : Thread Cert.Wff2.nD Cert.Wff2.τ).loc Cert.Wff2.main_arg2))
      ∧ r.2.sem = fun _ => 0)

def quiescent_Wff2Ideal [hWff2Ideal : Cert.Wff2Ideal.Facts] : Prop :=
  ∀ (m : (ℓ : Loc Cert.Wff2Ideal.nD Cert.Wff2Ideal.τ Cert.Wff2Ideal.sig) → Buf (Elt Ideal) ℓ) (g : Dev Cert.Wff2Ideal.nD → PrngReg), Pre_Wff2Ideal m →
    θ_run (Cert.Wff2Ideal.defs (F := Ideal)) (onTc (τ := Cert.Wff2Ideal.τ) (Cert.Wff2Ideal.main (F := Ideal))) ⟨m, fun _ => 0, g⟩ (fun r => (∀ c : Dev Cert.Wff2Ideal.nD,
      r.2.mem ((c.tc : Thread Cert.Wff2Ideal.nD Cert.Wff2Ideal.τ).loc Cert.Wff2Ideal.main_arg0) = m ((c.tc : Thread Cert.Wff2Ideal.nD Cert.Wff2Ideal.τ).loc Cert.Wff2Ideal.main_arg0)
      ∧ r.2.mem ((c.tc : Thread Cert.Wff2Ideal.nD Cert.Wff2Ideal.τ).loc Cert.Wff2Ideal.main_arg1) = m ((c.tc : Thread Cert.Wff2Ideal.nD Cert.Wff2Ideal.τ).loc Cert.Wff2Ideal.main_arg1)
      ∧ r.2.mem ((c.tc : Thread Cert.Wff2Ideal.nD Cert.Wff2Ideal.τ).loc Cert.Wff2Ideal.main_arg2) = m ((c.tc : Thread Cert.Wff2Ideal.nD Cert.Wff2Ideal.τ).loc Cert.Wff2Ideal.main_arg2))
      ∧ r.2.sem = fun _ => 0)

def quiescent_Wff2RefIdeal [hWff2RefIdeal : Cert.Wff2RefIdeal.Facts] : Prop :=
  ∀ (m : (ℓ : Loc Cert.Wff2RefIdeal.nD Cert.Wff2RefIdeal.τ Cert.Wff2RefIdeal.sig) → Buf (Elt Ideal) ℓ) (g : Dev Cert.Wff2RefIdeal.nD → PrngReg), Pre_Wff2RefIdeal m →
    θ_run (Cert.Wff2RefIdeal.defs (F := Ideal)) (onTc (τ := Cert.Wff2RefIdeal.τ) (Cert.Wff2RefIdeal.main (F := Ideal))) ⟨m, fun _ => 0, g⟩ (fun r => (∀ c : Dev Cert.Wff2RefIdeal.nD,
      r.2.mem ((c.tc : Thread Cert.Wff2RefIdeal.nD Cert.Wff2RefIdeal.τ).loc Cert.Wff2RefIdeal.main_arg0) = m ((c.tc : Thread Cert.Wff2RefIdeal.nD Cert.Wff2RefIdeal.τ).loc Cert.Wff2RefIdeal.main_arg0)
      ∧ r.2.mem ((c.tc : Thread Cert.Wff2RefIdeal.nD Cert.Wff2RefIdeal.τ).loc Cert.Wff2RefIdeal.main_arg1) = m ((c.tc : Thread Cert.Wff2RefIdeal.nD Cert.Wff2RefIdeal.τ).loc Cert.Wff2RefIdeal.main_arg1)
      ∧ r.2.mem ((c.tc : Thread Cert.Wff2RefIdeal.nD Cert.Wff2RefIdeal.τ).loc Cert.Wff2RefIdeal.main_arg2) = m ((c.tc : Thread Cert.Wff2RefIdeal.nD Cert.Wff2RefIdeal.τ).loc Cert.Wff2RefIdeal.main_arg2))
      ∧ r.2.sem = fun _ => 0)

def quiescent_Wff1 [hWff1 : Cert.Wff1.Facts] : Prop :=
  ∀ (m : (ℓ : Loc Cert.Wff1.nD Cert.Wff1.τ Cert.Wff1.sig) → Buf (Elt Bits) ℓ) (g : Dev Cert.Wff1.nD → PrngReg), Pre_Wff1 m →
    θ_run (Cert.Wff1.defs (F := Bits)) (onTc (τ := Cert.Wff1.τ) (Cert.Wff1.main (F := Bits))) ⟨m, fun _ => 0, g⟩ (fun r => (∀ c : Dev Cert.Wff1.nD,
      r.2.mem ((c.tc : Thread Cert.Wff1.nD Cert.Wff1.τ).loc Cert.Wff1.main_arg0) = m ((c.tc : Thread Cert.Wff1.nD Cert.Wff1.τ).loc Cert.Wff1.main_arg0)
      ∧ r.2.mem ((c.tc : Thread Cert.Wff1.nD Cert.Wff1.τ).loc Cert.Wff1.main_arg1) = m ((c.tc : Thread Cert.Wff1.nD Cert.Wff1.τ).loc Cert.Wff1.main_arg1)
      ∧ r.2.mem ((c.tc : Thread Cert.Wff1.nD Cert.Wff1.τ).loc Cert.Wff1.main_arg2) = m ((c.tc : Thread Cert.Wff1.nD Cert.Wff1.τ).loc Cert.Wff1.main_arg2))
      ∧ r.2.sem = fun _ => 0)

def quiescent_Wff1Ideal [hWff1Ideal : Cert.Wff1Ideal.Facts] : Prop :=
  ∀ (m : (ℓ : Loc Cert.Wff1Ideal.nD Cert.Wff1Ideal.τ Cert.Wff1Ideal.sig) → Buf (Elt Ideal) ℓ) (g : Dev Cert.Wff1Ideal.nD → PrngReg), Pre_Wff1Ideal m →
    θ_run (Cert.Wff1Ideal.defs (F := Ideal)) (onTc (τ := Cert.Wff1Ideal.τ) (Cert.Wff1Ideal.main (F := Ideal))) ⟨m, fun _ => 0, g⟩ (fun r => (∀ c : Dev Cert.Wff1Ideal.nD,
      r.2.mem ((c.tc : Thread Cert.Wff1Ideal.nD Cert.Wff1Ideal.τ).loc Cert.Wff1Ideal.main_arg0) = m ((c.tc : Thread Cert.Wff1Ideal.nD Cert.Wff1Ideal.τ).loc Cert.Wff1Ideal.main_arg0)
      ∧ r.2.mem ((c.tc : Thread Cert.Wff1Ideal.nD Cert.Wff1Ideal.τ).loc Cert.Wff1Ideal.main_arg1) = m ((c.tc : Thread Cert.Wff1Ideal.nD Cert.Wff1Ideal.τ).loc Cert.Wff1Ideal.main_arg1)
      ∧ r.2.mem ((c.tc : Thread Cert.Wff1Ideal.nD Cert.Wff1Ideal.τ).loc Cert.Wff1Ideal.main_arg2) = m ((c.tc : Thread Cert.Wff1Ideal.nD Cert.Wff1Ideal.τ).loc Cert.Wff1Ideal.main_arg2))
      ∧ r.2.sem = fun _ => 0)

def quiescent_Wff1RefIdeal [hWff1RefIdeal : Cert.Wff1RefIdeal.Facts] : Prop :=
  ∀ (m : (ℓ : Loc Cert.Wff1RefIdeal.nD Cert.Wff1RefIdeal.τ Cert.Wff1RefIdeal.sig) → Buf (Elt Ideal) ℓ) (g : Dev Cert.Wff1RefIdeal.nD → PrngReg), Pre_Wff1RefIdeal m →
    θ_run (Cert.Wff1RefIdeal.defs (F := Ideal)) (onTc (τ := Cert.Wff1RefIdeal.τ) (Cert.Wff1RefIdeal.main (F := Ideal))) ⟨m, fun _ => 0, g⟩ (fun r => (∀ c : Dev Cert.Wff1RefIdeal.nD,
      r.2.mem ((c.tc : Thread Cert.Wff1RefIdeal.nD Cert.Wff1RefIdeal.τ).loc Cert.Wff1RefIdeal.main_arg0) = m ((c.tc : Thread Cert.Wff1RefIdeal.nD Cert.Wff1RefIdeal.τ).loc Cert.Wff1RefIdeal.main_arg0)
      ∧ r.2.mem ((c.tc : Thread Cert.Wff1RefIdeal.nD Cert.Wff1RefIdeal.τ).loc Cert.Wff1RefIdeal.main_arg1) = m ((c.tc : Thread Cert.Wff1RefIdeal.nD Cert.Wff1RefIdeal.τ).loc Cert.Wff1RefIdeal.main_arg1)
      ∧ r.2.mem ((c.tc : Thread Cert.Wff1RefIdeal.nD Cert.Wff1RefIdeal.τ).loc Cert.Wff1RefIdeal.main_arg2) = m ((c.tc : Thread Cert.Wff1RefIdeal.nD Cert.Wff1RefIdeal.τ).loc Cert.Wff1RefIdeal.main_arg2))
      ∧ r.2.sem = fun _ => 0)

def quiescent_In [hIn : Cert.In.Facts] : Prop :=
  ∀ (m : (ℓ : Loc Cert.In.nD Cert.In.τ Cert.In.sig) → Buf (Elt Bits) ℓ) (g : Dev Cert.In.nD → PrngReg), Pre_In m →
    θ_run (Cert.In.defs (F := Bits)) (onTc (τ := Cert.In.τ) (Cert.In.main (F := Bits))) ⟨m, fun _ => 0, g⟩ (fun r => (∀ c : Dev Cert.In.nD,
      r.2.mem ((c.tc : Thread Cert.In.nD Cert.In.τ).loc Cert.In.main_arg0) = m ((c.tc : Thread Cert.In.nD Cert.In.τ).loc Cert.In.main_arg0)
      ∧ r.2.mem ((c.tc : Thread Cert.In.nD Cert.In.τ).loc Cert.In.main_arg1) = m ((c.tc : Thread Cert.In.nD Cert.In.τ).loc Cert.In.main_arg1))
      ∧ r.2.sem = fun _ => 0)

def quiescent_InIdeal [hInIdeal : Cert.InIdeal.Facts] : Prop :=
  ∀ (m : (ℓ : Loc Cert.InIdeal.nD Cert.InIdeal.τ Cert.InIdeal.sig) → Buf (Elt Ideal) ℓ) (g : Dev Cert.InIdeal.nD → PrngReg), Pre_InIdeal m →
    θ_run (Cert.InIdeal.defs (F := Ideal)) (onTc (τ := Cert.InIdeal.τ) (Cert.InIdeal.main (F := Ideal))) ⟨m, fun _ => 0, g⟩ (fun r => (∀ c : Dev Cert.InIdeal.nD,
      r.2.mem ((c.tc : Thread Cert.InIdeal.nD Cert.InIdeal.τ).loc Cert.InIdeal.main_arg0) = m ((c.tc : Thread Cert.InIdeal.nD Cert.InIdeal.τ).loc Cert.InIdeal.main_arg0)
      ∧ r.2.mem ((c.tc : Thread Cert.InIdeal.nD Cert.InIdeal.τ).loc Cert.InIdeal.main_arg1) = m ((c.tc : Thread Cert.InIdeal.nD Cert.InIdeal.τ).loc Cert.InIdeal.main_arg1))
      ∧ r.2.sem = fun _ => 0)

def quiescent_InRefIdeal [hInRefIdeal : Cert.InRefIdeal.Facts] : Prop :=
  ∀ (m : (ℓ : Loc Cert.InRefIdeal.nD Cert.InRefIdeal.τ Cert.InRefIdeal.sig) → Buf (Elt Ideal) ℓ) (g : Dev Cert.InRefIdeal.nD → PrngReg), Pre_InRefIdeal m →
    θ_run (Cert.InRefIdeal.defs (F := Ideal)) (onTc (τ := Cert.InRefIdeal.τ) (Cert.InRefIdeal.main (F := Ideal))) ⟨m, fun _ => 0, g⟩ (fun r => (∀ c : Dev Cert.InRefIdeal.nD,
      r.2.mem ((c.tc : Thread Cert.InRefIdeal.nD Cert.InRefIdeal.τ).loc Cert.InRefIdeal.main_arg0) = m ((c.tc : Thread Cert.InRefIdeal.nD Cert.InRefIdeal.τ).loc Cert.InRefIdeal.main_arg0)
      ∧ r.2.mem ((c.tc : Thread Cert.InRefIdeal.nD Cert.InRefIdeal.τ).loc Cert.InRefIdeal.main_arg1) = m ((c.tc : Thread Cert.InRefIdeal.nD Cert.InRefIdeal.τ).loc Cert.InRefIdeal.main_arg1))
      ∧ r.2.sem = fun _ => 0)

def quiescent_Mixf [hMixf : Cert.Mixf.Facts] : Prop :=
  ∀ (m : (ℓ : Loc Cert.Mixf.nD Cert.Mixf.τ Cert.Mixf.sig) → Buf (Elt Bits) ℓ) (g : Dev Cert.Mixf.nD → PrngReg), Pre_Mixf m →
    θ_run (Cert.Mixf.defs (F := Bits)) (onTc (τ := Cert.Mixf.τ) (Cert.Mixf.main (F := Bits))) ⟨m, fun _ => 0, g⟩ (fun r => (∀ c : Dev Cert.Mixf.nD,
      r.2.mem ((c.tc : Thread Cert.Mixf.nD Cert.Mixf.τ).loc Cert.Mixf.main_arg0) = m ((c.tc : Thread Cert.Mixf.nD Cert.Mixf.τ).loc Cert.Mixf.main_arg0)
      ∧ r.2.mem ((c.tc : Thread Cert.Mixf.nD Cert.Mixf.τ).loc Cert.Mixf.main_arg1) = m ((c.tc : Thread Cert.Mixf.nD Cert.Mixf.τ).loc Cert.Mixf.main_arg1)
      ∧ r.2.mem ((c.tc : Thread Cert.Mixf.nD Cert.Mixf.τ).loc Cert.Mixf.main_arg2) = m ((c.tc : Thread Cert.Mixf.nD Cert.Mixf.τ).loc Cert.Mixf.main_arg2)
      ∧ r.2.mem ((c.tc : Thread Cert.Mixf.nD Cert.Mixf.τ).loc Cert.Mixf.main_arg3) = m ((c.tc : Thread Cert.Mixf.nD Cert.Mixf.τ).loc Cert.Mixf.main_arg3)
      ∧ r.2.mem ((c.tc : Thread Cert.Mixf.nD Cert.Mixf.τ).loc Cert.Mixf.main_arg4) = m ((c.tc : Thread Cert.Mixf.nD Cert.Mixf.τ).loc Cert.Mixf.main_arg4)
      ∧ r.2.mem ((c.tc : Thread Cert.Mixf.nD Cert.Mixf.τ).loc Cert.Mixf.main_arg5) = m ((c.tc : Thread Cert.Mixf.nD Cert.Mixf.τ).loc Cert.Mixf.main_arg5))
      ∧ r.2.sem = fun _ => 0)

def quiescent_MixfIdeal [hMixfIdeal : Cert.MixfIdeal.Facts] : Prop :=
  ∀ (m : (ℓ : Loc Cert.MixfIdeal.nD Cert.MixfIdeal.τ Cert.MixfIdeal.sig) → Buf (Elt Ideal) ℓ) (g : Dev Cert.MixfIdeal.nD → PrngReg), Pre_MixfIdeal m →
    θ_run (Cert.MixfIdeal.defs (F := Ideal)) (onTc (τ := Cert.MixfIdeal.τ) (Cert.MixfIdeal.main (F := Ideal))) ⟨m, fun _ => 0, g⟩ (fun r => (∀ c : Dev Cert.MixfIdeal.nD,
      r.2.mem ((c.tc : Thread Cert.MixfIdeal.nD Cert.MixfIdeal.τ).loc Cert.MixfIdeal.main_arg0) = m ((c.tc : Thread Cert.MixfIdeal.nD Cert.MixfIdeal.τ).loc Cert.MixfIdeal.main_arg0)
      ∧ r.2.mem ((c.tc : Thread Cert.MixfIdeal.nD Cert.MixfIdeal.τ).loc Cert.MixfIdeal.main_arg1) = m ((c.tc : Thread Cert.MixfIdeal.nD Cert.MixfIdeal.τ).loc Cert.MixfIdeal.main_arg1)
      ∧ r.2.mem ((c.tc : Thread Cert.MixfIdeal.nD Cert.MixfIdeal.τ).loc Cert.MixfIdeal.main_arg2) = m ((c.tc : Thread Cert.MixfIdeal.nD Cert.MixfIdeal.τ).loc Cert.MixfIdeal.main_arg2)
      ∧ r.2.mem ((c.tc : Thread Cert.MixfIdeal.nD Cert.MixfIdeal.τ).loc Cert.MixfIdeal.main_arg3) = m ((c.tc : Thread Cert.MixfIdeal.nD Cert.MixfIdeal.τ).loc Cert.MixfIdeal.main_arg3)
      ∧ r.2.mem ((c.tc : Thread Cert.MixfIdeal.nD Cert.MixfIdeal.τ).loc Cert.MixfIdeal.main_arg4) = m ((c.tc : Thread Cert.MixfIdeal.nD Cert.MixfIdeal.τ).loc Cert.MixfIdeal.main_arg4)
      ∧ r.2.mem ((c.tc : Thread Cert.MixfIdeal.nD Cert.MixfIdeal.τ).loc Cert.MixfIdeal.main_arg5) = m ((c.tc : Thread Cert.MixfIdeal.nD Cert.MixfIdeal.τ).loc Cert.MixfIdeal.main_arg5))
      ∧ r.2.sem = fun _ => 0)

def quiescent_MixfRefIdeal [hMixfRefIdeal : Cert.MixfRefIdeal.Facts] : Prop :=
  ∀ (m : (ℓ : Loc Cert.MixfRefIdeal.nD Cert.MixfRefIdeal.τ Cert.MixfRefIdeal.sig) → Buf (Elt Ideal) ℓ) (g : Dev Cert.MixfRefIdeal.nD → PrngReg), Pre_MixfRefIdeal m →
    θ_run (Cert.MixfRefIdeal.defs (F := Ideal)) (onTc (τ := Cert.MixfRefIdeal.τ) (Cert.MixfRefIdeal.main (F := Ideal))) ⟨m, fun _ => 0, g⟩ (fun r => (∀ c : Dev Cert.MixfRefIdeal.nD,
      r.2.mem ((c.tc : Thread Cert.MixfRefIdeal.nD Cert.MixfRefIdeal.τ).loc Cert.MixfRefIdeal.main_arg0) = m ((c.tc : Thread Cert.MixfRefIdeal.nD Cert.MixfRefIdeal.τ).loc Cert.MixfRefIdeal.main_arg0)
      ∧ r.2.mem ((c.tc : Thread Cert.MixfRefIdeal.nD Cert.MixfRefIdeal.τ).loc Cert.MixfRefIdeal.main_arg1) = m ((c.tc : Thread Cert.MixfRefIdeal.nD Cert.MixfRefIdeal.τ).loc Cert.MixfRefIdeal.main_arg1)
      ∧ r.2.mem ((c.tc : Thread Cert.MixfRefIdeal.nD Cert.MixfRefIdeal.τ).loc Cert.MixfRefIdeal.main_arg2) = m ((c.tc : Thread Cert.MixfRefIdeal.nD Cert.MixfRefIdeal.τ).loc Cert.MixfRefIdeal.main_arg2)
      ∧ r.2.mem ((c.tc : Thread Cert.MixfRefIdeal.nD Cert.MixfRefIdeal.τ).loc Cert.MixfRefIdeal.main_arg3) = m ((c.tc : Thread Cert.MixfRefIdeal.nD Cert.MixfRefIdeal.τ).loc Cert.MixfRefIdeal.main_arg3)
      ∧ r.2.mem ((c.tc : Thread Cert.MixfRefIdeal.nD Cert.MixfRefIdeal.τ).loc Cert.MixfRefIdeal.main_arg4) = m ((c.tc : Thread Cert.MixfRefIdeal.nD Cert.MixfRefIdeal.τ).loc Cert.MixfRefIdeal.main_arg4)
      ∧ r.2.mem ((c.tc : Thread Cert.MixfRefIdeal.nD Cert.MixfRefIdeal.τ).loc Cert.MixfRefIdeal.main_arg5) = m ((c.tc : Thread Cert.MixfRefIdeal.nD Cert.MixfRefIdeal.τ).loc Cert.MixfRefIdeal.main_arg5))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5))
      ∧ r.2.sem = fun _ => 0)

def quiescent_Ff1f [hFf1f : Cert.Ff1f.Facts] : Prop :=
  ∀ (m : (ℓ : Loc Cert.Ff1f.nD Cert.Ff1f.τ Cert.Ff1f.sig) → Buf (Elt Bits) ℓ) (g : Dev Cert.Ff1f.nD → PrngReg), Pre_Ff1f m →
    θ_run (Cert.Ff1f.defs (F := Bits)) (onTc (τ := Cert.Ff1f.τ) (Cert.Ff1f.main (F := Bits))) ⟨m, fun _ => 0, g⟩ (fun r => (∀ c : Dev Cert.Ff1f.nD,
      r.2.mem ((c.tc : Thread Cert.Ff1f.nD Cert.Ff1f.τ).loc Cert.Ff1f.main_arg0) = m ((c.tc : Thread Cert.Ff1f.nD Cert.Ff1f.τ).loc Cert.Ff1f.main_arg0)
      ∧ r.2.mem ((c.tc : Thread Cert.Ff1f.nD Cert.Ff1f.τ).loc Cert.Ff1f.main_arg1) = m ((c.tc : Thread Cert.Ff1f.nD Cert.Ff1f.τ).loc Cert.Ff1f.main_arg1)
      ∧ r.2.mem ((c.tc : Thread Cert.Ff1f.nD Cert.Ff1f.τ).loc Cert.Ff1f.main_arg2) = m ((c.tc : Thread Cert.Ff1f.nD Cert.Ff1f.τ).loc Cert.Ff1f.main_arg2))
      ∧ r.2.sem = fun _ => 0)

def quiescent_Ff1fIdeal [hFf1fIdeal : Cert.Ff1fIdeal.Facts] : Prop :=
  ∀ (m : (ℓ : Loc Cert.Ff1fIdeal.nD Cert.Ff1fIdeal.τ Cert.Ff1fIdeal.sig) → Buf (Elt Ideal) ℓ) (g : Dev Cert.Ff1fIdeal.nD → PrngReg), Pre_Ff1fIdeal m →
    θ_run (Cert.Ff1fIdeal.defs (F := Ideal)) (onTc (τ := Cert.Ff1fIdeal.τ) (Cert.Ff1fIdeal.main (F := Ideal))) ⟨m, fun _ => 0, g⟩ (fun r => (∀ c : Dev Cert.Ff1fIdeal.nD,
      r.2.mem ((c.tc : Thread Cert.Ff1fIdeal.nD Cert.Ff1fIdeal.τ).loc Cert.Ff1fIdeal.main_arg0) = m ((c.tc : Thread Cert.Ff1fIdeal.nD Cert.Ff1fIdeal.τ).loc Cert.Ff1fIdeal.main_arg0)
      ∧ r.2.mem ((c.tc : Thread Cert.Ff1fIdeal.nD Cert.Ff1fIdeal.τ).loc Cert.Ff1fIdeal.main_arg1) = m ((c.tc : Thread Cert.Ff1fIdeal.nD Cert.Ff1fIdeal.τ).loc Cert.Ff1fIdeal.main_arg1)
      ∧ r.2.mem ((c.tc : Thread Cert.Ff1fIdeal.nD Cert.Ff1fIdeal.τ).loc Cert.Ff1fIdeal.main_arg2) = m ((c.tc : Thread Cert.Ff1fIdeal.nD Cert.Ff1fIdeal.τ).loc Cert.Ff1fIdeal.main_arg2))
      ∧ r.2.sem = fun _ => 0)

def quiescent_Ff1fRefIdeal [hFf1fRefIdeal : Cert.Ff1fRefIdeal.Facts] : Prop :=
  ∀ (m : (ℓ : Loc Cert.Ff1fRefIdeal.nD Cert.Ff1fRefIdeal.τ Cert.Ff1fRefIdeal.sig) → Buf (Elt Ideal) ℓ) (g : Dev Cert.Ff1fRefIdeal.nD → PrngReg), Pre_Ff1fRefIdeal m →
    θ_run (Cert.Ff1fRefIdeal.defs (F := Ideal)) (onTc (τ := Cert.Ff1fRefIdeal.τ) (Cert.Ff1fRefIdeal.main (F := Ideal))) ⟨m, fun _ => 0, g⟩ (fun r => (∀ c : Dev Cert.Ff1fRefIdeal.nD,
      r.2.mem ((c.tc : Thread Cert.Ff1fRefIdeal.nD Cert.Ff1fRefIdeal.τ).loc Cert.Ff1fRefIdeal.main_arg0) = m ((c.tc : Thread Cert.Ff1fRefIdeal.nD Cert.Ff1fRefIdeal.τ).loc Cert.Ff1fRefIdeal.main_arg0)
      ∧ r.2.mem ((c.tc : Thread Cert.Ff1fRefIdeal.nD Cert.Ff1fRefIdeal.τ).loc Cert.Ff1fRefIdeal.main_arg1) = m ((c.tc : Thread Cert.Ff1fRefIdeal.nD Cert.Ff1fRefIdeal.τ).loc Cert.Ff1fRefIdeal.main_arg1)
      ∧ r.2.mem ((c.tc : Thread Cert.Ff1fRefIdeal.nD Cert.Ff1fRefIdeal.τ).loc Cert.Ff1fRefIdeal.main_arg2) = m ((c.tc : Thread Cert.Ff1fRefIdeal.nD Cert.Ff1fRefIdeal.τ).loc Cert.Ff1fRefIdeal.main_arg2))
      ∧ r.2.sem = fun _ => 0)

def quiescent_Ff2f [hFf2f : Cert.Ff2f.Facts] : Prop :=
  ∀ (m : (ℓ : Loc Cert.Ff2f.nD Cert.Ff2f.τ Cert.Ff2f.sig) → Buf (Elt Bits) ℓ) (g : Dev Cert.Ff2f.nD → PrngReg), Pre_Ff2f m →
    θ_run (Cert.Ff2f.defs (F := Bits)) (onTc (τ := Cert.Ff2f.τ) (Cert.Ff2f.main (F := Bits))) ⟨m, fun _ => 0, g⟩ (fun r => (∀ c : Dev Cert.Ff2f.nD,
      r.2.mem ((c.tc : Thread Cert.Ff2f.nD Cert.Ff2f.τ).loc Cert.Ff2f.main_arg0) = m ((c.tc : Thread Cert.Ff2f.nD Cert.Ff2f.τ).loc Cert.Ff2f.main_arg0)
      ∧ r.2.mem ((c.tc : Thread Cert.Ff2f.nD Cert.Ff2f.τ).loc Cert.Ff2f.main_arg1) = m ((c.tc : Thread Cert.Ff2f.nD Cert.Ff2f.τ).loc Cert.Ff2f.main_arg1)
      ∧ r.2.mem ((c.tc : Thread Cert.Ff2f.nD Cert.Ff2f.τ).loc Cert.Ff2f.main_arg2) = m ((c.tc : Thread Cert.Ff2f.nD Cert.Ff2f.τ).loc Cert.Ff2f.main_arg2)
      ∧ r.2.mem ((c.tc : Thread Cert.Ff2f.nD Cert.Ff2f.τ).loc Cert.Ff2f.main_arg3) = m ((c.tc : Thread Cert.Ff2f.nD Cert.Ff2f.τ).loc Cert.Ff2f.main_arg3)
      ∧ r.2.mem ((c.tc : Thread Cert.Ff2f.nD Cert.Ff2f.τ).loc Cert.Ff2f.main_arg4) = m ((c.tc : Thread Cert.Ff2f.nD Cert.Ff2f.τ).loc Cert.Ff2f.main_arg4)
      ∧ r.2.mem ((c.tc : Thread Cert.Ff2f.nD Cert.Ff2f.τ).loc Cert.Ff2f.main_arg5) = m ((c.tc : Thread Cert.Ff2f.nD Cert.Ff2f.τ).loc Cert.Ff2f.main_arg5))
      ∧ r.2.sem = fun _ => 0)

def quiescent_Ff2fIdeal [hFf2fIdeal : Cert.Ff2fIdeal.Facts] : Prop :=
  ∀ (m : (ℓ : Loc Cert.Ff2fIdeal.nD Cert.Ff2fIdeal.τ Cert.Ff2fIdeal.sig) → Buf (Elt Ideal) ℓ) (g : Dev Cert.Ff2fIdeal.nD → PrngReg), Pre_Ff2fIdeal m →
    θ_run (Cert.Ff2fIdeal.defs (F := Ideal)) (onTc (τ := Cert.Ff2fIdeal.τ) (Cert.Ff2fIdeal.main (F := Ideal))) ⟨m, fun _ => 0, g⟩ (fun r => (∀ c : Dev Cert.Ff2fIdeal.nD,
      r.2.mem ((c.tc : Thread Cert.Ff2fIdeal.nD Cert.Ff2fIdeal.τ).loc Cert.Ff2fIdeal.main_arg0) = m ((c.tc : Thread Cert.Ff2fIdeal.nD Cert.Ff2fIdeal.τ).loc Cert.Ff2fIdeal.main_arg0)
      ∧ r.2.mem ((c.tc : Thread Cert.Ff2fIdeal.nD Cert.Ff2fIdeal.τ).loc Cert.Ff2fIdeal.main_arg1) = m ((c.tc : Thread Cert.Ff2fIdeal.nD Cert.Ff2fIdeal.τ).loc Cert.Ff2fIdeal.main_arg1)
      ∧ r.2.mem ((c.tc : Thread Cert.Ff2fIdeal.nD Cert.Ff2fIdeal.τ).loc Cert.Ff2fIdeal.main_arg2) = m ((c.tc : Thread Cert.Ff2fIdeal.nD Cert.Ff2fIdeal.τ).loc Cert.Ff2fIdeal.main_arg2)
      ∧ r.2.mem ((c.tc : Thread Cert.Ff2fIdeal.nD Cert.Ff2fIdeal.τ).loc Cert.Ff2fIdeal.main_arg3) = m ((c.tc : Thread Cert.Ff2fIdeal.nD Cert.Ff2fIdeal.τ).loc Cert.Ff2fIdeal.main_arg3)
      ∧ r.2.mem ((c.tc : Thread Cert.Ff2fIdeal.nD Cert.Ff2fIdeal.τ).loc Cert.Ff2fIdeal.main_arg4) = m ((c.tc : Thread Cert.Ff2fIdeal.nD Cert.Ff2fIdeal.τ).loc Cert.Ff2fIdeal.main_arg4)
      ∧ r.2.mem ((c.tc : Thread Cert.Ff2fIdeal.nD Cert.Ff2fIdeal.τ).loc Cert.Ff2fIdeal.main_arg5) = m ((c.tc : Thread Cert.Ff2fIdeal.nD Cert.Ff2fIdeal.τ).loc Cert.Ff2fIdeal.main_arg5))
      ∧ r.2.sem = fun _ => 0)

def quiescent_Ff2fRefIdeal [hFf2fRefIdeal : Cert.Ff2fRefIdeal.Facts] : Prop :=
  ∀ (m : (ℓ : Loc Cert.Ff2fRefIdeal.nD Cert.Ff2fRefIdeal.τ Cert.Ff2fRefIdeal.sig) → Buf (Elt Ideal) ℓ) (g : Dev Cert.Ff2fRefIdeal.nD → PrngReg), Pre_Ff2fRefIdeal m →
    θ_run (Cert.Ff2fRefIdeal.defs (F := Ideal)) (onTc (τ := Cert.Ff2fRefIdeal.τ) (Cert.Ff2fRefIdeal.main (F := Ideal))) ⟨m, fun _ => 0, g⟩ (fun r => (∀ c : Dev Cert.Ff2fRefIdeal.nD,
      r.2.mem ((c.tc : Thread Cert.Ff2fRefIdeal.nD Cert.Ff2fRefIdeal.τ).loc Cert.Ff2fRefIdeal.main_arg0) = m ((c.tc : Thread Cert.Ff2fRefIdeal.nD Cert.Ff2fRefIdeal.τ).loc Cert.Ff2fRefIdeal.main_arg0)
      ∧ r.2.mem ((c.tc : Thread Cert.Ff2fRefIdeal.nD Cert.Ff2fRefIdeal.τ).loc Cert.Ff2fRefIdeal.main_arg1) = m ((c.tc : Thread Cert.Ff2fRefIdeal.nD Cert.Ff2fRefIdeal.τ).loc Cert.Ff2fRefIdeal.main_arg1)
      ∧ r.2.mem ((c.tc : Thread Cert.Ff2fRefIdeal.nD Cert.Ff2fRefIdeal.τ).loc Cert.Ff2fRefIdeal.main_arg2) = m ((c.tc : Thread Cert.Ff2fRefIdeal.nD Cert.Ff2fRefIdeal.τ).loc Cert.Ff2fRefIdeal.main_arg2)
      ∧ r.2.mem ((c.tc : Thread Cert.Ff2fRefIdeal.nD Cert.Ff2fRefIdeal.τ).loc Cert.Ff2fRefIdeal.main_arg3) = m ((c.tc : Thread Cert.Ff2fRefIdeal.nD Cert.Ff2fRefIdeal.τ).loc Cert.Ff2fRefIdeal.main_arg3)
      ∧ r.2.mem ((c.tc : Thread Cert.Ff2fRefIdeal.nD Cert.Ff2fRefIdeal.τ).loc Cert.Ff2fRefIdeal.main_arg4) = m ((c.tc : Thread Cert.Ff2fRefIdeal.nD Cert.Ff2fRefIdeal.τ).loc Cert.Ff2fRefIdeal.main_arg4)
      ∧ r.2.mem ((c.tc : Thread Cert.Ff2fRefIdeal.nD Cert.Ff2fRefIdeal.τ).loc Cert.Ff2fRefIdeal.main_arg5) = m ((c.tc : Thread Cert.Ff2fRefIdeal.nD Cert.Ff2fRefIdeal.τ).loc Cert.Ff2fRefIdeal.main_arg5))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_LossRefIdeal_pre_finite_loss [hLossRefIdeal : Cert.LossRefIdeal.Facts] [hPre_finite_loss : Cert.Pre_finite_loss.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_finite_loss m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3))
      ∧ r.2.sem = fun _ => 0)

def quiescent_Inb [hInb : Cert.Inb.Facts] : Prop :=
  ∀ (m : (ℓ : Loc Cert.Inb.nD Cert.Inb.τ Cert.Inb.sig) → Buf (Elt Bits) ℓ) (g : Dev Cert.Inb.nD → PrngReg), Pre_Inb m →
    θ_run (Cert.Inb.defs (F := Bits)) (onTc (τ := Cert.Inb.τ) (Cert.Inb.main (F := Bits))) ⟨m, fun _ => 0, g⟩ (fun r => (∀ c : Dev Cert.Inb.nD,
      r.2.mem ((c.tc : Thread Cert.Inb.nD Cert.Inb.τ).loc Cert.Inb.main_arg0) = m ((c.tc : Thread Cert.Inb.nD Cert.Inb.τ).loc Cert.Inb.main_arg0)
      ∧ r.2.mem ((c.tc : Thread Cert.Inb.nD Cert.Inb.τ).loc Cert.Inb.main_arg1) = m ((c.tc : Thread Cert.Inb.nD Cert.Inb.τ).loc Cert.Inb.main_arg1)
      ∧ r.2.mem ((c.tc : Thread Cert.Inb.nD Cert.Inb.τ).loc Cert.Inb.main_arg2) = m ((c.tc : Thread Cert.Inb.nD Cert.Inb.τ).loc Cert.Inb.main_arg2)
      ∧ r.2.mem ((c.tc : Thread Cert.Inb.nD Cert.Inb.τ).loc Cert.Inb.main_arg3) = m ((c.tc : Thread Cert.Inb.nD Cert.Inb.τ).loc Cert.Inb.main_arg3)
      ∧ r.2.mem ((c.tc : Thread Cert.Inb.nD Cert.Inb.τ).loc Cert.Inb.main_arg4) = m ((c.tc : Thread Cert.Inb.nD Cert.Inb.τ).loc Cert.Inb.main_arg4)
      ∧ r.2.mem ((c.tc : Thread Cert.Inb.nD Cert.Inb.τ).loc Cert.Inb.main_arg5) = m ((c.tc : Thread Cert.Inb.nD Cert.Inb.τ).loc Cert.Inb.main_arg5)
      ∧ r.2.mem ((c.tc : Thread Cert.Inb.nD Cert.Inb.τ).loc Cert.Inb.main_arg6) = m ((c.tc : Thread Cert.Inb.nD Cert.Inb.τ).loc Cert.Inb.main_arg6)
      ∧ r.2.mem ((c.tc : Thread Cert.Inb.nD Cert.Inb.τ).loc Cert.Inb.main_arg7) = m ((c.tc : Thread Cert.Inb.nD Cert.Inb.τ).loc Cert.Inb.main_arg7)
      ∧ r.2.mem ((c.tc : Thread Cert.Inb.nD Cert.Inb.τ).loc Cert.Inb.main_arg8) = m ((c.tc : Thread Cert.Inb.nD Cert.Inb.τ).loc Cert.Inb.main_arg8))
      ∧ r.2.sem = fun _ => 0)

def quiescent_InbIdeal [hInbIdeal : Cert.InbIdeal.Facts] : Prop :=
  ∀ (m : (ℓ : Loc Cert.InbIdeal.nD Cert.InbIdeal.τ Cert.InbIdeal.sig) → Buf (Elt Ideal) ℓ) (g : Dev Cert.InbIdeal.nD → PrngReg), Pre_InbIdeal m →
    θ_run (Cert.InbIdeal.defs (F := Ideal)) (onTc (τ := Cert.InbIdeal.τ) (Cert.InbIdeal.main (F := Ideal))) ⟨m, fun _ => 0, g⟩ (fun r => (∀ c : Dev Cert.InbIdeal.nD,
      r.2.mem ((c.tc : Thread Cert.InbIdeal.nD Cert.InbIdeal.τ).loc Cert.InbIdeal.main_arg0) = m ((c.tc : Thread Cert.InbIdeal.nD Cert.InbIdeal.τ).loc Cert.InbIdeal.main_arg0)
      ∧ r.2.mem ((c.tc : Thread Cert.InbIdeal.nD Cert.InbIdeal.τ).loc Cert.InbIdeal.main_arg1) = m ((c.tc : Thread Cert.InbIdeal.nD Cert.InbIdeal.τ).loc Cert.InbIdeal.main_arg1)
      ∧ r.2.mem ((c.tc : Thread Cert.InbIdeal.nD Cert.InbIdeal.τ).loc Cert.InbIdeal.main_arg2) = m ((c.tc : Thread Cert.InbIdeal.nD Cert.InbIdeal.τ).loc Cert.InbIdeal.main_arg2)
      ∧ r.2.mem ((c.tc : Thread Cert.InbIdeal.nD Cert.InbIdeal.τ).loc Cert.InbIdeal.main_arg3) = m ((c.tc : Thread Cert.InbIdeal.nD Cert.InbIdeal.τ).loc Cert.InbIdeal.main_arg3)
      ∧ r.2.mem ((c.tc : Thread Cert.InbIdeal.nD Cert.InbIdeal.τ).loc Cert.InbIdeal.main_arg4) = m ((c.tc : Thread Cert.InbIdeal.nD Cert.InbIdeal.τ).loc Cert.InbIdeal.main_arg4)
      ∧ r.2.mem ((c.tc : Thread Cert.InbIdeal.nD Cert.InbIdeal.τ).loc Cert.InbIdeal.main_arg5) = m ((c.tc : Thread Cert.InbIdeal.nD Cert.InbIdeal.τ).loc Cert.InbIdeal.main_arg5)
      ∧ r.2.mem ((c.tc : Thread Cert.InbIdeal.nD Cert.InbIdeal.τ).loc Cert.InbIdeal.main_arg6) = m ((c.tc : Thread Cert.InbIdeal.nD Cert.InbIdeal.τ).loc Cert.InbIdeal.main_arg6)
      ∧ r.2.mem ((c.tc : Thread Cert.InbIdeal.nD Cert.InbIdeal.τ).loc Cert.InbIdeal.main_arg7) = m ((c.tc : Thread Cert.InbIdeal.nD Cert.InbIdeal.τ).loc Cert.InbIdeal.main_arg7)
      ∧ r.2.mem ((c.tc : Thread Cert.InbIdeal.nD Cert.InbIdeal.τ).loc Cert.InbIdeal.main_arg8) = m ((c.tc : Thread Cert.InbIdeal.nD Cert.InbIdeal.τ).loc Cert.InbIdeal.main_arg8))
      ∧ r.2.sem = fun _ => 0)

def quiescent_InbIdeal_pre_finite_inb [hInbIdeal : Cert.InbIdeal.Facts] [hPre_finite_inb : Cert.Pre_finite_inb.Facts] : Prop :=
  ∀ (m : (ℓ : Loc Cert.InbIdeal.nD Cert.InbIdeal.τ Cert.InbIdeal.sig) → Buf (Elt Ideal) ℓ) (g : Dev Cert.InbIdeal.nD → PrngReg), Pre_InbIdeal_finite_inb m →
    θ_run (Cert.InbIdeal.defs (F := Ideal)) (onTc (τ := Cert.InbIdeal.τ) (Cert.InbIdeal.main (F := Ideal))) ⟨m, fun _ => 0, g⟩ (fun r => (∀ c : Dev Cert.InbIdeal.nD,
      r.2.mem ((c.tc : Thread Cert.InbIdeal.nD Cert.InbIdeal.τ).loc Cert.InbIdeal.main_arg0) = m ((c.tc : Thread Cert.InbIdeal.nD Cert.InbIdeal.τ).loc Cert.InbIdeal.main_arg0)
      ∧ r.2.mem ((c.tc : Thread Cert.InbIdeal.nD Cert.InbIdeal.τ).loc Cert.InbIdeal.main_arg1) = m ((c.tc : Thread Cert.InbIdeal.nD Cert.InbIdeal.τ).loc Cert.InbIdeal.main_arg1)
      ∧ r.2.mem ((c.tc : Thread Cert.InbIdeal.nD Cert.InbIdeal.τ).loc Cert.InbIdeal.main_arg2) = m ((c.tc : Thread Cert.InbIdeal.nD Cert.InbIdeal.τ).loc Cert.InbIdeal.main_arg2)
      ∧ r.2.mem ((c.tc : Thread Cert.InbIdeal.nD Cert.InbIdeal.τ).loc Cert.InbIdeal.main_arg3) = m ((c.tc : Thread Cert.InbIdeal.nD Cert.InbIdeal.τ).loc Cert.InbIdeal.main_arg3)
      ∧ r.2.mem ((c.tc : Thread Cert.InbIdeal.nD Cert.InbIdeal.τ).loc Cert.InbIdeal.main_arg4) = m ((c.tc : Thread Cert.InbIdeal.nD Cert.InbIdeal.τ).loc Cert.InbIdeal.main_arg4)
      ∧ r.2.mem ((c.tc : Thread Cert.InbIdeal.nD Cert.InbIdeal.τ).loc Cert.InbIdeal.main_arg5) = m ((c.tc : Thread Cert.InbIdeal.nD Cert.InbIdeal.τ).loc Cert.InbIdeal.main_arg5)
      ∧ r.2.mem ((c.tc : Thread Cert.InbIdeal.nD Cert.InbIdeal.τ).loc Cert.InbIdeal.main_arg6) = m ((c.tc : Thread Cert.InbIdeal.nD Cert.InbIdeal.τ).loc Cert.InbIdeal.main_arg6)
      ∧ r.2.mem ((c.tc : Thread Cert.InbIdeal.nD Cert.InbIdeal.τ).loc Cert.InbIdeal.main_arg7) = m ((c.tc : Thread Cert.InbIdeal.nD Cert.InbIdeal.τ).loc Cert.InbIdeal.main_arg7)
      ∧ r.2.mem ((c.tc : Thread Cert.InbIdeal.nD Cert.InbIdeal.τ).loc Cert.InbIdeal.main_arg8) = m ((c.tc : Thread Cert.InbIdeal.nD Cert.InbIdeal.τ).loc Cert.InbIdeal.main_arg8))
      ∧ r.2.sem = fun _ => 0)

def quiescent_InbRefIdeal [hInbRefIdeal : Cert.InbRefIdeal.Facts] : Prop :=
  ∀ (m : (ℓ : Loc Cert.InbRefIdeal.nD Cert.InbRefIdeal.τ Cert.InbRefIdeal.sig) → Buf (Elt Ideal) ℓ) (g : Dev Cert.InbRefIdeal.nD → PrngReg), Pre_InbRefIdeal m →
    θ_run (Cert.InbRefIdeal.defs (F := Ideal)) (onTc (τ := Cert.InbRefIdeal.τ) (Cert.InbRefIdeal.main (F := Ideal))) ⟨m, fun _ => 0, g⟩ (fun r => (∀ c : Dev Cert.InbRefIdeal.nD,
      r.2.mem ((c.tc : Thread Cert.InbRefIdeal.nD Cert.InbRefIdeal.τ).loc Cert.InbRefIdeal.main_arg0) = m ((c.tc : Thread Cert.InbRefIdeal.nD Cert.InbRefIdeal.τ).loc Cert.InbRefIdeal.main_arg0)
      ∧ r.2.mem ((c.tc : Thread Cert.InbRefIdeal.nD Cert.InbRefIdeal.τ).loc Cert.InbRefIdeal.main_arg1) = m ((c.tc : Thread Cert.InbRefIdeal.nD Cert.InbRefIdeal.τ).loc Cert.InbRefIdeal.main_arg1)
      ∧ r.2.mem ((c.tc : Thread Cert.InbRefIdeal.nD Cert.InbRefIdeal.τ).loc Cert.InbRefIdeal.main_arg2) = m ((c.tc : Thread Cert.InbRefIdeal.nD Cert.InbRefIdeal.τ).loc Cert.InbRefIdeal.main_arg2)
      ∧ r.2.mem ((c.tc : Thread Cert.InbRefIdeal.nD Cert.InbRefIdeal.τ).loc Cert.InbRefIdeal.main_arg3) = m ((c.tc : Thread Cert.InbRefIdeal.nD Cert.InbRefIdeal.τ).loc Cert.InbRefIdeal.main_arg3)
      ∧ r.2.mem ((c.tc : Thread Cert.InbRefIdeal.nD Cert.InbRefIdeal.τ).loc Cert.InbRefIdeal.main_arg4) = m ((c.tc : Thread Cert.InbRefIdeal.nD Cert.InbRefIdeal.τ).loc Cert.InbRefIdeal.main_arg4)
      ∧ r.2.mem ((c.tc : Thread Cert.InbRefIdeal.nD Cert.InbRefIdeal.τ).loc Cert.InbRefIdeal.main_arg5) = m ((c.tc : Thread Cert.InbRefIdeal.nD Cert.InbRefIdeal.τ).loc Cert.InbRefIdeal.main_arg5)
      ∧ r.2.mem ((c.tc : Thread Cert.InbRefIdeal.nD Cert.InbRefIdeal.τ).loc Cert.InbRefIdeal.main_arg6) = m ((c.tc : Thread Cert.InbRefIdeal.nD Cert.InbRefIdeal.τ).loc Cert.InbRefIdeal.main_arg6)
      ∧ r.2.mem ((c.tc : Thread Cert.InbRefIdeal.nD Cert.InbRefIdeal.τ).loc Cert.InbRefIdeal.main_arg7) = m ((c.tc : Thread Cert.InbRefIdeal.nD Cert.InbRefIdeal.τ).loc Cert.InbRefIdeal.main_arg7)
      ∧ r.2.mem ((c.tc : Thread Cert.InbRefIdeal.nD Cert.InbRefIdeal.τ).loc Cert.InbRefIdeal.main_arg8) = m ((c.tc : Thread Cert.InbRefIdeal.nD Cert.InbRefIdeal.τ).loc Cert.InbRefIdeal.main_arg8))
      ∧ r.2.sem = fun _ => 0)

def quiescent_InbRefIdeal_pre_finite_inb [hInbRefIdeal : Cert.InbRefIdeal.Facts] [hPre_finite_inb : Cert.Pre_finite_inb.Facts] : Prop :=
  ∀ (m : (ℓ : Loc Cert.InbRefIdeal.nD Cert.InbRefIdeal.τ Cert.InbRefIdeal.sig) → Buf (Elt Ideal) ℓ) (g : Dev Cert.InbRefIdeal.nD → PrngReg), Pre_InbRefIdeal_finite_inb m →
    θ_run (Cert.InbRefIdeal.defs (F := Ideal)) (onTc (τ := Cert.InbRefIdeal.τ) (Cert.InbRefIdeal.main (F := Ideal))) ⟨m, fun _ => 0, g⟩ (fun r => (∀ c : Dev Cert.InbRefIdeal.nD,
      r.2.mem ((c.tc : Thread Cert.InbRefIdeal.nD Cert.InbRefIdeal.τ).loc Cert.InbRefIdeal.main_arg0) = m ((c.tc : Thread Cert.InbRefIdeal.nD Cert.InbRefIdeal.τ).loc Cert.InbRefIdeal.main_arg0)
      ∧ r.2.mem ((c.tc : Thread Cert.InbRefIdeal.nD Cert.InbRefIdeal.τ).loc Cert.InbRefIdeal.main_arg1) = m ((c.tc : Thread Cert.InbRefIdeal.nD Cert.InbRefIdeal.τ).loc Cert.InbRefIdeal.main_arg1)
      ∧ r.2.mem ((c.tc : Thread Cert.InbRefIdeal.nD Cert.InbRefIdeal.τ).loc Cert.InbRefIdeal.main_arg2) = m ((c.tc : Thread Cert.InbRefIdeal.nD Cert.InbRefIdeal.τ).loc Cert.InbRefIdeal.main_arg2)
      ∧ r.2.mem ((c.tc : Thread Cert.InbRefIdeal.nD Cert.InbRefIdeal.τ).loc Cert.InbRefIdeal.main_arg3) = m ((c.tc : Thread Cert.InbRefIdeal.nD Cert.InbRefIdeal.τ).loc Cert.InbRefIdeal.main_arg3)
      ∧ r.2.mem ((c.tc : Thread Cert.InbRefIdeal.nD Cert.InbRefIdeal.τ).loc Cert.InbRefIdeal.main_arg4) = m ((c.tc : Thread Cert.InbRefIdeal.nD Cert.InbRefIdeal.τ).loc Cert.InbRefIdeal.main_arg4)
      ∧ r.2.mem ((c.tc : Thread Cert.InbRefIdeal.nD Cert.InbRefIdeal.τ).loc Cert.InbRefIdeal.main_arg5) = m ((c.tc : Thread Cert.InbRefIdeal.nD Cert.InbRefIdeal.τ).loc Cert.InbRefIdeal.main_arg5)
      ∧ r.2.mem ((c.tc : Thread Cert.InbRefIdeal.nD Cert.InbRefIdeal.τ).loc Cert.InbRefIdeal.main_arg6) = m ((c.tc : Thread Cert.InbRefIdeal.nD Cert.InbRefIdeal.τ).loc Cert.InbRefIdeal.main_arg6)
      ∧ r.2.mem ((c.tc : Thread Cert.InbRefIdeal.nD Cert.InbRefIdeal.τ).loc Cert.InbRefIdeal.main_arg7) = m ((c.tc : Thread Cert.InbRefIdeal.nD Cert.InbRefIdeal.τ).loc Cert.InbRefIdeal.main_arg7)
      ∧ r.2.mem ((c.tc : Thread Cert.InbRefIdeal.nD Cert.InbRefIdeal.τ).loc Cert.InbRefIdeal.main_arg8) = m ((c.tc : Thread Cert.InbRefIdeal.nD Cert.InbRefIdeal.τ).loc Cert.InbRefIdeal.main_arg8))
      ∧ r.2.sem = fun _ => 0)

def quiescent_Inb0 [hInb0 : Cert.Inb0.Facts] : Prop :=
  ∀ (m : (ℓ : Loc Cert.Inb0.nD Cert.Inb0.τ Cert.Inb0.sig) → Buf (Elt Bits) ℓ) (g : Dev Cert.Inb0.nD → PrngReg), Pre_Inb0 m →
    θ_run (Cert.Inb0.defs (F := Bits)) (onTc (τ := Cert.Inb0.τ) (Cert.Inb0.main (F := Bits))) ⟨m, fun _ => 0, g⟩ (fun r => (∀ c : Dev Cert.Inb0.nD,
      r.2.mem ((c.tc : Thread Cert.Inb0.nD Cert.Inb0.τ).loc Cert.Inb0.main_arg0) = m ((c.tc : Thread Cert.Inb0.nD Cert.Inb0.τ).loc Cert.Inb0.main_arg0)
      ∧ r.2.mem ((c.tc : Thread Cert.Inb0.nD Cert.Inb0.τ).loc Cert.Inb0.main_arg1) = m ((c.tc : Thread Cert.Inb0.nD Cert.Inb0.τ).loc Cert.Inb0.main_arg1)
      ∧ r.2.mem ((c.tc : Thread Cert.Inb0.nD Cert.Inb0.τ).loc Cert.Inb0.main_arg2) = m ((c.tc : Thread Cert.Inb0.nD Cert.Inb0.τ).loc Cert.Inb0.main_arg2)
      ∧ r.2.mem ((c.tc : Thread Cert.Inb0.nD Cert.Inb0.τ).loc Cert.Inb0.main_arg3) = m ((c.tc : Thread Cert.Inb0.nD Cert.Inb0.τ).loc Cert.Inb0.main_arg3)
      ∧ r.2.mem ((c.tc : Thread Cert.Inb0.nD Cert.Inb0.τ).loc Cert.Inb0.main_arg4) = m ((c.tc : Thread Cert.Inb0.nD Cert.Inb0.τ).loc Cert.Inb0.main_arg4)
      ∧ r.2.mem ((c.tc : Thread Cert.Inb0.nD Cert.Inb0.τ).loc Cert.Inb0.main_arg5) = m ((c.tc : Thread Cert.Inb0.nD Cert.Inb0.τ).loc Cert.Inb0.main_arg5)
      ∧ r.2.mem ((c.tc : Thread Cert.Inb0.nD Cert.Inb0.τ).loc Cert.Inb0.main_arg6) = m ((c.tc : Thread Cert.Inb0.nD Cert.Inb0.τ).loc Cert.Inb0.main_arg6))
      ∧ r.2.sem = fun _ => 0)

def quiescent_Inb0Ideal [hInb0Ideal : Cert.Inb0Ideal.Facts] : Prop :=
  ∀ (m : (ℓ : Loc Cert.Inb0Ideal.nD Cert.Inb0Ideal.τ Cert.Inb0Ideal.sig) → Buf (Elt Ideal) ℓ) (g : Dev Cert.Inb0Ideal.nD → PrngReg), Pre_Inb0Ideal m →
    θ_run (Cert.Inb0Ideal.defs (F := Ideal)) (onTc (τ := Cert.Inb0Ideal.τ) (Cert.Inb0Ideal.main (F := Ideal))) ⟨m, fun _ => 0, g⟩ (fun r => (∀ c : Dev Cert.Inb0Ideal.nD,
      r.2.mem ((c.tc : Thread Cert.Inb0Ideal.nD Cert.Inb0Ideal.τ).loc Cert.Inb0Ideal.main_arg0) = m ((c.tc : Thread Cert.Inb0Ideal.nD Cert.Inb0Ideal.τ).loc Cert.Inb0Ideal.main_arg0)
      ∧ r.2.mem ((c.tc : Thread Cert.Inb0Ideal.nD Cert.Inb0Ideal.τ).loc Cert.Inb0Ideal.main_arg1) = m ((c.tc : Thread Cert.Inb0Ideal.nD Cert.Inb0Ideal.τ).loc Cert.Inb0Ideal.main_arg1)
      ∧ r.2.mem ((c.tc : Thread Cert.Inb0Ideal.nD Cert.Inb0Ideal.τ).loc Cert.Inb0Ideal.main_arg2) = m ((c.tc : Thread Cert.Inb0Ideal.nD Cert.Inb0Ideal.τ).loc Cert.Inb0Ideal.main_arg2)
      ∧ r.2.mem ((c.tc : Thread Cert.Inb0Ideal.nD Cert.Inb0Ideal.τ).loc Cert.Inb0Ideal.main_arg3) = m ((c.tc : Thread Cert.Inb0Ideal.nD Cert.Inb0Ideal.τ).loc Cert.Inb0Ideal.main_arg3)
      ∧ r.2.mem ((c.tc : Thread Cert.Inb0Ideal.nD Cert.Inb0Ideal.τ).loc Cert.Inb0Ideal.main_arg4) = m ((c.tc : Thread Cert.Inb0Ideal.nD Cert.Inb0Ideal.τ).loc Cert.Inb0Ideal.main_arg4)
      ∧ r.2.mem ((c.tc : Thread Cert.Inb0Ideal.nD Cert.Inb0Ideal.τ).loc Cert.Inb0Ideal.main_arg5) = m ((c.tc : Thread Cert.Inb0Ideal.nD Cert.Inb0Ideal.τ).loc Cert.Inb0Ideal.main_arg5)
      ∧ r.2.mem ((c.tc : Thread Cert.Inb0Ideal.nD Cert.Inb0Ideal.τ).loc Cert.Inb0Ideal.main_arg6) = m ((c.tc : Thread Cert.Inb0Ideal.nD Cert.Inb0Ideal.τ).loc Cert.Inb0Ideal.main_arg6))
      ∧ r.2.sem = fun _ => 0)

def quiescent_Inb0RefIdeal [hInb0RefIdeal : Cert.Inb0RefIdeal.Facts] : Prop :=
  ∀ (m : (ℓ : Loc Cert.Inb0RefIdeal.nD Cert.Inb0RefIdeal.τ Cert.Inb0RefIdeal.sig) → Buf (Elt Ideal) ℓ) (g : Dev Cert.Inb0RefIdeal.nD → PrngReg), Pre_Inb0RefIdeal m →
    θ_run (Cert.Inb0RefIdeal.defs (F := Ideal)) (onTc (τ := Cert.Inb0RefIdeal.τ) (Cert.Inb0RefIdeal.main (F := Ideal))) ⟨m, fun _ => 0, g⟩ (fun r => (∀ c : Dev Cert.Inb0RefIdeal.nD,
      r.2.mem ((c.tc : Thread Cert.Inb0RefIdeal.nD Cert.Inb0RefIdeal.τ).loc Cert.Inb0RefIdeal.main_arg0) = m ((c.tc : Thread Cert.Inb0RefIdeal.nD Cert.Inb0RefIdeal.τ).loc Cert.Inb0RefIdeal.main_arg0)
      ∧ r.2.mem ((c.tc : Thread Cert.Inb0RefIdeal.nD Cert.Inb0RefIdeal.τ).loc Cert.Inb0RefIdeal.main_arg1) = m ((c.tc : Thread Cert.Inb0RefIdeal.nD Cert.Inb0RefIdeal.τ).loc Cert.Inb0RefIdeal.main_arg1)
      ∧ r.2.mem ((c.tc : Thread Cert.Inb0RefIdeal.nD Cert.Inb0RefIdeal.τ).loc Cert.Inb0RefIdeal.main_arg2) = m ((c.tc : Thread Cert.Inb0RefIdeal.nD Cert.Inb0RefIdeal.τ).loc Cert.Inb0RefIdeal.main_arg2)
      ∧ r.2.mem ((c.tc : Thread Cert.Inb0RefIdeal.nD Cert.Inb0RefIdeal.τ).loc Cert.Inb0RefIdeal.main_arg3) = m ((c.tc : Thread Cert.Inb0RefIdeal.nD Cert.Inb0RefIdeal.τ).loc Cert.Inb0RefIdeal.main_arg3)
      ∧ r.2.mem ((c.tc : Thread Cert.Inb0RefIdeal.nD Cert.Inb0RefIdeal.τ).loc Cert.Inb0RefIdeal.main_arg4) = m ((c.tc : Thread Cert.Inb0RefIdeal.nD Cert.Inb0RefIdeal.τ).loc Cert.Inb0RefIdeal.main_arg4)
      ∧ r.2.mem ((c.tc : Thread Cert.Inb0RefIdeal.nD Cert.Inb0RefIdeal.τ).loc Cert.Inb0RefIdeal.main_arg5) = m ((c.tc : Thread Cert.Inb0RefIdeal.nD Cert.Inb0RefIdeal.τ).loc Cert.Inb0RefIdeal.main_arg5)
      ∧ r.2.mem ((c.tc : Thread Cert.Inb0RefIdeal.nD Cert.Inb0RefIdeal.τ).loc Cert.Inb0RefIdeal.main_arg6) = m ((c.tc : Thread Cert.Inb0RefIdeal.nD Cert.Inb0RefIdeal.τ).loc Cert.Inb0RefIdeal.main_arg6))
      ∧ r.2.sem = fun _ => 0)

def quiescent_Wout [hWout : Cert.Wout.Facts] : Prop :=
  ∀ (m : (ℓ : Loc Cert.Wout.nD Cert.Wout.τ Cert.Wout.sig) → Buf (Elt Bits) ℓ) (g : Dev Cert.Wout.nD → PrngReg), Pre_Wout m →
    θ_run (Cert.Wout.defs (F := Bits)) (onTc (τ := Cert.Wout.τ) (Cert.Wout.main (F := Bits))) ⟨m, fun _ => 0, g⟩ (fun r => (∀ c : Dev Cert.Wout.nD,
      r.2.mem ((c.tc : Thread Cert.Wout.nD Cert.Wout.τ).loc Cert.Wout.main_arg0) = m ((c.tc : Thread Cert.Wout.nD Cert.Wout.τ).loc Cert.Wout.main_arg0)
      ∧ r.2.mem ((c.tc : Thread Cert.Wout.nD Cert.Wout.τ).loc Cert.Wout.main_arg1) = m ((c.tc : Thread Cert.Wout.nD Cert.Wout.τ).loc Cert.Wout.main_arg1)
      ∧ r.2.mem ((c.tc : Thread Cert.Wout.nD Cert.Wout.τ).loc Cert.Wout.main_arg2) = m ((c.tc : Thread Cert.Wout.nD Cert.Wout.τ).loc Cert.Wout.main_arg2))
      ∧ r.2.sem = fun _ => 0)

def quiescent_WoutIdeal [hWoutIdeal : Cert.WoutIdeal.Facts] : Prop :=
  ∀ (m : (ℓ : Loc Cert.WoutIdeal.nD Cert.WoutIdeal.τ Cert.WoutIdeal.sig) → Buf (Elt Ideal) ℓ) (g : Dev Cert.WoutIdeal.nD → PrngReg), Pre_WoutIdeal m →
    θ_run (Cert.WoutIdeal.defs (F := Ideal)) (onTc (τ := Cert.WoutIdeal.τ) (Cert.WoutIdeal.main (F := Ideal))) ⟨m, fun _ => 0, g⟩ (fun r => (∀ c : Dev Cert.WoutIdeal.nD,
      r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
      ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
      ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2))
      ∧ r.2.sem = fun _ => 0)

def quiescent_WoutRefIdeal [hWoutRefIdeal : Cert.WoutRefIdeal.Facts] : Prop :=
  ∀ (m : (ℓ : Loc Cert.WoutRefIdeal.nD Cert.WoutRefIdeal.τ Cert.WoutRefIdeal.sig) → Buf (Elt Ideal) ℓ) (g : Dev Cert.WoutRefIdeal.nD → PrngReg), Pre_WoutRefIdeal m →
    θ_run (Cert.WoutRefIdeal.defs (F := Ideal)) (onTc (τ := Cert.WoutRefIdeal.τ) (Cert.WoutRefIdeal.main (F := Ideal))) ⟨m, fun _ => 0, g⟩ (fun r => (∀ c : Dev Cert.WoutRefIdeal.nD,
      r.2.mem ((c.tc : Thread Cert.WoutRefIdeal.nD Cert.WoutRefIdeal.τ).loc Cert.WoutRefIdeal.main_arg0) = m ((c.tc : Thread Cert.WoutRefIdeal.nD Cert.WoutRefIdeal.τ).loc Cert.WoutRefIdeal.main_arg0)
      ∧ r.2.mem ((c.tc : Thread Cert.WoutRefIdeal.nD Cert.WoutRefIdeal.τ).loc Cert.WoutRefIdeal.main_arg1) = m ((c.tc : Thread Cert.WoutRefIdeal.nD Cert.WoutRefIdeal.τ).loc Cert.WoutRefIdeal.main_arg1)
      ∧ r.2.mem ((c.tc : Thread Cert.WoutRefIdeal.nD Cert.WoutRefIdeal.τ).loc Cert.WoutRefIdeal.main_arg2) = m ((c.tc : Thread Cert.WoutRefIdeal.nD Cert.WoutRefIdeal.τ).loc Cert.WoutRefIdeal.main_arg2))
      ∧ r.2.sem = fun _ => 0)

def quiescent_Wglu [hWglu : Cert.Wglu.Facts] : Prop :=
  ∀ (m : (ℓ : Loc Cert.Wglu.nD Cert.Wglu.τ Cert.Wglu.sig) → Buf (Elt Bits) ℓ) (g : Dev Cert.Wglu.nD → PrngReg), Pre_Wglu m →
    θ_run (Cert.Wglu.defs (F := Bits)) (onTc (τ := Cert.Wglu.τ) (Cert.Wglu.main (F := Bits))) ⟨m, fun _ => 0, g⟩ (fun r => (∀ c : Dev Cert.Wglu.nD,
      r.2.mem ((c.tc : Thread Cert.Wglu.nD Cert.Wglu.τ).loc Cert.Wglu.main_arg0) = m ((c.tc : Thread Cert.Wglu.nD Cert.Wglu.τ).loc Cert.Wglu.main_arg0)
      ∧ r.2.mem ((c.tc : Thread Cert.Wglu.nD Cert.Wglu.τ).loc Cert.Wglu.main_arg1) = m ((c.tc : Thread Cert.Wglu.nD Cert.Wglu.τ).loc Cert.Wglu.main_arg1)
      ∧ r.2.mem ((c.tc : Thread Cert.Wglu.nD Cert.Wglu.τ).loc Cert.Wglu.main_arg2) = m ((c.tc : Thread Cert.Wglu.nD Cert.Wglu.τ).loc Cert.Wglu.main_arg2))
      ∧ r.2.sem = fun _ => 0)

def quiescent_WgluIdeal [hWgluIdeal : Cert.WgluIdeal.Facts] : Prop :=
  ∀ (m : (ℓ : Loc Cert.WgluIdeal.nD Cert.WgluIdeal.τ Cert.WgluIdeal.sig) → Buf (Elt Ideal) ℓ) (g : Dev Cert.WgluIdeal.nD → PrngReg), Pre_WgluIdeal m →
    θ_run (Cert.WgluIdeal.defs (F := Ideal)) (onTc (τ := Cert.WgluIdeal.τ) (Cert.WgluIdeal.main (F := Ideal))) ⟨m, fun _ => 0, g⟩ (fun r => (∀ c : Dev Cert.WgluIdeal.nD,
      r.2.mem ((c.tc : Thread Cert.WgluIdeal.nD Cert.WgluIdeal.τ).loc Cert.WgluIdeal.main_arg0) = m ((c.tc : Thread Cert.WgluIdeal.nD Cert.WgluIdeal.τ).loc Cert.WgluIdeal.main_arg0)
      ∧ r.2.mem ((c.tc : Thread Cert.WgluIdeal.nD Cert.WgluIdeal.τ).loc Cert.WgluIdeal.main_arg1) = m ((c.tc : Thread Cert.WgluIdeal.nD Cert.WgluIdeal.τ).loc Cert.WgluIdeal.main_arg1)
      ∧ r.2.mem ((c.tc : Thread Cert.WgluIdeal.nD Cert.WgluIdeal.τ).loc Cert.WgluIdeal.main_arg2) = m ((c.tc : Thread Cert.WgluIdeal.nD Cert.WgluIdeal.τ).loc Cert.WgluIdeal.main_arg2))
      ∧ r.2.sem = fun _ => 0)

def quiescent_WgluRefIdeal [hWgluRefIdeal : Cert.WgluRefIdeal.Facts] : Prop :=
  ∀ (m : (ℓ : Loc Cert.WgluRefIdeal.nD Cert.WgluRefIdeal.τ Cert.WgluRefIdeal.sig) → Buf (Elt Ideal) ℓ) (g : Dev Cert.WgluRefIdeal.nD → PrngReg), Pre_WgluRefIdeal m →
    θ_run (Cert.WgluRefIdeal.defs (F := Ideal)) (onTc (τ := Cert.WgluRefIdeal.τ) (Cert.WgluRefIdeal.main (F := Ideal))) ⟨m, fun _ => 0, g⟩ (fun r => (∀ c : Dev Cert.WgluRefIdeal.nD,
      r.2.mem ((c.tc : Thread Cert.WgluRefIdeal.nD Cert.WgluRefIdeal.τ).loc Cert.WgluRefIdeal.main_arg0) = m ((c.tc : Thread Cert.WgluRefIdeal.nD Cert.WgluRefIdeal.τ).loc Cert.WgluRefIdeal.main_arg0)
      ∧ r.2.mem ((c.tc : Thread Cert.WgluRefIdeal.nD Cert.WgluRefIdeal.τ).loc Cert.WgluRefIdeal.main_arg1) = m ((c.tc : Thread Cert.WgluRefIdeal.nD Cert.WgluRefIdeal.τ).loc Cert.WgluRefIdeal.main_arg1)
      ∧ r.2.mem ((c.tc : Thread Cert.WgluRefIdeal.nD Cert.WgluRefIdeal.τ).loc Cert.WgluRefIdeal.main_arg2) = m ((c.tc : Thread Cert.WgluRefIdeal.nD Cert.WgluRefIdeal.τ).loc Cert.WgluRefIdeal.main_arg2))
      ∧ r.2.sem = fun _ => 0)

def quiescent_Win [hWin : Cert.Win.Facts] : Prop :=
  ∀ (m : (ℓ : Loc Cert.Win.nD Cert.Win.τ Cert.Win.sig) → Buf (Elt Bits) ℓ) (g : Dev Cert.Win.nD → PrngReg), Pre_Win m →
    θ_run (Cert.Win.defs (F := Bits)) (onTc (τ := Cert.Win.τ) (Cert.Win.main (F := Bits))) ⟨m, fun _ => 0, g⟩ (fun r => (∀ c : Dev Cert.Win.nD,
      r.2.mem ((c.tc : Thread Cert.Win.nD Cert.Win.τ).loc Cert.Win.main_arg0) = m ((c.tc : Thread Cert.Win.nD Cert.Win.τ).loc Cert.Win.main_arg0)
      ∧ r.2.mem ((c.tc : Thread Cert.Win.nD Cert.Win.τ).loc Cert.Win.main_arg1) = m ((c.tc : Thread Cert.Win.nD Cert.Win.τ).loc Cert.Win.main_arg1)
      ∧ r.2.mem ((c.tc : Thread Cert.Win.nD Cert.Win.τ).loc Cert.Win.main_arg2) = m ((c.tc : Thread Cert.Win.nD Cert.Win.τ).loc Cert.Win.main_arg2)
      ∧ r.2.mem ((c.tc : Thread Cert.Win.nD Cert.Win.τ).loc Cert.Win.main_arg3) = m ((c.tc : Thread Cert.Win.nD Cert.Win.τ).loc Cert.Win.main_arg3)
      ∧ r.2.mem ((c.tc : Thread Cert.Win.nD Cert.Win.τ).loc Cert.Win.main_arg4) = m ((c.tc : Thread Cert.Win.nD Cert.Win.τ).loc Cert.Win.main_arg4)
      ∧ r.2.mem ((c.tc : Thread Cert.Win.nD Cert.Win.τ).loc Cert.Win.main_arg5) = m ((c.tc : Thread Cert.Win.nD Cert.Win.τ).loc Cert.Win.main_arg5))
      ∧ r.2.sem = fun _ => 0)

def quiescent_WinIdeal [hWinIdeal : Cert.WinIdeal.Facts] : Prop :=
  ∀ (m : (ℓ : Loc Cert.WinIdeal.nD Cert.WinIdeal.τ Cert.WinIdeal.sig) → Buf (Elt Ideal) ℓ) (g : Dev Cert.WinIdeal.nD → PrngReg), Pre_WinIdeal m →
    θ_run (Cert.WinIdeal.defs (F := Ideal)) (onTc (τ := Cert.WinIdeal.τ) (Cert.WinIdeal.main (F := Ideal))) ⟨m, fun _ => 0, g⟩ (fun r => (∀ c : Dev Cert.WinIdeal.nD,
      r.2.mem ((c.tc : Thread Cert.WinIdeal.nD Cert.WinIdeal.τ).loc Cert.WinIdeal.main_arg0) = m ((c.tc : Thread Cert.WinIdeal.nD Cert.WinIdeal.τ).loc Cert.WinIdeal.main_arg0)
      ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
      ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
      ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
      ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
      ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ r.2.sem = fun _ => 0)

def quiescent_WinRefIdeal [hWinRefIdeal : Cert.WinRefIdeal.Facts] : Prop :=
  ∀ (m : (ℓ : Loc Cert.WinRefIdeal.nD Cert.WinRefIdeal.τ Cert.WinRefIdeal.sig) → Buf (Elt Ideal) ℓ) (g : Dev Cert.WinRefIdeal.nD → PrngReg), Pre_WinRefIdeal m →
    θ_run (Cert.WinRefIdeal.defs (F := Ideal)) (onTc (τ := Cert.WinRefIdeal.τ) (Cert.WinRefIdeal.main (F := Ideal))) ⟨m, fun _ => 0, g⟩ (fun r => (∀ c : Dev Cert.WinRefIdeal.nD,
      r.2.mem ((c.tc : Thread Cert.WinRefIdeal.nD Cert.WinRefIdeal.τ).loc Cert.WinRefIdeal.main_arg0) = m ((c.tc : Thread Cert.WinRefIdeal.nD Cert.WinRefIdeal.τ).loc Cert.WinRefIdeal.main_arg0)
      ∧ r.2.mem ((c.tc : Thread Cert.WinRefIdeal.nD Cert.WinRefIdeal.τ).loc Cert.WinRefIdeal.main_arg1) = m ((c.tc : Thread Cert.WinRefIdeal.nD Cert.WinRefIdeal.τ).loc Cert.WinRefIdeal.main_arg1)
      ∧ r.2.mem ((c.tc : Thread Cert.WinRefIdeal.nD Cert.WinRefIdeal.τ).loc Cert.WinRefIdeal.main_arg2) = m ((c.tc : Thread Cert.WinRefIdeal.nD Cert.WinRefIdeal.τ).loc Cert.WinRefIdeal.main_arg2)
      ∧ r.2.mem ((c.tc : Thread Cert.WinRefIdeal.nD Cert.WinRefIdeal.τ).loc Cert.WinRefIdeal.main_arg3) = m ((c.tc : Thread Cert.WinRefIdeal.nD Cert.WinRefIdeal.τ).loc Cert.WinRefIdeal.main_arg3)
      ∧ r.2.mem ((c.tc : Thread Cert.WinRefIdeal.nD Cert.WinRefIdeal.τ).loc Cert.WinRefIdeal.main_arg4) = m ((c.tc : Thread Cert.WinRefIdeal.nD Cert.WinRefIdeal.τ).loc Cert.WinRefIdeal.main_arg4)
      ∧ r.2.mem ((c.tc : Thread Cert.WinRefIdeal.nD Cert.WinRefIdeal.τ).loc Cert.WinRefIdeal.main_arg5) = m ((c.tc : Thread Cert.WinRefIdeal.nD Cert.WinRefIdeal.τ).loc Cert.WinRefIdeal.main_arg5))
      ∧ r.2.sem = fun _ => 0)

def quiescent_Awin [hAwin : Cert.Awin.Facts] : Prop :=
  ∀ (m : (ℓ : Loc Cert.Awin.nD Cert.Awin.τ Cert.Awin.sig) → Buf (Elt Bits) ℓ) (g : Dev Cert.Awin.nD → PrngReg), Pre_Awin m →
    θ_run (Cert.Awin.defs (F := Bits)) (onTc (τ := Cert.Awin.τ) (Cert.Awin.main (F := Bits))) ⟨m, fun _ => 0, g⟩ (fun r => (∀ c : Dev Cert.Awin.nD,
      r.2.mem ((c.tc : Thread Cert.Awin.nD Cert.Awin.τ).loc Cert.Awin.main_arg0) = m ((c.tc : Thread Cert.Awin.nD Cert.Awin.τ).loc Cert.Awin.main_arg0)
      ∧ r.2.mem ((c.tc : Thread Cert.Awin.nD Cert.Awin.τ).loc Cert.Awin.main_arg1) = m ((c.tc : Thread Cert.Awin.nD Cert.Awin.τ).loc Cert.Awin.main_arg1)
      ∧ r.2.mem ((c.tc : Thread Cert.Awin.nD Cert.Awin.τ).loc Cert.Awin.main_arg2) = m ((c.tc : Thread Cert.Awin.nD Cert.Awin.τ).loc Cert.Awin.main_arg2)
      ∧ r.2.mem ((c.tc : Thread Cert.Awin.nD Cert.Awin.τ).loc Cert.Awin.main_arg3) = m ((c.tc : Thread Cert.Awin.nD Cert.Awin.τ).loc Cert.Awin.main_arg3)
      ∧ r.2.mem ((c.tc : Thread Cert.Awin.nD Cert.Awin.τ).loc Cert.Awin.main_arg4) = m ((c.tc : Thread Cert.Awin.nD Cert.Awin.τ).loc Cert.Awin.main_arg4)
      ∧ r.2.mem ((c.tc : Thread Cert.Awin.nD Cert.Awin.τ).loc Cert.Awin.main_arg5) = m ((c.tc : Thread Cert.Awin.nD Cert.Awin.τ).loc Cert.Awin.main_arg5)
      ∧ r.2.mem ((c.tc : Thread Cert.Awin.nD Cert.Awin.τ).loc Cert.Awin.main_arg6) = m ((c.tc : Thread Cert.Awin.nD Cert.Awin.τ).loc Cert.Awin.main_arg6)
      ∧ r.2.mem ((c.tc : Thread Cert.Awin.nD Cert.Awin.τ).loc Cert.Awin.main_arg7) = m ((c.tc : Thread Cert.Awin.nD Cert.Awin.τ).loc Cert.Awin.main_arg7))
      ∧ r.2.sem = fun _ => 0)

def quiescent_AwinIdeal [hAwinIdeal : Cert.AwinIdeal.Facts] : Prop :=
  ∀ (m : (ℓ : Loc Cert.AwinIdeal.nD Cert.AwinIdeal.τ Cert.AwinIdeal.sig) → Buf (Elt Ideal) ℓ) (g : Dev Cert.AwinIdeal.nD → PrngReg), Pre_AwinIdeal m →
    θ_run (Cert.AwinIdeal.defs (F := Ideal)) (onTc (τ := Cert.AwinIdeal.τ) (Cert.AwinIdeal.main (F := Ideal))) ⟨m, fun _ => 0, g⟩ (fun r => (∀ c : Dev Cert.AwinIdeal.nD,
      r.2.mem ((c.tc : Thread Cert.AwinIdeal.nD Cert.AwinIdeal.τ).loc Cert.AwinIdeal.main_arg0) = m ((c.tc : Thread Cert.AwinIdeal.nD Cert.AwinIdeal.τ).loc Cert.AwinIdeal.main_arg0)
      ∧ r.2.mem ((c.tc : Thread Cert.AwinIdeal.nD Cert.AwinIdeal.τ).loc Cert.AwinIdeal.main_arg1) = m ((c.tc : Thread Cert.AwinIdeal.nD Cert.AwinIdeal.τ).loc Cert.AwinIdeal.main_arg1)
      ∧ r.2.mem ((c.tc : Thread Cert.AwinIdeal.nD Cert.AwinIdeal.τ).loc Cert.AwinIdeal.main_arg2) = m ((c.tc : Thread Cert.AwinIdeal.nD Cert.AwinIdeal.τ).loc Cert.AwinIdeal.main_arg2)
      ∧ r.2.mem ((c.tc : Thread Cert.AwinIdeal.nD Cert.AwinIdeal.τ).loc Cert.AwinIdeal.main_arg3) = m ((c.tc : Thread Cert.AwinIdeal.nD Cert.AwinIdeal.τ).loc Cert.AwinIdeal.main_arg3)
      ∧ r.2.mem ((c.tc : Thread Cert.AwinIdeal.nD Cert.AwinIdeal.τ).loc Cert.AwinIdeal.main_arg4) = m ((c.tc : Thread Cert.AwinIdeal.nD Cert.AwinIdeal.τ).loc Cert.AwinIdeal.main_arg4)
      ∧ r.2.mem ((c.tc : Thread Cert.AwinIdeal.nD Cert.AwinIdeal.τ).loc Cert.AwinIdeal.main_arg5) = m ((c.tc : Thread Cert.AwinIdeal.nD Cert.AwinIdeal.τ).loc Cert.AwinIdeal.main_arg5)
      ∧ r.2.mem ((c.tc : Thread Cert.AwinIdeal.nD Cert.AwinIdeal.τ).loc Cert.AwinIdeal.main_arg6) = m ((c.tc : Thread Cert.AwinIdeal.nD Cert.AwinIdeal.τ).loc Cert.AwinIdeal.main_arg6)
      ∧ r.2.mem ((c.tc : Thread Cert.AwinIdeal.nD Cert.AwinIdeal.τ).loc Cert.AwinIdeal.main_arg7) = m ((c.tc : Thread Cert.AwinIdeal.nD Cert.AwinIdeal.τ).loc Cert.AwinIdeal.main_arg7))
      ∧ r.2.sem = fun _ => 0)

def quiescent_AwinRefIdeal [hAwinRefIdeal : Cert.AwinRefIdeal.Facts] : Prop :=
  ∀ (m : (ℓ : Loc Cert.AwinRefIdeal.nD Cert.AwinRefIdeal.τ Cert.AwinRefIdeal.sig) → Buf (Elt Ideal) ℓ) (g : Dev Cert.AwinRefIdeal.nD → PrngReg), Pre_AwinRefIdeal m →
    θ_run (Cert.AwinRefIdeal.defs (F := Ideal)) (onTc (τ := Cert.AwinRefIdeal.τ) (Cert.AwinRefIdeal.main (F := Ideal))) ⟨m, fun _ => 0, g⟩ (fun r => (∀ c : Dev Cert.AwinRefIdeal.nD,
      r.2.mem ((c.tc : Thread Cert.AwinRefIdeal.nD Cert.AwinRefIdeal.τ).loc Cert.AwinRefIdeal.main_arg0) = m ((c.tc : Thread Cert.AwinRefIdeal.nD Cert.AwinRefIdeal.τ).loc Cert.AwinRefIdeal.main_arg0)
      ∧ r.2.mem ((c.tc : Thread Cert.AwinRefIdeal.nD Cert.AwinRefIdeal.τ).loc Cert.AwinRefIdeal.main_arg1) = m ((c.tc : Thread Cert.AwinRefIdeal.nD Cert.AwinRefIdeal.τ).loc Cert.AwinRefIdeal.main_arg1)
      ∧ r.2.mem ((c.tc : Thread Cert.AwinRefIdeal.nD Cert.AwinRefIdeal.τ).loc Cert.AwinRefIdeal.main_arg2) = m ((c.tc : Thread Cert.AwinRefIdeal.nD Cert.AwinRefIdeal.τ).loc Cert.AwinRefIdeal.main_arg2)
      ∧ r.2.mem ((c.tc : Thread Cert.AwinRefIdeal.nD Cert.AwinRefIdeal.τ).loc Cert.AwinRefIdeal.main_arg3) = m ((c.tc : Thread Cert.AwinRefIdeal.nD Cert.AwinRefIdeal.τ).loc Cert.AwinRefIdeal.main_arg3)
      ∧ r.2.mem ((c.tc : Thread Cert.AwinRefIdeal.nD Cert.AwinRefIdeal.τ).loc Cert.AwinRefIdeal.main_arg4) = m ((c.tc : Thread Cert.AwinRefIdeal.nD Cert.AwinRefIdeal.τ).loc Cert.AwinRefIdeal.main_arg4)
      ∧ r.2.mem ((c.tc : Thread Cert.AwinRefIdeal.nD Cert.AwinRefIdeal.τ).loc Cert.AwinRefIdeal.main_arg5) = m ((c.tc : Thread Cert.AwinRefIdeal.nD Cert.AwinRefIdeal.τ).loc Cert.AwinRefIdeal.main_arg5)
      ∧ r.2.mem ((c.tc : Thread Cert.AwinRefIdeal.nD Cert.AwinRefIdeal.τ).loc Cert.AwinRefIdeal.main_arg6) = m ((c.tc : Thread Cert.AwinRefIdeal.nD Cert.AwinRefIdeal.τ).loc Cert.AwinRefIdeal.main_arg6)
      ∧ r.2.mem ((c.tc : Thread Cert.AwinRefIdeal.nD Cert.AwinRefIdeal.τ).loc Cert.AwinRefIdeal.main_arg7) = m ((c.tc : Thread Cert.AwinRefIdeal.nD Cert.AwinRefIdeal.τ).loc Cert.AwinRefIdeal.main_arg7))
      ∧ r.2.sem = fun _ => 0)

def quiescent_Awglu [hAwglu : Cert.Awglu.Facts] : Prop :=
  ∀ (m : (ℓ : Loc Cert.Awglu.nD Cert.Awglu.τ Cert.Awglu.sig) → Buf (Elt Bits) ℓ) (g : Dev Cert.Awglu.nD → PrngReg), Pre_Awglu m →
    θ_run (Cert.Awglu.defs (F := Bits)) (onTc (τ := Cert.Awglu.τ) (Cert.Awglu.main (F := Bits))) ⟨m, fun _ => 0, g⟩ (fun r => (∀ c : Dev Cert.Awglu.nD,
      r.2.mem ((c.tc : Thread Cert.Awglu.nD Cert.Awglu.τ).loc Cert.Awglu.main_arg0) = m ((c.tc : Thread Cert.Awglu.nD Cert.Awglu.τ).loc Cert.Awglu.main_arg0)
      ∧ r.2.mem ((c.tc : Thread Cert.Awglu.nD Cert.Awglu.τ).loc Cert.Awglu.main_arg1) = m ((c.tc : Thread Cert.Awglu.nD Cert.Awglu.τ).loc Cert.Awglu.main_arg1)
      ∧ r.2.mem ((c.tc : Thread Cert.Awglu.nD Cert.Awglu.τ).loc Cert.Awglu.main_arg2) = m ((c.tc : Thread Cert.Awglu.nD Cert.Awglu.τ).loc Cert.Awglu.main_arg2)
      ∧ r.2.mem ((c.tc : Thread Cert.Awglu.nD Cert.Awglu.τ).loc Cert.Awglu.main_arg3) = m ((c.tc : Thread Cert.Awglu.nD Cert.Awglu.τ).loc Cert.Awglu.main_arg3)
      ∧ r.2.mem ((c.tc : Thread Cert.Awglu.nD Cert.Awglu.τ).loc Cert.Awglu.main_arg4) = m ((c.tc : Thread Cert.Awglu.nD Cert.Awglu.τ).loc Cert.Awglu.main_arg4)
      ∧ r.2.mem ((c.tc : Thread Cert.Awglu.nD Cert.Awglu.τ).loc Cert.Awglu.main_arg5) = m ((c.tc : Thread Cert.Awglu.nD Cert.Awglu.τ).loc Cert.Awglu.main_arg5)
      ∧ r.2.mem ((c.tc : Thread Cert.Awglu.nD Cert.Awglu.τ).loc Cert.Awglu.main_arg6) = m ((c.tc : Thread Cert.Awglu.nD Cert.Awglu.τ).loc Cert.Awglu.main_arg6)
      ∧ r.2.mem ((c.tc : Thread Cert.Awglu.nD Cert.Awglu.τ).loc Cert.Awglu.main_arg7) = m ((c.tc : Thread Cert.Awglu.nD Cert.Awglu.τ).loc Cert.Awglu.main_arg7))
      ∧ r.2.sem = fun _ => 0)

def quiescent_AwgluIdeal [hAwgluIdeal : Cert.AwgluIdeal.Facts] : Prop :=
  ∀ (m : (ℓ : Loc Cert.AwgluIdeal.nD Cert.AwgluIdeal.τ Cert.AwgluIdeal.sig) → Buf (Elt Ideal) ℓ) (g : Dev Cert.AwgluIdeal.nD → PrngReg), Pre_AwgluIdeal m →
    θ_run (Cert.AwgluIdeal.defs (F := Ideal)) (onTc (τ := Cert.AwgluIdeal.τ) (Cert.AwgluIdeal.main (F := Ideal))) ⟨m, fun _ => 0, g⟩ (fun r => (∀ c : Dev Cert.AwgluIdeal.nD,
      r.2.mem ((c.tc : Thread Cert.AwgluIdeal.nD Cert.AwgluIdeal.τ).loc Cert.AwgluIdeal.main_arg0) = m ((c.tc : Thread Cert.AwgluIdeal.nD Cert.AwgluIdeal.τ).loc Cert.AwgluIdeal.main_arg0)
      ∧ r.2.mem ((c.tc : Thread Cert.AwgluIdeal.nD Cert.AwgluIdeal.τ).loc Cert.AwgluIdeal.main_arg1) = m ((c.tc : Thread Cert.AwgluIdeal.nD Cert.AwgluIdeal.τ).loc Cert.AwgluIdeal.main_arg1)
      ∧ r.2.mem ((c.tc : Thread Cert.AwgluIdeal.nD Cert.AwgluIdeal.τ).loc Cert.AwgluIdeal.main_arg2) = m ((c.tc : Thread Cert.AwgluIdeal.nD Cert.AwgluIdeal.τ).loc Cert.AwgluIdeal.main_arg2)
      ∧ r.2.mem ((c.tc : Thread Cert.AwgluIdeal.nD Cert.AwgluIdeal.τ).loc Cert.AwgluIdeal.main_arg3) = m ((c.tc : Thread Cert.AwgluIdeal.nD Cert.AwgluIdeal.τ).loc Cert.AwgluIdeal.main_arg3)
      ∧ r.2.mem ((c.tc : Thread Cert.AwgluIdeal.nD Cert.AwgluIdeal.τ).loc Cert.AwgluIdeal.main_arg4) = m ((c.tc : Thread Cert.AwgluIdeal.nD Cert.AwgluIdeal.τ).loc Cert.AwgluIdeal.main_arg4)
      ∧ r.2.mem ((c.tc : Thread Cert.AwgluIdeal.nD Cert.AwgluIdeal.τ).loc Cert.AwgluIdeal.main_arg5) = m ((c.tc : Thread Cert.AwgluIdeal.nD Cert.AwgluIdeal.τ).loc Cert.AwgluIdeal.main_arg5)
      ∧ r.2.mem ((c.tc : Thread Cert.AwgluIdeal.nD Cert.AwgluIdeal.τ).loc Cert.AwgluIdeal.main_arg6) = m ((c.tc : Thread Cert.AwgluIdeal.nD Cert.AwgluIdeal.τ).loc Cert.AwgluIdeal.main_arg6)
      ∧ r.2.mem ((c.tc : Thread Cert.AwgluIdeal.nD Cert.AwgluIdeal.τ).loc Cert.AwgluIdeal.main_arg7) = m ((c.tc : Thread Cert.AwgluIdeal.nD Cert.AwgluIdeal.τ).loc Cert.AwgluIdeal.main_arg7))
      ∧ r.2.sem = fun _ => 0)

def quiescent_AwgluRefIdeal [hAwgluRefIdeal : Cert.AwgluRefIdeal.Facts] : Prop :=
  ∀ (m : (ℓ : Loc Cert.AwgluRefIdeal.nD Cert.AwgluRefIdeal.τ Cert.AwgluRefIdeal.sig) → Buf (Elt Ideal) ℓ) (g : Dev Cert.AwgluRefIdeal.nD → PrngReg), Pre_AwgluRefIdeal m →
    θ_run (Cert.AwgluRefIdeal.defs (F := Ideal)) (onTc (τ := Cert.AwgluRefIdeal.τ) (Cert.AwgluRefIdeal.main (F := Ideal))) ⟨m, fun _ => 0, g⟩ (fun r => (∀ c : Dev Cert.AwgluRefIdeal.nD,
      r.2.mem ((c.tc : Thread Cert.AwgluRefIdeal.nD Cert.AwgluRefIdeal.τ).loc Cert.AwgluRefIdeal.main_arg0) = m ((c.tc : Thread Cert.AwgluRefIdeal.nD Cert.AwgluRefIdeal.τ).loc Cert.AwgluRefIdeal.main_arg0)
      ∧ r.2.mem ((c.tc : Thread Cert.AwgluRefIdeal.nD Cert.AwgluRefIdeal.τ).loc Cert.AwgluRefIdeal.main_arg1) = m ((c.tc : Thread Cert.AwgluRefIdeal.nD Cert.AwgluRefIdeal.τ).loc Cert.AwgluRefIdeal.main_arg1)
      ∧ r.2.mem ((c.tc : Thread Cert.AwgluRefIdeal.nD Cert.AwgluRefIdeal.τ).loc Cert.AwgluRefIdeal.main_arg2) = m ((c.tc : Thread Cert.AwgluRefIdeal.nD Cert.AwgluRefIdeal.τ).loc Cert.AwgluRefIdeal.main_arg2)
      ∧ r.2.mem ((c.tc : Thread Cert.AwgluRefIdeal.nD Cert.AwgluRefIdeal.τ).loc Cert.AwgluRefIdeal.main_arg3) = m ((c.tc : Thread Cert.AwgluRefIdeal.nD Cert.AwgluRefIdeal.τ).loc Cert.AwgluRefIdeal.main_arg3)
      ∧ r.2.mem ((c.tc : Thread Cert.AwgluRefIdeal.nD Cert.AwgluRefIdeal.τ).loc Cert.AwgluRefIdeal.main_arg4) = m ((c.tc : Thread Cert.AwgluRefIdeal.nD Cert.AwgluRefIdeal.τ).loc Cert.AwgluRefIdeal.main_arg4)
      ∧ r.2.mem ((c.tc : Thread Cert.AwgluRefIdeal.nD Cert.AwgluRefIdeal.τ).loc Cert.AwgluRefIdeal.main_arg5) = m ((c.tc : Thread Cert.AwgluRefIdeal.nD Cert.AwgluRefIdeal.τ).loc Cert.AwgluRefIdeal.main_arg5)
      ∧ r.2.mem ((c.tc : Thread Cert.AwgluRefIdeal.nD Cert.AwgluRefIdeal.τ).loc Cert.AwgluRefIdeal.main_arg6) = m ((c.tc : Thread Cert.AwgluRefIdeal.nD Cert.AwgluRefIdeal.τ).loc Cert.AwgluRefIdeal.main_arg6)
      ∧ r.2.mem ((c.tc : Thread Cert.AwgluRefIdeal.nD Cert.AwgluRefIdeal.τ).loc Cert.AwgluRefIdeal.main_arg7) = m ((c.tc : Thread Cert.AwgluRefIdeal.nD Cert.AwgluRefIdeal.τ).loc Cert.AwgluRefIdeal.main_arg7))
      ∧ r.2.sem = fun _ => 0)

def quiescent_Awout [hAwout : Cert.Awout.Facts] : Prop :=
  ∀ (m : (ℓ : Loc Cert.Awout.nD Cert.Awout.τ Cert.Awout.sig) → Buf (Elt Bits) ℓ) (g : Dev Cert.Awout.nD → PrngReg), Pre_Awout m →
    θ_run (Cert.Awout.defs (F := Bits)) (onTc (τ := Cert.Awout.τ) (Cert.Awout.main (F := Bits))) ⟨m, fun _ => 0, g⟩ (fun r => (∀ c : Dev Cert.Awout.nD,
      r.2.mem ((c.tc : Thread Cert.Awout.nD Cert.Awout.τ).loc Cert.Awout.main_arg0) = m ((c.tc : Thread Cert.Awout.nD Cert.Awout.τ).loc Cert.Awout.main_arg0)
      ∧ r.2.mem ((c.tc : Thread Cert.Awout.nD Cert.Awout.τ).loc Cert.Awout.main_arg1) = m ((c.tc : Thread Cert.Awout.nD Cert.Awout.τ).loc Cert.Awout.main_arg1)
      ∧ r.2.mem ((c.tc : Thread Cert.Awout.nD Cert.Awout.τ).loc Cert.Awout.main_arg2) = m ((c.tc : Thread Cert.Awout.nD Cert.Awout.τ).loc Cert.Awout.main_arg2)
      ∧ r.2.mem ((c.tc : Thread Cert.Awout.nD Cert.Awout.τ).loc Cert.Awout.main_arg3) = m ((c.tc : Thread Cert.Awout.nD Cert.Awout.τ).loc Cert.Awout.main_arg3)
      ∧ r.2.mem ((c.tc : Thread Cert.Awout.nD Cert.Awout.τ).loc Cert.Awout.main_arg4) = m ((c.tc : Thread Cert.Awout.nD Cert.Awout.τ).loc Cert.Awout.main_arg4)
      ∧ r.2.mem ((c.tc : Thread Cert.Awout.nD Cert.Awout.τ).loc Cert.Awout.main_arg5) = m ((c.tc : Thread Cert.Awout.nD Cert.Awout.τ).loc Cert.Awout.main_arg5)
      ∧ r.2.mem ((c.tc : Thread Cert.Awout.nD Cert.Awout.τ).loc Cert.Awout.main_arg6) = m ((c.tc : Thread Cert.Awout.nD Cert.Awout.τ).loc Cert.Awout.main_arg6)
      ∧ r.2.mem ((c.tc : Thread Cert.Awout.nD Cert.Awout.τ).loc Cert.Awout.main_arg7) = m ((c.tc : Thread Cert.Awout.nD Cert.Awout.τ).loc Cert.Awout.main_arg7))
      ∧ r.2.sem = fun _ => 0)

def quiescent_AwoutIdeal [hAwoutIdeal : Cert.AwoutIdeal.Facts] : Prop :=
  ∀ (m : (ℓ : Loc Cert.AwoutIdeal.nD Cert.AwoutIdeal.τ Cert.AwoutIdeal.sig) → Buf (Elt Ideal) ℓ) (g : Dev Cert.AwoutIdeal.nD → PrngReg), Pre_AwoutIdeal m →
    θ_run (Cert.AwoutIdeal.defs (F := Ideal)) (onTc (τ := Cert.AwoutIdeal.τ) (Cert.AwoutIdeal.main (F := Ideal))) ⟨m, fun _ => 0, g⟩ (fun r => (∀ c : Dev Cert.AwoutIdeal.nD,
      r.2.mem ((c.tc : Thread Cert.AwoutIdeal.nD Cert.AwoutIdeal.τ).loc Cert.AwoutIdeal.main_arg0) = m ((c.tc : Thread Cert.AwoutIdeal.nD Cert.AwoutIdeal.τ).loc Cert.AwoutIdeal.main_arg0)
      ∧ r.2.mem ((c.tc : Thread Cert.AwoutIdeal.nD Cert.AwoutIdeal.τ).loc Cert.AwoutIdeal.main_arg1) = m ((c.tc : Thread Cert.AwoutIdeal.nD Cert.AwoutIdeal.τ).loc Cert.AwoutIdeal.main_arg1)
      ∧ r.2.mem ((c.tc : Thread Cert.AwoutIdeal.nD Cert.AwoutIdeal.τ).loc Cert.AwoutIdeal.main_arg2) = m ((c.tc : Thread Cert.AwoutIdeal.nD Cert.AwoutIdeal.τ).loc Cert.AwoutIdeal.main_arg2)
      ∧ r.2.mem ((c.tc : Thread Cert.AwoutIdeal.nD Cert.AwoutIdeal.τ).loc Cert.AwoutIdeal.main_arg3) = m ((c.tc : Thread Cert.AwoutIdeal.nD Cert.AwoutIdeal.τ).loc Cert.AwoutIdeal.main_arg3)
      ∧ r.2.mem ((c.tc : Thread Cert.AwoutIdeal.nD Cert.AwoutIdeal.τ).loc Cert.AwoutIdeal.main_arg4) = m ((c.tc : Thread Cert.AwoutIdeal.nD Cert.AwoutIdeal.τ).loc Cert.AwoutIdeal.main_arg4)
      ∧ r.2.mem ((c.tc : Thread Cert.AwoutIdeal.nD Cert.AwoutIdeal.τ).loc Cert.AwoutIdeal.main_arg5) = m ((c.tc : Thread Cert.AwoutIdeal.nD Cert.AwoutIdeal.τ).loc Cert.AwoutIdeal.main_arg5)
      ∧ r.2.mem ((c.tc : Thread Cert.AwoutIdeal.nD Cert.AwoutIdeal.τ).loc Cert.AwoutIdeal.main_arg6) = m ((c.tc : Thread Cert.AwoutIdeal.nD Cert.AwoutIdeal.τ).loc Cert.AwoutIdeal.main_arg6)
      ∧ r.2.mem ((c.tc : Thread Cert.AwoutIdeal.nD Cert.AwoutIdeal.τ).loc Cert.AwoutIdeal.main_arg7) = m ((c.tc : Thread Cert.AwoutIdeal.nD Cert.AwoutIdeal.τ).loc Cert.AwoutIdeal.main_arg7))
      ∧ r.2.sem = fun _ => 0)

def quiescent_AwoutRefIdeal [hAwoutRefIdeal : Cert.AwoutRefIdeal.Facts] : Prop :=
  ∀ (m : (ℓ : Loc Cert.AwoutRefIdeal.nD Cert.AwoutRefIdeal.τ Cert.AwoutRefIdeal.sig) → Buf (Elt Ideal) ℓ) (g : Dev Cert.AwoutRefIdeal.nD → PrngReg), Pre_AwoutRefIdeal m →
    θ_run (Cert.AwoutRefIdeal.defs (F := Ideal)) (onTc (τ := Cert.AwoutRefIdeal.τ) (Cert.AwoutRefIdeal.main (F := Ideal))) ⟨m, fun _ => 0, g⟩ (fun r => (∀ c : Dev Cert.AwoutRefIdeal.nD,
      r.2.mem ((c.tc : Thread Cert.AwoutRefIdeal.nD Cert.AwoutRefIdeal.τ).loc Cert.AwoutRefIdeal.main_arg0) = m ((c.tc : Thread Cert.AwoutRefIdeal.nD Cert.AwoutRefIdeal.τ).loc Cert.AwoutRefIdeal.main_arg0)
      ∧ r.2.mem ((c.tc : Thread Cert.AwoutRefIdeal.nD Cert.AwoutRefIdeal.τ).loc Cert.AwoutRefIdeal.main_arg1) = m ((c.tc : Thread Cert.AwoutRefIdeal.nD Cert.AwoutRefIdeal.τ).loc Cert.AwoutRefIdeal.main_arg1)
      ∧ r.2.mem ((c.tc : Thread Cert.AwoutRefIdeal.nD Cert.AwoutRefIdeal.τ).loc Cert.AwoutRefIdeal.main_arg2) = m ((c.tc : Thread Cert.AwoutRefIdeal.nD Cert.AwoutRefIdeal.τ).loc Cert.AwoutRefIdeal.main_arg2)
      ∧ r.2.mem ((c.tc : Thread Cert.AwoutRefIdeal.nD Cert.AwoutRefIdeal.τ).loc Cert.AwoutRefIdeal.main_arg3) = m ((c.tc : Thread Cert.AwoutRefIdeal.nD Cert.AwoutRefIdeal.τ).loc Cert.AwoutRefIdeal.main_arg3)
      ∧ r.2.mem ((c.tc : Thread Cert.AwoutRefIdeal.nD Cert.AwoutRefIdeal.τ).loc Cert.AwoutRefIdeal.main_arg4) = m ((c.tc : Thread Cert.AwoutRefIdeal.nD Cert.AwoutRefIdeal.τ).loc Cert.AwoutRefIdeal.main_arg4)
      ∧ r.2.mem ((c.tc : Thread Cert.AwoutRefIdeal.nD Cert.AwoutRefIdeal.τ).loc Cert.AwoutRefIdeal.main_arg5) = m ((c.tc : Thread Cert.AwoutRefIdeal.nD Cert.AwoutRefIdeal.τ).loc Cert.AwoutRefIdeal.main_arg5)
      ∧ r.2.mem ((c.tc : Thread Cert.AwoutRefIdeal.nD Cert.AwoutRefIdeal.τ).loc Cert.AwoutRefIdeal.main_arg6) = m ((c.tc : Thread Cert.AwoutRefIdeal.nD Cert.AwoutRefIdeal.τ).loc Cert.AwoutRefIdeal.main_arg6)
      ∧ r.2.mem ((c.tc : Thread Cert.AwoutRefIdeal.nD Cert.AwoutRefIdeal.τ).loc Cert.AwoutRefIdeal.main_arg7) = m ((c.tc : Thread Cert.AwoutRefIdeal.nD Cert.AwoutRefIdeal.τ).loc Cert.AwoutRefIdeal.main_arg7))
      ∧ r.2.sem = fun _ => 0)

def quiescent_Awff1 [hAwff1 : Cert.Awff1.Facts] : Prop :=
  ∀ (m : (ℓ : Loc Cert.Awff1.nD Cert.Awff1.τ Cert.Awff1.sig) → Buf (Elt Bits) ℓ) (g : Dev Cert.Awff1.nD → PrngReg), Pre_Awff1 m →
    θ_run (Cert.Awff1.defs (F := Bits)) (onTc (τ := Cert.Awff1.τ) (Cert.Awff1.main (F := Bits))) ⟨m, fun _ => 0, g⟩ (fun r => (∀ c : Dev Cert.Awff1.nD,
      r.2.mem ((c.tc : Thread Cert.Awff1.nD Cert.Awff1.τ).loc Cert.Awff1.main_arg0) = m ((c.tc : Thread Cert.Awff1.nD Cert.Awff1.τ).loc Cert.Awff1.main_arg0)
      ∧ r.2.mem ((c.tc : Thread Cert.Awff1.nD Cert.Awff1.τ).loc Cert.Awff1.main_arg1) = m ((c.tc : Thread Cert.Awff1.nD Cert.Awff1.τ).loc Cert.Awff1.main_arg1)
      ∧ r.2.mem ((c.tc : Thread Cert.Awff1.nD Cert.Awff1.τ).loc Cert.Awff1.main_arg2) = m ((c.tc : Thread Cert.Awff1.nD Cert.Awff1.τ).loc Cert.Awff1.main_arg2)
      ∧ r.2.mem ((c.tc : Thread Cert.Awff1.nD Cert.Awff1.τ).loc Cert.Awff1.main_arg3) = m ((c.tc : Thread Cert.Awff1.nD Cert.Awff1.τ).loc Cert.Awff1.main_arg3)
      ∧ r.2.mem ((c.tc : Thread Cert.Awff1.nD Cert.Awff1.τ).loc Cert.Awff1.main_arg4) = m ((c.tc : Thread Cert.Awff1.nD Cert.Awff1.τ).loc Cert.Awff1.main_arg4)
      ∧ r.2.mem ((c.tc : Thread Cert.Awff1.nD Cert.Awff1.τ).loc Cert.Awff1.main_arg5) = m ((c.tc : Thread Cert.Awff1.nD Cert.Awff1.τ).loc Cert.Awff1.main_arg5)
      ∧ r.2.mem ((c.tc : Thread Cert.Awff1.nD Cert.Awff1.τ).loc Cert.Awff1.main_arg6) = m ((c.tc : Thread Cert.Awff1.nD Cert.Awff1.τ).loc Cert.Awff1.main_arg6)
      ∧ r.2.mem ((c.tc : Thread Cert.Awff1.nD Cert.Awff1.τ).loc Cert.Awff1.main_arg7) = m ((c.tc : Thread Cert.Awff1.nD Cert.Awff1.τ).loc Cert.Awff1.main_arg7))
      ∧ r.2.sem = fun _ => 0)

def quiescent_Awff1Ideal [hAwff1Ideal : Cert.Awff1Ideal.Facts] : Prop :=
  ∀ (m : (ℓ : Loc Cert.Awff1Ideal.nD Cert.Awff1Ideal.τ Cert.Awff1Ideal.sig) → Buf (Elt Ideal) ℓ) (g : Dev Cert.Awff1Ideal.nD → PrngReg), Pre_Awff1Ideal m →
    θ_run (Cert.Awff1Ideal.defs (F := Ideal)) (onTc (τ := Cert.Awff1Ideal.τ) (Cert.Awff1Ideal.main (F := Ideal))) ⟨m, fun _ => 0, g⟩ (fun r => (∀ c : Dev Cert.Awff1Ideal.nD,
      r.2.mem ((c.tc : Thread Cert.Awff1Ideal.nD Cert.Awff1Ideal.τ).loc Cert.Awff1Ideal.main_arg0) = m ((c.tc : Thread Cert.Awff1Ideal.nD Cert.Awff1Ideal.τ).loc Cert.Awff1Ideal.main_arg0)
      ∧ r.2.mem ((c.tc : Thread Cert.Awff1Ideal.nD Cert.Awff1Ideal.τ).loc Cert.Awff1Ideal.main_arg1) = m ((c.tc : Thread Cert.Awff1Ideal.nD Cert.Awff1Ideal.τ).loc Cert.Awff1Ideal.main_arg1)
      ∧ r.2.mem ((c.tc : Thread Cert.Awff1Ideal.nD Cert.Awff1Ideal.τ).loc Cert.Awff1Ideal.main_arg2) = m ((c.tc : Thread Cert.Awff1Ideal.nD Cert.Awff1Ideal.τ).loc Cert.Awff1Ideal.main_arg2)
      ∧ r.2.mem ((c.tc : Thread Cert.Awff1Ideal.nD Cert.Awff1Ideal.τ).loc Cert.Awff1Ideal.main_arg3) = m ((c.tc : Thread Cert.Awff1Ideal.nD Cert.Awff1Ideal.τ).loc Cert.Awff1Ideal.main_arg3)
      ∧ r.2.mem ((c.tc : Thread Cert.Awff1Ideal.nD Cert.Awff1Ideal.τ).loc Cert.Awff1Ideal.main_arg4) = m ((c.tc : Thread Cert.Awff1Ideal.nD Cert.Awff1Ideal.τ).loc Cert.Awff1Ideal.main_arg4)
      ∧ r.2.mem ((c.tc : Thread Cert.Awff1Ideal.nD Cert.Awff1Ideal.τ).loc Cert.Awff1Ideal.main_arg5) = m ((c.tc : Thread Cert.Awff1Ideal.nD Cert.Awff1Ideal.τ).loc Cert.Awff1Ideal.main_arg5)
      ∧ r.2.mem ((c.tc : Thread Cert.Awff1Ideal.nD Cert.Awff1Ideal.τ).loc Cert.Awff1Ideal.main_arg6) = m ((c.tc : Thread Cert.Awff1Ideal.nD Cert.Awff1Ideal.τ).loc Cert.Awff1Ideal.main_arg6)
      ∧ r.2.mem ((c.tc : Thread Cert.Awff1Ideal.nD Cert.Awff1Ideal.τ).loc Cert.Awff1Ideal.main_arg7) = m ((c.tc : Thread Cert.Awff1Ideal.nD Cert.Awff1Ideal.τ).loc Cert.Awff1Ideal.main_arg7))
      ∧ r.2.sem = fun _ => 0)

def quiescent_Awff1RefIdeal [hAwff1RefIdeal : Cert.Awff1RefIdeal.Facts] : Prop :=
  ∀ (m : (ℓ : Loc Cert.Awff1RefIdeal.nD Cert.Awff1RefIdeal.τ Cert.Awff1RefIdeal.sig) → Buf (Elt Ideal) ℓ) (g : Dev Cert.Awff1RefIdeal.nD → PrngReg), Pre_Awff1RefIdeal m →
    θ_run (Cert.Awff1RefIdeal.defs (F := Ideal)) (onTc (τ := Cert.Awff1RefIdeal.τ) (Cert.Awff1RefIdeal.main (F := Ideal))) ⟨m, fun _ => 0, g⟩ (fun r => (∀ c : Dev Cert.Awff1RefIdeal.nD,
      r.2.mem ((c.tc : Thread Cert.Awff1RefIdeal.nD Cert.Awff1RefIdeal.τ).loc Cert.Awff1RefIdeal.main_arg0) = m ((c.tc : Thread Cert.Awff1RefIdeal.nD Cert.Awff1RefIdeal.τ).loc Cert.Awff1RefIdeal.main_arg0)
      ∧ r.2.mem ((c.tc : Thread Cert.Awff1RefIdeal.nD Cert.Awff1RefIdeal.τ).loc Cert.Awff1RefIdeal.main_arg1) = m ((c.tc : Thread Cert.Awff1RefIdeal.nD Cert.Awff1RefIdeal.τ).loc Cert.Awff1RefIdeal.main_arg1)
      ∧ r.2.mem ((c.tc : Thread Cert.Awff1RefIdeal.nD Cert.Awff1RefIdeal.τ).loc Cert.Awff1RefIdeal.main_arg2) = m ((c.tc : Thread Cert.Awff1RefIdeal.nD Cert.Awff1RefIdeal.τ).loc Cert.Awff1RefIdeal.main_arg2)
      ∧ r.2.mem ((c.tc : Thread Cert.Awff1RefIdeal.nD Cert.Awff1RefIdeal.τ).loc Cert.Awff1RefIdeal.main_arg3) = m ((c.tc : Thread Cert.Awff1RefIdeal.nD Cert.Awff1RefIdeal.τ).loc Cert.Awff1RefIdeal.main_arg3)
      ∧ r.2.mem ((c.tc : Thread Cert.Awff1RefIdeal.nD Cert.Awff1RefIdeal.τ).loc Cert.Awff1RefIdeal.main_arg4) = m ((c.tc : Thread Cert.Awff1RefIdeal.nD Cert.Awff1RefIdeal.τ).loc Cert.Awff1RefIdeal.main_arg4)
      ∧ r.2.mem ((c.tc : Thread Cert.Awff1RefIdeal.nD Cert.Awff1RefIdeal.τ).loc Cert.Awff1RefIdeal.main_arg5) = m ((c.tc : Thread Cert.Awff1RefIdeal.nD Cert.Awff1RefIdeal.τ).loc Cert.Awff1RefIdeal.main_arg5)
      ∧ r.2.mem ((c.tc : Thread Cert.Awff1RefIdeal.nD Cert.Awff1RefIdeal.τ).loc Cert.Awff1RefIdeal.main_arg6) = m ((c.tc : Thread Cert.Awff1RefIdeal.nD Cert.Awff1RefIdeal.τ).loc Cert.Awff1RefIdeal.main_arg6)
      ∧ r.2.mem ((c.tc : Thread Cert.Awff1RefIdeal.nD Cert.Awff1RefIdeal.τ).loc Cert.Awff1RefIdeal.main_arg7) = m ((c.tc : Thread Cert.Awff1RefIdeal.nD Cert.Awff1RefIdeal.τ).loc Cert.Awff1RefIdeal.main_arg7))
      ∧ r.2.sem = fun _ => 0)

def quiescent_Awff2 [hAwff2 : Cert.Awff2.Facts] : Prop :=
  ∀ (m : (ℓ : Loc Cert.Awff2.nD Cert.Awff2.τ Cert.Awff2.sig) → Buf (Elt Bits) ℓ) (g : Dev Cert.Awff2.nD → PrngReg), Pre_Awff2 m →
    θ_run (Cert.Awff2.defs (F := Bits)) (onTc (τ := Cert.Awff2.τ) (Cert.Awff2.main (F := Bits))) ⟨m, fun _ => 0, g⟩ (fun r => (∀ c : Dev Cert.Awff2.nD,
      r.2.mem ((c.tc : Thread Cert.Awff2.nD Cert.Awff2.τ).loc Cert.Awff2.main_arg0) = m ((c.tc : Thread Cert.Awff2.nD Cert.Awff2.τ).loc Cert.Awff2.main_arg0)
      ∧ r.2.mem ((c.tc : Thread Cert.Awff2.nD Cert.Awff2.τ).loc Cert.Awff2.main_arg1) = m ((c.tc : Thread Cert.Awff2.nD Cert.Awff2.τ).loc Cert.Awff2.main_arg1)
      ∧ r.2.mem ((c.tc : Thread Cert.Awff2.nD Cert.Awff2.τ).loc Cert.Awff2.main_arg2) = m ((c.tc : Thread Cert.Awff2.nD Cert.Awff2.τ).loc Cert.Awff2.main_arg2)
      ∧ r.2.mem ((c.tc : Thread Cert.Awff2.nD Cert.Awff2.τ).loc Cert.Awff2.main_arg3) = m ((c.tc : Thread Cert.Awff2.nD Cert.Awff2.τ).loc Cert.Awff2.main_arg3)
      ∧ r.2.mem ((c.tc : Thread Cert.Awff2.nD Cert.Awff2.τ).loc Cert.Awff2.main_arg4) = m ((c.tc : Thread Cert.Awff2.nD Cert.Awff2.τ).loc Cert.Awff2.main_arg4)
      ∧ r.2.mem ((c.tc : Thread Cert.Awff2.nD Cert.Awff2.τ).loc Cert.Awff2.main_arg5) = m ((c.tc : Thread Cert.Awff2.nD Cert.Awff2.τ).loc Cert.Awff2.main_arg5)
      ∧ r.2.mem ((c.tc : Thread Cert.Awff2.nD Cert.Awff2.τ).loc Cert.Awff2.main_arg6) = m ((c.tc : Thread Cert.Awff2.nD Cert.Awff2.τ).loc Cert.Awff2.main_arg6)
      ∧ r.2.mem ((c.tc : Thread Cert.Awff2.nD Cert.Awff2.τ).loc Cert.Awff2.main_arg7) = m ((c.tc : Thread Cert.Awff2.nD Cert.Awff2.τ).loc Cert.Awff2.main_arg7))
      ∧ r.2.sem = fun _ => 0)

def quiescent_Awff2Ideal [hAwff2Ideal : Cert.Awff2Ideal.Facts] : Prop :=
  ∀ (m : (ℓ : Loc Cert.Awff2Ideal.nD Cert.Awff2Ideal.τ Cert.Awff2Ideal.sig) → Buf (Elt Ideal) ℓ) (g : Dev Cert.Awff2Ideal.nD → PrngReg), Pre_Awff2Ideal m →
    θ_run (Cert.Awff2Ideal.defs (F := Ideal)) (onTc (τ := Cert.Awff2Ideal.τ) (Cert.Awff2Ideal.main (F := Ideal))) ⟨m, fun _ => 0, g⟩ (fun r => (∀ c : Dev Cert.Awff2Ideal.nD,
      r.2.mem ((c.tc : Thread Cert.Awff2Ideal.nD Cert.Awff2Ideal.τ).loc Cert.Awff2Ideal.main_arg0) = m ((c.tc : Thread Cert.Awff2Ideal.nD Cert.Awff2Ideal.τ).loc Cert.Awff2Ideal.main_arg0)
      ∧ r.2.mem ((c.tc : Thread Cert.Awff2Ideal.nD Cert.Awff2Ideal.τ).loc Cert.Awff2Ideal.main_arg1) = m ((c.tc : Thread Cert.Awff2Ideal.nD Cert.Awff2Ideal.τ).loc Cert.Awff2Ideal.main_arg1)
      ∧ r.2.mem ((c.tc : Thread Cert.Awff2Ideal.nD Cert.Awff2Ideal.τ).loc Cert.Awff2Ideal.main_arg2) = m ((c.tc : Thread Cert.Awff2Ideal.nD Cert.Awff2Ideal.τ).loc Cert.Awff2Ideal.main_arg2)
      ∧ r.2.mem ((c.tc : Thread Cert.Awff2Ideal.nD Cert.Awff2Ideal.τ).loc Cert.Awff2Ideal.main_arg3) = m ((c.tc : Thread Cert.Awff2Ideal.nD Cert.Awff2Ideal.τ).loc Cert.Awff2Ideal.main_arg3)
      ∧ r.2.mem ((c.tc : Thread Cert.Awff2Ideal.nD Cert.Awff2Ideal.τ).loc Cert.Awff2Ideal.main_arg4) = m ((c.tc : Thread Cert.Awff2Ideal.nD Cert.Awff2Ideal.τ).loc Cert.Awff2Ideal.main_arg4)
      ∧ r.2.mem ((c.tc : Thread Cert.Awff2Ideal.nD Cert.Awff2Ideal.τ).loc Cert.Awff2Ideal.main_arg5) = m ((c.tc : Thread Cert.Awff2Ideal.nD Cert.Awff2Ideal.τ).loc Cert.Awff2Ideal.main_arg5)
      ∧ r.2.mem ((c.tc : Thread Cert.Awff2Ideal.nD Cert.Awff2Ideal.τ).loc Cert.Awff2Ideal.main_arg6) = m ((c.tc : Thread Cert.Awff2Ideal.nD Cert.Awff2Ideal.τ).loc Cert.Awff2Ideal.main_arg6)
      ∧ r.2.mem ((c.tc : Thread Cert.Awff2Ideal.nD Cert.Awff2Ideal.τ).loc Cert.Awff2Ideal.main_arg7) = m ((c.tc : Thread Cert.Awff2Ideal.nD Cert.Awff2Ideal.τ).loc Cert.Awff2Ideal.main_arg7))
      ∧ r.2.sem = fun _ => 0)

def quiescent_Awff2RefIdeal [hAwff2RefIdeal : Cert.Awff2RefIdeal.Facts] : Prop :=
  ∀ (m : (ℓ : Loc Cert.Awff2RefIdeal.nD Cert.Awff2RefIdeal.τ Cert.Awff2RefIdeal.sig) → Buf (Elt Ideal) ℓ) (g : Dev Cert.Awff2RefIdeal.nD → PrngReg), Pre_Awff2RefIdeal m →
    θ_run (Cert.Awff2RefIdeal.defs (F := Ideal)) (onTc (τ := Cert.Awff2RefIdeal.τ) (Cert.Awff2RefIdeal.main (F := Ideal))) ⟨m, fun _ => 0, g⟩ (fun r => (∀ c : Dev Cert.Awff2RefIdeal.nD,
      r.2.mem ((c.tc : Thread Cert.Awff2RefIdeal.nD Cert.Awff2RefIdeal.τ).loc Cert.Awff2RefIdeal.main_arg0) = m ((c.tc : Thread Cert.Awff2RefIdeal.nD Cert.Awff2RefIdeal.τ).loc Cert.Awff2RefIdeal.main_arg0)
      ∧ r.2.mem ((c.tc : Thread Cert.Awff2RefIdeal.nD Cert.Awff2RefIdeal.τ).loc Cert.Awff2RefIdeal.main_arg1) = m ((c.tc : Thread Cert.Awff2RefIdeal.nD Cert.Awff2RefIdeal.τ).loc Cert.Awff2RefIdeal.main_arg1)
      ∧ r.2.mem ((c.tc : Thread Cert.Awff2RefIdeal.nD Cert.Awff2RefIdeal.τ).loc Cert.Awff2RefIdeal.main_arg2) = m ((c.tc : Thread Cert.Awff2RefIdeal.nD Cert.Awff2RefIdeal.τ).loc Cert.Awff2RefIdeal.main_arg2)
      ∧ r.2.mem ((c.tc : Thread Cert.Awff2RefIdeal.nD Cert.Awff2RefIdeal.τ).loc Cert.Awff2RefIdeal.main_arg3) = m ((c.tc : Thread Cert.Awff2RefIdeal.nD Cert.Awff2RefIdeal.τ).loc Cert.Awff2RefIdeal.main_arg3)
      ∧ r.2.mem ((c.tc : Thread Cert.Awff2RefIdeal.nD Cert.Awff2RefIdeal.τ).loc Cert.Awff2RefIdeal.main_arg4) = m ((c.tc : Thread Cert.Awff2RefIdeal.nD Cert.Awff2RefIdeal.τ).loc Cert.Awff2RefIdeal.main_arg4)
      ∧ r.2.mem ((c.tc : Thread Cert.Awff2RefIdeal.nD Cert.Awff2RefIdeal.τ).loc Cert.Awff2RefIdeal.main_arg5) = m ((c.tc : Thread Cert.Awff2RefIdeal.nD Cert.Awff2RefIdeal.τ).loc Cert.Awff2RefIdeal.main_arg5)
      ∧ r.2.mem ((c.tc : Thread Cert.Awff2RefIdeal.nD Cert.Awff2RefIdeal.τ).loc Cert.Awff2RefIdeal.main_arg6) = m ((c.tc : Thread Cert.Awff2RefIdeal.nD Cert.Awff2RefIdeal.τ).loc Cert.Awff2RefIdeal.main_arg6)
      ∧ r.2.mem ((c.tc : Thread Cert.Awff2RefIdeal.nD Cert.Awff2RefIdeal.τ).loc Cert.Awff2RefIdeal.main_arg7) = m ((c.tc : Thread Cert.Awff2RefIdeal.nD Cert.Awff2RefIdeal.τ).loc Cert.Awff2RefIdeal.main_arg7))
      ∧ r.2.sem = fun _ => 0)

def quiescent_Asmall [hAsmall : Cert.Asmall.Facts] : Prop :=
  ∀ (m : (ℓ : Loc Cert.Asmall.nD Cert.Asmall.τ Cert.Asmall.sig) → Buf (Elt Bits) ℓ) (g : Dev Cert.Asmall.nD → PrngReg), Pre_Asmall m →
    θ_run (Cert.Asmall.defs (F := Bits)) (onTc (τ := Cert.Asmall.τ) (Cert.Asmall.main (F := Bits))) ⟨m, fun _ => 0, g⟩ (fun r => (∀ c : Dev Cert.Asmall.nD,
      r.2.mem ((c.tc : Thread Cert.Asmall.nD Cert.Asmall.τ).loc Cert.Asmall.main_arg0) = m ((c.tc : Thread Cert.Asmall.nD Cert.Asmall.τ).loc Cert.Asmall.main_arg0)
      ∧ r.2.mem ((c.tc : Thread Cert.Asmall.nD Cert.Asmall.τ).loc Cert.Asmall.main_arg1) = m ((c.tc : Thread Cert.Asmall.nD Cert.Asmall.τ).loc Cert.Asmall.main_arg1)
      ∧ r.2.mem ((c.tc : Thread Cert.Asmall.nD Cert.Asmall.τ).loc Cert.Asmall.main_arg2) = m ((c.tc : Thread Cert.Asmall.nD Cert.Asmall.τ).loc Cert.Asmall.main_arg2)
      ∧ r.2.mem ((c.tc : Thread Cert.Asmall.nD Cert.Asmall.τ).loc Cert.Asmall.main_arg3) = m ((c.tc : Thread Cert.Asmall.nD Cert.Asmall.τ).loc Cert.Asmall.main_arg3)
      ∧ r.2.mem ((c.tc : Thread Cert.Asmall.nD Cert.Asmall.τ).loc Cert.Asmall.main_arg4) = m ((c.tc : Thread Cert.Asmall.nD Cert.Asmall.τ).loc Cert.Asmall.main_arg4)
      ∧ r.2.mem ((c.tc : Thread Cert.Asmall.nD Cert.Asmall.τ).loc Cert.Asmall.main_arg5) = m ((c.tc : Thread Cert.Asmall.nD Cert.Asmall.τ).loc Cert.Asmall.main_arg5)
      ∧ r.2.mem ((c.tc : Thread Cert.Asmall.nD Cert.Asmall.τ).loc Cert.Asmall.main_arg6) = m ((c.tc : Thread Cert.Asmall.nD Cert.Asmall.τ).loc Cert.Asmall.main_arg6)
      ∧ r.2.mem ((c.tc : Thread Cert.Asmall.nD Cert.Asmall.τ).loc Cert.Asmall.main_arg7) = m ((c.tc : Thread Cert.Asmall.nD Cert.Asmall.τ).loc Cert.Asmall.main_arg7))
      ∧ r.2.sem = fun _ => 0)

def quiescent_AsmallIdeal [hAsmallIdeal : Cert.AsmallIdeal.Facts] : Prop :=
  ∀ (m : (ℓ : Loc Cert.AsmallIdeal.nD Cert.AsmallIdeal.τ Cert.AsmallIdeal.sig) → Buf (Elt Ideal) ℓ) (g : Dev Cert.AsmallIdeal.nD → PrngReg), Pre_AsmallIdeal m →
    θ_run (Cert.AsmallIdeal.defs (F := Ideal)) (onTc (τ := Cert.AsmallIdeal.τ) (Cert.AsmallIdeal.main (F := Ideal))) ⟨m, fun _ => 0, g⟩ (fun r => (∀ c : Dev Cert.AsmallIdeal.nD,
      r.2.mem ((c.tc : Thread Cert.AsmallIdeal.nD Cert.AsmallIdeal.τ).loc Cert.AsmallIdeal.main_arg0) = m ((c.tc : Thread Cert.AsmallIdeal.nD Cert.AsmallIdeal.τ).loc Cert.AsmallIdeal.main_arg0)
      ∧ r.2.mem ((c.tc : Thread Cert.AsmallIdeal.nD Cert.AsmallIdeal.τ).loc Cert.AsmallIdeal.main_arg1) = m ((c.tc : Thread Cert.AsmallIdeal.nD Cert.AsmallIdeal.τ).loc Cert.AsmallIdeal.main_arg1)
      ∧ r.2.mem ((c.tc : Thread Cert.AsmallIdeal.nD Cert.AsmallIdeal.τ).loc Cert.AsmallIdeal.main_arg2) = m ((c.tc : Thread Cert.AsmallIdeal.nD Cert.AsmallIdeal.τ).loc Cert.AsmallIdeal.main_arg2)
      ∧ r.2.mem ((c.tc : Thread Cert.AsmallIdeal.nD Cert.AsmallIdeal.τ).loc Cert.AsmallIdeal.main_arg3) = m ((c.tc : Thread Cert.AsmallIdeal.nD Cert.AsmallIdeal.τ).loc Cert.AsmallIdeal.main_arg3)
      ∧ r.2.mem ((c.tc : Thread Cert.AsmallIdeal.nD Cert.AsmallIdeal.τ).loc Cert.AsmallIdeal.main_arg4) = m ((c.tc : Thread Cert.AsmallIdeal.nD Cert.AsmallIdeal.τ).loc Cert.AsmallIdeal.main_arg4)
      ∧ r.2.mem ((c.tc : Thread Cert.AsmallIdeal.nD Cert.AsmallIdeal.τ).loc Cert.AsmallIdeal.main_arg5) = m ((c.tc : Thread Cert.AsmallIdeal.nD Cert.AsmallIdeal.τ).loc Cert.AsmallIdeal.main_arg5)
      ∧ r.2.mem ((c.tc : Thread Cert.AsmallIdeal.nD Cert.AsmallIdeal.τ).loc Cert.AsmallIdeal.main_arg6) = m ((c.tc : Thread Cert.AsmallIdeal.nD Cert.AsmallIdeal.τ).loc Cert.AsmallIdeal.main_arg6)
      ∧ r.2.mem ((c.tc : Thread Cert.AsmallIdeal.nD Cert.AsmallIdeal.τ).loc Cert.AsmallIdeal.main_arg7) = m ((c.tc : Thread Cert.AsmallIdeal.nD Cert.AsmallIdeal.τ).loc Cert.AsmallIdeal.main_arg7))
      ∧ r.2.sem = fun _ => 0)

def quiescent_AsmallRefIdeal [hAsmallRefIdeal : Cert.AsmallRefIdeal.Facts] : Prop :=
  ∀ (m : (ℓ : Loc Cert.AsmallRefIdeal.nD Cert.AsmallRefIdeal.τ Cert.AsmallRefIdeal.sig) → Buf (Elt Ideal) ℓ) (g : Dev Cert.AsmallRefIdeal.nD → PrngReg), Pre_AsmallRefIdeal m →
    θ_run (Cert.AsmallRefIdeal.defs (F := Ideal)) (onTc (τ := Cert.AsmallRefIdeal.τ) (Cert.AsmallRefIdeal.main (F := Ideal))) ⟨m, fun _ => 0, g⟩ (fun r => (∀ c : Dev Cert.AsmallRefIdeal.nD,
      r.2.mem ((c.tc : Thread Cert.AsmallRefIdeal.nD Cert.AsmallRefIdeal.τ).loc Cert.AsmallRefIdeal.main_arg0) = m ((c.tc : Thread Cert.AsmallRefIdeal.nD Cert.AsmallRefIdeal.τ).loc Cert.AsmallRefIdeal.main_arg0)
      ∧ r.2.mem ((c.tc : Thread Cert.AsmallRefIdeal.nD Cert.AsmallRefIdeal.τ).loc Cert.AsmallRefIdeal.main_arg1) = m ((c.tc : Thread Cert.AsmallRefIdeal.nD Cert.AsmallRefIdeal.τ).loc Cert.AsmallRefIdeal.main_arg1)
      ∧ r.2.mem ((c.tc : Thread Cert.AsmallRefIdeal.nD Cert.AsmallRefIdeal.τ).loc Cert.AsmallRefIdeal.main_arg2) = m ((c.tc : Thread Cert.AsmallRefIdeal.nD Cert.AsmallRefIdeal.τ).loc Cert.AsmallRefIdeal.main_arg2)
      ∧ r.2.mem ((c.tc : Thread Cert.AsmallRefIdeal.nD Cert.AsmallRefIdeal.τ).loc Cert.AsmallRefIdeal.main_arg3) = m ((c.tc : Thread Cert.AsmallRefIdeal.nD Cert.AsmallRefIdeal.τ).loc Cert.AsmallRefIdeal.main_arg3)
      ∧ r.2.mem ((c.tc : Thread Cert.AsmallRefIdeal.nD Cert.AsmallRefIdeal.τ).loc Cert.AsmallRefIdeal.main_arg4) = m ((c.tc : Thread Cert.AsmallRefIdeal.nD Cert.AsmallRefIdeal.τ).loc Cert.AsmallRefIdeal.main_arg4)
      ∧ r.2.mem ((c.tc : Thread Cert.AsmallRefIdeal.nD Cert.AsmallRefIdeal.τ).loc Cert.AsmallRefIdeal.main_arg5) = m ((c.tc : Thread Cert.AsmallRefIdeal.nD Cert.AsmallRefIdeal.τ).loc Cert.AsmallRefIdeal.main_arg5)
      ∧ r.2.mem ((c.tc : Thread Cert.AsmallRefIdeal.nD Cert.AsmallRefIdeal.τ).loc Cert.AsmallRefIdeal.main_arg6) = m ((c.tc : Thread Cert.AsmallRefIdeal.nD Cert.AsmallRefIdeal.τ).loc Cert.AsmallRefIdeal.main_arg6)
      ∧ r.2.mem ((c.tc : Thread Cert.AsmallRefIdeal.nD Cert.AsmallRefIdeal.τ).loc Cert.AsmallRefIdeal.main_arg7) = m ((c.tc : Thread Cert.AsmallRefIdeal.nD Cert.AsmallRefIdeal.τ).loc Cert.AsmallRefIdeal.main_arg7))
      ∧ r.2.sem = fun _ => 0)

def preserves_Kernel_KernelIdeal : Prop :=
  True

def preserves_Ff2_Ff2Ideal : Prop :=
  True

def algebraic_Ff2Ideal_Ff2RefIdeal_pre_below_top_ff2 [hFf2Ideal : Cert.Ff2Ideal.Facts] [hFf2RefIdeal : Cert.Ff2RefIdeal.Facts] [hPre_below_top_ff2 : Cert.Pre_below_top_ff2.Facts] : Prop :=
  ∀ (m : (ℓ : Loc Cert.Ff2Ideal.nD Cert.Ff2Ideal.τ Cert.Ff2Ideal.sig) → Buf (Elt Ideal) ℓ) (g : Dev Cert.Ff2Ideal.nD → PrngReg)
    (m' : (ℓ : Loc Cert.Ff2RefIdeal.nD Cert.Ff2RefIdeal.τ Cert.Ff2RefIdeal.sig) → Buf (Elt Ideal) ℓ) (g' : Dev Cert.Ff2RefIdeal.nD → PrngReg), Pre_Ff2Ideal_below_top_ff2 m →
    (∀ c : Dev Cert.Ff2Ideal.nD,
      m' ((c.tc : Thread Cert.Ff2RefIdeal.nD Cert.Ff2RefIdeal.τ).loc Cert.Ff2RefIdeal.main_arg0) = m ((c.tc : Thread Cert.Ff2Ideal.nD Cert.Ff2Ideal.τ).loc Cert.Ff2Ideal.main_arg0)
      ∧ m' ((c.tc : Thread Cert.Ff2RefIdeal.nD Cert.Ff2RefIdeal.τ).loc Cert.Ff2RefIdeal.main_arg1) = m ((c.tc : Thread Cert.Ff2Ideal.nD Cert.Ff2Ideal.τ).loc Cert.Ff2Ideal.main_arg1)
      ∧ m' ((c.tc : Thread Cert.Ff2RefIdeal.nD Cert.Ff2RefIdeal.τ).loc Cert.Ff2RefIdeal.main_arg2) = m ((c.tc : Thread Cert.Ff2Ideal.nD Cert.Ff2Ideal.τ).loc Cert.Ff2Ideal.main_arg2)
      ∧ m' ((c.tc : Thread Cert.Ff2RefIdeal.nD Cert.Ff2RefIdeal.τ).loc Cert.Ff2RefIdeal.main_arg3) = m ((c.tc : Thread Cert.Ff2Ideal.nD Cert.Ff2Ideal.τ).loc Cert.Ff2Ideal.main_arg3)) →
    ∃ (v0 : (c : Dev Cert.Ff2Ideal.nD) → Buf (Elt Ideal) ((c.tc : Thread Cert.Ff2Ideal.nD Cert.Ff2Ideal.τ).loc Cert.Ff2Ideal.main_v7_0)) (v1 : (c : Dev Cert.Ff2Ideal.nD) → Buf (Elt Ideal) ((c.tc : Thread Cert.Ff2Ideal.nD Cert.Ff2Ideal.τ).loc Cert.Ff2Ideal.main_v7_1)),
      θ_run (Cert.Ff2Ideal.defs (F := Ideal)) (onTc (τ := Cert.Ff2Ideal.τ) (Cert.Ff2Ideal.main (F := Ideal))) ⟨m, fun _ => 0, g⟩ (fun r => ∀ c : Dev Cert.Ff2Ideal.nD,
          r.2.mem ((c.tc : Thread Cert.Ff2Ideal.nD Cert.Ff2Ideal.τ).loc Cert.Ff2Ideal.main_v7_0) = v0 c
          ∧ r.2.mem ((c.tc : Thread Cert.Ff2Ideal.nD Cert.Ff2Ideal.τ).loc Cert.Ff2Ideal.main_v7_1) = v1 c
          ∧ r.2.mem ((c.tc : Thread Cert.Ff2Ideal.nD Cert.Ff2Ideal.τ).loc Cert.Ff2Ideal.main_arg0) = m ((c.tc : Thread Cert.Ff2Ideal.nD Cert.Ff2Ideal.τ).loc Cert.Ff2Ideal.main_arg0)
          ∧ r.2.mem ((c.tc : Thread Cert.Ff2Ideal.nD Cert.Ff2Ideal.τ).loc Cert.Ff2Ideal.main_arg1) = m ((c.tc : Thread Cert.Ff2Ideal.nD Cert.Ff2Ideal.τ).loc Cert.Ff2Ideal.main_arg1)
          ∧ r.2.mem ((c.tc : Thread Cert.Ff2Ideal.nD Cert.Ff2Ideal.τ).loc Cert.Ff2Ideal.main_arg2) = m ((c.tc : Thread Cert.Ff2Ideal.nD Cert.Ff2Ideal.τ).loc Cert.Ff2Ideal.main_arg2)
          ∧ r.2.mem ((c.tc : Thread Cert.Ff2Ideal.nD Cert.Ff2Ideal.τ).loc Cert.Ff2Ideal.main_arg3) = m ((c.tc : Thread Cert.Ff2Ideal.nD Cert.Ff2Ideal.τ).loc Cert.Ff2Ideal.main_arg3))
      ∧ θ_run (Cert.Ff2RefIdeal.defs (F := Ideal)) (onTc (τ := Cert.Ff2RefIdeal.τ) (Cert.Ff2RefIdeal.main (F := Ideal))) ⟨m', fun _ => 0, g'⟩ (fun r => ∀ c : Dev Cert.Ff2RefIdeal.nD,
          r.2.mem ((c.tc : Thread Cert.Ff2RefIdeal.nD Cert.Ff2RefIdeal.τ).loc Cert.Ff2RefIdeal.main_v32) = v0 c
          ∧ r.2.mem ((c.tc : Thread Cert.Ff2RefIdeal.nD Cert.Ff2RefIdeal.τ).loc Cert.Ff2RefIdeal.main_v33) = v1 c
          ∧ r.2.mem ((c.tc : Thread Cert.Ff2RefIdeal.nD Cert.Ff2RefIdeal.τ).loc Cert.Ff2RefIdeal.main_arg0) = m' ((c.tc : Thread Cert.Ff2RefIdeal.nD Cert.Ff2RefIdeal.τ).loc Cert.Ff2RefIdeal.main_arg0)
          ∧ r.2.mem ((c.tc : Thread Cert.Ff2RefIdeal.nD Cert.Ff2RefIdeal.τ).loc Cert.Ff2RefIdeal.main_arg1) = m' ((c.tc : Thread Cert.Ff2RefIdeal.nD Cert.Ff2RefIdeal.τ).loc Cert.Ff2RefIdeal.main_arg1)
          ∧ r.2.mem ((c.tc : Thread Cert.Ff2RefIdeal.nD Cert.Ff2RefIdeal.τ).loc Cert.Ff2RefIdeal.main_arg2) = m' ((c.tc : Thread Cert.Ff2RefIdeal.nD Cert.Ff2RefIdeal.τ).loc Cert.Ff2RefIdeal.main_arg2)
          ∧ r.2.mem ((c.tc : Thread Cert.Ff2RefIdeal.nD Cert.Ff2RefIdeal.τ).loc Cert.Ff2RefIdeal.main_arg3) = m' ((c.tc : Thread Cert.Ff2RefIdeal.nD Cert.Ff2RefIdeal.τ).loc Cert.Ff2RefIdeal.main_arg3))

def preserves_Ff1_Ff1Ideal : Prop :=
  True

def algebraic_Ff1Ideal_Ff1RefIdeal_pre_finite_ff1 [hFf1Ideal : Cert.Ff1Ideal.Facts] [hFf1RefIdeal : Cert.Ff1RefIdeal.Facts] [hPre_finite_ff1 : Cert.Pre_finite_ff1.Facts] : Prop :=
  ∀ (m : (ℓ : Loc Cert.Ff1Ideal.nD Cert.Ff1Ideal.τ Cert.Ff1Ideal.sig) → Buf (Elt Ideal) ℓ) (g : Dev Cert.Ff1Ideal.nD → PrngReg)
    (m' : (ℓ : Loc Cert.Ff1RefIdeal.nD Cert.Ff1RefIdeal.τ Cert.Ff1RefIdeal.sig) → Buf (Elt Ideal) ℓ) (g' : Dev Cert.Ff1RefIdeal.nD → PrngReg), Pre_Ff1Ideal_finite_ff1 m →
    (∀ c : Dev Cert.Ff1Ideal.nD,
      m' ((c.tc : Thread Cert.Ff1RefIdeal.nD Cert.Ff1RefIdeal.τ).loc Cert.Ff1RefIdeal.main_arg0) = m ((c.tc : Thread Cert.Ff1Ideal.nD Cert.Ff1Ideal.τ).loc Cert.Ff1Ideal.main_arg0)
      ∧ m' ((c.tc : Thread Cert.Ff1RefIdeal.nD Cert.Ff1RefIdeal.τ).loc Cert.Ff1RefIdeal.main_arg1) = m ((c.tc : Thread Cert.Ff1Ideal.nD Cert.Ff1Ideal.τ).loc Cert.Ff1Ideal.main_arg1)
      ∧ m' ((c.tc : Thread Cert.Ff1RefIdeal.nD Cert.Ff1RefIdeal.τ).loc Cert.Ff1RefIdeal.main_arg2) = m ((c.tc : Thread Cert.Ff1Ideal.nD Cert.Ff1Ideal.τ).loc Cert.Ff1Ideal.main_arg2)
      ∧ m' ((c.tc : Thread Cert.Ff1RefIdeal.nD Cert.Ff1RefIdeal.τ).loc Cert.Ff1RefIdeal.main_arg3) = m ((c.tc : Thread Cert.Ff1Ideal.nD Cert.Ff1Ideal.τ).loc Cert.Ff1Ideal.main_arg3)
      ∧ m' ((c.tc : Thread Cert.Ff1RefIdeal.nD Cert.Ff1RefIdeal.τ).loc Cert.Ff1RefIdeal.main_arg4) = m ((c.tc : Thread Cert.Ff1Ideal.nD Cert.Ff1Ideal.τ).loc Cert.Ff1Ideal.main_arg4)
      ∧ m' ((c.tc : Thread Cert.Ff1RefIdeal.nD Cert.Ff1RefIdeal.τ).loc Cert.Ff1RefIdeal.main_arg5) = m ((c.tc : Thread Cert.Ff1Ideal.nD Cert.Ff1Ideal.τ).loc Cert.Ff1Ideal.main_arg5)
      ∧ m' ((c.tc : Thread Cert.Ff1RefIdeal.nD Cert.Ff1RefIdeal.τ).loc Cert.Ff1RefIdeal.main_arg6) = m ((c.tc : Thread Cert.Ff1Ideal.nD Cert.Ff1Ideal.τ).loc Cert.Ff1Ideal.main_arg6)) →
    ∃ (v0 : (c : Dev Cert.Ff1Ideal.nD) → Buf (Elt Ideal) ((c.tc : Thread Cert.Ff1Ideal.nD Cert.Ff1Ideal.τ).loc Cert.Ff1Ideal.main_v8_0)) (v1 : (c : Dev Cert.Ff1Ideal.nD) → Buf (Elt Ideal) ((c.tc : Thread Cert.Ff1Ideal.nD Cert.Ff1Ideal.τ).loc Cert.Ff1Ideal.main_v8_3)) (v2 : (c : Dev Cert.Ff1Ideal.nD) → Buf (Elt Ideal) ((c.tc : Thread Cert.Ff1Ideal.nD Cert.Ff1Ideal.τ).loc Cert.Ff1Ideal.main_v8_1)) (v3 : (c : Dev Cert.Ff1Ideal.nD) → Buf (Elt Ideal) ((c.tc : Thread Cert.Ff1Ideal.nD Cert.Ff1Ideal.τ).loc Cert.Ff1Ideal.main_v8_2)),
      θ_run (Cert.Ff1Ideal.defs (F := Ideal)) (onTc (τ := Cert.Ff1Ideal.τ) (Cert.Ff1Ideal.main (F := Ideal))) ⟨m, fun _ => 0, g⟩ (fun r => ∀ c : Dev Cert.Ff1Ideal.nD,
          r.2.mem ((c.tc : Thread Cert.Ff1Ideal.nD Cert.Ff1Ideal.τ).loc Cert.Ff1Ideal.main_v8_0) = v0 c
          ∧ r.2.mem ((c.tc : Thread Cert.Ff1Ideal.nD Cert.Ff1Ideal.τ).loc Cert.Ff1Ideal.main_v8_3) = v1 c
          ∧ r.2.mem ((c.tc : Thread Cert.Ff1Ideal.nD Cert.Ff1Ideal.τ).loc Cert.Ff1Ideal.main_v8_1) = v2 c
          ∧ r.2.mem ((c.tc : Thread Cert.Ff1Ideal.nD Cert.Ff1Ideal.τ).loc Cert.Ff1Ideal.main_v8_2) = v3 c
          ∧ r.2.mem ((c.tc : Thread Cert.Ff1Ideal.nD Cert.Ff1Ideal.τ).loc Cert.Ff1Ideal.main_arg0) = m ((c.tc : Thread Cert.Ff1Ideal.nD Cert.Ff1Ideal.τ).loc Cert.Ff1Ideal.main_arg0)
          ∧ r.2.mem ((c.tc : Thread Cert.Ff1Ideal.nD Cert.Ff1Ideal.τ).loc Cert.Ff1Ideal.main_arg1) = m ((c.tc : Thread Cert.Ff1Ideal.nD Cert.Ff1Ideal.τ).loc Cert.Ff1Ideal.main_arg1)
          ∧ r.2.mem ((c.tc : Thread Cert.Ff1Ideal.nD Cert.Ff1Ideal.τ).loc Cert.Ff1Ideal.main_arg2) = m ((c.tc : Thread Cert.Ff1Ideal.nD Cert.Ff1Ideal.τ).loc Cert.Ff1Ideal.main_arg2)
          ∧ r.2.mem ((c.tc : Thread Cert.Ff1Ideal.nD Cert.Ff1Ideal.τ).loc Cert.Ff1Ideal.main_arg3) = m ((c.tc : Thread Cert.Ff1Ideal.nD Cert.Ff1Ideal.τ).loc Cert.Ff1Ideal.main_arg3)
          ∧ r.2.mem ((c.tc : Thread Cert.Ff1Ideal.nD Cert.Ff1Ideal.τ).loc Cert.Ff1Ideal.main_arg4) = m ((c.tc : Thread Cert.Ff1Ideal.nD Cert.Ff1Ideal.τ).loc Cert.Ff1Ideal.main_arg4)
          ∧ r.2.mem ((c.tc : Thread Cert.Ff1Ideal.nD Cert.Ff1Ideal.τ).loc Cert.Ff1Ideal.main_arg5) = m ((c.tc : Thread Cert.Ff1Ideal.nD Cert.Ff1Ideal.τ).loc Cert.Ff1Ideal.main_arg5)
          ∧ r.2.mem ((c.tc : Thread Cert.Ff1Ideal.nD Cert.Ff1Ideal.τ).loc Cert.Ff1Ideal.main_arg6) = m ((c.tc : Thread Cert.Ff1Ideal.nD Cert.Ff1Ideal.τ).loc Cert.Ff1Ideal.main_arg6))
      ∧ θ_run (Cert.Ff1RefIdeal.defs (F := Ideal)) (onTc (τ := Cert.Ff1RefIdeal.τ) (Cert.Ff1RefIdeal.main (F := Ideal))) ⟨m', fun _ => 0, g'⟩ (fun r => ∀ c : Dev Cert.Ff1RefIdeal.nD,
          r.2.mem ((c.tc : Thread Cert.Ff1RefIdeal.nD Cert.Ff1RefIdeal.τ).loc Cert.Ff1RefIdeal.main_v72) = v0 c
          ∧ r.2.mem ((c.tc : Thread Cert.Ff1RefIdeal.nD Cert.Ff1RefIdeal.τ).loc Cert.Ff1RefIdeal.main_v76) = v1 c
          ∧ r.2.mem ((c.tc : Thread Cert.Ff1RefIdeal.nD Cert.Ff1RefIdeal.τ).loc Cert.Ff1RefIdeal.main_v77) = v2 c
          ∧ r.2.mem ((c.tc : Thread Cert.Ff1RefIdeal.nD Cert.Ff1RefIdeal.τ).loc Cert.Ff1RefIdeal.main_v78) = v3 c
          ∧ r.2.mem ((c.tc : Thread Cert.Ff1RefIdeal.nD Cert.Ff1RefIdeal.τ).loc Cert.Ff1RefIdeal.main_arg0) = m' ((c.tc : Thread Cert.Ff1RefIdeal.nD Cert.Ff1RefIdeal.τ).loc Cert.Ff1RefIdeal.main_arg0)
          ∧ r.2.mem ((c.tc : Thread Cert.Ff1RefIdeal.nD Cert.Ff1RefIdeal.τ).loc Cert.Ff1RefIdeal.main_arg1) = m' ((c.tc : Thread Cert.Ff1RefIdeal.nD Cert.Ff1RefIdeal.τ).loc Cert.Ff1RefIdeal.main_arg1)
          ∧ r.2.mem ((c.tc : Thread Cert.Ff1RefIdeal.nD Cert.Ff1RefIdeal.τ).loc Cert.Ff1RefIdeal.main_arg2) = m' ((c.tc : Thread Cert.Ff1RefIdeal.nD Cert.Ff1RefIdeal.τ).loc Cert.Ff1RefIdeal.main_arg2)
          ∧ r.2.mem ((c.tc : Thread Cert.Ff1RefIdeal.nD Cert.Ff1RefIdeal.τ).loc Cert.Ff1RefIdeal.main_arg3) = m' ((c.tc : Thread Cert.Ff1RefIdeal.nD Cert.Ff1RefIdeal.τ).loc Cert.Ff1RefIdeal.main_arg3)
          ∧ r.2.mem ((c.tc : Thread Cert.Ff1RefIdeal.nD Cert.Ff1RefIdeal.τ).loc Cert.Ff1RefIdeal.main_arg4) = m' ((c.tc : Thread Cert.Ff1RefIdeal.nD Cert.Ff1RefIdeal.τ).loc Cert.Ff1RefIdeal.main_arg4)
          ∧ r.2.mem ((c.tc : Thread Cert.Ff1RefIdeal.nD Cert.Ff1RefIdeal.τ).loc Cert.Ff1RefIdeal.main_arg5) = m' ((c.tc : Thread Cert.Ff1RefIdeal.nD Cert.Ff1RefIdeal.τ).loc Cert.Ff1RefIdeal.main_arg5)
          ∧ r.2.mem ((c.tc : Thread Cert.Ff1RefIdeal.nD Cert.Ff1RefIdeal.τ).loc Cert.Ff1RefIdeal.main_arg6) = m' ((c.tc : Thread Cert.Ff1RefIdeal.nD Cert.Ff1RefIdeal.τ).loc Cert.Ff1RefIdeal.main_arg6))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)) →
    ∃ (v0 : (c : Dev Cert.MixIdeal.nD) → Buf (Elt Ideal) ((c.tc : Thread Cert.MixIdeal.nD Cert.MixIdeal.τ).loc Cert.MixIdeal.main_v5_0)) (v1 : (c : Dev Cert.MixIdeal.nD) → Buf (Elt Ideal) ((c.tc : Thread Cert.MixIdeal.nD Cert.MixIdeal.τ).loc Cert.MixIdeal.main_v5_2)) (v2 : (c : Dev Cert.MixIdeal.nD) → Buf (Elt Ideal) ((c.tc : Thread Cert.MixIdeal.nD Cert.MixIdeal.τ).loc Cert.MixIdeal.main_v5_3)) (v3 : (c : Dev Cert.MixIdeal.nD) → Buf (Elt Ideal) ((c.tc : Thread Cert.MixIdeal.nD Cert.MixIdeal.τ).loc Cert.MixIdeal.main_v5_4)) (v4 : (c : Dev Cert.MixIdeal.nD) → Buf (Elt Ideal) ((c.tc : Thread Cert.MixIdeal.nD Cert.MixIdeal.τ).loc Cert.MixIdeal.main_v5_5)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v5_0) = v0 c
          ∧ r.2.mem ((c.tc : Thread Cert.MixIdeal.nD Cert.MixIdeal.τ).loc Cert.MixIdeal.main_v5_2) = v1 c
          ∧ r.2.mem ((c.tc : Thread Cert.MixIdeal.nD Cert.MixIdeal.τ).loc Cert.MixIdeal.main_v5_3) = v2 c
          ∧ r.2.mem ((c.tc : Thread Cert.MixIdeal.nD Cert.MixIdeal.τ).loc Cert.MixIdeal.main_v5_4) = v3 c
          ∧ r.2.mem ((c.tc : Thread Cert.MixIdeal.nD Cert.MixIdeal.τ).loc Cert.MixIdeal.main_v5_5) = v4 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v102) = v0 c
          ∧ r.2.mem ((c.tc : Thread Cert.MixRefIdeal.nD Cert.MixRefIdeal.τ).loc Cert.MixRefIdeal.main_v106) = v1 c
          ∧ r.2.mem ((c.tc : Thread Cert.MixRefIdeal.nD Cert.MixRefIdeal.τ).loc Cert.MixRefIdeal.main_v107) = v2 c
          ∧ r.2.mem ((c.tc : Thread Cert.MixRefIdeal.nD Cert.MixRefIdeal.τ).loc Cert.MixRefIdeal.main_v108) = v3 c
          ∧ r.2.mem ((c.tc : Thread Cert.MixRefIdeal.nD Cert.MixRefIdeal.τ).loc Cert.MixRefIdeal.main_v109) = v4 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7))

def preserves_Wff2_Wff2Ideal : Prop :=
  True

def algebraic_Wff2Ideal_Wff2RefIdeal [hWff2Ideal : Cert.Wff2Ideal.Facts] [hWff2RefIdeal : Cert.Wff2RefIdeal.Facts] : Prop :=
  ∀ (m : (ℓ : Loc Cert.Wff2Ideal.nD Cert.Wff2Ideal.τ Cert.Wff2Ideal.sig) → Buf (Elt Ideal) ℓ) (g : Dev Cert.Wff2Ideal.nD → PrngReg)
    (m' : (ℓ : Loc Cert.Wff2RefIdeal.nD Cert.Wff2RefIdeal.τ Cert.Wff2RefIdeal.sig) → Buf (Elt Ideal) ℓ) (g' : Dev Cert.Wff2RefIdeal.nD → PrngReg), Pre_Wff2Ideal m →
    (∀ c : Dev Cert.Wff2Ideal.nD,
      m' ((c.tc : Thread Cert.Wff2RefIdeal.nD Cert.Wff2RefIdeal.τ).loc Cert.Wff2RefIdeal.main_arg0) = m ((c.tc : Thread Cert.Wff2Ideal.nD Cert.Wff2Ideal.τ).loc Cert.Wff2Ideal.main_arg0)
      ∧ m' ((c.tc : Thread Cert.Wff2RefIdeal.nD Cert.Wff2RefIdeal.τ).loc Cert.Wff2RefIdeal.main_arg1) = m ((c.tc : Thread Cert.Wff2Ideal.nD Cert.Wff2Ideal.τ).loc Cert.Wff2Ideal.main_arg1)
      ∧ m' ((c.tc : Thread Cert.Wff2RefIdeal.nD Cert.Wff2RefIdeal.τ).loc Cert.Wff2RefIdeal.main_arg2) = m ((c.tc : Thread Cert.Wff2Ideal.nD Cert.Wff2Ideal.τ).loc Cert.Wff2Ideal.main_arg2)) →
    ∃ (v0 : (c : Dev Cert.Wff2Ideal.nD) → Buf (Elt Ideal) ((c.tc : Thread Cert.Wff2Ideal.nD Cert.Wff2Ideal.τ).loc Cert.Wff2Ideal.main_v1)),
      θ_run (Cert.Wff2Ideal.defs (F := Ideal)) (onTc (τ := Cert.Wff2Ideal.τ) (Cert.Wff2Ideal.main (F := Ideal))) ⟨m, fun _ => 0, g⟩ (fun r => ∀ c : Dev Cert.Wff2Ideal.nD,
          r.2.mem ((c.tc : Thread Cert.Wff2Ideal.nD Cert.Wff2Ideal.τ).loc Cert.Wff2Ideal.main_v1) = v0 c
          ∧ r.2.mem ((c.tc : Thread Cert.Wff2Ideal.nD Cert.Wff2Ideal.τ).loc Cert.Wff2Ideal.main_arg0) = m ((c.tc : Thread Cert.Wff2Ideal.nD Cert.Wff2Ideal.τ).loc Cert.Wff2Ideal.main_arg0)
          ∧ r.2.mem ((c.tc : Thread Cert.Wff2Ideal.nD Cert.Wff2Ideal.τ).loc Cert.Wff2Ideal.main_arg1) = m ((c.tc : Thread Cert.Wff2Ideal.nD Cert.Wff2Ideal.τ).loc Cert.Wff2Ideal.main_arg1)
          ∧ r.2.mem ((c.tc : Thread Cert.Wff2Ideal.nD Cert.Wff2Ideal.τ).loc Cert.Wff2Ideal.main_arg2) = m ((c.tc : Thread Cert.Wff2Ideal.nD Cert.Wff2Ideal.τ).loc Cert.Wff2Ideal.main_arg2))
      ∧ θ_run (Cert.Wff2RefIdeal.defs (F := Ideal)) (onTc (τ := Cert.Wff2RefIdeal.τ) (Cert.Wff2RefIdeal.main (F := Ideal))) ⟨m', fun _ => 0, g'⟩ (fun r => ∀ c : Dev Cert.Wff2RefIdeal.nD,
          r.2.mem ((c.tc : Thread Cert.Wff2RefIdeal.nD Cert.Wff2RefIdeal.τ).loc Cert.Wff2RefIdeal.main_v4) = v0 c
          ∧ r.2.mem ((c.tc : Thread Cert.Wff2RefIdeal.nD Cert.Wff2RefIdeal.τ).loc Cert.Wff2RefIdeal.main_arg0) = m' ((c.tc : Thread Cert.Wff2RefIdeal.nD Cert.Wff2RefIdeal.τ).loc Cert.Wff2RefIdeal.main_arg0)
          ∧ r.2.mem ((c.tc : Thread Cert.Wff2RefIdeal.nD Cert.Wff2RefIdeal.τ).loc Cert.Wff2RefIdeal.main_arg1) = m' ((c.tc : Thread Cert.Wff2RefIdeal.nD Cert.Wff2RefIdeal.τ).loc Cert.Wff2RefIdeal.main_arg1)
          ∧ r.2.mem ((c.tc : Thread Cert.Wff2RefIdeal.nD Cert.Wff2RefIdeal.τ).loc Cert.Wff2RefIdeal.main_arg2) = m' ((c.tc : Thread Cert.Wff2RefIdeal.nD Cert.Wff2RefIdeal.τ).loc Cert.Wff2RefIdeal.main_arg2))

def preserves_Wff1_Wff1Ideal : Prop :=
  True

def algebraic_Wff1Ideal_Wff1RefIdeal [hWff1Ideal : Cert.Wff1Ideal.Facts] [hWff1RefIdeal : Cert.Wff1RefIdeal.Facts] : Prop :=
  ∀ (m : (ℓ : Loc Cert.Wff1Ideal.nD Cert.Wff1Ideal.τ Cert.Wff1Ideal.sig) → Buf (Elt Ideal) ℓ) (g : Dev Cert.Wff1Ideal.nD → PrngReg)
    (m' : (ℓ : Loc Cert.Wff1RefIdeal.nD Cert.Wff1RefIdeal.τ Cert.Wff1RefIdeal.sig) → Buf (Elt Ideal) ℓ) (g' : Dev Cert.Wff1RefIdeal.nD → PrngReg), Pre_Wff1Ideal m →
    (∀ c : Dev Cert.Wff1Ideal.nD,
      m' ((c.tc : Thread Cert.Wff1RefIdeal.nD Cert.Wff1RefIdeal.τ).loc Cert.Wff1RefIdeal.main_arg0) = m ((c.tc : Thread Cert.Wff1Ideal.nD Cert.Wff1Ideal.τ).loc Cert.Wff1Ideal.main_arg0)
      ∧ m' ((c.tc : Thread Cert.Wff1RefIdeal.nD Cert.Wff1RefIdeal.τ).loc Cert.Wff1RefIdeal.main_arg1) = m ((c.tc : Thread Cert.Wff1Ideal.nD Cert.Wff1Ideal.τ).loc Cert.Wff1Ideal.main_arg1)
      ∧ m' ((c.tc : Thread Cert.Wff1RefIdeal.nD Cert.Wff1RefIdeal.τ).loc Cert.Wff1RefIdeal.main_arg2) = m ((c.tc : Thread Cert.Wff1Ideal.nD Cert.Wff1Ideal.τ).loc Cert.Wff1Ideal.main_arg2)) →
    ∃ (v0 : (c : Dev Cert.Wff1Ideal.nD) → Buf (Elt Ideal) ((c.tc : Thread Cert.Wff1Ideal.nD Cert.Wff1Ideal.τ).loc Cert.Wff1Ideal.main_v0)),
      θ_run (Cert.Wff1Ideal.defs (F := Ideal)) (onTc (τ := Cert.Wff1Ideal.τ) (Cert.Wff1Ideal.main (F := Ideal))) ⟨m, fun _ => 0, g⟩ (fun r => ∀ c : Dev Cert.Wff1Ideal.nD,
          r.2.mem ((c.tc : Thread Cert.Wff1Ideal.nD Cert.Wff1Ideal.τ).loc Cert.Wff1Ideal.main_v0) = v0 c
          ∧ r.2.mem ((c.tc : Thread Cert.Wff1Ideal.nD Cert.Wff1Ideal.τ).loc Cert.Wff1Ideal.main_arg0) = m ((c.tc : Thread Cert.Wff1Ideal.nD Cert.Wff1Ideal.τ).loc Cert.Wff1Ideal.main_arg0)
          ∧ r.2.mem ((c.tc : Thread Cert.Wff1Ideal.nD Cert.Wff1Ideal.τ).loc Cert.Wff1Ideal.main_arg1) = m ((c.tc : Thread Cert.Wff1Ideal.nD Cert.Wff1Ideal.τ).loc Cert.Wff1Ideal.main_arg1)
          ∧ r.2.mem ((c.tc : Thread Cert.Wff1Ideal.nD Cert.Wff1Ideal.τ).loc Cert.Wff1Ideal.main_arg2) = m ((c.tc : Thread Cert.Wff1Ideal.nD Cert.Wff1Ideal.τ).loc Cert.Wff1Ideal.main_arg2))
      ∧ θ_run (Cert.Wff1RefIdeal.defs (F := Ideal)) (onTc (τ := Cert.Wff1RefIdeal.τ) (Cert.Wff1RefIdeal.main (F := Ideal))) ⟨m', fun _ => 0, g'⟩ (fun r => ∀ c : Dev Cert.Wff1RefIdeal.nD,
          r.2.mem ((c.tc : Thread Cert.Wff1RefIdeal.nD Cert.Wff1RefIdeal.τ).loc Cert.Wff1RefIdeal.main_v6) = v0 c
          ∧ r.2.mem ((c.tc : Thread Cert.Wff1RefIdeal.nD Cert.Wff1RefIdeal.τ).loc Cert.Wff1RefIdeal.main_arg0) = m' ((c.tc : Thread Cert.Wff1RefIdeal.nD Cert.Wff1RefIdeal.τ).loc Cert.Wff1RefIdeal.main_arg0)
          ∧ r.2.mem ((c.tc : Thread Cert.Wff1RefIdeal.nD Cert.Wff1RefIdeal.τ).loc Cert.Wff1RefIdeal.main_arg1) = m' ((c.tc : Thread Cert.Wff1RefIdeal.nD Cert.Wff1RefIdeal.τ).loc Cert.Wff1RefIdeal.main_arg1)
          ∧ r.2.mem ((c.tc : Thread Cert.Wff1RefIdeal.nD Cert.Wff1RefIdeal.τ).loc Cert.Wff1RefIdeal.main_arg2) = m' ((c.tc : Thread Cert.Wff1RefIdeal.nD Cert.Wff1RefIdeal.τ).loc Cert.Wff1RefIdeal.main_arg2))

def preserves_In_InIdeal : Prop :=
  True

def algebraic_InIdeal_InRefIdeal [hInIdeal : Cert.InIdeal.Facts] [hInRefIdeal : Cert.InRefIdeal.Facts] : Prop :=
  ∀ (m : (ℓ : Loc Cert.InIdeal.nD Cert.InIdeal.τ Cert.InIdeal.sig) → Buf (Elt Ideal) ℓ) (g : Dev Cert.InIdeal.nD → PrngReg)
    (m' : (ℓ : Loc Cert.InRefIdeal.nD Cert.InRefIdeal.τ Cert.InRefIdeal.sig) → Buf (Elt Ideal) ℓ) (g' : Dev Cert.InRefIdeal.nD → PrngReg), Pre_InIdeal m →
    (∀ c : Dev Cert.InIdeal.nD,
      m' ((c.tc : Thread Cert.InRefIdeal.nD Cert.InRefIdeal.τ).loc Cert.InRefIdeal.main_arg0) = m ((c.tc : Thread Cert.InIdeal.nD Cert.InIdeal.τ).loc Cert.InIdeal.main_arg0)
      ∧ m' ((c.tc : Thread Cert.InRefIdeal.nD Cert.InRefIdeal.τ).loc Cert.InRefIdeal.main_arg1) = m ((c.tc : Thread Cert.InIdeal.nD Cert.InIdeal.τ).loc Cert.InIdeal.main_arg1)) →
    ∃ (v0 : (c : Dev Cert.InIdeal.nD) → Buf (Elt Ideal) ((c.tc : Thread Cert.InIdeal.nD Cert.InIdeal.τ).loc Cert.InIdeal.main_v4)),
      θ_run (Cert.InIdeal.defs (F := Ideal)) (onTc (τ := Cert.InIdeal.τ) (Cert.InIdeal.main (F := Ideal))) ⟨m, fun _ => 0, g⟩ (fun r => ∀ c : Dev Cert.InIdeal.nD,
          r.2.mem ((c.tc : Thread Cert.InIdeal.nD Cert.InIdeal.τ).loc Cert.InIdeal.main_v4) = v0 c
          ∧ r.2.mem ((c.tc : Thread Cert.InIdeal.nD Cert.InIdeal.τ).loc Cert.InIdeal.main_arg0) = m ((c.tc : Thread Cert.InIdeal.nD Cert.InIdeal.τ).loc Cert.InIdeal.main_arg0)
          ∧ r.2.mem ((c.tc : Thread Cert.InIdeal.nD Cert.InIdeal.τ).loc Cert.InIdeal.main_arg1) = m ((c.tc : Thread Cert.InIdeal.nD Cert.InIdeal.τ).loc Cert.InIdeal.main_arg1))
      ∧ θ_run (Cert.InRefIdeal.defs (F := Ideal)) (onTc (τ := Cert.InRefIdeal.τ) (Cert.InRefIdeal.main (F := Ideal))) ⟨m', fun _ => 0, g'⟩ (fun r => ∀ c : Dev Cert.InRefIdeal.nD,
          r.2.mem ((c.tc : Thread Cert.InRefIdeal.nD Cert.InRefIdeal.τ).loc Cert.InRefIdeal.main_v0) = v0 c
          ∧ r.2.mem ((c.tc : Thread Cert.InRefIdeal.nD Cert.InRefIdeal.τ).loc Cert.InRefIdeal.main_arg0) = m' ((c.tc : Thread Cert.InRefIdeal.nD Cert.InRefIdeal.τ).loc Cert.InRefIdeal.main_arg0)
          ∧ r.2.mem ((c.tc : Thread Cert.InRefIdeal.nD Cert.InRefIdeal.τ).loc Cert.InRefIdeal.main_arg1) = m' ((c.tc : Thread Cert.InRefIdeal.nD Cert.InRefIdeal.τ).loc Cert.InRefIdeal.main_arg1))

def preserves_Mixf_MixfIdeal : Prop :=
  True

def algebraic_MixfIdeal_MixfRefIdeal [hMixfIdeal : Cert.MixfIdeal.Facts] [hMixfRefIdeal : Cert.MixfRefIdeal.Facts] : Prop :=
  ∀ (m : (ℓ : Loc Cert.MixfIdeal.nD Cert.MixfIdeal.τ Cert.MixfIdeal.sig) → Buf (Elt Ideal) ℓ) (g : Dev Cert.MixfIdeal.nD → PrngReg)
    (m' : (ℓ : Loc Cert.MixfRefIdeal.nD Cert.MixfRefIdeal.τ Cert.MixfRefIdeal.sig) → Buf (Elt Ideal) ℓ) (g' : Dev Cert.MixfRefIdeal.nD → PrngReg), Pre_MixfIdeal m →
    (∀ c : Dev Cert.MixfIdeal.nD,
      m' ((c.tc : Thread Cert.MixfRefIdeal.nD Cert.MixfRefIdeal.τ).loc Cert.MixfRefIdeal.main_arg0) = m ((c.tc : Thread Cert.MixfIdeal.nD Cert.MixfIdeal.τ).loc Cert.MixfIdeal.main_arg0)
      ∧ m' ((c.tc : Thread Cert.MixfRefIdeal.nD Cert.MixfRefIdeal.τ).loc Cert.MixfRefIdeal.main_arg1) = m ((c.tc : Thread Cert.MixfIdeal.nD Cert.MixfIdeal.τ).loc Cert.MixfIdeal.main_arg1)
      ∧ m' ((c.tc : Thread Cert.MixfRefIdeal.nD Cert.MixfRefIdeal.τ).loc Cert.MixfRefIdeal.main_arg2) = m ((c.tc : Thread Cert.MixfIdeal.nD Cert.MixfIdeal.τ).loc Cert.MixfIdeal.main_arg2)
      ∧ m' ((c.tc : Thread Cert.MixfRefIdeal.nD Cert.MixfRefIdeal.τ).loc Cert.MixfRefIdeal.main_arg3) = m ((c.tc : Thread Cert.MixfIdeal.nD Cert.MixfIdeal.τ).loc Cert.MixfIdeal.main_arg3)
      ∧ m' ((c.tc : Thread Cert.MixfRefIdeal.nD Cert.MixfRefIdeal.τ).loc Cert.MixfRefIdeal.main_arg4) = m ((c.tc : Thread Cert.MixfIdeal.nD Cert.MixfIdeal.τ).loc Cert.MixfIdeal.main_arg4)
      ∧ m' ((c.tc : Thread Cert.MixfRefIdeal.nD Cert.MixfRefIdeal.τ).loc Cert.MixfRefIdeal.main_arg5) = m ((c.tc : Thread Cert.MixfIdeal.nD Cert.MixfIdeal.τ).loc Cert.MixfIdeal.main_arg5)) →
    ∃ (v0 : (c : Dev Cert.MixfIdeal.nD) → Buf (Elt Ideal) ((c.tc : Thread Cert.MixfIdeal.nD Cert.MixfIdeal.τ).loc Cert.MixfIdeal.main_v5)),
      θ_run (Cert.MixfIdeal.defs (F := Ideal)) (onTc (τ := Cert.MixfIdeal.τ) (Cert.MixfIdeal.main (F := Ideal))) ⟨m, fun _ => 0, g⟩ (fun r => ∀ c : Dev Cert.MixfIdeal.nD,
          r.2.mem ((c.tc : Thread Cert.MixfIdeal.nD Cert.MixfIdeal.τ).loc Cert.MixfIdeal.main_v5) = v0 c
          ∧ r.2.mem ((c.tc : Thread Cert.MixfIdeal.nD Cert.MixfIdeal.τ).loc Cert.MixfIdeal.main_arg0) = m ((c.tc : Thread Cert.MixfIdeal.nD Cert.MixfIdeal.τ).loc Cert.MixfIdeal.main_arg0)
          ∧ r.2.mem ((c.tc : Thread Cert.MixfIdeal.nD Cert.MixfIdeal.τ).loc Cert.MixfIdeal.main_arg1) = m ((c.tc : Thread Cert.MixfIdeal.nD Cert.MixfIdeal.τ).loc Cert.MixfIdeal.main_arg1)
          ∧ r.2.mem ((c.tc : Thread Cert.MixfIdeal.nD Cert.MixfIdeal.τ).loc Cert.MixfIdeal.main_arg2) = m ((c.tc : Thread Cert.MixfIdeal.nD Cert.MixfIdeal.τ).loc Cert.MixfIdeal.main_arg2)
          ∧ r.2.mem ((c.tc : Thread Cert.MixfIdeal.nD Cert.MixfIdeal.τ).loc Cert.MixfIdeal.main_arg3) = m ((c.tc : Thread Cert.MixfIdeal.nD Cert.MixfIdeal.τ).loc Cert.MixfIdeal.main_arg3)
          ∧ r.2.mem ((c.tc : Thread Cert.MixfIdeal.nD Cert.MixfIdeal.τ).loc Cert.MixfIdeal.main_arg4) = m ((c.tc : Thread Cert.MixfIdeal.nD Cert.MixfIdeal.τ).loc Cert.MixfIdeal.main_arg4)
          ∧ r.2.mem ((c.tc : Thread Cert.MixfIdeal.nD Cert.MixfIdeal.τ).loc Cert.MixfIdeal.main_arg5) = m ((c.tc : Thread Cert.MixfIdeal.nD Cert.MixfIdeal.τ).loc Cert.MixfIdeal.main_arg5))
      ∧ θ_run (Cert.MixfRefIdeal.defs (F := Ideal)) (onTc (τ := Cert.MixfRefIdeal.τ) (Cert.MixfRefIdeal.main (F := Ideal))) ⟨m', fun _ => 0, g'⟩ (fun r => ∀ c : Dev Cert.MixfRefIdeal.nD,
          r.2.mem ((c.tc : Thread Cert.MixfRefIdeal.nD Cert.MixfRefIdeal.τ).loc Cert.MixfRefIdeal.main_v51) = v0 c
          ∧ r.2.mem ((c.tc : Thread Cert.MixfRefIdeal.nD Cert.MixfRefIdeal.τ).loc Cert.MixfRefIdeal.main_arg0) = m' ((c.tc : Thread Cert.MixfRefIdeal.nD Cert.MixfRefIdeal.τ).loc Cert.MixfRefIdeal.main_arg0)
          ∧ r.2.mem ((c.tc : Thread Cert.MixfRefIdeal.nD Cert.MixfRefIdeal.τ).loc Cert.MixfRefIdeal.main_arg1) = m' ((c.tc : Thread Cert.MixfRefIdeal.nD Cert.MixfRefIdeal.τ).loc Cert.MixfRefIdeal.main_arg1)
          ∧ r.2.mem ((c.tc : Thread Cert.MixfRefIdeal.nD Cert.MixfRefIdeal.τ).loc Cert.MixfRefIdeal.main_arg2) = m' ((c.tc : Thread Cert.MixfRefIdeal.nD Cert.MixfRefIdeal.τ).loc Cert.MixfRefIdeal.main_arg2)
          ∧ r.2.mem ((c.tc : Thread Cert.MixfRefIdeal.nD Cert.MixfRefIdeal.τ).loc Cert.MixfRefIdeal.main_arg3) = m' ((c.tc : Thread Cert.MixfRefIdeal.nD Cert.MixfRefIdeal.τ).loc Cert.MixfRefIdeal.main_arg3)
          ∧ r.2.mem ((c.tc : Thread Cert.MixfRefIdeal.nD Cert.MixfRefIdeal.τ).loc Cert.MixfRefIdeal.main_arg4) = m' ((c.tc : Thread Cert.MixfRefIdeal.nD Cert.MixfRefIdeal.τ).loc Cert.MixfRefIdeal.main_arg4)
          ∧ r.2.mem ((c.tc : Thread Cert.MixfRefIdeal.nD Cert.MixfRefIdeal.τ).loc Cert.MixfRefIdeal.main_arg5) = m' ((c.tc : Thread Cert.MixfRefIdeal.nD Cert.MixfRefIdeal.τ).loc Cert.MixfRefIdeal.main_arg5))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v4_0)) (v1 : (c : Dev Cert.OutIdeal.nD) → Buf (Elt Ideal) ((c.tc : Thread Cert.OutIdeal.nD Cert.OutIdeal.τ).loc Cert.OutIdeal.main_v4_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4_0) = v0 c
          ∧ r.2.mem ((c.tc : Thread Cert.OutIdeal.nD Cert.OutIdeal.τ).loc Cert.OutIdeal.main_v4_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v7) = v0 c
          ∧ r.2.mem ((c.tc : Thread Cert.OutRefIdeal.nD Cert.OutRefIdeal.τ).loc Cert.OutRefIdeal.main_v31) = v1 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5))

def preserves_Ff1f_Ff1fIdeal : Prop :=
  True

def algebraic_Ff1fIdeal_Ff1fRefIdeal [hFf1fIdeal : Cert.Ff1fIdeal.Facts] [hFf1fRefIdeal : Cert.Ff1fRefIdeal.Facts] : Prop :=
  ∀ (m : (ℓ : Loc Cert.Ff1fIdeal.nD Cert.Ff1fIdeal.τ Cert.Ff1fIdeal.sig) → Buf (Elt Ideal) ℓ) (g : Dev Cert.Ff1fIdeal.nD → PrngReg)
    (m' : (ℓ : Loc Cert.Ff1fRefIdeal.nD Cert.Ff1fRefIdeal.τ Cert.Ff1fRefIdeal.sig) → Buf (Elt Ideal) ℓ) (g' : Dev Cert.Ff1fRefIdeal.nD → PrngReg), Pre_Ff1fIdeal m →
    (∀ c : Dev Cert.Ff1fIdeal.nD,
      m' ((c.tc : Thread Cert.Ff1fRefIdeal.nD Cert.Ff1fRefIdeal.τ).loc Cert.Ff1fRefIdeal.main_arg0) = m ((c.tc : Thread Cert.Ff1fIdeal.nD Cert.Ff1fIdeal.τ).loc Cert.Ff1fIdeal.main_arg0)
      ∧ m' ((c.tc : Thread Cert.Ff1fRefIdeal.nD Cert.Ff1fRefIdeal.τ).loc Cert.Ff1fRefIdeal.main_arg1) = m ((c.tc : Thread Cert.Ff1fIdeal.nD Cert.Ff1fIdeal.τ).loc Cert.Ff1fIdeal.main_arg1)
      ∧ m' ((c.tc : Thread Cert.Ff1fRefIdeal.nD Cert.Ff1fRefIdeal.τ).loc Cert.Ff1fRefIdeal.main_arg2) = m ((c.tc : Thread Cert.Ff1fIdeal.nD Cert.Ff1fIdeal.τ).loc Cert.Ff1fIdeal.main_arg2)) →
    ∃ (v0 : (c : Dev Cert.Ff1fIdeal.nD) → Buf (Elt Ideal) ((c.tc : Thread Cert.Ff1fIdeal.nD Cert.Ff1fIdeal.τ).loc Cert.Ff1fIdeal.main_v4)),
      θ_run (Cert.Ff1fIdeal.defs (F := Ideal)) (onTc (τ := Cert.Ff1fIdeal.τ) (Cert.Ff1fIdeal.main (F := Ideal))) ⟨m, fun _ => 0, g⟩ (fun r => ∀ c : Dev Cert.Ff1fIdeal.nD,
          r.2.mem ((c.tc : Thread Cert.Ff1fIdeal.nD Cert.Ff1fIdeal.τ).loc Cert.Ff1fIdeal.main_v4) = v0 c
          ∧ r.2.mem ((c.tc : Thread Cert.Ff1fIdeal.nD Cert.Ff1fIdeal.τ).loc Cert.Ff1fIdeal.main_arg0) = m ((c.tc : Thread Cert.Ff1fIdeal.nD Cert.Ff1fIdeal.τ).loc Cert.Ff1fIdeal.main_arg0)
          ∧ r.2.mem ((c.tc : Thread Cert.Ff1fIdeal.nD Cert.Ff1fIdeal.τ).loc Cert.Ff1fIdeal.main_arg1) = m ((c.tc : Thread Cert.Ff1fIdeal.nD Cert.Ff1fIdeal.τ).loc Cert.Ff1fIdeal.main_arg1)
          ∧ r.2.mem ((c.tc : Thread Cert.Ff1fIdeal.nD Cert.Ff1fIdeal.τ).loc Cert.Ff1fIdeal.main_arg2) = m ((c.tc : Thread Cert.Ff1fIdeal.nD Cert.Ff1fIdeal.τ).loc Cert.Ff1fIdeal.main_arg2))
      ∧ θ_run (Cert.Ff1fRefIdeal.defs (F := Ideal)) (onTc (τ := Cert.Ff1fRefIdeal.τ) (Cert.Ff1fRefIdeal.main (F := Ideal))) ⟨m', fun _ => 0, g'⟩ (fun r => ∀ c : Dev Cert.Ff1fRefIdeal.nD,
          r.2.mem ((c.tc : Thread Cert.Ff1fRefIdeal.nD Cert.Ff1fRefIdeal.τ).loc Cert.Ff1fRefIdeal.main_v6) = v0 c
          ∧ r.2.mem ((c.tc : Thread Cert.Ff1fRefIdeal.nD Cert.Ff1fRefIdeal.τ).loc Cert.Ff1fRefIdeal.main_arg0) = m' ((c.tc : Thread Cert.Ff1fRefIdeal.nD Cert.Ff1fRefIdeal.τ).loc Cert.Ff1fRefIdeal.main_arg0)
          ∧ r.2.mem ((c.tc : Thread Cert.Ff1fRefIdeal.nD Cert.Ff1fRefIdeal.τ).loc Cert.Ff1fRefIdeal.main_arg1) = m' ((c.tc : Thread Cert.Ff1fRefIdeal.nD Cert.Ff1fRefIdeal.τ).loc Cert.Ff1fRefIdeal.main_arg1)
          ∧ r.2.mem ((c.tc : Thread Cert.Ff1fRefIdeal.nD Cert.Ff1fRefIdeal.τ).loc Cert.Ff1fRefIdeal.main_arg2) = m' ((c.tc : Thread Cert.Ff1fRefIdeal.nD Cert.Ff1fRefIdeal.τ).loc Cert.Ff1fRefIdeal.main_arg2))

def preserves_Ff2f_Ff2fIdeal : Prop :=
  True

def algebraic_Ff2fIdeal_Ff2fRefIdeal [hFf2fIdeal : Cert.Ff2fIdeal.Facts] [hFf2fRefIdeal : Cert.Ff2fRefIdeal.Facts] : Prop :=
  ∀ (m : (ℓ : Loc Cert.Ff2fIdeal.nD Cert.Ff2fIdeal.τ Cert.Ff2fIdeal.sig) → Buf (Elt Ideal) ℓ) (g : Dev Cert.Ff2fIdeal.nD → PrngReg)
    (m' : (ℓ : Loc Cert.Ff2fRefIdeal.nD Cert.Ff2fRefIdeal.τ Cert.Ff2fRefIdeal.sig) → Buf (Elt Ideal) ℓ) (g' : Dev Cert.Ff2fRefIdeal.nD → PrngReg), Pre_Ff2fIdeal m →
    (∀ c : Dev Cert.Ff2fIdeal.nD,
      m' ((c.tc : Thread Cert.Ff2fRefIdeal.nD Cert.Ff2fRefIdeal.τ).loc Cert.Ff2fRefIdeal.main_arg0) = m ((c.tc : Thread Cert.Ff2fIdeal.nD Cert.Ff2fIdeal.τ).loc Cert.Ff2fIdeal.main_arg0)
      ∧ m' ((c.tc : Thread Cert.Ff2fRefIdeal.nD Cert.Ff2fRefIdeal.τ).loc Cert.Ff2fRefIdeal.main_arg1) = m ((c.tc : Thread Cert.Ff2fIdeal.nD Cert.Ff2fIdeal.τ).loc Cert.Ff2fIdeal.main_arg1)
      ∧ m' ((c.tc : Thread Cert.Ff2fRefIdeal.nD Cert.Ff2fRefIdeal.τ).loc Cert.Ff2fRefIdeal.main_arg2) = m ((c.tc : Thread Cert.Ff2fIdeal.nD Cert.Ff2fIdeal.τ).loc Cert.Ff2fIdeal.main_arg2)
      ∧ m' ((c.tc : Thread Cert.Ff2fRefIdeal.nD Cert.Ff2fRefIdeal.τ).loc Cert.Ff2fRefIdeal.main_arg3) = m ((c.tc : Thread Cert.Ff2fIdeal.nD Cert.Ff2fIdeal.τ).loc Cert.Ff2fIdeal.main_arg3)
      ∧ m' ((c.tc : Thread Cert.Ff2fRefIdeal.nD Cert.Ff2fRefIdeal.τ).loc Cert.Ff2fRefIdeal.main_arg4) = m ((c.tc : Thread Cert.Ff2fIdeal.nD Cert.Ff2fIdeal.τ).loc Cert.Ff2fIdeal.main_arg4)
      ∧ m' ((c.tc : Thread Cert.Ff2fRefIdeal.nD Cert.Ff2fRefIdeal.τ).loc Cert.Ff2fRefIdeal.main_arg5) = m ((c.tc : Thread Cert.Ff2fIdeal.nD Cert.Ff2fIdeal.τ).loc Cert.Ff2fIdeal.main_arg5)) →
    ∃ (v0 : (c : Dev Cert.Ff2fIdeal.nD) → Buf (Elt Ideal) ((c.tc : Thread Cert.Ff2fIdeal.nD Cert.Ff2fIdeal.τ).loc Cert.Ff2fIdeal.main_v4_0)) (v1 : (c : Dev Cert.Ff2fIdeal.nD) → Buf (Elt Ideal) ((c.tc : Thread Cert.Ff2fIdeal.nD Cert.Ff2fIdeal.τ).loc Cert.Ff2fIdeal.main_v4_1)),
      θ_run (Cert.Ff2fIdeal.defs (F := Ideal)) (onTc (τ := Cert.Ff2fIdeal.τ) (Cert.Ff2fIdeal.main (F := Ideal))) ⟨m, fun _ => 0, g⟩ (fun r => ∀ c : Dev Cert.Ff2fIdeal.nD,
          r.2.mem ((c.tc : Thread Cert.Ff2fIdeal.nD Cert.Ff2fIdeal.τ).loc Cert.Ff2fIdeal.main_v4_0) = v0 c
          ∧ r.2.mem ((c.tc : Thread Cert.Ff2fIdeal.nD Cert.Ff2fIdeal.τ).loc Cert.Ff2fIdeal.main_v4_1) = v1 c
          ∧ r.2.mem ((c.tc : Thread Cert.Ff2fIdeal.nD Cert.Ff2fIdeal.τ).loc Cert.Ff2fIdeal.main_arg0) = m ((c.tc : Thread Cert.Ff2fIdeal.nD Cert.Ff2fIdeal.τ).loc Cert.Ff2fIdeal.main_arg0)
          ∧ r.2.mem ((c.tc : Thread Cert.Ff2fIdeal.nD Cert.Ff2fIdeal.τ).loc Cert.Ff2fIdeal.main_arg1) = m ((c.tc : Thread Cert.Ff2fIdeal.nD Cert.Ff2fIdeal.τ).loc Cert.Ff2fIdeal.main_arg1)
          ∧ r.2.mem ((c.tc : Thread Cert.Ff2fIdeal.nD Cert.Ff2fIdeal.τ).loc Cert.Ff2fIdeal.main_arg2) = m ((c.tc : Thread Cert.Ff2fIdeal.nD Cert.Ff2fIdeal.τ).loc Cert.Ff2fIdeal.main_arg2)
          ∧ r.2.mem ((c.tc : Thread Cert.Ff2fIdeal.nD Cert.Ff2fIdeal.τ).loc Cert.Ff2fIdeal.main_arg3) = m ((c.tc : Thread Cert.Ff2fIdeal.nD Cert.Ff2fIdeal.τ).loc Cert.Ff2fIdeal.main_arg3)
          ∧ r.2.mem ((c.tc : Thread Cert.Ff2fIdeal.nD Cert.Ff2fIdeal.τ).loc Cert.Ff2fIdeal.main_arg4) = m ((c.tc : Thread Cert.Ff2fIdeal.nD Cert.Ff2fIdeal.τ).loc Cert.Ff2fIdeal.main_arg4)
          ∧ r.2.mem ((c.tc : Thread Cert.Ff2fIdeal.nD Cert.Ff2fIdeal.τ).loc Cert.Ff2fIdeal.main_arg5) = m ((c.tc : Thread Cert.Ff2fIdeal.nD Cert.Ff2fIdeal.τ).loc Cert.Ff2fIdeal.main_arg5))
      ∧ θ_run (Cert.Ff2fRefIdeal.defs (F := Ideal)) (onTc (τ := Cert.Ff2fRefIdeal.τ) (Cert.Ff2fRefIdeal.main (F := Ideal))) ⟨m', fun _ => 0, g'⟩ (fun r => ∀ c : Dev Cert.Ff2fRefIdeal.nD,
          r.2.mem ((c.tc : Thread Cert.Ff2fRefIdeal.nD Cert.Ff2fRefIdeal.τ).loc Cert.Ff2fRefIdeal.main_v7) = v0 c
          ∧ r.2.mem ((c.tc : Thread Cert.Ff2fRefIdeal.nD Cert.Ff2fRefIdeal.τ).loc Cert.Ff2fRefIdeal.main_v31) = v1 c
          ∧ r.2.mem ((c.tc : Thread Cert.Ff2fRefIdeal.nD Cert.Ff2fRefIdeal.τ).loc Cert.Ff2fRefIdeal.main_arg0) = m' ((c.tc : Thread Cert.Ff2fRefIdeal.nD Cert.Ff2fRefIdeal.τ).loc Cert.Ff2fRefIdeal.main_arg0)
          ∧ r.2.mem ((c.tc : Thread Cert.Ff2fRefIdeal.nD Cert.Ff2fRefIdeal.τ).loc Cert.Ff2fRefIdeal.main_arg1) = m' ((c.tc : Thread Cert.Ff2fRefIdeal.nD Cert.Ff2fRefIdeal.τ).loc Cert.Ff2fRefIdeal.main_arg1)
          ∧ r.2.mem ((c.tc : Thread Cert.Ff2fRefIdeal.nD Cert.Ff2fRefIdeal.τ).loc Cert.Ff2fRefIdeal.main_arg2) = m' ((c.tc : Thread Cert.Ff2fRefIdeal.nD Cert.Ff2fRefIdeal.τ).loc Cert.Ff2fRefIdeal.main_arg2)
          ∧ r.2.mem ((c.tc : Thread Cert.Ff2fRefIdeal.nD Cert.Ff2fRefIdeal.τ).loc Cert.Ff2fRefIdeal.main_arg3) = m' ((c.tc : Thread Cert.Ff2fRefIdeal.nD Cert.Ff2fRefIdeal.τ).loc Cert.Ff2fRefIdeal.main_arg3)
          ∧ r.2.mem ((c.tc : Thread Cert.Ff2fRefIdeal.nD Cert.Ff2fRefIdeal.τ).loc Cert.Ff2fRefIdeal.main_arg4) = m' ((c.tc : Thread Cert.Ff2fRefIdeal.nD Cert.Ff2fRefIdeal.τ).loc Cert.Ff2fRefIdeal.main_arg4)
          ∧ r.2.mem ((c.tc : Thread Cert.Ff2fRefIdeal.nD Cert.Ff2fRefIdeal.τ).loc Cert.Ff2fRefIdeal.main_arg5) = m' ((c.tc : Thread Cert.Ff2fRefIdeal.nD Cert.Ff2fRefIdeal.τ).loc Cert.Ff2fRefIdeal.main_arg5))

def preserves_Loss_LossIdeal : Prop :=
  True

def algebraic_LossIdeal_LossRefIdeal_pre_finite_loss [hLossIdeal : Cert.LossIdeal.Facts] [hLossRefIdeal : Cert.LossRefIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal_finite_loss m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)) →
    ∃ (v0 : (c : Dev Cert.LossIdeal.nD) → Buf (Elt Ideal) ((c.tc : Thread Cert.LossIdeal.nD Cert.LossIdeal.τ).loc Cert.LossIdeal.main_v25_0)) (v1 : (c : Dev Cert.LossIdeal.nD) → Buf (Elt Ideal) ((c.tc : Thread Cert.LossIdeal.nD Cert.LossIdeal.τ).loc Cert.LossIdeal.main_v25_1)) (v2 : (c : Dev Cert.LossIdeal.nD) → Buf (Elt Ideal) ((c.tc : Thread Cert.LossIdeal.nD Cert.LossIdeal.τ).loc Cert.LossIdeal.main_v25_2)) (v3 : (c : Dev Cert.LossIdeal.nD) → Buf (Elt Ideal) ((c.tc : Thread Cert.LossIdeal.nD Cert.LossIdeal.τ).loc Cert.LossIdeal.main_v25_3)) (v4 : (c : Dev Cert.LossIdeal.nD) → Buf (Elt Ideal) ((c.tc : Thread Cert.LossIdeal.nD Cert.LossIdeal.τ).loc Cert.LossIdeal.main_v25_4)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v25_0) = v0 c
          ∧ r.2.mem ((c.tc : Thread Cert.LossIdeal.nD Cert.LossIdeal.τ).loc Cert.LossIdeal.main_v25_1) = v1 c
          ∧ r.2.mem ((c.tc : Thread Cert.LossIdeal.nD Cert.LossIdeal.τ).loc Cert.LossIdeal.main_v25_2) = v2 c
          ∧ r.2.mem ((c.tc : Thread Cert.LossIdeal.nD Cert.LossIdeal.τ).loc Cert.LossIdeal.main_v25_3) = v3 c
          ∧ r.2.mem ((c.tc : Thread Cert.LossIdeal.nD Cert.LossIdeal.τ).loc Cert.LossIdeal.main_v25_4) = v4 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v76) = v0 c
          ∧ r.2.mem ((c.tc : Thread Cert.LossRefIdeal.nD Cert.LossRefIdeal.τ).loc Cert.LossRefIdeal.main_v77) = v1 c
          ∧ r.2.mem ((c.tc : Thread Cert.LossRefIdeal.nD Cert.LossRefIdeal.τ).loc Cert.LossRefIdeal.main_v78) = v2 c
          ∧ r.2.mem ((c.tc : Thread Cert.LossRefIdeal.nD Cert.LossRefIdeal.τ).loc Cert.LossRefIdeal.main_v79) = v3 c
          ∧ r.2.mem ((c.tc : Thread Cert.LossRefIdeal.nD Cert.LossRefIdeal.τ).loc Cert.LossRefIdeal.main_v81) = v4 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3))

def preserves_Inb_InbIdeal : Prop :=
  True

def algebraic_InbIdeal_InbRefIdeal_pre_finite_inb [hInbIdeal : Cert.InbIdeal.Facts] [hInbRefIdeal : Cert.InbRefIdeal.Facts] [hPre_finite_inb : Cert.Pre_finite_inb.Facts] : Prop :=
  ∀ (m : (ℓ : Loc Cert.InbIdeal.nD Cert.InbIdeal.τ Cert.InbIdeal.sig) → Buf (Elt Ideal) ℓ) (g : Dev Cert.InbIdeal.nD → PrngReg)
    (m' : (ℓ : Loc Cert.InbRefIdeal.nD Cert.InbRefIdeal.τ Cert.InbRefIdeal.sig) → Buf (Elt Ideal) ℓ) (g' : Dev Cert.InbRefIdeal.nD → PrngReg), Pre_InbIdeal_finite_inb m →
    (∀ c : Dev Cert.InbIdeal.nD,
      m' ((c.tc : Thread Cert.InbRefIdeal.nD Cert.InbRefIdeal.τ).loc Cert.InbRefIdeal.main_arg0) = m ((c.tc : Thread Cert.InbIdeal.nD Cert.InbIdeal.τ).loc Cert.InbIdeal.main_arg0)
      ∧ m' ((c.tc : Thread Cert.InbRefIdeal.nD Cert.InbRefIdeal.τ).loc Cert.InbRefIdeal.main_arg1) = m ((c.tc : Thread Cert.InbIdeal.nD Cert.InbIdeal.τ).loc Cert.InbIdeal.main_arg1)
      ∧ m' ((c.tc : Thread Cert.InbRefIdeal.nD Cert.InbRefIdeal.τ).loc Cert.InbRefIdeal.main_arg2) = m ((c.tc : Thread Cert.InbIdeal.nD Cert.InbIdeal.τ).loc Cert.InbIdeal.main_arg2)
      ∧ m' ((c.tc : Thread Cert.InbRefIdeal.nD Cert.InbRefIdeal.τ).loc Cert.InbRefIdeal.main_arg3) = m ((c.tc : Thread Cert.InbIdeal.nD Cert.InbIdeal.τ).loc Cert.InbIdeal.main_arg3)
      ∧ m' ((c.tc : Thread Cert.InbRefIdeal.nD Cert.InbRefIdeal.τ).loc Cert.InbRefIdeal.main_arg4) = m ((c.tc : Thread Cert.InbIdeal.nD Cert.InbIdeal.τ).loc Cert.InbIdeal.main_arg4)
      ∧ m' ((c.tc : Thread Cert.InbRefIdeal.nD Cert.InbRefIdeal.τ).loc Cert.InbRefIdeal.main_arg5) = m ((c.tc : Thread Cert.InbIdeal.nD Cert.InbIdeal.τ).loc Cert.InbIdeal.main_arg5)
      ∧ m' ((c.tc : Thread Cert.InbRefIdeal.nD Cert.InbRefIdeal.τ).loc Cert.InbRefIdeal.main_arg6) = m ((c.tc : Thread Cert.InbIdeal.nD Cert.InbIdeal.τ).loc Cert.InbIdeal.main_arg6)
      ∧ m' ((c.tc : Thread Cert.InbRefIdeal.nD Cert.InbRefIdeal.τ).loc Cert.InbRefIdeal.main_arg7) = m ((c.tc : Thread Cert.InbIdeal.nD Cert.InbIdeal.τ).loc Cert.InbIdeal.main_arg7)
      ∧ m' ((c.tc : Thread Cert.InbRefIdeal.nD Cert.InbRefIdeal.τ).loc Cert.InbRefIdeal.main_arg8) = m ((c.tc : Thread Cert.InbIdeal.nD Cert.InbIdeal.τ).loc Cert.InbIdeal.main_arg8)) →
    ∃ (v0 : (c : Dev Cert.InbIdeal.nD) → Buf (Elt Ideal) ((c.tc : Thread Cert.InbIdeal.nD Cert.InbIdeal.τ).loc Cert.InbIdeal.main_v5_0)) (v1 : (c : Dev Cert.InbIdeal.nD) → Buf (Elt Ideal) ((c.tc : Thread Cert.InbIdeal.nD Cert.InbIdeal.τ).loc Cert.InbIdeal.main_v5_1)) (v2 : (c : Dev Cert.InbIdeal.nD) → Buf (Elt Ideal) ((c.tc : Thread Cert.InbIdeal.nD Cert.InbIdeal.τ).loc Cert.InbIdeal.main_v5_2)) (v3 : (c : Dev Cert.InbIdeal.nD) → Buf (Elt Ideal) ((c.tc : Thread Cert.InbIdeal.nD Cert.InbIdeal.τ).loc Cert.InbIdeal.main_v5_3)),
      θ_run (Cert.InbIdeal.defs (F := Ideal)) (onTc (τ := Cert.InbIdeal.τ) (Cert.InbIdeal.main (F := Ideal))) ⟨m, fun _ => 0, g⟩ (fun r => ∀ c : Dev Cert.InbIdeal.nD,
          r.2.mem ((c.tc : Thread Cert.InbIdeal.nD Cert.InbIdeal.τ).loc Cert.InbIdeal.main_v5_0) = v0 c
          ∧ r.2.mem ((c.tc : Thread Cert.InbIdeal.nD Cert.InbIdeal.τ).loc Cert.InbIdeal.main_v5_1) = v1 c
          ∧ r.2.mem ((c.tc : Thread Cert.InbIdeal.nD Cert.InbIdeal.τ).loc Cert.InbIdeal.main_v5_2) = v2 c
          ∧ r.2.mem ((c.tc : Thread Cert.InbIdeal.nD Cert.InbIdeal.τ).loc Cert.InbIdeal.main_v5_3) = v3 c
          ∧ r.2.mem ((c.tc : Thread Cert.InbIdeal.nD Cert.InbIdeal.τ).loc Cert.InbIdeal.main_arg0) = m ((c.tc : Thread Cert.InbIdeal.nD Cert.InbIdeal.τ).loc Cert.InbIdeal.main_arg0)
          ∧ r.2.mem ((c.tc : Thread Cert.InbIdeal.nD Cert.InbIdeal.τ).loc Cert.InbIdeal.main_arg1) = m ((c.tc : Thread Cert.InbIdeal.nD Cert.InbIdeal.τ).loc Cert.InbIdeal.main_arg1)
          ∧ r.2.mem ((c.tc : Thread Cert.InbIdeal.nD Cert.InbIdeal.τ).loc Cert.InbIdeal.main_arg2) = m ((c.tc : Thread Cert.InbIdeal.nD Cert.InbIdeal.τ).loc Cert.InbIdeal.main_arg2)
          ∧ r.2.mem ((c.tc : Thread Cert.InbIdeal.nD Cert.InbIdeal.τ).loc Cert.InbIdeal.main_arg3) = m ((c.tc : Thread Cert.InbIdeal.nD Cert.InbIdeal.τ).loc Cert.InbIdeal.main_arg3)
          ∧ r.2.mem ((c.tc : Thread Cert.InbIdeal.nD Cert.InbIdeal.τ).loc Cert.InbIdeal.main_arg4) = m ((c.tc : Thread Cert.InbIdeal.nD Cert.InbIdeal.τ).loc Cert.InbIdeal.main_arg4)
          ∧ r.2.mem ((c.tc : Thread Cert.InbIdeal.nD Cert.InbIdeal.τ).loc Cert.InbIdeal.main_arg5) = m ((c.tc : Thread Cert.InbIdeal.nD Cert.InbIdeal.τ).loc Cert.InbIdeal.main_arg5)
          ∧ r.2.mem ((c.tc : Thread Cert.InbIdeal.nD Cert.InbIdeal.τ).loc Cert.InbIdeal.main_arg6) = m ((c.tc : Thread Cert.InbIdeal.nD Cert.InbIdeal.τ).loc Cert.InbIdeal.main_arg6)
          ∧ r.2.mem ((c.tc : Thread Cert.InbIdeal.nD Cert.InbIdeal.τ).loc Cert.InbIdeal.main_arg7) = m ((c.tc : Thread Cert.InbIdeal.nD Cert.InbIdeal.τ).loc Cert.InbIdeal.main_arg7)
          ∧ r.2.mem ((c.tc : Thread Cert.InbIdeal.nD Cert.InbIdeal.τ).loc Cert.InbIdeal.main_arg8) = m ((c.tc : Thread Cert.InbIdeal.nD Cert.InbIdeal.τ).loc Cert.InbIdeal.main_arg8))
      ∧ θ_run (Cert.InbRefIdeal.defs (F := Ideal)) (onTc (τ := Cert.InbRefIdeal.τ) (Cert.InbRefIdeal.main (F := Ideal))) ⟨m', fun _ => 0, g'⟩ (fun r => ∀ c : Dev Cert.InbRefIdeal.nD,
          r.2.mem ((c.tc : Thread Cert.InbRefIdeal.nD Cert.InbRefIdeal.τ).loc Cert.InbRefIdeal.main_v70) = v0 c
          ∧ r.2.mem ((c.tc : Thread Cert.InbRefIdeal.nD Cert.InbRefIdeal.τ).loc Cert.InbRefIdeal.main_v71) = v1 c
          ∧ r.2.mem ((c.tc : Thread Cert.InbRefIdeal.nD Cert.InbRefIdeal.τ).loc Cert.InbRefIdeal.main_v72) = v2 c
          ∧ r.2.mem ((c.tc : Thread Cert.InbRefIdeal.nD Cert.InbRefIdeal.τ).loc Cert.InbRefIdeal.main_v74) = v3 c
          ∧ r.2.mem ((c.tc : Thread Cert.InbRefIdeal.nD Cert.InbRefIdeal.τ).loc Cert.InbRefIdeal.main_arg0) = m' ((c.tc : Thread Cert.InbRefIdeal.nD Cert.InbRefIdeal.τ).loc Cert.InbRefIdeal.main_arg0)
          ∧ r.2.mem ((c.tc : Thread Cert.InbRefIdeal.nD Cert.InbRefIdeal.τ).loc Cert.InbRefIdeal.main_arg1) = m' ((c.tc : Thread Cert.InbRefIdeal.nD Cert.InbRefIdeal.τ).loc Cert.InbRefIdeal.main_arg1)
          ∧ r.2.mem ((c.tc : Thread Cert.InbRefIdeal.nD Cert.InbRefIdeal.τ).loc Cert.InbRefIdeal.main_arg2) = m' ((c.tc : Thread Cert.InbRefIdeal.nD Cert.InbRefIdeal.τ).loc Cert.InbRefIdeal.main_arg2)
          ∧ r.2.mem ((c.tc : Thread Cert.InbRefIdeal.nD Cert.InbRefIdeal.τ).loc Cert.InbRefIdeal.main_arg3) = m' ((c.tc : Thread Cert.InbRefIdeal.nD Cert.InbRefIdeal.τ).loc Cert.InbRefIdeal.main_arg3)
          ∧ r.2.mem ((c.tc : Thread Cert.InbRefIdeal.nD Cert.InbRefIdeal.τ).loc Cert.InbRefIdeal.main_arg4) = m' ((c.tc : Thread Cert.InbRefIdeal.nD Cert.InbRefIdeal.τ).loc Cert.InbRefIdeal.main_arg4)
          ∧ r.2.mem ((c.tc : Thread Cert.InbRefIdeal.nD Cert.InbRefIdeal.τ).loc Cert.InbRefIdeal.main_arg5) = m' ((c.tc : Thread Cert.InbRefIdeal.nD Cert.InbRefIdeal.τ).loc Cert.InbRefIdeal.main_arg5)
          ∧ r.2.mem ((c.tc : Thread Cert.InbRefIdeal.nD Cert.InbRefIdeal.τ).loc Cert.InbRefIdeal.main_arg6) = m' ((c.tc : Thread Cert.InbRefIdeal.nD Cert.InbRefIdeal.τ).loc Cert.InbRefIdeal.main_arg6)
          ∧ r.2.mem ((c.tc : Thread Cert.InbRefIdeal.nD Cert.InbRefIdeal.τ).loc Cert.InbRefIdeal.main_arg7) = m' ((c.tc : Thread Cert.InbRefIdeal.nD Cert.InbRefIdeal.τ).loc Cert.InbRefIdeal.main_arg7)
          ∧ r.2.mem ((c.tc : Thread Cert.InbRefIdeal.nD Cert.InbRefIdeal.τ).loc Cert.InbRefIdeal.main_arg8) = m' ((c.tc : Thread Cert.InbRefIdeal.nD Cert.InbRefIdeal.τ).loc Cert.InbRefIdeal.main_arg8))

def preserves_Inb0_Inb0Ideal : Prop :=
  True

def algebraic_Inb0Ideal_Inb0RefIdeal [hInb0Ideal : Cert.Inb0Ideal.Facts] [hInb0RefIdeal : Cert.Inb0RefIdeal.Facts] : Prop :=
  ∀ (m : (ℓ : Loc Cert.Inb0Ideal.nD Cert.Inb0Ideal.τ Cert.Inb0Ideal.sig) → Buf (Elt Ideal) ℓ) (g : Dev Cert.Inb0Ideal.nD → PrngReg)
    (m' : (ℓ : Loc Cert.Inb0RefIdeal.nD Cert.Inb0RefIdeal.τ Cert.Inb0RefIdeal.sig) → Buf (Elt Ideal) ℓ) (g' : Dev Cert.Inb0RefIdeal.nD → PrngReg), Pre_Inb0Ideal m →
    (∀ c : Dev Cert.Inb0Ideal.nD,
      m' ((c.tc : Thread Cert.Inb0RefIdeal.nD Cert.Inb0RefIdeal.τ).loc Cert.Inb0RefIdeal.main_arg0) = m ((c.tc : Thread Cert.Inb0Ideal.nD Cert.Inb0Ideal.τ).loc Cert.Inb0Ideal.main_arg0)
      ∧ m' ((c.tc : Thread Cert.Inb0RefIdeal.nD Cert.Inb0RefIdeal.τ).loc Cert.Inb0RefIdeal.main_arg1) = m ((c.tc : Thread Cert.Inb0Ideal.nD Cert.Inb0Ideal.τ).loc Cert.Inb0Ideal.main_arg1)
      ∧ m' ((c.tc : Thread Cert.Inb0RefIdeal.nD Cert.Inb0RefIdeal.τ).loc Cert.Inb0RefIdeal.main_arg2) = m ((c.tc : Thread Cert.Inb0Ideal.nD Cert.Inb0Ideal.τ).loc Cert.Inb0Ideal.main_arg2)
      ∧ m' ((c.tc : Thread Cert.Inb0RefIdeal.nD Cert.Inb0RefIdeal.τ).loc Cert.Inb0RefIdeal.main_arg3) = m ((c.tc : Thread Cert.Inb0Ideal.nD Cert.Inb0Ideal.τ).loc Cert.Inb0Ideal.main_arg3)
      ∧ m' ((c.tc : Thread Cert.Inb0RefIdeal.nD Cert.Inb0RefIdeal.τ).loc Cert.Inb0RefIdeal.main_arg4) = m ((c.tc : Thread Cert.Inb0Ideal.nD Cert.Inb0Ideal.τ).loc Cert.Inb0Ideal.main_arg4)
      ∧ m' ((c.tc : Thread Cert.Inb0RefIdeal.nD Cert.Inb0RefIdeal.τ).loc Cert.Inb0RefIdeal.main_arg5) = m ((c.tc : Thread Cert.Inb0Ideal.nD Cert.Inb0Ideal.τ).loc Cert.Inb0Ideal.main_arg5)
      ∧ m' ((c.tc : Thread Cert.Inb0RefIdeal.nD Cert.Inb0RefIdeal.τ).loc Cert.Inb0RefIdeal.main_arg6) = m ((c.tc : Thread Cert.Inb0Ideal.nD Cert.Inb0Ideal.τ).loc Cert.Inb0Ideal.main_arg6)) →
    ∃ (v0 : (c : Dev Cert.Inb0Ideal.nD) → Buf (Elt Ideal) ((c.tc : Thread Cert.Inb0Ideal.nD Cert.Inb0Ideal.τ).loc Cert.Inb0Ideal.main_v4)),
      θ_run (Cert.Inb0Ideal.defs (F := Ideal)) (onTc (τ := Cert.Inb0Ideal.τ) (Cert.Inb0Ideal.main (F := Ideal))) ⟨m, fun _ => 0, g⟩ (fun r => ∀ c : Dev Cert.Inb0Ideal.nD,
          r.2.mem ((c.tc : Thread Cert.Inb0Ideal.nD Cert.Inb0Ideal.τ).loc Cert.Inb0Ideal.main_v4) = v0 c
          ∧ r.2.mem ((c.tc : Thread Cert.Inb0Ideal.nD Cert.Inb0Ideal.τ).loc Cert.Inb0Ideal.main_arg0) = m ((c.tc : Thread Cert.Inb0Ideal.nD Cert.Inb0Ideal.τ).loc Cert.Inb0Ideal.main_arg0)
          ∧ r.2.mem ((c.tc : Thread Cert.Inb0Ideal.nD Cert.Inb0Ideal.τ).loc Cert.Inb0Ideal.main_arg1) = m ((c.tc : Thread Cert.Inb0Ideal.nD Cert.Inb0Ideal.τ).loc Cert.Inb0Ideal.main_arg1)
          ∧ r.2.mem ((c.tc : Thread Cert.Inb0Ideal.nD Cert.Inb0Ideal.τ).loc Cert.Inb0Ideal.main_arg2) = m ((c.tc : Thread Cert.Inb0Ideal.nD Cert.Inb0Ideal.τ).loc Cert.Inb0Ideal.main_arg2)
          ∧ r.2.mem ((c.tc : Thread Cert.Inb0Ideal.nD Cert.Inb0Ideal.τ).loc Cert.Inb0Ideal.main_arg3) = m ((c.tc : Thread Cert.Inb0Ideal.nD Cert.Inb0Ideal.τ).loc Cert.Inb0Ideal.main_arg3)
          ∧ r.2.mem ((c.tc : Thread Cert.Inb0Ideal.nD Cert.Inb0Ideal.τ).loc Cert.Inb0Ideal.main_arg4) = m ((c.tc : Thread Cert.Inb0Ideal.nD Cert.Inb0Ideal.τ).loc Cert.Inb0Ideal.main_arg4)
          ∧ r.2.mem ((c.tc : Thread Cert.Inb0Ideal.nD Cert.Inb0Ideal.τ).loc Cert.Inb0Ideal.main_arg5) = m ((c.tc : Thread Cert.Inb0Ideal.nD Cert.Inb0Ideal.τ).loc Cert.Inb0Ideal.main_arg5)
          ∧ r.2.mem ((c.tc : Thread Cert.Inb0Ideal.nD Cert.Inb0Ideal.τ).loc Cert.Inb0Ideal.main_arg6) = m ((c.tc : Thread Cert.Inb0Ideal.nD Cert.Inb0Ideal.τ).loc Cert.Inb0Ideal.main_arg6))
      ∧ θ_run (Cert.Inb0RefIdeal.defs (F := Ideal)) (onTc (τ := Cert.Inb0RefIdeal.τ) (Cert.Inb0RefIdeal.main (F := Ideal))) ⟨m', fun _ => 0, g'⟩ (fun r => ∀ c : Dev Cert.Inb0RefIdeal.nD,
          r.2.mem ((c.tc : Thread Cert.Inb0RefIdeal.nD Cert.Inb0RefIdeal.τ).loc Cert.Inb0RefIdeal.main_v8) = v0 c
          ∧ r.2.mem ((c.tc : Thread Cert.Inb0RefIdeal.nD Cert.Inb0RefIdeal.τ).loc Cert.Inb0RefIdeal.main_arg0) = m' ((c.tc : Thread Cert.Inb0RefIdeal.nD Cert.Inb0RefIdeal.τ).loc Cert.Inb0RefIdeal.main_arg0)
          ∧ r.2.mem ((c.tc : Thread Cert.Inb0RefIdeal.nD Cert.Inb0RefIdeal.τ).loc Cert.Inb0RefIdeal.main_arg1) = m' ((c.tc : Thread Cert.Inb0RefIdeal.nD Cert.Inb0RefIdeal.τ).loc Cert.Inb0RefIdeal.main_arg1)
          ∧ r.2.mem ((c.tc : Thread Cert.Inb0RefIdeal.nD Cert.Inb0RefIdeal.τ).loc Cert.Inb0RefIdeal.main_arg2) = m' ((c.tc : Thread Cert.Inb0RefIdeal.nD Cert.Inb0RefIdeal.τ).loc Cert.Inb0RefIdeal.main_arg2)
          ∧ r.2.mem ((c.tc : Thread Cert.Inb0RefIdeal.nD Cert.Inb0RefIdeal.τ).loc Cert.Inb0RefIdeal.main_arg3) = m' ((c.tc : Thread Cert.Inb0RefIdeal.nD Cert.Inb0RefIdeal.τ).loc Cert.Inb0RefIdeal.main_arg3)
          ∧ r.2.mem ((c.tc : Thread Cert.Inb0RefIdeal.nD Cert.Inb0RefIdeal.τ).loc Cert.Inb0RefIdeal.main_arg4) = m' ((c.tc : Thread Cert.Inb0RefIdeal.nD Cert.Inb0RefIdeal.τ).loc Cert.Inb0RefIdeal.main_arg4)
          ∧ r.2.mem ((c.tc : Thread Cert.Inb0RefIdeal.nD Cert.Inb0RefIdeal.τ).loc Cert.Inb0RefIdeal.main_arg5) = m' ((c.tc : Thread Cert.Inb0RefIdeal.nD Cert.Inb0RefIdeal.τ).loc Cert.Inb0RefIdeal.main_arg5)
          ∧ r.2.mem ((c.tc : Thread Cert.Inb0RefIdeal.nD Cert.Inb0RefIdeal.τ).loc Cert.Inb0RefIdeal.main_arg6) = m' ((c.tc : Thread Cert.Inb0RefIdeal.nD Cert.Inb0RefIdeal.τ).loc Cert.Inb0RefIdeal.main_arg6))

def preserves_Wout_WoutIdeal : Prop :=
  True

def algebraic_WoutIdeal_WoutRefIdeal [hWoutIdeal : Cert.WoutIdeal.Facts] [hWoutRefIdeal : Cert.WoutRefIdeal.Facts] : Prop :=
  ∀ (m : (ℓ : Loc Cert.WoutIdeal.nD Cert.WoutIdeal.τ Cert.WoutIdeal.sig) → Buf (Elt Ideal) ℓ) (g : Dev Cert.WoutIdeal.nD → PrngReg)
    (m' : (ℓ : Loc Cert.WoutRefIdeal.nD Cert.WoutRefIdeal.τ Cert.WoutRefIdeal.sig) → Buf (Elt Ideal) ℓ) (g' : Dev Cert.WoutRefIdeal.nD → PrngReg), Pre_WoutIdeal m →
    (∀ c : Dev Cert.WoutIdeal.nD,
      m' ((c.tc : Thread Cert.WoutRefIdeal.nD Cert.WoutRefIdeal.τ).loc Cert.WoutRefIdeal.main_arg0) = m ((c.tc : Thread Cert.WoutIdeal.nD Cert.WoutIdeal.τ).loc Cert.WoutIdeal.main_arg0)
      ∧ m' ((c.tc : Thread Cert.WoutRefIdeal.nD Cert.WoutRefIdeal.τ).loc Cert.WoutRefIdeal.main_arg1) = m ((c.tc : Thread Cert.WoutIdeal.nD Cert.WoutIdeal.τ).loc Cert.WoutIdeal.main_arg1)
      ∧ m' ((c.tc : Thread Cert.WoutRefIdeal.nD Cert.WoutRefIdeal.τ).loc Cert.WoutRefIdeal.main_arg2) = m ((c.tc : Thread Cert.WoutIdeal.nD Cert.WoutIdeal.τ).loc Cert.WoutIdeal.main_arg2)) →
    ∃ (v0 : (c : Dev Cert.WoutIdeal.nD) → Buf (Elt Ideal) ((c.tc : Thread Cert.WoutIdeal.nD Cert.WoutIdeal.τ).loc Cert.WoutIdeal.main_v0)),
      θ_run (Cert.WoutIdeal.defs (F := Ideal)) (onTc (τ := Cert.WoutIdeal.τ) (Cert.WoutIdeal.main (F := Ideal))) ⟨m, fun _ => 0, g⟩ (fun r => ∀ c : Dev Cert.WoutIdeal.nD,
          r.2.mem ((c.tc : Thread Cert.WoutIdeal.nD Cert.WoutIdeal.τ).loc Cert.WoutIdeal.main_v0) = v0 c
          ∧ r.2.mem ((c.tc : Thread Cert.WoutIdeal.nD Cert.WoutIdeal.τ).loc Cert.WoutIdeal.main_arg0) = m ((c.tc : Thread Cert.WoutIdeal.nD Cert.WoutIdeal.τ).loc Cert.WoutIdeal.main_arg0)
          ∧ r.2.mem ((c.tc : Thread Cert.WoutIdeal.nD Cert.WoutIdeal.τ).loc Cert.WoutIdeal.main_arg1) = m ((c.tc : Thread Cert.WoutIdeal.nD Cert.WoutIdeal.τ).loc Cert.WoutIdeal.main_arg1)
          ∧ r.2.mem ((c.tc : Thread Cert.WoutIdeal.nD Cert.WoutIdeal.τ).loc Cert.WoutIdeal.main_arg2) = m ((c.tc : Thread Cert.WoutIdeal.nD Cert.WoutIdeal.τ).loc Cert.WoutIdeal.main_arg2))
      ∧ θ_run (Cert.WoutRefIdeal.defs (F := Ideal)) (onTc (τ := Cert.WoutRefIdeal.τ) (Cert.WoutRefIdeal.main (F := Ideal))) ⟨m', fun _ => 0, g'⟩ (fun r => ∀ c : Dev Cert.WoutRefIdeal.nD,
          r.2.mem ((c.tc : Thread Cert.WoutRefIdeal.nD Cert.WoutRefIdeal.τ).loc Cert.WoutRefIdeal.main_v5) = v0 c
          ∧ r.2.mem ((c.tc : Thread Cert.WoutRefIdeal.nD Cert.WoutRefIdeal.τ).loc Cert.WoutRefIdeal.main_arg0) = m' ((c.tc : Thread Cert.WoutRefIdeal.nD Cert.WoutRefIdeal.τ).loc Cert.WoutRefIdeal.main_arg0)
          ∧ r.2.mem ((c.tc : Thread Cert.WoutRefIdeal.nD Cert.WoutRefIdeal.τ).loc Cert.WoutRefIdeal.main_arg1) = m' ((c.tc : Thread Cert.WoutRefIdeal.nD Cert.WoutRefIdeal.τ).loc Cert.WoutRefIdeal.main_arg1)
          ∧ r.2.mem ((c.tc : Thread Cert.WoutRefIdeal.nD Cert.WoutRefIdeal.τ).loc Cert.WoutRefIdeal.main_arg2) = m' ((c.tc : Thread Cert.WoutRefIdeal.nD Cert.WoutRefIdeal.τ).loc Cert.WoutRefIdeal.main_arg2))

def preserves_Wglu_WgluIdeal : Prop :=
  True

def algebraic_WgluIdeal_WgluRefIdeal [hWgluIdeal : Cert.WgluIdeal.Facts] [hWgluRefIdeal : Cert.WgluRefIdeal.Facts] : Prop :=
  ∀ (m : (ℓ : Loc Cert.WgluIdeal.nD Cert.WgluIdeal.τ Cert.WgluIdeal.sig) → Buf (Elt Ideal) ℓ) (g : Dev Cert.WgluIdeal.nD → PrngReg)
    (m' : (ℓ : Loc Cert.WgluRefIdeal.nD Cert.WgluRefIdeal.τ Cert.WgluRefIdeal.sig) → Buf (Elt Ideal) ℓ) (g' : Dev Cert.WgluRefIdeal.nD → PrngReg), Pre_WgluIdeal m →
    (∀ c : Dev Cert.WgluIdeal.nD,
      m' ((c.tc : Thread Cert.WgluRefIdeal.nD Cert.WgluRefIdeal.τ).loc Cert.WgluRefIdeal.main_arg0) = m ((c.tc : Thread Cert.WgluIdeal.nD Cert.WgluIdeal.τ).loc Cert.WgluIdeal.main_arg0)
      ∧ m' ((c.tc : Thread Cert.WgluRefIdeal.nD Cert.WgluRefIdeal.τ).loc Cert.WgluRefIdeal.main_arg1) = m ((c.tc : Thread Cert.WgluIdeal.nD Cert.WgluIdeal.τ).loc Cert.WgluIdeal.main_arg1)
      ∧ m' ((c.tc : Thread Cert.WgluRefIdeal.nD Cert.WgluRefIdeal.τ).loc Cert.WgluRefIdeal.main_arg2) = m ((c.tc : Thread Cert.WgluIdeal.nD Cert.WgluIdeal.τ).loc Cert.WgluIdeal.main_arg2)) →
    ∃ (v0 : (c : Dev Cert.WgluIdeal.nD) → Buf (Elt Ideal) ((c.tc : Thread Cert.WgluIdeal.nD Cert.WgluIdeal.τ).loc Cert.WgluIdeal.main_v0)),
      θ_run (Cert.WgluIdeal.defs (F := Ideal)) (onTc (τ := Cert.WgluIdeal.τ) (Cert.WgluIdeal.main (F := Ideal))) ⟨m, fun _ => 0, g⟩ (fun r => ∀ c : Dev Cert.WgluIdeal.nD,
          r.2.mem ((c.tc : Thread Cert.WgluIdeal.nD Cert.WgluIdeal.τ).loc Cert.WgluIdeal.main_v0) = v0 c
          ∧ r.2.mem ((c.tc : Thread Cert.WgluIdeal.nD Cert.WgluIdeal.τ).loc Cert.WgluIdeal.main_arg0) = m ((c.tc : Thread Cert.WgluIdeal.nD Cert.WgluIdeal.τ).loc Cert.WgluIdeal.main_arg0)
          ∧ r.2.mem ((c.tc : Thread Cert.WgluIdeal.nD Cert.WgluIdeal.τ).loc Cert.WgluIdeal.main_arg1) = m ((c.tc : Thread Cert.WgluIdeal.nD Cert.WgluIdeal.τ).loc Cert.WgluIdeal.main_arg1)
          ∧ r.2.mem ((c.tc : Thread Cert.WgluIdeal.nD Cert.WgluIdeal.τ).loc Cert.WgluIdeal.main_arg2) = m ((c.tc : Thread Cert.WgluIdeal.nD Cert.WgluIdeal.τ).loc Cert.WgluIdeal.main_arg2))
      ∧ θ_run (Cert.WgluRefIdeal.defs (F := Ideal)) (onTc (τ := Cert.WgluRefIdeal.τ) (Cert.WgluRefIdeal.main (F := Ideal))) ⟨m', fun _ => 0, g'⟩ (fun r => ∀ c : Dev Cert.WgluRefIdeal.nD,
          r.2.mem ((c.tc : Thread Cert.WgluRefIdeal.nD Cert.WgluRefIdeal.τ).loc Cert.WgluRefIdeal.main_v18) = v0 c
          ∧ r.2.mem ((c.tc : Thread Cert.WgluRefIdeal.nD Cert.WgluRefIdeal.τ).loc Cert.WgluRefIdeal.main_arg0) = m' ((c.tc : Thread Cert.WgluRefIdeal.nD Cert.WgluRefIdeal.τ).loc Cert.WgluRefIdeal.main_arg0)
          ∧ r.2.mem ((c.tc : Thread Cert.WgluRefIdeal.nD Cert.WgluRefIdeal.τ).loc Cert.WgluRefIdeal.main_arg1) = m' ((c.tc : Thread Cert.WgluRefIdeal.nD Cert.WgluRefIdeal.τ).loc Cert.WgluRefIdeal.main_arg1)
          ∧ r.2.mem ((c.tc : Thread Cert.WgluRefIdeal.nD Cert.WgluRefIdeal.τ).loc Cert.WgluRefIdeal.main_arg2) = m' ((c.tc : Thread Cert.WgluRefIdeal.nD Cert.WgluRefIdeal.τ).loc Cert.WgluRefIdeal.main_arg2))

def preserves_Win_WinIdeal : Prop :=
  True

def algebraic_WinIdeal_WinRefIdeal [hWinIdeal : Cert.WinIdeal.Facts] [hWinRefIdeal : Cert.WinRefIdeal.Facts] : Prop :=
  ∀ (m : (ℓ : Loc Cert.WinIdeal.nD Cert.WinIdeal.τ Cert.WinIdeal.sig) → Buf (Elt Ideal) ℓ) (g : Dev Cert.WinIdeal.nD → PrngReg)
    (m' : (ℓ : Loc Cert.WinRefIdeal.nD Cert.WinRefIdeal.τ Cert.WinRefIdeal.sig) → Buf (Elt Ideal) ℓ) (g' : Dev Cert.WinRefIdeal.nD → PrngReg), Pre_WinIdeal m →
    (∀ c : Dev Cert.WinIdeal.nD,
      m' ((c.tc : Thread Cert.WinRefIdeal.nD Cert.WinRefIdeal.τ).loc Cert.WinRefIdeal.main_arg0) = m ((c.tc : Thread Cert.WinIdeal.nD Cert.WinIdeal.τ).loc Cert.WinIdeal.main_arg0)
      ∧ m' ((c.tc : Thread Cert.WinRefIdeal.nD Cert.WinRefIdeal.τ).loc Cert.WinRefIdeal.main_arg1) = m ((c.tc : Thread Cert.WinIdeal.nD Cert.WinIdeal.τ).loc Cert.WinIdeal.main_arg1)
      ∧ m' ((c.tc : Thread Cert.WinRefIdeal.nD Cert.WinRefIdeal.τ).loc Cert.WinRefIdeal.main_arg2) = m ((c.tc : Thread Cert.WinIdeal.nD Cert.WinIdeal.τ).loc Cert.WinIdeal.main_arg2)
      ∧ m' ((c.tc : Thread Cert.WinRefIdeal.nD Cert.WinRefIdeal.τ).loc Cert.WinRefIdeal.main_arg3) = m ((c.tc : Thread Cert.WinIdeal.nD Cert.WinIdeal.τ).loc Cert.WinIdeal.main_arg3)
      ∧ m' ((c.tc : Thread Cert.WinRefIdeal.nD Cert.WinRefIdeal.τ).loc Cert.WinRefIdeal.main_arg4) = m ((c.tc : Thread Cert.WinIdeal.nD Cert.WinIdeal.τ).loc Cert.WinIdeal.main_arg4)
      ∧ m' ((c.tc : Thread Cert.WinRefIdeal.nD Cert.WinRefIdeal.τ).loc Cert.WinRefIdeal.main_arg5) = m ((c.tc : Thread Cert.WinIdeal.nD Cert.WinIdeal.τ).loc Cert.WinIdeal.main_arg5)) →
    ∃ (v0 : (c : Dev Cert.WinIdeal.nD) → Buf (Elt Ideal) ((c.tc : Thread Cert.WinIdeal.nD Cert.WinIdeal.τ).loc Cert.WinIdeal.main_v0)),
      θ_run (Cert.WinIdeal.defs (F := Ideal)) (onTc (τ := Cert.WinIdeal.τ) (Cert.WinIdeal.main (F := Ideal))) ⟨m, fun _ => 0, g⟩ (fun r => ∀ c : Dev Cert.WinIdeal.nD,
          r.2.mem ((c.tc : Thread Cert.WinIdeal.nD Cert.WinIdeal.τ).loc Cert.WinIdeal.main_v0) = v0 c
          ∧ r.2.mem ((c.tc : Thread Cert.WinIdeal.nD Cert.WinIdeal.τ).loc Cert.WinIdeal.main_arg0) = m ((c.tc : Thread Cert.WinIdeal.nD Cert.WinIdeal.τ).loc Cert.WinIdeal.main_arg0)
          ∧ r.2.mem ((c.tc : Thread Cert.WinIdeal.nD Cert.WinIdeal.τ).loc Cert.WinIdeal.main_arg1) = m ((c.tc : Thread Cert.WinIdeal.nD Cert.WinIdeal.τ).loc Cert.WinIdeal.main_arg1)
          ∧ r.2.mem ((c.tc : Thread Cert.WinIdeal.nD Cert.WinIdeal.τ).loc Cert.WinIdeal.main_arg2) = m ((c.tc : Thread Cert.WinIdeal.nD Cert.WinIdeal.τ).loc Cert.WinIdeal.main_arg2)
          ∧ r.2.mem ((c.tc : Thread Cert.WinIdeal.nD Cert.WinIdeal.τ).loc Cert.WinIdeal.main_arg3) = m ((c.tc : Thread Cert.WinIdeal.nD Cert.WinIdeal.τ).loc Cert.WinIdeal.main_arg3)
          ∧ r.2.mem ((c.tc : Thread Cert.WinIdeal.nD Cert.WinIdeal.τ).loc Cert.WinIdeal.main_arg4) = m ((c.tc : Thread Cert.WinIdeal.nD Cert.WinIdeal.τ).loc Cert.WinIdeal.main_arg4)
          ∧ r.2.mem ((c.tc : Thread Cert.WinIdeal.nD Cert.WinIdeal.τ).loc Cert.WinIdeal.main_arg5) = m ((c.tc : Thread Cert.WinIdeal.nD Cert.WinIdeal.τ).loc Cert.WinIdeal.main_arg5))
      ∧ θ_run (Cert.WinRefIdeal.defs (F := Ideal)) (onTc (τ := Cert.WinRefIdeal.τ) (Cert.WinRefIdeal.main (F := Ideal))) ⟨m', fun _ => 0, g'⟩ (fun r => ∀ c : Dev Cert.WinRefIdeal.nD,
          r.2.mem ((c.tc : Thread Cert.WinRefIdeal.nD Cert.WinRefIdeal.τ).loc Cert.WinRefIdeal.main_v7) = v0 c
          ∧ r.2.mem ((c.tc : Thread Cert.WinRefIdeal.nD Cert.WinRefIdeal.τ).loc Cert.WinRefIdeal.main_arg0) = m' ((c.tc : Thread Cert.WinRefIdeal.nD Cert.WinRefIdeal.τ).loc Cert.WinRefIdeal.main_arg0)
          ∧ r.2.mem ((c.tc : Thread Cert.WinRefIdeal.nD Cert.WinRefIdeal.τ).loc Cert.WinRefIdeal.main_arg1) = m' ((c.tc : Thread Cert.WinRefIdeal.nD Cert.WinRefIdeal.τ).loc Cert.WinRefIdeal.main_arg1)
          ∧ r.2.mem ((c.tc : Thread Cert.WinRefIdeal.nD Cert.WinRefIdeal.τ).loc Cert.WinRefIdeal.main_arg2) = m' ((c.tc : Thread Cert.WinRefIdeal.nD Cert.WinRefIdeal.τ).loc Cert.WinRefIdeal.main_arg2)
          ∧ r.2.mem ((c.tc : Thread Cert.WinRefIdeal.nD Cert.WinRefIdeal.τ).loc Cert.WinRefIdeal.main_arg3) = m' ((c.tc : Thread Cert.WinRefIdeal.nD Cert.WinRefIdeal.τ).loc Cert.WinRefIdeal.main_arg3)
          ∧ r.2.mem ((c.tc : Thread Cert.WinRefIdeal.nD Cert.WinRefIdeal.τ).loc Cert.WinRefIdeal.main_arg4) = m' ((c.tc : Thread Cert.WinRefIdeal.nD Cert.WinRefIdeal.τ).loc Cert.WinRefIdeal.main_arg4)
          ∧ r.2.mem ((c.tc : Thread Cert.WinRefIdeal.nD Cert.WinRefIdeal.τ).loc Cert.WinRefIdeal.main_arg5) = m' ((c.tc : Thread Cert.WinRefIdeal.nD Cert.WinRefIdeal.τ).loc Cert.WinRefIdeal.main_arg5))

def preserves_Awin_AwinIdeal : Prop :=
  True

def algebraic_AwinIdeal_AwinRefIdeal [hAwinIdeal : Cert.AwinIdeal.Facts] [hAwinRefIdeal : Cert.AwinRefIdeal.Facts] : Prop :=
  ∀ (m : (ℓ : Loc Cert.AwinIdeal.nD Cert.AwinIdeal.τ Cert.AwinIdeal.sig) → Buf (Elt Ideal) ℓ) (g : Dev Cert.AwinIdeal.nD → PrngReg)
    (m' : (ℓ : Loc Cert.AwinRefIdeal.nD Cert.AwinRefIdeal.τ Cert.AwinRefIdeal.sig) → Buf (Elt Ideal) ℓ) (g' : Dev Cert.AwinRefIdeal.nD → PrngReg), Pre_AwinIdeal m →
    (∀ c : Dev Cert.AwinIdeal.nD,
      m' ((c.tc : Thread Cert.AwinRefIdeal.nD Cert.AwinRefIdeal.τ).loc Cert.AwinRefIdeal.main_arg0) = m ((c.tc : Thread Cert.AwinIdeal.nD Cert.AwinIdeal.τ).loc Cert.AwinIdeal.main_arg0)
      ∧ m' ((c.tc : Thread Cert.AwinRefIdeal.nD Cert.AwinRefIdeal.τ).loc Cert.AwinRefIdeal.main_arg1) = m ((c.tc : Thread Cert.AwinIdeal.nD Cert.AwinIdeal.τ).loc Cert.AwinIdeal.main_arg1)
      ∧ m' ((c.tc : Thread Cert.AwinRefIdeal.nD Cert.AwinRefIdeal.τ).loc Cert.AwinRefIdeal.main_arg2) = m ((c.tc : Thread Cert.AwinIdeal.nD Cert.AwinIdeal.τ).loc Cert.AwinIdeal.main_arg2)
      ∧ m' ((c.tc : Thread Cert.AwinRefIdeal.nD Cert.AwinRefIdeal.τ).loc Cert.AwinRefIdeal.main_arg3) = m ((c.tc : Thread Cert.AwinIdeal.nD Cert.AwinIdeal.τ).loc Cert.AwinIdeal.main_arg3)
      ∧ m' ((c.tc : Thread Cert.AwinRefIdeal.nD Cert.AwinRefIdeal.τ).loc Cert.AwinRefIdeal.main_arg4) = m ((c.tc : Thread Cert.AwinIdeal.nD Cert.AwinIdeal.τ).loc Cert.AwinIdeal.main_arg4)
      ∧ m' ((c.tc : Thread Cert.AwinRefIdeal.nD Cert.AwinRefIdeal.τ).loc Cert.AwinRefIdeal.main_arg5) = m ((c.tc : Thread Cert.AwinIdeal.nD Cert.AwinIdeal.τ).loc Cert.AwinIdeal.main_arg5)
      ∧ m' ((c.tc : Thread Cert.AwinRefIdeal.nD Cert.AwinRefIdeal.τ).loc Cert.AwinRefIdeal.main_arg6) = m ((c.tc : Thread Cert.AwinIdeal.nD Cert.AwinIdeal.τ).loc Cert.AwinIdeal.main_arg6)
      ∧ m' ((c.tc : Thread Cert.AwinRefIdeal.nD Cert.AwinRefIdeal.τ).loc Cert.AwinRefIdeal.main_arg7) = m ((c.tc : Thread Cert.AwinIdeal.nD Cert.AwinIdeal.τ).loc Cert.AwinIdeal.main_arg7)) →
    ∃ (v0 : (c : Dev Cert.AwinIdeal.nD) → Buf (Elt Ideal) ((c.tc : Thread Cert.AwinIdeal.nD Cert.AwinIdeal.τ).loc Cert.AwinIdeal.main_v0_0)) (v1 : (c : Dev Cert.AwinIdeal.nD) → Buf (Elt Ideal) ((c.tc : Thread Cert.AwinIdeal.nD Cert.AwinIdeal.τ).loc Cert.AwinIdeal.main_v0_1)) (v2 : (c : Dev Cert.AwinIdeal.nD) → Buf (Elt Ideal) ((c.tc : Thread Cert.AwinIdeal.nD Cert.AwinIdeal.τ).loc Cert.AwinIdeal.main_v0_2)) (v3 : (c : Dev Cert.AwinIdeal.nD) → Buf (Elt Ideal) ((c.tc : Thread Cert.AwinIdeal.nD Cert.AwinIdeal.τ).loc Cert.AwinIdeal.main_v0_3)),
      θ_run (Cert.AwinIdeal.defs (F := Ideal)) (onTc (τ := Cert.AwinIdeal.τ) (Cert.AwinIdeal.main (F := Ideal))) ⟨m, fun _ => 0, g⟩ (fun r => ∀ c : Dev Cert.AwinIdeal.nD,
          r.2.mem ((c.tc : Thread Cert.AwinIdeal.nD Cert.AwinIdeal.τ).loc Cert.AwinIdeal.main_v0_0) = v0 c
          ∧ r.2.mem ((c.tc : Thread Cert.AwinIdeal.nD Cert.AwinIdeal.τ).loc Cert.AwinIdeal.main_v0_1) = v1 c
          ∧ r.2.mem ((c.tc : Thread Cert.AwinIdeal.nD Cert.AwinIdeal.τ).loc Cert.AwinIdeal.main_v0_2) = v2 c
          ∧ r.2.mem ((c.tc : Thread Cert.AwinIdeal.nD Cert.AwinIdeal.τ).loc Cert.AwinIdeal.main_v0_3) = v3 c
          ∧ r.2.mem ((c.tc : Thread Cert.AwinIdeal.nD Cert.AwinIdeal.τ).loc Cert.AwinIdeal.main_arg0) = m ((c.tc : Thread Cert.AwinIdeal.nD Cert.AwinIdeal.τ).loc Cert.AwinIdeal.main_arg0)
          ∧ r.2.mem ((c.tc : Thread Cert.AwinIdeal.nD Cert.AwinIdeal.τ).loc Cert.AwinIdeal.main_arg1) = m ((c.tc : Thread Cert.AwinIdeal.nD Cert.AwinIdeal.τ).loc Cert.AwinIdeal.main_arg1)
          ∧ r.2.mem ((c.tc : Thread Cert.AwinIdeal.nD Cert.AwinIdeal.τ).loc Cert.AwinIdeal.main_arg2) = m ((c.tc : Thread Cert.AwinIdeal.nD Cert.AwinIdeal.τ).loc Cert.AwinIdeal.main_arg2)
          ∧ r.2.mem ((c.tc : Thread Cert.AwinIdeal.nD Cert.AwinIdeal.τ).loc Cert.AwinIdeal.main_arg3) = m ((c.tc : Thread Cert.AwinIdeal.nD Cert.AwinIdeal.τ).loc Cert.AwinIdeal.main_arg3)
          ∧ r.2.mem ((c.tc : Thread Cert.AwinIdeal.nD Cert.AwinIdeal.τ).loc Cert.AwinIdeal.main_arg4) = m ((c.tc : Thread Cert.AwinIdeal.nD Cert.AwinIdeal.τ).loc Cert.AwinIdeal.main_arg4)
          ∧ r.2.mem ((c.tc : Thread Cert.AwinIdeal.nD Cert.AwinIdeal.τ).loc Cert.AwinIdeal.main_arg5) = m ((c.tc : Thread Cert.AwinIdeal.nD Cert.AwinIdeal.τ).loc Cert.AwinIdeal.main_arg5)
          ∧ r.2.mem ((c.tc : Thread Cert.AwinIdeal.nD Cert.AwinIdeal.τ).loc Cert.AwinIdeal.main_arg6) = m ((c.tc : Thread Cert.AwinIdeal.nD Cert.AwinIdeal.τ).loc Cert.AwinIdeal.main_arg6)
          ∧ r.2.mem ((c.tc : Thread Cert.AwinIdeal.nD Cert.AwinIdeal.τ).loc Cert.AwinIdeal.main_arg7) = m ((c.tc : Thread Cert.AwinIdeal.nD Cert.AwinIdeal.τ).loc Cert.AwinIdeal.main_arg7))
      ∧ θ_run (Cert.AwinRefIdeal.defs (F := Ideal)) (onTc (τ := Cert.AwinRefIdeal.τ) (Cert.AwinRefIdeal.main (F := Ideal))) ⟨m', fun _ => 0, g'⟩ (fun r => ∀ c : Dev Cert.AwinRefIdeal.nD,
          r.2.mem ((c.tc : Thread Cert.AwinRefIdeal.nD Cert.AwinRefIdeal.τ).loc Cert.AwinRefIdeal.main_v34) = v0 c
          ∧ r.2.mem ((c.tc : Thread Cert.AwinRefIdeal.nD Cert.AwinRefIdeal.τ).loc Cert.AwinRefIdeal.main_v37) = v1 c
          ∧ r.2.mem ((c.tc : Thread Cert.AwinRefIdeal.nD Cert.AwinRefIdeal.τ).loc Cert.AwinRefIdeal.main_v40) = v2 c
          ∧ r.2.mem ((c.tc : Thread Cert.AwinRefIdeal.nD Cert.AwinRefIdeal.τ).loc Cert.AwinRefIdeal.main_v43) = v3 c
          ∧ r.2.mem ((c.tc : Thread Cert.AwinRefIdeal.nD Cert.AwinRefIdeal.τ).loc Cert.AwinRefIdeal.main_arg0) = m' ((c.tc : Thread Cert.AwinRefIdeal.nD Cert.AwinRefIdeal.τ).loc Cert.AwinRefIdeal.main_arg0)
          ∧ r.2.mem ((c.tc : Thread Cert.AwinRefIdeal.nD Cert.AwinRefIdeal.τ).loc Cert.AwinRefIdeal.main_arg1) = m' ((c.tc : Thread Cert.AwinRefIdeal.nD Cert.AwinRefIdeal.τ).loc Cert.AwinRefIdeal.main_arg1)
          ∧ r.2.mem ((c.tc : Thread Cert.AwinRefIdeal.nD Cert.AwinRefIdeal.τ).loc Cert.AwinRefIdeal.main_arg2) = m' ((c.tc : Thread Cert.AwinRefIdeal.nD Cert.AwinRefIdeal.τ).loc Cert.AwinRefIdeal.main_arg2)
          ∧ r.2.mem ((c.tc : Thread Cert.AwinRefIdeal.nD Cert.AwinRefIdeal.τ).loc Cert.AwinRefIdeal.main_arg3) = m' ((c.tc : Thread Cert.AwinRefIdeal.nD Cert.AwinRefIdeal.τ).loc Cert.AwinRefIdeal.main_arg3)
          ∧ r.2.mem ((c.tc : Thread Cert.AwinRefIdeal.nD Cert.AwinRefIdeal.τ).loc Cert.AwinRefIdeal.main_arg4) = m' ((c.tc : Thread Cert.AwinRefIdeal.nD Cert.AwinRefIdeal.τ).loc Cert.AwinRefIdeal.main_arg4)
          ∧ r.2.mem ((c.tc : Thread Cert.AwinRefIdeal.nD Cert.AwinRefIdeal.τ).loc Cert.AwinRefIdeal.main_arg5) = m' ((c.tc : Thread Cert.AwinRefIdeal.nD Cert.AwinRefIdeal.τ).loc Cert.AwinRefIdeal.main_arg5)
          ∧ r.2.mem ((c.tc : Thread Cert.AwinRefIdeal.nD Cert.AwinRefIdeal.τ).loc Cert.AwinRefIdeal.main_arg6) = m' ((c.tc : Thread Cert.AwinRefIdeal.nD Cert.AwinRefIdeal.τ).loc Cert.AwinRefIdeal.main_arg6)
          ∧ r.2.mem ((c.tc : Thread Cert.AwinRefIdeal.nD Cert.AwinRefIdeal.τ).loc Cert.AwinRefIdeal.main_arg7) = m' ((c.tc : Thread Cert.AwinRefIdeal.nD Cert.AwinRefIdeal.τ).loc Cert.AwinRefIdeal.main_arg7))

def preserves_Awglu_AwgluIdeal : Prop :=
  True

def algebraic_AwgluIdeal_AwgluRefIdeal [hAwgluIdeal : Cert.AwgluIdeal.Facts] [hAwgluRefIdeal : Cert.AwgluRefIdeal.Facts] : Prop :=
  ∀ (m : (ℓ : Loc Cert.AwgluIdeal.nD Cert.AwgluIdeal.τ Cert.AwgluIdeal.sig) → Buf (Elt Ideal) ℓ) (g : Dev Cert.AwgluIdeal.nD → PrngReg)
    (m' : (ℓ : Loc Cert.AwgluRefIdeal.nD Cert.AwgluRefIdeal.τ Cert.AwgluRefIdeal.sig) → Buf (Elt Ideal) ℓ) (g' : Dev Cert.AwgluRefIdeal.nD → PrngReg), Pre_AwgluIdeal m →
    (∀ c : Dev Cert.AwgluIdeal.nD,
      m' ((c.tc : Thread Cert.AwgluRefIdeal.nD Cert.AwgluRefIdeal.τ).loc Cert.AwgluRefIdeal.main_arg0) = m ((c.tc : Thread Cert.AwgluIdeal.nD Cert.AwgluIdeal.τ).loc Cert.AwgluIdeal.main_arg0)
      ∧ m' ((c.tc : Thread Cert.AwgluRefIdeal.nD Cert.AwgluRefIdeal.τ).loc Cert.AwgluRefIdeal.main_arg1) = m ((c.tc : Thread Cert.AwgluIdeal.nD Cert.AwgluIdeal.τ).loc Cert.AwgluIdeal.main_arg1)
      ∧ m' ((c.tc : Thread Cert.AwgluRefIdeal.nD Cert.AwgluRefIdeal.τ).loc Cert.AwgluRefIdeal.main_arg2) = m ((c.tc : Thread Cert.AwgluIdeal.nD Cert.AwgluIdeal.τ).loc Cert.AwgluIdeal.main_arg2)
      ∧ m' ((c.tc : Thread Cert.AwgluRefIdeal.nD Cert.AwgluRefIdeal.τ).loc Cert.AwgluRefIdeal.main_arg3) = m ((c.tc : Thread Cert.AwgluIdeal.nD Cert.AwgluIdeal.τ).loc Cert.AwgluIdeal.main_arg3)
      ∧ m' ((c.tc : Thread Cert.AwgluRefIdeal.nD Cert.AwgluRefIdeal.τ).loc Cert.AwgluRefIdeal.main_arg4) = m ((c.tc : Thread Cert.AwgluIdeal.nD Cert.AwgluIdeal.τ).loc Cert.AwgluIdeal.main_arg4)
      ∧ m' ((c.tc : Thread Cert.AwgluRefIdeal.nD Cert.AwgluRefIdeal.τ).loc Cert.AwgluRefIdeal.main_arg5) = m ((c.tc : Thread Cert.AwgluIdeal.nD Cert.AwgluIdeal.τ).loc Cert.AwgluIdeal.main_arg5)
      ∧ m' ((c.tc : Thread Cert.AwgluRefIdeal.nD Cert.AwgluRefIdeal.τ).loc Cert.AwgluRefIdeal.main_arg6) = m ((c.tc : Thread Cert.AwgluIdeal.nD Cert.AwgluIdeal.τ).loc Cert.AwgluIdeal.main_arg6)
      ∧ m' ((c.tc : Thread Cert.AwgluRefIdeal.nD Cert.AwgluRefIdeal.τ).loc Cert.AwgluRefIdeal.main_arg7) = m ((c.tc : Thread Cert.AwgluIdeal.nD Cert.AwgluIdeal.τ).loc Cert.AwgluIdeal.main_arg7)) →
    ∃ (v0 : (c : Dev Cert.AwgluIdeal.nD) → Buf (Elt Ideal) ((c.tc : Thread Cert.AwgluIdeal.nD Cert.AwgluIdeal.τ).loc Cert.AwgluIdeal.main_v0_0)) (v1 : (c : Dev Cert.AwgluIdeal.nD) → Buf (Elt Ideal) ((c.tc : Thread Cert.AwgluIdeal.nD Cert.AwgluIdeal.τ).loc Cert.AwgluIdeal.main_v0_1)) (v2 : (c : Dev Cert.AwgluIdeal.nD) → Buf (Elt Ideal) ((c.tc : Thread Cert.AwgluIdeal.nD Cert.AwgluIdeal.τ).loc Cert.AwgluIdeal.main_v0_2)) (v3 : (c : Dev Cert.AwgluIdeal.nD) → Buf (Elt Ideal) ((c.tc : Thread Cert.AwgluIdeal.nD Cert.AwgluIdeal.τ).loc Cert.AwgluIdeal.main_v0_3)),
      θ_run (Cert.AwgluIdeal.defs (F := Ideal)) (onTc (τ := Cert.AwgluIdeal.τ) (Cert.AwgluIdeal.main (F := Ideal))) ⟨m, fun _ => 0, g⟩ (fun r => ∀ c : Dev Cert.AwgluIdeal.nD,
          r.2.mem ((c.tc : Thread Cert.AwgluIdeal.nD Cert.AwgluIdeal.τ).loc Cert.AwgluIdeal.main_v0_0) = v0 c
          ∧ r.2.mem ((c.tc : Thread Cert.AwgluIdeal.nD Cert.AwgluIdeal.τ).loc Cert.AwgluIdeal.main_v0_1) = v1 c
          ∧ r.2.mem ((c.tc : Thread Cert.AwgluIdeal.nD Cert.AwgluIdeal.τ).loc Cert.AwgluIdeal.main_v0_2) = v2 c
          ∧ r.2.mem ((c.tc : Thread Cert.AwgluIdeal.nD Cert.AwgluIdeal.τ).loc Cert.AwgluIdeal.main_v0_3) = v3 c
          ∧ r.2.mem ((c.tc : Thread Cert.AwgluIdeal.nD Cert.AwgluIdeal.τ).loc Cert.AwgluIdeal.main_arg0) = m ((c.tc : Thread Cert.AwgluIdeal.nD Cert.AwgluIdeal.τ).loc Cert.AwgluIdeal.main_arg0)
          ∧ r.2.mem ((c.tc : Thread Cert.AwgluIdeal.nD Cert.AwgluIdeal.τ).loc Cert.AwgluIdeal.main_arg1) = m ((c.tc : Thread Cert.AwgluIdeal.nD Cert.AwgluIdeal.τ).loc Cert.AwgluIdeal.main_arg1)
          ∧ r.2.mem ((c.tc : Thread Cert.AwgluIdeal.nD Cert.AwgluIdeal.τ).loc Cert.AwgluIdeal.main_arg2) = m ((c.tc : Thread Cert.AwgluIdeal.nD Cert.AwgluIdeal.τ).loc Cert.AwgluIdeal.main_arg2)
          ∧ r.2.mem ((c.tc : Thread Cert.AwgluIdeal.nD Cert.AwgluIdeal.τ).loc Cert.AwgluIdeal.main_arg3) = m ((c.tc : Thread Cert.AwgluIdeal.nD Cert.AwgluIdeal.τ).loc Cert.AwgluIdeal.main_arg3)
          ∧ r.2.mem ((c.tc : Thread Cert.AwgluIdeal.nD Cert.AwgluIdeal.τ).loc Cert.AwgluIdeal.main_arg4) = m ((c.tc : Thread Cert.AwgluIdeal.nD Cert.AwgluIdeal.τ).loc Cert.AwgluIdeal.main_arg4)
          ∧ r.2.mem ((c.tc : Thread Cert.AwgluIdeal.nD Cert.AwgluIdeal.τ).loc Cert.AwgluIdeal.main_arg5) = m ((c.tc : Thread Cert.AwgluIdeal.nD Cert.AwgluIdeal.τ).loc Cert.AwgluIdeal.main_arg5)
          ∧ r.2.mem ((c.tc : Thread Cert.AwgluIdeal.nD Cert.AwgluIdeal.τ).loc Cert.AwgluIdeal.main_arg6) = m ((c.tc : Thread Cert.AwgluIdeal.nD Cert.AwgluIdeal.τ).loc Cert.AwgluIdeal.main_arg6)
          ∧ r.2.mem ((c.tc : Thread Cert.AwgluIdeal.nD Cert.AwgluIdeal.τ).loc Cert.AwgluIdeal.main_arg7) = m ((c.tc : Thread Cert.AwgluIdeal.nD Cert.AwgluIdeal.τ).loc Cert.AwgluIdeal.main_arg7))
      ∧ θ_run (Cert.AwgluRefIdeal.defs (F := Ideal)) (onTc (τ := Cert.AwgluRefIdeal.τ) (Cert.AwgluRefIdeal.main (F := Ideal))) ⟨m', fun _ => 0, g'⟩ (fun r => ∀ c : Dev Cert.AwgluRefIdeal.nD,
          r.2.mem ((c.tc : Thread Cert.AwgluRefIdeal.nD Cert.AwgluRefIdeal.τ).loc Cert.AwgluRefIdeal.main_v34) = v0 c
          ∧ r.2.mem ((c.tc : Thread Cert.AwgluRefIdeal.nD Cert.AwgluRefIdeal.τ).loc Cert.AwgluRefIdeal.main_v37) = v1 c
          ∧ r.2.mem ((c.tc : Thread Cert.AwgluRefIdeal.nD Cert.AwgluRefIdeal.τ).loc Cert.AwgluRefIdeal.main_v40) = v2 c
          ∧ r.2.mem ((c.tc : Thread Cert.AwgluRefIdeal.nD Cert.AwgluRefIdeal.τ).loc Cert.AwgluRefIdeal.main_v43) = v3 c
          ∧ r.2.mem ((c.tc : Thread Cert.AwgluRefIdeal.nD Cert.AwgluRefIdeal.τ).loc Cert.AwgluRefIdeal.main_arg0) = m' ((c.tc : Thread Cert.AwgluRefIdeal.nD Cert.AwgluRefIdeal.τ).loc Cert.AwgluRefIdeal.main_arg0)
          ∧ r.2.mem ((c.tc : Thread Cert.AwgluRefIdeal.nD Cert.AwgluRefIdeal.τ).loc Cert.AwgluRefIdeal.main_arg1) = m' ((c.tc : Thread Cert.AwgluRefIdeal.nD Cert.AwgluRefIdeal.τ).loc Cert.AwgluRefIdeal.main_arg1)
          ∧ r.2.mem ((c.tc : Thread Cert.AwgluRefIdeal.nD Cert.AwgluRefIdeal.τ).loc Cert.AwgluRefIdeal.main_arg2) = m' ((c.tc : Thread Cert.AwgluRefIdeal.nD Cert.AwgluRefIdeal.τ).loc Cert.AwgluRefIdeal.main_arg2)
          ∧ r.2.mem ((c.tc : Thread Cert.AwgluRefIdeal.nD Cert.AwgluRefIdeal.τ).loc Cert.AwgluRefIdeal.main_arg3) = m' ((c.tc : Thread Cert.AwgluRefIdeal.nD Cert.AwgluRefIdeal.τ).loc Cert.AwgluRefIdeal.main_arg3)
          ∧ r.2.mem ((c.tc : Thread Cert.AwgluRefIdeal.nD Cert.AwgluRefIdeal.τ).loc Cert.AwgluRefIdeal.main_arg4) = m' ((c.tc : Thread Cert.AwgluRefIdeal.nD Cert.AwgluRefIdeal.τ).loc Cert.AwgluRefIdeal.main_arg4)
          ∧ r.2.mem ((c.tc : Thread Cert.AwgluRefIdeal.nD Cert.AwgluRefIdeal.τ).loc Cert.AwgluRefIdeal.main_arg5) = m' ((c.tc : Thread Cert.AwgluRefIdeal.nD Cert.AwgluRefIdeal.τ).loc Cert.AwgluRefIdeal.main_arg5)
          ∧ r.2.mem ((c.tc : Thread Cert.AwgluRefIdeal.nD Cert.AwgluRefIdeal.τ).loc Cert.AwgluRefIdeal.main_arg6) = m' ((c.tc : Thread Cert.AwgluRefIdeal.nD Cert.AwgluRefIdeal.τ).loc Cert.AwgluRefIdeal.main_arg6)
          ∧ r.2.mem ((c.tc : Thread Cert.AwgluRefIdeal.nD Cert.AwgluRefIdeal.τ).loc Cert.AwgluRefIdeal.main_arg7) = m' ((c.tc : Thread Cert.AwgluRefIdeal.nD Cert.AwgluRefIdeal.τ).loc Cert.AwgluRefIdeal.main_arg7))

def preserves_Awout_AwoutIdeal : Prop :=
  True

def algebraic_AwoutIdeal_AwoutRefIdeal [hAwoutIdeal : Cert.AwoutIdeal.Facts] [hAwoutRefIdeal : Cert.AwoutRefIdeal.Facts] : Prop :=
  ∀ (m : (ℓ : Loc Cert.AwoutIdeal.nD Cert.AwoutIdeal.τ Cert.AwoutIdeal.sig) → Buf (Elt Ideal) ℓ) (g : Dev Cert.AwoutIdeal.nD → PrngReg)
    (m' : (ℓ : Loc Cert.AwoutRefIdeal.nD Cert.AwoutRefIdeal.τ Cert.AwoutRefIdeal.sig) → Buf (Elt Ideal) ℓ) (g' : Dev Cert.AwoutRefIdeal.nD → PrngReg), Pre_AwoutIdeal m →
    (∀ c : Dev Cert.AwoutIdeal.nD,
      m' ((c.tc : Thread Cert.AwoutRefIdeal.nD Cert.AwoutRefIdeal.τ).loc Cert.AwoutRefIdeal.main_arg0) = m ((c.tc : Thread Cert.AwoutIdeal.nD Cert.AwoutIdeal.τ).loc Cert.AwoutIdeal.main_arg0)
      ∧ m' ((c.tc : Thread Cert.AwoutRefIdeal.nD Cert.AwoutRefIdeal.τ).loc Cert.AwoutRefIdeal.main_arg1) = m ((c.tc : Thread Cert.AwoutIdeal.nD Cert.AwoutIdeal.τ).loc Cert.AwoutIdeal.main_arg1)
      ∧ m' ((c.tc : Thread Cert.AwoutRefIdeal.nD Cert.AwoutRefIdeal.τ).loc Cert.AwoutRefIdeal.main_arg2) = m ((c.tc : Thread Cert.AwoutIdeal.nD Cert.AwoutIdeal.τ).loc Cert.AwoutIdeal.main_arg2)
      ∧ m' ((c.tc : Thread Cert.AwoutRefIdeal.nD Cert.AwoutRefIdeal.τ).loc Cert.AwoutRefIdeal.main_arg3) = m ((c.tc : Thread Cert.AwoutIdeal.nD Cert.AwoutIdeal.τ).loc Cert.AwoutIdeal.main_arg3)
      ∧ m' ((c.tc : Thread Cert.AwoutRefIdeal.nD Cert.AwoutRefIdeal.τ).loc Cert.AwoutRefIdeal.main_arg4) = m ((c.tc : Thread Cert.AwoutIdeal.nD Cert.AwoutIdeal.τ).loc Cert.AwoutIdeal.main_arg4)
      ∧ m' ((c.tc : Thread Cert.AwoutRefIdeal.nD Cert.AwoutRefIdeal.τ).loc Cert.AwoutRefIdeal.main_arg5) = m ((c.tc : Thread Cert.AwoutIdeal.nD Cert.AwoutIdeal.τ).loc Cert.AwoutIdeal.main_arg5)
      ∧ m' ((c.tc : Thread Cert.AwoutRefIdeal.nD Cert.AwoutRefIdeal.τ).loc Cert.AwoutRefIdeal.main_arg6) = m ((c.tc : Thread Cert.AwoutIdeal.nD Cert.AwoutIdeal.τ).loc Cert.AwoutIdeal.main_arg6)
      ∧ m' ((c.tc : Thread Cert.AwoutRefIdeal.nD Cert.AwoutRefIdeal.τ).loc Cert.AwoutRefIdeal.main_arg7) = m ((c.tc : Thread Cert.AwoutIdeal.nD Cert.AwoutIdeal.τ).loc Cert.AwoutIdeal.main_arg7)) →
    ∃ (v0 : (c : Dev Cert.AwoutIdeal.nD) → Buf (Elt Ideal) ((c.tc : Thread Cert.AwoutIdeal.nD Cert.AwoutIdeal.τ).loc Cert.AwoutIdeal.main_v0_0)) (v1 : (c : Dev Cert.AwoutIdeal.nD) → Buf (Elt Ideal) ((c.tc : Thread Cert.AwoutIdeal.nD Cert.AwoutIdeal.τ).loc Cert.AwoutIdeal.main_v0_1)) (v2 : (c : Dev Cert.AwoutIdeal.nD) → Buf (Elt Ideal) ((c.tc : Thread Cert.AwoutIdeal.nD Cert.AwoutIdeal.τ).loc Cert.AwoutIdeal.main_v0_2)) (v3 : (c : Dev Cert.AwoutIdeal.nD) → Buf (Elt Ideal) ((c.tc : Thread Cert.AwoutIdeal.nD Cert.AwoutIdeal.τ).loc Cert.AwoutIdeal.main_v0_3)),
      θ_run (Cert.AwoutIdeal.defs (F := Ideal)) (onTc (τ := Cert.AwoutIdeal.τ) (Cert.AwoutIdeal.main (F := Ideal))) ⟨m, fun _ => 0, g⟩ (fun r => ∀ c : Dev Cert.AwoutIdeal.nD,
          r.2.mem ((c.tc : Thread Cert.AwoutIdeal.nD Cert.AwoutIdeal.τ).loc Cert.AwoutIdeal.main_v0_0) = v0 c
          ∧ r.2.mem ((c.tc : Thread Cert.AwoutIdeal.nD Cert.AwoutIdeal.τ).loc Cert.AwoutIdeal.main_v0_1) = v1 c
          ∧ r.2.mem ((c.tc : Thread Cert.AwoutIdeal.nD Cert.AwoutIdeal.τ).loc Cert.AwoutIdeal.main_v0_2) = v2 c
          ∧ r.2.mem ((c.tc : Thread Cert.AwoutIdeal.nD Cert.AwoutIdeal.τ).loc Cert.AwoutIdeal.main_v0_3) = v3 c
          ∧ r.2.mem ((c.tc : Thread Cert.AwoutIdeal.nD Cert.AwoutIdeal.τ).loc Cert.AwoutIdeal.main_arg0) = m ((c.tc : Thread Cert.AwoutIdeal.nD Cert.AwoutIdeal.τ).loc Cert.AwoutIdeal.main_arg0)
          ∧ r.2.mem ((c.tc : Thread Cert.AwoutIdeal.nD Cert.AwoutIdeal.τ).loc Cert.AwoutIdeal.main_arg1) = m ((c.tc : Thread Cert.AwoutIdeal.nD Cert.AwoutIdeal.τ).loc Cert.AwoutIdeal.main_arg1)
          ∧ r.2.mem ((c.tc : Thread Cert.AwoutIdeal.nD Cert.AwoutIdeal.τ).loc Cert.AwoutIdeal.main_arg2) = m ((c.tc : Thread Cert.AwoutIdeal.nD Cert.AwoutIdeal.τ).loc Cert.AwoutIdeal.main_arg2)
          ∧ r.2.mem ((c.tc : Thread Cert.AwoutIdeal.nD Cert.AwoutIdeal.τ).loc Cert.AwoutIdeal.main_arg3) = m ((c.tc : Thread Cert.AwoutIdeal.nD Cert.AwoutIdeal.τ).loc Cert.AwoutIdeal.main_arg3)
          ∧ r.2.mem ((c.tc : Thread Cert.AwoutIdeal.nD Cert.AwoutIdeal.τ).loc Cert.AwoutIdeal.main_arg4) = m ((c.tc : Thread Cert.AwoutIdeal.nD Cert.AwoutIdeal.τ).loc Cert.AwoutIdeal.main_arg4)
          ∧ r.2.mem ((c.tc : Thread Cert.AwoutIdeal.nD Cert.AwoutIdeal.τ).loc Cert.AwoutIdeal.main_arg5) = m ((c.tc : Thread Cert.AwoutIdeal.nD Cert.AwoutIdeal.τ).loc Cert.AwoutIdeal.main_arg5)
          ∧ r.2.mem ((c.tc : Thread Cert.AwoutIdeal.nD Cert.AwoutIdeal.τ).loc Cert.AwoutIdeal.main_arg6) = m ((c.tc : Thread Cert.AwoutIdeal.nD Cert.AwoutIdeal.τ).loc Cert.AwoutIdeal.main_arg6)
          ∧ r.2.mem ((c.tc : Thread Cert.AwoutIdeal.nD Cert.AwoutIdeal.τ).loc Cert.AwoutIdeal.main_arg7) = m ((c.tc : Thread Cert.AwoutIdeal.nD Cert.AwoutIdeal.τ).loc Cert.AwoutIdeal.main_arg7))
      ∧ θ_run (Cert.AwoutRefIdeal.defs (F := Ideal)) (onTc (τ := Cert.AwoutRefIdeal.τ) (Cert.AwoutRefIdeal.main (F := Ideal))) ⟨m', fun _ => 0, g'⟩ (fun r => ∀ c : Dev Cert.AwoutRefIdeal.nD,
          r.2.mem ((c.tc : Thread Cert.AwoutRefIdeal.nD Cert.AwoutRefIdeal.τ).loc Cert.AwoutRefIdeal.main_v34) = v0 c
          ∧ r.2.mem ((c.tc : Thread Cert.AwoutRefIdeal.nD Cert.AwoutRefIdeal.τ).loc Cert.AwoutRefIdeal.main_v37) = v1 c
          ∧ r.2.mem ((c.tc : Thread Cert.AwoutRefIdeal.nD Cert.AwoutRefIdeal.τ).loc Cert.AwoutRefIdeal.main_v40) = v2 c
          ∧ r.2.mem ((c.tc : Thread Cert.AwoutRefIdeal.nD Cert.AwoutRefIdeal.τ).loc Cert.AwoutRefIdeal.main_v43) = v3 c
          ∧ r.2.mem ((c.tc : Thread Cert.AwoutRefIdeal.nD Cert.AwoutRefIdeal.τ).loc Cert.AwoutRefIdeal.main_arg0) = m' ((c.tc : Thread Cert.AwoutRefIdeal.nD Cert.AwoutRefIdeal.τ).loc Cert.AwoutRefIdeal.main_arg0)
          ∧ r.2.mem ((c.tc : Thread Cert.AwoutRefIdeal.nD Cert.AwoutRefIdeal.τ).loc Cert.AwoutRefIdeal.main_arg1) = m' ((c.tc : Thread Cert.AwoutRefIdeal.nD Cert.AwoutRefIdeal.τ).loc Cert.AwoutRefIdeal.main_arg1)
          ∧ r.2.mem ((c.tc : Thread Cert.AwoutRefIdeal.nD Cert.AwoutRefIdeal.τ).loc Cert.AwoutRefIdeal.main_arg2) = m' ((c.tc : Thread Cert.AwoutRefIdeal.nD Cert.AwoutRefIdeal.τ).loc Cert.AwoutRefIdeal.main_arg2)
          ∧ r.2.mem ((c.tc : Thread Cert.AwoutRefIdeal.nD Cert.AwoutRefIdeal.τ).loc Cert.AwoutRefIdeal.main_arg3) = m' ((c.tc : Thread Cert.AwoutRefIdeal.nD Cert.AwoutRefIdeal.τ).loc Cert.AwoutRefIdeal.main_arg3)
          ∧ r.2.mem ((c.tc : Thread Cert.AwoutRefIdeal.nD Cert.AwoutRefIdeal.τ).loc Cert.AwoutRefIdeal.main_arg4) = m' ((c.tc : Thread Cert.AwoutRefIdeal.nD Cert.AwoutRefIdeal.τ).loc Cert.AwoutRefIdeal.main_arg4)
          ∧ r.2.mem ((c.tc : Thread Cert.AwoutRefIdeal.nD Cert.AwoutRefIdeal.τ).loc Cert.AwoutRefIdeal.main_arg5) = m' ((c.tc : Thread Cert.AwoutRefIdeal.nD Cert.AwoutRefIdeal.τ).loc Cert.AwoutRefIdeal.main_arg5)
          ∧ r.2.mem ((c.tc : Thread Cert.AwoutRefIdeal.nD Cert.AwoutRefIdeal.τ).loc Cert.AwoutRefIdeal.main_arg6) = m' ((c.tc : Thread Cert.AwoutRefIdeal.nD Cert.AwoutRefIdeal.τ).loc Cert.AwoutRefIdeal.main_arg6)
          ∧ r.2.mem ((c.tc : Thread Cert.AwoutRefIdeal.nD Cert.AwoutRefIdeal.τ).loc Cert.AwoutRefIdeal.main_arg7) = m' ((c.tc : Thread Cert.AwoutRefIdeal.nD Cert.AwoutRefIdeal.τ).loc Cert.AwoutRefIdeal.main_arg7))

def preserves_Awff1_Awff1Ideal : Prop :=
  True

def algebraic_Awff1Ideal_Awff1RefIdeal [hAwff1Ideal : Cert.Awff1Ideal.Facts] [hAwff1RefIdeal : Cert.Awff1RefIdeal.Facts] : Prop :=
  ∀ (m : (ℓ : Loc Cert.Awff1Ideal.nD Cert.Awff1Ideal.τ Cert.Awff1Ideal.sig) → Buf (Elt Ideal) ℓ) (g : Dev Cert.Awff1Ideal.nD → PrngReg)
    (m' : (ℓ : Loc Cert.Awff1RefIdeal.nD Cert.Awff1RefIdeal.τ Cert.Awff1RefIdeal.sig) → Buf (Elt Ideal) ℓ) (g' : Dev Cert.Awff1RefIdeal.nD → PrngReg), Pre_Awff1Ideal m →
    (∀ c : Dev Cert.Awff1Ideal.nD,
      m' ((c.tc : Thread Cert.Awff1RefIdeal.nD Cert.Awff1RefIdeal.τ).loc Cert.Awff1RefIdeal.main_arg0) = m ((c.tc : Thread Cert.Awff1Ideal.nD Cert.Awff1Ideal.τ).loc Cert.Awff1Ideal.main_arg0)
      ∧ m' ((c.tc : Thread Cert.Awff1RefIdeal.nD Cert.Awff1RefIdeal.τ).loc Cert.Awff1RefIdeal.main_arg1) = m ((c.tc : Thread Cert.Awff1Ideal.nD Cert.Awff1Ideal.τ).loc Cert.Awff1Ideal.main_arg1)
      ∧ m' ((c.tc : Thread Cert.Awff1RefIdeal.nD Cert.Awff1RefIdeal.τ).loc Cert.Awff1RefIdeal.main_arg2) = m ((c.tc : Thread Cert.Awff1Ideal.nD Cert.Awff1Ideal.τ).loc Cert.Awff1Ideal.main_arg2)
      ∧ m' ((c.tc : Thread Cert.Awff1RefIdeal.nD Cert.Awff1RefIdeal.τ).loc Cert.Awff1RefIdeal.main_arg3) = m ((c.tc : Thread Cert.Awff1Ideal.nD Cert.Awff1Ideal.τ).loc Cert.Awff1Ideal.main_arg3)
      ∧ m' ((c.tc : Thread Cert.Awff1RefIdeal.nD Cert.Awff1RefIdeal.τ).loc Cert.Awff1RefIdeal.main_arg4) = m ((c.tc : Thread Cert.Awff1Ideal.nD Cert.Awff1Ideal.τ).loc Cert.Awff1Ideal.main_arg4)
      ∧ m' ((c.tc : Thread Cert.Awff1RefIdeal.nD Cert.Awff1RefIdeal.τ).loc Cert.Awff1RefIdeal.main_arg5) = m ((c.tc : Thread Cert.Awff1Ideal.nD Cert.Awff1Ideal.τ).loc Cert.Awff1Ideal.main_arg5)
      ∧ m' ((c.tc : Thread Cert.Awff1RefIdeal.nD Cert.Awff1RefIdeal.τ).loc Cert.Awff1RefIdeal.main_arg6) = m ((c.tc : Thread Cert.Awff1Ideal.nD Cert.Awff1Ideal.τ).loc Cert.Awff1Ideal.main_arg6)
      ∧ m' ((c.tc : Thread Cert.Awff1RefIdeal.nD Cert.Awff1RefIdeal.τ).loc Cert.Awff1RefIdeal.main_arg7) = m ((c.tc : Thread Cert.Awff1Ideal.nD Cert.Awff1Ideal.τ).loc Cert.Awff1Ideal.main_arg7)) →
    ∃ (v0 : (c : Dev Cert.Awff1Ideal.nD) → Buf (Elt Ideal) ((c.tc : Thread Cert.Awff1Ideal.nD Cert.Awff1Ideal.τ).loc Cert.Awff1Ideal.main_v0_0)) (v1 : (c : Dev Cert.Awff1Ideal.nD) → Buf (Elt Ideal) ((c.tc : Thread Cert.Awff1Ideal.nD Cert.Awff1Ideal.τ).loc Cert.Awff1Ideal.main_v0_1)) (v2 : (c : Dev Cert.Awff1Ideal.nD) → Buf (Elt Ideal) ((c.tc : Thread Cert.Awff1Ideal.nD Cert.Awff1Ideal.τ).loc Cert.Awff1Ideal.main_v0_2)) (v3 : (c : Dev Cert.Awff1Ideal.nD) → Buf (Elt Ideal) ((c.tc : Thread Cert.Awff1Ideal.nD Cert.Awff1Ideal.τ).loc Cert.Awff1Ideal.main_v0_3)),
      θ_run (Cert.Awff1Ideal.defs (F := Ideal)) (onTc (τ := Cert.Awff1Ideal.τ) (Cert.Awff1Ideal.main (F := Ideal))) ⟨m, fun _ => 0, g⟩ (fun r => ∀ c : Dev Cert.Awff1Ideal.nD,
          r.2.mem ((c.tc : Thread Cert.Awff1Ideal.nD Cert.Awff1Ideal.τ).loc Cert.Awff1Ideal.main_v0_0) = v0 c
          ∧ r.2.mem ((c.tc : Thread Cert.Awff1Ideal.nD Cert.Awff1Ideal.τ).loc Cert.Awff1Ideal.main_v0_1) = v1 c
          ∧ r.2.mem ((c.tc : Thread Cert.Awff1Ideal.nD Cert.Awff1Ideal.τ).loc Cert.Awff1Ideal.main_v0_2) = v2 c
          ∧ r.2.mem ((c.tc : Thread Cert.Awff1Ideal.nD Cert.Awff1Ideal.τ).loc Cert.Awff1Ideal.main_v0_3) = v3 c
          ∧ r.2.mem ((c.tc : Thread Cert.Awff1Ideal.nD Cert.Awff1Ideal.τ).loc Cert.Awff1Ideal.main_arg0) = m ((c.tc : Thread Cert.Awff1Ideal.nD Cert.Awff1Ideal.τ).loc Cert.Awff1Ideal.main_arg0)
          ∧ r.2.mem ((c.tc : Thread Cert.Awff1Ideal.nD Cert.Awff1Ideal.τ).loc Cert.Awff1Ideal.main_arg1) = m ((c.tc : Thread Cert.Awff1Ideal.nD Cert.Awff1Ideal.τ).loc Cert.Awff1Ideal.main_arg1)
          ∧ r.2.mem ((c.tc : Thread Cert.Awff1Ideal.nD Cert.Awff1Ideal.τ).loc Cert.Awff1Ideal.main_arg2) = m ((c.tc : Thread Cert.Awff1Ideal.nD Cert.Awff1Ideal.τ).loc Cert.Awff1Ideal.main_arg2)
          ∧ r.2.mem ((c.tc : Thread Cert.Awff1Ideal.nD Cert.Awff1Ideal.τ).loc Cert.Awff1Ideal.main_arg3) = m ((c.tc : Thread Cert.Awff1Ideal.nD Cert.Awff1Ideal.τ).loc Cert.Awff1Ideal.main_arg3)
          ∧ r.2.mem ((c.tc : Thread Cert.Awff1Ideal.nD Cert.Awff1Ideal.τ).loc Cert.Awff1Ideal.main_arg4) = m ((c.tc : Thread Cert.Awff1Ideal.nD Cert.Awff1Ideal.τ).loc Cert.Awff1Ideal.main_arg4)
          ∧ r.2.mem ((c.tc : Thread Cert.Awff1Ideal.nD Cert.Awff1Ideal.τ).loc Cert.Awff1Ideal.main_arg5) = m ((c.tc : Thread Cert.Awff1Ideal.nD Cert.Awff1Ideal.τ).loc Cert.Awff1Ideal.main_arg5)
          ∧ r.2.mem ((c.tc : Thread Cert.Awff1Ideal.nD Cert.Awff1Ideal.τ).loc Cert.Awff1Ideal.main_arg6) = m ((c.tc : Thread Cert.Awff1Ideal.nD Cert.Awff1Ideal.τ).loc Cert.Awff1Ideal.main_arg6)
          ∧ r.2.mem ((c.tc : Thread Cert.Awff1Ideal.nD Cert.Awff1Ideal.τ).loc Cert.Awff1Ideal.main_arg7) = m ((c.tc : Thread Cert.Awff1Ideal.nD Cert.Awff1Ideal.τ).loc Cert.Awff1Ideal.main_arg7))
      ∧ θ_run (Cert.Awff1RefIdeal.defs (F := Ideal)) (onTc (τ := Cert.Awff1RefIdeal.τ) (Cert.Awff1RefIdeal.main (F := Ideal))) ⟨m', fun _ => 0, g'⟩ (fun r => ∀ c : Dev Cert.Awff1RefIdeal.nD,
          r.2.mem ((c.tc : Thread Cert.Awff1RefIdeal.nD Cert.Awff1RefIdeal.τ).loc Cert.Awff1RefIdeal.main_v34) = v0 c
          ∧ r.2.mem ((c.tc : Thread Cert.Awff1RefIdeal.nD Cert.Awff1RefIdeal.τ).loc Cert.Awff1RefIdeal.main_v37) = v1 c
          ∧ r.2.mem ((c.tc : Thread Cert.Awff1RefIdeal.nD Cert.Awff1RefIdeal.τ).loc Cert.Awff1RefIdeal.main_v40) = v2 c
          ∧ r.2.mem ((c.tc : Thread Cert.Awff1RefIdeal.nD Cert.Awff1RefIdeal.τ).loc Cert.Awff1RefIdeal.main_v43) = v3 c
          ∧ r.2.mem ((c.tc : Thread Cert.Awff1RefIdeal.nD Cert.Awff1RefIdeal.τ).loc Cert.Awff1RefIdeal.main_arg0) = m' ((c.tc : Thread Cert.Awff1RefIdeal.nD Cert.Awff1RefIdeal.τ).loc Cert.Awff1RefIdeal.main_arg0)
          ∧ r.2.mem ((c.tc : Thread Cert.Awff1RefIdeal.nD Cert.Awff1RefIdeal.τ).loc Cert.Awff1RefIdeal.main_arg1) = m' ((c.tc : Thread Cert.Awff1RefIdeal.nD Cert.Awff1RefIdeal.τ).loc Cert.Awff1RefIdeal.main_arg1)
          ∧ r.2.mem ((c.tc : Thread Cert.Awff1RefIdeal.nD Cert.Awff1RefIdeal.τ).loc Cert.Awff1RefIdeal.main_arg2) = m' ((c.tc : Thread Cert.Awff1RefIdeal.nD Cert.Awff1RefIdeal.τ).loc Cert.Awff1RefIdeal.main_arg2)
          ∧ r.2.mem ((c.tc : Thread Cert.Awff1RefIdeal.nD Cert.Awff1RefIdeal.τ).loc Cert.Awff1RefIdeal.main_arg3) = m' ((c.tc : Thread Cert.Awff1RefIdeal.nD Cert.Awff1RefIdeal.τ).loc Cert.Awff1RefIdeal.main_arg3)
          ∧ r.2.mem ((c.tc : Thread Cert.Awff1RefIdeal.nD Cert.Awff1RefIdeal.τ).loc Cert.Awff1RefIdeal.main_arg4) = m' ((c.tc : Thread Cert.Awff1RefIdeal.nD Cert.Awff1RefIdeal.τ).loc Cert.Awff1RefIdeal.main_arg4)
          ∧ r.2.mem ((c.tc : Thread Cert.Awff1RefIdeal.nD Cert.Awff1RefIdeal.τ).loc Cert.Awff1RefIdeal.main_arg5) = m' ((c.tc : Thread Cert.Awff1RefIdeal.nD Cert.Awff1RefIdeal.τ).loc Cert.Awff1RefIdeal.main_arg5)
          ∧ r.2.mem ((c.tc : Thread Cert.Awff1RefIdeal.nD Cert.Awff1RefIdeal.τ).loc Cert.Awff1RefIdeal.main_arg6) = m' ((c.tc : Thread Cert.Awff1RefIdeal.nD Cert.Awff1RefIdeal.τ).loc Cert.Awff1RefIdeal.main_arg6)
          ∧ r.2.mem ((c.tc : Thread Cert.Awff1RefIdeal.nD Cert.Awff1RefIdeal.τ).loc Cert.Awff1RefIdeal.main_arg7) = m' ((c.tc : Thread Cert.Awff1RefIdeal.nD Cert.Awff1RefIdeal.τ).loc Cert.Awff1RefIdeal.main_arg7))

def preserves_Awff2_Awff2Ideal : Prop :=
  True

def algebraic_Awff2Ideal_Awff2RefIdeal [hAwff2Ideal : Cert.Awff2Ideal.Facts] [hAwff2RefIdeal : Cert.Awff2RefIdeal.Facts] : Prop :=
  ∀ (m : (ℓ : Loc Cert.Awff2Ideal.nD Cert.Awff2Ideal.τ Cert.Awff2Ideal.sig) → Buf (Elt Ideal) ℓ) (g : Dev Cert.Awff2Ideal.nD → PrngReg)
    (m' : (ℓ : Loc Cert.Awff2RefIdeal.nD Cert.Awff2RefIdeal.τ Cert.Awff2RefIdeal.sig) → Buf (Elt Ideal) ℓ) (g' : Dev Cert.Awff2RefIdeal.nD → PrngReg), Pre_Awff2Ideal m →
    (∀ c : Dev Cert.Awff2Ideal.nD,
      m' ((c.tc : Thread Cert.Awff2RefIdeal.nD Cert.Awff2RefIdeal.τ).loc Cert.Awff2RefIdeal.main_arg0) = m ((c.tc : Thread Cert.Awff2Ideal.nD Cert.Awff2Ideal.τ).loc Cert.Awff2Ideal.main_arg0)
      ∧ m' ((c.tc : Thread Cert.Awff2RefIdeal.nD Cert.Awff2RefIdeal.τ).loc Cert.Awff2RefIdeal.main_arg1) = m ((c.tc : Thread Cert.Awff2Ideal.nD Cert.Awff2Ideal.τ).loc Cert.Awff2Ideal.main_arg1)
      ∧ m' ((c.tc : Thread Cert.Awff2RefIdeal.nD Cert.Awff2RefIdeal.τ).loc Cert.Awff2RefIdeal.main_arg2) = m ((c.tc : Thread Cert.Awff2Ideal.nD Cert.Awff2Ideal.τ).loc Cert.Awff2Ideal.main_arg2)
      ∧ m' ((c.tc : Thread Cert.Awff2RefIdeal.nD Cert.Awff2RefIdeal.τ).loc Cert.Awff2RefIdeal.main_arg3) = m ((c.tc : Thread Cert.Awff2Ideal.nD Cert.Awff2Ideal.τ).loc Cert.Awff2Ideal.main_arg3)
      ∧ m' ((c.tc : Thread Cert.Awff2RefIdeal.nD Cert.Awff2RefIdeal.τ).loc Cert.Awff2RefIdeal.main_arg4) = m ((c.tc : Thread Cert.Awff2Ideal.nD Cert.Awff2Ideal.τ).loc Cert.Awff2Ideal.main_arg4)
      ∧ m' ((c.tc : Thread Cert.Awff2RefIdeal.nD Cert.Awff2RefIdeal.τ).loc Cert.Awff2RefIdeal.main_arg5) = m ((c.tc : Thread Cert.Awff2Ideal.nD Cert.Awff2Ideal.τ).loc Cert.Awff2Ideal.main_arg5)
      ∧ m' ((c.tc : Thread Cert.Awff2RefIdeal.nD Cert.Awff2RefIdeal.τ).loc Cert.Awff2RefIdeal.main_arg6) = m ((c.tc : Thread Cert.Awff2Ideal.nD Cert.Awff2Ideal.τ).loc Cert.Awff2Ideal.main_arg6)
      ∧ m' ((c.tc : Thread Cert.Awff2RefIdeal.nD Cert.Awff2RefIdeal.τ).loc Cert.Awff2RefIdeal.main_arg7) = m ((c.tc : Thread Cert.Awff2Ideal.nD Cert.Awff2Ideal.τ).loc Cert.Awff2Ideal.main_arg7)) →
    ∃ (v0 : (c : Dev Cert.Awff2Ideal.nD) → Buf (Elt Ideal) ((c.tc : Thread Cert.Awff2Ideal.nD Cert.Awff2Ideal.τ).loc Cert.Awff2Ideal.main_v0_0)) (v1 : (c : Dev Cert.Awff2Ideal.nD) → Buf (Elt Ideal) ((c.tc : Thread Cert.Awff2Ideal.nD Cert.Awff2Ideal.τ).loc Cert.Awff2Ideal.main_v0_1)) (v2 : (c : Dev Cert.Awff2Ideal.nD) → Buf (Elt Ideal) ((c.tc : Thread Cert.Awff2Ideal.nD Cert.Awff2Ideal.τ).loc Cert.Awff2Ideal.main_v0_2)) (v3 : (c : Dev Cert.Awff2Ideal.nD) → Buf (Elt Ideal) ((c.tc : Thread Cert.Awff2Ideal.nD Cert.Awff2Ideal.τ).loc Cert.Awff2Ideal.main_v0_3)),
      θ_run (Cert.Awff2Ideal.defs (F := Ideal)) (onTc (τ := Cert.Awff2Ideal.τ) (Cert.Awff2Ideal.main (F := Ideal))) ⟨m, fun _ => 0, g⟩ (fun r => ∀ c : Dev Cert.Awff2Ideal.nD,
          r.2.mem ((c.tc : Thread Cert.Awff2Ideal.nD Cert.Awff2Ideal.τ).loc Cert.Awff2Ideal.main_v0_0) = v0 c
          ∧ r.2.mem ((c.tc : Thread Cert.Awff2Ideal.nD Cert.Awff2Ideal.τ).loc Cert.Awff2Ideal.main_v0_1) = v1 c
          ∧ r.2.mem ((c.tc : Thread Cert.Awff2Ideal.nD Cert.Awff2Ideal.τ).loc Cert.Awff2Ideal.main_v0_2) = v2 c
          ∧ r.2.mem ((c.tc : Thread Cert.Awff2Ideal.nD Cert.Awff2Ideal.τ).loc Cert.Awff2Ideal.main_v0_3) = v3 c
          ∧ r.2.mem ((c.tc : Thread Cert.Awff2Ideal.nD Cert.Awff2Ideal.τ).loc Cert.Awff2Ideal.main_arg0) = m ((c.tc : Thread Cert.Awff2Ideal.nD Cert.Awff2Ideal.τ).loc Cert.Awff2Ideal.main_arg0)
          ∧ r.2.mem ((c.tc : Thread Cert.Awff2Ideal.nD Cert.Awff2Ideal.τ).loc Cert.Awff2Ideal.main_arg1) = m ((c.tc : Thread Cert.Awff2Ideal.nD Cert.Awff2Ideal.τ).loc Cert.Awff2Ideal.main_arg1)
          ∧ r.2.mem ((c.tc : Thread Cert.Awff2Ideal.nD Cert.Awff2Ideal.τ).loc Cert.Awff2Ideal.main_arg2) = m ((c.tc : Thread Cert.Awff2Ideal.nD Cert.Awff2Ideal.τ).loc Cert.Awff2Ideal.main_arg2)
          ∧ r.2.mem ((c.tc : Thread Cert.Awff2Ideal.nD Cert.Awff2Ideal.τ).loc Cert.Awff2Ideal.main_arg3) = m ((c.tc : Thread Cert.Awff2Ideal.nD Cert.Awff2Ideal.τ).loc Cert.Awff2Ideal.main_arg3)
          ∧ r.2.mem ((c.tc : Thread Cert.Awff2Ideal.nD Cert.Awff2Ideal.τ).loc Cert.Awff2Ideal.main_arg4) = m ((c.tc : Thread Cert.Awff2Ideal.nD Cert.Awff2Ideal.τ).loc Cert.Awff2Ideal.main_arg4)
          ∧ r.2.mem ((c.tc : Thread Cert.Awff2Ideal.nD Cert.Awff2Ideal.τ).loc Cert.Awff2Ideal.main_arg5) = m ((c.tc : Thread Cert.Awff2Ideal.nD Cert.Awff2Ideal.τ).loc Cert.Awff2Ideal.main_arg5)
          ∧ r.2.mem ((c.tc : Thread Cert.Awff2Ideal.nD Cert.Awff2Ideal.τ).loc Cert.Awff2Ideal.main_arg6) = m ((c.tc : Thread Cert.Awff2Ideal.nD Cert.Awff2Ideal.τ).loc Cert.Awff2Ideal.main_arg6)
          ∧ r.2.mem ((c.tc : Thread Cert.Awff2Ideal.nD Cert.Awff2Ideal.τ).loc Cert.Awff2Ideal.main_arg7) = m ((c.tc : Thread Cert.Awff2Ideal.nD Cert.Awff2Ideal.τ).loc Cert.Awff2Ideal.main_arg7))
      ∧ θ_run (Cert.Awff2RefIdeal.defs (F := Ideal)) (onTc (τ := Cert.Awff2RefIdeal.τ) (Cert.Awff2RefIdeal.main (F := Ideal))) ⟨m', fun _ => 0, g'⟩ (fun r => ∀ c : Dev Cert.Awff2RefIdeal.nD,
          r.2.mem ((c.tc : Thread Cert.Awff2RefIdeal.nD Cert.Awff2RefIdeal.τ).loc Cert.Awff2RefIdeal.main_v34) = v0 c
          ∧ r.2.mem ((c.tc : Thread Cert.Awff2RefIdeal.nD Cert.Awff2RefIdeal.τ).loc Cert.Awff2RefIdeal.main_v37) = v1 c
          ∧ r.2.mem ((c.tc : Thread Cert.Awff2RefIdeal.nD Cert.Awff2RefIdeal.τ).loc Cert.Awff2RefIdeal.main_v40) = v2 c
          ∧ r.2.mem ((c.tc : Thread Cert.Awff2RefIdeal.nD Cert.Awff2RefIdeal.τ).loc Cert.Awff2RefIdeal.main_v43) = v3 c
          ∧ r.2.mem ((c.tc : Thread Cert.Awff2RefIdeal.nD Cert.Awff2RefIdeal.τ).loc Cert.Awff2RefIdeal.main_arg0) = m' ((c.tc : Thread Cert.Awff2RefIdeal.nD Cert.Awff2RefIdeal.τ).loc Cert.Awff2RefIdeal.main_arg0)
          ∧ r.2.mem ((c.tc : Thread Cert.Awff2RefIdeal.nD Cert.Awff2RefIdeal.τ).loc Cert.Awff2RefIdeal.main_arg1) = m' ((c.tc : Thread Cert.Awff2RefIdeal.nD Cert.Awff2RefIdeal.τ).loc Cert.Awff2RefIdeal.main_arg1)
          ∧ r.2.mem ((c.tc : Thread Cert.Awff2RefIdeal.nD Cert.Awff2RefIdeal.τ).loc Cert.Awff2RefIdeal.main_arg2) = m' ((c.tc : Thread Cert.Awff2RefIdeal.nD Cert.Awff2RefIdeal.τ).loc Cert.Awff2RefIdeal.main_arg2)
          ∧ r.2.mem ((c.tc : Thread Cert.Awff2RefIdeal.nD Cert.Awff2RefIdeal.τ).loc Cert.Awff2RefIdeal.main_arg3) = m' ((c.tc : Thread Cert.Awff2RefIdeal.nD Cert.Awff2RefIdeal.τ).loc Cert.Awff2RefIdeal.main_arg3)
          ∧ r.2.mem ((c.tc : Thread Cert.Awff2RefIdeal.nD Cert.Awff2RefIdeal.τ).loc Cert.Awff2RefIdeal.main_arg4) = m' ((c.tc : Thread Cert.Awff2RefIdeal.nD Cert.Awff2RefIdeal.τ).loc Cert.Awff2RefIdeal.main_arg4)
          ∧ r.2.mem ((c.tc : Thread Cert.Awff2RefIdeal.nD Cert.Awff2RefIdeal.τ).loc Cert.Awff2RefIdeal.main_arg5) = m' ((c.tc : Thread Cert.Awff2RefIdeal.nD Cert.Awff2RefIdeal.τ).loc Cert.Awff2RefIdeal.main_arg5)
          ∧ r.2.mem ((c.tc : Thread Cert.Awff2RefIdeal.nD Cert.Awff2RefIdeal.τ).loc Cert.Awff2RefIdeal.main_arg6) = m' ((c.tc : Thread Cert.Awff2RefIdeal.nD Cert.Awff2RefIdeal.τ).loc Cert.Awff2RefIdeal.main_arg6)
          ∧ r.2.mem ((c.tc : Thread Cert.Awff2RefIdeal.nD Cert.Awff2RefIdeal.τ).loc Cert.Awff2RefIdeal.main_arg7) = m' ((c.tc : Thread Cert.Awff2RefIdeal.nD Cert.Awff2RefIdeal.τ).loc Cert.Awff2RefIdeal.main_arg7))

def preserves_Asmall_AsmallIdeal : Prop :=
  True

def algebraic_AsmallIdeal_AsmallRefIdeal [hAsmallIdeal : Cert.AsmallIdeal.Facts] [hAsmallRefIdeal : Cert.AsmallRefIdeal.Facts] : Prop :=
  ∀ (m : (ℓ : Loc Cert.AsmallIdeal.nD Cert.AsmallIdeal.τ Cert.AsmallIdeal.sig) → Buf (Elt Ideal) ℓ) (g : Dev Cert.AsmallIdeal.nD → PrngReg)
    (m' : (ℓ : Loc Cert.AsmallRefIdeal.nD Cert.AsmallRefIdeal.τ Cert.AsmallRefIdeal.sig) → Buf (Elt Ideal) ℓ) (g' : Dev Cert.AsmallRefIdeal.nD → PrngReg), Pre_AsmallIdeal m →
    (∀ c : Dev Cert.AsmallIdeal.nD,
      m' ((c.tc : Thread Cert.AsmallRefIdeal.nD Cert.AsmallRefIdeal.τ).loc Cert.AsmallRefIdeal.main_arg0) = m ((c.tc : Thread Cert.AsmallIdeal.nD Cert.AsmallIdeal.τ).loc Cert.AsmallIdeal.main_arg0)
      ∧ m' ((c.tc : Thread Cert.AsmallRefIdeal.nD Cert.AsmallRefIdeal.τ).loc Cert.AsmallRefIdeal.main_arg1) = m ((c.tc : Thread Cert.AsmallIdeal.nD Cert.AsmallIdeal.τ).loc Cert.AsmallIdeal.main_arg1)
      ∧ m' ((c.tc : Thread Cert.AsmallRefIdeal.nD Cert.AsmallRefIdeal.τ).loc Cert.AsmallRefIdeal.main_arg2) = m ((c.tc : Thread Cert.AsmallIdeal.nD Cert.AsmallIdeal.τ).loc Cert.AsmallIdeal.main_arg2)
      ∧ m' ((c.tc : Thread Cert.AsmallRefIdeal.nD Cert.AsmallRefIdeal.τ).loc Cert.AsmallRefIdeal.main_arg3) = m ((c.tc : Thread Cert.AsmallIdeal.nD Cert.AsmallIdeal.τ).loc Cert.AsmallIdeal.main_arg3)
      ∧ m' ((c.tc : Thread Cert.AsmallRefIdeal.nD Cert.AsmallRefIdeal.τ).loc Cert.AsmallRefIdeal.main_arg4) = m ((c.tc : Thread Cert.AsmallIdeal.nD Cert.AsmallIdeal.τ).loc Cert.AsmallIdeal.main_arg4)
      ∧ m' ((c.tc : Thread Cert.AsmallRefIdeal.nD Cert.AsmallRefIdeal.τ).loc Cert.AsmallRefIdeal.main_arg5) = m ((c.tc : Thread Cert.AsmallIdeal.nD Cert.AsmallIdeal.τ).loc Cert.AsmallIdeal.main_arg5)
      ∧ m' ((c.tc : Thread Cert.AsmallRefIdeal.nD Cert.AsmallRefIdeal.τ).loc Cert.AsmallRefIdeal.main_arg6) = m ((c.tc : Thread Cert.AsmallIdeal.nD Cert.AsmallIdeal.τ).loc Cert.AsmallIdeal.main_arg6)
      ∧ m' ((c.tc : Thread Cert.AsmallRefIdeal.nD Cert.AsmallRefIdeal.τ).loc Cert.AsmallRefIdeal.main_arg7) = m ((c.tc : Thread Cert.AsmallIdeal.nD Cert.AsmallIdeal.τ).loc Cert.AsmallIdeal.main_arg7)) →
    ∃ (v0 : (c : Dev Cert.AsmallIdeal.nD) → Buf (Elt Ideal) ((c.tc : Thread Cert.AsmallIdeal.nD Cert.AsmallIdeal.τ).loc Cert.AsmallIdeal.main_v0_0)) (v1 : (c : Dev Cert.AsmallIdeal.nD) → Buf (Elt Ideal) ((c.tc : Thread Cert.AsmallIdeal.nD Cert.AsmallIdeal.τ).loc Cert.AsmallIdeal.main_v0_1)) (v2 : (c : Dev Cert.AsmallIdeal.nD) → Buf (Elt Ideal) ((c.tc : Thread Cert.AsmallIdeal.nD Cert.AsmallIdeal.τ).loc Cert.AsmallIdeal.main_v0_2)) (v3 : (c : Dev Cert.AsmallIdeal.nD) → Buf (Elt Ideal) ((c.tc : Thread Cert.AsmallIdeal.nD Cert.AsmallIdeal.τ).loc Cert.AsmallIdeal.main_v0_3)),
      θ_run (Cert.AsmallIdeal.defs (F := Ideal)) (onTc (τ := Cert.AsmallIdeal.τ) (Cert.AsmallIdeal.main (F := Ideal))) ⟨m, fun _ => 0, g⟩ (fun r => ∀ c : Dev Cert.AsmallIdeal.nD,
          r.2.mem ((c.tc : Thread Cert.AsmallIdeal.nD Cert.AsmallIdeal.τ).loc Cert.AsmallIdeal.main_v0_0) = v0 c
          ∧ r.2.mem ((c.tc : Thread Cert.AsmallIdeal.nD Cert.AsmallIdeal.τ).loc Cert.AsmallIdeal.main_v0_1) = v1 c
          ∧ r.2.mem ((c.tc : Thread Cert.AsmallIdeal.nD Cert.AsmallIdeal.τ).loc Cert.AsmallIdeal.main_v0_2) = v2 c
          ∧ r.2.mem ((c.tc : Thread Cert.AsmallIdeal.nD Cert.AsmallIdeal.τ).loc Cert.AsmallIdeal.main_v0_3) = v3 c
          ∧ r.2.mem ((c.tc : Thread Cert.AsmallIdeal.nD Cert.AsmallIdeal.τ).loc Cert.AsmallIdeal.main_arg0) = m ((c.tc : Thread Cert.AsmallIdeal.nD Cert.AsmallIdeal.τ).loc Cert.AsmallIdeal.main_arg0)
          ∧ r.2.mem ((c.tc : Thread Cert.AsmallIdeal.nD Cert.AsmallIdeal.τ).loc Cert.AsmallIdeal.main_arg1) = m ((c.tc : Thread Cert.AsmallIdeal.nD Cert.AsmallIdeal.τ).loc Cert.AsmallIdeal.main_arg1)
          ∧ r.2.mem ((c.tc : Thread Cert.AsmallIdeal.nD Cert.AsmallIdeal.τ).loc Cert.AsmallIdeal.main_arg2) = m ((c.tc : Thread Cert.AsmallIdeal.nD Cert.AsmallIdeal.τ).loc Cert.AsmallIdeal.main_arg2)
          ∧ r.2.mem ((c.tc : Thread Cert.AsmallIdeal.nD Cert.AsmallIdeal.τ).loc Cert.AsmallIdeal.main_arg3) = m ((c.tc : Thread Cert.AsmallIdeal.nD Cert.AsmallIdeal.τ).loc Cert.AsmallIdeal.main_arg3)
          ∧ r.2.mem ((c.tc : Thread Cert.AsmallIdeal.nD Cert.AsmallIdeal.τ).loc Cert.AsmallIdeal.main_arg4) = m ((c.tc : Thread Cert.AsmallIdeal.nD Cert.AsmallIdeal.τ).loc Cert.AsmallIdeal.main_arg4)
          ∧ r.2.mem ((c.tc : Thread Cert.AsmallIdeal.nD Cert.AsmallIdeal.τ).loc Cert.AsmallIdeal.main_arg5) = m ((c.tc : Thread Cert.AsmallIdeal.nD Cert.AsmallIdeal.τ).loc Cert.AsmallIdeal.main_arg5)
          ∧ r.2.mem ((c.tc : Thread Cert.AsmallIdeal.nD Cert.AsmallIdeal.τ).loc Cert.AsmallIdeal.main_arg6) = m ((c.tc : Thread Cert.AsmallIdeal.nD Cert.AsmallIdeal.τ).loc Cert.AsmallIdeal.main_arg6)
          ∧ r.2.mem ((c.tc : Thread Cert.AsmallIdeal.nD Cert.AsmallIdeal.τ).loc Cert.AsmallIdeal.main_arg7) = m ((c.tc : Thread Cert.AsmallIdeal.nD Cert.AsmallIdeal.τ).loc Cert.AsmallIdeal.main_arg7))
      ∧ θ_run (Cert.AsmallRefIdeal.defs (F := Ideal)) (onTc (τ := Cert.AsmallRefIdeal.τ) (Cert.AsmallRefIdeal.main (F := Ideal))) ⟨m', fun _ => 0, g'⟩ (fun r => ∀ c : Dev Cert.AsmallRefIdeal.nD,
          r.2.mem ((c.tc : Thread Cert.AsmallRefIdeal.nD Cert.AsmallRefIdeal.τ).loc Cert.AsmallRefIdeal.main_v33) = v0 c
          ∧ r.2.mem ((c.tc : Thread Cert.AsmallRefIdeal.nD Cert.AsmallRefIdeal.τ).loc Cert.AsmallRefIdeal.main_v36) = v1 c
          ∧ r.2.mem ((c.tc : Thread Cert.AsmallRefIdeal.nD Cert.AsmallRefIdeal.τ).loc Cert.AsmallRefIdeal.main_v39) = v2 c
          ∧ r.2.mem ((c.tc : Thread Cert.AsmallRefIdeal.nD Cert.AsmallRefIdeal.τ).loc Cert.AsmallRefIdeal.main_v42) = v3 c
          ∧ r.2.mem ((c.tc : Thread Cert.AsmallRefIdeal.nD Cert.AsmallRefIdeal.τ).loc Cert.AsmallRefIdeal.main_arg0) = m' ((c.tc : Thread Cert.AsmallRefIdeal.nD Cert.AsmallRefIdeal.τ).loc Cert.AsmallRefIdeal.main_arg0)
          ∧ r.2.mem ((c.tc : Thread Cert.AsmallRefIdeal.nD Cert.AsmallRefIdeal.τ).loc Cert.AsmallRefIdeal.main_arg1) = m' ((c.tc : Thread Cert.AsmallRefIdeal.nD Cert.AsmallRefIdeal.τ).loc Cert.AsmallRefIdeal.main_arg1)
          ∧ r.2.mem ((c.tc : Thread Cert.AsmallRefIdeal.nD Cert.AsmallRefIdeal.τ).loc Cert.AsmallRefIdeal.main_arg2) = m' ((c.tc : Thread Cert.AsmallRefIdeal.nD Cert.AsmallRefIdeal.τ).loc Cert.AsmallRefIdeal.main_arg2)
          ∧ r.2.mem ((c.tc : Thread Cert.AsmallRefIdeal.nD Cert.AsmallRefIdeal.τ).loc Cert.AsmallRefIdeal.main_arg3) = m' ((c.tc : Thread Cert.AsmallRefIdeal.nD Cert.AsmallRefIdeal.τ).loc Cert.AsmallRefIdeal.main_arg3)
          ∧ r.2.mem ((c.tc : Thread Cert.AsmallRefIdeal.nD Cert.AsmallRefIdeal.τ).loc Cert.AsmallRefIdeal.main_arg4) = m' ((c.tc : Thread Cert.AsmallRefIdeal.nD Cert.AsmallRefIdeal.τ).loc Cert.AsmallRefIdeal.main_arg4)
          ∧ r.2.mem ((c.tc : Thread Cert.AsmallRefIdeal.nD Cert.AsmallRefIdeal.τ).loc Cert.AsmallRefIdeal.main_arg5) = m' ((c.tc : Thread Cert.AsmallRefIdeal.nD Cert.AsmallRefIdeal.τ).loc Cert.AsmallRefIdeal.main_arg5)
          ∧ r.2.mem ((c.tc : Thread Cert.AsmallRefIdeal.nD Cert.AsmallRefIdeal.τ).loc Cert.AsmallRefIdeal.main_arg6) = m' ((c.tc : Thread Cert.AsmallRefIdeal.nD Cert.AsmallRefIdeal.τ).loc Cert.AsmallRefIdeal.main_arg6)
          ∧ r.2.mem ((c.tc : Thread Cert.AsmallRefIdeal.nD Cert.AsmallRefIdeal.τ).loc Cert.AsmallRefIdeal.main_arg7) = m' ((c.tc : Thread Cert.AsmallRefIdeal.nD Cert.AsmallRefIdeal.τ).loc Cert.AsmallRefIdeal.main_arg7))

def Claim : Prop :=
  ∃ (hKernel : Cert.Kernel.Facts) (hKernelIdeal : Cert.KernelIdeal.Facts) (hFf2 : Cert.Ff2.Facts) (hFf2Ideal : Cert.Ff2Ideal.Facts) (hFf2RefIdeal : Cert.Ff2RefIdeal.Facts) (hFf1 : Cert.Ff1.Facts) (hFf1Ideal : Cert.Ff1Ideal.Facts) (hFf1RefIdeal : Cert.Ff1RefIdeal.Facts) (hMix : Cert.Mix.Facts) (hMixIdeal : Cert.MixIdeal.Facts) (hMixRefIdeal : Cert.MixRefIdeal.Facts) (hWff2 : Cert.Wff2.Facts) (hWff2Ideal : Cert.Wff2Ideal.Facts) (hWff2RefIdeal : Cert.Wff2RefIdeal.Facts) (hWff1 : Cert.Wff1.Facts) (hWff1Ideal : Cert.Wff1Ideal.Facts) (hWff1RefIdeal : Cert.Wff1RefIdeal.Facts) (hIn : Cert.In.Facts) (hInIdeal : Cert.InIdeal.Facts) (hInRefIdeal : Cert.InRefIdeal.Facts) (hMixf : Cert.Mixf.Facts) (hMixfIdeal : Cert.MixfIdeal.Facts) (hMixfRefIdeal : Cert.MixfRefIdeal.Facts) (hOut : Cert.Out.Facts) (hOutIdeal : Cert.OutIdeal.Facts) (hOutRefIdeal : Cert.OutRefIdeal.Facts) (hFf1f : Cert.Ff1f.Facts) (hFf1fIdeal : Cert.Ff1fIdeal.Facts) (hFf1fRefIdeal : Cert.Ff1fRefIdeal.Facts) (hFf2f : Cert.Ff2f.Facts) (hFf2fIdeal : Cert.Ff2fIdeal.Facts) (hFf2fRefIdeal : Cert.Ff2fRefIdeal.Facts) (hLoss : Cert.Loss.Facts) (hLossIdeal : Cert.LossIdeal.Facts) (hLossRefIdeal : Cert.LossRefIdeal.Facts) (hInb : Cert.Inb.Facts) (hInbIdeal : Cert.InbIdeal.Facts) (hInbRefIdeal : Cert.InbRefIdeal.Facts) (hInb0 : Cert.Inb0.Facts) (hInb0Ideal : Cert.Inb0Ideal.Facts) (hInb0RefIdeal : Cert.Inb0RefIdeal.Facts) (hWout : Cert.Wout.Facts) (hWoutIdeal : Cert.WoutIdeal.Facts) (hWoutRefIdeal : Cert.WoutRefIdeal.Facts) (hWglu : Cert.Wglu.Facts) (hWgluIdeal : Cert.WgluIdeal.Facts) (hWgluRefIdeal : Cert.WgluRefIdeal.Facts) (hWin : Cert.Win.Facts) (hWinIdeal : Cert.WinIdeal.Facts) (hWinRefIdeal : Cert.WinRefIdeal.Facts) (hAwin : Cert.Awin.Facts) (hAwinIdeal : Cert.AwinIdeal.Facts) (hAwinRefIdeal : Cert.AwinRefIdeal.Facts) (hAwglu : Cert.Awglu.Facts) (hAwgluIdeal : Cert.AwgluIdeal.Facts) (hAwgluRefIdeal : Cert.AwgluRefIdeal.Facts) (hAwout : Cert.Awout.Facts) (hAwoutIdeal : Cert.AwoutIdeal.Facts) (hAwoutRefIdeal : Cert.AwoutRefIdeal.Facts) (hAwff1 : Cert.Awff1.Facts) (hAwff1Ideal : Cert.Awff1Ideal.Facts) (hAwff1RefIdeal : Cert.Awff1RefIdeal.Facts) (hAwff2 : Cert.Awff2.Facts) (hAwff2Ideal : Cert.Awff2Ideal.Facts) (hAwff2RefIdeal : Cert.Awff2RefIdeal.Facts) (hAsmall : Cert.Asmall.Facts) (hAsmallIdeal : Cert.AsmallIdeal.Facts) (hAsmallRefIdeal : Cert.AsmallRefIdeal.Facts) (hPre_below_top_ff2 : Cert.Pre_below_top_ff2.Facts) (hPre_finite_ff1 : Cert.Pre_finite_ff1.Facts) (hPre_finite_loss : Cert.Pre_finite_loss.Facts) (hPre_finite_inb : Cert.Pre_finite_inb.Facts),
    quiescent_Kernel (hKernel := hKernel)
    ∧ quiescent_KernelIdeal (hKernelIdeal := hKernelIdeal)
    ∧ quiescent_Ff2 (hFf2 := hFf2)
    ∧ quiescent_Ff2Ideal (hFf2Ideal := hFf2Ideal)
    ∧ quiescent_Ff2Ideal_pre_below_top_ff2 (hFf2Ideal := hFf2Ideal) (hPre_below_top_ff2 := hPre_below_top_ff2)
    ∧ quiescent_Ff2RefIdeal (hFf2RefIdeal := hFf2RefIdeal)
    ∧ quiescent_Ff2RefIdeal_pre_below_top_ff2 (hFf2RefIdeal := hFf2RefIdeal) (hPre_below_top_ff2 := hPre_below_top_ff2)
    ∧ quiescent_Ff1 (hFf1 := hFf1)
    ∧ quiescent_Ff1Ideal (hFf1Ideal := hFf1Ideal)
    ∧ quiescent_Ff1Ideal_pre_finite_ff1 (hFf1Ideal := hFf1Ideal) (hPre_finite_ff1 := hPre_finite_ff1)
    ∧ quiescent_Ff1RefIdeal (hFf1RefIdeal := hFf1RefIdeal)
    ∧ quiescent_Ff1RefIdeal_pre_finite_ff1 (hFf1RefIdeal := hFf1RefIdeal) (hPre_finite_ff1 := hPre_finite_ff1)
    ∧ quiescent_Mix (hMix := hMix)
    ∧ quiescent_MixIdeal (hMixIdeal := hMixIdeal)
    ∧ quiescent_MixRefIdeal (hMixRefIdeal := hMixRefIdeal)
    ∧ quiescent_Wff2 (hWff2 := hWff2)
    ∧ quiescent_Wff2Ideal (hWff2Ideal := hWff2Ideal)
    ∧ quiescent_Wff2RefIdeal (hWff2RefIdeal := hWff2RefIdeal)
    ∧ quiescent_Wff1 (hWff1 := hWff1)
    ∧ quiescent_Wff1Ideal (hWff1Ideal := hWff1Ideal)
    ∧ quiescent_Wff1RefIdeal (hWff1RefIdeal := hWff1RefIdeal)
    ∧ quiescent_In (hIn := hIn)
    ∧ quiescent_InIdeal (hInIdeal := hInIdeal)
    ∧ quiescent_InRefIdeal (hInRefIdeal := hInRefIdeal)
    ∧ quiescent_Mixf (hMixf := hMixf)
    ∧ quiescent_MixfIdeal (hMixfIdeal := hMixfIdeal)
    ∧ quiescent_MixfRefIdeal (hMixfRefIdeal := hMixfRefIdeal)
    ∧ quiescent_Out (hOut := hOut)
    ∧ quiescent_OutIdeal (hOutIdeal := hOutIdeal)
    ∧ quiescent_OutRefIdeal (hOutRefIdeal := hOutRefIdeal)
    ∧ quiescent_Ff1f (hFf1f := hFf1f)
    ∧ quiescent_Ff1fIdeal (hFf1fIdeal := hFf1fIdeal)
    ∧ quiescent_Ff1fRefIdeal (hFf1fRefIdeal := hFf1fRefIdeal)
    ∧ quiescent_Ff2f (hFf2f := hFf2f)
    ∧ quiescent_Ff2fIdeal (hFf2fIdeal := hFf2fIdeal)
    ∧ quiescent_Ff2fRefIdeal (hFf2fRefIdeal := hFf2fRefIdeal)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossRefIdeal (hLossRefIdeal := hLossRefIdeal)
    ∧ quiescent_LossRefIdeal_pre_finite_loss (hLossRefIdeal := hLossRefIdeal) (hPre_finite_loss := hPre_finite_loss)
    ∧ quiescent_Inb (hInb := hInb)
    ∧ quiescent_InbIdeal (hInbIdeal := hInbIdeal)
    ∧ quiescent_InbIdeal_pre_finite_inb (hInbIdeal := hInbIdeal) (hPre_finite_inb := hPre_finite_inb)
    ∧ quiescent_InbRefIdeal (hInbRefIdeal := hInbRefIdeal)
    ∧ quiescent_InbRefIdeal_pre_finite_inb (hInbRefIdeal := hInbRefIdeal) (hPre_finite_inb := hPre_finite_inb)
    ∧ quiescent_Inb0 (hInb0 := hInb0)
    ∧ quiescent_Inb0Ideal (hInb0Ideal := hInb0Ideal)
    ∧ quiescent_Inb0RefIdeal (hInb0RefIdeal := hInb0RefIdeal)
    ∧ quiescent_Wout (hWout := hWout)
    ∧ quiescent_WoutIdeal (hWoutIdeal := hWoutIdeal)
    ∧ quiescent_WoutRefIdeal (hWoutRefIdeal := hWoutRefIdeal)
    ∧ quiescent_Wglu (hWglu := hWglu)
    ∧ quiescent_WgluIdeal (hWgluIdeal := hWgluIdeal)
    ∧ quiescent_WgluRefIdeal (hWgluRefIdeal := hWgluRefIdeal)
    ∧ quiescent_Win (hWin := hWin)
    ∧ quiescent_WinIdeal (hWinIdeal := hWinIdeal)
    ∧ quiescent_WinRefIdeal (hWinRefIdeal := hWinRefIdeal)
    ∧ quiescent_Awin (hAwin := hAwin)
    ∧ quiescent_AwinIdeal (hAwinIdeal := hAwinIdeal)
    ∧ quiescent_AwinRefIdeal (hAwinRefIdeal := hAwinRefIdeal)
    ∧ quiescent_Awglu (hAwglu := hAwglu)
    ∧ quiescent_AwgluIdeal (hAwgluIdeal := hAwgluIdeal)
    ∧ quiescent_AwgluRefIdeal (hAwgluRefIdeal := hAwgluRefIdeal)
    ∧ quiescent_Awout (hAwout := hAwout)
    ∧ quiescent_AwoutIdeal (hAwoutIdeal := hAwoutIdeal)
    ∧ quiescent_AwoutRefIdeal (hAwoutRefIdeal := hAwoutRefIdeal)
    ∧ quiescent_Awff1 (hAwff1 := hAwff1)
    ∧ quiescent_Awff1Ideal (hAwff1Ideal := hAwff1Ideal)
    ∧ quiescent_Awff1RefIdeal (hAwff1RefIdeal := hAwff1RefIdeal)
    ∧ quiescent_Awff2 (hAwff2 := hAwff2)
    ∧ quiescent_Awff2Ideal (hAwff2Ideal := hAwff2Ideal)
    ∧ quiescent_Awff2RefIdeal (hAwff2RefIdeal := hAwff2RefIdeal)
    ∧ quiescent_Asmall (hAsmall := hAsmall)
    ∧ quiescent_AsmallIdeal (hAsmallIdeal := hAsmallIdeal)
    ∧ quiescent_AsmallRefIdeal (hAsmallRefIdeal := hAsmallRefIdeal)
    ∧ preserves_Kernel_KernelIdeal
    ∧ preserves_Ff2_Ff2Ideal
    ∧ algebraic_Ff2Ideal_Ff2RefIdeal_pre_below_top_ff2 (hFf2Ideal := hFf2Ideal) (hFf2RefIdeal := hFf2RefIdeal) (hPre_below_top_ff2 := hPre_below_top_ff2)
    ∧ preserves_Ff1_Ff1Ideal
    ∧ algebraic_Ff1Ideal_Ff1RefIdeal_pre_finite_ff1 (hFf1Ideal := hFf1Ideal) (hFf1RefIdeal := hFf1RefIdeal) (hPre_finite_ff1 := hPre_finite_ff1)
    ∧ preserves_Mix_MixIdeal
    ∧ algebraic_MixIdeal_MixRefIdeal (hMixIdeal := hMixIdeal) (hMixRefIdeal := hMixRefIdeal)
    ∧ preserves_Wff2_Wff2Ideal
    ∧ algebraic_Wff2Ideal_Wff2RefIdeal (hWff2Ideal := hWff2Ideal) (hWff2RefIdeal := hWff2RefIdeal)
    ∧ preserves_Wff1_Wff1Ideal
    ∧ algebraic_Wff1Ideal_Wff1RefIdeal (hWff1Ideal := hWff1Ideal) (hWff1RefIdeal := hWff1RefIdeal)
    ∧ preserves_In_InIdeal
    ∧ algebraic_InIdeal_InRefIdeal (hInIdeal := hInIdeal) (hInRefIdeal := hInRefIdeal)
    ∧ preserves_Mixf_MixfIdeal
    ∧ algebraic_MixfIdeal_MixfRefIdeal (hMixfIdeal := hMixfIdeal) (hMixfRefIdeal := hMixfRefIdeal)
    ∧ preserves_Out_OutIdeal
    ∧ algebraic_OutIdeal_OutRefIdeal (hOutIdeal := hOutIdeal) (hOutRefIdeal := hOutRefIdeal)
    ∧ preserves_Ff1f_Ff1fIdeal
    ∧ algebraic_Ff1fIdeal_Ff1fRefIdeal (hFf1fIdeal := hFf1fIdeal) (hFf1fRefIdeal := hFf1fRefIdeal)
    ∧ preserves_Ff2f_Ff2fIdeal
    ∧ algebraic_Ff2fIdeal_Ff2fRefIdeal (hFf2fIdeal := hFf2fIdeal) (hFf2fRefIdeal := hFf2fRefIdeal)
    ∧ preserves_Loss_LossIdeal
    ∧ algebraic_LossIdeal_LossRefIdeal_pre_finite_loss (hLossIdeal := hLossIdeal) (hLossRefIdeal := hLossRefIdeal) (hPre_finite_loss := hPre_finite_loss)
    ∧ preserves_Inb_InbIdeal
    ∧ algebraic_InbIdeal_InbRefIdeal_pre_finite_inb (hInbIdeal := hInbIdeal) (hInbRefIdeal := hInbRefIdeal) (hPre_finite_inb := hPre_finite_inb)
    ∧ preserves_Inb0_Inb0Ideal
    ∧ algebraic_Inb0Ideal_Inb0RefIdeal (hInb0Ideal := hInb0Ideal) (hInb0RefIdeal := hInb0RefIdeal)
    ∧ preserves_Wout_WoutIdeal
    ∧ algebraic_WoutIdeal_WoutRefIdeal (hWoutIdeal := hWoutIdeal) (hWoutRefIdeal := hWoutRefIdeal)
    ∧ preserves_Wglu_WgluIdeal
    ∧ algebraic_WgluIdeal_WgluRefIdeal (hWgluIdeal := hWgluIdeal) (hWgluRefIdeal := hWgluRefIdeal)
    ∧ preserves_Win_WinIdeal
    ∧ algebraic_WinIdeal_WinRefIdeal (hWinIdeal := hWinIdeal) (hWinRefIdeal := hWinRefIdeal)
    ∧ preserves_Awin_AwinIdeal
    ∧ algebraic_AwinIdeal_AwinRefIdeal (hAwinIdeal := hAwinIdeal) (hAwinRefIdeal := hAwinRefIdeal)
    ∧ preserves_Awglu_AwgluIdeal
    ∧ algebraic_AwgluIdeal_AwgluRefIdeal (hAwgluIdeal := hAwgluIdeal) (hAwgluRefIdeal := hAwgluRefIdeal)
    ∧ preserves_Awout_AwoutIdeal
    ∧ algebraic_AwoutIdeal_AwoutRefIdeal (hAwoutIdeal := hAwoutIdeal) (hAwoutRefIdeal := hAwoutRefIdeal)
    ∧ preserves_Awff1_Awff1Ideal
    ∧ algebraic_Awff1Ideal_Awff1RefIdeal (hAwff1Ideal := hAwff1Ideal) (hAwff1RefIdeal := hAwff1RefIdeal)
    ∧ preserves_Awff2_Awff2Ideal
    ∧ algebraic_Awff2Ideal_Awff2RefIdeal (hAwff2Ideal := hAwff2Ideal) (hAwff2RefIdeal := hAwff2RefIdeal)
    ∧ preserves_Asmall_AsmallIdeal
    ∧ algebraic_AsmallIdeal_AsmallRefIdeal (hAsmallIdeal := hAsmallIdeal) (hAsmallRefIdeal := hAsmallRefIdeal)
-- ==== Pre_below_top_ff2.lean ====
abbrev S8192x4096 : Shape := ⟨2, ![8192, 4096]⟩
abbrev S4096 : Shape := ⟨1, ![4096]⟩
abbrev S4096x1024 : Shape := ⟨2, ![4096, 1024]⟩
abbrev S8192x1024 : Shape := ⟨2, ![8192, 1024]⟩
abbrev S1x4096 : Shape := ⟨2, ![1, 4096]⟩
abbrev S_ : Shape := ⟨0, ![]⟩

class Facts : Prop where
  shapeCasts_S4096_S1x4096 : S4096.ShapeCasts S1x4096
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)

variable [Facts]

def fn {F : FTy → Type} [FloatOps F] (main_arg0 : FVec F S8192x4096 .f32) (main_arg1 : FVec F S4096 .f32) (main_arg2 : FVec F S4096x1024 .f32) (main_arg3 : FVec F S8192x1024 .f32) : IVec S8192x4096 1 :=
  let main_v0 : FVec F S1x4096 .f32 := shapeCast S1x4096 main_arg1 shapeCasts_S4096_S1x4096
  let main_v1 : FVec F S8192x4096 .f32 := broadcastInDim S8192x4096 ![0, 1] bcast_S1x4096_S8192x4096_0_1 main_v0
  let main_v2 : FVec F S8192x4096 .f32 := addf main_arg0 main_v1
  let main_cst : FVec F S_ .f32 := constant S_ .f32 0x7F800000#32
  let main_v3 : FVec F S8192x4096 .f32 := broadcastInDim S8192x4096 ![] bcast_S_S8192x4096 main_cst
  let main_v4 : IVec S8192x4096 1 := cmpf .olt main_v2 main_v3
  main_v4
-- ==== Pre_finite_ff1.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S4096x1024 : Shape := ⟨2, ![4096, 1024]⟩
abbrev S1x1024 : Shape := ⟨2, ![1, 1024]⟩

class Facts : Prop where
  bcast_S_S8192x1024 : S_.BroadcastsInDim S8192x1024 (![] : Fin 0 → Fin S8192x1024.rank)
  bitsLt_bf16_f32 : FTy.bits .bf16 < FTy.bits .f32
  transposes_S1024x4096_S4096x1024_1_0 : S1024x4096.Transposes [1, 0] S4096x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x4096_S4096x1024_S8192x1024_1_0_0_1_n_n_wf : DotDims.WF S8192x4096 S4096x1024 S8192x1024 [1] [0] [0] [1] [] []

variable [Facts]

def dot_S8192x4096_S4096x1024_S8192x1024_1_0_0_1_n_n : DotDims S8192x4096 S4096x1024 S8192x1024 where
  lhsContracting := [1]
  rhsContracting := [0]
  lhsNonContracting := [0]
  rhsNonContracting := [1]
  lhsBatch := []
  rhsBatch := []
  wf := dot_S8192x4096_S4096x1024_S8192x1024_1_0_0_1_n_n_wf
def fn {F : FTy → Type} [FloatOps F] (main_arg0 : FVec F S8192x1024 .f32) (main_arg1 : FVec F S1024 .f32) (main_arg2 : FVec F S1024 .f32) (main_arg3 : FVec F S1024 .f32) (main_arg4 : FVec F S1024x4096 .f32) (main_arg5 : FVec F S8192x1024 .f32) (main_arg6 : FVec F S8192x4096 .bf16) : IVec S8192x1024 1 :=
  let main_cst : FVec F S_ .f32 := constant S_ .f32 0x3FD744FD#32
  let main_v0 : FVec F S8192x1024 .f32 := broadcastInDim S8192x1024 ![] bcast_S_S8192x1024 main_cst
  let main_v1 : FVec F S8192x1024 .f32 := mulf main_v0 main_arg5
  let main_v2 : FVec F S8192x4096 .f32 := (extf .f32 · bitsLt_bf16_f32) main_arg6
  let main_v3 : FVec F S4096x1024 .f32 := (transpose S4096x1024 [1, 0] · transposes_S1024x4096_S4096x1024_1_0) main_arg4
  let main_v4 : FVec F S8192x1024 .f32 := (fun l r => Host.dotGeneral dot_S8192x4096_S4096x1024_S8192x1024_1_0_0_1_n_n none l r) main_v2 main_v3
  let main_v5 : FVec F S8192x1024 .f32 := addf main_v1 main_v4
  let main_v6 : FVec F S1x1024 .f32 := broadcastInDim S1x1024 ![1] bcast_S1024_S1x1024_1 main_arg2
  let main_v7 : FVec F S8192x1024 .f32 := broadcastInDim S8192x1024 ![0, 1] bcast_S1x1024_S8192x1024_0_1 main_v6
  let main_v8 : FVec F S8192x1024 .f32 := mulf main_v5 main_v7
  let main_cst_0 : FVec F S_ .f32 := constant S_ .f32 0x7F800000#32
  let main_v9 : FVec F S8192x1024 .f32 := broadcastInDim S8192x1024 ![] bcast_S_S8192x1024 main_cst_0
  let main_v10 : IVec S8192x1024 1 := cmpf .olt main_v8 main_v9
  let main_cst_1 : FVec F S_ .f32 := constant S_ .f32 0xFF800000#32
  let main_v11 : FVec F S8192x1024 .f32 := broadcastInDim S8192x1024 ![] bcast_S_S8192x1024 main_cst_1
  let main_v12 : IVec S8192x1024 1 := cmpf .ogt main_v8 main_v11
  let main_v13 : IVec S8192x1024 1 := andi main_v10 main_v12
  main_v13
-- ==== Pre_finite_inb.lean ====
abbrev S8192x1024 : Shape := ⟨2, ![8192, 1024]⟩
abbrev S1024 : Shape := ⟨1, ![1024]⟩
abbrev S1024x2048 : Shape := ⟨2, ![1024, 2048]⟩
abbrev S8192x512 : Shape := ⟨2, ![8192, 512]⟩
abbrev S_ : Shape := ⟨0, ![]⟩
abbrev S8192x2048 : Shape := ⟨2, ![8192, 2048]⟩
abbrev S2048x1024 : Shape := ⟨2, ![2048, 1024]⟩
abbrev S1x1024 : Shape := ⟨2, ![1, 1024]⟩

class Facts : Prop where
  bcast_S_S8192x1024 : S_.BroadcastsInDim S8192x1024 (![] : Fin 0 → Fin S8192x1024.rank)
  concatenates_S8192x512_S8192x512_S8192x512_S8192x512_S8192x2048_d1 : Shape.Concatenates [S8192x512, S8192x512, S8192x512, S8192x512] S8192x2048 1
  bitsLt_bf16_f32 : FTy.bits .bf16 < FTy.bits .f32
  transposes_S1024x2048_S2048x1024_1_0 : S1024x2048.Transposes [1, 0] S2048x1024
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  dot_S8192x2048_S2048x1024_S8192x1024_1_0_0_1_n_n_wf : DotDims.WF S8192x2048 S2048x1024 S8192x1024 [1] [0] [0] [1] [] []

variable [Facts]

def dot_S8192x2048_S2048x1024_S8192x1024_1_0_0_1_n_n : DotDims S8192x2048 S2048x1024 S8192x1024 where
  lhsContracting := [1]
  rhsContracting := [0]
  lhsNonContracting := [0]
  rhsNonContracting := [1]
  lhsBatch := []
  rhsBatch := []
  wf := dot_S8192x2048_S2048x1024_S8192x1024_1_0_0_1_n_n_wf
def fn {F : FTy → Type} [FloatOps F] (main_arg0 : FVec F S8192x1024 .f32) (main_arg1 : FVec F S1024 .f32) (main_arg2 : FVec F S1024 .f32) (main_arg3 : FVec F S1024x2048 .f32) (main_arg4 : FVec F S8192x1024 .f32) (main_arg5 : FVec F S8192x512 .bf16) (main_arg6 : FVec F S8192x512 .bf16) (main_arg7 : FVec F S8192x512 .bf16) (main_arg8 : FVec F S8192x512 .bf16) : IVec S8192x1024 1 :=
  let main_cst : FVec F S_ .f32 := constant S_ .f32 0x3FD744FD#32
  let main_v0 : FVec F S8192x1024 .f32 := broadcastInDim S8192x1024 ![] bcast_S_S8192x1024 main_cst
  let main_v1 : FVec F S8192x1024 .f32 := mulf main_v0 main_arg4
  let main_v2 : FVec F S8192x2048 .bf16 := concatenate S8192x2048 1 [⟨S8192x512, main_arg5⟩, ⟨S8192x512, main_arg6⟩, ⟨S8192x512, main_arg7⟩, ⟨S8192x512, main_arg8⟩] concatenates_S8192x512_S8192x512_S8192x512_S8192x512_S8192x2048_d1
  let main_v3 : FVec F S8192x2048 .f32 := (extf .f32 · bitsLt_bf16_f32) main_v2
  let main_v4 : FVec F S2048x1024 .f32 := (transpose S2048x1024 [1, 0] · transposes_S1024x2048_S2048x1024_1_0) main_arg3
  let main_v5 : FVec F S8192x1024 .f32 := (fun l r => Host.dotGeneral dot_S8192x2048_S2048x1024_S8192x1024_1_0_0_1_n_n none l r) main_v3 main_v4
  let main_v6 : FVec F S8192x1024 .f32 := addf main_v1 main_v5
  let main_v7 : FVec F S1x1024 .f32 := broadcastInDim S1x1024 ![1] bcast_S1024_S1x1024_1 main_arg1
  let main_v8 : FVec F S8192x1024 .f32 := broadcastInDim S8192x1024 ![0, 1] bcast_S1x1024_S8192x1024_0_1 main_v7
  let main_v9 : FVec F S8192x1024 .f32 := mulf main_v6 main_v8
  let main_cst_0 : FVec F S_ .f32 := constant S_ .f32 0x7F800000#32
  let main_v10 : FVec F S8192x1024 .f32 := broadcastInDim S8192x1024 ![] bcast_S_S8192x1024 main_cst_0
  let main_v11 : IVec S8192x1024 1 := cmpf .olt main_v9 main_v10
  let main_cst_1 : FVec F S_ .f32 := constant S_ .f32 0xFF800000#32
  let main_v12 : FVec F S8192x1024 .f32 := broadcastInDim S8192x1024 ![] bcast_S_S8192x1024 main_cst_1
  let main_v13 : IVec S8192x1024 1 := cmpf .ogt main_v9 main_v12
  let main_v14 : IVec S8192x1024 1 := andi main_v11 main_v13
  main_v14
-- ==== Pre_finite_loss.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

class Facts : Prop where
  reducesTo_S8192x1024_S8192_d1 : S8192x1024.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x1024_0_1 : S8192x1.BroadcastsInDim S8192x1024 (![0, 1] : Fin 2 → Fin S8192x1024.rank)
  bcast_S1024_S1x1024_1 : S1024.BroadcastsInDim S1x1024 (![1] : Fin 1 → Fin S1x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)

variable [Facts]

def fn_part1 {F : FTy → Type} [FloatOps F] (main_arg1 : FVec F S1024 .f32) (main_arg2 : FVec F S1024 .f32) (main_arg3 : FVec F S8192x1024 .f32) (main_v17 : FVec F S8192x1024 .f32) (main_v18 : FVec F S1x1024 .f32) : IVec S8192x1024 1 :=
  let main_v19 : FVec F S8192x1024 .f32 := broadcastInDim S8192x1024 ![0, 1] bcast_S1x1024_S8192x1024_0_1 main_v18
  let main_v20 : FVec F S8192x1024 .f32 := mulf main_v17 main_v19
  let main_v21 : FVec F S1x1024 .f32 := broadcastInDim S1x1024 ![1] bcast_S1024_S1x1024_1 main_arg2
  let main_v22 : FVec F S8192x1024 .f32 := broadcastInDim S8192x1024 ![0, 1] bcast_S1x1024_S8192x1024_0_1 main_v21
  let main_v23 : FVec F S8192x1024 .f32 := addf main_v20 main_v22
  let main_v24 : FVec F S8192x1024 .f32 := subf main_v23 main_arg3
  let main_v25 : FVec F S1x1024 .f32 := broadcastInDim S1x1024 ![1] bcast_S1024_S1x1024_1 main_arg1
  let main_v26 : FVec F S8192x1024 .f32 := broadcastInDim S8192x1024 ![0, 1] bcast_S1x1024_S8192x1024_0_1 main_v25
  let main_v27 : FVec F S8192x1024 .f32 := mulf main_v24 main_v26
  let main_cst_4 : FVec F S_ .f32 := constant S_ .f32 0x7F800000#32
  let main_v28 : FVec F S8192x1024 .f32 := broadcastInDim S8192x1024 ![] bcast_S_S8192x1024 main_cst_4
  let main_v29 : IVec S8192x1024 1 := cmpf .olt main_v27 main_v28
  let main_cst_5 : FVec F S_ .f32 := constant S_ .f32 0xFF800000#32
  let main_v30 : FVec F S8192x1024 .f32 := broadcastInDim S8192x1024 ![] bcast_S_S8192x1024 main_cst_5
  let main_v31 : IVec S8192x1024 1 := cmpf .ogt main_v27 main_v30
  let main_v32 : IVec S8192x1024 1 := andi main_v29 main_v31
  main_v32

def fn {F : FTy → Type} [FloatOps F] (main_arg0 : FVec F S8192x1024 .f32) (main_arg1 : FVec F S1024 .f32) (main_arg2 : FVec F S1024 .f32) (main_arg3 : FVec F S8192x1024 .f32) : IVec S8192x1024 1 :=
  let main_cst : FVec F S_ .f32 := constant S_ .f32 0x00000000#32
  let main_v0 : FVec F S8192 .f32 := (fun x v => Host.reduceAdd x v reducesTo_S8192x1024_S8192_d1 h_S_) main_arg0 main_cst
  let main_v1 : FVec F S8192x1 .f32 := broadcastInDim S8192x1 ![0] bcast_S8192_S8192x1_0 main_v0
  let main_cst_0 : FVec F S_ .f32 := constant S_ .f32 0x44800000#32
  let main_v2 : FVec F S8192x1 .f32 := broadcastInDim S8192x1 ![] bcast_S_S8192x1 main_cst_0
  let main_v3 : FVec F S8192x1 .f32 := Host.divf main_v1 main_v2
  let main_v4 : FVec F S8192x1024 .f32 := broadcastInDim S8192x1024 ![0, 1] bcast_S8192x1_S8192x1024_0_1 main_v3
  let main_v5 : FVec F S8192x1024 .f32 := subf main_arg0 main_v4
  let main_v6 : FVec F S8192x1024 .f32 := mulf main_v5 main_v5
  let main_cst_1 : FVec F S_ .f32 := constant S_ .f32 0x00000000#32
  let main_v7 : FVec F S8192 .f32 := (fun x v => Host.reduceAdd x v reducesTo_S8192x1024_S8192_d1 h_S_) main_v6 main_cst_1
  let main_v8 : FVec F S8192x1 .f32 := broadcastInDim S8192x1 ![0] bcast_S8192_S8192x1_0 main_v7
  let main_cst_2 : FVec F S_ .f32 := constant S_ .f32 0x44800000#32
  let main_v9 : FVec F S8192x1 .f32 := broadcastInDim S8192x1 ![] bcast_S_S8192x1 main_cst_2
  let main_v10 : FVec F S8192x1 .f32 := Host.divf main_v8 main_v9
  let main_v11 : FVec F S8192x1024 .f32 := broadcastInDim S8192x1024 ![0, 1] bcast_S8192x1_S8192x1024_0_1 main_v3
  let main_v12 : FVec F S8192x1024 .f32 := subf main_arg0 main_v11
  let main_cst_3 : FVec F S_ .f32 := constant S_ .f32 0x3727C5AC#32
  let main_v13 : FVec F S8192x1 .f32 := broadcastInDim S8192x1 ![] bcast_S_S8192x1 main_cst_3
  let main_v14 : FVec F S8192x1 .f32 := addf main_v10 main_v13
  let main_v15 : FVec F S8192x1 .f32 := Host.rsqrt main_v14
  let main_v16 : FVec F S8192x1024 .f32 := broadcastInDim S8192x1024 ![0, 1] bcast_S8192x1_S8192x1024_0_1 main_v15
  let main_v17 : FVec F S8192x1024 .f32 := mulf main_v12 main_v16
  let main_v18 : FVec F S1x1024 .f32 := broadcastInDim S1x1024 ![1] bcast_S1024_S1x1024_1 main_arg1
  fn_part1 (F := F) main_arg1 main_arg2 main_arg3 main_v17 main_v18
-- ==== Kernel.lean ====
abbrev S4x2048x2048 : Shape := ⟨3, ![4, 2048, 2048]⟩
abbrev S4x2048x128 : Shape := ⟨3, ![4, 2048, 128]⟩
abbrev S4x2048x512 : Shape := ⟨3, ![4, 2048, 512]⟩
abbrev S1x2048x128 : Shape := ⟨3, ![1, 2048, 128]⟩
abbrev S2048x128 : Shape := ⟨2, ![2048, 128]⟩
abbrev S2048 : Shape := ⟨1, ![2048]⟩
abbrev S2048x1 : Shape := ⟨2, ![2048, 1]⟩
abbrev S32x64x128 : Shape := ⟨3, ![32, 64, 128]⟩
abbrev S32x128x128 : Shape := ⟨3, ![32, 128, 128]⟩
abbrev S32x128x192 : Shape := ⟨3, ![32, 128, 192]⟩
abbrev S2x64x128 : Shape := ⟨3, ![2, 64, 128]⟩
abbrev S30x64x128 : Shape := ⟨3, ![30, 64, 128]⟩
abbrev S1x64x128 : Shape := ⟨3, ![1, 64, 128]⟩
abbrev S31x64x128 : Shape := ⟨3, ![31, 64, 128]⟩
abbrev S32x192x128 : Shape := ⟨3, ![32, 192, 128]⟩
abbrev S32x64x1 : Shape := ⟨3, ![32, 64, 1]⟩
abbrev S32x128x1 : Shape := ⟨3, ![32, 128, 1]⟩
abbrev S512x128 : Shape := ⟨2, ![512, 128]⟩
abbrev S1x512x128 : Shape := ⟨3, ![1, 512, 128]⟩
abbrev S128x128 : Shape := ⟨2, ![128, 128]⟩
abbrev S1x128x128 : Shape := ⟨3, ![1, 128, 128]⟩
abbrev S16x128x128 : Shape := ⟨3, ![16, 128, 128]⟩
abbrev S16x256x128 : Shape := ⟨3, ![16, 256, 128]⟩
abbrev S1x256x128 : Shape := ⟨3, ![1, 256, 128]⟩
abbrev S16x128x1 : Shape := ⟨3, ![16, 128, 1]⟩
abbrev S16x256x1 : Shape := ⟨3, ![16, 256, 1]⟩

abbrev nBuf : Space → Nat
  | .hbm => 9
  | .vmem => 37
  | .smem => 0
  | _ => 0

abbrev bufTy : (tb : Table) → Fin (tcTables nBuf tb) → BufTy
  | .hbm, ⟨0, _⟩ => ⟨S4x2048x2048, .f32⟩
  | .hbm, ⟨1, _⟩ => ⟨S4x2048x128, .f32⟩
  | .hbm, ⟨2, _⟩ => ⟨S4x2048x128, .f32⟩
  | .hbm, ⟨3, _⟩ => ⟨S4x2048x512, .f32⟩
  | .hbm, ⟨4, _⟩ => ⟨S4x2048x512, .f32⟩
  | .hbm, ⟨5, _⟩ => ⟨S4x2048x512, .f32⟩
  | .hbm, ⟨6, _⟩ => ⟨S4x2048x512, .bf16⟩
  | .hbm, ⟨7, _⟩ => ⟨S4x2048x512, .bf16⟩
  | .hbm, ⟨8, _⟩ => ⟨S4x2048x512, .bf16⟩
  | .local _ .vmem, ⟨0, _⟩ => ⟨S1x2048x128, .f32⟩
  | .local _ .vmem, ⟨1, _⟩ => ⟨S1x2048x128, .f32⟩
  | .local _ .vmem, ⟨2, _⟩ => ⟨S1x2048x128, .f32⟩
  | .local _ .vmem, ⟨3, _⟩ => ⟨S1x2048x128, .f32⟩
  | .local _ .vmem, ⟨4, _⟩ => ⟨S1x2048x128, .f32⟩
  | .local _ .vmem, ⟨5, _⟩ => ⟨S1x2048x128, .f32⟩
  | .local _ .vmem, ⟨6, _⟩ => ⟨S1x2048x128, .f32⟩
  | .local _ .vmem, ⟨7, _⟩ => ⟨S1x2048x128, .f32⟩
  | .local _ .vmem, ⟨8, _⟩ => ⟨S1x2048x128, .f32⟩
  | .local _ .vmem, ⟨9, _⟩ => ⟨S1x2048x128, .f32⟩
  | .local _ .vmem, ⟨10, _⟩ => ⟨S1x2048x128, .f32⟩
  | .local _ .vmem, ⟨11, _⟩ => ⟨S1x2048x128, .f32⟩
  | .local _ .vmem, ⟨12, _⟩ => ⟨S1x2048x128, .f32⟩
  | .local _ .vmem, ⟨13, _⟩ => ⟨S1x2048x128, .f32⟩
  | .local _ .vmem, ⟨14, _⟩ => ⟨S1x2048x128, .f32⟩
  | .local _ .vmem, ⟨15, _⟩ => ⟨S1x2048x128, .f32⟩
  | .local _ .vmem, ⟨16, _⟩ => ⟨S1x2048x128, .bf16⟩
  | .local _ .vmem, ⟨17, _⟩ => ⟨S1x2048x128, .bf16⟩
  | .local _ .vmem, ⟨18, _⟩ => ⟨S1x2048x128, .bf16⟩
  | .local _ .vmem, ⟨19, _⟩ => ⟨S1x2048x128, .bf16⟩
  | .local _ .vmem, ⟨20, _⟩ => ⟨S1x2048x128, .bf16⟩
  | .local _ .vmem, ⟨21, _⟩ => ⟨S1x2048x128, .bf16⟩
  | .local _ .vmem, ⟨22, _⟩ => ⟨S2048x128, .f32⟩
  | .local _ .vmem, ⟨23, _⟩ => ⟨S2048x128, .f32⟩
  | .local _ .vmem, ⟨24, _⟩ => ⟨S2048x128, .f32⟩
  | .local _ .vmem, ⟨25, _⟩ => ⟨S2048x128, .bf16⟩
  | .local _ .vmem, ⟨26, _⟩ => ⟨S2048x128, .bf16⟩
  | .local _ .vmem, ⟨27, _⟩ => ⟨S2048x128, .bf16⟩
  | .local _ .vmem, ⟨28, _⟩ => ⟨S2048x128, .bf16⟩
  | .local _ .vmem, ⟨29, _⟩ => ⟨S2048x128, .f32⟩
  | .local _ .vmem, ⟨30, _⟩ => ⟨S2048x128, .f32⟩
  | .local _ .vmem, ⟨31, _⟩ => ⟨S2048x128, .f32⟩
  | .local _ .vmem, ⟨32, _⟩ => ⟨S2048x128, .f32⟩
  | .local _ .vmem, ⟨33, _⟩ => ⟨S2048x128, .f32⟩
  | .local _ .vmem, ⟨34, _⟩ => ⟨S2048x128, .f32⟩
  | .local _ .vmem, ⟨35, _⟩ => ⟨S2048x128, .f32⟩
  | .local _ .vmem, ⟨36, _⟩ => ⟨S2048x128, .f32⟩
  | _, _ => ⟨S4x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_scratch10 : Ref sig .tc := ⟨.vmem, 32, rfl⟩
abbrev cc0_scratch11 : Ref sig .tc := ⟨.vmem, 33, rfl⟩
abbrev cc0_scratch12 : Ref sig .tc := ⟨.vmem, 34, rfl⟩
abbrev cc0_scratch13 : Ref sig .tc := ⟨.vmem, 35, rfl⟩
abbrev cc0_scratch14 : Ref sig .tc := ⟨.vmem, 36, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  let c0_i32_0 : BitVec 32 := 0#32
  ![arg0.toNat, c0_i32.toNat, v0.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, c0_i32_0.toNat, v0.toNat]

abbrev stage0_0 : Fin 2 → Memref sig .tc .vmem S1x2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x2048x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2048x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x2048x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Ff2.lean ====
abbrev S8192x4096 : Shape := ⟨2, ![8192, 4096]⟩
abbrev S4096 : Shape := ⟨1, ![4096]⟩
abbrev S4096x1024 : Shape := ⟨2, ![4096, 1024]⟩
abbrev S8192x1024 : Shape := ⟨2, ![8192, 1024]⟩
abbrev S1x4096 : Shape := ⟨2, ![1, 4096]⟩
abbrev S_ : Shape := ⟨0, ![]⟩
abbrev S512x1024 : Shape := ⟨2, ![512, 1024]⟩
abbrev S512x4096 : Shape := ⟨2, ![512, 4096]⟩

abbrev nBuf : Space → Nat
  | .hbm => 15
  | .vmem => 8
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x1024, .f32⟩
  | .hbm, ⟨3, _⟩ => ⟨S8192x1024, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | .hbm, ⟨12, _⟩ => ⟨S4096x1024, .bf16⟩
  | .hbm, ⟨13, _⟩ => ⟨S8192x4096, .bf16⟩
  | .hbm, ⟨14, _⟩ => ⟨S1x4096, .f32⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S4096x1024, .bf16⟩
  | .local _ .vmem, ⟨5, _⟩ => ⟨S512x4096, .bf16⟩
  | .local _ .vmem, ⟨6, _⟩ => ⟨S512x4096, .bf16⟩
  | .local _ .vmem, ⟨7, _⟩ => ⟨S1x4096, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_cst : Ref sig .tc := ⟨.hbm, 7, rfl⟩
abbrev main_call0_v0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7_0 : Ref sig .tc := ⟨.hbm, 13, rfl⟩
abbrev main_v7_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v21 : BitVec 1 := Scalar.cmpi .eq arg0 c0_i32
  let v22 : BitVec 32 := Scalar.extui v21
  let c0_i32_11 : BitVec 32 := 0#32
  let v23 : BitVec 1 := Scalar.cmpi .ne v22 c0_i32_11
  v23

def k0_cond2 (i : grid0.Coords) : BitVec 1 :=
  let arg0 : BitVec 32 := BitVec.ofNat 32 (i 0).val
  let c0_i32 : BitVec 32 := 0#32
  let v21 : BitVec 1 := Scalar.cmpi .eq arg0 c0_i32
  let v_true : BitVec 1 := 1#1
  let v24 : BitVec 1 := Scalar.xori v21 v_true
  let v25 : BitVec 32 := Scalar.extui v24
  let c0_i32_12 : BitVec 32 := 0#32
  let v26 : BitVec 1 := Scalar.cmpi .ne v25 c0_i32_12
  v26

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Ff2RefIdeal.lean ====
abbrev S8192x4096 : Shape := ⟨2, ![8192, 4096]⟩
abbrev S4096 : Shape := ⟨1, ![4096]⟩
abbrev S4096x1024 : Shape := ⟨2, ![4096, 1024]⟩
abbrev S8192x1024 : Shape := ⟨2, ![8192, 1024]⟩
abbrev S_ : Shape := ⟨0, ![]⟩
abbrev S1x4096 : Shape := ⟨2, ![1, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S4096x1024, .f32⟩
  | .hbm, ⟨3, _⟩ => ⟨S8192x1024, .f32⟩
  | .hbm, ⟨4, _⟩ => ⟨S8192x4096, .f32⟩
  | .hbm, ⟨5, _⟩ => ⟨S8192x4096, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S_, .f32⟩
  | .hbm, ⟨10, _⟩ => ⟨S8192x4096, .f32⟩
  | .hbm, ⟨11, _⟩ => ⟨S8192x4096, .i1⟩
  | .hbm, ⟨12, _⟩ => ⟨S_, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x1024, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192x4096, .f32⟩
  | .hbm, ⟨23, _⟩ => ⟨S8192x4096, .f32⟩
  | .hbm, ⟨24, _⟩ => ⟨S1x4096, .f32⟩
  | .hbm, ⟨25, _⟩ => ⟨S8192x4096, .f32⟩
  | .hbm, ⟨26, _⟩ => ⟨S8192x4096, .f32⟩
  | .hbm, ⟨27, _⟩ => ⟨S_, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192x4096, .f32⟩
  | .hbm, ⟨32, _⟩ => ⟨S8192x4096, .i1⟩
  | .hbm, ⟨33, _⟩ => ⟨S_, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x4096, .f32⟩
  | .hbm, ⟨38, _⟩ => ⟨S8192x4096, .f32⟩
  | .hbm, ⟨39, _⟩ => ⟨S8192x1024, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S8192x4096, .f32⟩
  | .hbm, ⟨44, _⟩ => ⟨S8192x4096, .f32⟩
  | .hbm, ⟨45, _⟩ => ⟨S_, .f32⟩
  | .hbm, ⟨46, _⟩ => ⟨S4096, .f32⟩
  | .hbm, ⟨47, _⟩ => ⟨S1x4096, .f32⟩
  | .hbm, ⟨48, _⟩ => ⟨S_, .f32⟩
  | .hbm, ⟨49, _⟩ => ⟨S4096, .f32⟩
  | .hbm, ⟨50, _⟩ => ⟨S8192x4096, .bf16⟩
  | .hbm, ⟨51, _⟩ => ⟨S1x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call1_cst : Ref sig .tc := ⟨.hbm, 27, rfl⟩
abbrev main_call1_v0 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩

abbrev nD : Nat := 1
abbrev τ : Topo := Topo.v7x

variable {F : FTy → Type} [FloatOps F]
-- ==== Ff1.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1024x8x512 : Shape := ⟨3, ![1024, 8, 512]⟩
abbrev S8x1024x512 : Shape := ⟨3, ![8, 1024, 512]⟩
abbrev S_ : Shape := ⟨0, ![]⟩
abbrev S8x128 : Shape := ⟨2, ![8, 128]⟩
abbrev S1x1024 : Shape := ⟨2, ![1, 1024]⟩
abbrev S512x4096 : Shape := ⟨2, ![512, 4096]⟩
abbrev S512x1024 : Shape := ⟨2, ![512, 1024]⟩
abbrev S512x512 : Shape := ⟨2, ![512, 512]⟩
abbrev S1x1024x512 : Shape := ⟨3, ![1, 1024, 512]⟩
abbrev S1024x512 : Shape := ⟨2, ![1024, 512]⟩
abbrev S512 : Shape := ⟨1, ![512]⟩
abbrev S512x1 : Shape := ⟨2, ![512, 1]⟩

abbrev nBuf : Space → Nat
  | .hbm => 20
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S8192x1024, .f32⟩
  | .hbm, ⟨6, _⟩ => ⟨S8192x4096, .bf16⟩
  | .hbm, ⟨7, _⟩ => ⟨S1024x8x512, .f32⟩
  | .hbm, ⟨8, _⟩ => ⟨S8x1024x512, .f32⟩
  | .hbm, ⟨9, _⟩ => ⟨S8x1024x512, .bf16⟩
  | .hbm, ⟨10, _⟩ => ⟨S_, .f32⟩
  | .hbm, ⟨11, _⟩ => ⟨S8x128, .f32⟩
  | .hbm, ⟨12, _⟩ => ⟨S1x1024, .f32⟩
  | .hbm, ⟨13, _⟩ => ⟨S8192x1024, .f32⟩
  | .hbm, ⟨14, _⟩ => ⟨S8192x1024, .f32⟩
  | .hbm, ⟨15, _⟩ => ⟨S1x1024, .f32⟩
  | .hbm, ⟨16, _⟩ => ⟨S8192x1024, .f32⟩
  | .hbm, ⟨17, _⟩ => ⟨S1x1024, .f32⟩
  | .hbm, ⟨18, _⟩ => ⟨S1x1024, .f32⟩
  | .hbm, ⟨19, _⟩ => ⟨S1x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S8x1024x512, .bf16⟩
  | .local _ .vmem, ⟨7, _⟩ => ⟨S1x1024, .f32⟩
  | .local _ .vmem, ⟨8, _⟩ => ⟨S8x128, .f32⟩
  | .local _ .vmem, ⟨9, _⟩ => ⟨S512x1024, .f32⟩
  | .local _ .vmem, ⟨10, _⟩ => ⟨S512x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v90 : BitVec 1 := Scalar.cmpi .eq arg0 c0_i32
  let v91 : BitVec 32 := Scalar.extui v90
  let c0_i32_46 : BitVec 32 := 0#32
  let v92 : BitVec 1 := Scalar.cmpi .ne v91 c0_i32_46
  v92

def k0_cond2 (i : grid0.Coords) : BitVec 1 :=
  let arg0 : BitVec 32 := BitVec.ofNat 32 (i 0).val
  let c0_i32 : BitVec 32 := 0#32
  let v90 : BitVec 1 := Scalar.cmpi .eq arg0 c0_i32
  let v_true : BitVec 1 := 1#1
  let v93 : BitVec 1 := Scalar.xori v90 v_true
  let v94 : BitVec 32 := Scalar.extui v93
  let c0_i32_47 : BitVec 32 := 0#32
  let v95 : BitVec 1 := Scalar.cmpi .ne v94 c0_i32_47
  v95

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Ff1RefIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024, .f32⟩
  | .hbm, ⟨4, _⟩ => ⟨S1024x4096, .f32⟩
  | .hbm, ⟨5, _⟩ => ⟨S8192x1024, .f32⟩
  | .hbm, ⟨6, _⟩ => ⟨S8192x4096, .bf16⟩
  | .hbm, ⟨7, _⟩ => ⟨S1x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S8192x1024, .f32⟩
  | .hbm, ⟨39, _⟩ => ⟨S8192x1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S1x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S8192x4096, .f32⟩
  | .hbm, ⟨50, _⟩ => ⟨S8192x4096, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192, .f32⟩
  | .hbm, ⟨98, _⟩ => ⟨S8192x1024, .f32⟩
  | .hbm, ⟨99, _⟩ => ⟨S8192x1024, .f32⟩
  | .hbm, ⟨100, _⟩ => ⟨S_, .f32⟩
  | .hbm, ⟨101, _⟩ => ⟨S1024, .f32⟩
  | .hbm, ⟨102, _⟩ => ⟨S1x1024, .f32⟩
  | .hbm, ⟨103, _⟩ => ⟨S_, .f32⟩
  | .hbm, ⟨104, _⟩ => ⟨S1024, .f32⟩
  | .hbm, ⟨105, _⟩ => ⟨S1x1024, .f32⟩
  | .hbm, ⟨106, _⟩ => ⟨S1x1024, .f32⟩
  | .hbm, ⟨107, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_cst_7 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_8 : Ref sig .tc := ⟨.hbm, 56, rfl⟩
abbrev main_v40 : Ref sig .tc := ⟨.hbm, 57, rfl⟩
abbrev main_v41 : Ref sig .tc := ⟨.hbm, 58, rfl⟩
abbrev main_cst_9 : Ref sig .tc := ⟨.hbm, 59, rfl⟩
abbrev main_v42 : Ref sig .tc := ⟨.hbm, 60, rfl⟩
abbrev main_v43 : Ref sig .tc := ⟨.hbm, 61, rfl⟩
abbrev main_cst_10 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_cst_11 : Ref sig .tc := ⟨.hbm, 67, rfl⟩
abbrev main_v48 : Ref sig .tc := ⟨.hbm, 68, rfl⟩
abbrev main_v49 : Ref sig .tc := ⟨.hbm, 69, rfl⟩
abbrev main_cst_12 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_13 : Ref sig .tc := ⟨.hbm, 77, rfl⟩
abbrev main_v56 : Ref sig .tc := ⟨.hbm, 78, rfl⟩
abbrev main_v57 : Ref sig .tc := ⟨.hbm, 79, rfl⟩
abbrev main_cst_14 : Ref sig .tc := ⟨.hbm, 80, rfl⟩
abbrev main_v58 : Ref sig .tc := ⟨.hbm, 81, rfl⟩
abbrev main_v59 : Ref sig .tc := ⟨.hbm, 82, rfl⟩
abbrev main_cst_15 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_16 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_17 : Ref sig .tc := ⟨.hbm, 93, rfl⟩
abbrev main_v68 : Ref sig .tc := ⟨.hbm, 94, rfl⟩
abbrev main_v69 : Ref sig .tc := ⟨.hbm, 95, rfl⟩
abbrev main_cst_18 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_19 : Ref sig .tc := ⟨.hbm, 100, rfl⟩
abbrev main_v73 : Ref sig .tc := ⟨.hbm, 101, rfl⟩
abbrev main_v74 : Ref sig .tc := ⟨.hbm, 102, rfl⟩
abbrev main_cst_20 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩

abbrev nD : Nat := 1
abbrev τ : Topo := Topo.v7x

variable {F : FTy → Type} [FloatOps F]
-- ==== Mix.lean ====
abbrev S8192x512 : Shape := ⟨2, ![8192, 512]⟩
abbrev S512x512 : Shape := ⟨2, ![512, 512]⟩
abbrev S512 : Shape := ⟨1, ![512]⟩
abbrev S1024x1024 : Shape := ⟨2, ![1024, 1024]⟩
abbrev S8192x1024 : Shape := ⟨2, ![8192, 1024]⟩
abbrev S1x512 : Shape := ⟨2, ![1, 512]⟩
abbrev S1024x512 : Shape := ⟨2, ![1024, 512]⟩
abbrev S1024 : Shape := ⟨1, ![1024]⟩
abbrev S1024x1 : Shape := ⟨2, ![1024, 1]⟩

abbrev nBuf : Space → Nat
  | .hbm => 19
  | .vmem => 20
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S1024x1024, .f32⟩
  | .hbm, ⟨7, _⟩ => ⟨S8192x1024, .f32⟩
  | .hbm, ⟨8, _⟩ => ⟨S1024x1024, .bf16⟩
  | .hbm, ⟨9, _⟩ => ⟨S512x512, .bf16⟩
  | .hbm, ⟨10, _⟩ => ⟨S1x512, .f32⟩
  | .hbm, ⟨11, _⟩ => ⟨S1x512, .f32⟩
  | .hbm, ⟨12, _⟩ => ⟨S1x512, .f32⟩
  | .hbm, ⟨13, _⟩ => ⟨S8192x512, .f32⟩
  | .hbm, ⟨14, _⟩ => ⟨S8192x512, .f32⟩
  | .hbm, ⟨15, _⟩ => ⟨S8192x512, .bf16⟩
  | .hbm, ⟨16, _⟩ => ⟨S1x512, .f32⟩
  | .hbm, ⟨17, _⟩ => ⟨S1x512, .f32⟩
  | .hbm, ⟨18, _⟩ => ⟨S1x512, .f32⟩
  | .local _ .vmem, ⟨0, _⟩ => ⟨S1024x1024, .f32⟩
  | .local _ .vmem, ⟨1, _⟩ => ⟨S1024x1024, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S1024x1024, .bf16⟩
  | .local _ .vmem, ⟨7, _⟩ => ⟨S512x512, .bf16⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1024x512, .f32⟩
  | .local _ .vmem, ⟨12, _⟩ => ⟨S1024x512, .f32⟩
  | .local _ .vmem, ⟨13, _⟩ => ⟨S1024x512, .f32⟩
  | .local _ .vmem, ⟨14, _⟩ => ⟨S1024x512, .f32⟩
  | .local _ .vmem, ⟨15, _⟩ => ⟨S1024x512, .bf16⟩
  | .local _ .vmem, ⟨16, _⟩ => ⟨S1024x512, .bf16⟩
  | .local _ .vmem, ⟨17, _⟩ => ⟨S1x512, .f32⟩
  | .local _ .vmem, ⟨18, _⟩ => ⟨S1x512, .f32⟩
  | .local _ .vmem, ⟨19, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5_0 : Ref sig .tc := ⟨.hbm, 13, rfl⟩
abbrev main_v5_1 : Ref sig .tc := ⟨.hbm, 14, rfl⟩
abbrev main_v5_2 : Ref sig .tc := ⟨.hbm, 15, rfl⟩
abbrev main_v5_3 : Ref sig .tc := ⟨.hbm, 16, rfl⟩
abbrev main_v5_4 : Ref sig .tc := ⟨.hbm, 17, rfl⟩
abbrev main_v5_5 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v139 : BitVec 1 := Scalar.cmpi .eq arg0 c0_i32
  let v140 : BitVec 32 := Scalar.extui v139
  let c0_i32_52 : BitVec 32 := 0#32
  let v141 : BitVec 1 := Scalar.cmpi .ne v140 c0_i32_52
  v141

def k0_cond2 (i : grid0.Coords) : BitVec 1 :=
  let arg0 : BitVec 32 := BitVec.ofNat 32 (i 0).val
  let c0_i32 : BitVec 32 := 0#32
  let v139 : BitVec 1 := Scalar.cmpi .eq arg0 c0_i32
  let v_true : BitVec 1 := 1#1
  let v142 : BitVec 1 := Scalar.xori v139 v_true
  let v143 : BitVec 32 := Scalar.extui v142
  let c0_i32_53 : BitVec 32 := 0#32
  let v144 : BitVec 1 := Scalar.cmpi .ne v143 c0_i32_53
  v144

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1024x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== MixRefIdeal.lean ====
abbrev S8192x512 : Shape := ⟨2, ![8192, 512]⟩
abbrev S512x512 : Shape := ⟨2, ![512, 512]⟩
abbrev S512 : Shape := ⟨1, ![512]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 146
  | .vmem => 0
  | .smem => 0
  | _ => 0

abbrev hbmTy0_0 (i : Nat) : BufTy := match i % 128 with
  | 0 => ⟨S8192x512, .f32⟩
  | 1 => ⟨S8192x512, .f32⟩
  | 2 => ⟨S512x512, .f32⟩
  | 3 => ⟨S512, .f32⟩
  | 4 => ⟨S512, .f32⟩
  | 5 => ⟨S512, .f32⟩
  | 6 => ⟨S1024x1024, .f32⟩
  | 7 => ⟨S8192x1024, .f32⟩
  | 8 => ⟨S8192x512, .f32⟩
  | 9 => ⟨S8192x512, .f32⟩
  | 10 => ⟨S8192x512, .f32⟩
  | 11 => ⟨S_, .f32⟩
  | 12 => ⟨S8192x512, .f32⟩
  | 13 => ⟨S8192x512, .f32⟩
  | 14 => ⟨S8192x512, .f32⟩
  | 15 => ⟨S_, .f32⟩
  | 16 => ⟨S8192x512, .f32⟩
  | 17 => ⟨S8192x512, .f32⟩
  | 18 => ⟨S8192x512, .f32⟩
  | 19 => ⟨S_, .f32⟩
  | 20 => ⟨S8192x512, .f32⟩
  | 21 => ⟨S8192x512, .f32⟩
  | 22 => ⟨S_, .f32⟩
  | 23 => ⟨S8192x512, .f32⟩
  | 24 => ⟨S8192x512, .f32⟩
  | 25 => ⟨S8192x512, .f32⟩
  | 26 => ⟨S8192x512, .f32⟩
  | 27 => ⟨S8192x512, .f32⟩
  | 28 => ⟨S8192x512, .f32⟩
  | 29 => ⟨S8192x512, .f32⟩
  | 30 => ⟨S_, .f32⟩
  | 31 => ⟨S8192x512, .f32⟩
  | 32 => ⟨S8192x512, .f32⟩
  | 33 => ⟨S_, .f32⟩
  | 34 => ⟨S8192x512, .f32⟩
  | 35 => ⟨S8192x512, .f32⟩
  | 36 => ⟨S_, .f32⟩
  | 37 => ⟨S8192x512, .f32⟩
  | 38 => ⟨S8192x512, .f32⟩
  | 39 => ⟨S8192x512, .f32⟩
  | 40 => ⟨S8192x512, .f32⟩
  | 41 => ⟨S8192x512, .f32⟩
  | 42 => ⟨S_, .f32⟩
  | 43 => ⟨S8192x512, .f32⟩
  | 44 => ⟨S8192x512, .f32⟩
  | 45 => ⟨S_, .f32⟩
  | 46 => ⟨S8192, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x1, .f32⟩
  | 55 => ⟨S8192x1, .f32⟩
  | 56 => ⟨S_, .f32⟩
  | 57 => ⟨S8192x1, .f32⟩
  | 58 => ⟨S8192x1, .f32⟩
  | 59 => ⟨S8192x512, .f32⟩
  | 60 => ⟨S8192x512, .f32⟩
  | 61 => ⟨S1x512, .f32⟩
  | 62 => ⟨S8192x512, .f32⟩
  | 63 => ⟨S8192x512, .f32⟩
  | 64 => ⟨S8192x512, .f32⟩
  | 65 => ⟨S_, .f32⟩
  | 66 => ⟨S8192x512, .f32⟩
  | 67 => ⟨S8192x512, .f32⟩
  | 68 => ⟨S_, .f32⟩
  | 69 => ⟨S8192, .f32⟩
  | 70 => ⟨S8192x1, .f32⟩
  | 71 => ⟨S_, .f32⟩
  | 72 => ⟨S8192x1, .f32⟩
  | 73 => ⟨S8192x1, .f32⟩
  | 74 => ⟨S_, .f32⟩
  | 75 => ⟨S8192x1, .f32⟩
  | 76 => ⟨S8192x1, .f32⟩
  | 77 => ⟨S8192x1, .f32⟩
  | 78 => ⟨S8192x1, .f32⟩
  | 79 => ⟨S_, .f32⟩
  | 80 => ⟨S8192x1, .f32⟩
  | 81 => ⟨S8192x1, .f32⟩
  | 82 => ⟨S8192x512, .f32⟩
  | 83 => ⟨S8192x512, .f32⟩
  | 84 => ⟨S1x512, .f32⟩
  | 85 => ⟨S8192x512, .f32⟩
  | 86 => ⟨S8192x512, .f32⟩
  | 87 => ⟨S8192x1024, .f32⟩
  | 88 => ⟨S8192x1024, .f32⟩
  | 89 => ⟨S8192x1024, .f32⟩
  | 90 => ⟨S8192x512, .f32⟩
  | 91 => ⟨S8192x512, .f32⟩
  | 92 => ⟨S8192x512, .f32⟩
  | 93 => ⟨S_, .f32⟩
  | 94 => ⟨S512, .f32⟩
  | 95 => ⟨S1x512, .f32⟩
  | 96 => ⟨S8192x512, .f32⟩
  | 97 => ⟨S8192x512, .f32⟩
  | 98 => ⟨S_, .f32⟩
  | 99 => ⟨S512, .f32⟩
  | 100 => ⟨S8192x512, .f32⟩
  | 101 => ⟨S_, .f32⟩
  | 102 => ⟨S8192, .f32⟩
  | 103 => ⟨S8192x1, .f32⟩
  | 104 => ⟨S8192x512, .f32⟩
  | 105 => ⟨S8192x512, .f32⟩
  | 106 => ⟨S8192x1, .f32⟩
  | 107 => ⟨S_, .f32⟩
  | 108 => ⟨S8192x1, .f32⟩
  | 109 => ⟨S8192x1, .f32⟩
  | 110 => ⟨S_, .f32⟩
  | 111 => ⟨S8192, .f32⟩
  | 112 => ⟨S8192x512, .f32⟩
  | 113 => ⟨S8192x512, .f32⟩
  | 114 => ⟨S8192x512, .f32⟩
  | 115 => ⟨S8192x512, .f32⟩
  | 116 => ⟨S_, .f32⟩
  | 117 => ⟨S512, .f32⟩
  | 118 => ⟨S1x512, .f32⟩
  | 119 => ⟨S8192x512, .f32⟩
  | 120 => ⟨S8192x512, .f32⟩
  | 121 => ⟨S_, .f32⟩
  | 122 => ⟨S512, .f32⟩
  | 123 => ⟨S8192x512, .f32⟩
  | 124 => ⟨S_, .f32⟩
  | 125 => ⟨S8192, .f32⟩
  | 126 => ⟨S8192x1, .f32⟩
  | 127 => ⟨S8192x512, .f32⟩
  | _ => ⟨S8192x512, .f32⟩

abbrev hbmTy0_1 (i : Nat) : BufTy := match i % 128 with
  | 0 => ⟨S8192x512, .f32⟩
  | 1 => ⟨S8192x1, .f32⟩
  | 2 => ⟨S_, .f32⟩
  | 3 => ⟨S8192x1, .f32⟩
  | 4 => ⟨S8192x1, .f32⟩
  | 5 => ⟨S_, .f32⟩
  | 6 => ⟨S8192, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S_, .f32⟩
  | 13 => ⟨S512, .f32⟩
  | 14 => ⟨S8192x512, .bf16⟩
  | 15 => ⟨S1x512, .f32⟩
  | 16 => ⟨S1x512, .f32⟩
  | 17 => ⟨S1x512, .f32⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_cst_2 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_3 : Ref sig .tc := ⟨.hbm, 30, rfl⟩
abbrev main_v18 : Ref sig .tc := ⟨.hbm, 31, rfl⟩
abbrev main_v19 : Ref sig .tc := ⟨.hbm, 32, rfl⟩
abbrev main_cst_4 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_cst_7 : Ref sig .tc := ⟨.hbm, 45, rfl⟩
abbrev main_v29 : Ref sig .tc := ⟨.hbm, 46, rfl⟩
abbrev main_v30 : Ref sig .tc := ⟨.hbm, 47, rfl⟩
abbrev main_cst_8 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_10 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_cst_12 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_cst_15 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_cst_16 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_cst_17 : Ref sig .tc := ⟨.hbm, 98, rfl⟩
abbrev main_v72 : Ref sig .tc := ⟨.hbm, 99, rfl⟩
abbrev main_v73 : Ref sig .tc := ⟨.hbm, 100, rfl⟩
abbrev main_cst_18 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_cst_19 : Ref sig .tc := ⟨.hbm, 107, rfl⟩
abbrev main_v79 : Ref sig .tc := ⟨.hbm, 108, rfl⟩
abbrev main_v80 : Ref sig .tc := ⟨.hbm, 109, rfl⟩
abbrev main_cst_20 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_21 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_cst_22 : Ref sig .tc := ⟨.hbm, 121, rfl⟩
abbrev main_v90 : Ref sig .tc := ⟨.hbm, 122, rfl⟩
abbrev main_v91 : Ref sig .tc := ⟨.hbm, 123, rfl⟩
abbrev main_cst_23 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_cst_24 : Ref sig .tc := ⟨.hbm, 130, rfl⟩
abbrev main_v97 : Ref sig .tc := ⟨.hbm, 131, rfl⟩
abbrev main_v98 : Ref sig .tc := ⟨.hbm, 132, rfl⟩
abbrev main_cst_25 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_cst_26 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩

abbrev nD : Nat := 1
abbrev τ : Topo := Topo.v7x

variable {F : FTy → Type} [FloatOps F]
-- ==== Wff2.lean ====
abbrev S8192x4096 : Shape := ⟨2, ![8192, 4096]⟩
abbrev S4096x1024 : Shape := ⟨2, ![4096, 1024]⟩
abbrev S8192x1024 : Shape := ⟨2, ![8192, 1024]⟩
abbrev S8x512x1024 : Shape := ⟨3, ![8, 512, 1024]⟩
abbrev S512x4096 : Shape := ⟨2, ![512, 4096]⟩
abbrev S512x1024 : Shape := ⟨2, ![512, 1024]⟩
abbrev S512x512 : Shape := ⟨2, ![512, 512]⟩
abbrev S1x512x1024 : Shape := ⟨3, ![1, 512, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x4096, .bf16⟩
  | .hbm, ⟨4, _⟩ => ⟨S8x512x1024, .bf16⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S8x512x1024, .bf16⟩
  | .local _ .vmem, ⟨5, _⟩ => ⟨S8x512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v71 : BitVec 1 := Scalar.cmpi .eq arg1 c15_i32
  let v72 : BitVec 32 := Scalar.extui v71
  let c0_i32_52 : BitVec 32 := 0#32
  let v73 : BitVec 1 := Scalar.cmpi .ne v72 c0_i32_52
  v73

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Wff2RefIdeal.lean ====
abbrev S8192x4096 : Shape := ⟨2, ![8192, 4096]⟩
abbrev S4096x1024 : Shape := ⟨2, ![4096, 1024]⟩
abbrev S8192x1024 : Shape := ⟨2, ![8192, 1024]⟩
abbrev S1024x4096 : Shape := ⟨2, ![1024, 4096]⟩
abbrev S8x512x1024 : Shape := ⟨3, ![8, 512, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .f32⟩
  | .hbm, ⟨4, _⟩ => ⟨S1024x4096, .f32⟩
  | .hbm, ⟨5, _⟩ => ⟨S4096x1024, .f32⟩
  | .hbm, ⟨6, _⟩ => ⟨S4096x1024, .bf16⟩
  | .hbm, ⟨7, _⟩ => ⟨S8x512x1024, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Wff1.lean ====
abbrev S8192x1024 : Shape := ⟨2, ![8192, 1024]⟩
abbrev S1024x4096 : Shape := ⟨2, ![1024, 4096]⟩
abbrev S8192x4096 : Shape := ⟨2, ![8192, 4096]⟩
abbrev S8x1024x512 : Shape := ⟨3, ![8, 1024, 512]⟩
abbrev S512x1024 : Shape := ⟨2, ![512, 1024]⟩
abbrev S512x4096 : Shape := ⟨2, ![512, 4096]⟩
abbrev S512x512 : Shape := ⟨2, ![512, 512]⟩
abbrev S1x1024x512 : Shape := ⟨3, ![1, 1024, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .bf16⟩
  | .hbm, ⟨3, _⟩ => ⟨S8x1024x512, .bf16⟩
  | .local _ .vmem, ⟨0, _⟩ => ⟨S512x1024, .f32⟩
  | .local _ .vmem, ⟨1, _⟩ => ⟨S512x1024, .f32⟩
  | .local _ .vmem, ⟨2, _⟩ => ⟨S512x4096, .bf16⟩
  | .local _ .vmem, ⟨3, _⟩ => ⟨S512x4096, .bf16⟩
  | .local _ .vmem, ⟨4, _⟩ => ⟨S8x1024x512, .bf16⟩
  | .local _ .vmem, ⟨5, _⟩ => ⟨S8x1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 16], ![false, false]⟩

def k0_cond2 (i : grid0.Coords) : BitVec 1 :=
  let arg1 : BitVec 32 := BitVec.ofNat 32 (i 1).val
  let c15_i32 : BitVec 32 := 15#32
  let v70 : BitVec 1 := Scalar.cmpi .eq arg1 c15_i32
  let v71 : BitVec 32 := Scalar.extui v70
  let c0_i32_52 : BitVec 32 := 0#32
  let v72 : BitVec 1 := Scalar.cmpi .ne v71 c0_i32_52
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== Wff1RefIdeal.lean ====
abbrev S8192x1024 : Shape := ⟨2, ![8192, 1024]⟩
abbrev S1024x4096 : Shape := ⟨2, ![1024, 4096]⟩
abbrev S8192x4096 : Shape := ⟨2, ![8192, 4096]⟩
abbrev S4096x1024 : Shape := ⟨2, ![4096, 1024]⟩
abbrev S1024x8x512 : Shape := ⟨3, ![1024, 8, 512]⟩
abbrev S8x1024x512 : Shape := ⟨3, ![8, 1024, 512]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S8192x4096, .bf16⟩
  | .hbm, ⟨3, _⟩ => ⟨S8192x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | .hbm, ⟨8, _⟩ => ⟨S1024x8x512, .bf16⟩
  | .hbm, ⟨9, _⟩ => ⟨S8x1024x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== In.lean ====
abbrev S8192x1024 : Shape := ⟨2, ![8192, 1024]⟩
abbrev S1024x2048 : Shape := ⟨2, ![1024, 2048]⟩
abbrev S1024x8x256 : Shape := ⟨3, ![1024, 8, 256]⟩
abbrev S8x1024x256 : Shape := ⟨3, ![8, 1024, 256]⟩
abbrev S_ : Shape := ⟨0, ![]⟩
abbrev S8x128 : Shape := ⟨2, ![8, 128]⟩
abbrev S8192x2048 : Shape := ⟨2, ![8192, 2048]⟩
abbrev S1024x1024 : Shape := ⟨2, ![1024, 1024]⟩
abbrev S1x1024x256 : Shape := ⟨3, ![1, 1024, 256]⟩
abbrev S1024x256 : Shape := ⟨2, ![1024, 256]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S1024x8x256, .f32⟩
  | .hbm, ⟨3, _⟩ => ⟨S8x1024x256, .f32⟩
  | .hbm, ⟨4, _⟩ => ⟨S8x1024x256, .bf16⟩
  | .hbm, ⟨5, _⟩ => ⟨S_, .f32⟩
  | .hbm, ⟨6, _⟩ => ⟨S8x128, .f32⟩
  | .hbm, ⟨7, _⟩ => ⟨S8192x2048, .f32⟩
  | .local _ .vmem, ⟨0, _⟩ => ⟨S1024x1024, .f32⟩
  | .local _ .vmem, ⟨1, _⟩ => ⟨S1024x1024, .f32⟩
  | .local _ .vmem, ⟨2, _⟩ => ⟨S8x1024x256, .bf16⟩
  | .local _ .vmem, ⟨3, _⟩ => ⟨S8x128, .f32⟩
  | .local _ .vmem, ⟨4, _⟩ => ⟨S1024x2048, .f32⟩
  | .local _ .vmem, ⟨5, _⟩ => ⟨S1024x2048, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== InRefIdeal.lean ====
abbrev S8192x1024 : Shape := ⟨2, ![8192, 1024]⟩
abbrev S1024x2048 : Shape := ⟨2, ![1024, 2048]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x2048, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Mixf.lean ====
abbrev S8192x512 : Shape := ⟨2, ![8192, 512]⟩
abbrev S512x512 : Shape := ⟨2, ![512, 512]⟩
abbrev S512 : Shape := ⟨1, ![512]⟩
abbrev S_ : Shape := ⟨0, ![]⟩
abbrev S8x128 : Shape := ⟨2, ![8, 128]⟩
abbrev S1x512 : Shape := ⟨2, ![1, 512]⟩
abbrev S8192x1024 : Shape := ⟨2, ![8192, 1024]⟩
abbrev S1024x512 : Shape := ⟨2, ![1024, 512]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 13
  | .vmem => 11
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S_, .f32⟩
  | .hbm, ⟨7, _⟩ => ⟨S8x128, .f32⟩
  | .hbm, ⟨8, _⟩ => ⟨S512x512, .bf16⟩
  | .hbm, ⟨9, _⟩ => ⟨S1x512, .f32⟩
  | .hbm, ⟨10, _⟩ => ⟨S1x512, .f32⟩
  | .hbm, ⟨11, _⟩ => ⟨S1x512, .f32⟩
  | .hbm, ⟨12, _⟩ => ⟨S8192x1024, .bf16⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S1x512, .f32⟩
  | .local _ .vmem, ⟨6, _⟩ => ⟨S1x512, .f32⟩
  | .local _ .vmem, ⟨7, _⟩ => ⟨S1x512, .f32⟩
  | .local _ .vmem, ⟨8, _⟩ => ⟨S8x128, .f32⟩
  | .local _ .vmem, ⟨9, _⟩ => ⟨S1024x1024, .bf16⟩
  | .local _ .vmem, ⟨10, _⟩ => ⟨S1024x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== MixfRefIdeal.lean ====
abbrev S8192x512 : Shape := ⟨2, ![8192, 512]⟩
abbrev S512x512 : Shape := ⟨2, ![512, 512]⟩
abbrev S512 : Shape := ⟨1, ![512]⟩
abbrev S_ : Shape := ⟨0, ![]⟩
abbrev S1x512 : Shape := ⟨2, ![1, 512]⟩
abbrev S8192 : Shape := ⟨1, ![8192]⟩
abbrev S8192x1 : Shape := ⟨2, ![8192, 1]⟩
abbrev S8192x1024 : Shape := ⟨2, ![8192, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S512x512, .f32⟩
  | .hbm, ⟨3, _⟩ => ⟨S512, .f32⟩
  | .hbm, ⟨4, _⟩ => ⟨S512, .f32⟩
  | .hbm, ⟨5, _⟩ => ⟨S512, .f32⟩
  | .hbm, ⟨6, _⟩ => ⟨S8192x512, .f32⟩
  | .hbm, ⟨7, _⟩ => ⟨S8192x512, .f32⟩
  | .hbm, ⟨8, _⟩ => ⟨S_, .f32⟩
  | .hbm, ⟨9, _⟩ => ⟨S8192x512, .f32⟩
  | .hbm, ⟨10, _⟩ => ⟨S8192x512, .f32⟩
  | .hbm, ⟨11, _⟩ => ⟨S8192x512, .f32⟩
  | .hbm, ⟨12, _⟩ => ⟨S_, .f32⟩
  | .hbm, ⟨13, _⟩ => ⟨S8192x512, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S_, .f32⟩
  | .hbm, ⟨20, _⟩ => ⟨S8192x512, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x512, .f32⟩
  | .hbm, ⟨48, _⟩ => ⟨S8192x512, .f32⟩
  | .hbm, ⟨49, _⟩ => ⟨S1x512, .f32⟩
  | .hbm, ⟨50, _⟩ => ⟨S8192x512, .f32⟩
  | .hbm, ⟨51, _⟩ => ⟨S8192x512, .f32⟩
  | .hbm, ⟨52, _⟩ => ⟨S8192x512, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S_, .f32⟩
  | .hbm, ⟨57, _⟩ => ⟨S8192x1, .f32⟩
  | .hbm, ⟨58, _⟩ => ⟨S8192x1, .f32⟩
  | .hbm, ⟨59, _⟩ => ⟨S_, .f32⟩
  | .hbm, ⟨60, _⟩ => ⟨S8192x1, .f32⟩
  | .hbm, ⟨61, _⟩ => ⟨S8192x1, .f32⟩
  | .hbm, ⟨62, _⟩ => ⟨S8192x1, .f32⟩
  | .hbm, ⟨63, _⟩ => ⟨S8192x512, .f32⟩
  | .hbm, ⟨64, _⟩ => ⟨S8192x512, .f32⟩
  | .hbm, ⟨65, _⟩ => ⟨S1x512, .f32⟩
  | .hbm, ⟨66, _⟩ => ⟨S8192x512, .f32⟩
  | .hbm, ⟨67, _⟩ => ⟨S8192x512, .f32⟩
  | .hbm, ⟨68, _⟩ => ⟨S8192x1024, .f32⟩
  | .hbm, ⟨69, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Out.lean ====
abbrev S8192x1024 : Shape := ⟨2, ![8192, 1024]⟩
abbrev S1024x1024 : Shape := ⟨2, ![1024, 1024]⟩
abbrev S1024 : Shape := ⟨1, ![1024]⟩
abbrev S1x1024 : Shape := ⟨2, ![1, 1024]⟩
abbrev S1024x1 : Shape := ⟨2, ![1024, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1024x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S8192x1024 : Shape := ⟨2, ![8192, 1024]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .f32⟩
  | .hbm, ⟨2, _⟩ => ⟨S1024x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Ff1f.lean ====
abbrev S8192x1024 : Shape := ⟨2, ![8192, 1024]⟩
abbrev S1024x4096 : Shape := ⟨2, ![1024, 4096]⟩
abbrev S4096 : Shape := ⟨1, ![4096]⟩
abbrev S1024x8x512 : Shape := ⟨3, ![1024, 8, 512]⟩
abbrev S8x1024x512 : Shape := ⟨3, ![8, 1024, 512]⟩
abbrev S1x4096 : Shape := ⟨2, ![1, 4096]⟩
abbrev S8192x4096 : Shape := ⟨2, ![8192, 4096]⟩
abbrev S512x1024 : Shape := ⟨2, ![512, 1024]⟩
abbrev S512x4096 : Shape := ⟨2, ![512, 4096]⟩
abbrev S1x1024x512 : Shape := ⟨3, ![1, 1024, 512]⟩
abbrev S1024x512 : Shape := ⟨2, ![1024, 512]⟩
abbrev S512x512 : Shape := ⟨2, ![512, 512]⟩

abbrev nBuf : Space → Nat
  | .hbm => 8
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S1024x8x512, .f32⟩
  | .hbm, ⟨4, _⟩ => ⟨S8x1024x512, .f32⟩
  | .hbm, ⟨5, _⟩ => ⟨S8x1024x512, .bf16⟩
  | .hbm, ⟨6, _⟩ => ⟨S1x4096, .f32⟩
  | .hbm, ⟨7, _⟩ => ⟨S8192x4096, .bf16⟩
  | .local _ .vmem, ⟨0, _⟩ => ⟨S512x1024, .f32⟩
  | .local _ .vmem, ⟨1, _⟩ => ⟨S512x1024, .f32⟩
  | .local _ .vmem, ⟨2, _⟩ => ⟨S8x1024x512, .bf16⟩
  | .local _ .vmem, ⟨3, _⟩ => ⟨S1x4096, .f32⟩
  | .local _ .vmem, ⟨4, _⟩ => ⟨S512x4096, .bf16⟩
  | .local _ .vmem, ⟨5, _⟩ => ⟨S512x4096, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Ff1fRefIdeal.lean ====
abbrev S8192x1024 : Shape := ⟨2, ![8192, 1024]⟩
abbrev S1024x4096 : Shape := ⟨2, ![1024, 4096]⟩
abbrev S4096 : Shape := ⟨1, ![4096]⟩
abbrev S8192x4096 : Shape := ⟨2, ![8192, 4096]⟩
abbrev S1x4096 : Shape := ⟨2, ![1, 4096]⟩
abbrev S_ : Shape := ⟨0, ![]⟩

abbrev nBuf : Space → Nat
  | .hbm => 12
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_cst : Ref sig .tc := ⟨.hbm, 7, rfl⟩
abbrev main_call0_v0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== Ff2f.lean ====
abbrev S8192x4096 : Shape := ⟨2, ![8192, 4096]⟩
abbrev S8192x1024 : Shape := ⟨2, ![8192, 1024]⟩
abbrev S4096x1024 : Shape := ⟨2, ![4096, 1024]⟩
abbrev S1024 : Shape := ⟨1, ![1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 12
  | .vmem => 12
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S4096x1024, .bf16⟩
  | .hbm, ⟨7, _⟩ => ⟨S1x1024, .f32⟩
  | .hbm, ⟨8, _⟩ => ⟨S1x1024, .f32⟩
  | .hbm, ⟨9, _⟩ => ⟨S1x1024, .f32⟩
  | .hbm, ⟨10, _⟩ => ⟨S8192x1024, .f32⟩
  | .hbm, ⟨11, _⟩ => ⟨S8192x1024, .f32⟩
  | .local _ .vmem, ⟨0, _⟩ => ⟨S512x4096, .bf16⟩
  | .local _ .vmem, ⟨1, _⟩ => ⟨S512x4096, .bf16⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Ff2fRefIdeal.lean ====
abbrev S8192x4096 : Shape := ⟨2, ![8192, 4096]⟩
abbrev S8192x1024 : Shape := ⟨2, ![8192, 1024]⟩
abbrev S4096x1024 : Shape := ⟨2, ![4096, 1024]⟩
abbrev S1024 : Shape := ⟨1, ![1024]⟩
abbrev S_ : Shape := ⟨0, ![]⟩
abbrev S1x1024 : Shape := ⟨2, ![1, 1024]⟩
abbrev S8192 : Shape := ⟨1, ![8192]⟩
abbrev S8192x1 : Shape := ⟨2, ![8192, 1]⟩

abbrev nBuf : Space → Nat
  | .hbm => 44
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S8192x1024, .f32⟩
  | .hbm, ⟨2, _⟩ => ⟨S4096x1024, .f32⟩
  | .hbm, ⟨3, _⟩ => ⟨S1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x4096, .f32⟩
  | .hbm, ⟨10, _⟩ => ⟨S8192x1024, .f32⟩
  | .hbm, ⟨11, _⟩ => ⟨S1x1024, .f32⟩
  | .hbm, ⟨12, _⟩ => ⟨S8192x1024, .f32⟩
  | .hbm, ⟨13, _⟩ => ⟨S8192x1024, .f32⟩
  | .hbm, ⟨14, _⟩ => ⟨S8192x1024, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192x1024, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S1x1024, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩

abbrev nD : Nat := 1
abbrev τ : Topo := Topo.v7x

variable {F : FTy → Type} [FloatOps F]
-- ==== Loss.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩
abbrev S1024x1024 : Shape := ⟨2, ![1024, 1024]⟩
abbrev S1024x1 : Shape := ⟨2, ![1024, 1]⟩
abbrev S1 : Shape := ⟨1, ![1]⟩
abbrev S1x1 : Shape := ⟨2, ![1, 1]⟩

abbrev nBuf : Space → Nat
  | .hbm => 39
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S1x128, .f32⟩
  | .hbm, ⟨36, _⟩ => ⟨S1x1024, .f32⟩
  | .hbm, ⟨37, _⟩ => ⟨S1x1024, .f32⟩
  | .hbm, ⟨38, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1024x1024, .f32⟩
  | .local _ .vmem, ⟨8, _⟩ => ⟨S1024x1024, .f32⟩
  | .local _ .vmem, ⟨9, _⟩ => ⟨S1x128, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25_0 : Ref sig .tc := ⟨.hbm, 34, rfl⟩
abbrev main_v25_1 : Ref sig .tc := ⟨.hbm, 35, rfl⟩
abbrev main_v25_2 : Ref sig .tc := ⟨.hbm, 36, rfl⟩
abbrev main_v25_3 : Ref sig .tc := ⟨.hbm, 37, rfl⟩
abbrev main_v25_4 : Ref sig .tc := ⟨.hbm, 38, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem8_0 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v62 : BitVec 1 := Scalar.cmpi .eq arg0 c0_i32
  let v63 : BitVec 32 := Scalar.extui v62
  let c0_i32_25 : BitVec 32 := 0#32
  let v64 : BitVec 1 := Scalar.cmpi .ne v63 c0_i32_25
  v64

def k0_cond2 (i : grid0.Coords) : BitVec 1 :=
  let arg0 : BitVec 32 := BitVec.ofNat 32 (i 0).val
  let c0_i32 : BitVec 32 := 0#32
  let v62 : BitVec 1 := Scalar.cmpi .eq arg0 c0_i32
  let v_true : BitVec 1 := 1#1
  let v65 : BitVec 1 := Scalar.xori v62 v_true
  let v66 : BitVec 32 := Scalar.extui v65
  let c0_i32_26 : BitVec 32 := 0#32
  let v67 : BitVec 1 := Scalar.cmpi .ne v66 c0_i32_26
  v67

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== LossRefIdeal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x128 : Shape := ⟨2, ![1, 128]⟩

abbrev nBuf : Space → Nat
  | .hbm => 113
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S8192x1024, .f32⟩
  | .hbm, ⟨11, _⟩ => ⟨S8192x1024, .f32⟩
  | .hbm, ⟨12, _⟩ => ⟨S8192x1024, .f32⟩
  | .hbm, ⟨13, _⟩ => ⟨S_, .f32⟩
  | .hbm, ⟨14, _⟩ => ⟨S8192x1024, .f32⟩
  | .hbm, ⟨15, _⟩ => ⟨S8192x1024, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S8192, .f32⟩
  | .hbm, ⟨47, _⟩ => ⟨S_, .f32⟩
  | .hbm, ⟨48, _⟩ => ⟨S8192, .f32⟩
  | .hbm, ⟨49, _⟩ => ⟨S8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S8192, .f32⟩
  | .hbm, ⟨58, _⟩ => ⟨S_, .f32⟩
  | .hbm, ⟨59, _⟩ => ⟨S8192, .f32⟩
  | .hbm, ⟨60, _⟩ => ⟨S8192, .f32⟩
  | .hbm, ⟨61, _⟩ => ⟨S8192x1024, .f32⟩
  | .hbm, ⟨62, _⟩ => ⟨S8192x1024, .f32⟩
  | .hbm, ⟨63, _⟩ => ⟨S_, .f32⟩
  | .hbm, ⟨64, _⟩ => ⟨S1024, .f32⟩
  | .hbm, ⟨65, _⟩ => ⟨S1x1024, .f32⟩
  | .hbm, ⟨66, _⟩ => ⟨S_, .f32⟩
  | .hbm, ⟨67, _⟩ => ⟨S1024, .f32⟩
  | .hbm, ⟨68, _⟩ => ⟨S8192x1024, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S8192x1024, .f32⟩
  | .hbm, ⟨99, _⟩ => ⟨S8192x1, .f32⟩
  | .hbm, ⟨100, _⟩ => ⟨S_, .f32⟩
  | .hbm, ⟨101, _⟩ => ⟨S8192x1, .f32⟩
  | .hbm, ⟨102, _⟩ => ⟨S8192x1, .f32⟩
  | .hbm, ⟨103, _⟩ => ⟨S_, .f32⟩
  | .hbm, ⟨104, _⟩ => ⟨S8192, .f32⟩
  | .hbm, ⟨105, _⟩ => ⟨S8192x1024, .f32⟩
  | .hbm, ⟨106, _⟩ => ⟨S8192x1024, .f32⟩
  | .hbm, ⟨107, _⟩ => ⟨S1x128, .f32⟩
  | .hbm, ⟨108, _⟩ => ⟨S1x1024, .f32⟩
  | .hbm, ⟨109, _⟩ => ⟨S1x1024, .f32⟩
  | .hbm, ⟨110, _⟩ => ⟨S_, .f32⟩
  | .hbm, ⟨111, _⟩ => ⟨S1024, .f32⟩
  | .hbm, ⟨112, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_6 : Ref sig .tc := ⟨.hbm, 42, rfl⟩
abbrev main_v31 : Ref sig .tc := ⟨.hbm, 43, rfl⟩
abbrev main_v32 : Ref sig .tc := ⟨.hbm, 44, rfl⟩
abbrev main_cst_7 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_cst_9 : Ref sig .tc := ⟨.hbm, 50, rfl⟩
abbrev main_v36 : Ref sig .tc := ⟨.hbm, 51, rfl⟩
abbrev main_cst_10 : Ref sig .tc := ⟨.hbm, 52, rfl⟩
abbrev main_v37 : Ref sig .tc := ⟨.hbm, 53, rfl⟩
abbrev main_cst_11 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_14 : Ref sig .tc := ⟨.hbm, 63, rfl⟩
abbrev main_v44 : Ref sig .tc := ⟨.hbm, 64, rfl⟩
abbrev main_v45 : Ref sig .tc := ⟨.hbm, 65, rfl⟩
abbrev main_cst_15 : Ref sig .tc := ⟨.hbm, 66, rfl⟩
abbrev main_v46 : Ref sig .tc := ⟨.hbm, 67, rfl⟩
abbrev main_v47 : Ref sig .tc := ⟨.hbm, 68, rfl⟩
abbrev main_cst_16 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_17 : Ref sig .tc := ⟨.hbm, 74, rfl⟩
abbrev main_v52 : Ref sig .tc := ⟨.hbm, 75, rfl⟩
abbrev main_v53 : Ref sig .tc := ⟨.hbm, 76, rfl⟩
abbrev main_cst_18 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_19 : Ref sig .tc := ⟨.hbm, 84, rfl⟩
abbrev main_v60 : Ref sig .tc := ⟨.hbm, 85, rfl⟩
abbrev main_v61 : Ref sig .tc := ⟨.hbm, 86, rfl⟩
abbrev main_cst_20 : Ref sig .tc := ⟨.hbm, 87, rfl⟩
abbrev main_v62 : Ref sig .tc := ⟨.hbm, 88, rfl⟩
abbrev main_v63 : Ref sig .tc := ⟨.hbm, 89, rfl⟩
abbrev main_cst_21 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_22 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_cst_23 : Ref sig .tc := ⟨.hbm, 100, rfl⟩
abbrev main_v72 : Ref sig .tc := ⟨.hbm, 101, rfl⟩
abbrev main_v73 : Ref sig .tc := ⟨.hbm, 102, rfl⟩
abbrev main_cst_24 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_cst_25 : Ref sig .tc := ⟨.hbm, 110, rfl⟩
abbrev main_v80 : Ref sig .tc := ⟨.hbm, 111, rfl⟩
abbrev main_v81 : Ref sig .tc := ⟨.hbm, 112, rfl⟩

abbrev nD : Nat := 1
abbrev τ : Topo := Topo.v7x

variable {F : FTy → Type} [FloatOps F]
-- ==== Inb.lean ====
abbrev S8192x1024 : Shape := ⟨2, ![8192, 1024]⟩
abbrev S1024 : Shape := ⟨1, ![1024]⟩
abbrev S1024x2048 : Shape := ⟨2, ![1024, 2048]⟩
abbrev S8192x512 : Shape := ⟨2, ![8192, 512]⟩
abbrev S1024x8x256 : Shape := ⟨3, ![1024, 8, 256]⟩
abbrev S8x1024x256 : Shape := ⟨3, ![8, 1024, 256]⟩
abbrev S_ : Shape := ⟨0, ![]⟩
abbrev S8x128 : Shape := ⟨2, ![8, 128]⟩
abbrev S1x1024 : Shape := ⟨2, ![1, 1024]⟩
abbrev S1024x512 : Shape := ⟨2, ![1024, 512]⟩
abbrev S1024x1024 : Shape := ⟨2, ![1024, 1024]⟩
abbrev S1024x256 : Shape := ⟨2, ![1024, 256]⟩
abbrev S1x1024x256 : Shape := ⟨3, ![1, 1024, 256]⟩
abbrev S1024x1 : Shape := ⟨2, ![1024, 1]⟩

abbrev nBuf : Space → Nat
  | .hbm => 19
  | .vmem => 20
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S8192x1024, .f32⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S1024x8x256, .f32⟩
  | .hbm, ⟨10, _⟩ => ⟨S8x1024x256, .f32⟩
  | .hbm, ⟨11, _⟩ => ⟨S8x1024x256, .bf16⟩
  | .hbm, ⟨12, _⟩ => ⟨S_, .f32⟩
  | .hbm, ⟨13, _⟩ => ⟨S8x128, .f32⟩
  | .hbm, ⟨14, _⟩ => ⟨S1x1024, .f32⟩
  | .hbm, ⟨15, _⟩ => ⟨S8192x1024, .f32⟩
  | .hbm, ⟨16, _⟩ => ⟨S1x1024, .f32⟩
  | .hbm, ⟨17, _⟩ => ⟨S1x1024, .f32⟩
  | .hbm, ⟨18, _⟩ => ⟨S1x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S8x1024x256, .bf16⟩
  | .local _ .vmem, ⟨13, _⟩ => ⟨S1x1024, .f32⟩
  | .local _ .vmem, ⟨14, _⟩ => ⟨S8x128, .f32⟩
  | .local _ .vmem, ⟨15, _⟩ => ⟨S1024x1024, .f32⟩
  | .local _ .vmem, ⟨16, _⟩ => ⟨S1024x1024, .f32⟩
  | .local _ .vmem, ⟨17, _⟩ => ⟨S1x1024, .f32⟩
  | .local _ .vmem, ⟨18, _⟩ => ⟨S1x1024, .f32⟩
  | .local _ .vmem, ⟨19, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5_0 : Ref sig .tc := ⟨.hbm, 15, rfl⟩
abbrev main_v5_1 : Ref sig .tc := ⟨.hbm, 16, rfl⟩
abbrev main_v5_2 : Ref sig .tc := ⟨.hbm, 17, rfl⟩
abbrev main_v5_3 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem11_0 : DmaSem sig := 18
abbrev cc0_sem12_0 : DmaSem sig := 19

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v93 : BitVec 1 := Scalar.cmpi .eq arg0 c0_i32
  let v94 : BitVec 32 := Scalar.extui v93
  let c0_i32_52 : BitVec 32 := 0#32
  let v95 : BitVec 1 := Scalar.cmpi .ne v94 c0_i32_52
  v95

def k0_cond2 (i : grid0.Coords) : BitVec 1 :=
  let arg0 : BitVec 32 := BitVec.ofNat 32 (i 0).val
  let c0_i32 : BitVec 32 := 0#32
  let v93 : BitVec 1 := Scalar.cmpi .eq arg0 c0_i32
  let v_true : BitVec 1 := 1#1
  let v96 : BitVec 1 := Scalar.xori v93 v_true
  let v97 : BitVec 32 := Scalar.extui v96
  let c0_i32_53 : BitVec 32 := 0#32
  let v98 : BitVec 1 := Scalar.cmpi .ne v97 c0_i32_53
  v98

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== InbRefIdeal.lean ====
abbrev S8192x1024 : Shape := ⟨2, ![8192, 1024]⟩
abbrev S1024 : Shape := ⟨1, ![1024]⟩
abbrev S1024x2048 : Shape := ⟨2, ![1024, 2048]⟩
abbrev S8192x512 : Shape := ⟨2, ![8192, 512]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024, .f32⟩
  | .hbm, ⟨3, _⟩ => ⟨S1024x2048, .f32⟩
  | .hbm, ⟨4, _⟩ => ⟨S8192x1024, .f32⟩
  | .hbm, ⟨5, _⟩ => ⟨S8192x512, .bf16⟩
  | .hbm, ⟨6, _⟩ => ⟨S8192x512, .bf16⟩
  | .hbm, ⟨7, _⟩ => ⟨S8192x512, .bf16⟩
  | .hbm, ⟨8, _⟩ => ⟨S8192x512, .bf16⟩
  | .hbm, ⟨9, _⟩ => ⟨S8192x2048, .bf16⟩
  | .hbm, ⟨10, _⟩ => ⟨S8192x2048, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S1x1024, .f32⟩
  | .hbm, ⟨42, _⟩ => ⟨S8192x1024, .f32⟩
  | .hbm, ⟨43, _⟩ => ⟨S8192x1024, .f32⟩
  | .hbm, ⟨44, _⟩ => ⟨S1x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192x1024, .f32⟩
  | .hbm, ⟨49, _⟩ => ⟨S8192x1024, .f32⟩
  | .hbm, ⟨50, _⟩ => ⟨S8192x2048, .f32⟩
  | .hbm, ⟨51, _⟩ => ⟨S8192x1024, .f32⟩
  | .hbm, ⟨52, _⟩ => ⟨S_, .f32⟩
  | .hbm, ⟨53, _⟩ => ⟨S8192x1024, .f32⟩
  | .hbm, ⟨54, _⟩ => ⟨S8192x1024, .f32⟩
  | .hbm, ⟨55, _⟩ => ⟨S8192x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S1024, .f32⟩
  | .hbm, ⟨64, _⟩ => ⟨S1x1024, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S8192x1024, .f32⟩
  | .hbm, ⟨70, _⟩ => ⟨S_, .f32⟩
  | .hbm, ⟨71, _⟩ => ⟨S8192, .f32⟩
  | .hbm, ⟨72, _⟩ => ⟨S8192x1, .f32⟩
  | .hbm, ⟨73, _⟩ => ⟨S8192x1024, .f32⟩
  | .hbm, ⟨74, _⟩ => ⟨S8192x1024, .f32⟩
  | .hbm, ⟨75, _⟩ => ⟨S8192x1, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S_, .f32⟩
  | .hbm, ⟨84, _⟩ => ⟨S8192, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S_, .f32⟩
  | .hbm, ⟨89, _⟩ => ⟨S8192, .f32⟩
  | .hbm, ⟨90, _⟩ => ⟨S8192x1, .f32⟩
  | .hbm, ⟨91, _⟩ => ⟨S8192x1024, .f32⟩
  | .hbm, ⟨92, _⟩ => ⟨S8192x1, .f32⟩
  | .hbm, ⟨93, _⟩ => ⟨S_, .f32⟩
  | .hbm, ⟨94, _⟩ => ⟨S8192x1, .f32⟩
  | .hbm, ⟨95, _⟩ => ⟨S8192x1, .f32⟩
  | .hbm, ⟨96, _⟩ => ⟨S_, .f32⟩
  | .hbm, ⟨97, _⟩ => ⟨S8192, .f32⟩
  | .hbm, ⟨98, _⟩ => ⟨S8192x1024, .f32⟩
  | .hbm, ⟨99, _⟩ => ⟨S8192x1024, .f32⟩
  | .hbm, ⟨100, _⟩ => ⟨S1x1024, .f32⟩
  | .hbm, ⟨101, _⟩ => ⟨S1x1024, .f32⟩
  | .hbm, ⟨102, _⟩ => ⟨S_, .f32⟩
  | .hbm, ⟨103, _⟩ => ⟨S1024, .f32⟩
  | .hbm, ⟨104, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_cst_0 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_1 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_cst_3 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_4 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_6 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_7 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_8 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_cst_10 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_11 : Ref sig .tc := ⟨.hbm, 67, rfl⟩
abbrev main_v46 : Ref sig .tc := ⟨.hbm, 68, rfl⟩
abbrev main_v47 : Ref sig .tc := ⟨.hbm, 69, rfl⟩
abbrev main_cst_12 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_13 : Ref sig .tc := ⟨.hbm, 77, rfl⟩
abbrev main_v54 : Ref sig .tc := ⟨.hbm, 78, rfl⟩
abbrev main_v55 : Ref sig .tc := ⟨.hbm, 79, rfl⟩
abbrev main_cst_14 : Ref sig .tc := ⟨.hbm, 80, rfl⟩
abbrev main_v56 : Ref sig .tc := ⟨.hbm, 81, rfl⟩
abbrev main_v57 : Ref sig .tc := ⟨.hbm, 82, rfl⟩
abbrev main_cst_15 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_16 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_cst_17 : Ref sig .tc := ⟨.hbm, 93, rfl⟩
abbrev main_v66 : Ref sig .tc := ⟨.hbm, 94, rfl⟩
abbrev main_v67 : Ref sig .tc := ⟨.hbm, 95, rfl⟩
abbrev main_cst_18 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_19 : Ref sig .tc := ⟨.hbm, 102, rfl⟩
abbrev main_v73 : Ref sig .tc := ⟨.hbm, 103, rfl⟩
abbrev main_v74 : Ref sig .tc := ⟨.hbm, 104, rfl⟩

abbrev nD : Nat := 1
abbrev τ : Topo := Topo.v7x

variable {F : FTy → Type} [FloatOps F]
-- ==== Inb0.lean ====
abbrev S8192x1024 : Shape := ⟨2, ![8192, 1024]⟩
abbrev S1024x2048 : Shape := ⟨2, ![1024, 2048]⟩
abbrev S8192x512 : Shape := ⟨2, ![8192, 512]⟩
abbrev S1024x8x256 : Shape := ⟨3, ![1024, 8, 256]⟩
abbrev S8x1024x256 : Shape := ⟨3, ![8, 1024, 256]⟩
abbrev S_ : Shape := ⟨0, ![]⟩
abbrev S8x128 : Shape := ⟨2, ![8, 128]⟩
abbrev S1024x512 : Shape := ⟨2, ![1024, 512]⟩
abbrev S1024x1024 : Shape := ⟨2, ![1024, 1024]⟩
abbrev S1024x256 : Shape := ⟨2, ![1024, 256]⟩
abbrev S1x1024x256 : Shape := ⟨3, ![1, 1024, 256]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .f32⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S1024x8x256, .f32⟩
  | .hbm, ⟨8, _⟩ => ⟨S8x1024x256, .f32⟩
  | .hbm, ⟨9, _⟩ => ⟨S8x1024x256, .bf16⟩
  | .hbm, ⟨10, _⟩ => ⟨S_, .f32⟩
  | .hbm, ⟨11, _⟩ => ⟨S8x128, .f32⟩
  | .hbm, ⟨12, _⟩ => ⟨S8192x1024, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x1024, .f32⟩
  | .local _ .vmem, ⟨9, _⟩ => ⟨S1024x1024, .f32⟩
  | .local _ .vmem, ⟨10, _⟩ => ⟨S8x1024x256, .bf16⟩
  | .local _ .vmem, ⟨11, _⟩ => ⟨S8x128, .f32⟩
  | .local _ .vmem, ⟨12, _⟩ => ⟨S1024x1024, .f32⟩
  | .local _ .vmem, ⟨13, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S8x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Inb0RefIdeal.lean ====
abbrev S8192x1024 : Shape := ⟨2, ![8192, 1024]⟩
abbrev S1024x2048 : Shape := ⟨2, ![1024, 2048]⟩
abbrev S8192x512 : Shape := ⟨2, ![8192, 512]⟩
abbrev S8192x2048 : Shape := ⟨2, ![8192, 2048]⟩
abbrev S_ : Shape := ⟨0, ![]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x1024, .f32⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x512, .bf16⟩
  | .hbm, ⟨7, _⟩ => ⟨S8192x2048, .bf16⟩
  | .hbm, ⟨8, _⟩ => ⟨S8192x2048, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S8192x2048, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩

abbrev nD : Nat := 1
abbrev τ : Topo := Topo.v7x

variable {F : FTy → Type} [FloatOps F]
-- ==== Wout.lean ====
abbrev S8192x1024 : Shape := ⟨2, ![8192, 1024]⟩
abbrev S1024x1024 : Shape := ⟨2, ![1024, 1024]⟩
abbrev S8x128x1024 : Shape := ⟨3, ![8, 128, 1024]⟩
abbrev S1024x128 : Shape := ⟨2, ![1024, 128]⟩
abbrev S1x128x1024 : Shape := ⟨3, ![1, 128, 1024]⟩
abbrev S128x1024 : Shape := ⟨2, ![128, 1024]⟩

abbrev nBuf : Space → Nat
  | .hbm => 4
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8x128x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S8x128x1024, .bf16⟩
  | .local _ .vmem, ⟨5, _⟩ => ⟨S8x128x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v70 : BitVec 1 := Scalar.cmpi .eq arg1 c7_i32
  let v71 : BitVec 32 := Scalar.extui v70
  let c0_i32_52 : BitVec 32 := 0#32
  let v72 : BitVec 1 := Scalar.cmpi .ne v71 c0_i32_52
  v72

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WoutRefIdeal.lean ====
abbrev S8192x1024 : Shape := ⟨2, ![8192, 1024]⟩
abbrev S1024x1024 : Shape := ⟨2, ![1024, 1024]⟩
abbrev S8x128x1024 : Shape := ⟨3, ![8, 128, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .f32⟩
  | .hbm, ⟨2, _⟩ => ⟨S8192x1024, .f32⟩
  | .hbm, ⟨3, _⟩ => ⟨S8192x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | .hbm, ⟨8, _⟩ => ⟨S8x128x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Wglu.lean ====
abbrev S8192x512 : Shape := ⟨2, ![8192, 512]⟩
abbrev S512x512 : Shape := ⟨2, ![512, 512]⟩
abbrev S1x512x512 : Shape := ⟨3, ![1, 512, 512]⟩
abbrev S1024x512 : Shape := ⟨2, ![1024, 512]⟩

abbrev nBuf : Space → Nat
  | .hbm => 4
  | .vmem => 6
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S8192x512, .bf16⟩
  | .hbm, ⟨3, _⟩ => ⟨S1x512x512, .bf16⟩
  | .local _ .vmem, ⟨0, _⟩ => ⟨S1024x512, .f32⟩
  | .local _ .vmem, ⟨1, _⟩ => ⟨S1024x512, .f32⟩
  | .local _ .vmem, ⟨2, _⟩ => ⟨S1024x512, .bf16⟩
  | .local _ .vmem, ⟨3, _⟩ => ⟨S1024x512, .bf16⟩
  | .local _ .vmem, ⟨4, _⟩ => ⟨S1x512x512, .bf16⟩
  | .local _ .vmem, ⟨5, _⟩ => ⟨S1x512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v26 : BitVec 1 := Scalar.cmpi .eq arg1 c7_i32
  let v27 : BitVec 32 := Scalar.extui v26
  let c0_i32_14 : BitVec 32 := 0#32
  let v28 : BitVec 1 := Scalar.cmpi .ne v27 c0_i32_14
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== WgluRefIdeal.lean ====
abbrev S8192x512 : Shape := ⟨2, ![8192, 512]⟩
abbrev S512x512 : Shape := ⟨2, ![512, 512]⟩
abbrev S_ : Shape := ⟨0, ![]⟩
abbrev S1x512x512 : Shape := ⟨3, ![1, 512, 512]⟩

abbrev nBuf : Space → Nat
  | .hbm => 26
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x512, .f32⟩
  | .hbm, ⟨2, _⟩ => ⟨S8192x512, .bf16⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S_, .f32⟩
  | .hbm, ⟨10, _⟩ => ⟨S8192x512, .f32⟩
  | .hbm, ⟨11, _⟩ => ⟨S8192x512, .f32⟩
  | .hbm, ⟨12, _⟩ => ⟨S8192x512, .f32⟩
  | .hbm, ⟨13, _⟩ => ⟨S_, .f32⟩
  | .hbm, ⟨14, _⟩ => ⟨S8192x512, .f32⟩
  | .hbm, ⟨15, _⟩ => ⟨S8192x512, .f32⟩
  | .hbm, ⟨16, _⟩ => ⟨S_, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S8192x512, .f32⟩
  | .hbm, ⟨21, _⟩ => ⟨S8192x512, .f32⟩
  | .hbm, ⟨22, _⟩ => ⟨S512x512, .f32⟩
  | .hbm, ⟨23, _⟩ => ⟨S512x512, .f32⟩
  | .hbm, ⟨24, _⟩ => ⟨S512x512, .bf16⟩
  | .hbm, ⟨25, _⟩ => ⟨S1x512x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== Win.lean ====
abbrev S8192x1024 : Shape := ⟨2, ![8192, 1024]⟩
abbrev S1024x2048 : Shape := ⟨2, ![1024, 2048]⟩
abbrev S8192x512 : Shape := ⟨2, ![8192, 512]⟩
abbrev S8x1024x256 : Shape := ⟨3, ![8, 1024, 256]⟩
abbrev S1024x1024 : Shape := ⟨2, ![1024, 1024]⟩
abbrev S1024x512 : Shape := ⟨2, ![1024, 512]⟩
abbrev S1024x256 : Shape := ⟨2, ![1024, 256]⟩
abbrev S1x1024x256 : Shape := ⟨3, ![1, 1024, 256]⟩

abbrev nBuf : Space → Nat
  | .hbm => 7
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8x1024x256, .bf16⟩
  | .local _ .vmem, ⟨0, _⟩ => ⟨S1024x1024, .f32⟩
  | .local _ .vmem, ⟨1, _⟩ => ⟨S1024x1024, .f32⟩
  | .local _ .vmem, ⟨2, _⟩ => ⟨S1024x512, .bf16⟩
  | .local _ .vmem, ⟨3, _⟩ => ⟨S1024x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S8x1024x256, .bf16⟩
  | .local _ .vmem, ⟨11, _⟩ => ⟨S8x1024x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v74 : BitVec 1 := Scalar.cmpi .eq arg1 c7_i32
  let v75 : BitVec 32 := Scalar.extui v74
  let c0_i32_58 : BitVec 32 := 0#32
  let v76 : BitVec 1 := Scalar.cmpi .ne v75 c0_i32_58
  v76

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S8x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]
-- ==== WinRefIdeal.lean ====
abbrev S8192x1024 : Shape := ⟨2, ![8192, 1024]⟩
abbrev S1024x2048 : Shape := ⟨2, ![1024, 2048]⟩
abbrev S8192x512 : Shape := ⟨2, ![8192, 512]⟩
abbrev S8192x2048 : Shape := ⟨2, ![8192, 2048]⟩
abbrev S2048x1024 : Shape := ⟨2, ![2048, 1024]⟩
abbrev S1024x8x256 : Shape := ⟨3, ![1024, 8, 256]⟩
abbrev S8x1024x256 : Shape := ⟨3, ![8, 1024, 256]⟩

abbrev nBuf : Space → Nat
  | .hbm => 14
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2048, .f32⟩
  | .hbm, ⟨2, _⟩ => ⟨S8192x512, .bf16⟩
  | .hbm, ⟨3, _⟩ => ⟨S8192x512, .bf16⟩
  | .hbm, ⟨4, _⟩ => ⟨S8192x512, .bf16⟩
  | .hbm, ⟨5, _⟩ => ⟨S8192x512, .bf16⟩
  | .hbm, ⟨6, _⟩ => ⟨S8192x2048, .bf16⟩
  | .hbm, ⟨7, _⟩ => ⟨S8192x2048, .f32⟩
  | .hbm, ⟨8, _⟩ => ⟨S8192x2048, .f32⟩
  | .hbm, ⟨9, _⟩ => ⟨S2048x1024, .f32⟩
  | .hbm, ⟨10, _⟩ => ⟨S1024x2048, .f32⟩
  | .hbm, ⟨11, _⟩ => ⟨S1024x2048, .bf16⟩
  | .hbm, ⟨12, _⟩ => ⟨S1024x8x256, .bf16⟩
  | .hbm, ⟨13, _⟩ => ⟨S8x1024x256, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Awin.lean ====
abbrev S8x1024x256 : Shape := ⟨3, ![8, 1024, 256]⟩
abbrev S4x1024x256 : Shape := ⟨3, ![4, 1024, 256]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .local _ .vmem, ⟨0, _⟩ => ⟨S8x256x256, .bf16⟩
  | .local _ .vmem, ⟨1, _⟩ => ⟨S8x256x256, .bf16⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AwinIdeal.lean ====
abbrev S8x1024x256 : Shape := ⟨3, ![8, 1024, 256]⟩
abbrev S4x1024x256 : Shape := ⟨3, ![4, 1024, 256]⟩
abbrev S8x256x256 : Shape := ⟨3, ![8, 256, 256]⟩
abbrev S1x256x256 : Shape := ⟨3, ![1, 256, 256]⟩
abbrev S256x256 : Shape := ⟨2, ![256, 256]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S4x1024x256, .f32⟩
  | .hbm, ⟨9, _⟩ => ⟨S4x1024x256, .f32⟩
  | .hbm, ⟨10, _⟩ => ⟨S4x1024x256, .f32⟩
  | .hbm, ⟨11, _⟩ => ⟨S4x1024x256, .f32⟩
  | .local _ .vmem, ⟨0, _⟩ => ⟨S8x256x256, .bf16⟩
  | .local _ .vmem, ⟨1, _⟩ => ⟨S8x256x256, .bf16⟩
  | .local _ .vmem, ⟨2, _⟩ => ⟨S1x256x256, .f32⟩
  | .local _ .vmem, ⟨3, _⟩ => ⟨S1x256x256, .f32⟩
  | .local _ .vmem, ⟨4, _⟩ => ⟨S1x256x256, .f32⟩
  | .local _ .vmem, ⟨5, _⟩ => ⟨S1x256x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x256x256, .f32⟩
  | .local _ .vmem, ⟨11, _⟩ => ⟨S1x256x256, .f32⟩
  | .local _ .vmem, ⟨12, _⟩ => ⟨S1x256x256, .f32⟩
  | .local _ .vmem, ⟨13, _⟩ => ⟨S1x256x256, .f32⟩
  | .local _ .vmem, ⟨14, _⟩ => ⟨S1x256x256, .f32⟩
  | .local _ .vmem, ⟨15, _⟩ => ⟨S1x256x256, .f32⟩
  | _, _ => ⟨S8x1024x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AwinRefIdeal.lean ====
abbrev S8x1024x256 : Shape := ⟨3, ![8, 1024, 256]⟩
abbrev S4x1024x256 : Shape := ⟨3, ![4, 1024, 256]⟩
abbrev S_ : Shape := ⟨0, ![]⟩
abbrev S1024x256 : Shape := ⟨2, ![1024, 256]⟩
abbrev S1x1024x256 : Shape := ⟨3, ![1, 1024, 256]⟩
abbrev S3x1024x256 : Shape := ⟨3, ![3, 1024, 256]⟩

abbrev nBuf : Space → Nat
  | .hbm => 62
  | .vmem => 0
  | .smem => 0
  | _ => 0

abbrev bufTy : (tb : Table) → Fin (tcTables nBuf tb) → BufTy
  | .hbm, ⟨0, _⟩ => ⟨S8x1024x256, .bf16⟩
  | .hbm, ⟨1, _⟩ => ⟨S4x1024x256, .f32⟩
  | .hbm, ⟨2, _⟩ => ⟨S4x1024x256, .f32⟩
  | .hbm, ⟨3, _⟩ => ⟨S4x1024x256, .f32⟩
  | .hbm, ⟨4, _⟩ => ⟨S4x1024x256, .f32⟩
  | .hbm, ⟨5, _⟩ => ⟨S4x1024x256, .f32⟩
  | .hbm, ⟨6, _⟩ => ⟨S4x1024x256, .f32⟩
  | .hbm, ⟨7, _⟩ => ⟨S4x1024x256, .f32⟩
  | .hbm, ⟨8, _⟩ => ⟨S8x1024x256, .f32⟩
  | .hbm, ⟨9, _⟩ => ⟨S_, .f32⟩
  | .hbm, ⟨10, _⟩ => ⟨S1024x256, .f32⟩
  | .hbm, ⟨11, _⟩ => ⟨S1x1024x256, .f32⟩
  | .hbm, ⟨12, _⟩ => ⟨S1024x256, .f32⟩
  | .hbm, ⟨13, _⟩ => ⟨S1x1024x256, .f32⟩
  | .hbm, ⟨14, _⟩ => ⟨S1024x256, .f32⟩
  | .hbm, ⟨15, _⟩ => ⟨S1x1024x256, .f32⟩
  | .hbm, ⟨16, _⟩ => ⟨S1024x256, .f32⟩
  | .hbm, ⟨17, _⟩ => ⟨S_, .f32⟩
  | .hbm, ⟨18, _⟩ => ⟨S1024x256, .f32⟩
  | .hbm, ⟨19, _⟩ => ⟨S1024x256, .f32⟩
  | .hbm, ⟨20, _⟩ => ⟨S_, .f32⟩
  | .hbm, ⟨21, _⟩ => ⟨S1024x256, .f32⟩
  | .hbm, ⟨22, _⟩ => ⟨S1024x256, .f32⟩
  | .hbm, ⟨23, _⟩ => ⟨S1024x256, .f32⟩
  | .hbm, ⟨24, _⟩ => ⟨S_, .f32⟩
  | .hbm, ⟨25, _⟩ => ⟨S1024x256, .f32⟩
  | .hbm, ⟨26, _⟩ => ⟨S1024x256, .f32⟩
  | .hbm, ⟨27, _⟩ => ⟨S1024x256, .f32⟩
  | .hbm, ⟨28, _⟩ => ⟨S_, .f32⟩
  | .hbm, ⟨29, _⟩ => ⟨S1024x256, .f32⟩
  | .hbm, ⟨30, _⟩ => ⟨S1024x256, .f32⟩
  | .hbm, ⟨31, _⟩ => ⟨S1024x256, .f32⟩
  | .hbm, ⟨32, _⟩ => ⟨S_, .f32⟩
  | .hbm, ⟨33, _⟩ => ⟨S1024x256, .f32⟩
  | .hbm, ⟨34, _⟩ => ⟨S1024x256, .f32⟩
  | .hbm, ⟨35, _⟩ => ⟨S_, .f32⟩
  | .hbm, ⟨36, _⟩ => ⟨S1024x256, .f32⟩
  | .hbm, ⟨37, _⟩ => ⟨S1024x256, .f32⟩
  | .hbm, ⟨38, _⟩ => ⟨S1024x256, .f32⟩
  | .hbm, ⟨39, _⟩ => ⟨S_, .f32⟩
  | .hbm, ⟨40, _⟩ => ⟨S1024x256, .f32⟩
  | .hbm, ⟨41, _⟩ => ⟨S1024x256, .f32⟩
  | .hbm, ⟨42, _⟩ => ⟨S1024x256, .f32⟩
  | .hbm, ⟨43, _⟩ => ⟨S_, .f32⟩
  | .hbm, ⟨44, _⟩ => ⟨S1024x256, .f32⟩
  | .hbm, ⟨45, _⟩ => ⟨S1024x256, .f32⟩
  | .hbm, ⟨46, _⟩ => ⟨S1024x256, .f32⟩
  | .hbm, ⟨47, _⟩ => ⟨S_, .f32⟩
  | .hbm, ⟨48, _⟩ => ⟨S1024x256, .f32⟩
  | .hbm, ⟨49, _⟩ => ⟨S1024x256, .f32⟩
  | .hbm, ⟨50, _⟩ => ⟨S1x1024x256, .f32⟩
  | .hbm, ⟨51, _⟩ => ⟨S3x1024x256, .f32⟩
  | .hbm, ⟨52, _⟩ => ⟨S4x1024x256, .f32⟩
  | .hbm, ⟨53, _⟩ => ⟨S1x1024x256, .f32⟩
  | .hbm, ⟨54, _⟩ => ⟨S3x1024x256, .f32⟩
  | .hbm, ⟨55, _⟩ => ⟨S4x1024x256, .f32⟩
  | .hbm, ⟨56, _⟩ => ⟨S1x1024x256, .f32⟩
  | .hbm, ⟨57, _⟩ => ⟨S3x1024x256, .f32⟩
  | .hbm, ⟨58, _⟩ => ⟨S4x1024x256, .f32⟩
  | .hbm, ⟨59, _⟩ => ⟨S1x1024x256, .f32⟩
  | .hbm, ⟨60, _⟩ => ⟨S3x1024x256, .f32⟩
  | .hbm, ⟨61, _⟩ => ⟨S4x1024x256, .f32⟩
  | _, _ => ⟨S8x1024x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Awglu.lean ====
abbrev S8x64x512 : Shape := ⟨3, ![8, 64, 512]⟩
abbrev S4x64x512 : Shape := ⟨3, ![4, 64, 512]⟩
abbrev S1x64x512 : Shape := ⟨3, ![1, 64, 512]⟩
abbrev S64x512 : Shape := ⟨2, ![64, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x64x512, .bf16⟩
  | .hbm, ⟨1, _⟩ => ⟨S4x64x512, .f32⟩
  | .hbm, ⟨2, _⟩ => ⟨S4x64x512, .f32⟩
  | .hbm, ⟨3, _⟩ => ⟨S4x64x512, .f32⟩
  | .hbm, ⟨4, _⟩ => ⟨S4x64x512, .f32⟩
  | .hbm, ⟨5, _⟩ => ⟨S4x64x512, .f32⟩
  | .hbm, ⟨6, _⟩ => ⟨S4x64x512, .f32⟩
  | .hbm, ⟨7, _⟩ => ⟨S4x64x512, .f32⟩
  | .hbm, ⟨8, _⟩ => ⟨S4x64x512, .f32⟩
  | .hbm, ⟨9, _⟩ => ⟨S4x64x512, .f32⟩
  | .hbm, ⟨10, _⟩ => ⟨S4x64x512, .f32⟩
  | .hbm, ⟨11, _⟩ => ⟨S4x64x512, .f32⟩
  | .local _ .vmem, ⟨0, _⟩ => ⟨S8x64x512, .bf16⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | _, _ => ⟨S8x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AwgluIdeal.lean ====
abbrev S8x64x512 : Shape := ⟨3, ![8, 64, 512]⟩
abbrev S4x64x512 : Shape := ⟨3, ![4, 64, 512]⟩
abbrev S1x64x512 : Shape := ⟨3, ![1, 64, 512]⟩
abbrev S64x512 : Shape := ⟨2, ![64, 512]⟩

abbrev nBuf : Space → Nat
  | .hbm => 12
  | .vmem => 8
  | .smem => 0
  | _ => 0

abbrev bufTy : (tb : Table) → Fin (tcTables nBuf tb) → BufTy
  | .hbm, ⟨0, _⟩ => ⟨S8x64x512, .bf16⟩
  | .hbm, ⟨1, _⟩ => ⟨S4x64x512, .f32⟩
  | .hbm, ⟨2, _⟩ => ⟨S4x64x512, .f32⟩
  | .hbm, ⟨3, _⟩ => ⟨S4x64x512, .f32⟩
  | .hbm, ⟨4, _⟩ => ⟨S4x64x512, .f32⟩
  | .hbm, ⟨5, _⟩ => ⟨S4x64x512, .f32⟩
  | .hbm, ⟨6, _⟩ => ⟨S4x64x512, .f32⟩
  | .hbm, ⟨7, _⟩ => ⟨S4x64x512, .f32⟩
  | .hbm, ⟨8, _⟩ => ⟨S4x64x512, .f32⟩
  | .hbm, ⟨9, _⟩ => ⟨S4x64x512, .f32⟩
  | .hbm, ⟨10, _⟩ => ⟨S4x64x512, .f32⟩
  | .hbm, ⟨11, _⟩ => ⟨S4x64x512, .f32⟩
  | .local _ .vmem, ⟨0, _⟩ => ⟨S8x64x512, .bf16⟩
  | .local _ .vmem, ⟨1, _⟩ => ⟨S1x64x512, .f32⟩
  | .local _ .vmem, ⟨2, _⟩ => ⟨S1x64x512, .f32⟩
  | .local _ .vmem, ⟨3, _⟩ => ⟨S1x64x512, .f32⟩
  | .local _ .vmem, ⟨4, _⟩ => ⟨S1x64x512, .f32⟩
  | .local _ .vmem, ⟨5, _⟩ => ⟨S1x64x512, .f32⟩
  | .local _ .vmem, ⟨6, _⟩ => ⟨S1x64x512, .f32⟩
  | .local _ .vmem, ⟨7, _⟩ => ⟨S1x64x512, .f32⟩
  | _, _ => ⟨S8x64x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x64x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x64x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x64x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x64x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x64x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x64x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x64x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x64x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AwgluRefIdeal.lean ====
abbrev S8x64x512 : Shape := ⟨3, ![8, 64, 512]⟩
abbrev S4x64x512 : Shape := ⟨3, ![4, 64, 512]⟩
abbrev S_ : Shape := ⟨0, ![]⟩
abbrev S64x512 : Shape := ⟨2, ![64, 512]⟩
abbrev S1x64x512 : Shape := ⟨3, ![1, 64, 512]⟩
abbrev S3x64x512 : Shape := ⟨3, ![3, 64, 512]⟩

abbrev nBuf : Space → Nat
  | .hbm => 62
  | .vmem => 0
  | .smem => 0
  | _ => 0

abbrev bufTy : (tb : Table) → Fin (tcTables nBuf tb) → BufTy
  | .hbm, ⟨0, _⟩ => ⟨S8x64x512, .bf16⟩
  | .hbm, ⟨1, _⟩ => ⟨S4x64x512, .f32⟩
  | .hbm, ⟨2, _⟩ => ⟨S4x64x512, .f32⟩
  | .hbm, ⟨3, _⟩ => ⟨S4x64x512, .f32⟩
  | .hbm, ⟨4, _⟩ => ⟨S4x64x512, .f32⟩
  | .hbm, ⟨5, _⟩ => ⟨S4x64x512, .f32⟩
  | .hbm, ⟨6, _⟩ => ⟨S4x64x512, .f32⟩
  | .hbm, ⟨7, _⟩ => ⟨S4x64x512, .f32⟩
  | .hbm, ⟨8, _⟩ => ⟨S8x64x512, .f32⟩
  | .hbm, ⟨9, _⟩ => ⟨S_, .f32⟩
  | .hbm, ⟨10, _⟩ => ⟨S64x512, .f32⟩
  | .hbm, ⟨11, _⟩ => ⟨S1x64x512, .f32⟩
  | .hbm, ⟨12, _⟩ => ⟨S64x512, .f32⟩
  | .hbm, ⟨13, _⟩ => ⟨S1x64x512, .f32⟩
  | .hbm, ⟨14, _⟩ => ⟨S64x512, .f32⟩
  | .hbm, ⟨15, _⟩ => ⟨S1x64x512, .f32⟩
  | .hbm, ⟨16, _⟩ => ⟨S64x512, .f32⟩
  | .hbm, ⟨17, _⟩ => ⟨S_, .f32⟩
  | .hbm, ⟨18, _⟩ => ⟨S64x512, .f32⟩
  | .hbm, ⟨19, _⟩ => ⟨S64x512, .f32⟩
  | .hbm, ⟨20, _⟩ => ⟨S_, .f32⟩
  | .hbm, ⟨21, _⟩ => ⟨S64x512, .f32⟩
  | .hbm, ⟨22, _⟩ => ⟨S64x512, .f32⟩
  | .hbm, ⟨23, _⟩ => ⟨S64x512, .f32⟩
  | .hbm, ⟨24, _⟩ => ⟨S_, .f32⟩
  | .hbm, ⟨25, _⟩ => ⟨S64x512, .f32⟩
  | .hbm, ⟨26, _⟩ => ⟨S64x512, .f32⟩
  | .hbm, ⟨27, _⟩ => ⟨S64x512, .f32⟩
  | .hbm, ⟨28, _⟩ => ⟨S_, .f32⟩
  | .hbm, ⟨29, _⟩ => ⟨S64x512, .f32⟩
  | .hbm, ⟨30, _⟩ => ⟨S64x512, .f32⟩
  | .hbm, ⟨31, _⟩ => ⟨S64x512, .f32⟩
  | .hbm, ⟨32, _⟩ => ⟨S_, .f32⟩
  | .hbm, ⟨33, _⟩ => ⟨S64x512, .f32⟩
  | .hbm, ⟨34, _⟩ => ⟨S64x512, .f32⟩
  | .hbm, ⟨35, _⟩ => ⟨S_, .f32⟩
  | .hbm, ⟨36, _⟩ => ⟨S64x512, .f32⟩
  | .hbm, ⟨37, _⟩ => ⟨S64x512, .f32⟩
  | .hbm, ⟨38, _⟩ => ⟨S64x512, .f32⟩
  | .hbm, ⟨39, _⟩ => ⟨S_, .f32⟩
  | .hbm, ⟨40, _⟩ => ⟨S64x512, .f32⟩
  | .hbm, ⟨41, _⟩ => ⟨S64x512, .f32⟩
  | .hbm, ⟨42, _⟩ => ⟨S64x512, .f32⟩
  | .hbm, ⟨43, _⟩ => ⟨S_, .f32⟩
  | .hbm, ⟨44, _⟩ => ⟨S64x512, .f32⟩
  | .hbm, ⟨45, _⟩ => ⟨S64x512, .f32⟩
  | .hbm, ⟨46, _⟩ => ⟨S64x512, .f32⟩
  | .hbm, ⟨47, _⟩ => ⟨S_, .f32⟩
  | .hbm, ⟨48, _⟩ => ⟨S64x512, .f32⟩
  | .hbm, ⟨49, _⟩ => ⟨S64x512, .f32⟩
  | .hbm, ⟨50, _⟩ => ⟨S1x64x512, .f32⟩
  | .hbm, ⟨51, _⟩ => ⟨S3x64x512, .f32⟩
  | .hbm, ⟨52, _⟩ => ⟨S4x64x512, .f32⟩
  | .hbm, ⟨53, _⟩ => ⟨S1x64x512, .f32⟩
  | .hbm, ⟨54, _⟩ => ⟨S3x64x512, .f32⟩
  | .hbm, ⟨55, _⟩ => ⟨S4x64x512, .f32⟩
  | .hbm, ⟨56, _⟩ => ⟨S1x64x512, .f32⟩
  | .hbm, ⟨57, _⟩ => ⟨S3x64x512, .f32⟩
  | .hbm, ⟨58, _⟩ => ⟨S4x64x512, .f32⟩
  | .hbm, ⟨59, _⟩ => ⟨S1x64x512, .f32⟩
  | .hbm, ⟨60, _⟩ => ⟨S3x64x512, .f32⟩
  | .hbm, ⟨61, _⟩ => ⟨S4x64x512, .f32⟩
  | _, _ => ⟨S8x64x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Awout.lean ====
abbrev S8x128x1024 : Shape := ⟨3, ![8, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AwoutIdeal.lean ====
abbrev S8x128x1024 : Shape := ⟨3, ![8, 128, 1024]⟩
abbrev S4x128x1024 : Shape := ⟨3, ![4, 128, 1024]⟩
abbrev S1x128x1024 : Shape := ⟨3, ![1, 128, 1024]⟩
abbrev S128x1024 : Shape := ⟨2, ![128, 1024]⟩

abbrev nBuf : Space → Nat
  | .hbm => 12
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S4x128x1024, .f32⟩
  | .hbm, ⟨9, _⟩ => ⟨S4x128x1024, .f32⟩
  | .hbm, ⟨10, _⟩ => ⟨S4x128x1024, .f32⟩
  | .hbm, ⟨11, _⟩ => ⟨S4x128x1024, .f32⟩
  | .local _ .vmem, ⟨0, _⟩ => ⟨S8x128x1024, .bf16⟩
  | .local _ .vmem, ⟨1, _⟩ => ⟨S1x128x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1x128x1024, .f32⟩
  | .local _ .vmem, ⟨6, _⟩ => ⟨S1x128x1024, .f32⟩
  | .local _ .vmem, ⟨7, _⟩ => ⟨S1x128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AwoutRefIdeal.lean ====
abbrev S8x128x1024 : Shape := ⟨3, ![8, 128, 1024]⟩
abbrev S4x128x1024 : Shape := ⟨3, ![4, 128, 1024]⟩
abbrev S_ : Shape := ⟨0, ![]⟩
abbrev S128x1024 : Shape := ⟨2, ![128, 1024]⟩
abbrev S1x128x1024 : Shape := ⟨3, ![1, 128, 1024]⟩
abbrev S3x128x1024 : Shape := ⟨3, ![3, 128, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S4x128x1024, .f32⟩
  | .hbm, ⟨2, _⟩ => ⟨S4x128x1024, .f32⟩
  | .hbm, ⟨3, _⟩ => ⟨S4x128x1024, .f32⟩
  | .hbm, ⟨4, _⟩ => ⟨S4x128x1024, .f32⟩
  | .hbm, ⟨5, _⟩ => ⟨S4x128x1024, .f32⟩
  | .hbm, ⟨6, _⟩ => ⟨S4x128x1024, .f32⟩
  | .hbm, ⟨7, _⟩ => ⟨S4x128x1024, .f32⟩
  | .hbm, ⟨8, _⟩ => ⟨S8x128x1024, .f32⟩
  | .hbm, ⟨9, _⟩ => ⟨S_, .f32⟩
  | .hbm, ⟨10, _⟩ => ⟨S128x1024, .f32⟩
  | .hbm, ⟨11, _⟩ => ⟨S1x128x1024, .f32⟩
  | .hbm, ⟨12, _⟩ => ⟨S128x1024, .f32⟩
  | .hbm, ⟨13, _⟩ => ⟨S1x128x1024, .f32⟩
  | .hbm, ⟨14, _⟩ => ⟨S128x1024, .f32⟩
  | .hbm, ⟨15, _⟩ => ⟨S1x128x1024, .f32⟩
  | .hbm, ⟨16, _⟩ => ⟨S128x1024, .f32⟩
  | .hbm, ⟨17, _⟩ => ⟨S_, .f32⟩
  | .hbm, ⟨18, _⟩ => ⟨S128x1024, .f32⟩
  | .hbm, ⟨19, _⟩ => ⟨S128x1024, .f32⟩
  | .hbm, ⟨20, _⟩ => ⟨S_, .f32⟩
  | .hbm, ⟨21, _⟩ => ⟨S128x1024, .f32⟩
  | .hbm, ⟨22, _⟩ => ⟨S128x1024, .f32⟩
  | .hbm, ⟨23, _⟩ => ⟨S128x1024, .f32⟩
  | .hbm, ⟨24, _⟩ => ⟨S_, .f32⟩
  | .hbm, ⟨25, _⟩ => ⟨S128x1024, .f32⟩
  | .hbm, ⟨26, _⟩ => ⟨S128x1024, .f32⟩
  | .hbm, ⟨27, _⟩ => ⟨S128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128x1024, .f32⟩
  | .hbm, ⟨34, _⟩ => ⟨S128x1024, .f32⟩
  | .hbm, ⟨35, _⟩ => ⟨S_, .f32⟩
  | .hbm, ⟨36, _⟩ => ⟨S128x1024, .f32⟩
  | .hbm, ⟨37, _⟩ => ⟨S128x1024, .f32⟩
  | .hbm, ⟨38, _⟩ => ⟨S128x1024, .f32⟩
  | .hbm, ⟨39, _⟩ => ⟨S_, .f32⟩
  | .hbm, ⟨40, _⟩ => ⟨S128x1024, .f32⟩
  | .hbm, ⟨41, _⟩ => ⟨S128x1024, .f32⟩
  | .hbm, ⟨42, _⟩ => ⟨S128x1024, .f32⟩
  | .hbm, ⟨43, _⟩ => ⟨S_, .f32⟩
  | .hbm, ⟨44, _⟩ => ⟨S128x1024, .f32⟩
  | .hbm, ⟨45, _⟩ => ⟨S128x1024, .f32⟩
  | .hbm, ⟨46, _⟩ => ⟨S128x1024, .f32⟩
  | .hbm, ⟨47, _⟩ => ⟨S_, .f32⟩
  | .hbm, ⟨48, _⟩ => ⟨S128x1024, .f32⟩
  | .hbm, ⟨49, _⟩ => ⟨S128x1024, .f32⟩
  | .hbm, ⟨50, _⟩ => ⟨S1x128x1024, .f32⟩
  | .hbm, ⟨51, _⟩ => ⟨S3x128x1024, .f32⟩
  | .hbm, ⟨52, _⟩ => ⟨S4x128x1024, .f32⟩
  | .hbm, ⟨53, _⟩ => ⟨S1x128x1024, .f32⟩
  | .hbm, ⟨54, _⟩ => ⟨S3x128x1024, .f32⟩
  | .hbm, ⟨55, _⟩ => ⟨S4x128x1024, .f32⟩
  | .hbm, ⟨56, _⟩ => ⟨S1x128x1024, .f32⟩
  | .hbm, ⟨57, _⟩ => ⟨S3x128x1024, .f32⟩
  | .hbm, ⟨58, _⟩ => ⟨S4x128x1024, .f32⟩
  | .hbm, ⟨59, _⟩ => ⟨S1x128x1024, .f32⟩
  | .hbm, ⟨60, _⟩ => ⟨S3x128x1024, .f32⟩
  | .hbm, ⟨61, _⟩ => ⟨S4x128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Awff1.lean ====
abbrev S8x1024x512 : Shape := ⟨3, ![8, 1024, 512]⟩
abbrev S4x1024x512 : Shape := ⟨3, ![4, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Awff1Ideal.lean ====
abbrev S8x1024x512 : Shape := ⟨3, ![8, 1024, 512]⟩
abbrev S4x1024x512 : Shape := ⟨3, ![4, 1024, 512]⟩
abbrev S8x256x512 : Shape := ⟨3, ![8, 256, 512]⟩
abbrev S1x256x512 : Shape := ⟨3, ![1, 256, 512]⟩
abbrev S256x512 : Shape := ⟨2, ![256, 512]⟩

abbrev nBuf : Space → Nat
  | .hbm => 12
  | .vmem => 16
  | .smem => 0
  | _ => 0

abbrev bufTy : (tb : Table) → Fin (tcTables nBuf tb) → BufTy
  | .hbm, ⟨0, _⟩ => ⟨S8x1024x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S4x1024x512, .f32⟩
  | .hbm, ⟨9, _⟩ => ⟨S4x1024x512, .f32⟩
  | .hbm, ⟨10, _⟩ => ⟨S4x1024x512, .f32⟩
  | .hbm, ⟨11, _⟩ => ⟨S4x1024x512, .f32⟩
  | .local _ .vmem, ⟨0, _⟩ => ⟨S8x256x512, .bf16⟩
  | .local _ .vmem, ⟨1, _⟩ => ⟨S8x256x512, .bf16⟩
  | .local _ .vmem, ⟨2, _⟩ => ⟨S1x256x512, .f32⟩
  | .local _ .vmem, ⟨3, _⟩ => ⟨S1x256x512, .f32⟩
  | .local _ .vmem, ⟨4, _⟩ => ⟨S1x256x512, .f32⟩
  | .local _ .vmem, ⟨5, _⟩ => ⟨S1x256x512, .f32⟩
  | .local _ .vmem, ⟨6, _⟩ => ⟨S1x256x512, .f32⟩
  | .local _ .vmem, ⟨7, _⟩ => ⟨S1x256x512, .f32⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | _, _ => ⟨S8x1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Awff1RefIdeal.lean ====
abbrev S8x1024x512 : Shape := ⟨3, ![8, 1024, 512]⟩
abbrev S4x1024x512 : Shape := ⟨3, ![4, 1024, 512]⟩
abbrev S_ : Shape := ⟨0, ![]⟩
abbrev S1024x512 : Shape := ⟨2, ![1024, 512]⟩
abbrev S1x1024x512 : Shape := ⟨3, ![1, 1024, 512]⟩
abbrev S3x1024x512 : Shape := ⟨3, ![3, 1024, 512]⟩

abbrev nBuf : Space → Nat
  | .hbm => 62
  | .vmem => 0
  | .smem => 0
  | _ => 0

abbrev bufTy : (tb : Table) → Fin (tcTables nBuf tb) → BufTy
  | .hbm, ⟨0, _⟩ => ⟨S8x1024x512, .bf16⟩
  | .hbm, ⟨1, _⟩ => ⟨S4x1024x512, .f32⟩
  | .hbm, ⟨2, _⟩ => ⟨S4x1024x512, .f32⟩
  | .hbm, ⟨3, _⟩ => ⟨S4x1024x512, .f32⟩
  | .hbm, ⟨4, _⟩ => ⟨S4x1024x512, .f32⟩
  | .hbm, ⟨5, _⟩ => ⟨S4x1024x512, .f32⟩
  | .hbm, ⟨6, _⟩ => ⟨S4x1024x512, .f32⟩
  | .hbm, ⟨7, _⟩ => ⟨S4x1024x512, .f32⟩
  | .hbm, ⟨8, _⟩ => ⟨S8x1024x512, .f32⟩
  | .hbm, ⟨9, _⟩ => ⟨S_, .f32⟩
  | .hbm, ⟨10, _⟩ => ⟨S1024x512, .f32⟩
  | .hbm, ⟨11, _⟩ => ⟨S1x1024x512, .f32⟩
  | .hbm, ⟨12, _⟩ => ⟨S1024x512, .f32⟩
  | .hbm, ⟨13, _⟩ => ⟨S1x1024x512, .f32⟩
  | .hbm, ⟨14, _⟩ => ⟨S1024x512, .f32⟩
  | .hbm, ⟨15, _⟩ => ⟨S1x1024x512, .f32⟩
  | .hbm, ⟨16, _⟩ => ⟨S1024x512, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S1024x512, .f32⟩
  | .hbm, ⟨24, _⟩ => ⟨S_, .f32⟩
  | .hbm, ⟨25, _⟩ => ⟨S1024x512, .f32⟩
  | .hbm, ⟨26, _⟩ => ⟨S1024x512, .f32⟩
  | .hbm, ⟨27, _⟩ => ⟨S1024x512, .f32⟩
  | .hbm, ⟨28, _⟩ => ⟨S_, .f32⟩
  | .hbm, ⟨29, _⟩ => ⟨S1024x512, .f32⟩
  | .hbm, ⟨30, _⟩ => ⟨S1024x512, .f32⟩
  | .hbm, ⟨31, _⟩ => ⟨S1024x512, .f32⟩
  | .hbm, ⟨32, _⟩ => ⟨S_, .f32⟩
  | .hbm, ⟨33, _⟩ => ⟨S1024x512, .f32⟩
  | .hbm, ⟨34, _⟩ => ⟨S1024x512, .f32⟩
  | .hbm, ⟨35, _⟩ => ⟨S_, .f32⟩
  | .hbm, ⟨36, _⟩ => ⟨S1024x512, .f32⟩
  | .hbm, ⟨37, _⟩ => ⟨S1024x512, .f32⟩
  | .hbm, ⟨38, _⟩ => ⟨S1024x512, .f32⟩
  | .hbm, ⟨39, _⟩ => ⟨S_, .f32⟩
  | .hbm, ⟨40, _⟩ => ⟨S1024x512, .f32⟩
  | .hbm, ⟨41, _⟩ => ⟨S1024x512, .f32⟩
  | .hbm, ⟨42, _⟩ => ⟨S1024x512, .f32⟩
  | .hbm, ⟨43, _⟩ => ⟨S_, .f32⟩
  | .hbm, ⟨44, _⟩ => ⟨S1024x512, .f32⟩
  | .hbm, ⟨45, _⟩ => ⟨S1024x512, .f32⟩
  | .hbm, ⟨46, _⟩ => ⟨S1024x512, .f32⟩
  | .hbm, ⟨47, _⟩ => ⟨S_, .f32⟩
  | .hbm, ⟨48, _⟩ => ⟨S1024x512, .f32⟩
  | .hbm, ⟨49, _⟩ => ⟨S1024x512, .f32⟩
  | .hbm, ⟨50, _⟩ => ⟨S1x1024x512, .f32⟩
  | .hbm, ⟨51, _⟩ => ⟨S3x1024x512, .f32⟩
  | .hbm, ⟨52, _⟩ => ⟨S4x1024x512, .f32⟩
  | .hbm, ⟨53, _⟩ => ⟨S1x1024x512, .f32⟩
  | .hbm, ⟨54, _⟩ => ⟨S3x1024x512, .f32⟩
  | .hbm, ⟨55, _⟩ => ⟨S4x1024x512, .f32⟩
  | .hbm, ⟨56, _⟩ => ⟨S1x1024x512, .f32⟩
  | .hbm, ⟨57, _⟩ => ⟨S3x1024x512, .f32⟩
  | .hbm, ⟨58, _⟩ => ⟨S4x1024x512, .f32⟩
  | .hbm, ⟨59, _⟩ => ⟨S1x1024x512, .f32⟩
  | .hbm, ⟨60, _⟩ => ⟨S3x1024x512, .f32⟩
  | .hbm, ⟨61, _⟩ => ⟨S4x1024x512, .f32⟩
  | _, _ => ⟨S8x1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Awff2.lean ====
abbrev S8x512x1024 : Shape := ⟨3, ![8, 512, 1024]⟩
abbrev S4x512x1024 : Shape := ⟨3, ![4, 512, 1024]⟩
abbrev S8x256x1024 : Shape := ⟨3, ![8, 256, 1024]⟩
abbrev S1x256x1024 : Shape := ⟨3, ![1, 256, 1024]⟩
abbrev S256x1024 : Shape := ⟨2, ![256, 1024]⟩

abbrev nBuf : Space → Nat
  | .hbm => 12
  | .vmem => 16
  | .smem => 0
  | _ => 0

abbrev bufTy : (tb : Table) → Fin (tcTables nBuf tb) → BufTy
  | .hbm, ⟨0, _⟩ => ⟨S8x512x1024, .bf16⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S4x512x1024, .f32⟩
  | .hbm, ⟨9, _⟩ => ⟨S4x512x1024, .f32⟩
  | .hbm, ⟨10, _⟩ => ⟨S4x512x1024, .f32⟩
  | .hbm, ⟨11, _⟩ => ⟨S4x512x1024, .f32⟩
  | .local _ .vmem, ⟨0, _⟩ => ⟨S8x256x1024, .bf16⟩
  | .local _ .vmem, ⟨1, _⟩ => ⟨S8x256x1024, .bf16⟩
  | .local _ .vmem, ⟨2, _⟩ => ⟨S1x256x1024, .f32⟩
  | .local _ .vmem, ⟨3, _⟩ => ⟨S1x256x1024, .f32⟩
  | .local _ .vmem, ⟨4, _⟩ => ⟨S1x256x1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x1024, .f32⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | _, _ => ⟨S8x512x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S8x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Awff2RefIdeal.lean ====
abbrev S8x512x1024 : Shape := ⟨3, ![8, 512, 1024]⟩
abbrev S4x512x1024 : Shape := ⟨3, ![4, 512, 1024]⟩
abbrev S_ : Shape := ⟨0, ![]⟩
abbrev S512x1024 : Shape := ⟨2, ![512, 1024]⟩
abbrev S1x512x1024 : Shape := ⟨3, ![1, 512, 1024]⟩
abbrev S3x512x1024 : Shape := ⟨3, ![3, 512, 1024]⟩

abbrev nBuf : Space → Nat
  | .hbm => 62
  | .vmem => 0
  | .smem => 0
  | _ => 0

abbrev bufTy : (tb : Table) → Fin (tcTables nBuf tb) → BufTy
  | .hbm, ⟨0, _⟩ => ⟨S8x512x1024, .bf16⟩
  | .hbm, ⟨1, _⟩ => ⟨S4x512x1024, .f32⟩
  | .hbm, ⟨2, _⟩ => ⟨S4x512x1024, .f32⟩
  | .hbm, ⟨3, _⟩ => ⟨S4x512x1024, .f32⟩
  | .hbm, ⟨4, _⟩ => ⟨S4x512x1024, .f32⟩
  | .hbm, ⟨5, _⟩ => ⟨S4x512x1024, .f32⟩
  | .hbm, ⟨6, _⟩ => ⟨S4x512x1024, .f32⟩
  | .hbm, ⟨7, _⟩ => ⟨S4x512x1024, .f32⟩
  | .hbm, ⟨8, _⟩ => ⟨S8x512x1024, .f32⟩
  | .hbm, ⟨9, _⟩ => ⟨S_, .f32⟩
  | .hbm, ⟨10, _⟩ => ⟨S512x1024, .f32⟩
  | .hbm, ⟨11, _⟩ => ⟨S1x512x1024, .f32⟩
  | .hbm, ⟨12, _⟩ => ⟨S512x1024, .f32⟩
  | .hbm, ⟨13, _⟩ => ⟨S1x512x1024, .f32⟩
  | .hbm, ⟨14, _⟩ => ⟨S512x1024, .f32⟩
  | .hbm, ⟨15, _⟩ => ⟨S1x512x1024, .f32⟩
  | .hbm, ⟨16, _⟩ => ⟨S512x1024, .f32⟩
  | .hbm, ⟨17, _⟩ => ⟨S_, .f32⟩
  | .hbm, ⟨18, _⟩ => ⟨S512x1024, .f32⟩
  | .hbm, ⟨19, _⟩ => ⟨S512x1024, .f32⟩
  | .hbm, ⟨20, _⟩ => ⟨S_, .f32⟩
  | .hbm, ⟨21, _⟩ => ⟨S512x1024, .f32⟩
  | .hbm, ⟨22, _⟩ => ⟨S512x1024, .f32⟩
  | .hbm, ⟨23, _⟩ => ⟨S512x1024, .f32⟩
  | .hbm, ⟨24, _⟩ => ⟨S_, .f32⟩
  | .hbm, ⟨25, _⟩ => ⟨S512x1024, .f32⟩
  | .hbm, ⟨26, _⟩ => ⟨S512x1024, .f32⟩
  | .hbm, ⟨27, _⟩ => ⟨S512x1024, .f32⟩
  | .hbm, ⟨28, _⟩ => ⟨S_, .f32⟩
  | .hbm, ⟨29, _⟩ => ⟨S512x1024, .f32⟩
  | .hbm, ⟨30, _⟩ => ⟨S512x1024, .f32⟩
  | .hbm, ⟨31, _⟩ => ⟨S512x1024, .f32⟩
  | .hbm, ⟨32, _⟩ => ⟨S_, .f32⟩
  | .hbm, ⟨33, _⟩ => ⟨S512x1024, .f32⟩
  | .hbm, ⟨34, _⟩ => ⟨S512x1024, .f32⟩
  | .hbm, ⟨35, _⟩ => ⟨S_, .f32⟩
  | .hbm, ⟨36, _⟩ => ⟨S512x1024, .f32⟩
  | .hbm, ⟨37, _⟩ => ⟨S512x1024, .f32⟩
  | .hbm, ⟨38, _⟩ => ⟨S512x1024, .f32⟩
  | .hbm, ⟨39, _⟩ => ⟨S_, .f32⟩
  | .hbm, ⟨40, _⟩ => ⟨S512x1024, .f32⟩
  | .hbm, ⟨41, _⟩ => ⟨S512x1024, .f32⟩
  | .hbm, ⟨42, _⟩ => ⟨S512x1024, .f32⟩
  | .hbm, ⟨43, _⟩ => ⟨S_, .f32⟩
  | .hbm, ⟨44, _⟩ => ⟨S512x1024, .f32⟩
  | .hbm, ⟨45, _⟩ => ⟨S512x1024, .f32⟩
  | .hbm, ⟨46, _⟩ => ⟨S512x1024, .f32⟩
  | .hbm, ⟨47, _⟩ => ⟨S_, .f32⟩
  | .hbm, ⟨48, _⟩ => ⟨S512x1024, .f32⟩
  | .hbm, ⟨49, _⟩ => ⟨S512x1024, .f32⟩
  | .hbm, ⟨50, _⟩ => ⟨S1x512x1024, .f32⟩
  | .hbm, ⟨51, _⟩ => ⟨S3x512x1024, .f32⟩
  | .hbm, ⟨52, _⟩ => ⟨S4x512x1024, .f32⟩
  | .hbm, ⟨53, _⟩ => ⟨S1x512x1024, .f32⟩
  | .hbm, ⟨54, _⟩ => ⟨S3x512x1024, .f32⟩
  | .hbm, ⟨55, _⟩ => ⟨S4x512x1024, .f32⟩
  | .hbm, ⟨56, _⟩ => ⟨S1x512x1024, .f32⟩
  | .hbm, ⟨57, _⟩ => ⟨S3x512x1024, .f32⟩
  | .hbm, ⟨58, _⟩ => ⟨S4x512x1024, .f32⟩
  | .hbm, ⟨59, _⟩ => ⟨S1x512x1024, .f32⟩
  | .hbm, ⟨60, _⟩ => ⟨S3x512x1024, .f32⟩
  | .hbm, ⟨61, _⟩ => ⟨S4x512x1024, .f32⟩
  | _, _ => ⟨S8x512x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_cst_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_cst_6 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_cst_8 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== Asmall.lean ====
abbrev S8x1176x128 : Shape := ⟨3, ![8, 1176, 128]⟩
abbrev S4x1176x128 : Shape := ⟨3, ![4, 1176, 128]⟩
abbrev S1x1176x128 : Shape := ⟨3, ![1, 1176, 128]⟩
abbrev S1176x128 : Shape := ⟨2, ![1176, 128]⟩

abbrev nBuf : Space → Nat
  | .hbm => 12
  | .vmem => 8
  | .smem => 0
  | _ => 0

abbrev bufTy : (tb : Table) → Fin (tcTables nBuf tb) → BufTy
  | .hbm, ⟨0, _⟩ => ⟨S8x1176x128, .f32⟩
  | .hbm, ⟨1, _⟩ => ⟨S4x1176x128, .f32⟩
  | .hbm, ⟨2, _⟩ => ⟨S4x1176x128, .f32⟩
  | .hbm, ⟨3, _⟩ => ⟨S4x1176x128, .f32⟩
  | .hbm, ⟨4, _⟩ => ⟨S4x1176x128, .f32⟩
  | .hbm, ⟨5, _⟩ => ⟨S4x1176x128, .f32⟩
  | .hbm, ⟨6, _⟩ => ⟨S4x1176x128, .f32⟩
  | .hbm, ⟨7, _⟩ => ⟨S4x1176x128, .f32⟩
  | .hbm, ⟨8, _⟩ => ⟨S4x1176x128, .f32⟩
  | .hbm, ⟨9, _⟩ => ⟨S4x1176x128, .f32⟩
  | .hbm, ⟨10, _⟩ => ⟨S4x1176x128, .f32⟩
  | .hbm, ⟨11, _⟩ => ⟨S4x1176x128, .f32⟩
  | .local _ .vmem, ⟨0, _⟩ => ⟨S8x1176x128, .f32⟩
  | .local _ .vmem, ⟨1, _⟩ => ⟨S1x1176x128, .f32⟩
  | .local _ .vmem, ⟨2, _⟩ => ⟨S1x1176x128, .f32⟩
  | .local _ .vmem, ⟨3, _⟩ => ⟨S1x1176x128, .f32⟩
  | .local _ .vmem, ⟨4, _⟩ => ⟨S1x1176x128, .f32⟩
  | .local _ .vmem, ⟨5, _⟩ => ⟨S1x1176x128, .f32⟩
  | .local _ .vmem, ⟨6, _⟩ => ⟨S1x1176x128, .f32⟩
  | .local _ .vmem, ⟨7, _⟩ => ⟨S1x1176x128, .f32⟩
  | _, _ => ⟨S8x1176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S8x1176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1176x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AsmallRefIdeal.lean ====
abbrev S8x1176x128 : Shape := ⟨3, ![8, 1176, 128]⟩
abbrev S4x1176x128 : Shape := ⟨3, ![4, 1176, 128]⟩
abbrev S_ : Shape := ⟨0, ![]⟩
abbrev S1176x128 : Shape := ⟨2, ![1176, 128]⟩
abbrev S1x1176x128 : Shape := ⟨3, ![1, 1176, 128]⟩
abbrev S3x1176x128 : Shape := ⟨3, ![3, 1176, 128]⟩

abbrev nBuf : Space → Nat
  | .hbm => 61
  | .vmem => 0
  | .smem => 0
  | _ => 0

abbrev bufTy : (tb : Table) → Fin (tcTables nBuf tb) → BufTy
  | .hbm, ⟨0, _⟩ => ⟨S8x1176x128, .f32⟩
  | .hbm, ⟨1, _⟩ => ⟨S4x1176x128, .f32⟩
  | .hbm, ⟨2, _⟩ => ⟨S4x1176x128, .f32⟩
  | .hbm, ⟨3, _⟩ => ⟨S4x1176x128, .f32⟩
  | .hbm, ⟨4, _⟩ => ⟨S4x1176x128, .f32⟩
  | .hbm, ⟨5, _⟩ => ⟨S4x1176x128, .f32⟩
  | .hbm, ⟨6, _⟩ => ⟨S4x1176x128, .f32⟩
  | .hbm, ⟨7, _⟩ => ⟨S4x1176x128, .f32⟩
  | .hbm, ⟨8, _⟩ => ⟨S_, .f32⟩
  | .hbm, ⟨9, _⟩ => ⟨S1176x128, .f32⟩
  | .hbm, ⟨10, _⟩ => ⟨S1x1176x128, .f32⟩
  | .hbm, ⟨11, _⟩ => ⟨S1176x128, .f32⟩
  | .hbm, ⟨12, _⟩ => ⟨S1x1176x128, .f32⟩
  | .hbm, ⟨13, _⟩ => ⟨S1176x128, .f32⟩
  | .hbm, ⟨14, _⟩ => ⟨S1x1176x128, .f32⟩
  | .hbm, ⟨15, _⟩ => ⟨S1176x128, .f32⟩
  | .hbm, ⟨16, _⟩ => ⟨S_, .f32⟩
  | .hbm, ⟨17, _⟩ => ⟨S1176x128, .f32⟩
  | .hbm, ⟨18, _⟩ => ⟨S1176x128, .f32⟩
  | .hbm, ⟨19, _⟩ => ⟨S_, .f32⟩
  | .hbm, ⟨20, _⟩ => ⟨S1176x128, .f32⟩
  | .hbm, ⟨21, _⟩ => ⟨S1176x128, .f32⟩
  | .hbm, ⟨22, _⟩ => ⟨S1176x128, .f32⟩
  | .hbm, ⟨23, _⟩ => ⟨S_, .f32⟩
  | .hbm, ⟨24, _⟩ => ⟨S1176x128, .f32⟩
  | .hbm, ⟨25, _⟩ => ⟨S1176x128, .f32⟩
  | .hbm, ⟨26, _⟩ => ⟨S1176x128, .f32⟩
  | .hbm, ⟨27, _⟩ => ⟨S_, .f32⟩
  | .hbm, ⟨28, _⟩ => ⟨S1176x128, .f32⟩
  | .hbm, ⟨29, _⟩ => ⟨S1176x128, .f32⟩
  | .hbm, ⟨30, _⟩ => ⟨S1176x128, .f32⟩
  | .hbm, ⟨31, _⟩ => ⟨S_, .f32⟩
  | .hbm, ⟨32, _⟩ => ⟨S1176x128, .f32⟩
  | .hbm, ⟨33, _⟩ => ⟨S1176x128, .f32⟩
  | .hbm, ⟨34, _⟩ => ⟨S_, .f32⟩
  | .hbm, ⟨35, _⟩ => ⟨S1176x128, .f32⟩
  | .hbm, ⟨36, _⟩ => ⟨S1176x128, .f32⟩
  | .hbm, ⟨37, _⟩ => ⟨S1176x128, .f32⟩
  | .hbm, ⟨38, _⟩ => ⟨S_, .f32⟩
  | .hbm, ⟨39, _⟩ => ⟨S1176x128, .f32⟩
  | .hbm, ⟨40, _⟩ => ⟨S1176x128, .f32⟩
  | .hbm, ⟨41, _⟩ => ⟨S1176x128, .f32⟩
  | .hbm, ⟨42, _⟩ => ⟨S_, .f32⟩
  | .hbm, ⟨43, _⟩ => ⟨S1176x128, .f32⟩
  | .hbm, ⟨44, _⟩ => ⟨S1176x128, .f32⟩
  | .hbm, ⟨45, _⟩ => ⟨S1176x128, .f32⟩
  | .hbm, ⟨46, _⟩ => ⟨S_, .f32⟩
  | .hbm, ⟨47, _⟩ => ⟨S1176x128, .f32⟩
  | .hbm, ⟨48, _⟩ => ⟨S1176x128, .f32⟩
  | .hbm, ⟨49, _⟩ => ⟨S1x1176x128, .f32⟩
  | .hbm, ⟨50, _⟩ => ⟨S3x1176x128, .f32⟩
  | .hbm, ⟨51, _⟩ => ⟨S4x1176x128, .f32⟩
  | .hbm, ⟨52, _⟩ => ⟨S1x1176x128, .f32⟩
  | .hbm, ⟨53, _⟩ => ⟨S3x1176x128, .f32⟩
  | .hbm, ⟨54, _⟩ => ⟨S4x1176x128, .f32⟩
  | .hbm, ⟨55, _⟩ => ⟨S1x1176x128, .f32⟩
  | .hbm, ⟨56, _⟩ => ⟨S3x1176x128, .f32⟩
  | .hbm, ⟨57, _⟩ => ⟨S4x1176x128, .f32⟩
  | .hbm, ⟨58, _⟩ => ⟨S1x1176x128, .f32⟩
  | .hbm, ⟨59, _⟩ => ⟨S3x1176x128, .f32⟩
  | .hbm, ⟨60, _⟩ => ⟨S4x1176x128, .f32⟩
  | _, _ => ⟨S8x1176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_cst_1 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_cst_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_7 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩

abbrev nD : Nat := 1
abbrev τ : Topo := Topo.v7x

variable {F : FTy → Type} [FloatOps F]
-- ==== Proof.Base.lean ====
/- Sums over the rows of an array that a grid visits in blocks, and running sums over the points. -/
module

public import Idealize.ShloMosaic.Lib.Pipeline.Value
public import Idealize.ShloMosaic.Lib.Pointwise
public import Idealize.ShloMosaic.Lib.Tactic

@[expose] public section

noncomputable section

open Idealize.ShloMosaic Idealize.ShloMosaic.TcCoe

namespace Rows

theorem hz2 : (![0, 0] : Fin 2 → Nat) = fun _ => 0 := funext fun a => by fin_cases a <;> rfl

theorem hz3 : (![0, 0, 0] : Fin 3 → Nat) = fun _ => 0 := funext fun a => by fin_cases a <;> rfl

/-- Row `r` of the block of `B` rows at point `t`. -/
abbrev row {N B T : ℕ} (hT : N * B = T) (t : Fin N) (r : Fin B) : Fin T :=
  ⟨B * t.val + r.val, by
    have h1 : B * t.val + r.val < B * (t.val + 1) := by rw [Nat.mul_add]; have := r.isLt; omega
    have h2 : B * (t.val + 1) ≤ B * N := Nat.mul_le_mul_left B t.isLt
    rw [← hT, Nat.mul_comm N B]; exact lt_of_lt_of_le h1 h2⟩

/-- The rows of all the blocks are the rows of the array. -/
theorem sum_rows {N B T : ℕ} (hT : N * B = T) {M : Type} [AddCommMonoid M] (f : Fin T → M) :
    ∑ t : Fin N, ∑ r : Fin B, f (row hT t r) = ∑ R : Fin T, f R := by
  subst hT
  rw [← Fintype.sum_prod_type' (f := fun t r => f (row rfl t r)), ← finProdFinEquiv.sum_comp]
  refine Finset.sum_congr rfl fun x _ => congrArg f (Fin.ext ?_)
  show B * x.1.val + x.2.val = (finProdFinEquiv x).val
  rw [finProdFinEquiv_apply_val]; exact Nat.add_comm _ _

/-- Every row lies in one block. -/
theorem exists_row {N B T : ℕ} (hT : N * B = T) (hB : 0 < B) (R : Fin T) : ∃ (t : Fin N) (r : Fin B), R = row hT t r :=
  ⟨⟨R.val / B, Nat.div_lt_of_lt_mul (by rw [Nat.mul_comm, hT]; exact R.isLt)⟩, ⟨R.val % B, Nat.mod_lt _ hB⟩,
    Fin.ext (Nat.div_add_mod R.val B).symm⟩

/-- A running sum over the points is the sum over the points so far. -/
theorem chain_sum {N : ℕ} {M : Type} [AddCommMonoid M] (p : Fin N → M) (ch : (n : ℕ) → n < N → M)
    (h0 : ∀ h, ch 0 h = p ⟨0, h⟩) (hs : ∀ n (h : n + 1 < N), ch (n + 1) h = ch n (Nat.lt_of_succ_lt h) + p ⟨n + 1, h⟩) :
    ∀ n (h : n < N), ch n h = ∑ t : Fin (n + 1), p ⟨t.val, lt_of_lt_of_le t.isLt h⟩
  | 0, h => by rw [h0, Fin.sum_univ_one]; rfl
  | n + 1, h => by rw [hs, chain_sum p ch h0 hs n, Fin.sum_univ_castSucc (n := n + 1)]; rfl

/-- The running sum after the last point is the sum over all the points. -/
theorem chain_last {N : ℕ} {M : Type} [AddCommMonoid M] (p : Fin N → M) (ch : (n : ℕ) → n < N → M)
    (h0 : ∀ h, ch 0 h = p ⟨0, h⟩) (hs : ∀ n (h : n + 1 < N), ch (n + 1) h = ch n (Nat.lt_of_succ_lt h) + p ⟨n + 1, h⟩)
    (n : ℕ) (h : n < N) (hn : n + 1 = N) : ch n h = ∑ t : Fin N, p t := by
  subst hn; rw [chain_sum p ch h0 hs n h]

/-- The running sum over the blocks of rows, after the last block, is the sum over all the rows. -/
theorem total {N B T : ℕ} (hT : N * B = T) {M : Type} [AddCommMonoid M] (f : Fin T → M) (ch : (n : ℕ) → n < N → M)
    (h0 : ∀ h, ch 0 h = ∑ r : Fin B, f (row hT ⟨0, h⟩ r))
    (hs : ∀ n (h : n + 1 < N), ch (n + 1) h = ch n (Nat.lt_of_succ_lt h) + ∑ r : Fin B, f (row hT ⟨n + 1, h⟩ r))
    (n : ℕ) (h : n < N) (hn : n + 1 = N) : ch n h = ∑ R : Fin T, f R := by
  rw [← sum_rows hT]; exact chain_last (fun t => ∑ r : Fin B, f (row hT t r)) ch h0 hs n h hn

end Rows

end
-- ==== Proof.Ff2Body.lean ====
/- What one grid point of the call `ff2_bwd` leaves in its two outputs. -/
module

public import proofs.«01_k».proof.Proof.Gen.Ff2Ideal.Value
public import Idealize.ShloMosaic.Lib.Pipeline.Value
public import Idealize.ShloMosaic.Lib.Pointwise
public import Idealize.ShloMosaic.Lib.Tactic

@[expose] public section

noncomputable section

open Idealize.ShloMosaic Idealize.ShloMosaic.TcCoe Idealize.SL.Sem
open Idealize.ShloMosaic.Pipeline (Dat)

namespace Cert.Ff2Ideal.Body

open Cert.Ff2Ideal Cert.Ff2Ideal.Gen

variable {F : FTy → Type} [FloatOps F]
variable (m : (ℓ : Loc nD τ sig) → Buf (Elt F) ℓ) (ρ : Dev nD → PrngReg)

theorem hz : (![0, 0] : Fin 2 → Nat) = fun _ => 0 := funext fun a => by fin_cases a <;> rfl

theorem out3_A (c : Dev nD) (i : grid0.Coords) (a1 : Memref sig .tc .vmem S512x1024 .f32) (h1 : a1.IsWhole)
    (a2 : Memref sig .tc .vmem S512x4096 .bf16) (h2 : a2.IsWhole) (a3 : Memref sig .tc .vmem S4096x1024 .bf16) (h3 : a3.IsWhole)
    (a4 : Memref sig .tc .vmem S512x4096 .bf16) (h4 : a4.IsWhole) (a5 : Memref sig .tc .vmem S1x4096 .f32) (h5 : a5.IsWhole)
    (hc0 : cond0_0 i) (hc1 : ¬cond0_1 i) (x0 : Vec F S512x1024 .f32) (x1 : Vec F S512x4096 .bf16) (x2 : Vec F S4096x1024 .bf16) :
    out0_A_3 c i a1 h1 a2 h2 a3 h3 a4 h4 a5 h5 hc0 hc1 x0 x1 x2 = k0_pay3 x0 x1 x2 := by
  unfold out0_A_3
  rw [View.read_writes_eq_canon _ _ _ (cover0_A_3 c i a1 h1 a2 h2 a3 h3 a4 h4 a5 h5 hc0 hc1 x0 x1 x2)]
  unfold kernelRun0_A
  dsimp only
  sl_unfold_words
  rw [View.canon_unit_zero hz]
  simp only [View.readAt_eq_ld, h1.read_unread, h2.read_unread, h3.read_unread, View.ld_unit_zero (S := S512x1024) hz,
    View.ld_unit_zero (S := S512x4096) hz, View.ld_unit_zero (S := S4096x1024) hz]

theorem out4_A (c : Dev nD) (i : grid0.Coords) (a1 : Memref sig .tc .vmem S512x1024 .f32) (h1 : a1.IsWhole)
    (a2 : Memref sig .tc .vmem S512x4096 .bf16) (h2 : a2.IsWhole) (a3 : Memref sig .tc .vmem S4096x1024 .bf16) (h3 : a3.IsWhole)
    (a4 : Memref sig .tc .vmem S512x4096 .bf16) (h4 : a4.IsWhole) (a5 : Memref sig .tc .vmem S1x4096 .f32) (h5 : a5.IsWhole)
    (hc0 : cond0_0 i) (hc1 : ¬cond0_1 i) (x0 : Vec F S512x1024 .f32) (x1 : Vec F S512x4096 .bf16) (x2 : Vec F S4096x1024 .bf16) :
    out0_A_4 c i a1 h1 a2 h2 a3 h3 a4 h4 a5 h5 hc0 hc1 x0 x1 x2 = k0_pay2 x0 x1 x2 := by
  unfold out0_A_4
  rw [View.read_writes_eq_canon _ _ _ (cover0_A_4 c i a1 h1 a2 h2 a3 h3 a4 h4 a5 h5 hc0 hc1 x0 x1 x2)]
  unfold kernelRun0_A
  dsimp only
  sl_unfold_words
  rw [View.canon_unit_zero hz]
  simp only [View.readAt_eq_ld, h1.read_unread, h2.read_unread, h3.read_unread, View.ld_unit_zero (S := S512x1024) hz,
    View.ld_unit_zero (S := S512x4096) hz, View.ld_unit_zero (S := S4096x1024) hz]

theorem out3_B (c : Dev nD) (i : grid0.Coords) (a1 : Memref sig .tc .vmem S512x1024 .f32) (h1 : a1.IsWhole)
    (a2 : Memref sig .tc .vmem S512x4096 .bf16) (h2 : a2.IsWhole) (a3 : Memref sig .tc .vmem S4096x1024 .bf16) (h3 : a3.IsWhole)
    (a4 : Memref sig .tc .vmem S512x4096 .bf16) (h4 : a4.IsWhole) (a5 : Memref sig .tc .vmem S1x4096 .f32) (h5 : a5.IsWhole)
    (hc0 : ¬cond0_0 i) (hc1 : cond0_1 i) (x0 : Vec F S512x1024 .f32) (x1 : Vec F S512x4096 .bf16) (x2 : Vec F S4096x1024 .bf16)
    (xo : Vec F S1x4096 .f32) :
    out0_B_3 c i a1 h1 a2 h2 a3 h3 a4 h4 a5 h5 hc0 hc1 x0 x1 x2 xo = k0_pay3 x0 x1 x2 := by
  unfold out0_B_3
  rw [View.read_writes_eq_canon _ _ _ (cover0_B_3 c i a1 h1 a2 h2 a3 h3 a4 h4 a5 h5 hc0 hc1 x0 x1 x2 xo)]
  unfold kernelRun0_B
  dsimp only
  sl_unfold_words
  rw [View.canon_unit_zero hz]
  simp only [View.readAt_eq_ld, h1.read_unread, h2.read_unread, h3.read_unread, View.ld_unit_zero (S := S512x1024) hz,
    View.ld_unit_zero (S := S512x4096) hz, View.ld_unit_zero (S := S4096x1024) hz]

theorem out4_B (c : Dev nD) (i : grid0.Coords) (a1 : Memref sig .tc .vmem S512x1024 .f32) (h1 : a1.IsWhole)
    (a2 : Memref sig .tc .vmem S512x4096 .bf16) (h2 : a2.IsWhole) (a3 : Memref sig .tc .vmem S4096x1024 .bf16) (h3 : a3.IsWhole)
    (a4 : Memref sig .tc .vmem S512x4096 .bf16) (h4 : a4.IsWhole) (a5 : Memref sig .tc .vmem S1x4096 .f32) (h5 : a5.IsWhole)
    (hc0 : ¬cond0_0 i) (hc1 : cond0_1 i) (x0 : Vec F S512x1024 .f32) (x1 : Vec F S512x4096 .bf16) (x2 : Vec F S4096x1024 .bf16)
    (xo : Vec F S1x4096 .f32) :
    out0_B_4 c i a1 h1 a2 h2 a3 h3 a4 h4 a5 h5 hc0 hc1 x0 x1 x2 xo = addf xo (k0_pay2 x0 x1 x2) := by
  unfold out0_B_4
  rw [View.read_writes_eq_canon _ _ _ (cover0_B_4 c i a1 h1 a2 h2 a3 h3 a4 h4 a5 h5 hc0 hc1 x0 x1 x2 xo)]
  unfold kernelRun0_B
  dsimp only
  sl_unfold_words
  rw [View.canon_unit_zero hz]
  unfold k0_pay4
  simp only [View.readAt_eq_ld, h1.read_unread, h2.read_unread, h3.read_unread, h5.read_unread, View.ld_unit_zero (S := S512x1024) hz,
    View.ld_unit_zero (S := S512x4096) hz, View.ld_unit_zero (S := S4096x1024) hz, View.ld_unit_zero (S := S1x4096) hz, shapeCast_self]

/-- The running sum of the points' column sums. -/
def chain (c : Dev nD) : (n : ℕ) → n < cfg0.N → Vec F S1x4096 .f32
  | 0, h => k0_pay2 (iblk m c 0 ⟨0, h⟩) (iblk m c 1 ⟨0, h⟩) (iblk m c 2 ⟨0, h⟩)
  | n + 1, h => addf (chain c n (Nat.lt_of_succ_lt h)) (k0_pay2 (iblk m c 0 ⟨n + 1, h⟩) (iblk m c 1 ⟨n + 1, h⟩) (iblk m c 2 ⟨n + 1, h⟩))

theorem outs_eq (c : Dev nD) : ∀ (n : ℕ) (h : n < cfg0.N),
    outsAt0 m c n h = (k0_pay3 (iblk m c 0 ⟨n, h⟩) (iblk m c 1 ⟨n, h⟩) (iblk m c 2 ⟨n, h⟩), chain m c n h)
  | 0, h => by
    rw [outsAt0_A m c ⟨0, h⟩ rfl (by dsimp only; omega), out3_A, out4_A]; rfl
  | n + 1, h => by
    have hN : cfg0.N = 16 := N_0
    have hB : ¬(⟨n + 1, h⟩ : Fin cfg0.N).val % 16 = 0 := by dsimp only; omega
    rw [outsAt0_B m c ⟨n + 1, h⟩ hB (by dsimp only; omega), out3_B, out4_B]
    show (_, addf (outsAt0 m c n _).2 _) = (_, addf (chain m c n _) _)
    rw [outs_eq c n]

end Cert.Ff2Ideal.Body

end
-- ==== Proof.Ff2Value.lean ====
/- The arrays that the call `ff2_bwd` leaves, element by element over the extended reals. -/
module

public import proofs.«01_k».proof.Proof.Base
public import proofs.«01_k».proof.Proof.Ff2Body

@[expose] public section

noncomputable section

open Idealize.ShloMosaic Idealize.ShloMosaic.TcCoe Idealize.SL.Sem Idealize.ShloMosaic.StableHlo
open Idealize.ShloMosaic.Pipeline (Dat)

namespace Cert.Ff2Ideal.Body

open Cert.Ff2Ideal Cert.Ff2Ideal.Gen

variable (m : (ℓ : Loc nD τ sig) → Buf (Elt Ideal) ℓ)

abbrev zin (c : Dev nD) : Vec Ideal S8192x4096 .f32 := m ((c : Thread nD τ).loc main_arg0)
abbrev bin (c : Dev nD) : Vec Ideal S4096 .f32 := m ((c : Thread nD τ).loc main_arg1)
abbrev win (c : Dev nD) : Vec Ideal S4096x1024 .f32 := m ((c : Thread nD τ).loc main_arg2)
abbrev din (c : Dev nD) : Vec Ideal S8192x1024 .f32 := m ((c : Thread nD τ).loc main_arg3)

/-- The squared activation the call is given. -/
def act (c : Dev nD) (r : Fin 8192) (q : Fin 4096) : EReal :=
  max (zin m c (ix2 r q) + bin m c (ix1 q)) 0 * max (zin m c (ix2 r q) + bin m c (ix1 q)) 0

/-- The gradient by the pre-activation as the call computes it from the squared activation. -/
def dz (c : Dev nD) (r : Fin 8192) (q : Fin 4096) : EReal :=
  (∑ k : Fin 1024, din m c (ix2 r k) * win m c (ix2 q k))
    * (if 0 < act m c r q then Ideal.ofBits .f32 0x40000000#32 * act m c r q * Ideal.rsqrt (act m c r q) else 0)

/-- The host's squared activation. -/
def actV (z : Vec Ideal S8192x4096 .f32) (b : Vec Ideal S4096 .f32) : Vec Ideal S8192x4096 .bf16 :=
  let t : FVec Ideal S8192x4096 .f32 := maximumf (addf z (broadcastInDim S8192x4096 ![0, 1] bcast_S1x4096_S8192x4096_0_1 (broadcastInDim S1x4096 ![1] bcast_S4096_S1x4096_1 b)))
    (broadcastInDim S8192x4096 ![] bcast_S_S8192x4096 (constant S_ .f32 0#32))
  truncf .bf16 (mulf t t) bitsLt_bf16_f32

theorem V_actV (c : Dev nD) : V m c main_v5 = actV (zin m c) (bin m c) := by
  unfold V
  simp only [hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

theorem actV_apply (z : Vec Ideal S8192x4096 .f32) (b : Vec Ideal S4096 .f32) (r : Fin 8192) (q : Fin 4096) :
    actV z b (ix2 r q) = max (z (ix2 r q) + b (ix1 q)) 0 * max (z (ix2 r q) + b (ix1 q)) 0 := by
  pointwise [actV]

theorem V_w (c : Dev nD) : (V m c main_v6 : S4096x1024.Idx → EReal) = win m c := by
  unfold V
  simp only [hostOps0, hostOps0_1, hostOps0_2, List.flatten_cons, List.flatten_nil, List.append_nil, List.cons_append, List.nil_append,
    TRef.binary, TRef.nullary, TRef.unary, TRef.toBuf, TRef.ofBuf, cast_eq]
  after_results_simp <;> rfl

theorem blk_d (c : Dev nD) (t : Fin cfg0.N) (r : Fin 512) (k : Fin 1024) :
    (iblk m c 0 t : S512x1024.Idx → EReal) (ix2 r k) = din m c (ix2 (Rows.row (T := 8192) rfl t r) k) := by
  unfold iblk; rw [View.read_apply]
  show (V m c main_arg3 : S8192x1024.Idx → EReal) _ = _
  rw [V_main_arg3]
  refine congrArg (din m c) (funext fun a => Fin.ext ?_)
  match a with
  | ⟨0, _⟩ => show win0_0.index t 0 * 512 + 1 * r.val = 512 * t.val + r.val
              rw [(by decide +kernel : ∀ t : Fin grid0.N, win0_0.index t 0 = t.val) t]; omega
  | ⟨1, _⟩ => show win0_0.index t 1 * 1024 + 1 * k.val = k.val
              rw [(by decide +kernel : ∀ t : Fin grid0.N, win0_0.index t 1 = 0) t]; omega

theorem blk_a (c : Dev nD) (t : Fin cfg0.N) (r : Fin 512) (q : Fin 4096) :
    (iblk m c 1 t : S512x4096.Idx → EReal) (ix2 r q) = act m c (Rows.row (T := 8192) rfl t r) q := by
  unfold iblk; rw [View.read_apply]
  show (V m c main_v5 : S8192x4096.Idx → EReal) _ = _
  rw [V_actV]
  refine Eq.trans (congrArg (actV (zin m c) (bin m c)) (funext fun a => Fin.ext ?_)) (actV_apply _ _ (Rows.row (T := 8192) rfl t r) q)
  match a with
  | ⟨0, _⟩ => show win0_1.index t 0 * 512 + 1 * r.val = 512 * t.val + r.val
              rw [(by decide +kernel : ∀ t : Fin grid0.N, win0_1.index t 0 = t.val) t]; omega
  | ⟨1, _⟩ => show win0_1.index t 1 * 4096 + 1 * q.val = q.val
              rw [(by decide +kernel : ∀ t : Fin grid0.N, win0_1.index t 1 = 0) t]; omega

theorem blk_w (c : Dev nD) (t : Fin cfg0.N) (q : Fin 4096) (k : Fin 1024) :
    (iblk m c 2 t : S4096x1024.Idx → EReal) (ix2 q k) = win m c (ix2 q k) := by
  unfold iblk; rw [View.read_apply]
  show (V m c main_v6 : S4096x1024.Idx → EReal) _ = _
  rw [V_w]
  refine congrArg (win m c) (funext fun a => Fin.ext ?_)
  match a with
  | ⟨0, _⟩ => show win0_2.index t 0 * 4096 + 1 * q.val = q.val
              rw [(by decide +kernel : ∀ t : Fin grid0.N, win0_2.index t 0 = 0) t]; omega
  | ⟨1, _⟩ => show win0_2.index t 1 * 1024 + 1 * k.val = k.val
              rw [(by decide +kernel : ∀ t : Fin grid0.N, win0_2.index t 1 = 0) t]; omega

theorem pay1_apply (x0 : Vec Ideal S512x1024 .f32) (x1 : Vec Ideal S512x4096 .bf16) (x2 : Vec Ideal S4096x1024 .bf16) (r : Fin 512) (q : Fin 4096) :
    k0_pay1 x0 x1 x2 (ix2 r q) = (∑ k : Fin 1024, x0 (ix2 r k) * x2 (ix2 q k))
      * (if 0 < x1 (ix2 r q) then Ideal.ofBits .f32 0x40000000#32 * x1 (ix2 r q) * Ideal.rsqrt (x1 (ix2 r q)) else 0) := by
  pointwise [k0_pay1]

theorem pay1_blk (c : Dev nD) (t : Fin cfg0.N) (r : Fin 512) (q : Fin 4096) :
    k0_pay1 (iblk m c 0 t) (iblk m c 1 t) (iblk m c 2 t) (ix2 r q) = dz m c (Rows.row (T := 8192) rfl t r) q := by
  rw [pay1_apply]
  simp only [blk_d m c t, blk_a m c t, blk_w m c t]
  rfl

theorem pay2_blk (c : Dev nD) (t : Fin cfg0.N) (q : Fin 4096) :
    k0_pay2 (iblk m c 0 t) (iblk m c 1 t) (iblk m c 2 t) (ix2 0 q) = ∑ r : Fin 512, dz m c (Rows.row (T := 8192) rfl t r) q := by
  refine Eq.trans (?_ : _ = ∑ r : Fin 512, k0_pay1 (iblk m c 0 t) (iblk m c 1 t) (iblk m c 2 t) (ix2 r q)) (Finset.sum_congr rfl fun r _ => pay1_blk m c t r q)
  unfold k0_pay2
  generalize k0_pay1 (iblk m c 0 t) (iblk m c 1 t) (iblk m c 2 t) = y
  pointwise []

/-- The first result. -/
def G3 (c : Dev nD) : Vec Ideal S8192x4096 .bf16 := fun i => dz m c (i 0) (i 1)

/-- Its sum over the rows. -/
def db (c : Dev nD) (q : Fin 4096) : EReal := ∑ r : Fin 8192, dz m c r q

/-- The second result. -/
def G4 (c : Dev nD) : Vec Ideal S1x4096 .f32 := fun i => db m c (i 1)

theorem G4_apply (c : Dev nD) (p : Fin 1) (q : Fin 4096) : G4 m c (ix2 p q) = ∑ r : Fin 8192, dz m c r q := rfl

theorem final3 (c : Dev nD) : (dats m 0 c).arrAt 3 cfg0.N = G3 m c := by
  refine (dats m 0 c).arrAt_eq_of_cover 3 (G3 m c) (fun t hf => ?_) (fun i => ?_)
  · refine (Value.flushed3 m c t).trans ?_
    rw [outs_eq]
    funext j
    have hx0 : win0_3.xsize (grid0.coords t) 0 = 512 := (by decide +kernel : ∀ t : Fin grid0.N, win0_3.xsize (grid0.coords t) 0 = 512) t
    have hx1 : win0_3.xsize (grid0.coords t) 1 = 4096 := (by decide +kernel : ∀ t : Fin grid0.N, win0_3.xsize (grid0.coords t) 1 = 4096) t
    have hj0 : (j 0 : Nat) < 512 := lt_of_lt_of_eq (j 0).isLt hx0
    have hj1 : (j 1 : Nat) < 4096 := lt_of_lt_of_eq (j 1).isLt hx1
    rw [View.read_apply]
    refine Eq.trans ?_ ((pay1_blk m c t ⟨j 0, hj0⟩ ⟨j 1, hj1⟩).trans ?_)
    · show k0_pay1 (iblk m c 0 t) (iblk m c 1 t) (iblk m c 2 t) _ = _
      refine congrArg (k0_pay1 (iblk m c 0 t) (iblk m c 1 t) (iblk m c 2 t)) (funext fun a => Fin.ext ?_)
      match a with
      | ⟨0, _⟩ => rfl
      | ⟨1, _⟩ => rfl
    · show dz m c _ _ = dz m c _ _
      congr 1
      · refine Fin.ext ?_
        show 512 * t.val + (j 0 : Nat) = win0_3.index t 0 * 512 + 1 * (j 0 : Nat)
        rw [(by decide +kernel : ∀ t : Fin grid0.N, win0_3.index t 0 = t.val) t]; omega
      · refine Fin.ext ?_
        show (j 1 : Nat) = win0_3.index t 1 * 4096 + 1 * (j 1 : Nat)
        rw [(by decide +kernel : ∀ t : Fin grid0.N, win0_3.index t 1 = 0) t]; omega
  · obtain ⟨t, r, h⟩ := Rows.exists_row (N := 16) (B := 512) (T := 8192) rfl (by decide) (i 0)
    refine ⟨t, flush0_3 t, ?_⟩
    show i ∈ ((View.whole main_v7_0).slice (win0_3.rect t)).set
    rw [View.set_slice_whole, Rect.mem_set_unit]
    intro a
    have h1 : (i 1 : Nat) < 4096 := (i 1).isLt
    have h0 : (i 0 : Nat) = 512 * t.val + r.val := congrArg Fin.val h
    have hr := r.isLt
    match a with
    | ⟨0, _⟩ => show win0_3.index t 0 * 512 ≤ (i 0 : Nat) ∧ (i 0 : Nat) < win0_3.index t 0 * 512 + win0_3.xsize (grid0.coords t) 0
                rw [(by decide +kernel : ∀ t : Fin grid0.N, win0_3.index t 0 = t.val) t, (by decide +kernel : ∀ t : Fin grid0.N, win0_3.xsize (grid0.coords t) 0 = 512) t]; omega
    | ⟨1, _⟩ => show win0_3.index t 1 * 4096 ≤ (i 1 : Nat) ∧ (i 1 : Nat) < win0_3.index t 1 * 4096 + win0_3.xsize (grid0.coords t) 1
                rw [(by decide +kernel : ∀ t : Fin grid0.N, win0_3.index t 1 = 0) t, (by decide +kernel : ∀ t : Fin grid0.N, win0_3.xsize (grid0.coords t) 1 = 4096) t]; omega

theorem chain_last (c : Dev nD) (h : 15 < cfg0.N) (q : Fin 4096) : chain m c 15 h (ix2 0 q) = G4 m c (ix2 0 q) := by
  refine Eq.trans ?_ (G4_apply m c 0 q).symm
  rw [← Rows.sum_rows (N := 16) (B := 512) rfl]
  refine Rows.chain_last (fun t : Fin 16 => ∑ r : Fin 512, dz m c (Rows.row rfl t r) q) (fun n h => (chain m c n h : S1x4096.Idx → EReal) (ix2 0 q)) (fun h => ?_) (fun n h => ?_) 15 h rfl
  · exact pay2_blk m c ⟨0, h⟩ q
  · exact congrArg (fun y : EReal => (chain m c n (Nat.lt_of_succ_lt h) : S1x4096.Idx → EReal) (ix2 0 q) + y) (pay2_blk m c ⟨n + 1, h⟩ q)

theorem final4 (c : Dev nD) : (dats m 0 c).arrAt 4 cfg0.N = G4 m c := by
  refine (dats m 0 c).arrAt_eq_of_cover 4 (G4 m c) (fun t hf => ?_) (fun i => ?_)
  · refine (Value.flushed4 m c t).trans ?_
    have h15 : t.val = 15 := by have := (flush0_4 t).mp hf; have := t.isLt; have : cfg0.N = 16 := N_0; omega
    rw [outs_eq]
    obtain ⟨n, hn⟩ := t
    obtain rfl : n = 15 := h15
    have hch := chain_last m c hn
    dsimp only
    generalize chain m c 15 hn = y at hch ⊢
    generalize G4 m c = G at hch ⊢
    funext j
    have hx0 : win0_4.xsize (grid0.coords ⟨15, hn⟩) 0 = 1 := (by decide +kernel : ∀ t : Fin grid0.N, win0_4.xsize (grid0.coords t) 0 = 1) _
    have hx1 : win0_4.xsize (grid0.coords ⟨15, hn⟩) 1 = 4096 := (by decide +kernel : ∀ t : Fin grid0.N, win0_4.xsize (grid0.coords t) 1 = 4096) _
    have hj0 : (j 0 : Nat) < 1 := lt_of_lt_of_eq (j 0).isLt hx0
    have hj1 : (j 1 : Nat) < 4096 := lt_of_lt_of_eq (j 1).isLt hx1
    rw [View.read_apply]
    refine Eq.trans (congrArg y (funext fun a => Fin.ext ?_)) ((hch ⟨j 1, hj1⟩).trans (congrArg G (funext fun a => Fin.ext ?_)))
    · match a with
      | ⟨0, _⟩ => exact Nat.lt_one_iff.mp hj0
      | ⟨1, _⟩ => rfl
    · match a with
      | ⟨0, _⟩ =>
        show 0 = win0_4.index _ 0 * 1 + 1 * (j 0 : Nat)
        rw [(by decide +kernel : ∀ t : Fin grid0.N, win0_4.index t 0 = 0) _]; omega
      | ⟨1, _⟩ =>
        show (j 1 : Nat) = win0_4.index _ 1 * 4096 + 1 * (j 1 : Nat)
        rw [(by decide +kernel : ∀ t : Fin grid0.N, win0_4.index t 1 = 0) _]; omega
  · have hn : 15 < cfg0.N := by rw [show cfg0.N = 16 from N_0]; decide
    refine ⟨⟨15, hn⟩, (flush0_4 _).mpr rfl, ?_⟩
    show i ∈ ((View.whole main_v7_1).slice (win0_4.rect ⟨15, hn⟩)).set
    rw [View.set_slice_whole, Rect.mem_set_unit]
    intro a
    have h0 : (i 0 : Nat) < 1 := (i 0).isLt
    have h1 : (i 1 : Nat) < 4096 := (i 1).isLt
    match a with
    | ⟨0, _⟩ => show win0_4.index ⟨15, hn⟩ 0 * 1 ≤ (i 0 : Nat) ∧ (i 0 : Nat) < win0_4.index ⟨15, hn⟩ 0 * 1 + win0_4.xsize (grid0.coords ⟨15, hn⟩) 0
                rw [(by decide +kernel : ∀ t : Fin grid0.N, win0_4.index t 0 = 0) _, (by decide +kernel : ∀ t : Fin grid0.N, win0_4.xsize (grid0.coords t) 0 = 1) _]; omega
    | ⟨1, _⟩ => show win0_4.index ⟨15, hn⟩ 1 * 4096 ≤ (i 1 : Nat) ∧ (i 1 : Nat) < win0_4.index ⟨15, hn⟩ 1 * 4096 + win0_4.xsize (grid0.coords ⟨15, hn⟩) 1
                rw [(by decide +kernel : ∀ t : Fin grid0.N, win0_4.index t 1 = 0) _, (by decide +kernel : ∀ t : Fin grid0.N, win0_4.xsize (grid0.coords t) 1 = 4096) _]; omega

end Cert.Ff2Ideal.Body

end
-- ==== Proof.Ff2Claim.lean ====
/- The claim on the call `ff2_bwd`: its two results are the gradients of `relu(z + b)² @ w`. -/
module

public import proofs.«01_k».proof.Defs
public import proofs.«01_k».proof.Proof.Ff2Value
public import proofs.«01_k».proof.Proof.Gen.Ff2RefIdeal
public import proofs.«01_k».proof.Proof.Gen.Ff2RefIdeal.Run
public import proofs.«01_k».proof.Proof.Gen.Ff2RefIdeal.Read

@[expose] public section

noncomputable section

open Idealize.ShloMosaic Idealize.ShloMosaic.TcCoe Idealize.SL.Sem Idealize.ShloMosaic.StableHlo

namespace Cert.Ff2Ref

open Cert.Ff2RefIdeal Cert.Ff2RefIdeal.Read Cert.Ff2RefIdeal.Gen

/-- The reference's gradient by the pre-activation. -/
def rz (x0 : Vec Ideal S8192x4096 .f32) (x1 : Vec Ideal S4096 .f32) (x2 : Vec Ideal S4096x1024 .f32) (x3 : Vec Ideal S8192x1024 .f32) (r : Fin 8192) (q : Fin 4096) : EReal :=
  if 0 < x0 (ix2 r q) + x1 (ix1 q) then
    (∑ k : Fin 1024, x3 (ix2 r k) * x2 (ix2 q k)) * (Ideal.ofBits .f32 0x40000000#32 * max (x0 (ix2 r q) + x1 (ix1 q)) 0)
  else 0

theorem res0 (x0 : Vec Ideal S8192x4096 .f32) (x1 : Vec Ideal S4096 .f32) (x2 : Vec Ideal S4096x1024 .f32) (x3 : Vec Ideal S8192x1024 .f32) (r : Fin 8192) (q : Fin 4096) :
    val_main_v32 x0 x1 x2 x3 (ix2 r q) = rz x0 x1 x2 x3 r q := by
  rw [← val_main_v32_eq]
  pointwise [rz]

theorem res1 (x0 : Vec Ideal S8192x4096 .f32) (x1 : Vec Ideal S4096 .f32) (x2 : Vec Ideal S4096x1024 .f32) (x3 : Vec Ideal S8192x1024 .f32) (p : Fin 1) (q : Fin 4096) :
    val_main_v33 x0 x1 x2 x3 (ix2 p q) = ∑ r : Fin 8192, rz x0 x1 x2 x3 r q := by
  rw [← val_main_v33_eq]
  pointwise [rz]
  rw [Fin.sum_univ_one]

/-- `2 a · rsqrt a` at `a = relu(t)²` is `2 relu(t)` where `t` is positive and not `⊤`, and both gradients are zero elsewhere. -/
theorem square_grad (x two t : EReal) (ht : t ≠ ⊤) :
    x * (if 0 < max t 0 * max t 0 then two * (max t 0 * max t 0) * Ideal.rsqrt (max t 0 * max t 0) else 0)
      = if 0 < t then x * (two * max t 0) else 0 := by
  induction t with
  | bot => simp
  | top => exact absurd rfl ht
  | coe t =>
    by_cases h : 0 < t
    · have h' : (0 : EReal) < (t : EReal) := EReal.coe_pos.mpr h
      rw [max_eq_left h'.le, ← EReal.coe_mul, if_pos (EReal.coe_pos.mpr (mul_pos h h)), if_pos h', Ideal.rsqrt_coe,
        if_neg (not_lt.mpr (mul_pos h h).le), if_neg (mul_pos h h).ne', Real.sqrt_mul_self h.le, mul_assoc two, ← EReal.coe_mul,
        mul_assoc, mul_inv_cancel₀ h.ne', mul_one]
    · have h' : ¬(0 : EReal) < (t : EReal) := fun hh => h (EReal.coe_pos.mp hh)
      rw [max_eq_right (not_lt.mp h'), mul_zero, if_neg (lt_irrefl _), if_neg h', mul_zero]

end Cert.Ff2Ref

namespace Cert.Ff2Ideal.Body

open Cert.Ff2Ideal Cert.Ff2Ideal.Gen

variable (m : (ℓ : Loc nD τ sig) → Buf (Elt Ideal) ℓ)

theorem dz_eq (c : Dev nD) (r : Fin 8192) (q : Fin 4096) (h : zin m c (ix2 r q) + bin m c (ix1 q) ≠ ⊤) :
    dz m c r q = Cert.Ff2Ref.rz (zin m c) (bin m c) (win m c) (din m c) r q :=
  Cert.Ff2Ref.square_grad _ _ _ h

instance preFacts : Cert.Pre_below_top_ff2.Facts := ⟨by decide, by decide, by decide⟩

theorem below (z : Vec Ideal S8192x4096 .f32) (b : Vec Ideal S4096 .f32) (w : Vec Ideal S4096x1024 .f32) (d : Vec Ideal S8192x1024 .f32)
    (h : Cert.Pre_below_top_ff2.fn (F := Ideal) z b w d = fun _ => 1#1) (r : Fin 8192) (q : Fin 4096) : z (ix2 r q) + b (ix1 q) ≠ ⊤ := by
  have h := congrFun h (ix2 r q)
  revert h
  pointwise [Cert.Pre_below_top_ff2.fn]
  intro h e
  rw [e] at h
  simp [not_top_lt] at h

theorem finals (h : Cert.Pre_Ff2Ideal_below_top_ff2 m) (c : Dev nD) :
    G3 m c = Cert.Ff2RefIdeal.Read.val_main_v32 (zin m c) (bin m c) (win m c) (din m c)
      ∧ G4 m c = Cert.Ff2RefIdeal.Read.val_main_v33 (zin m c) (bin m c) (win m c) (din m c) := by
  have hb := below (zin m c) (bin m c) (win m c) (din m c) (h c)
  constructor
  · funext i
    obtain ⟨p, q, rfl⟩ : ∃ (p : Fin 8192) (q : Fin 4096), i = ix2 p q := ⟨i 0, i 1, eq_ix2 i⟩
    exact (dz_eq m c _ _ (hb _ _)).trans (Cert.Ff2Ref.res0 _ _ _ _ _ _).symm
  · funext i
    obtain ⟨p, q, rfl⟩ : ∃ (p : Fin 1) (q : Fin 4096), i = ix2 p q := ⟨i 0, i 1, eq_ix2 i⟩
    have e : ∀ r : Fin 8192, dz m c r q = Cert.Ff2Ref.rz (zin m c) (bin m c) (win m c) (din m c) r q := fun r => dz_eq m c _ _ (hb _ _)
    rw [G4_apply, Cert.Ff2Ref.res1]
    simp only [e]

theorem algebraic : Cert.algebraic_Ff2Ideal_Ff2RefIdeal_pre_below_top_ff2 := by
  intro m g m' g' hpre hag
  refine ⟨fun c => G3 m c, fun c => G4 m c, ?_, ?_⟩
  · exact (θ_run defs _ _).mono (fun r h c => ⟨(h c).1.trans (final3 m c), (h c).2.1.trans (final4 m c), (h c).2.2⟩) (Value.run_blocks m g)
  · refine (θ_run Cert.Ff2RefIdeal.defs _ _).mono (fun r h c => ⟨(h c).1.trans ?_, (h c).2.1.trans ?_, (h c).2.2⟩) (Cert.Ff2RefIdeal.Value.run m' g')
    · obtain ⟨h0, h1, h2, h3⟩ := hag c
      rw [Cert.Ff2RefIdeal.Read.val_main_v32_eq, h0, h1, h2, h3]
      exact ((finals m hpre c).1).symm
    · obtain ⟨h0, h1, h2, h3⟩ := hag c
      rw [Cert.Ff2RefIdeal.Read.val_main_v33_eq, h0, h1, h2, h3]
      exact ((finals m hpre c).2).symm

end Cert.Ff2Ideal.Body

end
-- ==== Proof.Forms.lean ====
/- The formulas of the layers, as functions of the rows they read, and arrays put side by side. -/
module

public import proofs.«01_k».proof.Proof.Base

@[expose] public section

noncomputable section

open Idealize.ShloMosaic Idealize.ShloMosaic.TcCoe

namespace Rows

/-- The mean of 1024 numbers. -/
def mean (x : Fin 1024 → EReal) : EReal := Ideal.div (∑ k, x k) (Ideal.ofBits .f32 0x44800000#32)

/-- One over the standard deviation of 1024 numbers, regularised. -/
def istd (x : Fin 1024 → EReal) : EReal :=
  Ideal.rsqrt (mean (fun k => (x k - mean x) * (x k - mean x)) + Ideal.ofBits .f32 0x3727C5AC#32)

/-- Layer normalisation of a row. -/
def norm (x g b : Fin 1024 → EReal) (q : Fin 1024) : EReal := (x q - mean x) * istd x * g q + b q

/-- Root-mean-square normalisation of a row. -/
def rms (x g : Fin 512 → EReal) (q : Fin 512) : EReal :=
  x q * Ideal.rsqrt (Ideal.div (∑ k, x k * x k) (Ideal.ofBits .f32 0x44000000#32) + Ideal.ofBits .f32 0x358637BD#32) * g q

/-- The Gaussian error linear unit, by the hyperbolic tangent. -/
def gelu (x : EReal) : EReal :=
  Ideal.ofBits .f32 0x3F000000#32 * x * (1 + Ideal.tanh (Ideal.ofBits .f32 0x3F4C422A#32 * (x + Ideal.ofBits .f32 0x3D372713#32 * (x * x * x))))

/-- The gated unit of a row: `gelu(x)` times the logistic function of `gelu(x) @ w + b`. -/
def glu (x : Fin 512 → EReal) (w : Fin 512 → Fin 512 → EReal) (b : Fin 512 → EReal) (q : Fin 512) : EReal :=
  gelu (x q) * Ideal.logistic (∑ k, gelu (x k) * w k q + b q)

/-- The factor of the residual stream. -/
abbrev al : EReal := Ideal.ofBits .f32 0x3FD744FD#32

theorem logistic_eq (x : EReal) : Ideal.div 1 (1 + Ideal.exp (-x)) = Ideal.logistic x := rfl

theorem gelu_eq (x t : EReal) : x * (Ideal.ofBits .f32 0x3F000000#32 * t) = Ideal.ofBits .f32 0x3F000000#32 * x * t := by
  rw [mul_left_comm, mul_assoc]

/-- Eight terms added one after another. -/
theorem add8 (a : EReal) (g : Fin 8 → EReal) {s0 s1 s2 s3 s4 s5 s6 s7 : EReal} (h0 : s0 = g ⟨0, by decide⟩) (h1 : s1 = g ⟨1, by decide⟩) (h2 : s2 = g ⟨2, by decide⟩)
    (h3 : s3 = g ⟨3, by decide⟩) (h4 : s4 = g ⟨4, by decide⟩) (h5 : s5 = g ⟨5, by decide⟩) (h6 : s6 = g ⟨6, by decide⟩) (h7 : s7 = g ⟨7, by decide⟩) :
    a + s0 + s1 + s2 + s3 + s4 + s5 + s6 + s7 = a + ∑ j, g j := by
  rw [h0, h1, h2, h3, h4, h5, h6, h7, Fin.sum_univ_eight]; simp only [add_assoc]; rfl

/-- 8 blocks of 256 side by side. -/
theorem cat8_256 {M : Type} (g : Fin 8 → Fin 256 → M) (q : Fin 2048) :
    (if h : q.val < 256 then g 0 ⟨q.val, h⟩ else (if h : q.val - 256 < 256 then g 1 ⟨q.val - 256, h⟩ else (if h : q.val - 256 - 256 < 256 then g 2 ⟨q.val - 256 - 256, h⟩ else (if h : q.val - 256 - 256 - 256 < 256 then g 3 ⟨q.val - 256 - 256 - 256, h⟩ else (if h : q.val - 256 - 256 - 256 - 256 < 256 then g 4 ⟨q.val - 256 - 256 - 256 - 256, h⟩ else (if h : q.val - 256 - 256 - 256 - 256 - 256 < 256 then g 5 ⟨q.val - 256 - 256 - 256 - 256 - 256, h⟩ else (if h : q.val - 256 - 256 - 256 - 256 - 256 - 256 < 256 then g 6 ⟨q.val - 256 - 256 - 256 - 256 - 256 - 256, h⟩ else g 7 ⟨q.val - 256 - 256 - 256 - 256 - 256 - 256 - 256, by have := q.isLt; omega⟩)))))))
      = g ⟨q.val / 256, by have := q.isLt; omega⟩ ⟨q.val % 256, Nat.mod_lt _ (by decide)⟩ := by
  have := q.isLt
  by_cases h0 : q.val < 256
  · rw [dif_pos h0]; exact congrArg₂ g (Fin.ext (by show 0 = q.val / 256; omega)) (Fin.ext (by show q.val = q.val % 256; omega))
  rw [dif_neg h0]
  by_cases h1 : q.val - 256 < 256
  · rw [dif_pos h1]; exact congrArg₂ g (Fin.ext (by show 1 = q.val / 256; omega)) (Fin.ext (by show q.val - 256 = q.val % 256; omega))
  rw [dif_neg h1]
  by_cases h2 : q.val - 256 - 256 < 256
  · rw [dif_pos h2]; exact congrArg₂ g (Fin.ext (by show 2 = q.val / 256; omega)) (Fin.ext (by show q.val - 256 - 256 = q.val % 256; omega))
  rw [dif_neg h2]
  by_cases h3 : q.val - 256 - 256 - 256 < 256
  · rw [dif_pos h3]; exact congrArg₂ g (Fin.ext (by show 3 = q.val / 256; omega)) (Fin.ext (by show q.val - 256 - 256 - 256 = q.val % 256; omega))
  rw [dif_neg h3]
  by_cases h4 : q.val - 256 - 256 - 256 - 256 < 256
  · rw [dif_pos h4]; exact congrArg₂ g (Fin.ext (by show 4 = q.val / 256; omega)) (Fin.ext (by show q.val - 256 - 256 - 256 - 256 = q.val % 256; omega))
  rw [dif_neg h4]
  by_cases h5 : q.val - 256 - 256 - 256 - 256 - 256 < 256
  · rw [dif_pos h5]; exact congrArg₂ g (Fin.ext (by show 5 = q.val / 256; omega)) (Fin.ext (by show q.val - 256 - 256 - 256 - 256 - 256 = q.val % 256; omega))
  rw [dif_neg h5]
  by_cases h6 : q.val - 256 - 256 - 256 - 256 - 256 - 256 < 256
  · rw [dif_pos h6]; exact congrArg₂ g (Fin.ext (by show 6 = q.val / 256; omega)) (Fin.ext (by show q.val - 256 - 256 - 256 - 256 - 256 - 256 = q.val % 256; omega))
  rw [dif_neg h6]
  exact congrArg₂ g (Fin.ext (by show 7 = q.val / 256; omega)) (Fin.ext (by show q.val - 256 - 256 - 256 - 256 - 256 - 256 - 256 = q.val % 256; omega))

/-- 8 blocks of 512 side by side. -/
theorem cat8_512 {M : Type} (g : Fin 8 → Fin 512 → M) (q : Fin 4096) :
    (if h : q.val < 512 then g 0 ⟨q.val, h⟩ else (if h : q.val - 512 < 512 then g 1 ⟨q.val - 512, h⟩ else (if h : q.val - 512 - 512 < 512 then g 2 ⟨q.val - 512 - 512, h⟩ else (if h : q.val - 512 - 512 - 512 < 512 then g 3 ⟨q.val - 512 - 512 - 512, h⟩ else (if h : q.val - 512 - 512 - 512 - 512 < 512 then g 4 ⟨q.val - 512 - 512 - 512 - 512, h⟩ else (if h : q.val - 512 - 512 - 512 - 512 - 512 < 512 then g 5 ⟨q.val - 512 - 512 - 512 - 512 - 512, h⟩ else (if h : q.val - 512 - 512 - 512 - 512 - 512 - 512 < 512 then g 6 ⟨q.val - 512 - 512 - 512 - 512 - 512 - 512, h⟩ else g 7 ⟨q.val - 512 - 512 - 512 - 512 - 512 - 512 - 512, by have := q.isLt; omega⟩)))))))
      = g ⟨q.val / 512, by have := q.isLt; omega⟩ ⟨q.val % 512, Nat.mod_lt _ (by decide)⟩ := by
  have := q.isLt
  by_cases h0 : q.val < 512
  · rw [dif_pos h0]; exact congrArg₂ g (Fin.ext (by show 0 = q.val / 512; omega)) (Fin.ext (by show q.val = q.val % 512; omega))
  rw [dif_neg h0]
  by_cases h1 : q.val - 512 < 512
  · rw [dif_pos h1]; exact congrArg₂ g (Fin.ext (by show 1 = q.val / 512; omega)) (Fin.ext (by show q.val - 512 = q.val % 512; omega))
  rw [dif_neg h1]
  by_cases h2 : q.val - 512 - 512 < 512
  · rw [dif_pos h2]; exact congrArg₂ g (Fin.ext (by show 2 = q.val / 512; omega)) (Fin.ext (by show q.val - 512 - 512 = q.val % 512; omega))
  rw [dif_neg h2]
  by_cases h3 : q.val - 512 - 512 - 512 < 512
  · rw [dif_pos h3]; exact congrArg₂ g (Fin.ext (by show 3 = q.val / 512; omega)) (Fin.ext (by show q.val - 512 - 512 - 512 = q.val % 512; omega))
  rw [dif_neg h3]
  by_cases h4 : q.val - 512 - 512 - 512 - 512 < 512
  · rw [dif_pos h4]; exact congrArg₂ g (Fin.ext (by show 4 = q.val / 512; omega)) (Fin.ext (by show q.val - 512 - 512 - 512 - 512 = q.val % 512; omega))
  rw [dif_neg h4]
  by_cases h5 : q.val - 512 - 512 - 512 - 512 - 512 < 512
  · rw [dif_pos h5]; exact congrArg₂ g (Fin.ext (by show 5 = q.val / 512; omega)) (Fin.ext (by show q.val - 512 - 512 - 512 - 512 - 512 = q.val % 512; omega))
  rw [dif_neg h5]
  by_cases h6 : q.val - 512 - 512 - 512 - 512 - 512 - 512 < 512
  · rw [dif_pos h6]; exact congrArg₂ g (Fin.ext (by show 6 = q.val / 512; omega)) (Fin.ext (by show q.val - 512 - 512 - 512 - 512 - 512 - 512 = q.val % 512; omega))
  rw [dif_neg h6]
  exact congrArg₂ g (Fin.ext (by show 7 = q.val / 512; omega)) (Fin.ext (by show q.val - 512 - 512 - 512 - 512 - 512 - 512 - 512 = q.val % 512; omega))

/-- 4 blocks of 512 side by side. -/
theorem cat4_512 {M : Type} (g : Fin 4 → Fin 512 → M) (q : Fin 2048) :
    (if h : q.val < 512 then g 0 ⟨q.val, h⟩ else (if h : q.val - 512 < 512 then g 1 ⟨q.val - 512, h⟩ else (if h : q.val - 512 - 512 < 512 then g 2 ⟨q.val - 512 - 512, h⟩ else g 3 ⟨q.val - 512 - 512 - 512, by have := q.isLt; omega⟩)))
      = g ⟨q.val / 512, by have := q.isLt; omega⟩ ⟨q.val % 512, Nat.mod_lt _ (by decide)⟩ := by
  have := q.isLt
  by_cases h0 : q.val < 512
  · rw [dif_pos h0]; exact congrArg₂ g (Fin.ext (by show 0 = q.val / 512; omega)) (Fin.ext (by show q.val = q.val % 512; omega))
  rw [dif_neg h0]
  by_cases h1 : q.val - 512 < 512
  · rw [dif_pos h1]; exact congrArg₂ g (Fin.ext (by show 1 = q.val / 512; omega)) (Fin.ext (by show q.val - 512 = q.val % 512; omega))
  rw [dif_neg h1]
  by_cases h2 : q.val - 512 - 512 < 512
  · rw [dif_pos h2]; exact congrArg₂ g (Fin.ext (by show 2 = q.val / 512; omega)) (Fin.ext (by show q.val - 512 - 512 = q.val % 512; omega))
  rw [dif_neg h2]
  exact congrArg₂ g (Fin.ext (by show 3 = q.val / 512; omega)) (Fin.ext (by show q.val - 512 - 512 - 512 = q.val % 512; omega))

end Rows

end
-- ==== Proof.Norm.lean ====
/- The gradient of a layer norm: as the kernels write it, as differentiation writes it, and that the two agree where the incoming gradient is finite. -/
module

public import proofs.«01_k».proof.Proof.Forms

@[expose] public section

noncomputable section

open Idealize.ShloMosaic Idealize.ShloMosaic.TcCoe

namespace Rows

/-- The regularised variance of 1024 numbers. -/
def rvar (x : Fin 1024 → EReal) : EReal := mean (fun k => (x k - mean x) * (x k - mean x)) + Ideal.ofBits .f32 0x3727C5AC#32

/-- The normalised row. -/
def hat (x : Fin 1024 → EReal) (q : Fin 1024) : EReal := (x q - mean x) * istd x

/-- The gradient by the row, of the gradient `y` by the normalised row, as the kernels compute it. -/
def bwd (x y : Fin 1024 → EReal) (q : Fin 1024) : EReal :=
  istd x * (y q - mean y - hat x q * mean (fun k => y k * hat x k))

/-- The part of it that goes through the variance, as differentiation writes it. -/
def viaVar (x y : Fin 1024 → EReal) (q : Fin 1024) : EReal :=
  (∑ _ : Fin 1, Ideal.div ((∑ k, (x k - mean x) * y k) * (Ideal.ofBits .f32 0xBF000000#32 * Ideal.div (istd x) (rvar x))) (Ideal.ofBits .f32 0x44800000#32))
    * (Ideal.ofBits .f32 0x40000000#32 * (x q - mean x))

/-- The gradient by the row, as differentiation writes it. -/
def bwdDiff (x y : Fin 1024 → EReal) (q : Fin 1024) : EReal :=
  y q * istd x + viaVar x y q
    + ∑ _ : Fin 1, Ideal.div (∑ k, -(y k * istd x) + ∑ k, -viaVar x y k) (Ideal.ofBits .f32 0x44800000#32)

theorem coe_sum {ι : Type} (s : Finset ι) (f : ι → ℝ) : ((∑ k ∈ s, f k : ℝ) : EReal) = ∑ k ∈ s, (f k : EReal) := by
  classical
  induction s using Finset.induction_on with
  | empty => simp
  | insert a s h ih => rw [Finset.sum_insert h, Finset.sum_insert h, EReal.coe_add, ih]

theorem word_1024 : Ideal.ofBits .f32 0x44800000#32 = ((1024 : ℝ) : EReal) := by
  simp [Ideal.ofBits, Ideal.ieee, -EReal.coe_mul]; norm_num
theorem word_two : Ideal.ofBits .f32 0x40000000#32 = ((2 : ℝ) : EReal) := by
  simp [Ideal.ofBits, Ideal.ieee, -EReal.coe_mul]; norm_num
theorem word_half : Ideal.ofBits .f32 0x3F000000#32 = ((1 / 2 : ℝ) : EReal) := by
  simp [Ideal.ofBits, Ideal.ieee, -EReal.coe_mul]; norm_num
theorem word_neg_half : Ideal.ofBits .f32 0xBF000000#32 = ((-(1 / 2) : ℝ) : EReal) := by
  simp [Ideal.ofBits, Ideal.ieee, -EReal.coe_mul]; norm_num
/-- The regularisation of the layer norm's variance, a positive number. -/
theorem word_eps : ∃ e : ℝ, 0 < e ∧ Ideal.ofBits .f32 0x3727C5AC#32 = (e : EReal) := by
  refine ⟨_, ?_, by simp [Ideal.ofBits, Ideal.ieee, -EReal.coe_mul]; rfl⟩
  positivity

theorem div_1024 (x : ℝ) : Ideal.div (x : EReal) ((1024 : ℝ) : EReal) = ((x / 1024 : ℝ) : EReal) := by
  rw [Ideal.div_coe (by norm_num), ← EReal.coe_mul]; congr 1; ring

theorem mean_coe (X : Fin 1024 → ℝ) : mean (fun k => (X k : EReal)) = (((∑ k, X k) / 1024 : ℝ) : EReal) := by
  unfold mean; rw [word_1024, ← coe_sum, div_1024]

/-- On finite rows the two gradients agree. -/
theorem bwdDiff_eq (x y : Fin 1024 → EReal) (hx : ∀ k, ∃ r : ℝ, x k = r) (hy : ∀ k, ∃ r : ℝ, y k = r) (q : Fin 1024) :
    bwdDiff x y q = bwd x y q := by
  choose X hX using hx
  choose Y hY using hy
  obtain rfl : x = fun k => (X k : EReal) := funext hX
  obtain rfl : y = fun k => (Y k : EReal) := funext hY
  obtain ⟨e, he, hew⟩ := word_eps
  have hz : ∑ k, (X k - (∑ k, X k) / 1024) = 0 := by
    rw [Finset.sum_sub_distrib, Finset.sum_const, Finset.card_univ, Fintype.card_fin, nsmul_eq_mul]; push_cast; ring
  have hv : rvar (fun k => (X k : EReal)) = (((∑ k, (X k - (∑ k, X k) / 1024) * (X k - (∑ k, X k) / 1024)) / 1024 + e : ℝ) : EReal) := by
    unfold rvar; rw [mean_coe, hew]; simp only [← EReal.coe_sub, ← EReal.coe_mul, mean_coe, ← EReal.coe_add]
  generalize hV : (∑ k, (X k - (∑ k, X k) / 1024) * (X k - (∑ k, X k) / 1024)) / 1024 + e = V at hv
  have hVp : 0 < V := by
    rw [← hV]
    have : 0 ≤ ∑ k, (X k - (∑ k, X k) / 1024) * (X k - (∑ k, X k) / 1024) := Finset.sum_nonneg fun k _ => mul_self_nonneg _
    positivity
  have hs : istd (fun k => (X k : EReal)) = (((Real.sqrt V)⁻¹ : ℝ) : EReal) := by
    show Ideal.rsqrt (rvar _) = _
    rw [hv, Ideal.rsqrt_coe, if_neg (not_lt.mpr hVp.le), if_neg hVp.ne']
  have hq : (Real.sqrt V)⁻¹ / V = (Real.sqrt V)⁻¹ * (Real.sqrt V)⁻¹ * (Real.sqrt V)⁻¹ := by
    have h := Real.mul_self_sqrt hVp.le
    have h0 : Real.sqrt V ≠ 0 := (Real.sqrt_pos.mpr hVp).ne'
    rw [div_eq_mul_inv]; nth_rewrite 2 [← h]; rw [mul_inv]; ring
  have hd : Ideal.div (((Real.sqrt V)⁻¹ : ℝ) : EReal) (V : EReal) = (((Real.sqrt V)⁻¹ / V : ℝ) : EReal) := by
    rw [Ideal.div_coe hVp.ne', ← EReal.coe_mul]; congr 1; ring
  generalize hm : (∑ k, X k) / 1024 = M at hz
  generalize (Real.sqrt V)⁻¹ = s at hs hq hd
  have hmean : mean (fun k => (X k : EReal)) = (M : EReal) := by rw [mean_coe, hm]
  unfold bwdDiff viaVar bwd hat
  simp only [Fin.sum_univ_one, hs, hv, hmean, hd, word_neg_half, word_two, word_1024, ← EReal.coe_sub, ← EReal.coe_mul, ← EReal.coe_neg, ← coe_sum,
    div_1024, ← EReal.coe_add, mean_coe]
  refine congrArg _ ?_
  rw [hq]
  have h1 : ∑ k, -((∑ k, (X k - M) * Y k) * (-(1 / 2) * (s * s * s)) / 1024 * (2 * (X k - M))) = 0 := by
    rw [Finset.sum_neg_distrib, ← Finset.mul_sum, ← Finset.mul_sum, hz]; ring
  have h2 : ∑ k, -(Y k * s) = -((∑ k, Y k) * s) := by rw [Finset.sum_neg_distrib, Finset.sum_mul]
  have h3 : ∑ k, Y k * ((X k - M) * s) = (∑ k, (X k - M) * Y k) * s := by
    rw [Finset.sum_mul]; exact Finset.sum_congr rfl fun k _ => by ring
  rw [h1, h2, h3]
  ring

/-- A sum that is a real number has real terms only. -/
theorem real_of_sum {ι : Type} (s : Finset ι) (f : ι → EReal) (r : ℝ) (h : ∑ k ∈ s, f k = r) : ∀ k ∈ s, ∃ r : ℝ, f k = r := by
  classical
  induction s using Finset.induction_on generalizing r with
  | empty => intro k hk; simp at hk
  | insert a s ha ih =>
    rw [Finset.sum_insert ha] at h
    have h1 : f a ≠ ⊤ ∧ f a ≠ ⊥ ∧ ∑ k ∈ s, f k ≠ ⊤ ∧ ∑ k ∈ s, f k ≠ ⊥ := by
      generalize f a = x at h
      generalize ∑ k ∈ s, f k = y at h
      induction x <;> induction y <;> simp_all
    intro k hk
    rcases Finset.mem_insert.mp hk with rfl | hk
    · exact ⟨_, (EReal.coe_toReal h1.1 h1.2.1).symm⟩
    · exact ih _ (EReal.coe_toReal h1.2.2.1 h1.2.2.2).symm k hk

/-- The mean of a row with an infinite element is infinite. -/
theorem mean_infinite (x : Fin 1024 → EReal) (k : Fin 1024) (hk : ¬ ∃ r : ℝ, x k = r) : mean x = ⊤ ∨ mean x = ⊥ := by
  have hs : ¬ ∃ r : ℝ, ∑ k, x k = r := fun ⟨r, h⟩ => hk (real_of_sum _ _ r h k (Finset.mem_univ k))
  unfold mean
  rw [word_1024, Ideal.div_coe (by norm_num)]
  generalize ∑ k, x k = S at hs ⊢
  induction S with
  | bot => right; exact EReal.bot_mul_coe_of_pos (by norm_num)
  | top => left; exact EReal.top_mul_coe_of_pos (by norm_num)
  | coe r => exact absurd ⟨r, rfl⟩ hs

/-- The variance of a row with an infinite element is infinite. -/
theorem rvar_infinite (x : Fin 1024 → EReal) (k : Fin 1024) (hk : ¬ ∃ r : ℝ, x k = r) : rvar x = ⊤ := by
  have hd : (x k - mean x) * (x k - mean x) = ⊤ := by
    rcases mean_infinite x k hk with h | h <;> rw [h] <;> generalize x k = a <;> induction a <;> simp [EReal.sub_top]
  have hn : ∀ j ∈ Finset.univ, 0 ≤ (x j - mean x) * (x j - mean x) := fun j _ => by
    generalize x j - mean x = a
    induction a with
    | bot => simp
    | top => simp
    | coe r => rw [← EReal.coe_mul]; exact EReal.coe_nonneg.mpr (mul_self_nonneg r)
  have hs : ∑ k, (x k - mean x) * (x k - mean x) = ⊤ :=
    top_le_iff.mp (hd.symm.le.trans (Finset.single_le_sum hn (Finset.mem_univ k)))
  obtain ⟨e, _, he⟩ := word_eps
  unfold rvar
  show mean (fun k => (x k - mean x) * (x k - mean x)) + _ = ⊤
  unfold mean
  unfold mean at hs
  rw [hs, word_1024, Ideal.div_coe (by norm_num), EReal.top_mul_coe_of_pos (by norm_num), he, EReal.top_add_coe]

/-- Where a row has an infinite element both gradients are zero. -/
theorem bwdDiff_infinite (x y : Fin 1024 → EReal) (k : Fin 1024) (hk : ¬ ∃ r : ℝ, x k = r) (q : Fin 1024) : bwdDiff x y q = bwd x y q := by
  have hv := rvar_infinite x k hk
  have hs : istd x = 0 := by
    show Ideal.rsqrt (rvar x) = 0
    rw [hv]; rfl
  have hw : ∀ q, viaVar x y q = 0 := fun q => by
    unfold viaVar
    rw [hs, hv]
    simp [Ideal.div, word_1024]
  unfold bwdDiff bwd
  simp only [hw, hs]
  simp [Ideal.div, word_1024]

/-- Where the gradient by the normalised row is finite the two gradients agree. -/
theorem bwdDiff_agree (x y : Fin 1024 → EReal) (hy : ∀ k, ∃ r : ℝ, y k = r) (q : Fin 1024) : bwdDiff x y q = bwd x y q := by
  by_cases hx : ∀ k, ∃ r : ℝ, x k = r
  · exact bwdDiff_eq x y hx hy q
  · obtain ⟨k, hk⟩ := not_forall.mp hx
    exact bwdDiff_infinite x y k hk q

/-- A number strictly between the two infinities is real. -/
theorem finite_of (v : EReal) (h : IntOp.andi (BitVec.ofBool (decide (v < Ideal.ofBits .f32 0x7F800000#32))) (BitVec.ofBool (decide (Ideal.ofBits .f32 0xFF800000#32 < v))) = 1#1) :
    ∃ t : ℝ, v = t := by
  have h1 : Ideal.ofBits .f32 0x7F800000#32 = ⊤ := by simp [Ideal.ofBits, Ideal.ieee]
  have h2 : Ideal.ofBits .f32 0xFF800000#32 = ⊥ := by simp [Ideal.ofBits, Ideal.ieee]
  rw [h1, h2] at h
  induction v with
  | bot => simp [IntOp.andi] at h
  | top => simp [IntOp.andi] at h
  | coe t => exact ⟨t, rfl⟩

/-- A half of a sum of nonnegative terms. -/
theorem half_sum {ι : Type} [Fintype ι] (f : ι → EReal) (h : ∀ r, 0 ≤ f r) :
    Ideal.ofBits .f32 0x3F000000#32 * ∑ r, f r = ∑ r, Ideal.ofBits .f32 0x3F000000#32 * f r := by
  classical
  have key : ∀ s : Finset ι, Ideal.ofBits .f32 0x3F000000#32 * ∑ r ∈ s, f r = ∑ r ∈ s, Ideal.ofBits .f32 0x3F000000#32 * f r := by
    intro s
    induction s using Finset.induction_on with
    | empty => simp
    | insert a s ha ih =>
      rw [Finset.sum_insert ha, Finset.sum_insert ha, EReal.left_distrib_of_nonneg (h a) (Finset.sum_nonneg fun r _ => h r), ih]
  exact key Finset.univ

theorem square_nonneg (e : Fin 1024 → EReal) : 0 ≤ Ideal.div (∑ k, e k * e k) (Ideal.ofBits .f32 0x44800000#32) := by
  rw [word_1024, Ideal.div_coe (by norm_num)]
  refine mul_nonneg (Finset.sum_nonneg fun k _ => ?_) (EReal.coe_nonneg.mpr (by norm_num))
  generalize e k = a
  induction a with
  | bot => simp
  | top => simp
  | coe r => rw [← EReal.coe_mul]; exact EReal.coe_nonneg.mpr (mul_self_nonneg r)

end Rows

end
-- ==== Proof.Ff1Value.lean ====
/- The values of the call `ff1_bwd`: the gradient through the first product of the feed-forward layer and the first layer norm. -/
module

public import proofs.«01_k».proof.Proof.Base
public import proofs.«01_k».proof.Proof.Norm
public import proofs.«01_k».proof.Proof.Gen.Ff1Ideal.Value

@[expose] public section

noncomputable section

open Idealize.ShloMosaic Idealize.ShloMosaic.TcCoe Idealize.SL.Sem Idealize.ShloMosaic.StableHlo
open Idealize.ShloMosaic.Pipeline (Dat)

namespace Cert.Ff1Ideal.Body

open Cert.Ff1Ideal Cert.Ff1Ideal.Gen

theorem hz : (![0, 0] : Fin 2 → Nat) = fun _ => 0 := Rows.hz2

/-- The gradient by the normalised row, of the residual stream and of the product. -/
def dy (d : Fin 4096 → EReal) (e : Fin 1024 → EReal) (w : Fin 8 → Fin 1024 → Fin 512 → EReal) (q : Fin 1024) : EReal :=
  Rows.al * e q + ∑ k : Fin 512, d ⟨k.val, by omega⟩ * w 0 q k + ∑ k : Fin 512, d ⟨512 + k.val, by omega⟩ * w 1 q k + ∑ k : Fin 512, d ⟨1024 + k.val, by omega⟩ * w 2 q k + ∑ k : Fin 512, d ⟨1536 + k.val, by omega⟩ * w 3 q k + ∑ k : Fin 512, d ⟨2048 + k.val, by omega⟩ * w 4 q k + ∑ k : Fin 512, d ⟨2560 + k.val, by omega⟩ * w 5 q k + ∑ k : Fin 512, d ⟨3072 + k.val, by omega⟩ * w 6 q k + ∑ k : Fin 512, d ⟨3584 + k.val, by omega⟩ * w 7 q k

/-- The gradient by the sum before the normalisation. -/
def dpre (d : Fin 4096 → EReal) (e x : Fin 1024 → EReal) (w : Fin 8 → Fin 1024 → Fin 512 → EReal) (g : Fin 1 → Fin 1024 → EReal) (q : Fin 1024) : EReal := Rows.bwd x (fun k => dy d e w k * g 0 k) q

/-- A row's part of the gradient by the gain. -/
def dgain (d : Fin 4096 → EReal) (e x : Fin 1024 → EReal) (w : Fin 8 → Fin 1024 → Fin 512 → EReal) (g : Fin 1 → Fin 1024 → EReal) (q : Fin 1024) : EReal := dy d e w q * Rows.hat x q

/-- A row's part of the gradient by the bias. -/
def dbias (d : Fin 4096 → EReal) (e x : Fin 1024 → EReal) (w : Fin 8 → Fin 1024 → Fin 512 → EReal) (g : Fin 1 → Fin 1024 → EReal) (q : Fin 1024) : EReal := dy d e w q

section

variable (c : Dev nD) (i : grid0.Coords) (a1 : Memref sig .tc .vmem S512x4096 .bf16) (h1 : a1.IsWhole) (a2 : Memref sig .tc .vmem S512x1024 .f32) (h2 : a2.IsWhole) (a3 : Memref sig .tc .vmem S512x1024 .f32) (h3 : a3.IsWhole) (a4 : Memref sig .tc .vmem S8x1024x512 .bf16) (h4 : a4.IsWhole) (a5 : Memref sig .tc .vmem S1x1024 .f32) (h5 : a5.IsWhole) (a6 : Memref sig .tc .vmem S8x128 .f32) (h6 : a6.IsWhole) (a7 : Memref sig .tc .vmem S512x1024 .f32) (h7 : a7.IsWhole) (a8 : Memref sig .tc .vmem S1x1024 .f32) (h8 : a8.IsWhole) (a9 : Memref sig .tc .vmem S1x1024 .f32) (h9 : a9.IsWhole) (a10 : Memref sig .tc .vmem S1x1024 .f32) (h10 : a10.IsWhole)

section

variable (hc0 : cond0_0 i) (hc1 : ¬cond0_1 i) (x0 : Vec Ideal S512x4096 .bf16) (x1 : Vec Ideal S512x1024 .f32) (x2 : Vec Ideal S512x1024 .f32) (x3 : Vec Ideal S8x1024x512 .bf16) (x4 : Vec Ideal S1x1024 .f32) (x5 : Vec Ideal S8x128 .f32)

theorem out6_A (r : Fin 512) (q : Fin 1024) :
    out0_A_6 c i a1 h1 a2 h2 a3 h3 a4 h4 a5 h5 a6 h6 a7 h7 a8 h8 a9 h9 a10 h10 hc0 hc1 x0 x1 x2 x3 x4 x5 (ix2 r q) = dpre (fun k => x0 (ix2 r k)) (fun k => x1 (ix2 r k)) (fun k => x2 (ix2 r k)) (fun a b d => x3 (ix3 a b d)) (fun a b => x4 (ix2 a b)) q := by
  unfold out0_A_6
  rw [View.read_writes_eq_canon _ _ _ (cover0_A_6 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, View.ld_unit_zero (S := S512x4096) hz, View.ld_unit_zero (S := S512x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, k0_pay16, Rows.bwd, Rows.hat, Rows.istd, Rows.mean, dy, dpre]

theorem out7_A (q : Fin 1024) :
    out0_A_7 c i a1 h1 a2 h2 a3 h3 a4 h4 a5 h5 a6 h6 a7 h7 a8 h8 a9 h9 a10 h10 hc0 hc1 x0 x1 x2 x3 x4 x5 (ix2 0 q) = ∑ r : Fin 512, dgain (fun k => x0 (ix2 r k)) (fun k => x1 (ix2 r k)) (fun k => x2 (ix2 r k)) (fun a b d => x3 (ix3 a b d)) (fun a b => x4 (ix2 a b)) q := by
  unfold out0_A_7
  rw [View.read_writes_eq_canon _ _ _ (cover0_A_7 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, View.ld_unit_zero (S := S512x4096) hz, View.ld_unit_zero (S := S512x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, k0_pay16, Rows.bwd, Rows.hat, Rows.istd, Rows.mean, dy, dgain]

theorem out8_A (q : Fin 1024) :
    out0_A_8 c i a1 h1 a2 h2 a3 h3 a4 h4 a5 h5 a6 h6 a7 h7 a8 h8 a9 h9 a10 h10 hc0 hc1 x0 x1 x2 x3 x4 x5 (ix2 0 q) = ∑ r : Fin 512, dbias (fun k => x0 (ix2 r k)) (fun k => x1 (ix2 r k)) (fun k => x2 (ix2 r k)) (fun a b d => x3 (ix3 a b d)) (fun a b => x4 (ix2 a b)) q := by
  unfold out0_A_8
  rw [View.read_writes_eq_canon _ _ _ (cover0_A_8 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, View.ld_unit_zero (S := S512x4096) hz, View.ld_unit_zero (S := S512x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, k0_pay16, Rows.bwd, Rows.hat, Rows.istd, Rows.mean, dy, dbias]

theorem out9_A (q : Fin 1024) :
    out0_A_9 c i a1 h1 a2 h2 a3 h3 a4 h4 a5 h5 a6 h6 a7 h7 a8 h8 a9 h9 a10 h10 hc0 hc1 x0 x1 x2 x3 x4 x5 (ix2 0 q) = ∑ r : Fin 512, dpre (fun k => x0 (ix2 r k)) (fun k => x1 (ix2 r k)) (fun k => x2 (ix2 r k)) (fun a b d => x3 (ix3 a b d)) (fun a b => x4 (ix2 a b)) q := by
  unfold out0_A_9
  rw [View.read_writes_eq_canon _ _ _ (cover0_A_9 c i a1 h1 a2 h2 a3 h3 a4 h4 a5 h5 a6 h6 a7 h7 a8 h8 a9 h9 a10 h10 hc0 hc1 x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, View.ld_unit_zero (S := S512x4096) hz, View.ld_unit_zero (S := S512x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, k0_pay16, Rows.bwd, Rows.hat, Rows.istd, Rows.mean, dy, dpre]

end

section

variable (hc0 : ¬cond0_0 i) (hc1 : cond0_1 i) (x0 : Vec Ideal S512x4096 .bf16) (x1 : Vec Ideal S512x1024 .f32) (x2 : Vec Ideal S512x1024 .f32) (x3 : Vec Ideal S8x1024x512 .bf16) (x4 : Vec Ideal S1x1024 .f32) (x5 : Vec Ideal S8x128 .f32) (y7 : Vec Ideal S1x1024 .f32) (y8 : Vec Ideal S1x1024 .f32) (y9 : Vec Ideal S1x1024 .f32)

theorem out6_B (r : Fin 512) (q : Fin 1024) :
    out0_B_6 c i a1 h1 a2 h2 a3 h3 a4 h4 a5 h5 a6 h6 a7 h7 a8 h8 a9 h9 a10 h10 hc0 hc1 x0 x1 x2 x3 x4 x5 y7 y8 y9 (ix2 r q) = dpre (fun k => x0 (ix2 r k)) (fun k => x1 (ix2 r k)) (fun k => x2 (ix2 r k)) (fun a b d => x3 (ix3 a b d)) (fun a b => x4 (ix2 a b)) q := by
  unfold out0_B_6
  rw [View.read_writes_eq_canon _ _ _ (cover0_B_6 c i a1 h1 a2 h2 a3 h3 a4 h4 a5 h5 a6 h6 a7 h7 a8 h8 a9 h9 a10 h10 hc0 hc1 x0 x1 x2 x3 x4 x5 y7 y8 y9)]
  unfold kernelRun0_B
  dsimp only
  sl_unfold_words
  rw [View.canon_unit_zero hz]
  simp only [View.readAt_eq_ld, h1.read_unread, h2.read_unread, h3.read_unread, h4.read_unread, h5.read_unread, h8.read_unread, h9.read_unread, h10.read_unread, View.ld_unit_zero (S := S512x4096) hz, View.ld_unit_zero (S := S512x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, k0_pay16, Rows.bwd, Rows.hat, Rows.istd, Rows.mean, dy, dpre]

theorem out7_B (q : Fin 1024) :
    out0_B_7 c i a1 h1 a2 h2 a3 h3 a4 h4 a5 h5 a6 h6 a7 h7 a8 h8 a9 h9 a10 h10 hc0 hc1 x0 x1 x2 x3 x4 x5 y7 y8 y9 (ix2 0 q) = y7 (ix2 0 q) + ∑ r : Fin 512, dgain (fun k => x0 (ix2 r k)) (fun k => x1 (ix2 r k)) (fun k => x2 (ix2 r k)) (fun a b d => x3 (ix3 a b d)) (fun a b => x4 (ix2 a b)) q := by
  unfold out0_B_7
  rw [View.read_writes_eq_canon _ _ _ (cover0_B_7 c i a1 h1 a2 h2 a3 h3 a4 h4 a5 h5 a6 h6 a7 h7 a8 h8 a9 h9 a10 h10 hc0 hc1 x0 x1 x2 x3 x4 x5 y7 y8 y9)]
  unfold kernelRun0_B
  dsimp only
  sl_unfold_words
  rw [View.canon_unit_zero hz]
  simp only [View.readAt_eq_ld, h1.read_unread, h2.read_unread, h3.read_unread, h4.read_unread, h5.read_unread, h8.read_unread, h9.read_unread, h10.read_unread, View.ld_unit_zero (S := S512x4096) hz, View.ld_unit_zero (S := S512x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, k0_pay16, Rows.bwd, Rows.hat, Rows.istd, Rows.mean, dy, dgain]

theorem out8_B (q : Fin 1024) :
    out0_B_8 c i a1 h1 a2 h2 a3 h3 a4 h4 a5 h5 a6 h6 a7 h7 a8 h8 a9 h9 a10 h10 hc0 hc1 x0 x1 x2 x3 x4 x5 y7 y8 y9 (ix2 0 q) = y8 (ix2 0 q) + ∑ r : Fin 512, dbias (fun k => x0 (ix2 r k)) (fun k => x1 (ix2 r k)) (fun k => x2 (ix2 r k)) (fun a b d => x3 (ix3 a b d)) (fun a b => x4 (ix2 a b)) q := by
  unfold out0_B_8
  rw [View.read_writes_eq_canon _ _ _ (cover0_B_8 c i a1 h1 a2 h2 a3 h3 a4 h4 a5 h5 a6 h6 a7 h7 a8 h8 a9 h9 a10 h10 hc0 hc1 x0 x1 x2 x3 x4 x5 y7 y8 y9)]
  unfold kernelRun0_B
  dsimp only
  sl_unfold_words
  rw [View.canon_unit_zero hz]
  simp only [View.readAt_eq_ld, h1.read_unread, h2.read_unread, h3.read_unread, h4.read_unread, h5.read_unread, h8.read_unread, h9.read_unread, h10.read_unread, View.ld_unit_zero (S := S512x4096) hz, View.ld_unit_zero (S := S512x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, k0_pay16, Rows.bwd, Rows.hat, Rows.istd, Rows.mean, dy, dbias]

theorem out9_B (q : Fin 1024) :
    out0_B_9 c i a1 h1 a2 h2 a3 h3 a4 h4 a5 h5 a6 h6 a7 h7 a8 h8 a9 h9 a10 h10 hc0 hc1 x0 x1 x2 x3 x4 x5 y7 y8 y9 (ix2 0 q) = y9 (ix2 0 q) + ∑ r : Fin 512, dpre (fun k => x0 (ix2 r k)) (fun k => x1 (ix2 r k)) (fun k => x2 (ix2 r k)) (fun a b d => x3 (ix3 a b d)) (fun a b => x4 (ix2 a b)) q := by
  unfold out0_B_9
  rw [View.read_writes_eq_canon _ _ _ (cover0_B_9 c i a1 h1 a2 h2 a3 h3 a4 h4 a5 h5 a6 h6 a7 h7 a8 h8 a9 h9 a10 h10 hc0 hc1 x0 x1 x2 x3 x4 x5 y7 y8 y9)]
  unfold kernelRun0_B
  dsimp only
  sl_unfold_words
  rw [View.canon_unit_zero hz]
  simp only [View.readAt_eq_ld, h1.read_unread, h2.read_unread, h3.read_unread, h4.read_unread, h5.read_unread, h8.read_unread, h9.read_unread, h10.read_unread, View.ld_unit_zero (S := S512x4096) hz, View.ld_unit_zero (S := S512x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, k0_pay16, Rows.bwd, Rows.hat, Rows.istd, Rows.mean, dy, dpre]

end

end

variable (m : (ℓ : Loc nD τ sig) → Buf (Elt Ideal) ℓ)

/-- Array `0` the call is given. -/
abbrev A0 (c : Dev nD) : S8192x4096.Idx → EReal := V m c main_arg6

/-- Array `1` the call is given. -/
abbrev A1 (c : Dev nD) : S8192x1024.Idx → EReal := V m c main_arg5

/-- Array `2` the call is given. -/
abbrev A2 (c : Dev nD) : S8192x1024.Idx → EReal := V m c main_v6

/-- Array `3` the call is given. -/
abbrev A3 (c : Dev nD) : S8x1024x512.Idx → EReal := V m c main_v2

/-- Array `4` the call is given. -/
abbrev A4 (c : Dev nD) : S1x1024.Idx → EReal := V m c main_v7

theorem blk0 (c : Dev nD) (t : Fin cfg0.N) (r : Fin 512) (k : Fin 4096) :
    (iblk m c 0 t : S512x4096.Idx → EReal) (ix2 r k) = A0 m c (ix2 (Rows.row (T := 8192) rfl t r) k) := by
  unfold iblk; rw [View.read_apply]
  show (V m c main_arg6 : S8192x4096.Idx → EReal) _ = _
  refine congrArg (A0 m c) (funext fun a => Fin.ext ?_)
  match a with
  | ⟨0, _⟩ => show win0_0.index t 0 * 512 + 1 * r.val = 512 * t.val + r.val
              rw [(by decide +kernel : ∀ t : Fin grid0.N, win0_0.index t 0 = t.val) t]; omega
  | ⟨1, _⟩ => show win0_0.index t 1 * 4096 + 1 * k.val = k.val
              rw [(by decide +kernel : ∀ t : Fin grid0.N, win0_0.index t 1 = 0) t]; omega

theorem blk1 (c : Dev nD) (t : Fin cfg0.N) (r : Fin 512) (k : Fin 1024) :
    (iblk m c 1 t : S512x1024.Idx → EReal) (ix2 r k) = A1 m c (ix2 (Rows.row (T := 8192) rfl t r) k) := by
  unfold iblk; rw [View.read_apply]
  show (V m c main_arg5 : S8192x1024.Idx → EReal) _ = _
  refine congrArg (A1 m c) (funext fun a => Fin.ext ?_)
  match a with
  | ⟨0, _⟩ => show win0_1.index t 0 * 512 + 1 * r.val = 512 * t.val + r.val
              rw [(by decide +kernel : ∀ t : Fin grid0.N, win0_1.index t 0 = t.val) t]; omega
  | ⟨1, _⟩ => show win0_1.index t 1 * 1024 + 1 * k.val = k.val
              rw [(by decide +kernel : ∀ t : Fin grid0.N, win0_1.index t 1 = 0) t]; omega

theorem blk2 (c : Dev nD) (t : Fin cfg0.N) (r : Fin 512) (k : Fin 1024) :
    (iblk m c 2 t : S512x1024.Idx → EReal) (ix2 r k) = A2 m c (ix2 (Rows.row (T := 8192) rfl t r) k) := by
  unfold iblk; rw [View.read_apply]
  show (V m c main_v6 : S8192x1024.Idx → EReal) _ = _
  refine congrArg (A2 m c) (funext fun a => Fin.ext ?_)
  match a with
  | ⟨0, _⟩ => show win0_2.index t 0 * 512 + 1 * r.val = 512 * t.val + r.val
              rw [(by decide +kernel : ∀ t : Fin grid0.N, win0_2.index t 0 = t.val) t]; omega
  | ⟨1, _⟩ => show win0_2.index t 1 * 1024 + 1 * k.val = k.val
              rw [(by decide +kernel : ∀ t : Fin grid0.N, win0_2.index t 1 = 0) t]; omega

theorem blk3 (c : Dev nD) (t : Fin cfg0.N) (j : Fin 8) (r : Fin 1024) (k : Fin 512) :
    (iblk m c 3 t : S8x1024x512.Idx → EReal) (ix3 j r k) = A3 m c (ix3 j r k) := by
  unfold iblk; rw [View.read_apply]
  show (V m c main_v2 : S8x1024x512.Idx → EReal) _ = _
  refine congrArg (A3 m c) (funext fun a => Fin.ext ?_)
  match a with
  | ⟨0, _⟩ => show win0_3.index t 0 * 8 + 1 * j.val = j.val
              rw [(by decide +kernel : ∀ t : Fin grid0.N, win0_3.index t 0 = 0) t]; omega
  | ⟨1, _⟩ => show win0_3.index t 1 * 1024 + 1 * r.val = r.val
              rw [(by decide +kernel : ∀ t : Fin grid0.N, win0_3.index t 1 = 0) t]; omega
  | ⟨2, _⟩ => show win0_3.index t 2 * 512 + 1 * k.val = k.val
              rw [(by decide +kernel : ∀ t : Fin grid0.N, win0_3.index t 2 = 0) t]; omega

theorem blk4 (c : Dev nD) (t : Fin cfg0.N) (r : Fin 1) (k : Fin 1024) :
    (iblk m c 4 t : S1x1024.Idx → EReal) (ix2 r k) = A4 m c (ix2 r k) := by
  unfold iblk; rw [View.read_apply]
  show (V m c main_v7 : S1x1024.Idx → EReal) _ = _
  refine congrArg (A4 m c) (funext fun a => Fin.ext ?_)
  match a with
  | ⟨0, _⟩ => show win0_4.index t 0 * 1 + 1 * r.val = r.val
              rw [(by decide +kernel : ∀ t : Fin grid0.N, win0_4.index t 0 = 0) t]; omega
  | ⟨1, _⟩ => show win0_4.index t 1 * 1024 + 1 * k.val = k.val
              rw [(by decide +kernel : ∀ t : Fin grid0.N, win0_4.index t 1 = 0) t]; omega

/-- Element `(R, q)` of result `6`. -/
@[irreducible] def res6 (c : Dev nD) (R : Fin 8192) (q : Fin 1024) : EReal :=
  dpre (fun k => A0 m c (ix2 R k)) (fun k => A1 m c (ix2 R k)) (fun k => A2 m c (ix2 R k)) (fun a b d => A3 m c (ix3 a b d)) (fun a b => A4 m c (ix2 a b)) q

theorem row6 (c : Dev nD) (t : Fin cfg0.N) (r : Fin 512) (q : Fin 1024) :
    ((outsAt0 m c t.val t.isLt).1 : S512x1024.Idx → EReal) (ix2 r q) = res6 m c (Rows.row (T := 8192) rfl t r) q := by
  have ht : t.val < 16 := lt_of_lt_of_eq t.isLt (show cfg0.N = 16 from N_0)
  unfold res6
  by_cases h0 : t.val = 0
  · refine (congrFun (congrArg (fun o => o.1) (outsAt0_A m c t (by omega) (by omega))) (ix2 r q)).trans ?_
    dsimp only
    refine (out6_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr (by omega)) (fun h => absurd ((hcond0_1 t).mp h) (by omega)) (iblk m c 0 t) (iblk m c 1 t) (iblk m c 2 t) (iblk m c 3 t) (iblk m c 4 t) (iblk m c 5 t) r q).trans ?_
    simp only [blk0 m c t, blk1 m c t, blk2 m c t, blk3 m c t, blk4 m c t]
  · refine (congrFun (congrArg (fun o => o.1) (outsAt0_B m c t (by omega) (by omega))) (ix2 r q)).trans ?_
    dsimp only
    refine (out6_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => absurd ((hcond0_0 t).mp h) (by omega)) ((hcond0_1 t).mpr (by omega)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r q).trans ?_
    simp only [blk0 m c t, blk1 m c t, blk2 m c t, blk3 m c t, blk4 m c t]

/-- Result `6`. -/
def G6 (c : Dev nD) : Vec Ideal S8192x1024 .f32 := fun i => res6 m c (i 0) (i 1)

theorem final6 (c : Dev nD) : (dats m 0 c).arrAt 6 cfg0.N = G6 m c := by
    refine (dats m 0 c).arrAt_eq_of_cover 6 (G6 m c) (fun t hf => ?_) (fun i => ?_)
    · refine (Value.flushed6 m c t).trans ?_
      have hrow := row6 m c t
      generalize (outsAt0 m c t.val t.isLt).1 = y at hrow ⊢
      funext j
      have hx0 : win0_6.xsize (grid0.coords t) 0 = 512 := (by decide +kernel : ∀ t : Fin grid0.N, win0_6.xsize (grid0.coords t) 0 = 512) t
      have hx1 : win0_6.xsize (grid0.coords t) 1 = 1024 := (by decide +kernel : ∀ t : Fin grid0.N, win0_6.xsize (grid0.coords t) 1 = 1024) t
      have hj0 : (j 0 : Nat) < 512 := lt_of_lt_of_eq (j 0).isLt hx0
      have hj1 : (j 1 : Nat) < 1024 := lt_of_lt_of_eq (j 1).isLt hx1
      rw [View.read_apply]
      refine Eq.trans (congrArg y (funext fun a => Fin.ext ?_)) ((hrow ⟨j 0, hj0⟩ ⟨j 1, hj1⟩).trans ?_)
      · match a with
        | ⟨0, _⟩ => rfl
        | ⟨1, _⟩ => rfl
      · show res6 m c _ _ = res6 m c _ _
        congr 1
        · refine Fin.ext ?_
          show 512 * t.val + (j 0 : Nat) = win0_6.index t 0 * 512 + 1 * (j 0 : Nat)
          rw [(by decide +kernel : ∀ t : Fin grid0.N, win0_6.index t 0 = t.val) t]; omega
        · refine Fin.ext ?_
          show (j 1 : Nat) = win0_6.index t 1 * 1024 + 1 * (j 1 : Nat)
          rw [(by decide +kernel : ∀ t : Fin grid0.N, win0_6.index t 1 = 0) t]; omega
    · obtain ⟨t, r, h⟩ := Rows.exists_row (N := 16) (B := 512) (T := 8192) rfl (by decide) (i 0)
      refine ⟨t, flush0_6 t, ?_⟩
      show i ∈ ((View.whole main_v8_0).slice (win0_6.rect t)).set
      rw [View.set_slice_whole, Rect.mem_set_unit]
      intro a
      have h1 : (i 1 : Nat) < 1024 := (i 1).isLt
      have h0 : (i 0 : Nat) = 512 * t.val + r.val := congrArg Fin.val h
      have hr := r.isLt
      match a with
      | ⟨0, _⟩ => show win0_6.index t 0 * 512 ≤ (i 0 : Nat) ∧ (i 0 : Nat) < win0_6.index t 0 * 512 + win0_6.xsize (grid0.coords t) 0
                  rw [(by decide +kernel : ∀ t : Fin grid0.N, win0_6.index t 0 = t.val) t, (by decide +kernel : ∀ t : Fin grid0.N, win0_6.xsize (grid0.coords t) 0 = 512) t]; omega
      | ⟨1, _⟩ => show win0_6.index t 1 * 1024 ≤ (i 1 : Nat) ∧ (i 1 : Nat) < win0_6.index t 1 * 1024 + win0_6.xsize (grid0.coords t) 1
                  rw [(by decide +kernel : ∀ t : Fin grid0.N, win0_6.index t 1 = 0) t, (by decide +kernel : ∀ t : Fin grid0.N, win0_6.xsize (grid0.coords t) 1 = 1024) t]; omega

/-- Element `(R, q)` of the summands of result `7`. -/
@[irreducible] def term7 (c : Dev nD) (R : Fin 8192) (q : Fin 1024) : EReal :=
  dgain (fun k => A0 m c (ix2 R k)) (fun k => A1 m c (ix2 R k)) (fun k => A2 m c (ix2 R k)) (fun a b d => A3 m c (ix3 a b d)) (fun a b => A4 m c (ix2 a b)) q

/-- Its sum over the rows. -/
def acc7 (c : Dev nD) (q : Fin 1024) : EReal := ∑ R : Fin 8192, term7 m c R q

theorem stepA7 (c : Dev nD) (t : Fin cfg0.N) (h0 : t.val % 16 = 0) (h1 : ¬1 ≤ t.val) (q : Fin 1024) :
    ((outsAt0 m c t.val t.isLt).2.1 : S1x1024.Idx → EReal) (ix2 0 q) = ∑ r : Fin 512, term7 m c (Rows.row (N := 16) (T := 8192) rfl t r) q := by
  refine (congrFun (congrArg (fun o => o.2.1) (outsAt0_A m c t h0 h1)) (ix2 0 q)).trans ?_
  dsimp only
  refine (out7_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => absurd ((hcond0_1 t).mp h) h1) (iblk m c 0 t) (iblk m c 1 t) (iblk m c 2 t) (iblk m c 3 t) (iblk m c 4 t) (iblk m c 5 t) q).trans ?_
  unfold term7
  simp only [blk0 m c t, blk1 m c t, blk2 m c t, blk3 m c t, blk4 m c t]

theorem stepB7 (c : Dev nD) (t : Fin cfg0.N) (h0 : ¬t.val % 16 = 0) (h1 : 1 ≤ t.val) (q : Fin 1024) :
    ((outsAt0 m c t.val t.isLt).2.1 : S1x1024.Idx → EReal) (ix2 0 q)
      = ((outsAt0 m c (t.val - 1) (Nat.lt_of_le_of_lt (Nat.sub_le _ _) t.isLt)).2.1 : S1x1024.Idx → EReal) (ix2 0 q)
        + ∑ r : Fin 512, term7 m c (Rows.row (N := 16) (T := 8192) rfl t r) q := by
  refine (congrFun (congrArg (fun o => o.2.1) (outsAt0_B m c t h0 h1)) (ix2 0 q)).trans ?_
  dsimp only
  refine (out7_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => absurd ((hcond0_0 t).mp h) h0) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 q).trans ?_
  unfold term7
  simp only [blk0 m c t, blk1 m c t, blk2 m c t, blk3 m c t, blk4 m c t]

theorem first7 (c : Dev nD) (h : 0 < cfg0.N) (q : Fin 1024) : ((outsAt0 m c 0 h).2.1 : S1x1024.Idx → EReal) (ix2 0 q) = ∑ r : Fin 512, term7 m c (Rows.row (N := 16) (T := 8192) rfl ⟨0, h⟩ r) q :=
  stepA7 m c ⟨0, h⟩ rfl (by dsimp only; omega) q

theorem next7 (c : Dev nD) (n : ℕ) (h : n + 1 < cfg0.N) (q : Fin 1024) :
    ((outsAt0 m c (n + 1) h).2.1 : S1x1024.Idx → EReal) (ix2 0 q) = ((outsAt0 m c n (Nat.lt_of_succ_lt h)).2.1 : S1x1024.Idx → EReal) (ix2 0 q)
      + ∑ r : Fin 512, term7 m c (Rows.row (N := 16) (T := 8192) rfl ⟨n + 1, h⟩ r) q := by
  have hN : cfg0.N = 16 := N_0
  exact stepB7 m c ⟨n + 1, h⟩ (by dsimp only; omega) (by dsimp only; omega) q

/-- Result `7`. -/
def G7 (c : Dev nD) : Vec Ideal S1x1024 .f32 := fun i => acc7 m c (i 1)

theorem G7_apply (c : Dev nD) (p : Fin 1) (q : Fin 1024) : G7 m c (ix2 p q) = acc7 m c q := rfl

theorem last7 (c : Dev nD) (h : 15 < cfg0.N) (q : Fin 1024) : ((outsAt0 m c 15 h).2.1 : S1x1024.Idx → EReal) (ix2 0 q) = G7 m c (ix2 0 q) := by
  refine Eq.trans ?_ (G7_apply m c 0 q).symm
  unfold acc7
  rw [← Rows.sum_rows (N := 16) (B := 512) rfl]
  exact Rows.chain_last (fun t : Fin 16 => ∑ r : Fin 512, term7 m c (Rows.row rfl t r) q) (fun n h => ((outsAt0 m c n h).2.1 : S1x1024.Idx → EReal) (ix2 0 q))
    (fun h => first7 m c h q) (fun n h => next7 m c n h q) 15 h rfl

theorem final7 (c : Dev nD) : (dats m 0 c).arrAt 7 cfg0.N = G7 m c := by
  refine (dats m 0 c).arrAt_eq_of_cover 7 (G7 m c) (fun t hf => ?_) (fun i => ?_)
  · refine (Value.flushed7 m c t).trans ?_
    have h15 : t.val = 15 := by have := (flush0_7 t).mp hf; have := t.isLt; have : cfg0.N = 16 := N_0; omega
    obtain ⟨n, hn⟩ := t
    obtain rfl : n = 15 := h15
    have hch := last7 m c hn
    dsimp only
    generalize (outsAt0 m c 15 hn).2.1 = y at hch ⊢
    generalize G7 m c = G at hch ⊢
    funext j
    have hx0 : win0_7.xsize (grid0.coords ⟨15, hn⟩) 0 = 1 := (by decide +kernel : ∀ t : Fin grid0.N, win0_7.xsize (grid0.coords t) 0 = 1) _
    have hx1 : win0_7.xsize (grid0.coords ⟨15, hn⟩) 1 = 1024 := (by decide +kernel : ∀ t : Fin grid0.N, win0_7.xsize (grid0.coords t) 1 = 1024) _
    have hj0 : (j 0 : Nat) < 1 := lt_of_lt_of_eq (j 0).isLt hx0
    have hj1 : (j 1 : Nat) < 1024 := lt_of_lt_of_eq (j 1).isLt hx1
    rw [View.read_apply]
    refine Eq.trans (congrArg y (funext fun a => Fin.ext ?_)) ((hch ⟨j 1, hj1⟩).trans (congrArg G (funext fun a => Fin.ext ?_)))
    · match a with
      | ⟨0, _⟩ => exact Nat.lt_one_iff.mp hj0
      | ⟨1, _⟩ => rfl
    · match a with
      | ⟨0, _⟩ =>
        show 0 = win0_7.index _ 0 * 1 + 1 * (j 0 : Nat)
        rw [(by decide +kernel : ∀ t : Fin grid0.N, win0_7.index t 0 = 0) _]; omega
      | ⟨1, _⟩ =>
        show (j 1 : Nat) = win0_7.index _ 1 * 1024 + 1 * (j 1 : Nat)
        rw [(by decide +kernel : ∀ t : Fin grid0.N, win0_7.index t 1 = 0) _]; omega
  · have hn : 15 < cfg0.N := by rw [show cfg0.N = 16 from N_0]; decide
    refine ⟨⟨15, hn⟩, (flush0_7 _).mpr rfl, ?_⟩
    show i ∈ ((View.whole main_v8_1).slice (win0_7.rect ⟨15, hn⟩)).set
    rw [View.set_slice_whole, Rect.mem_set_unit]
    intro a
    have h0 : (i 0 : Nat) < 1 := (i 0).isLt
    have h1 : (i 1 : Nat) < 1024 := (i 1).isLt
    match a with
    | ⟨0, _⟩ => show win0_7.index ⟨15, hn⟩ 0 * 1 ≤ (i 0 : Nat) ∧ (i 0 : Nat) < win0_7.index ⟨15, hn⟩ 0 * 1 + win0_7.xsize (grid0.coords ⟨15, hn⟩) 0
                rw [(by decide +kernel : ∀ t : Fin grid0.N, win0_7.index t 0 = 0) _, (by decide +kernel : ∀ t : Fin grid0.N, win0_7.xsize (grid0.coords t) 0 = 1) _]; omega
    | ⟨1, _⟩ => show win0_7.index ⟨15, hn⟩ 1 * 1024 ≤ (i 1 : Nat) ∧ (i 1 : Nat) < win0_7.index ⟨15, hn⟩ 1 * 1024 + win0_7.xsize (grid0.coords ⟨15, hn⟩) 1
                rw [(by decide +kernel : ∀ t : Fin grid0.N, win0_7.index t 1 = 0) _, (by decide +kernel : ∀ t : Fin grid0.N, win0_7.xsize (grid0.coords t) 1 = 1024) _]; omega

/-- Element `(R, q)` of the summands of result `8`. -/
@[irreducible] def term8 (c : Dev nD) (R : Fin 8192) (q : Fin 1024) : EReal :=
  dbias (fun k => A0 m c (ix2 R k)) (fun k => A1 m c (ix2 R k)) (fun k => A2 m c (ix2 R k)) (fun a b d => A3 m c (ix3 a b d)) (fun a b => A4 m c (ix2 a b)) q

/-- Its sum over the rows. -/
def acc8 (c : Dev nD) (q : Fin 1024) : EReal := ∑ R : Fin 8192, term8 m c R q

theorem stepA8 (c : Dev nD) (t : Fin cfg0.N) (h0 : t.val % 16 = 0) (h1 : ¬1 ≤ t.val) (q : Fin 1024) :
    ((outsAt0 m c t.val t.isLt).2.2.1 : S1x1024.Idx → EReal) (ix2 0 q) = ∑ r : Fin 512, term8 m c (Rows.row (N := 16) (T := 8192) rfl t r) q := by
  refine (congrFun (congrArg (fun o => o.2.2.1) (outsAt0_A m c t h0 h1)) (ix2 0 q)).trans ?_
  dsimp only
  refine (out8_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => absurd ((hcond0_1 t).mp h) h1) (iblk m c 0 t) (iblk m c 1 t) (iblk m c 2 t) (iblk m c 3 t) (iblk m c 4 t) (iblk m c 5 t) q).trans ?_
  unfold term8
  simp only [blk0 m c t, blk1 m c t, blk2 m c t, blk3 m c t, blk4 m c t]

theorem stepB8 (c : Dev nD) (t : Fin cfg0.N) (h0 : ¬t.val % 16 = 0) (h1 : 1 ≤ t.val) (q : Fin 1024) :
    ((outsAt0 m c t.val t.isLt).2.2.1 : S1x1024.Idx → EReal) (ix2 0 q)
      = ((outsAt0 m c (t.val - 1) (Nat.lt_of_le_of_lt (Nat.sub_le _ _) t.isLt)).2.2.1 : S1x1024.Idx → EReal) (ix2 0 q)
        + ∑ r : Fin 512, term8 m c (Rows.row (N := 16) (T := 8192) rfl t r) q := by
  refine (congrFun (congrArg (fun o => o.2.2.1) (outsAt0_B m c t h0 h1)) (ix2 0 q)).trans ?_
  dsimp only
  refine (out8_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => absurd ((hcond0_0 t).mp h) h0) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 q).trans ?_
  unfold term8
  simp only [blk0 m c t, blk1 m c t, blk2 m c t, blk3 m c t, blk4 m c t]

theorem first8 (c : Dev nD) (h : 0 < cfg0.N) (q : Fin 1024) : ((outsAt0 m c 0 h).2.2.1 : S1x1024.Idx → EReal) (ix2 0 q) = ∑ r : Fin 512, term8 m c (Rows.row (N := 16) (T := 8192) rfl ⟨0, h⟩ r) q :=
  stepA8 m c ⟨0, h⟩ rfl (by dsimp only; omega) q

theorem next8 (c : Dev nD) (n : ℕ) (h : n + 1 < cfg0.N) (q : Fin 1024) :
    ((outsAt0 m c (n + 1) h).2.2.1 : S1x1024.Idx → EReal) (ix2 0 q) = ((outsAt0 m c n (Nat.lt_of_succ_lt h)).2.2.1 : S1x1024.Idx → EReal) (ix2 0 q)
      + ∑ r : Fin 512, term8 m c (Rows.row (N := 16) (T := 8192) rfl ⟨n + 1, h⟩ r) q := by
  have hN : cfg0.N = 16 := N_0
  exact stepB8 m c ⟨n + 1, h⟩ (by dsimp only; omega) (by dsimp only; omega) q

/-- Result `8`. -/
def G8 (c : Dev nD) : Vec Ideal S1x1024 .f32 := fun i => acc8 m c (i 1)

theorem G8_apply (c : Dev nD) (p : Fin 1) (q : Fin 1024) : G8 m c (ix2 p q) = acc8 m c q := rfl

theorem last8 (c : Dev nD) (h : 15 < cfg0.N) (q : Fin 1024) : ((outsAt0 m c 15 h).2.2.1 : S1x1024.Idx → EReal) (ix2 0 q) = G8 m c (ix2 0 q) := by
  refine Eq.trans ?_ (G8_apply m c 0 q).symm
  unfold acc8
  rw [← Rows.sum_rows (N := 16) (B := 512) rfl]
  exact Rows.chain_last (fun t : Fin 16 => ∑ r : Fin 512, term8 m c (Rows.row rfl t r) q) (fun n h => ((outsAt0 m c n h).2.2.1 : S1x1024.Idx → EReal) (ix2 0 q))
    (fun h => first8 m c h q) (fun n h => next8 m c n h q) 15 h rfl

theorem final8 (c : Dev nD) : (dats m 0 c).arrAt 8 cfg0.N = G8 m c := by
  refine (dats m 0 c).arrAt_eq_of_cover 8 (G8 m c) (fun t hf => ?_) (fun i => ?_)
  · refine (Value.flushed8 m c t).trans ?_
    have h15 : t.val = 15 := by have := (flush0_8 t).mp hf; have := t.isLt; have : cfg0.N = 16 := N_0; omega
    obtain ⟨n, hn⟩ := t
    obtain rfl : n = 15 := h15
    have hch := last8 m c hn
    dsimp only
    generalize (outsAt0 m c 15 hn).2.2.1 = y at hch ⊢
    generalize G8 m c = G at hch ⊢
    funext j
    have hx0 : win0_8.xsize (grid0.coords ⟨15, hn⟩) 0 = 1 := (by decide +kernel : ∀ t : Fin grid0.N, win0_8.xsize (grid0.coords t) 0 = 1) _
    have hx1 : win0_8.xsize (grid0.coords ⟨15, hn⟩) 1 = 1024 := (by decide +kernel : ∀ t : Fin grid0.N, win0_8.xsize (grid0.coords t) 1 = 1024) _
    have hj0 : (j 0 : Nat) < 1 := lt_of_lt_of_eq (j 0).isLt hx0
    have hj1 : (j 1 : Nat) < 1024 := lt_of_lt_of_eq (j 1).isLt hx1
    rw [View.read_apply]
    refine Eq.trans (congrArg y (funext fun a => Fin.ext ?_)) ((hch ⟨j 1, hj1⟩).trans (congrArg G (funext fun a => Fin.ext ?_)))
    · match a with
      | ⟨0, _⟩ => exact Nat.lt_one_iff.mp hj0
      | ⟨1, _⟩ => rfl
    · match a with
      | ⟨0, _⟩ =>
        show 0 = win0_8.index _ 0 * 1 + 1 * (j 0 : Nat)
        rw [(by decide +kernel : ∀ t : Fin grid0.N, win0_8.index t 0 = 0) _]; omega
      | ⟨1, _⟩ =>
        show (j 1 : Nat) = win0_8.index _ 1 * 1024 + 1 * (j 1 : Nat)
        rw [(by decide +kernel : ∀ t : Fin grid0.N, win0_8.index t 1 = 0) _]; omega
  · have hn : 15 < cfg0.N := by rw [show cfg0.N = 16 from N_0]; decide
    refine ⟨⟨15, hn⟩, (flush0_8 _).mpr rfl, ?_⟩
    show i ∈ ((View.whole main_v8_2).slice (win0_8.rect ⟨15, hn⟩)).set
    rw [View.set_slice_whole, Rect.mem_set_unit]
    intro a
    have h0 : (i 0 : Nat) < 1 := (i 0).isLt
    have h1 : (i 1 : Nat) < 1024 := (i 1).isLt
    match a with
    | ⟨0, _⟩ => show win0_8.index ⟨15, hn⟩ 0 * 1 ≤ (i 0 : Nat) ∧ (i 0 : Nat) < win0_8.index ⟨15, hn⟩ 0 * 1 + win0_8.xsize (grid0.coords ⟨15, hn⟩) 0
                rw [(by decide +kernel : ∀ t : Fin grid0.N, win0_8.index t 0 = 0) _, (by decide +kernel : ∀ t : Fin grid0.N, win0_8.xsize (grid0.coords t) 0 = 1) _]; omega
    | ⟨1, _⟩ => show win0_8.index ⟨15, hn⟩ 1 * 1024 ≤ (i 1 : Nat) ∧ (i 1 : Nat) < win0_8.index ⟨15, hn⟩ 1 * 1024 + win0_8.xsize (grid0.coords ⟨15, hn⟩) 1
                rw [(by decide +kernel : ∀ t : Fin grid0.N, win0_8.index t 1 = 0) _, (by decide +kernel : ∀ t : Fin grid0.N, win0_8.xsize (grid0.coords t) 1 = 1024) _]; omega

/-- Element `(R, q)` of the summands of result `9`. -/
@[irreducible] def term9 (c : Dev nD) (R : Fin 8192) (q : Fin 1024) : EReal :=
  dpre (fun k => A0 m c (ix2 R k)) (fun k => A1 m c (ix2 R k)) (fun k => A2 m c (ix2 R k)) (fun a b d => A3 m c (ix3 a b d)) (fun a b => A4 m c (ix2 a b)) q

/-- Its sum over the rows. -/
def acc9 (c : Dev nD) (q : Fin 1024) : EReal := ∑ R : Fin 8192, term9 m c R q

theorem stepA9 (c : Dev nD) (t : Fin cfg0.N) (h0 : t.val % 16 = 0) (h1 : ¬1 ≤ t.val) (q : Fin 1024) :
    ((outsAt0 m c t.val t.isLt).2.2.2 : S1x1024.Idx → EReal) (ix2 0 q) = ∑ r : Fin 512, term9 m c (Rows.row (N := 16) (T := 8192) rfl t r) q := by
  refine (congrFun (congrArg (fun o => o.2.2.2) (outsAt0_A m c t h0 h1)) (ix2 0 q)).trans ?_
  dsimp only
  refine (out9_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) ((hcond0_0 t).mpr h0) (fun h => absurd ((hcond0_1 t).mp h) h1) (iblk m c 0 t) (iblk m c 1 t) (iblk m c 2 t) (iblk m c 3 t) (iblk m c 4 t) (iblk m c 5 t) q).trans ?_
  unfold term9
  simp only [blk0 m c t, blk1 m c t, blk2 m c t, blk3 m c t, blk4 m c t]

theorem stepB9 (c : Dev nD) (t : Fin cfg0.N) (h0 : ¬t.val % 16 = 0) (h1 : 1 ≤ t.val) (q : Fin 1024) :
    ((outsAt0 m c t.val t.isLt).2.2.2 : S1x1024.Idx → EReal) (ix2 0 q)
      = ((outsAt0 m c (t.val - 1) (Nat.lt_of_le_of_lt (Nat.sub_le _ _) t.isLt)).2.2.2 : S1x1024.Idx → EReal) (ix2 0 q)
        + ∑ r : Fin 512, term9 m c (Rows.row (N := 16) (T := 8192) rfl t r) q := by
  refine (congrFun (congrArg (fun o => o.2.2.2) (outsAt0_B m c t h0 h1)) (ix2 0 q)).trans ?_
  dsimp only
  refine (out9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (fun h => absurd ((hcond0_0 t).mp h) h0) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 q).trans ?_
  unfold term9
  simp only [blk0 m c t, blk1 m c t, blk2 m c t, blk3 m c t, blk4 m c t]

theorem first9 (c : Dev nD) (h : 0 < cfg0.N) (q : Fin 1024) : ((outsAt0 m c 0 h).2.2.2 : S1x1024.Idx → EReal) (ix2 0 q) = ∑ r : Fin 512, term9 m c (Rows.row (N := 16) (T := 8192) rfl ⟨0, h⟩ r) q :=
  stepA9 m c ⟨0, h⟩ rfl (by dsimp only; omega) q

theorem next9 (c : Dev nD) (n : ℕ) (h : n + 1 < cfg0.N) (q : Fin 1024) :
    ((outsAt0 m c (n + 1) h).2.2.2 : S1x1024.Idx → EReal) (ix2 0 q) = ((outsAt0 m c n (Nat.lt_of_succ_lt h)).2.2.2 : S1x1024.Idx → EReal) (ix2 0 q)
      + ∑ r : Fin 512, term9 m c (Rows.row (N := 16) (T := 8192) rfl ⟨n + 1, h⟩ r) q := by
  have hN : cfg0.N = 16 := N_0
  exact stepB9 m c ⟨n + 1, h⟩ (by dsimp only; omega) (by dsimp only; omega) q

/-- Result `9`. -/
def G9 (c : Dev nD) : Vec Ideal S1x1024 .f32 := fun i => acc9 m c (i 1)

theorem G9_apply (c : Dev nD) (p : Fin 1) (q : Fin 1024) : G9 m c (ix2 p q) = acc9 m c q := rfl

theorem last9 (c : Dev nD) (h : 15 < cfg0.N) (q : Fin 1024) : ((outsAt0 m c 15 h).2.2.2 : S1x1024.Idx → EReal) (ix2 0 q) = G9 m c (ix2 0 q) := by
  refine Eq.trans ?_ (G9_apply m c 0 q).symm
  unfold acc9
  rw [← Rows.sum_rows (N := 16) (B := 512) rfl]
  exact Rows.chain_last (fun t : Fin 16 => ∑ r : Fin 512, term9 m c (Rows.row rfl t r) q) (fun n h => ((outsAt0 m c n h).2.2.2 : S1x1024.Idx → EReal) (ix2 0 q))
    (fun h => first9 m c h q) (fun n h => next9 m c n h q) 15 h rfl

theorem final9 (c : Dev nD) : (dats m 0 c).arrAt 9 cfg0.N = G9 m c := by
  refine (dats m 0 c).arrAt_eq_of_cover 9 (G9 m c) (fun t hf => ?_) (fun i => ?_)
  · refine (Value.flushed9 m c t).trans ?_
    have h15 : t.val = 15 := by have := (flush0_9 t).mp hf; have := t.isLt; have : cfg0.N = 16 := N_0; omega
    obtain ⟨n, hn⟩ := t
    obtain rfl : n = 15 := h15
    have hch := last9 m c hn
    dsimp only
    generalize (outsAt0 m c 15 hn).2.2.2 = y at hch ⊢
    generalize G9 m c = G at hch ⊢
    funext j
    have hx0 : win0_9.xsize (grid0.coords ⟨15, hn⟩) 0 = 1 := (by decide +kernel : ∀ t : Fin grid0.N, win0_9.xsize (grid0.coords t) 0 = 1) _
    have hx1 : win0_9.xsize (grid0.coords ⟨15, hn⟩) 1 = 1024 := (by decide +kernel : ∀ t : Fin grid0.N, win0_9.xsize (grid0.coords t) 1 = 1024) _
    have hj0 : (j 0 : Nat) < 1 := lt_of_lt_of_eq (j 0).isLt hx0
    have hj1 : (j 1 : Nat) < 1024 := lt_of_lt_of_eq (j 1).isLt hx1
    rw [View.read_apply]
    refine Eq.trans (congrArg y (funext fun a => Fin.ext ?_)) ((hch ⟨j 1, hj1⟩).trans (congrArg G (funext fun a => Fin.ext ?_)))
    · match a with
      | ⟨0, _⟩ => exact Nat.lt_one_iff.mp hj0
      | ⟨1, _⟩ => rfl
    · match a with
      | ⟨0, _⟩ =>
        show 0 = win0_9.index _ 0 * 1 + 1 * (j 0 : Nat)
        rw [(by decide +kernel : ∀ t : Fin grid0.N, win0_9.index t 0 = 0) _]; omega
      | ⟨1, _⟩ =>
        show (j 1 : Nat) = win0_9.index _ 1 * 1024 + 1 * (j 1 : Nat)
        rw [(by decide +kernel : ∀ t : Fin grid0.N, win0_9.index t 1 = 0) _]; omega
  · have hn : 15 < cfg0.N := by rw [show cfg0.N = 16 from N_0]; decide
    refine ⟨⟨15, hn⟩, (flush0_9 _).mpr rfl, ?_⟩
    show i ∈ ((View.whole main_v8_3).slice (win0_9.rect ⟨15, hn⟩)).set
    rw [View.set_slice_whole, Rect.mem_set_unit]
    intro a
    have h0 : (i 0 : Nat) < 1 := (i 0).isLt
    have h1 : (i 1 : Nat) < 1024 := (i 1).isLt
    match a with
    | ⟨0, _⟩ => show win0_9.index ⟨15, hn⟩ 0 * 1 ≤ (i 0 : Nat) ∧ (i 0 : Nat) < win0_9.index ⟨15, hn⟩ 0 * 1 + win0_9.xsize (grid0.coords ⟨15, hn⟩) 0
                rw [(by decide +kernel : ∀ t : Fin grid0.N, win0_9.index t 0 = 0) _, (by decide +kernel : ∀ t : Fin grid0.N, win0_9.xsize (grid0.coords t) 0 = 1) _]; omega
    | ⟨1, _⟩ => show win0_9.index ⟨15, hn⟩ 1 * 1024 ≤ (i 1 : Nat) ∧ (i 1 : Nat) < win0_9.index ⟨15, hn⟩ 1 * 1024 + win0_9.xsize (grid0.coords ⟨15, hn⟩) 1
                rw [(by decide +kernel : ∀ t : Fin grid0.N, win0_9.index t 1 = 0) _, (by decide +kernel : ∀ t : Fin grid0.N, win0_9.xsize (grid0.coords t) 1 = 1024) _]; omega

end Cert.Ff1Ideal.Body

end
-- ==== Proof.Ff1Claim.lean ====
/- The claim on the call `ff1_bwd`: its results are the gradients of the layer norm followed by the product. -/
module

public import proofs.«01_k».proof.Defs
public import proofs.«01_k».proof.Proof.Ff1Value
public import proofs.«01_k».proof.Proof.Gen.Ff1RefIdeal
public import proofs.«01_k».proof.Proof.Gen.Ff1RefIdeal.Run
public import proofs.«01_k».proof.Proof.Gen.Ff1RefIdeal.Read

@[expose] public section

noncomputable section

open Idealize.ShloMosaic Idealize.ShloMosaic.TcCoe Idealize.SL.Sem Idealize.ShloMosaic.StableHlo

namespace Cert.Ff1Ref

open Cert.Ff1RefIdeal Cert.Ff1RefIdeal.Read Cert.Ff1RefIdeal.Gen

/-- The gradient by the normalised row: through the product and of the residual stream. -/
def dyr (x4 : Vec Ideal S1024x4096 .f32) (x5 : Vec Ideal S8192x1024 .f32) (x6 : Vec Ideal S8192x4096 .bf16) (R : Fin 8192) (k : Fin 1024) : EReal :=
  ∑ j : Fin 4096, x6 (ix2 R j) * x4 (ix2 k j) + Rows.al * x5 (ix2 R k)

theorem dy_eq (x4 : Vec Ideal S1024x4096 .f32) (x5 : Vec Ideal S8192x1024 .f32) (x6 : Vec Ideal S8192x4096 .bf16) (p : Fin 8192) (q : Fin 1024) :
    Cert.Ff1Ideal.Body.dy (fun k => x6 (ix2 p k)) (fun k => x5 (ix2 p k)) (fun a b d => x4 (ix2 b ⟨a.val * 512 + d.val, by omega⟩)) q = dyr x4 x5 x6 p q := by
  unfold Cert.Ff1Ideal.Body.dy dyr
  rw [add_comm (∑ j : Fin 4096, _), ← Rows.sum_rows (N := 8) (B := 512) (T := 4096) rfl]
  refine Rows.add8 _ (fun j => ∑ k : Fin 512, x6 (ix2 p (Rows.row (T := 4096) rfl j k)) * x4 (ix2 q (Rows.row (T := 4096) rfl j k))) ?_ ?_ ?_ ?_ ?_ ?_ ?_ ?_ <;>
  · refine Finset.sum_congr rfl fun k _ => congrArg₂ (fun a b => x6 (ix2 p a) * x4 (ix2 q b)) (Fin.ext ?_) (Fin.ext ?_)
    · simp [Rows.row]
    · simp [Rows.row]

theorem out0 (x0 : Vec Ideal S8192x1024 .f32) (x1 : Vec Ideal S1024 .f32) (x2 : Vec Ideal S1024 .f32) (x4 : Vec Ideal S1024x4096 .f32) (x5 : Vec Ideal S8192x1024 .f32) (x6 : Vec Ideal S8192x4096 .bf16) (h : ∀ (R : Fin 8192) (k : Fin 1024), ∃ t : ℝ, dyr x4 x5 x6 R k * x2 (ix1 k) = t) (p : Fin 8192) (q : Fin 1024) :
    val_main_v72 (F := Ideal) x0 x1 x2 x4 x5 x6 (ix2 p q) = Cert.Ff1Ideal.Body.dpre (fun k => x6 (ix2 p k)) (fun k => x5 (ix2 p k)) (fun k => (x0 (ix2 p k) + x1 (ix1 k))) (fun a b d => x4 (ix2 b ⟨a.val * 512 + d.val, by omega⟩)) (fun a b => x2 (ix1 b)) q := by
  have e : val_main_v72 (F := Ideal) x0 x1 x2 x4 x5 x6 (ix2 p q) = Rows.bwdDiff (fun k => x0 (ix2 p k) + x1 (ix1 k)) (fun k => dyr x4 x5 x6 p k * x2 (ix1 k)) q := by
    pointwise [val_main_v0, val_main_v1, val_main_v2, val_main_cst, val_main_v3, val_main_v4, val_main_cst_0, val_main_v5, val_main_v6, val_main_v7, val_main_v8, val_main_v9, val_main_cst_1, val_main_v10, val_main_v11, val_main_cst_2, val_main_v12, val_main_v13, val_main_cst_3, val_main_v14, val_main_v15, val_main_v16, val_main_v17, val_main_cst_4, val_main_v18, val_main_v19, val_main_v20, val_main_v21, val_main_cst_5, val_main_v22, val_main_v23, val_main_v24, val_main_v25, val_main_v26, val_main_v27, val_main_v28, val_main_v29, val_main_v30, val_main_v31, val_main_cst_6, val_main_v32, val_main_v33, val_main_v34, val_main_v35, val_main_v36, val_main_cst_7, val_main_v37, val_main_v38, val_main_v39, val_main_cst_8, val_main_v40, val_main_v41, val_main_cst_9, val_main_v42, val_main_v43, val_main_cst_10, val_main_v44, val_main_v45, val_main_v46, val_main_v47, val_main_cst_11, val_main_v48, val_main_v49, val_main_cst_12, val_main_v50, val_main_v51, val_main_v52, val_main_v53, val_main_v54, val_main_v55, val_main_cst_13, val_main_v56, val_main_v57, val_main_cst_14, val_main_v58, val_main_v59, val_main_cst_15, val_main_v60, val_main_v61, val_main_v62, val_main_v63, val_main_cst_16, val_main_v64, val_main_v65, val_main_v66, val_main_v67, val_main_cst_17, val_main_v68, val_main_v69, val_main_cst_18, val_main_v70, val_main_v71, val_main_v72, val_main_cst_19, val_main_v73, val_main_v74, val_main_cst_20, val_main_v75, val_main_v76, val_main_v77, val_main_v78, Rows.bwdDiff, Rows.viaVar, Rows.rvar, Rows.istd, Rows.mean, Rows.hat, dyr]
  rw [e]
  rw [Rows.bwdDiff_agree _ _ (h p)]
  unfold Cert.Ff1Ideal.Body.dpre
  simp only [dy_eq]

theorem out1 (x0 : Vec Ideal S8192x1024 .f32) (x1 : Vec Ideal S1024 .f32) (x2 : Vec Ideal S1024 .f32) (x4 : Vec Ideal S1024x4096 .f32) (x5 : Vec Ideal S8192x1024 .f32) (x6 : Vec Ideal S8192x4096 .bf16) (h : ∀ (R : Fin 8192) (k : Fin 1024), ∃ t : ℝ, dyr x4 x5 x6 R k * x2 (ix1 k) = t) (p : Fin 1) (q : Fin 1024) :
    val_main_v76 (F := Ideal) x0 x1 x2 x4 x5 x6 (ix2 p q) = ∑ R : Fin 8192, Cert.Ff1Ideal.Body.dpre (fun k => x6 (ix2 R k)) (fun k => x5 (ix2 R k)) (fun k => (x0 (ix2 R k) + x1 (ix1 k))) (fun a b d => x4 (ix2 b ⟨a.val * 512 + d.val, by omega⟩)) (fun a b => x2 (ix1 b)) q := by
  have e : val_main_v76 (F := Ideal) x0 x1 x2 x4 x5 x6 (ix2 p q) = ∑ _ : Fin 1, ∑ R : Fin 8192, Rows.bwdDiff (fun k => x0 (ix2 R k) + x1 (ix1 k)) (fun k => dyr x4 x5 x6 R k * x2 (ix1 k)) q := by
    pointwise [val_main_v0, val_main_v1, val_main_v2, val_main_cst, val_main_v3, val_main_v4, val_main_cst_0, val_main_v5, val_main_v6, val_main_v7, val_main_v8, val_main_v9, val_main_cst_1, val_main_v10, val_main_v11, val_main_cst_2, val_main_v12, val_main_v13, val_main_cst_3, val_main_v14, val_main_v15, val_main_v16, val_main_v17, val_main_cst_4, val_main_v18, val_main_v19, val_main_v20, val_main_v21, val_main_cst_5, val_main_v22, val_main_v23, val_main_v24, val_main_v25, val_main_v26, val_main_v27, val_main_v28, val_main_v29, val_main_v30, val_main_v31, val_main_cst_6, val_main_v32, val_main_v33, val_main_v34, val_main_v35, val_main_v36, val_main_cst_7, val_main_v37, val_main_v38, val_main_v39, val_main_cst_8, val_main_v40, val_main_v41, val_main_cst_9, val_main_v42, val_main_v43, val_main_cst_10, val_main_v44, val_main_v45, val_main_v46, val_main_v47, val_main_cst_11, val_main_v48, val_main_v49, val_main_cst_12, val_main_v50, val_main_v51, val_main_v52, val_main_v53, val_main_v54, val_main_v55, val_main_cst_13, val_main_v56, val_main_v57, val_main_cst_14, val_main_v58, val_main_v59, val_main_cst_15, val_main_v60, val_main_v61, val_main_v62, val_main_v63, val_main_cst_16, val_main_v64, val_main_v65, val_main_v66, val_main_v67, val_main_cst_17, val_main_v68, val_main_v69, val_main_cst_18, val_main_v70, val_main_v71, val_main_v72, val_main_cst_19, val_main_v73, val_main_v74, val_main_cst_20, val_main_v75, val_main_v76, val_main_v77, val_main_v78, Rows.bwdDiff, Rows.viaVar, Rows.rvar, Rows.istd, Rows.mean, Rows.hat, dyr]
  rw [e, Fin.sum_univ_one]
  rw [show (∑ R : Fin 8192, Rows.bwdDiff (fun k => x0 (ix2 R k) + x1 (ix1 k)) (fun k => dyr x4 x5 x6 R k * x2 (ix1 k)) q) = ∑ R : Fin 8192, Rows.bwd (fun k => x0 (ix2 R k) + x1 (ix1 k)) (fun k => dyr x4 x5 x6 R k * x2 (ix1 k)) q from Finset.sum_congr rfl fun R _ => Rows.bwdDiff_agree _ _ (h R) q]
  unfold Cert.Ff1Ideal.Body.dpre
  simp only [dy_eq]

theorem out2 (x0 : Vec Ideal S8192x1024 .f32) (x1 : Vec Ideal S1024 .f32) (x2 : Vec Ideal S1024 .f32) (x4 : Vec Ideal S1024x4096 .f32) (x5 : Vec Ideal S8192x1024 .f32) (x6 : Vec Ideal S8192x4096 .bf16) (p : Fin 1) (q : Fin 1024) :
    val_main_v77 (F := Ideal) x0 x1 x4 x5 x6 (ix2 p q) = ∑ R : Fin 8192, Cert.Ff1Ideal.Body.dgain (fun k => x6 (ix2 R k)) (fun k => x5 (ix2 R k)) (fun k => (x0 (ix2 R k) + x1 (ix1 k))) (fun a b d => x4 (ix2 b ⟨a.val * 512 + d.val, by omega⟩)) (fun a b => x2 (ix1 b)) q := by
  have e : val_main_v77 (F := Ideal) x0 x1 x4 x5 x6 (ix2 p q) = ∑ _ : Fin 1, ∑ R : Fin 8192, Rows.hat (fun k => x0 (ix2 R k) + x1 (ix1 k)) q * dyr x4 x5 x6 R q := by
    rw [← val_main_v77_eq]
    pointwise [Rows.bwdDiff, Rows.viaVar, Rows.rvar, Rows.istd, Rows.mean, Rows.hat, dyr]
  rw [e, Fin.sum_univ_one]
  unfold Cert.Ff1Ideal.Body.dgain
  simp only [dy_eq, mul_comm (Rows.hat _ _)]

theorem out3 (x0 : Vec Ideal S8192x1024 .f32) (x1 : Vec Ideal S1024 .f32) (x2 : Vec Ideal S1024 .f32) (x4 : Vec Ideal S1024x4096 .f32) (x5 : Vec Ideal S8192x1024 .f32) (x6 : Vec Ideal S8192x4096 .bf16) (p : Fin 1) (q : Fin 1024) :
    val_main_v78 (F := Ideal) x4 x5 x6 (ix2 p q) = ∑ R : Fin 8192, Cert.Ff1Ideal.Body.dbias (fun k => x6 (ix2 R k)) (fun k => x5 (ix2 R k)) (fun k => (x0 (ix2 R k) + x1 (ix1 k))) (fun a b d => x4 (ix2 b ⟨a.val * 512 + d.val, by omega⟩)) (fun a b => x2 (ix1 b)) q := by
  have e : val_main_v78 (F := Ideal) x4 x5 x6 (ix2 p q) = ∑ _ : Fin 1, ∑ R : Fin 8192, dyr x4 x5 x6 R q := by
    rw [← val_main_v78_eq]
    pointwise [Rows.bwdDiff, Rows.viaVar, Rows.rvar, Rows.istd, Rows.mean, Rows.hat, dyr]
  rw [e, Fin.sum_univ_one]
  unfold Cert.Ff1Ideal.Body.dbias
  simp only [dy_eq]

end Cert.Ff1Ref

namespace Cert.Ff1Ideal.Body

open Cert.Ff1Ideal Cert.Ff1Ideal.Gen

variable (m : (ℓ : Loc nD τ sig) → Buf (Elt Ideal) ℓ)

/-- Argument `0`. -/
abbrev x0 (c : Dev nD) : Vec Ideal S8192x1024 .f32 := m ((c : Thread nD τ).loc main_arg0)

/-- Argument `1`. -/
abbrev x1 (c : Dev nD) : Vec Ideal S1024 .f32 := m ((c : Thread nD τ).loc main_arg1)

/-- Argument `2`. -/
abbrev x2 (c : Dev nD) : Vec Ideal S1024 .f32 := m ((c : Thread nD τ).loc main_arg2)

/-- Argument `4`. -/
abbrev x4 (c : Dev nD) : Vec Ideal S1024x4096 .f32 := m ((c : Thread nD τ).loc main_arg4)

/-- Argument `5`. -/
abbrev x5 (c : Dev nD) : Vec Ideal S8192x1024 .f32 := m ((c : Thread nD τ).loc main_arg5)

/-- Argument `6`. -/
abbrev x6 (c : Dev nD) : Vec Ideal S8192x4096 .bf16 := m ((c : Thread nD τ).loc main_arg6)

theorem read0 (c : Dev nD) (R : Fin 8192) (k : Fin 4096) : A0 m c (ix2 R k) = x6 m c (ix2 R k) := by
  unfold A0 V
  simp only [hostOps0, List.flatten_cons, List.flatten_nil, List.append_nil, List.cons_append, List.nil_append,
    TRef.binary, TRef.nullary, TRef.unary, TRef.toBuf, TRef.ofBuf, cast_eq]
  after_results_simp
  try pointwise []

theorem read1 (c : Dev nD) (R : Fin 8192) (k : Fin 1024) : A1 m c (ix2 R k) = x5 m c (ix2 R k) := by
  unfold A1 V
  simp only [hostOps0, List.flatten_cons, List.flatten_nil, List.append_nil, List.cons_append, List.nil_append,
    TRef.binary, TRef.nullary, TRef.unary, TRef.toBuf, TRef.ofBuf, cast_eq]
  after_results_simp
  try pointwise []

theorem read2 (c : Dev nD) (R : Fin 8192) (k : Fin 1024) : A2 m c (ix2 R k) = (x0 m c (ix2 R k) + x1 m c (ix1 k)) := by
  unfold A2 V
  simp only [hostOps0, List.flatten_cons, List.flatten_nil, List.append_nil, List.cons_append, List.nil_append,
    TRef.binary, TRef.nullary, TRef.unary, TRef.toBuf, TRef.ofBuf, cast_eq]
  after_results_simp
  try pointwise []

theorem read3 (c : Dev nD) (a : Fin 8) (b : Fin 1024) (d : Fin 512) : A3 m c (ix3 a b d) = x4 m c (ix2 b ⟨a.val * 512 + d.val, by omega⟩) := by
  unfold A3 V
  simp only [hostOps0, List.flatten_cons, List.flatten_nil, List.append_nil, List.cons_append, List.nil_append,
    TRef.binary, TRef.nullary, TRef.unary, TRef.toBuf, TRef.ofBuf, cast_eq]
  after_results_simp
  try pointwise []

theorem read4 (c : Dev nD) (a : Fin 1) (b : Fin 1024) : A4 m c (ix2 a b) = x2 m c (ix1 b) := by
  unfold A4 V
  simp only [hostOps0, List.flatten_cons, List.flatten_nil, List.append_nil, List.cons_append, List.nil_append,
    TRef.binary, TRef.nullary, TRef.unary, TRef.toBuf, TRef.ofBuf, cast_eq]
  after_results_simp
  try pointwise []

instance preFacts : Cert.Pre_finite_ff1.Facts := ⟨by decide, by decide, by decide, by decide, by decide, by decide⟩

theorem fin (hpre : Cert.Pre_Ff1Ideal_finite_ff1 m) (c : Dev nD) (R : Fin 8192) (k : Fin 1024) : ∃ t : ℝ, Cert.Ff1Ref.dyr (x4 m c) (x5 m c) (x6 m c) R k * (x2 m c) (ix1 k) = t := by
  have h := congrFun (hpre c) (ix2 R k)
  revert h
  pointwise [Cert.Pre_finite_ff1.fn, Cert.Ff1Ref.dyr]
  intro h
  obtain ⟨t, ht⟩ := Rows.finite_of _ h
  exact ⟨t, (congrArg (· * _) (add_comm _ _)).trans ht⟩

theorem val6 (hpre : Cert.Pre_Ff1Ideal_finite_ff1 m) (c : Dev nD) : G6 m c = Cert.Ff1RefIdeal.Read.val_main_v72 (F := Ideal) (x0 m c) (x1 m c) (x2 m c) (x4 m c) (x5 m c) (x6 m c) := by
  funext i
  obtain ⟨p, q, rfl⟩ : ∃ (p : Fin 8192) (q : Fin 1024), i = ix2 p q := ⟨i 0, i 1, eq_ix2 i⟩
  refine Eq.trans ?_ (Cert.Ff1Ref.out0 (x0 m c) (x1 m c) (x2 m c) (x4 m c) (x5 m c) (x6 m c) (fin m hpre c) p q).symm
  show res6 m c p q = _
  unfold res6
  simp only [read0 m, read1 m, read2 m, read3 m, read4 m]

theorem val9 (hpre : Cert.Pre_Ff1Ideal_finite_ff1 m) (c : Dev nD) : G9 m c = Cert.Ff1RefIdeal.Read.val_main_v76 (F := Ideal) (x0 m c) (x1 m c) (x2 m c) (x4 m c) (x5 m c) (x6 m c) := by
  funext i
  obtain ⟨p, q, rfl⟩ : ∃ (p : Fin 1) (q : Fin 1024), i = ix2 p q := ⟨i 0, i 1, eq_ix2 i⟩
  refine Eq.trans ?_ (Cert.Ff1Ref.out1 (x0 m c) (x1 m c) (x2 m c) (x4 m c) (x5 m c) (x6 m c) (fin m hpre c) p q).symm
  show acc9 m c q = _
  unfold acc9 term9
  simp only [read0 m, read1 m, read2 m, read3 m, read4 m]

theorem val7 (hpre : Cert.Pre_Ff1Ideal_finite_ff1 m) (c : Dev nD) : G7 m c = Cert.Ff1RefIdeal.Read.val_main_v77 (F := Ideal) (x0 m c) (x1 m c) (x4 m c) (x5 m c) (x6 m c) := by
  funext i
  obtain ⟨p, q, rfl⟩ : ∃ (p : Fin 1) (q : Fin 1024), i = ix2 p q := ⟨i 0, i 1, eq_ix2 i⟩
  refine Eq.trans ?_ (Cert.Ff1Ref.out2 (x0 m c) (x1 m c) (x2 m c) (x4 m c) (x5 m c) (x6 m c) p q).symm
  show acc7 m c q = _
  unfold acc7 term7
  simp only [read0 m, read1 m, read2 m, read3 m, read4 m]

theorem val8 (hpre : Cert.Pre_Ff1Ideal_finite_ff1 m) (c : Dev nD) : G8 m c = Cert.Ff1RefIdeal.Read.val_main_v78 (F := Ideal) (x4 m c) (x5 m c) (x6 m c) := by
  funext i
  obtain ⟨p, q, rfl⟩ : ∃ (p : Fin 1) (q : Fin 1024), i = ix2 p q := ⟨i 0, i 1, eq_ix2 i⟩
  refine Eq.trans ?_ (Cert.Ff1Ref.out3 (x0 m c) (x1 m c) (x2 m c) (x4 m c) (x5 m c) (x6 m c) p q).symm
  show acc8 m c q = _
  unfold acc8 term8
  simp only [read0 m, read1 m, read2 m, read3 m, read4 m]

theorem algebraic : Cert.algebraic_Ff1Ideal_Ff1RefIdeal_pre_finite_ff1 := by
  intro m g m' g' hpre hag
  refine ⟨fun c => G6 m c, fun c => G9 m c, fun c => G7 m c, fun c => G8 m c, ?_, ?_⟩
  · exact (θ_run defs _ _).mono (fun r h c => ⟨(h c).1.trans (final6 m c), (h c).2.2.2.1.trans (final9 m c), (h c).2.1.trans (final7 m c), (h c).2.2.1.trans (final8 m c), (h c).2.2.2.2⟩) (Value.run_blocks m g)
  · refine (θ_run Cert.Ff1RefIdeal.defs _ _).mono (fun r h c => ⟨(h c).1.trans ?_, (h c).2.1.trans ?_, (h c).2.2.1.trans ?_, (h c).2.2.2.1.trans ?_, (h c).2.2.2.2⟩) (Cert.Ff1RefIdeal.Value.run m' g')
    · obtain ⟨h0, h1, h2, h3, h4, h5, h6⟩ := hag c
      refine (Cert.Ff1RefIdeal.Read.val_main_v72_eq m' c).trans ?_
      rw [h0, h1, h2, h4, h5, h6]
      exact (val6 m hpre c).symm
    · obtain ⟨h0, h1, h2, h3, h4, h5, h6⟩ := hag c
      refine (Cert.Ff1RefIdeal.Read.val_main_v76_eq m' c).trans ?_
      rw [h0, h1, h2, h4, h5, h6]
      exact (val9 m hpre c).symm
    · obtain ⟨h0, h1, h2, h3, h4, h5, h6⟩ := hag c
      refine (Cert.Ff1RefIdeal.Read.val_main_v77_eq _ _ _ _ _).trans ?_
      rw [h0, h1, h4, h5, h6]
      exact (val7 m hpre c).symm
    · obtain ⟨h0, h1, h2, h3, h4, h5, h6⟩ := hag c
      refine (Cert.Ff1RefIdeal.Read.val_main_v78_eq _ _ _).trans ?_
      rw [h4, h5, h6]
      exact (val8 m hpre c).symm

end Cert.Ff1Ideal.Body

end
-- ==== Proof.Rms.lean ====
/- The gradient of a root-mean-square norm: as the kernels write it, as differentiation writes it, and that the two agree. -/
module

public import proofs.«01_k».proof.Proof.Norm

@[expose] public section

noncomputable section

open Idealize.ShloMosaic Idealize.ShloMosaic.TcCoe

namespace Rows

/-- The regularised mean square of 512 numbers. -/
def msq (x : Fin 512 → EReal) : EReal := Ideal.div (∑ k, x k * x k) (Ideal.ofBits .f32 0x44000000#32) + Ideal.ofBits .f32 0x358637BD#32

/-- One over its root. -/
def irms (x : Fin 512 → EReal) : EReal := Ideal.rsqrt (msq x)

/-- The gradient by the row, of the gradient `y` by the normalised row, as the kernels compute it. -/
def rmsBwd (x y : Fin 512 → EReal) (q : Fin 512) : EReal :=
  y q * irms x - x q * (irms x * irms x * irms x) * Ideal.div (∑ k, y k * x k) (Ideal.ofBits .f32 0x44000000#32)

/-- The gradient by the row, as differentiation writes it. -/
def rmsBwdDiff (x y : Fin 512 → EReal) (q : Fin 512) : EReal :=
  y q * irms x
    + (∑ _ : Fin 1, Ideal.div ((∑ k, x k * y k) * (Ideal.ofBits .f32 0xBF000000#32 * Ideal.div (irms x) (msq x))) (Ideal.ofBits .f32 0x44000000#32))
      * (Ideal.ofBits .f32 0x40000000#32 * x q)

theorem word_512 : Ideal.ofBits .f32 0x44000000#32 = ((512 : ℝ) : EReal) := by
  simp [Ideal.ofBits, Ideal.ieee, -EReal.coe_mul]; norm_num

/-- The regularisation of the mean square, a positive number. -/
theorem word_eps_rms : ∃ e : ℝ, 0 < e ∧ Ideal.ofBits .f32 0x358637BD#32 = (e : EReal) := by
  refine ⟨_, ?_, by simp [Ideal.ofBits, Ideal.ieee, -EReal.coe_mul]; rfl⟩
  positivity

theorem square_nonneg' (a : EReal) : 0 ≤ a * a := by
  induction a with
  | bot => simp
  | top => simp
  | coe r => rw [← EReal.coe_mul]; exact EReal.coe_nonneg.mpr (mul_self_nonneg r)

/-- The mean square of a row with an infinite element is infinite. -/
theorem msq_infinite (x : Fin 512 → EReal) (k : Fin 512) (hk : ¬ ∃ r : ℝ, x k = r) : msq x = ⊤ := by
  have hd : x k * x k = ⊤ := by
    generalize x k = a at hk
    induction a with
    | bot => simp
    | top => simp
    | coe r => exact absurd ⟨r, rfl⟩ hk
  have hs : ∑ k, x k * x k = ⊤ :=
    top_le_iff.mp (hd.symm.le.trans (Finset.single_le_sum (fun j _ => square_nonneg' (x j)) (Finset.mem_univ k)))
  obtain ⟨e, _, he⟩ := word_eps_rms
  unfold msq
  rw [hs, word_512, Ideal.div_coe (by norm_num), EReal.top_mul_coe_of_pos (by norm_num), he, EReal.top_add_coe]

/-- The two gradients agree, whatever the row and the gradient `y`: where the row is infinite both are zero, and where it is
   finite they scale the same sum by the same number. -/
theorem rmsBwdDiff_eq (x y : Fin 512 → EReal) (q : Fin 512) : rmsBwdDiff x y q = rmsBwd x y q := by
  by_cases hx : ∀ k, ∃ r : ℝ, x k = r
  · choose X hX using hx
    obtain rfl : x = fun k => (X k : EReal) := funext hX
    obtain ⟨e, he, hew⟩ := word_eps_rms
    have hv : msq (fun k => (X k : EReal)) = (((∑ k, X k * X k) / 512 + e : ℝ) : EReal) := by
      unfold msq
      rw [hew, word_512, Ideal.div_coe (by norm_num)]
      simp only [← EReal.coe_mul, ← coe_sum, ← EReal.coe_add]
      congr 1; ring
    have hVp : 0 < (∑ k, X k * X k) / 512 + e := by
      have : 0 ≤ ∑ k, X k * X k := Finset.sum_nonneg fun k _ => mul_self_nonneg _
      positivity
    generalize (∑ k, X k * X k) / 512 + e = V at hv hVp
    have hs : irms (fun k => (X k : EReal)) = (((Real.sqrt V)⁻¹ : ℝ) : EReal) := by
      unfold irms
      rw [hv, Ideal.rsqrt_coe, if_neg (not_lt.mpr hVp.le), if_neg hVp.ne']
    have hq : (Real.sqrt V)⁻¹ * (1 / V) = (Real.sqrt V)⁻¹ * (Real.sqrt V)⁻¹ * (Real.sqrt V)⁻¹ := by
      have h := Real.mul_self_sqrt hVp.le
      rw [one_div]; nth_rewrite 2 [← h]; rw [mul_inv]; ring
    generalize hsd : (Real.sqrt V)⁻¹ = s at hs hq
    unfold rmsBwdDiff rmsBwd
    simp only [Fin.sum_univ_one, hs, hv, word_512, word_neg_half, word_two]
    rw [Finset.sum_congr rfl fun k _ => mul_comm ((X k : EReal)) (y k)]
    generalize (∑ k, y k * (X k : EReal)) = S
    rw [sub_eq_add_neg, Ideal.div_coe hVp.ne', Ideal.div_coe (by norm_num), Ideal.div_coe (by norm_num)]
    refine congrArg (y q * (s : EReal) + ·) ?_
    have h1 : S * (((-(1 / 2) : ℝ) : EReal) * ((s : EReal) * ((1 / V : ℝ) : EReal))) * ((1 / 512 : ℝ) : EReal) * (((2 : ℝ) : EReal) * (X q : EReal))
        = S * (((-(1 / 2) * (s * (1 / V)) * (1 / 512) * (2 * X q) : ℝ)) : EReal) := by
      simp only [EReal.coe_mul, mul_assoc]
    have h2 : (X q : EReal) * ((s : EReal) * s * s) * (S * ((1 / 512 : ℝ) : EReal)) = S * (((X q * (s * s * s) * (1 / 512) : ℝ)) : EReal) := by
      simp only [EReal.coe_mul]; ac_rfl
    rw [h1, h2, hq, ← mul_neg, ← EReal.coe_neg]
    congr 2
    ring
  · obtain ⟨k, hk⟩ := not_forall.mp hx
    have hv := msq_infinite x k hk
    have hs : irms x = 0 := by
      unfold irms
      rw [hv]; rfl
    unfold rmsBwdDiff rmsBwd
    rw [hs, hv]
    simp [Ideal.div, word_512]

end Rows

end
-- ==== Proof.MixValue.lean ====
/- The values of the call `mix_bwd`: the gradient through the output projection, the two root-mean-square norms and the gate. -/
module

public import proofs.«01_k».proof.Proof.Base
public import Idealize.ShloMosaic.Lib.Pipeline.ValueKit.Acc
public import Idealize.ShloMosaic.Lib.Pipeline.ValueKit.Geometry
public import proofs.«01_k».proof.Proof.Rms
public import proofs.«01_k».proof.Proof.Gen.MixIdeal.Value

@[expose] public section

set_option maxHeartbeats 4000000

noncomputable section

open Idealize.ShloMosaic Idealize.ShloMosaic.TcCoe Idealize.SL.Sem Idealize.ShloMosaic.StableHlo
open Idealize.ShloMosaic.Pipeline (Dat)

namespace Cert.MixIdeal.Body

open Cert.MixIdeal Cert.MixIdeal.Gen

/-- The gradient by the two normalised halves side by side. -/
def dm (d : Fin 1024 → EReal) (wo : Fin 1024 → Fin 1024 → EReal) (q : Fin 1024) : EReal := ∑ k, d k * wo q k

/-- The gate. -/
def gate (y : Fin 512 → EReal) (wg : Fin 512 → Fin 512 → EReal) (b : Fin 1 → Fin 512 → EReal) (q : Fin 512) : EReal :=
  Ideal.logistic (∑ k, Rows.gelu (y k) * wg k q + b 0 q)

/-- The gated unit. -/
def unit (y : Fin 512 → EReal) (wg : Fin 512 → Fin 512 → EReal) (b : Fin 1 → Fin 512 → EReal) (q : Fin 512) : EReal := Rows.gelu (y q) * gate y wg b q

/-- The gradient by the attention's half. -/
def dattn (d : Fin 1024 → EReal) (x y : Fin 512 → EReal) (wo : Fin 1024 → Fin 1024 → EReal) (wg : Fin 512 → Fin 512 → EReal) (b ga gs : Fin 1 → Fin 512 → EReal) (q : Fin 512) : EReal := Rows.rmsBwd x (fun k => dm d wo ⟨k.val, by omega⟩ * ga 0 k) q

/-- The gradient by the gated unit. -/
def dunit (d : Fin 1024 → EReal) (x y : Fin 512 → EReal) (wo : Fin 1024 → Fin 1024 → EReal) (wg : Fin 512 → Fin 512 → EReal) (b ga gs : Fin 1 → Fin 512 → EReal) (q : Fin 512) : EReal := Rows.rmsBwd (unit y wg b) (fun k => dm d wo ⟨512 + k.val, by omega⟩ * gs 0 k) q

/-- The gradient by the argument of the gate. -/
def dz (d : Fin 1024 → EReal) (x y : Fin 512 → EReal) (wo : Fin 1024 → Fin 1024 → EReal) (wg : Fin 512 → Fin 512 → EReal) (b ga gs : Fin 1 → Fin 512 → EReal) (q : Fin 512) : EReal := dunit d x y wo wg b ga gs q * Rows.gelu (y q) * gate y wg b q * (1 - gate y wg b q)

/-- A row's part of the gradient by the attention's gain. -/
def dga (d : Fin 1024 → EReal) (x y : Fin 512 → EReal) (wo : Fin 1024 → Fin 1024 → EReal) (wg : Fin 512 → Fin 512 → EReal) (b ga gs : Fin 1 → Fin 512 → EReal) (q : Fin 512) : EReal := dm d wo ⟨q.val, by omega⟩ * x q * Rows.irms x

/-- A row's part of the gradient by the gain of the gated unit. -/
def dgs (d : Fin 1024 → EReal) (x y : Fin 512 → EReal) (wo : Fin 1024 → Fin 1024 → EReal) (wg : Fin 512 → Fin 512 → EReal) (b ga gs : Fin 1 → Fin 512 → EReal) (q : Fin 512) : EReal := dm d wo ⟨512 + q.val, by omega⟩ * unit y wg b q * Rows.irms (unit y wg b)

variable (m : (ℓ : Loc nD τ sig) → Buf (Elt Ideal) ℓ)

/-- Array `0` the call is given. -/
abbrev A0 (c : Dev nD) : S8192x1024.Idx → EReal := V m c main_arg7

/-- Array `1` the call is given. -/
abbrev A1 (c : Dev nD) : S8192x512.Idx → EReal := V m c main_arg0

/-- Array `2` the call is given. -/
abbrev A2 (c : Dev nD) : S8192x512.Idx → EReal := V m c main_arg1

/-- Array `3` the call is given. -/
abbrev A3 (c : Dev nD) : S1024x1024.Idx → EReal := V m c main_v0

/-- Array `4` the call is given. -/
abbrev A4 (c : Dev nD) : S512x512.Idx → EReal := V m c main_v1

/-- Array `5` the call is given. -/
abbrev A5 (c : Dev nD) : S1x512.Idx → EReal := V m c main_v2

/-- Array `6` the call is given. -/
abbrev A6 (c : Dev nD) : S1x512.Idx → EReal := V m c main_v3

/-- Array `7` the call is given. -/
abbrev A7 (c : Dev nD) : S1x512.Idx → EReal := V m c main_v4

theorem at0_0 : ∀ t : Fin cfg0.N, win0_0.index t = ![t.val, 0] := (by decide +kernel : ∀ t : Fin grid0.N, _)

theorem at0_1 : ∀ t : Fin cfg0.N, win0_1.index t = ![t.val, 0] := (by decide +kernel : ∀ t : Fin grid0.N, _)

theorem at0_2 : ∀ t : Fin cfg0.N, win0_2.index t = ![t.val, 0] := (by decide +kernel : ∀ t : Fin grid0.N, _)

theorem at0_3 : ∀ t : Fin cfg0.N, win0_3.index t = ![0, 0] := (by decide +kernel : ∀ t : Fin grid0.N, _)

theorem at0_4 : ∀ t : Fin cfg0.N, win0_4.index t = ![0, 0] := (by decide +kernel : ∀ t : Fin grid0.N, _)

theorem at0_5 : ∀ t : Fin cfg0.N, win0_5.index t = ![0, 0] := (by decide +kernel : ∀ t : Fin grid0.N, _)

theorem at0_6 : ∀ t : Fin cfg0.N, win0_6.index t = ![0, 0] := (by decide +kernel : ∀ t : Fin grid0.N, _)

theorem at0_7 : ∀ t : Fin cfg0.N, win0_7.index t = ![0, 0] := (by decide +kernel : ∀ t : Fin grid0.N, _)

theorem at0_8 : ∀ t : Fin cfg0.N, win0_8.index t = ![t.val, 0] := (by decide +kernel : ∀ t : Fin grid0.N, _)

theorem at0_10 : ∀ t : Fin cfg0.N, win0_10.index t = ![t.val, 0] := (by decide +kernel : ∀ t : Fin grid0.N, _)

theorem at0_11 : ∀ t : Fin cfg0.N, win0_11.index t = ![0, 0] := (by decide +kernel : ∀ t : Fin grid0.N, _)

theorem at0_12 : ∀ t : Fin cfg0.N, win0_12.index t = ![0, 0] := (by decide +kernel : ∀ t : Fin grid0.N, _)

theorem at0_13 : ∀ t : Fin cfg0.N, win0_13.index t = ![0, 0] := (by decide +kernel : ∀ t : Fin grid0.N, _)

theorem blk0 (c : Dev nD) (t : Fin cfg0.N) (r : Fin 1024) (k : Fin 1024) :
    (iblk m c 0 t : S1024x1024.Idx → EReal) (ix2 r k) = A0 m c (ix2 (Rows.row (T := 8192) rfl t r) k) := by
  blk_ext [at0_0, iblk]

theorem blk1 (c : Dev nD) (t : Fin cfg0.N) (r : Fin 1024) (k : Fin 512) :
    (iblk m c 1 t : S1024x512.Idx → EReal) (ix2 r k) = A1 m c (ix2 (Rows.row (T := 8192) rfl t r) k) := by
  blk_ext [at0_1, iblk]

theorem blk2 (c : Dev nD) (t : Fin cfg0.N) (r : Fin 1024) (k : Fin 512) :
    (iblk m c 2 t : S1024x512.Idx → EReal) (ix2 r k) = A2 m c (ix2 (Rows.row (T := 8192) rfl t r) k) := by
  blk_ext [at0_2, iblk]

theorem blk3 (c : Dev nD) (t : Fin cfg0.N) (r : Fin 1024) (k : Fin 1024) :
    (iblk m c 3 t : S1024x1024.Idx → EReal) (ix2 r k) = A3 m c (ix2 r k) := by
  blk_ext [at0_3, iblk]

theorem blk4 (c : Dev nD) (t : Fin cfg0.N) (r : Fin 512) (k : Fin 512) :
    (iblk m c 4 t : S512x512.Idx → EReal) (ix2 r k) = A4 m c (ix2 r k) := by
  blk_ext [at0_4, iblk]

theorem blk5 (c : Dev nD) (t : Fin cfg0.N) (r : Fin 1) (k : Fin 512) :
    (iblk m c 5 t : S1x512.Idx → EReal) (ix2 r k) = A5 m c (ix2 r k) := by
  blk_ext [at0_5, iblk]

theorem blk6 (c : Dev nD) (t : Fin cfg0.N) (r : Fin 1) (k : Fin 512) :
    (iblk m c 6 t : S1x512.Idx → EReal) (ix2 r k) = A6 m c (ix2 r k) := by
  blk_ext [at0_6, iblk]

theorem blk7 (c : Dev nD) (t : Fin cfg0.N) (r : Fin 1) (k : Fin 512) :
    (iblk m c 7 t : S1x512.Idx → EReal) (ix2 r k) = A7 m c (ix2 r k) := by
  blk_ext [at0_7, iblk]

/-- Element `(R, q)` of result `8`. -/
@[irreducible] def res8 (c : Dev nD) (R : Fin 8192) (q : Fin 512) : EReal :=
  dattn (fun k => A0 m c (ix2 R k)) (fun k => A1 m c (ix2 R k)) (fun k => A2 m c (ix2 R k)) (fun a b => A3 m c (ix2 a b)) (fun a b => A4 m c (ix2 a b)) (fun a b => A5 m c (ix2 a b)) (fun a b => A6 m c (ix2 a b)) (fun a b => A7 m c (ix2 a b)) q

/-- Result `8`. -/
def G8 (c : Dev nD) : Vec Ideal S8192x512 .f32 := fun i => res8 m c (i 0) (i 1)

/-- Element `(R, q)` of result `10`. -/
@[irreducible] def res10 (c : Dev nD) (R : Fin 8192) (q : Fin 512) : EReal :=
  dz (fun k => A0 m c (ix2 R k)) (fun k => A1 m c (ix2 R k)) (fun k => A2 m c (ix2 R k)) (fun a b => A3 m c (ix2 a b)) (fun a b => A4 m c (ix2 a b)) (fun a b => A5 m c (ix2 a b)) (fun a b => A6 m c (ix2 a b)) (fun a b => A7 m c (ix2 a b)) q

/-- Result `10`. -/
def G10 (c : Dev nD) : Vec Ideal S8192x512 .bf16 := fun i => res10 m c (i 0) (i 1)

/-- Element `(R, q)` of the summands of result `11`. -/
@[irreducible] def term11 (c : Dev nD) (R : Fin 8192) (q : Fin 512) : EReal :=
  dga (fun k => A0 m c (ix2 R k)) (fun k => A1 m c (ix2 R k)) (fun k => A2 m c (ix2 R k)) (fun a b => A3 m c (ix2 a b)) (fun a b => A4 m c (ix2 a b)) (fun a b => A5 m c (ix2 a b)) (fun a b => A6 m c (ix2 a b)) (fun a b => A7 m c (ix2 a b)) q

/-- Its sum over the rows. -/
def acc11 (c : Dev nD) (q : Fin 512) : EReal := ∑ R : Fin 8192, term11 m c R q

/-- Result `11`. -/
def G11 (c : Dev nD) : Vec Ideal S1x512 .f32 := fun i => acc11 m c (i 1)

theorem G11_apply (c : Dev nD) (p : Fin 1) (q : Fin 512) : G11 m c (ix2 p q) = acc11 m c q := rfl

/-- Element `(R, q)` of the summands of result `12`. -/
@[irreducible] def term12 (c : Dev nD) (R : Fin 8192) (q : Fin 512) : EReal :=
  dgs (fun k => A0 m c (ix2 R k)) (fun k => A1 m c (ix2 R k)) (fun k => A2 m c (ix2 R k)) (fun a b => A3 m c (ix2 a b)) (fun a b => A4 m c (ix2 a b)) (fun a b => A5 m c (ix2 a b)) (fun a b => A6 m c (ix2 a b)) (fun a b => A7 m c (ix2 a b)) q

/-- Its sum over the rows. -/
def acc12 (c : Dev nD) (q : Fin 512) : EReal := ∑ R : Fin 8192, term12 m c R q

/-- Result `12`. -/
def G12 (c : Dev nD) : Vec Ideal S1x512 .f32 := fun i => acc12 m c (i 1)

theorem G12_apply (c : Dev nD) (p : Fin 1) (q : Fin 512) : G12 m c (ix2 p q) = acc12 m c q := rfl

/-- Element `(R, q)` of the summands of result `13`. -/
@[irreducible] def term13 (c : Dev nD) (R : Fin 8192) (q : Fin 512) : EReal :=
  dz (fun k => A0 m c (ix2 R k)) (fun k => A1 m c (ix2 R k)) (fun k => A2 m c (ix2 R k)) (fun a b => A3 m c (ix2 a b)) (fun a b => A4 m c (ix2 a b)) (fun a b => A5 m c (ix2 a b)) (fun a b => A6 m c (ix2 a b)) (fun a b => A7 m c (ix2 a b)) q

/-- Its sum over the rows. -/
def acc13 (c : Dev nD) (q : Fin 512) : EReal := ∑ R : Fin 8192, term13 m c R q

/-- Result `13`. -/
def G13 (c : Dev nD) : Vec Ideal S1x512 .f32 := fun i => acc13 m c (i 1)

theorem G13_apply (c : Dev nD) (p : Fin 1) (q : Fin 512) : G13 m c (ix2 p q) = acc13 m c q := rfl

theorem stepA (c : Dev nD) (t : Fin cfg0.N) (h0 : t.val % 8 = 0) (h1 : ¬1 ≤ t.val) :
    (∀ (r : Fin 1024) (q : Fin 512), ((outsAt0 m c t.val t.isLt).1 : S1024x512.Idx → EReal) (ix2 r q) = res8 m c (Rows.row (T := 8192) rfl t r) q)
      ∧ (∀ (r : Fin 1024) (q : Fin 512), ((outsAt0 m c t.val t.isLt).2.2.1 : S1024x512.Idx → EReal) (ix2 r q) = res10 m c (Rows.row (T := 8192) rfl t r) q)
      ∧ (∀ (q : Fin 512), ((outsAt0 m c t.val t.isLt).2.2.2.1 : S1x512.Idx → EReal) (ix2 0 q) = ∑ r : Fin 1024, term11 m c (Rows.row (N := 8) (T := 8192) rfl t r) q)
      ∧ (∀ (q : Fin 512), ((outsAt0 m c t.val t.isLt).2.2.2.2.1 : S1x512.Idx → EReal) (ix2 0 q) = ∑ r : Fin 1024, term12 m c (Rows.row (N := 8) (T := 8192) rfl t r) q)
      ∧ (∀ (q : Fin 512), ((outsAt0 m c t.val t.isLt).2.2.2.2.2 : S1x512.Idx → EReal) (ix2 0 q) = ∑ r : Fin 1024, term13 m c (Rows.row (N := 8) (T := 8192) rfl t r) q) := by
  rw [outsAt0_A m c t h0 h1]
  refine ⟨fun r q => ?_, fun r q => ?_, fun q => ?_, fun q => ?_, fun q => ?_⟩
  all_goals
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, Rows.rmsBwd, Rows.irms, Rows.msq, Rows.gelu, dm, gate, unit, dunit, dattn, dz, dga, dgs, res8, res10, term11, term12, term13]
    simp only [blk0 m c t, blk1 m c t, blk2 m c t, blk3 m c t, blk4 m c t, blk5 m c t, blk6 m c t, blk7 m c t]

theorem stepB (c : Dev nD) (t : Fin cfg0.N) (h0 : ¬t.val % 8 = 0) (h1 : 1 ≤ t.val) :
    (∀ (r : Fin 1024) (q : Fin 512), ((outsAt0 m c t.val t.isLt).1 : S1024x512.Idx → EReal) (ix2 r q) = res8 m c (Rows.row (T := 8192) rfl t r) q)
      ∧ (∀ (r : Fin 1024) (q : Fin 512), ((outsAt0 m c t.val t.isLt).2.2.1 : S1024x512.Idx → EReal) (ix2 r q) = res10 m c (Rows.row (T := 8192) rfl t r) q)
      ∧ (∀ (q : Fin 512), ((outsAt0 m c t.val t.isLt).2.2.2.1 : S1x512.Idx → EReal) (ix2 0 q) = ((outsAt0 m c (t.val - 1) (Nat.lt_of_le_of_lt (Nat.sub_le _ _) t.isLt)).2.2.2.1 : S1x512.Idx → EReal) (ix2 0 q) + ∑ r : Fin 1024, term11 m c (Rows.row (N := 8) (T := 8192) rfl t r) q)
      ∧ (∀ (q : Fin 512), ((outsAt0 m c t.val t.isLt).2.2.2.2.1 : S1x512.Idx → EReal) (ix2 0 q) = ((outsAt0 m c (t.val - 1) (Nat.lt_of_le_of_lt (Nat.sub_le _ _) t.isLt)).2.2.2.2.1 : S1x512.Idx → EReal) (ix2 0 q) + ∑ r : Fin 1024, term12 m c (Rows.row (N := 8) (T := 8192) rfl t r) q)
      ∧ (∀ (q : Fin 512), ((outsAt0 m c t.val t.isLt).2.2.2.2.2 : S1x512.Idx → EReal) (ix2 0 q) = ((outsAt0 m c (t.val - 1) (Nat.lt_of_le_of_lt (Nat.sub_le _ _) t.isLt)).2.2.2.2.2 : S1x512.Idx → EReal) (ix2 0 q) + ∑ r : Fin 1024, term13 m c (Rows.row (N := 8) (T := 8192) rfl t r) q) := by
  rw [outsAt0_B m c t h0 h1]
  refine ⟨fun r q => ?_, fun r q => ?_, fun q => ?_, fun q => ?_, fun q => ?_⟩
  all_goals
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, Rows.rmsBwd, Rows.irms, Rows.msq, Rows.gelu, dm, gate, unit, dunit, dattn, dz, dga, dgs, res8, res10, term11, term12, term13]
    simp only [blk0 m c t, blk1 m c t, blk2 m c t, blk3 m c t, blk4 m c t, blk5 m c t, blk6 m c t, blk7 m c t]

theorem final8 (c : Dev nD) : (dats m 0 c).arrAt 8 cfg0.N = G8 m c := by
  refine (dats m 0 c).arrAt_eq_of_covers 8 _ (by decide +kernel) fun t hf y => ?_
  have ht : t.val < 8 := lt_of_lt_of_eq t.isLt (show cfg0.N = 8 from N_0)
  have h : ∀ (r : Fin 1024) (q : Fin 512), ((outsAt0 m c t.val t.isLt).1 : S1024x512.Idx → EReal) (ix2 r q) = res8 m c (Rows.row (T := 8192) rfl t r) q := fun r q => by
    by_cases h0 : t.val = 0
    · exact (stepA m c t (by omega) (by omega)).1 r q
    · exact (stepB m c t (by omega) (by omega)).1 r q
  blk_simp
  rw [after0_8]
  generalize (outsAt0 m c t.val t.isLt).1 = o at h ⊢
  refine (congrArg o (funext fun a => ?_)).trans ((h (y 0) (y 1)).trans ?_)
  · fin_cases a <;> rfl
  · show res8 m c _ _ = res8 m c _ _
    congr 1 <;> (apply Fin.ext; blk_simp [at0_8]; try simp [Nat.mul_comm])

theorem final10 (c : Dev nD) : (dats m 0 c).arrAt 10 cfg0.N = G10 m c := by
  refine (dats m 0 c).arrAt_eq_of_covers 10 _ (by decide +kernel) fun t hf y => ?_
  have ht : t.val < 8 := lt_of_lt_of_eq t.isLt (show cfg0.N = 8 from N_0)
  have h : ∀ (r : Fin 1024) (q : Fin 512), ((outsAt0 m c t.val t.isLt).2.2.1 : S1024x512.Idx → EReal) (ix2 r q) = res10 m c (Rows.row (T := 8192) rfl t r) q := fun r q => by
    by_cases h0 : t.val = 0
    · exact (stepA m c t (by omega) (by omega)).2.1 r q
    · exact (stepB m c t (by omega) (by omega)).2.1 r q
  blk_simp
  rw [after0_10]
  generalize (outsAt0 m c t.val t.isLt).2.2.1 = o at h ⊢
  refine (congrArg o (funext fun a => ?_)).trans ((h (y 0) (y 1)).trans ?_)
  · fin_cases a <;> rfl
  · show res10 m c _ _ = res10 m c _ _
    congr 1 <;> (apply Fin.ext; blk_simp [at0_10]; try simp [Nat.mul_comm])

theorem last11 (c : Dev nD) (h : 7 < cfg0.N) (q : Fin 512) : ((outsAt0 m c 7 h).2.2.2.1 : S1x512.Idx → EReal) (ix2 0 q) = acc11 m c q :=
  Rows.total (N := 8) (B := 1024) rfl (fun R => term11 m c R q) (fun n h => ((outsAt0 m c n h).2.2.2.1 : S1x512.Idx → EReal) (ix2 0 q))
    (fun h => (stepA m c ⟨0, h⟩ rfl (by dsimp only; omega)).2.2.1 q)
    (fun n h => (stepB m c ⟨n + 1, h⟩ (by dsimp only; omega) (by dsimp only; omega)).2.2.1 q) 7 h rfl

theorem final11 (c : Dev nD) : (dats m 0 c).arrAt 11 cfg0.N = G11 m c := by
  refine (dats m 0 c).arrAt_eq_of_covers 11 _ (by decide +kernel) fun t hf y => ?_
  have ht : t.val = 7 := by have := (flush0_11 t).mp hf; have := lt_of_lt_of_eq t.isLt (show cfg0.N = 8 from N_0); omega
  blk_simp
  rw [after0_11]
  obtain ⟨n, hn⟩ := t
  obtain rfl : n = 7 := ht
  have h := last11 m c hn
  dsimp only
  generalize (outsAt0 m c 7 hn).2.2.2.1 = o at h ⊢
  refine (congrArg o (funext fun a => ?_)).trans ((h (y 1)).trans ?_)
  · fin_cases a
    · exact Subsingleton.elim (α := Fin 1) _ _
    · rfl
  · show acc11 m c _ = acc11 m c _
    congr 1; apply Fin.ext; blk_simp; simp; exact congrFun (at0_11 ⟨7, hn⟩) 1

theorem last12 (c : Dev nD) (h : 7 < cfg0.N) (q : Fin 512) : ((outsAt0 m c 7 h).2.2.2.2.1 : S1x512.Idx → EReal) (ix2 0 q) = acc12 m c q :=
  Rows.total (N := 8) (B := 1024) rfl (fun R => term12 m c R q) (fun n h => ((outsAt0 m c n h).2.2.2.2.1 : S1x512.Idx → EReal) (ix2 0 q))
    (fun h => (stepA m c ⟨0, h⟩ rfl (by dsimp only; omega)).2.2.2.1 q)
    (fun n h => (stepB m c ⟨n + 1, h⟩ (by dsimp only; omega) (by dsimp only; omega)).2.2.2.1 q) 7 h rfl

theorem final12 (c : Dev nD) : (dats m 0 c).arrAt 12 cfg0.N = G12 m c := by
  refine (dats m 0 c).arrAt_eq_of_covers 12 _ (by decide +kernel) fun t hf y => ?_
  have ht : t.val = 7 := by have := (flush0_12 t).mp hf; have := lt_of_lt_of_eq t.isLt (show cfg0.N = 8 from N_0); omega
  blk_simp
  rw [after0_12]
  obtain ⟨n, hn⟩ := t
  obtain rfl : n = 7 := ht
  have h := last12 m c hn
  dsimp only
  generalize (outsAt0 m c 7 hn).2.2.2.2.1 = o at h ⊢
  refine (congrArg o (funext fun a => ?_)).trans ((h (y 1)).trans ?_)
  · fin_cases a
    · exact Subsingleton.elim (α := Fin 1) _ _
    · rfl
  · show acc12 m c _ = acc12 m c _
    congr 1; apply Fin.ext; blk_simp; simp; exact congrFun (at0_12 ⟨7, hn⟩) 1

theorem last13 (c : Dev nD) (h : 7 < cfg0.N) (q : Fin 512) : ((outsAt0 m c 7 h).2.2.2.2.2 : S1x512.Idx → EReal) (ix2 0 q) = acc13 m c q :=
  Rows.total (N := 8) (B := 1024) rfl (fun R => term13 m c R q) (fun n h => ((outsAt0 m c n h).2.2.2.2.2 : S1x512.Idx → EReal) (ix2 0 q))
    (fun h => (stepA m c ⟨0, h⟩ rfl (by dsimp only; omega)).2.2.2.2 q)
    (fun n h => (stepB m c ⟨n + 1, h⟩ (by dsimp only; omega) (by dsimp only; omega)).2.2.2.2 q) 7 h rfl

theorem final13 (c : Dev nD) : (dats m 0 c).arrAt 13 cfg0.N = G13 m c := by
  refine (dats m 0 c).arrAt_eq_of_covers 13 _ (by decide +kernel) fun t hf y => ?_
  have ht : t.val = 7 := by have := (flush0_13 t).mp hf; have := lt_of_lt_of_eq t.isLt (show cfg0.N = 8 from N_0); omega
  blk_simp
  rw [after0_13]
  obtain ⟨n, hn⟩ := t
  obtain rfl : n = 7 := ht
  have h := last13 m c hn
  dsimp only
  generalize (outsAt0 m c 7 hn).2.2.2.2.2 = o at h ⊢
  refine (congrArg o (funext fun a => ?_)).trans ((h (y 1)).trans ?_)
  · fin_cases a
    · exact Subsingleton.elim (α := Fin 1) _ _
    · rfl
  · show acc13 m c _ = acc13 m c _
    congr 1; apply Fin.ext; blk_simp; simp; exact congrFun (at0_13 ⟨7, hn⟩) 1

end Cert.MixIdeal.Body

end
-- ==== Proof.MixClaim.lean ====
/- The claim on the call `mix_bwd`: its results are the gradients of the mixed row's projection by the attention, by the gate's argument and its bias and by the two gains. -/
module

public import proofs.«01_k».proof.Defs
public import proofs.«01_k».proof.Proof.MixValue
public import proofs.«01_k».proof.Proof.Gen.MixRefIdeal
public import proofs.«01_k».proof.Proof.Gen.MixRefIdeal.Run
public import proofs.«01_k».proof.Proof.Gen.MixRefIdeal.Read

@[expose] public section

noncomputable section

open Idealize.ShloMosaic Idealize.ShloMosaic.TcCoe Idealize.SL.Sem Idealize.ShloMosaic.StableHlo

namespace Cert.MixRef

open Cert.MixRefIdeal Cert.MixRefIdeal.Read Cert.MixRefIdeal.Gen

/-- The unit's factor as the reference writes it. -/
def gelu' (x : EReal) : EReal :=
  x * (Ideal.ofBits .f32 0x3F000000#32 * (1 + Ideal.tanh (Ideal.ofBits .f32 0x3F4C422A#32 * (x + Ideal.ofBits .f32 0x3D372713#32 * (x * x * x)))))

/-- The gate as the reference writes it. -/
def gate' (y : Fin 512 → EReal) (wg : Fin 512 → Fin 512 → EReal) (b : Fin 512 → EReal) (q : Fin 512) : EReal :=
  Ideal.div 1 (1 + Ideal.exp (-(∑ k, gelu' (y k) * wg k q + b q)))

/-- The gated unit as the reference writes it. -/
def unit' (y : Fin 512 → EReal) (wg : Fin 512 → Fin 512 → EReal) (b : Fin 512 → EReal) (q : Fin 512) : EReal := gelu' (y q) * gate' y wg b q

theorem gelu_eq (x : EReal) : gelu' x = Rows.gelu x := Rows.gelu_eq _ _

theorem gate_eq (y : Fin 512 → EReal) (wg : Fin 512 → Fin 512 → EReal) (b : Fin 512 → EReal) (q : Fin 512) :
    gate' y wg b q = Cert.MixIdeal.Body.gate y wg (fun _ => b) q := by
  unfold gate' Cert.MixIdeal.Body.gate
  simp only [gelu_eq, Rows.logistic_eq]

theorem unit_eq (y : Fin 512 → EReal) (wg : Fin 512 → Fin 512 → EReal) (b : Fin 512 → EReal) :
    unit' y wg b = Cert.MixIdeal.Body.unit y wg (fun _ => b) := by
  funext q
  unfold unit' Cert.MixIdeal.Body.unit
  rw [gelu_eq, gate_eq]

theorem rot (a b c : EReal) : a * b * c = c * a * b := by rw [mul_comm, mul_assoc]

/-- The gradient by the gate's argument: the same product in another order. -/
theorem dz_eq (y : Fin 512 → EReal) (wg : Fin 512 → Fin 512 → EReal) (b g : Fin 512 → EReal) (q : Fin 512) :
    gelu' (y q) * Rows.rmsBwdDiff (unit' y wg b) g q * (gate' y wg b q * (1 - gate' y wg b q))
      = Rows.rmsBwd (Cert.MixIdeal.Body.unit y wg (fun _ => b)) g q * Rows.gelu (y q) * Cert.MixIdeal.Body.gate y wg (fun _ => b) q
        * (1 - Cert.MixIdeal.Body.gate y wg (fun _ => b) q) := by
  rw [Rows.rmsBwdDiff_eq, unit_eq, gelu_eq, gate_eq, mul_comm (Rows.gelu _), mul_assoc _ (Cert.MixIdeal.Body.gate _ _ _ _)]

theorem out0 (x0 : Vec Ideal S8192x512 .f32) (x1 : Vec Ideal S8192x512 .f32) (x2 : Vec Ideal S512x512 .f32) (x3 : Vec Ideal S512 .f32) (x4 : Vec Ideal S512 .f32) (x5 : Vec Ideal S512 .f32) (x6 : Vec Ideal S1024x1024 .f32) (x7 : Vec Ideal S8192x1024 .f32) (p : Fin 8192) (q : Fin 512) :
    val_main_v102 (F := Ideal) x0 x4 x6 x7 (ix2 p q) = Cert.MixIdeal.Body.dattn (fun k => x7 (ix2 p k)) (fun k => x0 (ix2 p k)) (fun k => x1 (ix2 p k)) (fun a b => x6 (ix2 a b)) (fun a b => x2 (ix2 a b)) (fun a b => x3 (ix1 b)) (fun a b => x4 (ix1 b)) (fun a b => x5 (ix1 b)) q := by
  have e : val_main_v102 (F := Ideal) x0 x4 x6 x7 (ix2 p q) = Rows.rmsBwdDiff (fun k => x0 (ix2 p k)) (fun k => Cert.MixIdeal.Body.dm (fun k => x7 (ix2 p k)) (fun a b => x6 (ix2 a b)) ⟨k.val, by omega⟩ * x4 (ix1 k)) q := by
    rw [← val_main_v102_eq]
    pointwise [Rows.rmsBwdDiff, Rows.irms, Rows.msq, unit', gate', gelu', Cert.MixIdeal.Body.dm]
  rw [e]
  unfold Cert.MixIdeal.Body.dattn
  exact Rows.rmsBwdDiff_eq _ _ q

theorem out1 (x0 : Vec Ideal S8192x512 .f32) (x1 : Vec Ideal S8192x512 .f32) (x2 : Vec Ideal S512x512 .f32) (x3 : Vec Ideal S512 .f32) (x4 : Vec Ideal S512 .f32) (x5 : Vec Ideal S512 .f32) (x6 : Vec Ideal S1024x1024 .f32) (x7 : Vec Ideal S8192x1024 .f32) (p : Fin 8192) (q : Fin 512) :
    val_main_v106 (F := Ideal) x1 x2 x3 x5 x6 x7 (ix2 p q) = Cert.MixIdeal.Body.dz (fun k => x7 (ix2 p k)) (fun k => x0 (ix2 p k)) (fun k => x1 (ix2 p k)) (fun a b => x6 (ix2 a b)) (fun a b => x2 (ix2 a b)) (fun a b => x3 (ix1 b)) (fun a b => x4 (ix1 b)) (fun a b => x5 (ix1 b)) q := by
  have e : val_main_v106 (F := Ideal) x1 x2 x3 x5 x6 x7 (ix2 p q) = gelu' (x1 (ix2 p q)) * Rows.rmsBwdDiff (unit' (fun k => x1 (ix2 p k)) (fun a b => x2 (ix2 a b)) (fun k => x3 (ix1 k))) (fun k => Cert.MixIdeal.Body.dm (fun k => x7 (ix2 p k)) (fun a b => x6 (ix2 a b)) ⟨512 + k.val, by omega⟩ * x5 (ix1 k)) q * (gate' (fun k => x1 (ix2 p k)) (fun a b => x2 (ix2 a b)) (fun k => x3 (ix1 k)) q * (1 - gate' (fun k => x1 (ix2 p k)) (fun a b => x2 (ix2 a b)) (fun k => x3 (ix1 k)) q)) := by
    pointwise [val_main_v0, val_main_v1, val_main_v2, val_main_cst, val_main_v3, val_main_v4, val_main_v5, val_main_cst_0, val_main_v6, val_main_v7, val_main_v8, val_main_cst_1, val_main_v9, val_main_v10, val_main_cst_2, val_main_v11, val_main_v12, val_main_v13, val_main_v14, val_main_v15, val_main_v16, val_main_v17, val_main_cst_3, val_main_v18, val_main_v19, val_main_cst_4, val_main_v20, val_main_v21, val_main_cst_5, val_main_v22, val_main_v23, val_main_v24, val_main_v25, val_main_v26, val_main_cst_6, val_main_v27, val_main_v28, val_main_cst_7, val_main_v29, val_main_v30, val_main_cst_8, val_main_v31, val_main_v32, val_main_cst_9, val_main_v33, val_main_v34, val_main_v35, val_main_v36, val_main_cst_10, val_main_v37, val_main_v38, val_main_v39, val_main_v40, val_main_v41, val_main_v42, val_main_v43, val_main_v44, val_main_cst_11, val_main_v45, val_main_v46, val_main_cst_12, val_main_v47, val_main_v48, val_main_cst_13, val_main_v49, val_main_v50, val_main_cst_14, val_main_v51, val_main_v52, val_main_v53, val_main_v54, val_main_cst_15, val_main_v55, val_main_v56, val_main_v57, val_main_v58, val_main_v59, val_main_v60, val_main_v61, val_main_v62, val_main_v63, val_main_v64, val_main_v65, val_main_v66, val_main_v67, val_main_cst_16, val_main_v68, val_main_v69, val_main_v70, val_main_v71, val_main_cst_17, val_main_v72, val_main_v73, val_main_cst_18, val_main_v74, val_main_v75, val_main_v76, val_main_v77, val_main_v78, val_main_cst_19, val_main_v79, val_main_v80, val_main_cst_20, val_main_v81, val_main_v82, val_main_v83, val_main_v84, val_main_v85, val_main_cst_21, val_main_v86, val_main_v87, val_main_v88, val_main_v89, val_main_cst_22, val_main_v90, val_main_v91, val_main_cst_23, val_main_v92, val_main_v93, val_main_v94, val_main_v95, val_main_v96, val_main_cst_24, val_main_v97, val_main_v98, val_main_cst_25, val_main_v99, val_main_v100, val_main_v101, val_main_v102, val_main_v103, val_main_v104, val_main_cst_26, val_main_v105, val_main_v106, val_main_v107, val_main_v108, val_main_v109, Rows.rmsBwdDiff, Rows.irms, Rows.msq, unit', gate', gelu', Cert.MixIdeal.Body.dm]
  rw [e]
  unfold Cert.MixIdeal.Body.dz Cert.MixIdeal.Body.dunit
  exact dz_eq (fun k => x1 (ix2 p k)) _ _ _ q

theorem out2 (x0 : Vec Ideal S8192x512 .f32) (x1 : Vec Ideal S8192x512 .f32) (x2 : Vec Ideal S512x512 .f32) (x3 : Vec Ideal S512 .f32) (x4 : Vec Ideal S512 .f32) (x5 : Vec Ideal S512 .f32) (x6 : Vec Ideal S1024x1024 .f32) (x7 : Vec Ideal S8192x1024 .f32) (p : Fin 1) (q : Fin 512) :
    val_main_v107 (F := Ideal) x0 x6 x7 (ix2 p q) = ∑ R : Fin 8192, Cert.MixIdeal.Body.dga (fun k => x7 (ix2 R k)) (fun k => x0 (ix2 R k)) (fun k => x1 (ix2 R k)) (fun a b => x6 (ix2 a b)) (fun a b => x2 (ix2 a b)) (fun a b => x3 (ix1 b)) (fun a b => x4 (ix1 b)) (fun a b => x5 (ix1 b)) q := by
  have e : val_main_v107 (F := Ideal) x0 x6 x7 (ix2 p q) = ∑ _ : Fin 1, ∑ R : Fin 8192, x0 (ix2 R q) * Rows.irms (fun k => x0 (ix2 R k)) * Cert.MixIdeal.Body.dm (fun k => x7 (ix2 R k)) (fun a b => x6 (ix2 a b)) ⟨q.val, by omega⟩ := by
    rw [← val_main_v107_eq]
    pointwise [Rows.rmsBwdDiff, Rows.irms, Rows.msq, unit', gate', gelu', Cert.MixIdeal.Body.dm]
  rw [e, Fin.sum_univ_one]
  unfold Cert.MixIdeal.Body.dga
  exact Finset.sum_congr rfl fun R _ => rot _ _ _

theorem out3 (x0 : Vec Ideal S8192x512 .f32) (x1 : Vec Ideal S8192x512 .f32) (x2 : Vec Ideal S512x512 .f32) (x3 : Vec Ideal S512 .f32) (x4 : Vec Ideal S512 .f32) (x5 : Vec Ideal S512 .f32) (x6 : Vec Ideal S1024x1024 .f32) (x7 : Vec Ideal S8192x1024 .f32) (p : Fin 1) (q : Fin 512) :
    val_main_v108 (F := Ideal) x1 x2 x3 x6 x7 (ix2 p q) = ∑ R : Fin 8192, Cert.MixIdeal.Body.dgs (fun k => x7 (ix2 R k)) (fun k => x0 (ix2 R k)) (fun k => x1 (ix2 R k)) (fun a b => x6 (ix2 a b)) (fun a b => x2 (ix2 a b)) (fun a b => x3 (ix1 b)) (fun a b => x4 (ix1 b)) (fun a b => x5 (ix1 b)) q := by
  have e : val_main_v108 (F := Ideal) x1 x2 x3 x6 x7 (ix2 p q) = ∑ _ : Fin 1, ∑ R : Fin 8192, unit' (fun k => x1 (ix2 R k)) (fun a b => x2 (ix2 a b)) (fun k => x3 (ix1 k)) q * Rows.irms (unit' (fun k => x1 (ix2 R k)) (fun a b => x2 (ix2 a b)) (fun k => x3 (ix1 k))) * Cert.MixIdeal.Body.dm (fun k => x7 (ix2 R k)) (fun a b => x6 (ix2 a b)) ⟨512 + q.val, by omega⟩ := by
    pointwise [val_main_v0, val_main_v1, val_main_v2, val_main_cst, val_main_v3, val_main_v4, val_main_v5, val_main_cst_0, val_main_v6, val_main_v7, val_main_v8, val_main_cst_1, val_main_v9, val_main_v10, val_main_cst_2, val_main_v11, val_main_v12, val_main_v13, val_main_v14, val_main_v15, val_main_v16, val_main_v17, val_main_cst_3, val_main_v18, val_main_v19, val_main_cst_4, val_main_v20, val_main_v21, val_main_cst_5, val_main_v22, val_main_v23, val_main_v24, val_main_v25, val_main_v26, val_main_cst_6, val_main_v27, val_main_v28, val_main_cst_7, val_main_v29, val_main_v30, val_main_cst_8, val_main_v31, val_main_v32, val_main_cst_9, val_main_v33, val_main_v34, val_main_v35, val_main_v36, val_main_cst_10, val_main_v37, val_main_v38, val_main_v39, val_main_v40, val_main_v41, val_main_v42, val_main_v43, val_main_v44, val_main_cst_11, val_main_v45, val_main_v46, val_main_cst_12, val_main_v47, val_main_v48, val_main_cst_13, val_main_v49, val_main_v50, val_main_cst_14, val_main_v51, val_main_v52, val_main_v53, val_main_v54, val_main_cst_15, val_main_v55, val_main_v56, val_main_v57, val_main_v58, val_main_v59, val_main_v60, val_main_v61, val_main_v62, val_main_v63, val_main_v64, val_main_v65, val_main_v66, val_main_v67, val_main_cst_16, val_main_v68, val_main_v69, val_main_v70, val_main_v71, val_main_cst_17, val_main_v72, val_main_v73, val_main_cst_18, val_main_v74, val_main_v75, val_main_v76, val_main_v77, val_main_v78, val_main_cst_19, val_main_v79, val_main_v80, val_main_cst_20, val_main_v81, val_main_v82, val_main_v83, val_main_v84, val_main_v85, val_main_cst_21, val_main_v86, val_main_v87, val_main_v88, val_main_v89, val_main_cst_22, val_main_v90, val_main_v91, val_main_cst_23, val_main_v92, val_main_v93, val_main_v94, val_main_v95, val_main_v96, val_main_cst_24, val_main_v97, val_main_v98, val_main_cst_25, val_main_v99, val_main_v100, val_main_v101, val_main_v102, val_main_v103, val_main_v104, val_main_cst_26, val_main_v105, val_main_v106, val_main_v107, val_main_v108, val_main_v109, Rows.rmsBwdDiff, Rows.irms, Rows.msq, unit', gate', gelu', Cert.MixIdeal.Body.dm]
  rw [e, Fin.sum_univ_one]
  unfold Cert.MixIdeal.Body.dgs
  simp only [rot, unit_eq]

theorem out4 (x0 : Vec Ideal S8192x512 .f32) (x1 : Vec Ideal S8192x512 .f32) (x2 : Vec Ideal S512x512 .f32) (x3 : Vec Ideal S512 .f32) (x4 : Vec Ideal S512 .f32) (x5 : Vec Ideal S512 .f32) (x6 : Vec Ideal S1024x1024 .f32) (x7 : Vec Ideal S8192x1024 .f32) (p : Fin 1) (q : Fin 512) :
    val_main_v109 (F := Ideal) x1 x2 x3 x5 x6 x7 (ix2 p q) = ∑ R : Fin 8192, Cert.MixIdeal.Body.dz (fun k => x7 (ix2 R k)) (fun k => x0 (ix2 R k)) (fun k => x1 (ix2 R k)) (fun a b => x6 (ix2 a b)) (fun a b => x2 (ix2 a b)) (fun a b => x3 (ix1 b)) (fun a b => x4 (ix1 b)) (fun a b => x5 (ix1 b)) q := by
  have e : val_main_v109 (F := Ideal) x1 x2 x3 x5 x6 x7 (ix2 p q) = ∑ R : Fin 8192, gelu' (x1 (ix2 R q)) * Rows.rmsBwdDiff (unit' (fun k => x1 (ix2 R k)) (fun a b => x2 (ix2 a b)) (fun k => x3 (ix1 k))) (fun k => Cert.MixIdeal.Body.dm (fun k => x7 (ix2 R k)) (fun a b => x6 (ix2 a b)) ⟨512 + k.val, by omega⟩ * x5 (ix1 k)) q * (gate' (fun k => x1 (ix2 R k)) (fun a b => x2 (ix2 a b)) (fun k => x3 (ix1 k)) q * (1 - gate' (fun k => x1 (ix2 R k)) (fun a b => x2 (ix2 a b)) (fun k => x3 (ix1 k)) q)) := by
    pointwise [val_main_v0, val_main_v1, val_main_v2, val_main_cst, val_main_v3, val_main_v4, val_main_v5, val_main_cst_0, val_main_v6, val_main_v7, val_main_v8, val_main_cst_1, val_main_v9, val_main_v10, val_main_cst_2, val_main_v11, val_main_v12, val_main_v13, val_main_v14, val_main_v15, val_main_v16, val_main_v17, val_main_cst_3, val_main_v18, val_main_v19, val_main_cst_4, val_main_v20, val_main_v21, val_main_cst_5, val_main_v22, val_main_v23, val_main_v24, val_main_v25, val_main_v26, val_main_cst_6, val_main_v27, val_main_v28, val_main_cst_7, val_main_v29, val_main_v30, val_main_cst_8, val_main_v31, val_main_v32, val_main_cst_9, val_main_v33, val_main_v34, val_main_v35, val_main_v36, val_main_cst_10, val_main_v37, val_main_v38, val_main_v39, val_main_v40, val_main_v41, val_main_v42, val_main_v43, val_main_v44, val_main_cst_11, val_main_v45, val_main_v46, val_main_cst_12, val_main_v47, val_main_v48, val_main_cst_13, val_main_v49, val_main_v50, val_main_cst_14, val_main_v51, val_main_v52, val_main_v53, val_main_v54, val_main_cst_15, val_main_v55, val_main_v56, val_main_v57, val_main_v58, val_main_v59, val_main_v60, val_main_v61, val_main_v62, val_main_v63, val_main_v64, val_main_v65, val_main_v66, val_main_v67, val_main_cst_16, val_main_v68, val_main_v69, val_main_v70, val_main_v71, val_main_cst_17, val_main_v72, val_main_v73, val_main_cst_18, val_main_v74, val_main_v75, val_main_v76, val_main_v77, val_main_v78, val_main_cst_19, val_main_v79, val_main_v80, val_main_cst_20, val_main_v81, val_main_v82, val_main_v83, val_main_v84, val_main_v85, val_main_cst_21, val_main_v86, val_main_v87, val_main_v88, val_main_v89, val_main_cst_22, val_main_v90, val_main_v91, val_main_cst_23, val_main_v92, val_main_v93, val_main_v94, val_main_v95, val_main_v96, val_main_cst_24, val_main_v97, val_main_v98, val_main_cst_25, val_main_v99, val_main_v100, val_main_v101, val_main_v102, val_main_v103, val_main_v104, val_main_cst_26, val_main_v105, val_main_v106, val_main_v107, val_main_v108, val_main_v109, Rows.rmsBwdDiff, Rows.irms, Rows.msq, unit', gate', gelu', Cert.MixIdeal.Body.dm]
  rw [e]
  unfold Cert.MixIdeal.Body.dz Cert.MixIdeal.Body.dunit
  exact Finset.sum_congr rfl fun R _ => dz_eq (fun k => x1 (ix2 R k)) _ _ _ q

end Cert.MixRef

namespace Cert.MixIdeal.Body

open Cert.MixIdeal Cert.MixIdeal.Gen

variable (m : (ℓ : Loc nD τ sig) → Buf (Elt Ideal) ℓ)

/-- Argument `0`. -/
abbrev x0 (c : Dev nD) : Vec Ideal S8192x512 .f32 := m ((c : Thread nD τ).loc main_arg0)

/-- Argument `1`. -/
abbrev x1 (c : Dev nD) : Vec Ideal S8192x512 .f32 := m ((c : Thread nD τ).loc main_arg1)

/-- Argument `2`. -/
abbrev x2 (c : Dev nD) : Vec Ideal S512x512 .f32 := m ((c : Thread nD τ).loc main_arg2)

/-- Argument `3`. -/
abbrev x3 (c : Dev nD) : Vec Ideal S512 .f32 := m ((c : Thread nD τ).loc main_arg3)

/-- Argument `4`. -/
abbrev x4 (c : Dev nD) : Vec Ideal S512 .f32 := m ((c : Thread nD τ).loc main_arg4)

/-- Argument `5`. -/
abbrev x5 (c : Dev nD) : Vec Ideal S512 .f32 := m ((c : Thread nD τ).loc main_arg5)

/-- Argument `6`. -/
abbrev x6 (c : Dev nD) : Vec Ideal S1024x1024 .f32 := m ((c : Thread nD τ).loc main_arg6)

/-- Argument `7`. -/
abbrev x7 (c : Dev nD) : Vec Ideal S8192x1024 .f32 := m ((c : Thread nD τ).loc main_arg7)

theorem read0 (c : Dev nD) (R : Fin 8192) (k : Fin 1024) : A0 m c (ix2 R k) = x7 m c (ix2 R k) := by
  unfold A0 V
  simp only [hostOps0, List.flatten_cons, List.flatten_nil, List.append_nil, List.cons_append, List.nil_append,
    TRef.binary, TRef.nullary, TRef.unary, TRef.toBuf, TRef.ofBuf, cast_eq]
  after_results_simp
  try pointwise []

theorem read1 (c : Dev nD) (R : Fin 8192) (k : Fin 512) : A1 m c (ix2 R k) = x0 m c (ix2 R k) := by
  unfold A1 V
  simp only [hostOps0, List.flatten_cons, List.flatten_nil, List.append_nil, List.cons_append, List.nil_append,
    TRef.binary, TRef.nullary, TRef.unary, TRef.toBuf, TRef.ofBuf, cast_eq]
  after_results_simp
  try pointwise []

theorem read2 (c : Dev nD) (R : Fin 8192) (k : Fin 512) : A2 m c (ix2 R k) = x1 m c (ix2 R k) := by
  unfold A2 V
  simp only [hostOps0, List.flatten_cons, List.flatten_nil, List.append_nil, List.cons_append, List.nil_append,
    TRef.binary, TRef.nullary, TRef.unary, TRef.toBuf, TRef.ofBuf, cast_eq]
  after_results_simp
  try pointwise []

theorem read3 (c : Dev nD) (a : Fin 1024) (b : Fin 1024) : A3 m c (ix2 a b) = x6 m c (ix2 a b) := by
  unfold A3 V
  simp only [hostOps0, List.flatten_cons, List.flatten_nil, List.append_nil, List.cons_append, List.nil_append,
    TRef.binary, TRef.nullary, TRef.unary, TRef.toBuf, TRef.ofBuf, cast_eq]
  after_results_simp
  try pointwise []

theorem read4 (c : Dev nD) (a : Fin 512) (b : Fin 512) : A4 m c (ix2 a b) = x2 m c (ix2 a b) := by
  unfold A4 V
  simp only [hostOps0, List.flatten_cons, List.flatten_nil, List.append_nil, List.cons_append, List.nil_append,
    TRef.binary, TRef.nullary, TRef.unary, TRef.toBuf, TRef.ofBuf, cast_eq]
  after_results_simp
  try pointwise []

theorem read5 (c : Dev nD) (a : Fin 1) (b : Fin 512) : A5 m c (ix2 a b) = x3 m c (ix1 b) := by
  unfold A5 V
  simp only [hostOps0, List.flatten_cons, List.flatten_nil, List.append_nil, List.cons_append, List.nil_append,
    TRef.binary, TRef.nullary, TRef.unary, TRef.toBuf, TRef.ofBuf, cast_eq]
  after_results_simp
  try pointwise []

theorem read6 (c : Dev nD) (a : Fin 1) (b : Fin 512) : A6 m c (ix2 a b) = x4 m c (ix1 b) := by
  unfold A6 V
  simp only [hostOps0, List.flatten_cons, List.flatten_nil, List.append_nil, List.cons_append, List.nil_append,
    TRef.binary, TRef.nullary, TRef.unary, TRef.toBuf, TRef.ofBuf, cast_eq]
  after_results_simp
  try pointwise []

theorem read7 (c : Dev nD) (a : Fin 1) (b : Fin 512) : A7 m c (ix2 a b) = x5 m c (ix1 b) := by
  unfold A7 V
  simp only [hostOps0, List.flatten_cons, List.flatten_nil, List.append_nil, List.cons_append, List.nil_append,
    TRef.binary, TRef.nullary, TRef.unary, TRef.toBuf, TRef.ofBuf, cast_eq]
  after_results_simp
  try pointwise []

theorem val8 (c : Dev nD) : G8 m c = Cert.MixRefIdeal.Read.val_main_v102 (F := Ideal) (x0 m c) (x4 m c) (x6 m c) (x7 m c) := by
  funext i
  obtain ⟨p, q, rfl⟩ : ∃ (p : Fin 8192) (q : Fin 512), i = ix2 p q := ⟨i 0, i 1, eq_ix2 i⟩
  refine Eq.trans ?_ (Cert.MixRef.out0 (x0 m c) (x1 m c) (x2 m c) (x3 m c) (x4 m c) (x5 m c) (x6 m c) (x7 m c) p q).symm
  show res8 m c p q = _
  unfold res8
  simp only [read0 m, read1 m, read2 m, read3 m, read4 m, read5 m, read6 m, read7 m]

theorem val10 (c : Dev nD) : G10 m c = Cert.MixRefIdeal.Read.val_main_v106 (F := Ideal) (x1 m c) (x2 m c) (x3 m c) (x5 m c) (x6 m c) (x7 m c) := by
  funext i
  obtain ⟨p, q, rfl⟩ : ∃ (p : Fin 8192) (q : Fin 512), i = ix2 p q := ⟨i 0, i 1, eq_ix2 i⟩
  refine Eq.trans ?_ (Cert.MixRef.out1 (x0 m c) (x1 m c) (x2 m c) (x3 m c) (x4 m c) (x5 m c) (x6 m c) (x7 m c) p q).symm
  show res10 m c p q = _
  unfold res10
  simp only [read0 m, read1 m, read2 m, read3 m, read4 m, read5 m, read6 m, read7 m]

theorem val11 (c : Dev nD) : G11 m c = Cert.MixRefIdeal.Read.val_main_v107 (F := Ideal) (x0 m c) (x6 m c) (x7 m c) := by
  funext i
  obtain ⟨p, q, rfl⟩ : ∃ (p : Fin 1) (q : Fin 512), i = ix2 p q := ⟨i 0, i 1, eq_ix2 i⟩
  refine Eq.trans ?_ (Cert.MixRef.out2 (x0 m c) (x1 m c) (x2 m c) (x3 m c) (x4 m c) (x5 m c) (x6 m c) (x7 m c) p q).symm
  show acc11 m c q = _
  unfold acc11 term11
  simp only [read0 m, read1 m, read2 m, read3 m, read4 m, read5 m, read6 m, read7 m]

theorem val12 (c : Dev nD) : G12 m c = Cert.MixRefIdeal.Read.val_main_v108 (F := Ideal) (x1 m c) (x2 m c) (x3 m c) (x6 m c) (x7 m c) := by
  funext i
  obtain ⟨p, q, rfl⟩ : ∃ (p : Fin 1) (q : Fin 512), i = ix2 p q := ⟨i 0, i 1, eq_ix2 i⟩
  refine Eq.trans ?_ (Cert.MixRef.out3 (x0 m c) (x1 m c) (x2 m c) (x3 m c) (x4 m c) (x5 m c) (x6 m c) (x7 m c) p q).symm
  show acc12 m c q = _
  unfold acc12 term12
  simp only [read0 m, read1 m, read2 m, read3 m, read4 m, read5 m, read6 m, read7 m]

theorem val13 (c : Dev nD) : G13 m c = Cert.MixRefIdeal.Read.val_main_v109 (F := Ideal) (x1 m c) (x2 m c) (x3 m c) (x5 m c) (x6 m c) (x7 m c) := by
  funext i
  obtain ⟨p, q, rfl⟩ : ∃ (p : Fin 1) (q : Fin 512), i = ix2 p q := ⟨i 0, i 1, eq_ix2 i⟩
  refine Eq.trans ?_ (Cert.MixRef.out4 (x0 m c) (x1 m c) (x2 m c) (x3 m c) (x4 m c) (x5 m c) (x6 m c) (x7 m c) p q).symm
  show acc13 m c q = _
  unfold acc13 term13
  simp only [read0 m, read1 m, read2 m, read3 m, read4 m, read5 m, read6 m, read7 m]

theorem algebraic : Cert.algebraic_MixIdeal_MixRefIdeal := by
  intro m g m' g' hpre hag
  refine ⟨fun c => G8 m c, fun c => G10 m c, fun c => G11 m c, fun c => G12 m c, fun c => G13 m c, ?_, ?_⟩
  · exact (θ_run defs _ _).mono (fun r h c => ⟨(h c).1.trans (final8 m c), (h c).2.2.1.trans (final10 m c), (h c).2.2.2.1.trans (final11 m c), (h c).2.2.2.2.1.trans (final12 m c), (h c).2.2.2.2.2.1.trans (final13 m c), (h c).2.2.2.2.2.2⟩) (Value.run_blocks m g)
  · refine (θ_run Cert.MixRefIdeal.defs _ _).mono (fun r h c => ⟨(h c).1.trans ?_, (h c).2.1.trans ?_, (h c).2.2.1.trans ?_, (h c).2.2.2.1.trans ?_, (h c).2.2.2.2.1.trans ?_, (h c).2.2.2.2.2⟩) (Cert.MixRefIdeal.Value.run m' g')
    · obtain ⟨h0, h1, h2, h3, h4, h5, h6, h7⟩ := hag c
      refine (Cert.MixRefIdeal.Read.val_main_v102_eq _ _ _ _).trans ?_
      rw [h0, h4, h6, h7]
      exact (val8 m c).symm
    · obtain ⟨h0, h1, h2, h3, h4, h5, h6, h7⟩ := hag c
      refine (Cert.MixRefIdeal.Read.val_main_v106_eq m' c).trans ?_
      rw [h1, h2, h3, h5, h6, h7]
      exact (val10 m c).symm
    · obtain ⟨h0, h1, h2, h3, h4, h5, h6, h7⟩ := hag c
      refine (Cert.MixRefIdeal.Read.val_main_v107_eq _ _ _).trans ?_
      rw [h0, h6, h7]
      exact (val11 m c).symm
    · obtain ⟨h0, h1, h2, h3, h4, h5, h6, h7⟩ := hag c
      refine (Cert.MixRefIdeal.Read.val_main_v108_eq m' c).trans ?_
      rw [h1, h2, h3, h6, h7]
      exact (val12 m c).symm
    · obtain ⟨h0, h1, h2, h3, h4, h5, h6, h7⟩ := hag c
      refine (Cert.MixRefIdeal.Read.val_main_v109_eq m' c).trans ?_
      rw [h1, h2, h3, h5, h6, h7]
      exact (val13 m c).symm

end Cert.MixIdeal.Body

end
-- ==== Proof.Slab.lean ====
/- Loads and writes of one slab of an array of slabs. -/
module

public import Idealize.ShloMosaic.Lib.Pipeline.Value
public import Idealize.ShloMosaic.Lib.Pointwise
public import Idealize.ShloMosaic.Lib.Tactic

@[expose] public section

noncomputable section

open Idealize.ShloMosaic Idealize.ShloMosaic.TcCoe

namespace Rows

/-- Where the newest write is slab `k`, slab `k` reads its payload. -/
theorem slab_hit {n A B : ℕ} {e : EltTy} (k : ℕ) (hk : k < n) (inb) (w : (⟨3, ![1, A, B]⟩ : Shape).Idx → Elt Ideal e)
    (L : List (View.Piece (Elt Ideal) (⟨3, ![n, A, B]⟩ : Shape) e)) (a : Fin A) (b : Fin B) :
    View.canon ((⟨Rect.unit (s := ⟨3, ![n, A, B]⟩) ![k, 0, 0] ![1, A, B] inb, w⟩ : View.Piece (Elt Ideal) (⟨3, ![n, A, B]⟩ : Shape) e) :: L) (ix3 ⟨k, hk⟩ a b)
      = w (ix3 0 a b) := by
  refine Eq.trans (congrArg (View.canon _) (funext fun x => Fin.ext ?_))
    (View.canon_cons_emb (Rect.unit (s := ⟨3, ![n, A, B]⟩) ![k, 0, 0] ![1, A, B] inb) w L (ix3 0 a b))
  match x with
  | ⟨0, _⟩ => show k = k + 1 * 0; omega
  | ⟨1, _⟩ => show a.val = 0 + 1 * a.val; omega
  | ⟨2, _⟩ => show b.val = 0 + 1 * b.val; omega

/-- Another slab reads the older writes. -/
theorem slab_miss {n A B : ℕ} {e : EltTy} (k : ℕ) (inb) (w : (⟨3, ![1, A, B]⟩ : Shape).Idx → Elt Ideal e)
    (L : List (View.Piece (Elt Ideal) (⟨3, ![n, A, B]⟩ : Shape) e)) (j : Fin n) (a : Fin A) (b : Fin B) (h : j.val ≠ k) :
    View.canon ((⟨Rect.unit (s := ⟨3, ![n, A, B]⟩) ![k, 0, 0] ![1, A, B] inb, w⟩ : View.Piece (Elt Ideal) (⟨3, ![n, A, B]⟩ : Shape) e) :: L) (ix3 j a b)
      = View.canon L (ix3 j a b) := by
  refine View.canon_cons_of_not_mem _ L fun hm => h ?_
  have h0 := (Rect.mem_set_unit (s := ⟨3, ![n, A, B]⟩) (off := ![k, 0, 0]) (size := ![1, A, B]) (inb := inb)).mp hm (0 : Fin 3)
  have h1 : k ≤ j.val := h0.1
  have h2 : j.val < k + 1 := h0.2
  omega

/-- A load of slab `k` after the writes `L`. -/
theorem slab_read {n A B : ℕ} {e : EltTy} {sig : RefSig} {κ : Kind} {sp : Space} (v : View sig κ sp (⟨3, ![n, A, B]⟩ : Shape) e)
    (L : List (View.Piece (Elt Ideal) (⟨3, ![n, A, B]⟩ : Shape) e)) (k : ℕ) (hk : k < n) (inb) (a : Fin A) (b : Fin B) :
    View.readCov v L (Rect.unit (s := ⟨3, ![n, A, B]⟩) ![k, 0, 0] ![1, A, B] inb).toLoadRect (ix3 0 a b) = View.canon L (ix3 ⟨k, hk⟩ a b) := by
  rw [View.readCov_eq_canon']
  refine congrArg (View.canon L) (funext fun x => Fin.ext ?_)
  match x with
  | ⟨0, _⟩ => show k + 1 * 0 = k; omega
  | ⟨1, _⟩ => show 0 + 1 * a.val = a.val; omega
  | ⟨2, _⟩ => show 0 + 1 * b.val = b.val; omega

/-- A load of the whole array after the writes `L`. -/
theorem whole_read {n A B : ℕ} {e : EltTy} {sig : RefSig} {κ : Kind} {sp : Space} (v : View sig κ sp (⟨3, ![n, A, B]⟩ : Shape) e)
    (L : List (View.Piece (Elt Ideal) (⟨3, ![n, A, B]⟩ : Shape) e)) (inb) (j : Fin n) (a : Fin A) (b : Fin B) :
    View.readCov v L (Rect.unit (s := ⟨3, ![n, A, B]⟩) ![0, 0, 0] ![n, A, B] inb).toLoadRect (ix3 j a b) = View.canon L (ix3 j a b) := by
  rw [View.readCov_eq_canon']
  refine congrArg (View.canon L) (funext fun x => Fin.ext ?_)
  match x with
  | ⟨0, _⟩ => show 0 + 1 * j.val = j.val; omega
  | ⟨1, _⟩ => show 0 + 1 * a.val = a.val; omega
  | ⟨2, _⟩ => show 0 + 1 * b.val = b.val; omega

end Rows

end
-- ==== Proof.Wff2Value.lean ====
/- The values of the call `wgrad_ff2`: the gradient by `w_ff2`. -/
module

public import proofs.«01_k».proof.Proof.Base
public import proofs.«01_k».proof.Proof.Forms
public import proofs.«01_k».proof.Proof.Slab
public import proofs.«01_k».proof.Proof.Gen.Wff2Ideal.Value

@[expose] public section

noncomputable section

open Idealize.ShloMosaic Idealize.ShloMosaic.TcCoe Idealize.SL.Sem Idealize.ShloMosaic.StableHlo
open Idealize.ShloMosaic.Pipeline (Dat)

namespace Cert.Wff2Ideal.Body

open Cert.Wff2Ideal Cert.Wff2Ideal.Gen

/-- A row's part of the gradient. -/
def part (x : Fin 4096 → EReal) (d1 : Fin 1024 → EReal) (j : Fin 8) (a : Fin 512) (b : Fin 1024) : EReal :=
  x (Rows.row (N := 8) (B := 512) (T := 4096) rfl j a) * d1 b

/-- The first point leaves the sum over its rows. -/
theorem scr_A (c : Dev nD) (i : grid0.Coords) (a1 : Memref sig .tc .vmem S512x4096 .bf16) (h1 : a1.IsWhole) (a2 : Memref sig .tc .vmem S512x1024 .f32) (h2 : a2.IsWhole) (a3 : Memref sig .tc .vmem S8x512x1024 .bf16) (h3 : a3.IsWhole) (a4 : Memref sig .tc .vmem S8x512x1024 .f32) (h4 : a4.IsWhole) (hc0 : cond0_0 i) (hc1 : ¬cond0_1 i)
    (x0 : Vec Ideal S512x4096 .bf16) (x1 : Vec Ideal S512x1024 .f32) (j : Fin 8) (a : Fin 512) (b : Fin 1024) :
    sout0_A_0 c i a1 h1 a2 h2 a3 h3 a4 h4 hc0 hc1 x0 x1 (ix3 j a b) = ∑ r : Fin 512, part (fun k => x0 (ix2 r k)) (fun k => x1 (ix2 r k)) j a b := by
  unfold sout0_A_0
  rw [View.read_writes_eq_canon _ _ _ (scover0_A_0 c i a1 h1 a2 h2 a3 h3 a4 h4 hc0 hc1 x0 x1)]
  unfold kernelRun0_A
  dsimp only
  sl_unfold_words
  simp only [View.readAt_eq_ld, h1.read_unread, h2.read_unread, View.ld_unit_zero (S := S512x4096) Rows.hz2, View.ld_unit_zero (S := S512x1024) Rows.hz2]
  obtain ⟨n, hj⟩ := j
  interval_cases n
  all_goals
    repeat refine (Rows.slab_miss _ _ _ _ _ _ _ (by dsimp only; omega)).trans ?_
    refine (Rows.slab_hit _ hj _ _ _ a b).trans ?_
    generalize hy : View.readCov (Val := Elt Ideal) _ _ (Rect.unit (s := S8x512x1024) _ ![1, 512, 1024] _).toLoadRect = y
    suffices e : y (ix3 0 a b) = 0 by
      refine Eq.trans (?_ : _ = y (ix3 0 a b) + ∑ r : Fin 512, part (fun k => x0 (ix2 r k)) (fun k => x1 (ix2 r k)) ⟨_, hj⟩ a b) (by rw [e, zero_add])
      pointwise [k0_pay1, k0_pay2, k0_pay5, k0_pay6, k0_pay7, k0_pay8, k0_pay9, k0_pay10, k0_pay11, k0_pay12, k0_pay13, k0_pay14, k0_pay15, part]
      first
      | done
      | rfl
      | exact congrArg (fun s : EReal => y (ix3 0 a b) + s) (Finset.sum_congr rfl fun x _ => congrArg (fun k => x0 (ix2 x k) * x1 (ix2 x b)) (Fin.ext (by show a.val = 512 * 0 + a.val; omega)))
    rw [← hy]
    refine (Rows.slab_read _ _ _ hj _ a b).trans ?_
  on_goal 2 => refine (Rows.slab_miss _ _ _ _ _ _ _ (by dsimp only; omega)).trans ?_
  on_goal 3 => iterate 2 refine (Rows.slab_miss _ _ _ _ _ _ _ (by dsimp only; omega)).trans ?_
  on_goal 4 => iterate 3 refine (Rows.slab_miss _ _ _ _ _ _ _ (by dsimp only; omega)).trans ?_
  on_goal 5 => iterate 4 refine (Rows.slab_miss _ _ _ _ _ _ _ (by dsimp only; omega)).trans ?_
  on_goal 6 => iterate 5 refine (Rows.slab_miss _ _ _ _ _ _ _ (by dsimp only; omega)).trans ?_
  on_goal 7 => iterate 6 refine (Rows.slab_miss _ _ _ _ _ _ _ (by dsimp only; omega)).trans ?_
  on_goal 8 => iterate 7 refine (Rows.slab_miss _ _ _ _ _ _ _ (by dsimp only; omega)).trans ?_
  all_goals
    rw [View.canon_unit_zero Rows.hz3]
    pointwise [k0_pay4]

/-- A later point adds the sum over its rows. -/
theorem scr_B (c : Dev nD) (i : grid0.Coords) (a1 : Memref sig .tc .vmem S512x4096 .bf16) (h1 : a1.IsWhole) (a2 : Memref sig .tc .vmem S512x1024 .f32) (h2 : a2.IsWhole) (a3 : Memref sig .tc .vmem S8x512x1024 .bf16) (h3 : a3.IsWhole) (a4 : Memref sig .tc .vmem S8x512x1024 .f32) (h4 : a4.IsWhole) (hc0 : ¬cond0_0 i) (hc1 : ¬cond0_1 i)
    (x0 : Vec Ideal S512x4096 .bf16) (x1 : Vec Ideal S512x1024 .f32) (y : Vec Ideal S8x512x1024 .f32) (j : Fin 8) (a : Fin 512) (b : Fin 1024) :
    sout0_B_0 c i a1 h1 a2 h2 a3 h3 a4 h4 hc0 hc1 x0 x1 y (ix3 j a b) = y (ix3 j a b) + ∑ r : Fin 512, part (fun k => x0 (ix2 r k)) (fun k => x1 (ix2 r k)) j a b := by
  unfold sout0_B_0
  rw [View.read_writes_eq_canon _ _ _ (scover0_B_0 c i a1 h1 a2 h2 a3 h3 a4 h4 hc0 hc1 x0 x1 y)]
  unfold kernelRun0_B
  dsimp only
  sl_unfold_words
  simp only [View.readAt_eq_ld, h1.read_unread, h2.read_unread, h4.read_unread, View.ld_unit_zero (S := S512x4096) Rows.hz2, View.ld_unit_zero (S := S512x1024) Rows.hz2]
  obtain ⟨n, hj⟩ := j
  interval_cases n
  all_goals
    repeat refine (Rows.slab_miss _ _ _ _ _ _ _ (by dsimp only; omega)).trans ?_
    refine (Rows.slab_hit _ hj _ _ _ a b).trans ?_
    pointwise [k0_pay1, k0_pay2, k0_pay5, k0_pay6, k0_pay7, k0_pay8, k0_pay9, k0_pay10, k0_pay11, k0_pay12, k0_pay13, k0_pay14, k0_pay15, part]
    first
    | done
    | rfl
    | exact congrArg (fun s : EReal => y (ix3 0 a b) + s) (Finset.sum_congr rfl fun x _ => congrArg (fun k => x0 (ix2 x k) * x1 (ix2 x b)) (Fin.ext (by show a.val = 512 * 0 + a.val; omega)))

/-- The last point writes what it leaves. -/
theorem out_C (c : Dev nD) (i : grid0.Coords) (a1 : Memref sig .tc .vmem S512x4096 .bf16) (h1 : a1.IsWhole) (a2 : Memref sig .tc .vmem S512x1024 .f32) (h2 : a2.IsWhole) (a3 : Memref sig .tc .vmem S8x512x1024 .bf16) (h3 : a3.IsWhole) (a4 : Memref sig .tc .vmem S8x512x1024 .f32) (h4 : a4.IsWhole) (hc0 : ¬cond0_0 i) (hc1 : cond0_1 i)
    (x0 : Vec Ideal S512x4096 .bf16) (x1 : Vec Ideal S512x1024 .f32) (y : Vec Ideal S8x512x1024 .f32) (j : Fin 8) (a : Fin 512) (b : Fin 1024) :
    out0_C_2 c i a1 h1 a2 h2 a3 h3 a4 h4 hc0 hc1 x0 x1 y (ix3 j a b) = y (ix3 j a b) + ∑ r : Fin 512, part (fun k => x0 (ix2 r k)) (fun k => x1 (ix2 r k)) j a b := by
  unfold out0_C_2
  rw [View.read_writes_eq_canon _ _ _ (cover0_C_2 c i a1 h1 a2 h2 a3 h3 a4 h4 hc0 hc1 x0 x1 y)]
  unfold kernelRun0_C
  dsimp only
  sl_unfold_words
  simp only [View.readAt_eq_ld, h1.read_unread, h2.read_unread, h4.read_unread, View.ld_unit_zero (S := S512x4096) Rows.hz2, View.ld_unit_zero (S := S512x1024) Rows.hz2]
  rw [View.canon_unit_zero Rows.hz3]
  generalize hz : View.readCov (Val := Elt Ideal) (s := S8x512x1024) (e := .f32) _ _ _ = z
  refine Eq.trans (?_ : _ = z (ix3 j a b)) ?_
  · pointwise [k0_pay3]
  rw [← hz]
  refine (Rows.whole_read _ _ _ j a b).trans ?_
  obtain ⟨n, hj⟩ := j
  interval_cases n
  all_goals
    repeat refine (Rows.slab_miss _ _ _ _ _ _ _ (by dsimp only; omega)).trans ?_
    refine (Rows.slab_hit _ hj _ _ _ a b).trans ?_
    pointwise [k0_pay1, k0_pay2, k0_pay5, k0_pay6, k0_pay7, k0_pay8, k0_pay9, k0_pay10, k0_pay11, k0_pay12, k0_pay13, k0_pay14, k0_pay15, part]
    first
    | done
    | rfl
    | exact congrArg (fun s : EReal => y (ix3 0 a b) + s) (Finset.sum_congr rfl fun x _ => congrArg (fun k => x0 (ix2 x k) * x1 (ix2 x b)) (Fin.ext (by show a.val = 512 * 0 + a.val; omega)))

variable (m : (ℓ : Loc nD τ sig) → Buf (Elt Ideal) ℓ)

/-- Array `0` the call is given. -/
abbrev A0 (c : Dev nD) : S8192x4096.Idx → EReal := V m c main_v0

/-- Array `1` the call is given. -/
abbrev A1 (c : Dev nD) : S8192x1024.Idx → EReal := V m c main_arg2

theorem blk0 (c : Dev nD) (t : Fin cfg0.N) (r : Fin 512) (k : Fin 4096) :
    (iblk m c 0 t : S512x4096.Idx → EReal) (ix2 r k) = A0 m c (ix2 (Rows.row (T := 8192) rfl t r) k) := by
  unfold iblk; rw [View.read_apply]
  show (V m c main_v0 : S8192x4096.Idx → EReal) _ = _
  refine congrArg (A0 m c) (funext fun a => Fin.ext ?_)
  match a with
  | ⟨0, _⟩ => show win0_0.index t 0 * 512 + 1 * r.val = 512 * t.val + r.val
              rw [(by decide +kernel : ∀ t : Fin grid0.N, win0_0.index t 0 = t.val) t]; omega
  | ⟨1, _⟩ => show win0_0.index t 1 * 4096 + 1 * k.val = k.val
              rw [(by decide +kernel : ∀ t : Fin grid0.N, win0_0.index t 1 = 0) t]; omega

theorem blk1 (c : Dev nD) (t : Fin cfg0.N) (r : Fin 512) (k : Fin 1024) :
    (iblk m c 1 t : S512x1024.Idx → EReal) (ix2 r k) = A1 m c (ix2 (Rows.row (T := 8192) rfl t r) k) := by
  unfold iblk; rw [View.read_apply]
  show (V m c main_arg2 : S8192x1024.Idx → EReal) _ = _
  refine congrArg (A1 m c) (funext fun a => Fin.ext ?_)
  match a with
  | ⟨0, _⟩ => show win0_1.index t 0 * 512 + 1 * r.val = 512 * t.val + r.val
              rw [(by decide +kernel : ∀ t : Fin grid0.N, win0_1.index t 0 = t.val) t]; omega
  | ⟨1, _⟩ => show win0_1.index t 1 * 1024 + 1 * k.val = k.val
              rw [(by decide +kernel : ∀ t : Fin grid0.N, win0_1.index t 1 = 0) t]; omega

/-- Row `R`'s part of the gradient. -/
def term (c : Dev nD) (R : Fin 8192) (j : Fin 8) (a : Fin 512) (b : Fin 1024) : EReal := part (fun k => A0 m c (ix2 R k)) (fun k => A1 m c (ix2 R k)) j a b

/-- What point `n` leaves: in the scratch, after the last point in the result. -/
def left (c : Dev nD) (j : Fin 8) (a : Fin 512) (b : Fin 1024) (n : ℕ) (h : n < cfg0.N) : EReal :=
  if n = 15 then ((outsAt0 m c n h).1 : S8x512x1024.Idx → EReal) (ix3 j a b) else ((outsAt0 m c n h).2 : S8x512x1024.Idx → EReal) (ix3 j a b)

theorem step_A (c : Dev nD) (t : Fin cfg0.N) (h0 : t.val % 16 = 0) (h1 : ¬t.val % 16 = 15) (j : Fin 8) (a : Fin 512) (b : Fin 1024) :
    ((outsAt0 m c t.val t.isLt).2 : S8x512x1024.Idx → EReal) (ix3 j a b) = ∑ r : Fin 512, term m c (Rows.row (N := 16) (T := 8192) rfl t r) j a b := by
  refine (congrFun (congrArg Prod.snd (outsAt0_A m c t h0 h1)) (ix3 j a b)).trans ?_
  dsimp only
  refine (scr_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) j a b).trans ?_
  unfold term
  simp only [blk0 m c t, blk1 m c t]

theorem step_B (c : Dev nD) (t : Fin cfg0.N) (h0 : ¬t.val % 16 = 0) (h1 : ¬t.val % 16 = 15) (j : Fin 8) (a : Fin 512) (b : Fin 1024) :
    ((outsAt0 m c t.val t.isLt).2 : S8x512x1024.Idx → EReal) (ix3 j a b) = ((outsAt0 m c (t.val - 1) (Nat.lt_of_le_of_lt (Nat.sub_le _ _) t.isLt)).2 : S8x512x1024.Idx → EReal) (ix3 j a b) + ∑ r : Fin 512, term m c (Rows.row (N := 16) (T := 8192) rfl t r) j a b := by
  refine (congrFun (congrArg Prod.snd (outsAt0_B m c t h0 h1)) (ix3 j a b)).trans ?_
  dsimp only
  refine (scr_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2 j a b).trans ?_
  unfold term
  simp only [blk0 m c t, blk1 m c t]

theorem step_C (c : Dev nD) (t : Fin cfg0.N) (h0 : ¬t.val % 16 = 0) (h1 : t.val % 16 = 15) (j : Fin 8) (a : Fin 512) (b : Fin 1024) :
    ((outsAt0 m c t.val t.isLt).1 : S8x512x1024.Idx → EReal) (ix3 j a b) = ((outsAt0 m c (t.val - 1) (Nat.lt_of_le_of_lt (Nat.sub_le _ _) t.isLt)).2 : S8x512x1024.Idx → EReal) (ix3 j a b) + ∑ r : Fin 512, term m c (Rows.row (N := 16) (T := 8192) rfl t r) j a b := by
  refine (congrFun (congrArg Prod.fst (outsAt0_C m c t h0 h1)) (ix3 j a b)).trans ?_
  dsimp only
  refine (out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 j a b).trans ?_
  unfold term
  simp only [blk0 m c t, blk1 m c t]

theorem left_zero (c : Dev nD) (j : Fin 8) (a : Fin 512) (b : Fin 1024) (h : 0 < cfg0.N) : left m c j a b 0 h = ∑ r : Fin 512, term m c (Rows.row (N := 16) (T := 8192) rfl ⟨0, h⟩ r) j a b :=
  (if_neg (by decide)).trans (step_A m c ⟨0, h⟩ rfl (by dsimp only; omega) j a b)

theorem left_succ (c : Dev nD) (j : Fin 8) (a : Fin 512) (b : Fin 1024) (n : ℕ) (h : n + 1 < cfg0.N) :
    left m c j a b (n + 1) h = left m c j a b n (Nat.lt_of_succ_lt h) + ∑ r : Fin 512, term m c (Rows.row (N := 16) (T := 8192) rfl ⟨n + 1, h⟩ r) j a b := by
  have hN : cfg0.N = 16 := N_0
  have e : left m c j a b n (Nat.lt_of_succ_lt h) = ((outsAt0 m c n (Nat.lt_of_succ_lt h)).2 : S8x512x1024.Idx → EReal) (ix3 j a b) := if_neg (by omega)
  rw [e]
  by_cases hl : n + 1 = 15
  · exact (if_pos hl).trans (step_C m c ⟨n + 1, h⟩ (by dsimp only; omega) (by dsimp only; omega) j a b)
  · exact (if_neg hl).trans (step_B m c ⟨n + 1, h⟩ (by dsimp only; omega) (by dsimp only; omega) j a b)

/-- The result is the sum over the rows. -/
theorem result (c : Dev nD) (j : Fin 8) (a : Fin 512) (b : Fin 1024) : (Value.G2 m c : S8x512x1024.Idx → EReal) (ix3 j a b) = ∑ R : Fin 8192, term m c R j a b := by
  have hn : 15 < cfg0.N := by rw [show cfg0.N = 16 from N_0]; decide
  rw [Value.G2_last m c, ← Value.outsAt0_sweep m c 15 hn]
  rw [← Rows.sum_rows (N := 16) (B := 512) rfl]
  refine Eq.trans (if_pos rfl).symm (Rows.chain_last (fun t : Fin 16 => ∑ r : Fin 512, term m c (Rows.row rfl t r) j a b) (left m c j a b)
    (fun h => left_zero m c j a b h) (fun n h => left_succ m c j a b n h) 15 hn rfl)

end Cert.Wff2Ideal.Body

end
-- ==== Proof.Wff2Claim.lean ====
/- The claim on the call `wgrad_ff2`: its result is the gradient by `w_ff2`. -/
module

public import proofs.«01_k».proof.Defs
public import proofs.«01_k».proof.Proof.Wff2Value
public import proofs.«01_k».proof.Proof.Gen.Wff2RefIdeal
public import proofs.«01_k».proof.Proof.Gen.Wff2RefIdeal.Run
public import proofs.«01_k».proof.Proof.Gen.Wff2RefIdeal.Read

@[expose] public section

noncomputable section

open Idealize.ShloMosaic Idealize.ShloMosaic.TcCoe Idealize.SL.Sem Idealize.ShloMosaic.StableHlo

namespace Cert.Wff2Ref

open Cert.Wff2RefIdeal Cert.Wff2RefIdeal.Read Cert.Wff2RefIdeal.Gen

theorem out0 (x0 : Vec Ideal S8192x4096 .f32) (x2 : Vec Ideal S8192x1024 .f32) (j : Fin 8) (a : Fin 512) (b : Fin 1024) :
    val_main_v4 (F := Ideal) x0 x2 (ix3 j a b) = ∑ R : Fin 8192, Cert.Wff2Ideal.Body.part (fun k => x0 (ix2 R k)) (fun k => x2 (ix2 R k)) j a b := by
  rw [← val_main_v4_eq]
  pointwise [Cert.Wff2Ideal.Body.part]
  exact Finset.sum_congr rfl fun x _ => (mul_comm _ _).trans (congrArg (fun k => x0 (ix2 x k) * x2 (ix2 x b)) (Fin.ext (by dsimp only; omega)))

end Cert.Wff2Ref

namespace Cert.Wff2Ideal.Body

open Cert.Wff2Ideal Cert.Wff2Ideal.Gen

variable (m : (ℓ : Loc nD τ sig) → Buf (Elt Ideal) ℓ)

/-- Argument `0`. -/
abbrev x0 (c : Dev nD) : Vec Ideal S8192x4096 .f32 := m ((c : Thread nD τ).loc main_arg0)

/-- Argument `2`. -/
abbrev x2 (c : Dev nD) : Vec Ideal S8192x1024 .f32 := m ((c : Thread nD τ).loc main_arg2)

theorem read0 (c : Dev nD) (R : Fin 8192) (k : Fin 4096) : A0 m c (ix2 R k) = x0 m c (ix2 R k) := by
  unfold A0 V
  simp only [hostOps0, List.flatten_cons, List.flatten_nil, List.append_nil, List.cons_append, List.nil_append,
    TRef.binary, TRef.nullary, TRef.unary, TRef.toBuf, TRef.ofBuf, cast_eq]
  after_results_simp
  try pointwise []

theorem read1 (c : Dev nD) (R : Fin 8192) (k : Fin 1024) : A1 m c (ix2 R k) = x2 m c (ix2 R k) := by
  exact congrFun (V_main_arg2 m c) _

theorem val (c : Dev nD) : Value.G2 m c = Cert.Wff2RefIdeal.Read.val_main_v4 (F := Ideal) (x0 m c) (x2 m c) := by
  funext i
  obtain ⟨j, a, b, rfl⟩ : ∃ (j : Fin 8) (a : Fin 512) (b : Fin 1024), i = ix3 j a b := ⟨i 0, i 1, i 2, eq_ix3 i⟩
  refine (result m c j a b).trans (Eq.trans ?_ (Cert.Wff2Ref.out0 (x0 m c) (x2 m c) j a b).symm)
  unfold term
  simp only [read0 m, read1 m]

theorem algebraic : Cert.algebraic_Wff2Ideal_Wff2RefIdeal := by
  intro m g m' g' hpre hag
  refine ⟨fun c => Value.G2 m c, ?_, ?_⟩
  · exact (θ_run defs _ _).mono (fun r h c => ⟨(h c).1, (h c).2⟩) (Value.run m g)
  · refine (θ_run Cert.Wff2RefIdeal.defs _ _).mono (fun r h c => ⟨(h c).1.trans ?_, (h c).2⟩) (Cert.Wff2RefIdeal.Value.run m' g')
    obtain ⟨h0, h1, h2⟩ := hag c
    refine (Cert.Wff2RefIdeal.Read.val_main_v4_eq _ _).trans ?_
    rw [h0, h2]
    exact (val m c).symm

end Cert.Wff2Ideal.Body

end
-- ==== Proof.Wff1Value.lean ====
/- The values of the call `wgrad_ff1`: the gradient by `w_ff1`. -/
module

public import proofs.«01_k».proof.Proof.Base
public import proofs.«01_k».proof.Proof.Forms
public import proofs.«01_k».proof.Proof.Slab
public import proofs.«01_k».proof.Proof.Gen.Wff1Ideal.Value

@[expose] public section

noncomputable section

open Idealize.ShloMosaic Idealize.ShloMosaic.TcCoe Idealize.SL.Sem Idealize.ShloMosaic.StableHlo
open Idealize.ShloMosaic.Pipeline (Dat)

namespace Cert.Wff1Ideal.Body

open Cert.Wff1Ideal Cert.Wff1Ideal.Gen

/-- A row's part of the gradient. -/
def part (x : Fin 1024 → EReal) (d1 : Fin 4096 → EReal) (j : Fin 8) (a : Fin 1024) (b : Fin 512) : EReal :=
  x a * d1 (Rows.row (N := 8) (B := 512) (T := 4096) rfl j b)

/-- The first point leaves the sum over its rows. -/
theorem scr_A (c : Dev nD) (i : grid0.Coords) (a1 : Memref sig .tc .vmem S512x1024 .f32) (h1 : a1.IsWhole) (a2 : Memref sig .tc .vmem S512x4096 .bf16) (h2 : a2.IsWhole) (a3 : Memref sig .tc .vmem S8x1024x512 .bf16) (h3 : a3.IsWhole) (a4 : Memref sig .tc .vmem S8x1024x512 .f32) (h4 : a4.IsWhole) (hc0 : cond0_0 i) (hc1 : ¬cond0_1 i)
    (x0 : Vec Ideal S512x1024 .f32) (x1 : Vec Ideal S512x4096 .bf16) (j : Fin 8) (a : Fin 1024) (b : Fin 512) :
    sout0_A_0 c i a1 h1 a2 h2 a3 h3 a4 h4 hc0 hc1 x0 x1 (ix3 j a b) = ∑ r : Fin 512, part (fun k => x0 (ix2 r k)) (fun k => x1 (ix2 r k)) j a b := by
  unfold sout0_A_0
  rw [View.read_writes_eq_canon _ _ _ (scover0_A_0 c i a1 h1 a2 h2 a3 h3 a4 h4 hc0 hc1 x0 x1)]
  unfold kernelRun0_A
  dsimp only
  sl_unfold_words
  simp only [View.readAt_eq_ld, h1.read_unread, h2.read_unread, View.ld_unit_zero (S := S512x1024) Rows.hz2, View.ld_unit_zero (S := S512x4096) Rows.hz2]
  obtain ⟨n, hj⟩ := j
  interval_cases n
  all_goals
    repeat refine (Rows.slab_miss _ _ _ _ _ _ _ (by dsimp only; omega)).trans ?_
    refine (Rows.slab_hit _ hj _ _ _ a b).trans ?_
    generalize hy : View.readCov (Val := Elt Ideal) _ _ (Rect.unit (s := S8x1024x512) _ ![1, 1024, 512] _).toLoadRect = y
    suffices e : y (ix3 0 a b) = 0 by
      refine Eq.trans (?_ : _ = y (ix3 0 a b) + ∑ r : Fin 512, part (fun k => x0 (ix2 r k)) (fun k => x1 (ix2 r k)) ⟨_, hj⟩ a b) (by rw [e, zero_add])
      pointwise [k0_pay1, k0_pay2, k0_pay5, k0_pay6, k0_pay7, k0_pay8, k0_pay9, k0_pay10, k0_pay11, k0_pay12, k0_pay13, part]
      first
      | done
      | rfl
      | exact congrArg (fun s : EReal => y (ix3 0 a b) + s) (Finset.sum_congr rfl fun x _ => congrArg (fun k => x0 (ix2 x a) * x1 (ix2 x k)) (Fin.ext (by show b.val = 512 * 0 + b.val; omega)))
    rw [← hy]
    refine (Rows.slab_read _ _ _ hj _ a b).trans ?_
  on_goal 2 => refine (Rows.slab_miss _ _ _ _ _ _ _ (by dsimp only; omega)).trans ?_
  on_goal 3 => iterate 2 refine (Rows.slab_miss _ _ _ _ _ _ _ (by dsimp only; omega)).trans ?_
  on_goal 4 => iterate 3 refine (Rows.slab_miss _ _ _ _ _ _ _ (by dsimp only; omega)).trans ?_
  on_goal 5 => iterate 4 refine (Rows.slab_miss _ _ _ _ _ _ _ (by dsimp only; omega)).trans ?_
  on_goal 6 => iterate 5 refine (Rows.slab_miss _ _ _ _ _ _ _ (by dsimp only; omega)).trans ?_
  on_goal 7 => iterate 6 refine (Rows.slab_miss _ _ _ _ _ _ _ (by dsimp only; omega)).trans ?_
  on_goal 8 => iterate 7 refine (Rows.slab_miss _ _ _ _ _ _ _ (by dsimp only; omega)).trans ?_
  all_goals
    rw [View.canon_unit_zero Rows.hz3]
    pointwise [k0_pay4]

/-- A later point adds the sum over its rows. -/
theorem scr_B (c : Dev nD) (i : grid0.Coords) (a1 : Memref sig .tc .vmem S512x1024 .f32) (h1 : a1.IsWhole) (a2 : Memref sig .tc .vmem S512x4096 .bf16) (h2 : a2.IsWhole) (a3 : Memref sig .tc .vmem S8x1024x512 .bf16) (h3 : a3.IsWhole) (a4 : Memref sig .tc .vmem S8x1024x512 .f32) (h4 : a4.IsWhole) (hc0 : ¬cond0_0 i) (hc1 : ¬cond0_1 i)
    (x0 : Vec Ideal S512x1024 .f32) (x1 : Vec Ideal S512x4096 .bf16) (y : Vec Ideal S8x1024x512 .f32) (j : Fin 8) (a : Fin 1024) (b : Fin 512) :
    sout0_B_0 c i a1 h1 a2 h2 a3 h3 a4 h4 hc0 hc1 x0 x1 y (ix3 j a b) = y (ix3 j a b) + ∑ r : Fin 512, part (fun k => x0 (ix2 r k)) (fun k => x1 (ix2 r k)) j a b := by
  unfold sout0_B_0
  rw [View.read_writes_eq_canon _ _ _ (scover0_B_0 c i a1 h1 a2 h2 a3 h3 a4 h4 hc0 hc1 x0 x1 y)]
  unfold kernelRun0_B
  dsimp only
  sl_unfold_words
  simp only [View.readAt_eq_ld, h1.read_unread, h2.read_unread, h4.read_unread, View.ld_unit_zero (S := S512x1024) Rows.hz2, View.ld_unit_zero (S := S512x4096) Rows.hz2]
  obtain ⟨n, hj⟩ := j
  interval_cases n
  all_goals
    repeat refine (Rows.slab_miss _ _ _ _ _ _ _ (by dsimp only; omega)).trans ?_
    refine (Rows.slab_hit _ hj _ _ _ a b).trans ?_
    pointwise [k0_pay1, k0_pay2, k0_pay5, k0_pay6, k0_pay7, k0_pay8, k0_pay9, k0_pay10, k0_pay11, k0_pay12, k0_pay13, part]
    first
    | done
    | rfl
    | exact congrArg (fun s : EReal => y (ix3 0 a b) + s) (Finset.sum_congr rfl fun x _ => congrArg (fun k => x0 (ix2 x a) * x1 (ix2 x k)) (Fin.ext (by show b.val = 512 * 0 + b.val; omega)))

/-- The last point writes what it leaves. -/
theorem out_C (c : Dev nD) (i : grid0.Coords) (a1 : Memref sig .tc .vmem S512x1024 .f32) (h1 : a1.IsWhole) (a2 : Memref sig .tc .vmem S512x4096 .bf16) (h2 : a2.IsWhole) (a3 : Memref sig .tc .vmem S8x1024x512 .bf16) (h3 : a3.IsWhole) (a4 : Memref sig .tc .vmem S8x1024x512 .f32) (h4 : a4.IsWhole) (hc0 : ¬cond0_0 i) (hc1 : cond0_1 i)
    (x0 : Vec Ideal S512x1024 .f32) (x1 : Vec Ideal S512x4096 .bf16) (y : Vec Ideal S8x1024x512 .f32) (j : Fin 8) (a : Fin 1024) (b : Fin 512) :
    out0_C_2 c i a1 h1 a2 h2 a3 h3 a4 h4 hc0 hc1 x0 x1 y (ix3 j a b) = y (ix3 j a b) + ∑ r : Fin 512, part (fun k => x0 (ix2 r k)) (fun k => x1 (ix2 r k)) j a b := by
  unfold out0_C_2
  rw [View.read_writes_eq_canon _ _ _ (cover0_C_2 c i a1 h1 a2 h2 a3 h3 a4 h4 hc0 hc1 x0 x1 y)]
  unfold kernelRun0_C
  dsimp only
  sl_unfold_words
  simp only [View.readAt_eq_ld, h1.read_unread, h2.read_unread, h4.read_unread, View.ld_unit_zero (S := S512x1024) Rows.hz2, View.ld_unit_zero (S := S512x4096) Rows.hz2]
  rw [View.canon_unit_zero Rows.hz3]
  generalize hz : View.readCov (Val := Elt Ideal) (s := S8x1024x512) (e := .f32) _ _ _ = z
  refine Eq.trans (?_ : _ = z (ix3 j a b)) ?_
  · pointwise [k0_pay3]
  rw [← hz]
  refine (Rows.whole_read _ _ _ j a b).trans ?_
  obtain ⟨n, hj⟩ := j
  interval_cases n
  all_goals
    repeat refine (Rows.slab_miss _ _ _ _ _ _ _ (by dsimp only; omega)).trans ?_
    refine (Rows.slab_hit _ hj _ _ _ a b).trans ?_
    pointwise [k0_pay1, k0_pay2, k0_pay5, k0_pay6, k0_pay7, k0_pay8, k0_pay9, k0_pay10, k0_pay11, k0_pay12, k0_pay13, part]
    first
    | done
    | rfl
    | exact congrArg (fun s : EReal => y (ix3 0 a b) + s) (Finset.sum_congr rfl fun x _ => congrArg (fun k => x0 (ix2 x a) * x1 (ix2 x k)) (Fin.ext (by show b.val = 512 * 0 + b.val; omega)))

variable (m : (ℓ : Loc nD τ sig) → Buf (Elt Ideal) ℓ)

/-- Array `0` the call is given. -/
abbrev A0 (c : Dev nD) : S8192x1024.Idx → EReal := V m c main_arg0

/-- Array `1` the call is given. -/
abbrev A1 (c : Dev nD) : S8192x4096.Idx → EReal := V m c main_arg2

theorem blk0 (c : Dev nD) (t : Fin cfg0.N) (r : Fin 512) (k : Fin 1024) :
    (iblk m c 0 t : S512x1024.Idx → EReal) (ix2 r k) = A0 m c (ix2 (Rows.row (T := 8192) rfl t r) k) := by
  unfold iblk; rw [View.read_apply]
  show (V m c main_arg0 : S8192x1024.Idx → EReal) _ = _
  refine congrArg (A0 m c) (funext fun a => Fin.ext ?_)
  match a with
  | ⟨0, _⟩ => show win0_0.index t 0 * 512 + 1 * r.val = 512 * t.val + r.val
              rw [(by decide +kernel : ∀ t : Fin grid0.N, win0_0.index t 0 = t.val) t]; omega
  | ⟨1, _⟩ => show win0_0.index t 1 * 1024 + 1 * k.val = k.val
              rw [(by decide +kernel : ∀ t : Fin grid0.N, win0_0.index t 1 = 0) t]; omega

theorem blk1 (c : Dev nD) (t : Fin cfg0.N) (r : Fin 512) (k : Fin 4096) :
    (iblk m c 1 t : S512x4096.Idx → EReal) (ix2 r k) = A1 m c (ix2 (Rows.row (T := 8192) rfl t r) k) := by
  unfold iblk; rw [View.read_apply]
  show (V m c main_arg2 : S8192x4096.Idx → EReal) _ = _
  refine congrArg (A1 m c) (funext fun a => Fin.ext ?_)
  match a with
  | ⟨0, _⟩ => show win0_1.index t 0 * 512 + 1 * r.val = 512 * t.val + r.val
              rw [(by decide +kernel : ∀ t : Fin grid0.N, win0_1.index t 0 = t.val) t]; omega
  | ⟨1, _⟩ => show win0_1.index t 1 * 4096 + 1 * k.val = k.val
              rw [(by decide +kernel : ∀ t : Fin grid0.N, win0_1.index t 1 = 0) t]; omega

/-- Row `R`'s part of the gradient. -/
def term (c : Dev nD) (R : Fin 8192) (j : Fin 8) (a : Fin 1024) (b : Fin 512) : EReal := part (fun k => A0 m c (ix2 R k)) (fun k => A1 m c (ix2 R k)) j a b

/-- What point `n` leaves: in the scratch, after the last point in the result. -/
def left (c : Dev nD) (j : Fin 8) (a : Fin 1024) (b : Fin 512) (n : ℕ) (h : n < cfg0.N) : EReal :=
  if n = 15 then ((outsAt0 m c n h).1 : S8x1024x512.Idx → EReal) (ix3 j a b) else ((outsAt0 m c n h).2 : S8x1024x512.Idx → EReal) (ix3 j a b)

theorem step_A (c : Dev nD) (t : Fin cfg0.N) (h0 : t.val % 16 = 0) (h1 : ¬t.val % 16 = 15) (j : Fin 8) (a : Fin 1024) (b : Fin 512) :
    ((outsAt0 m c t.val t.isLt).2 : S8x1024x512.Idx → EReal) (ix3 j a b) = ∑ r : Fin 512, term m c (Rows.row (N := 16) (T := 8192) rfl t r) j a b := by
  refine (congrFun (congrArg Prod.snd (outsAt0_A m c t h0 h1)) (ix3 j a b)).trans ?_
  dsimp only
  refine (scr_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) j a b).trans ?_
  unfold term
  simp only [blk0 m c t, blk1 m c t]

theorem step_B (c : Dev nD) (t : Fin cfg0.N) (h0 : ¬t.val % 16 = 0) (h1 : ¬t.val % 16 = 15) (j : Fin 8) (a : Fin 1024) (b : Fin 512) :
    ((outsAt0 m c t.val t.isLt).2 : S8x1024x512.Idx → EReal) (ix3 j a b) = ((outsAt0 m c (t.val - 1) (Nat.lt_of_le_of_lt (Nat.sub_le _ _) t.isLt)).2 : S8x1024x512.Idx → EReal) (ix3 j a b) + ∑ r : Fin 512, term m c (Rows.row (N := 16) (T := 8192) rfl t r) j a b := by
  refine (congrFun (congrArg Prod.snd (outsAt0_B m c t h0 h1)) (ix3 j a b)).trans ?_
  dsimp only
  refine (scr_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2 j a b).trans ?_
  unfold term
  simp only [blk0 m c t, blk1 m c t]

theorem step_C (c : Dev nD) (t : Fin cfg0.N) (h0 : ¬t.val % 16 = 0) (h1 : t.val % 16 = 15) (j : Fin 8) (a : Fin 1024) (b : Fin 512) :
    ((outsAt0 m c t.val t.isLt).1 : S8x1024x512.Idx → EReal) (ix3 j a b) = ((outsAt0 m c (t.val - 1) (Nat.lt_of_le_of_lt (Nat.sub_le _ _) t.isLt)).2 : S8x1024x512.Idx → EReal) (ix3 j a b) + ∑ r : Fin 512, term m c (Rows.row (N := 16) (T := 8192) rfl t r) j a b := by
  refine (congrFun (congrArg Prod.fst (outsAt0_C m c t h0 h1)) (ix3 j a b)).trans ?_
  dsimp only
  refine (out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 j a b).trans ?_
  unfold term
  simp only [blk0 m c t, blk1 m c t]

theorem left_zero (c : Dev nD) (j : Fin 8) (a : Fin 1024) (b : Fin 512) (h : 0 < cfg0.N) : left m c j a b 0 h = ∑ r : Fin 512, term m c (Rows.row (N := 16) (T := 8192) rfl ⟨0, h⟩ r) j a b :=
  (if_neg (by decide)).trans (step_A m c ⟨0, h⟩ rfl (by dsimp only; omega) j a b)

theorem left_succ (c : Dev nD) (j : Fin 8) (a : Fin 1024) (b : Fin 512) (n : ℕ) (h : n + 1 < cfg0.N) :
    left m c j a b (n + 1) h = left m c j a b n (Nat.lt_of_succ_lt h) + ∑ r : Fin 512, term m c (Rows.row (N := 16) (T := 8192) rfl ⟨n + 1, h⟩ r) j a b := by
  have hN : cfg0.N = 16 := N_0
  have e : left m c j a b n (Nat.lt_of_succ_lt h) = ((outsAt0 m c n (Nat.lt_of_succ_lt h)).2 : S8x1024x512.Idx → EReal) (ix3 j a b) := if_neg (by omega)
  rw [e]
  by_cases hl : n + 1 = 15
  · exact (if_pos hl).trans (step_C m c ⟨n + 1, h⟩ (by dsimp only; omega) (by dsimp only; omega) j a b)
  · exact (if_neg hl).trans (step_B m c ⟨n + 1, h⟩ (by dsimp only; omega) (by dsimp only; omega) j a b)

/-- The result is the sum over the rows. -/
theorem result (c : Dev nD) (j : Fin 8) (a : Fin 1024) (b : Fin 512) : (Value.G2 m c : S8x1024x512.Idx → EReal) (ix3 j a b) = ∑ R : Fin 8192, term m c R j a b := by
  have hn : 15 < cfg0.N := by rw [show cfg0.N = 16 from N_0]; decide
  rw [Value.G2_last m c, ← Value.outsAt0_sweep m c 15 hn]
  rw [← Rows.sum_rows (N := 16) (B := 512) rfl]
  refine Eq.trans (if_pos rfl).symm (Rows.chain_last (fun t : Fin 16 => ∑ r : Fin 512, term m c (Rows.row rfl t r) j a b) (left m c j a b)
    (fun h => left_zero m c j a b h) (fun n h => left_succ m c j a b n h) 15 hn rfl)

end Cert.Wff1Ideal.Body

end
-- ==== Proof.Wff1Claim.lean ====
/- The claim on the call `wgrad_ff1`: its result is the gradient by `w_ff1`. -/
module

public import proofs.«01_k».proof.Defs
public import proofs.«01_k».proof.Proof.Wff1Value
public import proofs.«01_k».proof.Proof.Gen.Wff1RefIdeal
public import proofs.«01_k».proof.Proof.Gen.Wff1RefIdeal.Run
public import proofs.«01_k».proof.Proof.Gen.Wff1RefIdeal.Read

@[expose] public section

noncomputable section

open Idealize.ShloMosaic Idealize.ShloMosaic.TcCoe Idealize.SL.Sem Idealize.ShloMosaic.StableHlo

namespace Cert.Wff1Ref

open Cert.Wff1RefIdeal Cert.Wff1RefIdeal.Read Cert.Wff1RefIdeal.Gen

theorem out0 (x0 : Vec Ideal S8192x1024 .f32) (x2 : Vec Ideal S8192x4096 .bf16) (j : Fin 8) (a : Fin 1024) (b : Fin 512) :
    val_main_v6 (F := Ideal) x0 x2 (ix3 j a b) = ∑ R : Fin 8192, Cert.Wff1Ideal.Body.part (fun k => x0 (ix2 R k)) (fun k => x2 (ix2 R k)) j a b := by
  rw [← val_main_v6_eq]
  pointwise [Cert.Wff1Ideal.Body.part]
  exact Finset.sum_congr rfl fun x _ => (mul_comm _ _).trans (congrArg (fun k => x0 (ix2 x a) * x2 (ix2 x k)) (Fin.ext (by dsimp only; omega)))

end Cert.Wff1Ref

namespace Cert.Wff1Ideal.Body

open Cert.Wff1Ideal Cert.Wff1Ideal.Gen

variable (m : (ℓ : Loc nD τ sig) → Buf (Elt Ideal) ℓ)

/-- Argument `0`. -/
abbrev x0 (c : Dev nD) : Vec Ideal S8192x1024 .f32 := m ((c : Thread nD τ).loc main_arg0)

/-- Argument `2`. -/
abbrev x2 (c : Dev nD) : Vec Ideal S8192x4096 .bf16 := m ((c : Thread nD τ).loc main_arg2)

theorem read0 (c : Dev nD) (R : Fin 8192) (k : Fin 1024) : A0 m c (ix2 R k) = x0 m c (ix2 R k) := by
  exact congrFun (V_main_arg0 m c) _

theorem read1 (c : Dev nD) (R : Fin 8192) (k : Fin 4096) : A1 m c (ix2 R k) = x2 m c (ix2 R k) := by
  exact congrFun (V_main_arg2 m c) _

theorem val (c : Dev nD) : Value.G2 m c = Cert.Wff1RefIdeal.Read.val_main_v6 (F := Ideal) (x0 m c) (x2 m c) := by
  funext i
  obtain ⟨j, a, b, rfl⟩ : ∃ (j : Fin 8) (a : Fin 1024) (b : Fin 512), i = ix3 j a b := ⟨i 0, i 1, i 2, eq_ix3 i⟩
  refine (result m c j a b).trans (Eq.trans ?_ (Cert.Wff1Ref.out0 (x0 m c) (x2 m c) j a b).symm)
  unfold term
  simp only [read0 m, read1 m]

theorem algebraic : Cert.algebraic_Wff1Ideal_Wff1RefIdeal := by
  intro m g m' g' hpre hag
  refine ⟨fun c => Value.G2 m c, ?_, ?_⟩
  · exact (θ_run defs _ _).mono (fun r h c => ⟨(h c).1, (h c).2⟩) (Value.run m g)
  · refine (θ_run Cert.Wff1RefIdeal.defs _ _).mono (fun r h c => ⟨(h c).1.trans ?_, (h c).2⟩) (Cert.Wff1RefIdeal.Value.run m' g')
    obtain ⟨h0, h1, h2⟩ := hag c
    refine (Cert.Wff1RefIdeal.Read.val_main_v6_eq _ _).trans ?_
    rw [h0, h2]
    exact (val m c).symm

end Cert.Wff1Ideal.Body

end
-- ==== Proof.InValue.lean ====
/- The values of the call `in_proj`: the product of the residual stream with the weights of the four projections. -/
module

public import proofs.«01_k».proof.Proof.Base
public import proofs.«01_k».proof.Proof.Forms
public import proofs.«01_k».proof.Proof.Gen.InIdeal.Value

@[expose] public section

noncomputable section

open Idealize.ShloMosaic Idealize.ShloMosaic.TcCoe Idealize.SL.Sem Idealize.ShloMosaic.StableHlo
open Idealize.ShloMosaic.Pipeline (Dat)

namespace Cert.InIdeal.Body

open Cert.InIdeal Cert.InIdeal.Gen

theorem hz : (![0, 0] : Fin 2 → Nat) = fun _ => 0 := Rows.hz2

/-- A row times the weights, which lie in eight blocks of columns. -/
def proj (x : Fin 1024 → EReal) (w : Fin 8 → Fin 1024 → Fin 256 → EReal) (q : Fin 2048) : EReal :=
  ∑ k, x k * w ⟨q.val / 256, by omega⟩ k ⟨q.val % 256, by omega⟩

theorem out3_apply (x0 : Vec Ideal S1024x1024 .f32) (x1 : Vec Ideal S8x1024x256 .bf16) (x2 : Vec Ideal S8x128 .f32) (r : Fin 1024) (q : Fin 2048) :
    out0_3 x0 x1 x2 (ix2 r q) = proj (fun k => x0 (ix2 r k)) (fun a b d => x1 (ix3 a b d)) q := by
  unfold out0_3
  rw [View.canon_unit_zero hz]
  simp only [View.ld_unit_zero (S := S1024x1024) hz]
  pointwise [k0_pay1, k0_pay2, k0_pay3, k0_pay4, k0_pay5, k0_pay6, k0_pay7, k0_pay8, proj]
  exact Rows.cat8_256 (fun j b => ∑ k, x0 (ix2 r k) * x1 (ix3 j k b)) q
variable (m : (ℓ : Loc nD τ sig) → Buf (Elt Ideal) ℓ)

/-- Array `0` the call is given. -/
abbrev A0 (c : Dev nD) : S8192x1024.Idx → EReal := V m c main_arg0

/-- Array `1` the call is given. -/
abbrev A1 (c : Dev nD) : S8x1024x256.Idx → EReal := V m c main_v2

theorem blk0 (c : Dev nD) (t : Fin cfg0.N) (r : Fin 1024) (k : Fin 1024) :
    (iblk m c 0 t : S1024x1024.Idx → EReal) (ix2 r k) = A0 m c (ix2 (Rows.row (T := 8192) rfl t r) k) := by
  unfold iblk; rw [View.read_apply]
  show (V m c main_arg0 : S8192x1024.Idx → EReal) _ = _
  refine congrArg (A0 m c) (funext fun a => Fin.ext ?_)
  match a with
  | ⟨0, _⟩ => show win0_0.index t 0 * 1024 + 1 * r.val = 1024 * t.val + r.val
              rw [(by decide +kernel : ∀ t : Fin grid0.N, win0_0.index t 0 = t.val) t]; omega
  | ⟨1, _⟩ => show win0_0.index t 1 * 1024 + 1 * k.val = k.val
              rw [(by decide +kernel : ∀ t : Fin grid0.N, win0_0.index t 1 = 0) t]; omega

theorem blk1 (c : Dev nD) (t : Fin cfg0.N) (j : Fin 8) (r : Fin 1024) (k : Fin 256) :
    (iblk m c 1 t : S8x1024x256.Idx → EReal) (ix3 j r k) = A1 m c (ix3 j r k) := by
  unfold iblk; rw [View.read_apply]
  show (V m c main_v2 : S8x1024x256.Idx → EReal) _ = _
  refine congrArg (A1 m c) (funext fun a => Fin.ext ?_)
  match a with
  | ⟨0, _⟩ => show win0_1.index t 0 * 8 + 1 * j.val = j.val
              rw [(by decide +kernel : ∀ t : Fin grid0.N, win0_1.index t 0 = 0) t]; omega
  | ⟨1, _⟩ => show win0_1.index t 1 * 1024 + 1 * r.val = r.val
              rw [(by decide +kernel : ∀ t : Fin grid0.N, win0_1.index t 1 = 0) t]; omega
  | ⟨2, _⟩ => show win0_1.index t 2 * 256 + 1 * k.val = k.val
              rw [(by decide +kernel : ∀ t : Fin grid0.N, win0_1.index t 2 = 0) t]; omega

/-- Element `(R, q)` of result `3`. -/
def res3 (c : Dev nD) (R : Fin 8192) (q : Fin 2048) : EReal :=
  proj (fun k => A0 m c (ix2 R k)) (fun a b d => A1 m c (ix3 a b d)) q

theorem row3 (c : Dev nD) (t : Fin cfg0.N) (r : Fin 1024) (q : Fin 2048) :
    out0_3 (iblk m c 0 t) (iblk m c 1 t) (iblk m c 2 t) (ix2 r q) = res3 m c (Rows.row (T := 8192) rfl t r) q := by
  rw [out3_apply]
  unfold res3
  simp only [blk0 m c t, blk1 m c t]

/-- Result `3`. -/
def G3 (c : Dev nD) : Vec Ideal S8192x2048 .f32 := fun i => res3 m c (i 0) (i 1)

theorem final3 (c : Dev nD) : (dats m 0 c).arrAt 3 cfg0.N = G3 m c := by
    refine (dats m 0 c).arrAt_eq_of_cover 3 (G3 m c) (fun t hf => ?_) (fun i => ?_)
    · refine (Value.flushed3 m c t).trans ?_
      have hrow := row3 m c t
      generalize out0_3 (iblk m c 0 t) (iblk m c 1 t) (iblk m c 2 t) = y at hrow ⊢
      funext j
      have hx0 : win0_3.xsize (grid0.coords t) 0 = 1024 := (by decide +kernel : ∀ t : Fin grid0.N, win0_3.xsize (grid0.coords t) 0 = 1024) t
      have hx1 : win0_3.xsize (grid0.coords t) 1 = 2048 := (by decide +kernel : ∀ t : Fin grid0.N, win0_3.xsize (grid0.coords t) 1 = 2048) t
      have hj0 : (j 0 : Nat) < 1024 := lt_of_lt_of_eq (j 0).isLt hx0
      have hj1 : (j 1 : Nat) < 2048 := lt_of_lt_of_eq (j 1).isLt hx1
      rw [View.read_apply]
      refine Eq.trans (congrArg y (funext fun a => Fin.ext ?_)) ((hrow ⟨j 0, hj0⟩ ⟨j 1, hj1⟩).trans ?_)
      · match a with
        | ⟨0, _⟩ => rfl
        | ⟨1, _⟩ => rfl
      · show res3 m c _ _ = res3 m c _ _
        congr 1
        · refine Fin.ext ?_
          show 1024 * t.val + (j 0 : Nat) = win0_3.index t 0 * 1024 + 1 * (j 0 : Nat)
          rw [(by decide +kernel : ∀ t : Fin grid0.N, win0_3.index t 0 = t.val) t]; omega
        · refine Fin.ext ?_
          show (j 1 : Nat) = win0_3.index t 1 * 2048 + 1 * (j 1 : Nat)
          rw [(by decide +kernel : ∀ t : Fin grid0.N, win0_3.index t 1 = 0) t]; omega
    · obtain ⟨t, r, h⟩ := Rows.exists_row (N := 8) (B := 1024) (T := 8192) rfl (by decide) (i 0)
      refine ⟨t, flush0_3 t, ?_⟩
      show i ∈ ((View.whole main_v4).slice (win0_3.rect t)).set
      rw [View.set_slice_whole, Rect.mem_set_unit]
      intro a
      have h1 : (i 1 : Nat) < 2048 := (i 1).isLt
      have h0 : (i 0 : Nat) = 1024 * t.val + r.val := congrArg Fin.val h
      have hr := r.isLt
      match a with
      | ⟨0, _⟩ => show win0_3.index t 0 * 1024 ≤ (i 0 : Nat) ∧ (i 0 : Nat) < win0_3.index t 0 * 1024 + win0_3.xsize (grid0.coords t) 0
                  rw [(by decide +kernel : ∀ t : Fin grid0.N, win0_3.index t 0 = t.val) t, (by decide +kernel : ∀ t : Fin grid0.N, win0_3.xsize (grid0.coords t) 0 = 1024) t]; omega
      | ⟨1, _⟩ => show win0_3.index t 1 * 2048 ≤ (i 1 : Nat) ∧ (i 1 : Nat) < win0_3.index t 1 * 2048 + win0_3.xsize (grid0.coords t) 1
                  rw [(by decide +kernel : ∀ t : Fin grid0.N, win0_3.index t 1 = 0) t, (by decide +kernel : ∀ t : Fin grid0.N, win0_3.xsize (grid0.coords t) 1 = 2048) t]; omega

end Cert.InIdeal.Body

end
-- ==== Proof.InClaim.lean ====
/- The claim on the call `in_proj`: its result is `h @ w_in`. -/
module

public import proofs.«01_k».proof.Defs
public import proofs.«01_k».proof.Proof.InValue
public import proofs.«01_k».proof.Proof.Gen.InRefIdeal
public import proofs.«01_k».proof.Proof.Gen.InRefIdeal.Run
public import proofs.«01_k».proof.Proof.Gen.InRefIdeal.Read

@[expose] public section

noncomputable section

open Idealize.ShloMosaic Idealize.ShloMosaic.TcCoe Idealize.SL.Sem Idealize.ShloMosaic.StableHlo

namespace Cert.InRef

open Cert.InRefIdeal Cert.InRefIdeal.Read Cert.InRefIdeal.Gen

theorem out0 (x0 : Vec Ideal S8192x1024 .f32) (x1 : Vec Ideal S1024x2048 .f32) (p : Fin 8192) (q : Fin 2048) :
    val_main_v0 (F := Ideal) x0 x1 (ix2 p q) = Cert.InIdeal.Body.proj (fun k => x0 (ix2 p k)) (fun a b d => x1 (ix2 b ⟨a.val * 256 + d.val, by omega⟩)) q := by
  rw [← val_main_v0_eq]
  pointwise [Cert.InIdeal.Body.proj]
  exact Finset.sum_congr rfl fun x _ => congrArg (fun k => x0 (ix2 p x) * x1 (ix2 x k)) (Fin.ext (by dsimp only; omega))

end Cert.InRef

namespace Cert.InIdeal.Body

open Cert.InIdeal Cert.InIdeal.Gen

variable (m : (ℓ : Loc nD τ sig) → Buf (Elt Ideal) ℓ)

/-- Argument `0`. -/
abbrev x0 (c : Dev nD) : Vec Ideal S8192x1024 .f32 := m ((c : Thread nD τ).loc main_arg0)

/-- Argument `1`. -/
abbrev x1 (c : Dev nD) : Vec Ideal S1024x2048 .f32 := m ((c : Thread nD τ).loc main_arg1)

theorem read0 (c : Dev nD) (R : Fin 8192) (k : Fin 1024) : A0 m c (ix2 R k) = x0 m c (ix2 R k) := by
  unfold A0 V
  simp only [hostOps0, List.flatten_cons, List.flatten_nil, List.append_nil, List.cons_append, List.nil_append,
    TRef.binary, TRef.nullary, TRef.unary, TRef.toBuf, TRef.ofBuf, cast_eq]
  after_results_simp
  try pointwise []

theorem read1 (c : Dev nD) (a : Fin 8) (b : Fin 1024) (d : Fin 256) : A1 m c (ix3 a b d) = x1 m c (ix2 b ⟨a.val * 256 + d.val, by omega⟩) := by
  unfold A1 V
  simp only [hostOps0, List.flatten_cons, List.flatten_nil, List.append_nil, List.cons_append, List.nil_append,
    TRef.binary, TRef.nullary, TRef.unary, TRef.toBuf, TRef.ofBuf, cast_eq]
  after_results_simp
  try pointwise []

theorem val3 (c : Dev nD) : G3 m c = Cert.InRefIdeal.Read.val_main_v0 (F := Ideal) (x0 m c) (x1 m c) := by
  funext i
  obtain ⟨p, q, rfl⟩ : ∃ (p : Fin 8192) (q : Fin 2048), i = ix2 p q := ⟨i 0, i 1, eq_ix2 i⟩
  refine Eq.trans ?_ (Cert.InRef.out0 (x0 m c) (x1 m c) p q).symm
  show res3 m c p q = _
  unfold res3
  simp only [read0 m, read1 m]

theorem algebraic : Cert.algebraic_InIdeal_InRefIdeal := by
  intro m g m' g' hpre hag
  refine ⟨fun c => G3 m c, ?_, ?_⟩
  · exact (θ_run defs _ _).mono (fun r h c => ⟨(h c).1.trans (final3 m c), (h c).2⟩) (Value.run_blocks m g)
  · refine (θ_run Cert.InRefIdeal.defs _ _).mono (fun r h c => ⟨(h c).1.trans ?_, (h c).2⟩) (Cert.InRefIdeal.Value.run m' g')
    obtain ⟨h0, h1⟩ := hag c
    refine (Cert.InRefIdeal.Read.val_main_v0_eq _ _).trans ?_
    rw [h0, h1]
    exact (val3 m c).symm

end Cert.InIdeal.Body

end
-- ==== Proof.MixfValue.lean ====
/- The values of the call `mix`: the gated unit and the two root-mean-square normalisations, side by side. -/
module

public import proofs.«01_k».proof.Proof.Base
public import proofs.«01_k».proof.Proof.Forms
public import proofs.«01_k».proof.Proof.Gen.MixfIdeal.Value

@[expose] public section

noncomputable section

open Idealize.ShloMosaic Idealize.ShloMosaic.TcCoe Idealize.SL.Sem Idealize.ShloMosaic.StableHlo
open Idealize.ShloMosaic.Pipeline (Dat)

namespace Cert.MixfIdeal.Body

open Cert.MixfIdeal Cert.MixfIdeal.Gen

theorem hz : (![0, 0] : Fin 2 → Nat) = fun _ => 0 := Rows.hz2

/-- The two normalised halves of a row. -/
def mixed (x y : Fin 512 → EReal) (w : Fin 512 → Fin 512 → EReal) (b g e : Fin 1 → Fin 512 → EReal) (q : Fin 1024) : EReal :=
  if h : q.val < 512 then Rows.rms x (g 0) ⟨q.val, h⟩ else Rows.rms (Rows.glu y w (b 0)) (e 0) ⟨q.val - 512, by omega⟩

theorem out7_apply (x0 : Vec Ideal S1024x512 .f32) (x1 : Vec Ideal S1024x512 .f32) (x2 : Vec Ideal S512x512 .bf16) (x3 : Vec Ideal S1x512 .f32) (x4 : Vec Ideal S1x512 .f32) (x5 : Vec Ideal S1x512 .f32) (x6 : Vec Ideal S8x128 .f32) (r : Fin 1024) (q : Fin 1024) :
    out0_7 x0 x1 x2 x3 x4 x5 x6 (ix2 r q) = mixed (fun k => x0 (ix2 r k)) (fun k => x1 (ix2 r k)) (fun a b => x2 (ix2 a b)) (fun a b => x3 (ix2 a b)) (fun a b => x4 (ix2 a b)) (fun a b => x5 (ix2 a b)) q := by
  unfold out0_7
  rw [View.canon_unit_zero hz]
  simp only [View.ld_unit_zero (S := S1024x512) hz, View.ld_unit_zero (S := S512x512) hz, View.ld_unit_zero (S := S1x512) hz]
  pointwise [k0_pay1, k0_pay2, k0_pay3, Rows.rms, Rows.glu, Rows.gelu, mixed]

variable (m : (ℓ : Loc nD τ sig) → Buf (Elt Ideal) ℓ)

/-- Array `0` the call is given. -/
abbrev A0 (c : Dev nD) : S8192x512.Idx → EReal := V m c main_arg0

/-- Array `1` the call is given. -/
abbrev A1 (c : Dev nD) : S8192x512.Idx → EReal := V m c main_arg1

/-- Array `2` the call is given. -/
abbrev A2 (c : Dev nD) : S512x512.Idx → EReal := V m c main_v1

/-- Array `3` the call is given. -/
abbrev A3 (c : Dev nD) : S1x512.Idx → EReal := V m c main_v2

/-- Array `4` the call is given. -/
abbrev A4 (c : Dev nD) : S1x512.Idx → EReal := V m c main_v3

/-- Array `5` the call is given. -/
abbrev A5 (c : Dev nD) : S1x512.Idx → EReal := V m c main_v4

theorem blk0 (c : Dev nD) (t : Fin cfg0.N) (r : Fin 1024) (k : Fin 512) :
    (iblk m c 0 t : S1024x512.Idx → EReal) (ix2 r k) = A0 m c (ix2 (Rows.row (T := 8192) rfl t r) k) := by
  unfold iblk; rw [View.read_apply]
  show (V m c main_arg0 : S8192x512.Idx → EReal) _ = _
  refine congrArg (A0 m c) (funext fun a => Fin.ext ?_)
  match a with
  | ⟨0, _⟩ => show win0_0.index t 0 * 1024 + 1 * r.val = 1024 * t.val + r.val
              rw [(by decide +kernel : ∀ t : Fin grid0.N, win0_0.index t 0 = t.val) t]; omega
  | ⟨1, _⟩ => show win0_0.index t 1 * 512 + 1 * k.val = k.val
              rw [(by decide +kernel : ∀ t : Fin grid0.N, win0_0.index t 1 = 0) t]; omega

theorem blk1 (c : Dev nD) (t : Fin cfg0.N) (r : Fin 1024) (k : Fin 512) :
    (iblk m c 1 t : S1024x512.Idx → EReal) (ix2 r k) = A1 m c (ix2 (Rows.row (T := 8192) rfl t r) k) := by
  unfold iblk; rw [View.read_apply]
  show (V m c main_arg1 : S8192x512.Idx → EReal) _ = _
  refine congrArg (A1 m c) (funext fun a => Fin.ext ?_)
  match a with
  | ⟨0, _⟩ => show win0_1.index t 0 * 1024 + 1 * r.val = 1024 * t.val + r.val
              rw [(by decide +kernel : ∀ t : Fin grid0.N, win0_1.index t 0 = t.val) t]; omega
  | ⟨1, _⟩ => show win0_1.index t 1 * 512 + 1 * k.val = k.val
              rw [(by decide +kernel : ∀ t : Fin grid0.N, win0_1.index t 1 = 0) t]; omega

theorem blk2 (c : Dev nD) (t : Fin cfg0.N) (r : Fin 512) (k : Fin 512) :
    (iblk m c 2 t : S512x512.Idx → EReal) (ix2 r k) = A2 m c (ix2 r k) := by
  unfold iblk; rw [View.read_apply]
  show (V m c main_v1 : S512x512.Idx → EReal) _ = _
  refine congrArg (A2 m c) (funext fun a => Fin.ext ?_)
  match a with
  | ⟨0, _⟩ => show win0_2.index t 0 * 512 + 1 * r.val = r.val
              rw [(by decide +kernel : ∀ t : Fin grid0.N, win0_2.index t 0 = 0) t]; omega
  | ⟨1, _⟩ => show win0_2.index t 1 * 512 + 1 * k.val = k.val
              rw [(by decide +kernel : ∀ t : Fin grid0.N, win0_2.index t 1 = 0) t]; omega

theorem blk3 (c : Dev nD) (t : Fin cfg0.N) (r : Fin 1) (k : Fin 512) :
    (iblk m c 3 t : S1x512.Idx → EReal) (ix2 r k) = A3 m c (ix2 r k) := by
  unfold iblk; rw [View.read_apply]
  show (V m c main_v2 : S1x512.Idx → EReal) _ = _
  refine congrArg (A3 m c) (funext fun a => Fin.ext ?_)
  match a with
  | ⟨0, _⟩ => show win0_3.index t 0 * 1 + 1 * r.val = r.val
              rw [(by decide +kernel : ∀ t : Fin grid0.N, win0_3.index t 0 = 0) t]; omega
  | ⟨1, _⟩ => show win0_3.index t 1 * 512 + 1 * k.val = k.val
              rw [(by decide +kernel : ∀ t : Fin grid0.N, win0_3.index t 1 = 0) t]; omega

theorem blk4 (c : Dev nD) (t : Fin cfg0.N) (r : Fin 1) (k : Fin 512) :
    (iblk m c 4 t : S1x512.Idx → EReal) (ix2 r k) = A4 m c (ix2 r k) := by
  unfold iblk; rw [View.read_apply]
  show (V m c main_v3 : S1x512.Idx → EReal) _ = _
  refine congrArg (A4 m c) (funext fun a => Fin.ext ?_)
  match a with
  | ⟨0, _⟩ => show win0_4.index t 0 * 1 + 1 * r.val = r.val
              rw [(by decide +kernel : ∀ t : Fin grid0.N, win0_4.index t 0 = 0) t]; omega
  | ⟨1, _⟩ => show win0_4.index t 1 * 512 + 1 * k.val = k.val
              rw [(by decide +kernel : ∀ t : Fin grid0.N, win0_4.index t 1 = 0) t]; omega

theorem blk5 (c : Dev nD) (t : Fin cfg0.N) (r : Fin 1) (k : Fin 512) :
    (iblk m c 5 t : S1x512.Idx → EReal) (ix2 r k) = A5 m c (ix2 r k) := by
  unfold iblk; rw [View.read_apply]
  show (V m c main_v4 : S1x512.Idx → EReal) _ = _
  refine congrArg (A5 m c) (funext fun a => Fin.ext ?_)
  match a with
  | ⟨0, _⟩ => show win0_5.index t 0 * 1 + 1 * r.val = r.val
              rw [(by decide +kernel : ∀ t : Fin grid0.N, win0_5.index t 0 = 0) t]; omega
  | ⟨1, _⟩ => show win0_5.index t 1 * 512 + 1 * k.val = k.val
              rw [(by decide +kernel : ∀ t : Fin grid0.N, win0_5.index t 1 = 0) t]; omega

/-- Element `(R, q)` of result `7`. -/
def res7 (c : Dev nD) (R : Fin 8192) (q : Fin 1024) : EReal :=
  mixed (fun k => A0 m c (ix2 R k)) (fun k => A1 m c (ix2 R k)) (fun a b => A2 m c (ix2 a b)) (fun a b => A3 m c (ix2 a b)) (fun a b => A4 m c (ix2 a b)) (fun a b => A5 m c (ix2 a b)) q

theorem row7 (c : Dev nD) (t : Fin cfg0.N) (r : Fin 1024) (q : Fin 1024) :
    out0_7 (iblk m c 0 t) (iblk m c 1 t) (iblk m c 2 t) (iblk m c 3 t) (iblk m c 4 t) (iblk m c 5 t) (iblk m c 6 t) (ix2 r q) = res7 m c (Rows.row (T := 8192) rfl t r) q := by
  rw [out7_apply]
  unfold res7
  simp only [blk0 m c t, blk1 m c t, blk2 m c t, blk3 m c t, blk4 m c t, blk5 m c t]

/-- Result `7`. -/
def G7 (c : Dev nD) : Vec Ideal S8192x1024 .bf16 := fun i => res7 m c (i 0) (i 1)

theorem final7 (c : Dev nD) : (dats m 0 c).arrAt 7 cfg0.N = G7 m c := by
    refine (dats m 0 c).arrAt_eq_of_cover 7 (G7 m c) (fun t hf => ?_) (fun i => ?_)
    · refine (Value.flushed7 m c t).trans ?_
      have hrow := row7 m c t
      generalize out0_7 (iblk m c 0 t) (iblk m c 1 t) (iblk m c 2 t) (iblk m c 3 t) (iblk m c 4 t) (iblk m c 5 t) (iblk m c 6 t) = y at hrow ⊢
      funext j
      have hx0 : win0_7.xsize (grid0.coords t) 0 = 1024 := (by decide +kernel : ∀ t : Fin grid0.N, win0_7.xsize (grid0.coords t) 0 = 1024) t
      have hx1 : win0_7.xsize (grid0.coords t) 1 = 1024 := (by decide +kernel : ∀ t : Fin grid0.N, win0_7.xsize (grid0.coords t) 1 = 1024) t
      have hj0 : (j 0 : Nat) < 1024 := lt_of_lt_of_eq (j 0).isLt hx0
      have hj1 : (j 1 : Nat) < 1024 := lt_of_lt_of_eq (j 1).isLt hx1
      rw [View.read_apply]
      refine Eq.trans (congrArg y (funext fun a => Fin.ext ?_)) ((hrow ⟨j 0, hj0⟩ ⟨j 1, hj1⟩).trans ?_)
      · match a with
        | ⟨0, _⟩ => rfl
        | ⟨1, _⟩ => rfl
      · show res7 m c _ _ = res7 m c _ _
        congr 1
        · refine Fin.ext ?_
          show 1024 * t.val + (j 0 : Nat) = win0_7.index t 0 * 1024 + 1 * (j 0 : Nat)
          rw [(by decide +kernel : ∀ t : Fin grid0.N, win0_7.index t 0 = t.val) t]; omega
        · refine Fin.ext ?_
          show (j 1 : Nat) = win0_7.index t 1 * 1024 + 1 * (j 1 : Nat)
          rw [(by decide +kernel : ∀ t : Fin grid0.N, win0_7.index t 1 = 0) t]; omega
    · obtain ⟨t, r, h⟩ := Rows.exists_row (N := 8) (B := 1024) (T := 8192) rfl (by decide) (i 0)
      refine ⟨t, flush0_7 t, ?_⟩
      show i ∈ ((View.whole main_v5).slice (win0_7.rect t)).set
      rw [View.set_slice_whole, Rect.mem_set_unit]
      intro a
      have h1 : (i 1 : Nat) < 1024 := (i 1).isLt
      have h0 : (i 0 : Nat) = 1024 * t.val + r.val := congrArg Fin.val h
      have hr := r.isLt
      match a with
      | ⟨0, _⟩ => show win0_7.index t 0 * 1024 ≤ (i 0 : Nat) ∧ (i 0 : Nat) < win0_7.index t 0 * 1024 + win0_7.xsize (grid0.coords t) 0
                  rw [(by decide +kernel : ∀ t : Fin grid0.N, win0_7.index t 0 = t.val) t, (by decide +kernel : ∀ t : Fin grid0.N, win0_7.xsize (grid0.coords t) 0 = 1024) t]; omega
      | ⟨1, _⟩ => show win0_7.index t 1 * 1024 ≤ (i 1 : Nat) ∧ (i 1 : Nat) < win0_7.index t 1 * 1024 + win0_7.xsize (grid0.coords t) 1
                  rw [(by decide +kernel : ∀ t : Fin grid0.N, win0_7.index t 1 = 0) t, (by decide +kernel : ∀ t : Fin grid0.N, win0_7.xsize (grid0.coords t) 1 = 1024) t]; omega

end Cert.MixfIdeal.Body

end
-- ==== Proof.MixfClaim.lean ====
/- The claim on the call `mix`: its result is the two normalised halves of the mixed row. -/
module

public import proofs.«01_k».proof.Defs
public import proofs.«01_k».proof.Proof.MixfValue
public import proofs.«01_k».proof.Proof.Gen.MixfRefIdeal
public import proofs.«01_k».proof.Proof.Gen.MixfRefIdeal.Run
public import proofs.«01_k».proof.Proof.Gen.MixfRefIdeal.Read

@[expose] public section

noncomputable section

open Idealize.ShloMosaic Idealize.ShloMosaic.TcCoe Idealize.SL.Sem Idealize.ShloMosaic.StableHlo

namespace Cert.MixfRef

open Cert.MixfRefIdeal Cert.MixfRefIdeal.Read Cert.MixfRefIdeal.Gen

theorem out0 (x0 : Vec Ideal S8192x512 .f32) (x1 : Vec Ideal S8192x512 .f32) (x2 : Vec Ideal S512x512 .f32) (x3 : Vec Ideal S512 .f32) (x4 : Vec Ideal S512 .f32) (x5 : Vec Ideal S512 .f32) (p : Fin 8192) (q : Fin 1024) :
    val_main_v51 (F := Ideal) x0 x1 x2 x3 x4 x5 (ix2 p q) = Cert.MixfIdeal.Body.mixed (fun k => x0 (ix2 p k)) (fun k => x1 (ix2 p k)) (fun a b => x2 (ix2 a b)) (fun a b => x3 (ix1 b)) (fun a b => x4 (ix1 b)) (fun a b => x5 (ix1 b)) q := by
  pointwise [val_main_v0, val_main_v1, val_main_cst, val_main_v2, val_main_v3, val_main_v4, val_main_cst_0, val_main_v5, val_main_v6, val_main_v7, val_main_cst_1, val_main_v8, val_main_v9, val_main_cst_2, val_main_v10, val_main_v11, val_main_v12, val_main_v13, val_main_v14, val_main_v15, val_main_v16, val_main_v17, val_main_v18, val_main_cst_3, val_main_v19, val_main_v20, val_main_cst_4, val_main_v21, val_main_v22, val_main_v23, val_main_v24, val_main_cst_5, val_main_v25, val_main_v26, val_main_cst_6, val_main_v27, val_main_v28, val_main_cst_7, val_main_v29, val_main_v30, val_main_v31, val_main_v32, val_main_v33, val_main_v34, val_main_v35, val_main_v36, val_main_v37, val_main_cst_8, val_main_v38, val_main_v39, val_main_cst_9, val_main_v40, val_main_v41, val_main_cst_10, val_main_v42, val_main_v43, val_main_v44, val_main_v45, val_main_v46, val_main_v47, val_main_v48, val_main_v49, val_main_v50, val_main_v51, Rows.rms, Rows.glu, Rows.gelu, Cert.MixfIdeal.Body.mixed]
  simp only [Rows.logistic_eq, Rows.gelu_eq]

end Cert.MixfRef

namespace Cert.MixfIdeal.Body

open Cert.MixfIdeal Cert.MixfIdeal.Gen

variable (m : (ℓ : Loc nD τ sig) → Buf (Elt Ideal) ℓ)

/-- Argument `0`. -/
abbrev x0 (c : Dev nD) : Vec Ideal S8192x512 .f32 := m ((c : Thread nD τ).loc main_arg0)

/-- Argument `1`. -/
abbrev x1 (c : Dev nD) : Vec Ideal S8192x512 .f32 := m ((c : Thread nD τ).loc main_arg1)

/-- Argument `2`. -/
abbrev x2 (c : Dev nD) : Vec Ideal S512x512 .f32 := m ((c : Thread nD τ).loc main_arg2)

/-- Argument `3`. -/
abbrev x3 (c : Dev nD) : Vec Ideal S512 .f32 := m ((c : Thread nD τ).loc main_arg3)

/-- Argument `4`. -/
abbrev x4 (c : Dev nD) : Vec Ideal S512 .f32 := m ((c : Thread nD τ).loc main_arg4)

/-- Argument `5`. -/
abbrev x5 (c : Dev nD) : Vec Ideal S512 .f32 := m ((c : Thread nD τ).loc main_arg5)

theorem read0 (c : Dev nD) (R : Fin 8192) (k : Fin 512) : A0 m c (ix2 R k) = x0 m c (ix2 R k) := by
  unfold A0 V
  simp only [hostOps0, List.flatten_cons, List.flatten_nil, List.append_nil, List.cons_append, List.nil_append,
    TRef.binary, TRef.nullary, TRef.unary, TRef.toBuf, TRef.ofBuf, cast_eq]
  after_results_simp
  try pointwise []

theorem read1 (c : Dev nD) (R : Fin 8192) (k : Fin 512) : A1 m c (ix2 R k) = x1 m c (ix2 R k) := by
  unfold A1 V
  simp only [hostOps0, List.flatten_cons, List.flatten_nil, List.append_nil, List.cons_append, List.nil_append,
    TRef.binary, TRef.nullary, TRef.unary, TRef.toBuf, TRef.ofBuf, cast_eq]
  after_results_simp
  try pointwise []

theorem read2 (c : Dev nD) (a : Fin 512) (b : Fin 512) : A2 m c (ix2 a b) = x2 m c (ix2 a b) := by
  unfold A2 V
  simp only [hostOps0, List.flatten_cons, List.flatten_nil, List.append_nil, List.cons_append, List.nil_append,
    TRef.binary, TRef.nullary, TRef.unary, TRef.toBuf, TRef.ofBuf, cast_eq]
  after_results_simp
  try pointwise []

theorem read3 (c : Dev nD) (a : Fin 1) (b : Fin 512) : A3 m c (ix2 a b) = x3 m c (ix1 b) := by
  unfold A3 V
  simp only [hostOps0, List.flatten_cons, List.flatten_nil, List.append_nil, List.cons_append, List.nil_append,
    TRef.binary, TRef.nullary, TRef.unary, TRef.toBuf, TRef.ofBuf, cast_eq]
  after_results_simp
  try pointwise []

theorem read4 (c : Dev nD) (a : Fin 1) (b : Fin 512) : A4 m c (ix2 a b) = x4 m c (ix1 b) := by
  unfold A4 V
  simp only [hostOps0, List.flatten_cons, List.flatten_nil, List.append_nil, List.cons_append, List.nil_append,
    TRef.binary, TRef.nullary, TRef.unary, TRef.toBuf, TRef.ofBuf, cast_eq]
  after_results_simp
  try pointwise []

theorem read5 (c : Dev nD) (a : Fin 1) (b : Fin 512) : A5 m c (ix2 a b) = x5 m c (ix1 b) := by
  unfold A5 V
  simp only [hostOps0, List.flatten_cons, List.flatten_nil, List.append_nil, List.cons_append, List.nil_append,
    TRef.binary, TRef.nullary, TRef.unary, TRef.toBuf, TRef.ofBuf, cast_eq]
  after_results_simp
  try pointwise []

theorem val7 (c : Dev nD) : G7 m c = Cert.MixfRefIdeal.Read.val_main_v51 (F := Ideal) (x0 m c) (x1 m c) (x2 m c) (x3 m c) (x4 m c) (x5 m c) := by
  funext i
  obtain ⟨p, q, rfl⟩ : ∃ (p : Fin 8192) (q : Fin 1024), i = ix2 p q := ⟨i 0, i 1, eq_ix2 i⟩
  refine Eq.trans ?_ (Cert.MixfRef.out0 (x0 m c) (x1 m c) (x2 m c) (x3 m c) (x4 m c) (x5 m c) p q).symm
  show res7 m c p q = _
  unfold res7
  simp only [read0 m, read1 m, read2 m, read3 m, read4 m, read5 m]

theorem algebraic : Cert.algebraic_MixfIdeal_MixfRefIdeal := by
  intro m g m' g' hpre hag
  refine ⟨fun c => G7 m c, ?_, ?_⟩
  · exact (θ_run defs _ _).mono (fun r h c => ⟨(h c).1.trans (final7 m c), (h c).2⟩) (Value.run_blocks m g)
  · refine (θ_run Cert.MixfRefIdeal.defs _ _).mono (fun r h c => ⟨(h c).1.trans ?_, (h c).2⟩) (Cert.MixfRefIdeal.Value.run m' g')
    obtain ⟨h0, h1, h2, h3, h4, h5⟩ := hag c
    refine (Cert.MixfRefIdeal.Read.val_main_v51_eq m' c).trans ?_
    rw [h0, h1, h2, h3, h4, h5]
    exact (val7 m c).symm

end Cert.MixfIdeal.Body

end
-- ==== Proof.OutValue.lean ====
/- The values of the call `out_proj`: the output projection with the residual stream added, and its layer normalisation. -/
module

public import proofs.«01_k».proof.Proof.Base
public import proofs.«01_k».proof.Proof.Forms
public import proofs.«01_k».proof.Proof.Gen.OutIdeal.Value

@[expose] public section

noncomputable section

open Idealize.ShloMosaic Idealize.ShloMosaic.TcCoe Idealize.SL.Sem Idealize.ShloMosaic.StableHlo
open Idealize.ShloMosaic.Pipeline (Dat)

namespace Cert.OutIdeal.Body

open Cert.OutIdeal Cert.OutIdeal.Gen

theorem hz : (![0, 0] : Fin 2 → Nat) = fun _ => 0 := Rows.hz2

/-- The sum before the normalisation. -/
def pre0 (x h : Fin 1024 → EReal) (w : Fin 1024 → Fin 1024 → EReal) (b g e : Fin 1 → Fin 1024 → EReal) (q : Fin 1024) : EReal :=
  Rows.al * h q + ∑ k, x k * w k q + b 0 q

/-- Its layer normalisation. -/
def post0 (x h : Fin 1024 → EReal) (w : Fin 1024 → Fin 1024 → EReal) (b g e : Fin 1 → Fin 1024 → EReal) (q : Fin 1024) : EReal :=
  Rows.norm (pre0 x h w b g e) (g 0) (e 0) q

theorem out6_apply (x0 : Vec Ideal S1024x1024 .bf16) (x1 : Vec Ideal S1024x1024 .f32) (x2 : Vec Ideal S1024x1024 .bf16) (x3 : Vec Ideal S1x1024 .f32) (x4 : Vec Ideal S1x1024 .f32) (x5 : Vec Ideal S1x1024 .f32) (r : Fin 1024) (q : Fin 1024) :
    out0_6 x0 x1 x2 x3 x4 x5 (ix2 r q) = pre0 (fun k => x0 (ix2 r k)) (fun k => x1 (ix2 r k)) (fun a b => x2 (ix2 a b)) (fun a b => x3 (ix2 a b)) (fun a b => x4 (ix2 a b)) (fun a b => x5 (ix2 a b)) q := by
  unfold out0_6
  rw [View.canon_unit_zero hz]
  simp only [View.ld_unit_zero (S := S1024x1024) hz, View.ld_unit_zero (S := S1x1024) hz]
  pointwise [k0_pay1, k0_pay2, Rows.norm, Rows.istd, Rows.mean, pre0, pre0]

theorem out7_apply (x0 : Vec Ideal S1024x1024 .bf16) (x1 : Vec Ideal S1024x1024 .f32) (x2 : Vec Ideal S1024x1024 .bf16) (x3 : Vec Ideal S1x1024 .f32) (x4 : Vec Ideal S1x1024 .f32) (x5 : Vec Ideal S1x1024 .f32) (r : Fin 1024) (q : Fin 1024) :
    out0_7 x0 x1 x2 x3 x4 x5 (ix2 r q) = post0 (fun k => x0 (ix2 r k)) (fun k => x1 (ix2 r k)) (fun a b => x2 (ix2 a b)) (fun a b => x3 (ix2 a b)) (fun a b => x4 (ix2 a b)) (fun a b => x5 (ix2 a b)) q := by
  unfold out0_7
  rw [View.canon_unit_zero hz]
  simp only [View.ld_unit_zero (S := S1024x1024) hz, View.ld_unit_zero (S := S1x1024) hz]
  pointwise [k0_pay1, k0_pay2, Rows.norm, Rows.istd, Rows.mean, pre0, post0]

variable (m : (ℓ : Loc nD τ sig) → Buf (Elt Ideal) ℓ)

/-- Array `0` the call is given. -/
abbrev A0 (c : Dev nD) : S8192x1024.Idx → EReal := V m c main_arg0

/-- Array `1` the call is given. -/
abbrev A1 (c : Dev nD) : S8192x1024.Idx → EReal := V m c main_arg1

/-- Array `2` the call is given. -/
abbrev A2 (c : Dev nD) : S1024x1024.Idx → EReal := V m c main_v0

/-- Array `3` the call is given. -/
abbrev A3 (c : Dev nD) : S1x1024.Idx → EReal := V m c main_v1

/-- Array `4` the call is given. -/
abbrev A4 (c : Dev nD) : S1x1024.Idx → EReal := V m c main_v2

/-- Array `5` the call is given. -/
abbrev A5 (c : Dev nD) : S1x1024.Idx → EReal := V m c main_v3

theorem blk0 (c : Dev nD) (t : Fin cfg0.N) (r : Fin 1024) (k : Fin 1024) :
    (iblk m c 0 t : S1024x1024.Idx → EReal) (ix2 r k) = A0 m c (ix2 (Rows.row (T := 8192) rfl t r) k) := by
  unfold iblk; rw [View.read_apply]
  show (V m c main_arg0 : S8192x1024.Idx → EReal) _ = _
  refine congrArg (A0 m c) (funext fun a => Fin.ext ?_)
  match a with
  | ⟨0, _⟩ => show win0_0.index t 0 * 1024 + 1 * r.val = 1024 * t.val + r.val
              rw [(by decide +kernel : ∀ t : Fin grid0.N, win0_0.index t 0 = t.val) t]; omega
  | ⟨1, _⟩ => show win0_0.index t 1 * 1024 + 1 * k.val = k.val
              rw [(by decide +kernel : ∀ t : Fin grid0.N, win0_0.index t 1 = 0) t]; omega

theorem blk1 (c : Dev nD) (t : Fin cfg0.N) (r : Fin 1024) (k : Fin 1024) :
    (iblk m c 1 t : S1024x1024.Idx → EReal) (ix2 r k) = A1 m c (ix2 (Rows.row (T := 8192) rfl t r) k) := by
  unfold iblk; rw [View.read_apply]
  show (V m c main_arg1 : S8192x1024.Idx → EReal) _ = _
  refine congrArg (A1 m c) (funext fun a => Fin.ext ?_)
  match a with
  | ⟨0, _⟩ => show win0_1.index t 0 * 1024 + 1 * r.val = 1024 * t.val + r.val
              rw [(by decide +kernel : ∀ t : Fin grid0.N, win0_1.index t 0 = t.val) t]; omega
  | ⟨1, _⟩ => show win0_1.index t 1 * 1024 + 1 * k.val = k.val
              rw [(by decide +kernel : ∀ t : Fin grid0.N, win0_1.index t 1 = 0) t]; omega

theorem blk2 (c : Dev nD) (t : Fin cfg0.N) (r : Fin 1024) (k : Fin 1024) :
    (iblk m c 2 t : S1024x1024.Idx → EReal) (ix2 r k) = A2 m c (ix2 r k) := by
  unfold iblk; rw [View.read_apply]
  show (V m c main_v0 : S1024x1024.Idx → EReal) _ = _
  refine congrArg (A2 m c) (funext fun a => Fin.ext ?_)
  match a with
  | ⟨0, _⟩ => show win0_2.index t 0 * 1024 + 1 * r.val = r.val
              rw [(by decide +kernel : ∀ t : Fin grid0.N, win0_2.index t 0 = 0) t]; omega
  | ⟨1, _⟩ => show win0_2.index t 1 * 1024 + 1 * k.val = k.val
              rw [(by decide +kernel : ∀ t : Fin grid0.N, win0_2.index t 1 = 0) t]; omega

theorem blk3 (c : Dev nD) (t : Fin cfg0.N) (r : Fin 1) (k : Fin 1024) :
    (iblk m c 3 t : S1x1024.Idx → EReal) (ix2 r k) = A3 m c (ix2 r k) := by
  unfold iblk; rw [View.read_apply]
  show (V m c main_v1 : S1x1024.Idx → EReal) _ = _
  refine congrArg (A3 m c) (funext fun a => Fin.ext ?_)
  match a with
  | ⟨0, _⟩ => show win0_3.index t 0 * 1 + 1 * r.val = r.val
              rw [(by decide +kernel : ∀ t : Fin grid0.N, win0_3.index t 0 = 0) t]; omega
  | ⟨1, _⟩ => show win0_3.index t 1 * 1024 + 1 * k.val = k.val
              rw [(by decide +kernel : ∀ t : Fin grid0.N, win0_3.index t 1 = 0) t]; omega

theorem blk4 (c : Dev nD) (t : Fin cfg0.N) (r : Fin 1) (k : Fin 1024) :
    (iblk m c 4 t : S1x1024.Idx → EReal) (ix2 r k) = A4 m c (ix2 r k) := by
  unfold iblk; rw [View.read_apply]
  show (V m c main_v2 : S1x1024.Idx → EReal) _ = _
  refine congrArg (A4 m c) (funext fun a => Fin.ext ?_)
  match a with
  | ⟨0, _⟩ => show win0_4.index t 0 * 1 + 1 * r.val = r.val
              rw [(by decide +kernel : ∀ t : Fin grid0.N, win0_4.index t 0 = 0) t]; omega
  | ⟨1, _⟩ => show win0_4.index t 1 * 1024 + 1 * k.val = k.val
              rw [(by decide +kernel : ∀ t : Fin grid0.N, win0_4.index t 1 = 0) t]; omega

theorem blk5 (c : Dev nD) (t : Fin cfg0.N) (r : Fin 1) (k : Fin 1024) :
    (iblk m c 5 t : S1x1024.Idx → EReal) (ix2 r k) = A5 m c (ix2 r k) := by
  unfold iblk; rw [View.read_apply]
  show (V m c main_v3 : S1x1024.Idx → EReal) _ = _
  refine congrArg (A5 m c) (funext fun a => Fin.ext ?_)
  match a with
  | ⟨0, _⟩ => show win0_5.index t 0 * 1 + 1 * r.val = r.val
              rw [(by decide +kernel : ∀ t : Fin grid0.N, win0_5.index t 0 = 0) t]; omega
  | ⟨1, _⟩ => show win0_5.index t 1 * 1024 + 1 * k.val = k.val
              rw [(by decide +kernel : ∀ t : Fin grid0.N, win0_5.index t 1 = 0) t]; omega

/-- Element `(R, q)` of result `6`. -/
def res6 (c : Dev nD) (R : Fin 8192) (q : Fin 1024) : EReal :=
  pre0 (fun k => A0 m c (ix2 R k)) (fun k => A1 m c (ix2 R k)) (fun a b => A2 m c (ix2 a b)) (fun a b => A3 m c (ix2 a b)) (fun a b => A4 m c (ix2 a b)) (fun a b => A5 m c (ix2 a b)) q

theorem row6 (c : Dev nD) (t : Fin cfg0.N) (r : Fin 1024) (q : Fin 1024) :
    out0_6 (iblk m c 0 t) (iblk m c 1 t) (iblk m c 2 t) (iblk m c 3 t) (iblk m c 4 t) (iblk m c 5 t) (ix2 r q) = res6 m c (Rows.row (T := 8192) rfl t r) q := by
  rw [out6_apply]
  unfold res6
  simp only [blk0 m c t, blk1 m c t, blk2 m c t, blk3 m c t, blk4 m c t, blk5 m c t]

/-- Result `6`. -/
def G6 (c : Dev nD) : Vec Ideal S8192x1024 .f32 := fun i => res6 m c (i 0) (i 1)

theorem final6 (c : Dev nD) : (dats m 0 c).arrAt 6 cfg0.N = G6 m c := by
    refine (dats m 0 c).arrAt_eq_of_cover 6 (G6 m c) (fun t hf => ?_) (fun i => ?_)
    · refine (Value.flushed6 m c t).trans ?_
      have hrow := row6 m c t
      generalize out0_6 (iblk m c 0 t) (iblk m c 1 t) (iblk m c 2 t) (iblk m c 3 t) (iblk m c 4 t) (iblk m c 5 t) = y at hrow ⊢
      funext j
      have hx0 : win0_6.xsize (grid0.coords t) 0 = 1024 := (by decide +kernel : ∀ t : Fin grid0.N, win0_6.xsize (grid0.coords t) 0 = 1024) t
      have hx1 : win0_6.xsize (grid0.coords t) 1 = 1024 := (by decide +kernel : ∀ t : Fin grid0.N, win0_6.xsize (grid0.coords t) 1 = 1024) t
      have hj0 : (j 0 : Nat) < 1024 := lt_of_lt_of_eq (j 0).isLt hx0
      have hj1 : (j 1 : Nat) < 1024 := lt_of_lt_of_eq (j 1).isLt hx1
      rw [View.read_apply]
      refine Eq.trans (congrArg y (funext fun a => Fin.ext ?_)) ((hrow ⟨j 0, hj0⟩ ⟨j 1, hj1⟩).trans ?_)
      · match a with
        | ⟨0, _⟩ => rfl
        | ⟨1, _⟩ => rfl
      · show res6 m c _ _ = res6 m c _ _
        congr 1
        · refine Fin.ext ?_
          show 1024 * t.val + (j 0 : Nat) = win0_6.index t 0 * 1024 + 1 * (j 0 : Nat)
          rw [(by decide +kernel : ∀ t : Fin grid0.N, win0_6.index t 0 = t.val) t]; omega
        · refine Fin.ext ?_
          show (j 1 : Nat) = win0_6.index t 1 * 1024 + 1 * (j 1 : Nat)
          rw [(by decide +kernel : ∀ t : Fin grid0.N, win0_6.index t 1 = 0) t]; omega
    · obtain ⟨t, r, h⟩ := Rows.exists_row (N := 8) (B := 1024) (T := 8192) rfl (by decide) (i 0)
      refine ⟨t, flush0_6 t, ?_⟩
      show i ∈ ((View.whole main_v4_0).slice (win0_6.rect t)).set
      rw [View.set_slice_whole, Rect.mem_set_unit]
      intro a
      have h1 : (i 1 : Nat) < 1024 := (i 1).isLt
      have h0 : (i 0 : Nat) = 1024 * t.val + r.val := congrArg Fin.val h
      have hr := r.isLt
      match a with
      | ⟨0, _⟩ => show win0_6.index t 0 * 1024 ≤ (i 0 : Nat) ∧ (i 0 : Nat) < win0_6.index t 0 * 1024 + win0_6.xsize (grid0.coords t) 0
                  rw [(by decide +kernel : ∀ t : Fin grid0.N, win0_6.index t 0 = t.val) t, (by decide +kernel : ∀ t : Fin grid0.N, win0_6.xsize (grid0.coords t) 0 = 1024) t]; omega
      | ⟨1, _⟩ => show win0_6.index t 1 * 1024 ≤ (i 1 : Nat) ∧ (i 1 : Nat) < win0_6.index t 1 * 1024 + win0_6.xsize (grid0.coords t) 1
                  rw [(by decide +kernel : ∀ t : Fin grid0.N, win0_6.index t 1 = 0) t, (by decide +kernel : ∀ t : Fin grid0.N, win0_6.xsize (grid0.coords t) 1 = 1024) t]; omega

/-- Element `(R, q)` of result `7`. -/
def res7 (c : Dev nD) (R : Fin 8192) (q : Fin 1024) : EReal :=
  post0 (fun k => A0 m c (ix2 R k)) (fun k => A1 m c (ix2 R k)) (fun a b => A2 m c (ix2 a b)) (fun a b => A3 m c (ix2 a b)) (fun a b => A4 m c (ix2 a b)) (fun a b => A5 m c (ix2 a b)) q

theorem row7 (c : Dev nD) (t : Fin cfg0.N) (r : Fin 1024) (q : Fin 1024) :
    out0_7 (iblk m c 0 t) (iblk m c 1 t) (iblk m c 2 t) (iblk m c 3 t) (iblk m c 4 t) (iblk m c 5 t) (ix2 r q) = res7 m c (Rows.row (T := 8192) rfl t r) q := by
  rw [out7_apply]
  unfold res7
  simp only [blk0 m c t, blk1 m c t, blk2 m c t, blk3 m c t, blk4 m c t, blk5 m c t]

/-- Result `7`. -/
def G7 (c : Dev nD) : Vec Ideal S8192x1024 .f32 := fun i => res7 m c (i 0) (i 1)

theorem final7 (c : Dev nD) : (dats m 0 c).arrAt 7 cfg0.N = G7 m c := by
    refine (dats m 0 c).arrAt_eq_of_cover 7 (G7 m c) (fun t hf => ?_) (fun i => ?_)
    · refine (Value.flushed7 m c t).trans ?_
      have hrow := row7 m c t
      generalize out0_7 (iblk m c 0 t) (iblk m c 1 t) (iblk m c 2 t) (iblk m c 3 t) (iblk m c 4 t) (iblk m c 5 t) = y at hrow ⊢
      funext j
      have hx0 : win0_7.xsize (grid0.coords t) 0 = 1024 := (by decide +kernel : ∀ t : Fin grid0.N, win0_7.xsize (grid0.coords t) 0 = 1024) t
      have hx1 : win0_7.xsize (grid0.coords t) 1 = 1024 := (by decide +kernel : ∀ t : Fin grid0.N, win0_7.xsize (grid0.coords t) 1 = 1024) t
      have hj0 : (j 0 : Nat) < 1024 := lt_of_lt_of_eq (j 0).isLt hx0
      have hj1 : (j 1 : Nat) < 1024 := lt_of_lt_of_eq (j 1).isLt hx1
      rw [View.read_apply]
      refine Eq.trans (congrArg y (funext fun a => Fin.ext ?_)) ((hrow ⟨j 0, hj0⟩ ⟨j 1, hj1⟩).trans ?_)
      · match a with
        | ⟨0, _⟩ => rfl
        | ⟨1, _⟩ => rfl
      · show res7 m c _ _ = res7 m c _ _
        congr 1
        · refine Fin.ext ?_
          show 1024 * t.val + (j 0 : Nat) = win0_7.index t 0 * 1024 + 1 * (j 0 : Nat)
          rw [(by decide +kernel : ∀ t : Fin grid0.N, win0_7.index t 0 = t.val) t]; omega
        · refine Fin.ext ?_
          show (j 1 : Nat) = win0_7.index t 1 * 1024 + 1 * (j 1 : Nat)
          rw [(by decide +kernel : ∀ t : Fin grid0.N, win0_7.index t 1 = 0) t]; omega
    · obtain ⟨t, r, h⟩ := Rows.exists_row (N := 8) (B := 1024) (T := 8192) rfl (by decide) (i 0)
      refine ⟨t, flush0_7 t, ?_⟩
      show i ∈ ((View.whole main_v4_1).slice (win0_7.rect t)).set
      rw [View.set_slice_whole, Rect.mem_set_unit]
      intro a
      have h1 : (i 1 : Nat) < 1024 := (i 1).isLt
      have h0 : (i 0 : Nat) = 1024 * t.val + r.val := congrArg Fin.val h
      have hr := r.isLt
      match a with
      | ⟨0, _⟩ => show win0_7.index t 0 * 1024 ≤ (i 0 : Nat) ∧ (i 0 : Nat) < win0_7.index t 0 * 1024 + win0_7.xsize (grid0.coords t) 0
                  rw [(by decide +kernel : ∀ t : Fin grid0.N, win0_7.index t 0 = t.val) t, (by decide +kernel : ∀ t : Fin grid0.N, win0_7.xsize (grid0.coords t) 0 = 1024) t]; omega
      | ⟨1, _⟩ => show win0_7.index t 1 * 1024 ≤ (i 1 : Nat) ∧ (i 1 : Nat) < win0_7.index t 1 * 1024 + win0_7.xsize (grid0.coords t) 1
                  rw [(by decide +kernel : ∀ t : Fin grid0.N, win0_7.index t 1 = 0) t, (by decide +kernel : ∀ t : Fin grid0.N, win0_7.xsize (grid0.coords t) 1 = 1024) t]; omega

end Cert.OutIdeal.Body

end
-- ==== Proof.OutClaim.lean ====
/- The claim on the call `out_proj`: its results are the sum of the projection and the residual stream and its layer normalisation. -/
module

public import proofs.«01_k».proof.Defs
public import proofs.«01_k».proof.Proof.OutValue
public import proofs.«01_k».proof.Proof.Gen.OutRefIdeal
public import proofs.«01_k».proof.Proof.Gen.OutRefIdeal.Run
public import proofs.«01_k».proof.Proof.Gen.OutRefIdeal.Read

@[expose] public section

noncomputable section

open Idealize.ShloMosaic Idealize.ShloMosaic.TcCoe Idealize.SL.Sem Idealize.ShloMosaic.StableHlo

namespace Cert.OutRef

open Cert.OutRefIdeal Cert.OutRefIdeal.Read Cert.OutRefIdeal.Gen

theorem out0 (x0 : Vec Ideal S8192x1024 .bf16) (x1 : Vec Ideal S8192x1024 .f32) (x2 : Vec Ideal S1024x1024 .f32) (x3 : Vec Ideal S1024 .f32) (x4 : Vec Ideal S1024 .f32) (x5 : Vec Ideal S1024 .f32) (p : Fin 8192) (q : Fin 1024) :
    val_main_v7 (F := Ideal) x0 x1 x2 x3 (ix2 p q) = Cert.OutIdeal.Body.pre0 (fun k => x0 (ix2 p k)) (fun k => x1 (ix2 p k)) (fun a b => x2 (ix2 a b)) (fun a b => x3 (ix1 b)) (fun a b => x4 (ix1 b)) (fun a b => x5 (ix1 b)) q := by
  rw [← val_main_v7_eq]
  pointwise [Rows.norm, Rows.istd, Rows.mean, Cert.OutIdeal.Body.pre0, Cert.OutIdeal.Body.pre0]
  exact (add_assoc _ _ _).symm

theorem out1 (x0 : Vec Ideal S8192x1024 .bf16) (x1 : Vec Ideal S8192x1024 .f32) (x2 : Vec Ideal S1024x1024 .f32) (x3 : Vec Ideal S1024 .f32) (x4 : Vec Ideal S1024 .f32) (x5 : Vec Ideal S1024 .f32) (p : Fin 8192) (q : Fin 1024) :
    val_main_v31 (F := Ideal) x0 x1 x2 x3 x4 x5 (ix2 p q) = Cert.OutIdeal.Body.post0 (fun k => x0 (ix2 p k)) (fun k => x1 (ix2 p k)) (fun a b => x2 (ix2 a b)) (fun a b => x3 (ix1 b)) (fun a b => x4 (ix1 b)) (fun a b => x5 (ix1 b)) q := by
  pointwise [val_main_cst, val_main_v0, val_main_v1, val_main_v2, val_main_v3, val_main_v4, val_main_v5, val_main_v6, val_main_v7, val_main_cst_0, val_main_v8, val_main_v9, val_main_cst_1, val_main_v10, val_main_v11, val_main_v12, val_main_v13, val_main_v14, val_main_cst_2, val_main_v15, val_main_v16, val_main_cst_3, val_main_v17, val_main_v18, val_main_v19, val_main_v20, val_main_cst_4, val_main_v21, val_main_v22, val_main_v23, val_main_v24, val_main_v25, val_main_v26, val_main_v27, val_main_v28, val_main_v29, val_main_v30, val_main_v31, Rows.norm, Rows.istd, Rows.mean, Cert.OutIdeal.Body.pre0, Cert.OutIdeal.Body.post0]
  simp only [add_assoc]

end Cert.OutRef

namespace Cert.OutIdeal.Body

open Cert.OutIdeal Cert.OutIdeal.Gen

variable (m : (ℓ : Loc nD τ sig) → Buf (Elt Ideal) ℓ)

/-- Argument `0`. -/
abbrev x0 (c : Dev nD) : Vec Ideal S8192x1024 .bf16 := m ((c : Thread nD τ).loc main_arg0)

/-- Argument `1`. -/
abbrev x1 (c : Dev nD) : Vec Ideal S8192x1024 .f32 := m ((c : Thread nD τ).loc main_arg1)

/-- Argument `2`. -/
abbrev x2 (c : Dev nD) : Vec Ideal S1024x1024 .f32 := m ((c : Thread nD τ).loc main_arg2)

/-- Argument `3`. -/
abbrev x3 (c : Dev nD) : Vec Ideal S1024 .f32 := m ((c : Thread nD τ).loc main_arg3)

/-- Argument `4`. -/
abbrev x4 (c : Dev nD) : Vec Ideal S1024 .f32 := m ((c : Thread nD τ).loc main_arg4)

/-- Argument `5`. -/
abbrev x5 (c : Dev nD) : Vec Ideal S1024 .f32 := m ((c : Thread nD τ).loc main_arg5)

theorem read0 (c : Dev nD) (R : Fin 8192) (k : Fin 1024) : A0 m c (ix2 R k) = x0 m c (ix2 R k) := by
  unfold A0 V
  simp only [hostOps0, List.flatten_cons, List.flatten_nil, List.append_nil, List.cons_append, List.nil_append,
    TRef.binary, TRef.nullary, TRef.unary, TRef.toBuf, TRef.ofBuf, cast_eq]
  after_results_simp
  try pointwise []

theorem read1 (c : Dev nD) (R : Fin 8192) (k : Fin 1024) : A1 m c (ix2 R k) = x1 m c (ix2 R k) := by
  unfold A1 V
  simp only [hostOps0, List.flatten_cons, List.flatten_nil, List.append_nil, List.cons_append, List.nil_append,
    TRef.binary, TRef.nullary, TRef.unary, TRef.toBuf, TRef.ofBuf, cast_eq]
  after_results_simp
  try pointwise []

theorem read2 (c : Dev nD) (a : Fin 1024) (b : Fin 1024) : A2 m c (ix2 a b) = x2 m c (ix2 a b) := by
  unfold A2 V
  simp only [hostOps0, List.flatten_cons, List.flatten_nil, List.append_nil, List.cons_append, List.nil_append,
    TRef.binary, TRef.nullary, TRef.unary, TRef.toBuf, TRef.ofBuf, cast_eq]
  after_results_simp
  try pointwise []

theorem read3 (c : Dev nD) (a : Fin 1) (b : Fin 1024) : A3 m c (ix2 a b) = x3 m c (ix1 b) := by
  unfold A3 V
  simp only [hostOps0, List.flatten_cons, List.flatten_nil, List.append_nil, List.cons_append, List.nil_append,
    TRef.binary, TRef.nullary, TRef.unary, TRef.toBuf, TRef.ofBuf, cast_eq]
  after_results_simp
  try pointwise []

theorem read4 (c : Dev nD) (a : Fin 1) (b : Fin 1024) : A4 m c (ix2 a b) = x4 m c (ix1 b) := by
  unfold A4 V
  simp only [hostOps0, List.flatten_cons, List.flatten_nil, List.append_nil, List.cons_append, List.nil_append,
    TRef.binary, TRef.nullary, TRef.unary, TRef.toBuf, TRef.ofBuf, cast_eq]
  after_results_simp
  try pointwise []

theorem read5 (c : Dev nD) (a : Fin 1) (b : Fin 1024) : A5 m c (ix2 a b) = x5 m c (ix1 b) := by
  unfold A5 V
  simp only [hostOps0, List.flatten_cons, List.flatten_nil, List.append_nil, List.cons_append, List.nil_append,
    TRef.binary, TRef.nullary, TRef.unary, TRef.toBuf, TRef.ofBuf, cast_eq]
  after_results_simp
  try pointwise []

theorem val6 (c : Dev nD) : G6 m c = Cert.OutRefIdeal.Read.val_main_v7 (F := Ideal) (x0 m c) (x1 m c) (x2 m c) (x3 m c) := by
  funext i
  obtain ⟨p, q, rfl⟩ : ∃ (p : Fin 8192) (q : Fin 1024), i = ix2 p q := ⟨i 0, i 1, eq_ix2 i⟩
  refine Eq.trans ?_ (Cert.OutRef.out0 (x0 m c) (x1 m c) (x2 m c) (x3 m c) (x4 m c) (x5 m c) p q).symm
  show res6 m c p q = _
  unfold res6
  simp only [read0 m, read1 m, read2 m, read3 m, read4 m, read5 m]

theorem val7 (c : Dev nD) : G7 m c = Cert.OutRefIdeal.Read.val_main_v31 (F := Ideal) (x0 m c) (x1 m c) (x2 m c) (x3 m c) (x4 m c) (x5 m c) := by
  funext i
  obtain ⟨p, q, rfl⟩ : ∃ (p : Fin 8192) (q : Fin 1024), i = ix2 p q := ⟨i 0, i 1, eq_ix2 i⟩
  refine Eq.trans ?_ (Cert.OutRef.out1 (x0 m c) (x1 m c) (x2 m c) (x3 m c) (x4 m c) (x5 m c) p q).symm
  show res7 m c p q = _
  unfold res7
  simp only [read0 m, read1 m, read2 m, read3 m, read4 m, read5 m]

theorem algebraic : Cert.algebraic_OutIdeal_OutRefIdeal := by
  intro m g m' g' hpre hag
  refine ⟨fun c => G6 m c, fun c => G7 m c, ?_, ?_⟩
  · exact (θ_run defs _ _).mono (fun r h c => ⟨(h c).1.trans (final6 m c), (h c).2.1.trans (final7 m c), (h c).2.2⟩) (Value.run_blocks m g)
  · refine (θ_run Cert.OutRefIdeal.defs _ _).mono (fun r h c => ⟨(h c).1.trans ?_, (h c).2.1.trans ?_, (h c).2.2⟩) (Cert.OutRefIdeal.Value.run m' g')
    · obtain ⟨h0, h1, h2, h3, h4, h5⟩ := hag c
      refine (Cert.OutRefIdeal.Read.val_main_v7_eq _ _ _ _).trans ?_
      rw [h0, h1, h2, h3]
      exact (val6 m c).symm
    · obtain ⟨h0, h1, h2, h3, h4, h5⟩ := hag c
      refine (Cert.OutRefIdeal.Read.val_main_v31_eq m' c).trans ?_
      rw [h0, h1, h2, h3, h4, h5]
      exact (val7 m c).symm

end Cert.OutIdeal.Body

end
-- ==== Proof.Ff1fValue.lean ====
/- The values of the call `ff1`: the first product of the feed-forward layer, rectified and squared. -/
module

public import proofs.«01_k».proof.Proof.Base
public import proofs.«01_k».proof.Proof.Forms
public import proofs.«01_k».proof.Proof.Gen.Ff1fIdeal.Value

@[expose] public section

noncomputable section

open Idealize.ShloMosaic Idealize.ShloMosaic.TcCoe Idealize.SL.Sem Idealize.ShloMosaic.StableHlo
open Idealize.ShloMosaic.Pipeline (Dat)

namespace Cert.Ff1fIdeal.Body

open Cert.Ff1fIdeal Cert.Ff1fIdeal.Gen

theorem hz : (![0, 0] : Fin 2 → Nat) = fun _ => 0 := Rows.hz2

/-- A row times the weights, which lie in eight blocks of columns, and the bias. -/
def lin (x : Fin 1024 → EReal) (w : Fin 8 → Fin 1024 → Fin 512 → EReal) (b : Fin 1 → Fin 4096 → EReal) (q : Fin 4096) : EReal :=
  ∑ k, x k * w ⟨q.val / 512, by omega⟩ k ⟨q.val % 512, by omega⟩ + b 0 q

/-- Its rectification, squared. -/
def act (x : Fin 1024 → EReal) (w : Fin 8 → Fin 1024 → Fin 512 → EReal) (b : Fin 1 → Fin 4096 → EReal) (q : Fin 4096) : EReal :=
  max (lin x w b q) 0 * max (lin x w b q) 0

theorem out3_apply (x0 : Vec Ideal S512x1024 .f32) (x1 : Vec Ideal S8x1024x512 .bf16) (x2 : Vec Ideal S1x4096 .f32) (r : Fin 512) (q : Fin 4096) :
    out0_3 x0 x1 x2 (ix2 r q) = act (fun k => x0 (ix2 r k)) (fun a b d => x1 (ix3 a b d)) (fun a b => x2 (ix2 a b)) q := by
  unfold out0_3
  rw [View.canon_unit_zero hz]
  simp only [View.ld_unit_zero (S := S512x1024) hz, View.ld_unit_zero (S := S1x4096) hz]
  pointwise [k0_pay1, k0_pay2, k0_pay3, k0_pay4, k0_pay5, k0_pay6, k0_pay7, k0_pay8, lin, act]
  exact congrArg (fun y => max (y + x2 (ix2 0 q)) 0 * max (y + x2 (ix2 0 q)) 0) (Rows.cat8_512 (fun j b => ∑ k, x0 (ix2 r k) * x1 (ix3 j k b)) q)
variable (m : (ℓ : Loc nD τ sig) → Buf (Elt Ideal) ℓ)

/-- Array `0` the call is given. -/
abbrev A0 (c : Dev nD) : S8192x1024.Idx → EReal := V m c main_arg0

/-- Array `1` the call is given. -/
abbrev A1 (c : Dev nD) : S8x1024x512.Idx → EReal := V m c main_v2

/-- Array `2` the call is given. -/
abbrev A2 (c : Dev nD) : S1x4096.Idx → EReal := V m c main_v3

theorem blk0 (c : Dev nD) (t : Fin cfg0.N) (r : Fin 512) (k : Fin 1024) :
    (iblk m c 0 t : S512x1024.Idx → EReal) (ix2 r k) = A0 m c (ix2 (Rows.row (T := 8192) rfl t r) k) := by
  unfold iblk; rw [View.read_apply]
  show (V m c main_arg0 : S8192x1024.Idx → EReal) _ = _
  refine congrArg (A0 m c) (funext fun a => Fin.ext ?_)
  match a with
  | ⟨0, _⟩ => show win0_0.index t 0 * 512 + 1 * r.val = 512 * t.val + r.val
              rw [(by decide +kernel : ∀ t : Fin grid0.N, win0_0.index t 0 = t.val) t]; omega
  | ⟨1, _⟩ => show win0_0.index t 1 * 1024 + 1 * k.val = k.val
              rw [(by decide +kernel : ∀ t : Fin grid0.N, win0_0.index t 1 = 0) t]; omega

theorem blk1 (c : Dev nD) (t : Fin cfg0.N) (j : Fin 8) (r : Fin 1024) (k : Fin 512) :
    (iblk m c 1 t : S8x1024x512.Idx → EReal) (ix3 j r k) = A1 m c (ix3 j r k) := by
  unfold iblk; rw [View.read_apply]
  show (V m c main_v2 : S8x1024x512.Idx → EReal) _ = _
  refine congrArg (A1 m c) (funext fun a => Fin.ext ?_)
  match a with
  | ⟨0, _⟩ => show win0_1.index t 0 * 8 + 1 * j.val = j.val
              rw [(by decide +kernel : ∀ t : Fin grid0.N, win0_1.index t 0 = 0) t]; omega
  | ⟨1, _⟩ => show win0_1.index t 1 * 1024 + 1 * r.val = r.val
              rw [(by decide +kernel : ∀ t : Fin grid0.N, win0_1.index t 1 = 0) t]; omega
  | ⟨2, _⟩ => show win0_1.index t 2 * 512 + 1 * k.val = k.val
              rw [(by decide +kernel : ∀ t : Fin grid0.N, win0_1.index t 2 = 0) t]; omega

theorem blk2 (c : Dev nD) (t : Fin cfg0.N) (r : Fin 1) (k : Fin 4096) :
    (iblk m c 2 t : S1x4096.Idx → EReal) (ix2 r k) = A2 m c (ix2 r k) := by
  unfold iblk; rw [View.read_apply]
  show (V m c main_v3 : S1x4096.Idx → EReal) _ = _
  refine congrArg (A2 m c) (funext fun a => Fin.ext ?_)
  match a with
  | ⟨0, _⟩ => show win0_2.index t 0 * 1 + 1 * r.val = r.val
              rw [(by decide +kernel : ∀ t : Fin grid0.N, win0_2.index t 0 = 0) t]; omega
  | ⟨1, _⟩ => show win0_2.index t 1 * 4096 + 1 * k.val = k.val
              rw [(by decide +kernel : ∀ t : Fin grid0.N, win0_2.index t 1 = 0) t]; omega

/-- Element `(R, q)` of result `3`. -/
def res3 (c : Dev nD) (R : Fin 8192) (q : Fin 4096) : EReal :=
  act (fun k => A0 m c (ix2 R k)) (fun a b d => A1 m c (ix3 a b d)) (fun a b => A2 m c (ix2 a b)) q

theorem row3 (c : Dev nD) (t : Fin cfg0.N) (r : Fin 512) (q : Fin 4096) :
    out0_3 (iblk m c 0 t) (iblk m c 1 t) (iblk m c 2 t) (ix2 r q) = res3 m c (Rows.row (T := 8192) rfl t r) q := by
  rw [out3_apply]
  unfold res3
  simp only [blk0 m c t, blk1 m c t, blk2 m c t]

/-- Result `3`. -/
def G3 (c : Dev nD) : Vec Ideal S8192x4096 .bf16 := fun i => res3 m c (i 0) (i 1)

theorem final3 (c : Dev nD) : (dats m 0 c).arrAt 3 cfg0.N = G3 m c := by
    refine (dats m 0 c).arrAt_eq_of_cover 3 (G3 m c) (fun t hf => ?_) (fun i => ?_)
    · refine (Value.flushed3 m c t).trans ?_
      have hrow := row3 m c t
      generalize out0_3 (iblk m c 0 t) (iblk m c 1 t) (iblk m c 2 t) = y at hrow ⊢
      funext j
      have hx0 : win0_3.xsize (grid0.coords t) 0 = 512 := (by decide +kernel : ∀ t : Fin grid0.N, win0_3.xsize (grid0.coords t) 0 = 512) t
      have hx1 : win0_3.xsize (grid0.coords t) 1 = 4096 := (by decide +kernel : ∀ t : Fin grid0.N, win0_3.xsize (grid0.coords t) 1 = 4096) t
      have hj0 : (j 0 : Nat) < 512 := lt_of_lt_of_eq (j 0).isLt hx0
      have hj1 : (j 1 : Nat) < 4096 := lt_of_lt_of_eq (j 1).isLt hx1
      rw [View.read_apply]
      refine Eq.trans (congrArg y (funext fun a => Fin.ext ?_)) ((hrow ⟨j 0, hj0⟩ ⟨j 1, hj1⟩).trans ?_)
      · match a with
        | ⟨0, _⟩ => rfl
        | ⟨1, _⟩ => rfl
      · show res3 m c _ _ = res3 m c _ _
        congr 1
        · refine Fin.ext ?_
          show 512 * t.val + (j 0 : Nat) = win0_3.index t 0 * 512 + 1 * (j 0 : Nat)
          rw [(by decide +kernel : ∀ t : Fin grid0.N, win0_3.index t 0 = t.val) t]; omega
        · refine Fin.ext ?_
          show (j 1 : Nat) = win0_3.index t 1 * 4096 + 1 * (j 1 : Nat)
          rw [(by decide +kernel : ∀ t : Fin grid0.N, win0_3.index t 1 = 0) t]; omega
    · obtain ⟨t, r, h⟩ := Rows.exists_row (N := 16) (B := 512) (T := 8192) rfl (by decide) (i 0)
      refine ⟨t, flush0_3 t, ?_⟩
      show i ∈ ((View.whole main_v4).slice (win0_3.rect t)).set
      rw [View.set_slice_whole, Rect.mem_set_unit]
      intro a
      have h1 : (i 1 : Nat) < 4096 := (i 1).isLt
      have h0 : (i 0 : Nat) = 512 * t.val + r.val := congrArg Fin.val h
      have hr := r.isLt
      match a with
      | ⟨0, _⟩ => show win0_3.index t 0 * 512 ≤ (i 0 : Nat) ∧ (i 0 : Nat) < win0_3.index t 0 * 512 + win0_3.xsize (grid0.coords t) 0
                  rw [(by decide +kernel : ∀ t : Fin grid0.N, win0_3.index t 0 = t.val) t, (by decide +kernel : ∀ t : Fin grid0.N, win0_3.xsize (grid0.coords t) 0 = 512) t]; omega
      | ⟨1, _⟩ => show win0_3.index t 1 * 4096 ≤ (i 1 : Nat) ∧ (i 1 : Nat) < win0_3.index t 1 * 4096 + win0_3.xsize (grid0.coords t) 1
                  rw [(by decide +kernel : ∀ t : Fin grid0.N, win0_3.index t 1 = 0) t, (by decide +kernel : ∀ t : Fin grid0.N, win0_3.xsize (grid0.coords t) 1 = 4096) t]; omega

end Cert.Ff1fIdeal.Body

end
-- ==== Proof.Ff1fClaim.lean ====
/- The claim on the call `ff1`: its result is `relu(h @ w + b)²`. -/
module

public import proofs.«01_k».proof.Defs
public import proofs.«01_k».proof.Proof.Ff1fValue
public import proofs.«01_k».proof.Proof.Gen.Ff1fRefIdeal
public import proofs.«01_k».proof.Proof.Gen.Ff1fRefIdeal.Run
public import proofs.«01_k».proof.Proof.Gen.Ff1fRefIdeal.Read

@[expose] public section

noncomputable section

open Idealize.ShloMosaic Idealize.ShloMosaic.TcCoe Idealize.SL.Sem Idealize.ShloMosaic.StableHlo

namespace Cert.Ff1fRef

open Cert.Ff1fRefIdeal Cert.Ff1fRefIdeal.Read Cert.Ff1fRefIdeal.Gen

theorem out0 (x0 : Vec Ideal S8192x1024 .f32) (x1 : Vec Ideal S1024x4096 .f32) (x2 : Vec Ideal S4096 .f32) (p : Fin 8192) (q : Fin 4096) :
    val_main_v6 (F := Ideal) x0 x1 x2 (ix2 p q) = Cert.Ff1fIdeal.Body.act (fun k => x0 (ix2 p k)) (fun a b d => x1 (ix2 b ⟨a.val * 512 + d.val, by omega⟩)) (fun a b => x2 (ix1 b)) q := by
  rw [← val_main_v6_eq]
  pointwise [Cert.Ff1fIdeal.Body.lin, Cert.Ff1fIdeal.Body.act]
  exact congrArg (fun y => max (y + x2 (ix1 q)) 0 * max (y + x2 (ix1 q)) 0) (Finset.sum_congr rfl fun x _ => congrArg (fun k => x0 (ix2 p x) * x1 (ix2 x k)) (Fin.ext (by dsimp only; omega)))

end Cert.Ff1fRef

namespace Cert.Ff1fIdeal.Body

open Cert.Ff1fIdeal Cert.Ff1fIdeal.Gen

variable (m : (ℓ : Loc nD τ sig) → Buf (Elt Ideal) ℓ)

/-- Argument `0`. -/
abbrev x0 (c : Dev nD) : Vec Ideal S8192x1024 .f32 := m ((c : Thread nD τ).loc main_arg0)

/-- Argument `1`. -/
abbrev x1 (c : Dev nD) : Vec Ideal S1024x4096 .f32 := m ((c : Thread nD τ).loc main_arg1)

/-- Argument `2`. -/
abbrev x2 (c : Dev nD) : Vec Ideal S4096 .f32 := m ((c : Thread nD τ).loc main_arg2)

theorem read0 (c : Dev nD) (R : Fin 8192) (k : Fin 1024) : A0 m c (ix2 R k) = x0 m c (ix2 R k) := by
  unfold A0 V
  simp only [hostOps0, List.flatten_cons, List.flatten_nil, List.append_nil, List.cons_append, List.nil_append,
    TRef.binary, TRef.nullary, TRef.unary, TRef.toBuf, TRef.ofBuf, cast_eq]
  after_results_simp
  try pointwise []

theorem read1 (c : Dev nD) (a : Fin 8) (b : Fin 1024) (d : Fin 512) : A1 m c (ix3 a b d) = x1 m c (ix2 b ⟨a.val * 512 + d.val, by omega⟩) := by
  unfold A1 V
  simp only [hostOps0, List.flatten_cons, List.flatten_nil, List.append_nil, List.cons_append, List.nil_append,
    TRef.binary, TRef.nullary, TRef.unary, TRef.toBuf, TRef.ofBuf, cast_eq]
  after_results_simp
  try pointwise []

theorem read2 (c : Dev nD) (a : Fin 1) (b : Fin 4096) : A2 m c (ix2 a b) = x2 m c (ix1 b) := by
  unfold A2 V
  simp only [hostOps0, List.flatten_cons, List.flatten_nil, List.append_nil, List.cons_append, List.nil_append,
    TRef.binary, TRef.nullary, TRef.unary, TRef.toBuf, TRef.ofBuf, cast_eq]
  after_results_simp
  try pointwise []

theorem val3 (c : Dev nD) : G3 m c = Cert.Ff1fRefIdeal.Read.val_main_v6 (F := Ideal) (x0 m c) (x1 m c) (x2 m c) := by
  funext i
  obtain ⟨p, q, rfl⟩ : ∃ (p : Fin 8192) (q : Fin 4096), i = ix2 p q := ⟨i 0, i 1, eq_ix2 i⟩
  refine Eq.trans ?_ (Cert.Ff1fRef.out0 (x0 m c) (x1 m c) (x2 m c) p q).symm
  show res3 m c p q = _
  unfold res3
  simp only [read0 m, read1 m, read2 m]

theorem algebraic : Cert.algebraic_Ff1fIdeal_Ff1fRefIdeal := by
  intro m g m' g' hpre hag
  refine ⟨fun c => G3 m c, ?_, ?_⟩
  · exact (θ_run defs _ _).mono (fun r h c => ⟨(h c).1.trans (final3 m c), (h c).2⟩) (Value.run_blocks m g)
  · refine (θ_run Cert.Ff1fRefIdeal.defs _ _).mono (fun r h c => ⟨(h c).1.trans ?_, (h c).2⟩) (Cert.Ff1fRefIdeal.Value.run m' g')
    obtain ⟨h0, h1, h2⟩ := hag c
    refine (Cert.Ff1fRefIdeal.Read.val_main_v6_eq _ _ _).trans ?_
    rw [h0, h1, h2]
    exact (val3 m c).symm

end Cert.Ff1fIdeal.Body

end
-- ==== Proof.Ff2fValue.lean ====
/- The values of the call `ff2`: the second product of the feed-forward layer with the residual stream added, and its layer normalisation. -/
module

public import proofs.«01_k».proof.Proof.Base
public import proofs.«01_k».proof.Proof.Forms
public import proofs.«01_k».proof.Proof.Gen.Ff2fIdeal.Value

@[expose] public section

noncomputable section

open Idealize.ShloMosaic Idealize.ShloMosaic.TcCoe Idealize.SL.Sem Idealize.ShloMosaic.StableHlo
open Idealize.ShloMosaic.Pipeline (Dat)

namespace Cert.Ff2fIdeal.Body

open Cert.Ff2fIdeal Cert.Ff2fIdeal.Gen

theorem hz : (![0, 0] : Fin 2 → Nat) = fun _ => 0 := Rows.hz2

/-- The sum before the normalisation. -/
def pre0 (x : Fin 4096 → EReal) (h : Fin 1024 → EReal) (w : Fin 4096 → Fin 1024 → EReal) (b g e : Fin 1 → Fin 1024 → EReal) (q : Fin 1024) : EReal :=
  Rows.al * h q + ∑ k, x k * w k q + b 0 q

/-- Its layer normalisation. -/
def post0 (x : Fin 4096 → EReal) (h : Fin 1024 → EReal) (w : Fin 4096 → Fin 1024 → EReal) (b g e : Fin 1 → Fin 1024 → EReal) (q : Fin 1024) : EReal :=
  Rows.norm (pre0 x h w b g e) (g 0) (e 0) q

theorem out6_apply (x0 : Vec Ideal S512x4096 .bf16) (x1 : Vec Ideal S512x1024 .f32) (x2 : Vec Ideal S4096x1024 .bf16) (x3 : Vec Ideal S1x1024 .f32) (x4 : Vec Ideal S1x1024 .f32) (x5 : Vec Ideal S1x1024 .f32) (r : Fin 512) (q : Fin 1024) :
    out0_6 x0 x1 x2 x3 x4 x5 (ix2 r q) = pre0 (fun k => x0 (ix2 r k)) (fun k => x1 (ix2 r k)) (fun a b => x2 (ix2 a b)) (fun a b => x3 (ix2 a b)) (fun a b => x4 (ix2 a b)) (fun a b => x5 (ix2 a b)) q := by
  unfold out0_6
  rw [View.canon_unit_zero hz]
  simp only [View.ld_unit_zero (S := S512x4096) hz, View.ld_unit_zero (S := S512x1024) hz, View.ld_unit_zero (S := S4096x1024) hz, View.ld_unit_zero (S := S1x1024) hz]
  pointwise [k0_pay1, k0_pay2, Rows.norm, Rows.istd, Rows.mean, pre0, pre0]

theorem out7_apply (x0 : Vec Ideal S512x4096 .bf16) (x1 : Vec Ideal S512x1024 .f32) (x2 : Vec Ideal S4096x1024 .bf16) (x3 : Vec Ideal S1x1024 .f32) (x4 : Vec Ideal S1x1024 .f32) (x5 : Vec Ideal S1x1024 .f32) (r : Fin 512) (q : Fin 1024) :
    out0_7 x0 x1 x2 x3 x4 x5 (ix2 r q) = post0 (fun k => x0 (ix2 r k)) (fun k => x1 (ix2 r k)) (fun a b => x2 (ix2 a b)) (fun a b => x3 (ix2 a b)) (fun a b => x4 (ix2 a b)) (fun a b => x5 (ix2 a b)) q := by
  unfold out0_7
  rw [View.canon_unit_zero hz]
  simp only [View.ld_unit_zero (S := S512x4096) hz, View.ld_unit_zero (S := S512x1024) hz, View.ld_unit_zero (S := S4096x1024) hz, View.ld_unit_zero (S := S1x1024) hz]
  pointwise [k0_pay1, k0_pay2, Rows.norm, Rows.istd, Rows.mean, pre0, post0]

variable (m : (ℓ : Loc nD τ sig) → Buf (Elt Ideal) ℓ)

/-- Array `0` the call is given. -/
abbrev A0 (c : Dev nD) : S8192x4096.Idx → EReal := V m c main_arg0

/-- Array `1` the call is given. -/
abbrev A1 (c : Dev nD) : S8192x1024.Idx → EReal := V m c main_arg1

/-- Array `2` the call is given. -/
abbrev A2 (c : Dev nD) : S4096x1024.Idx → EReal := V m c main_v0

/-- Array `3` the call is given. -/
abbrev A3 (c : Dev nD) : S1x1024.Idx → EReal := V m c main_v1

/-- Array `4` the call is given. -/
abbrev A4 (c : Dev nD) : S1x1024.Idx → EReal := V m c main_v2

/-- Array `5` the call is given. -/
abbrev A5 (c : Dev nD) : S1x1024.Idx → EReal := V m c main_v3

theorem blk0 (c : Dev nD) (t : Fin cfg0.N) (r : Fin 512) (k : Fin 4096) :
    (iblk m c 0 t : S512x4096.Idx → EReal) (ix2 r k) = A0 m c (ix2 (Rows.row (T := 8192) rfl t r) k) := by
  unfold iblk; rw [View.read_apply]
  show (V m c main_arg0 : S8192x4096.Idx → EReal) _ = _
  refine congrArg (A0 m c) (funext fun a => Fin.ext ?_)
  match a with
  | ⟨0, _⟩ => show win0_0.index t 0 * 512 + 1 * r.val = 512 * t.val + r.val
              rw [(by decide +kernel : ∀ t : Fin grid0.N, win0_0.index t 0 = t.val) t]; omega
  | ⟨1, _⟩ => show win0_0.index t 1 * 4096 + 1 * k.val = k.val
              rw [(by decide +kernel : ∀ t : Fin grid0.N, win0_0.index t 1 = 0) t]; omega

theorem blk1 (c : Dev nD) (t : Fin cfg0.N) (r : Fin 512) (k : Fin 1024) :
    (iblk m c 1 t : S512x1024.Idx → EReal) (ix2 r k) = A1 m c (ix2 (Rows.row (T := 8192) rfl t r) k) := by
  unfold iblk; rw [View.read_apply]
  show (V m c main_arg1 : S8192x1024.Idx → EReal) _ = _
  refine congrArg (A1 m c) (funext fun a => Fin.ext ?_)
  match a with
  | ⟨0, _⟩ => show win0_1.index t 0 * 512 + 1 * r.val = 512 * t.val + r.val
              rw [(by decide +kernel : ∀ t : Fin grid0.N, win0_1.index t 0 = t.val) t]; omega
  | ⟨1, _⟩ => show win0_1.index t 1 * 1024 + 1 * k.val = k.val
              rw [(by decide +kernel : ∀ t : Fin grid0.N, win0_1.index t 1 = 0) t]; omega

theorem blk2 (c : Dev nD) (t : Fin cfg0.N) (r : Fin 4096) (k : Fin 1024) :
    (iblk m c 2 t : S4096x1024.Idx → EReal) (ix2 r k) = A2 m c (ix2 r k) := by
  unfold iblk; rw [View.read_apply]
  show (V m c main_v0 : S4096x1024.Idx → EReal) _ = _
  refine congrArg (A2 m c) (funext fun a => Fin.ext ?_)
  match a with
  | ⟨0, _⟩ => show win0_2.index t 0 * 4096 + 1 * r.val = r.val
              rw [(by decide +kernel : ∀ t : Fin grid0.N, win0_2.index t 0 = 0) t]; omega
  | ⟨1, _⟩ => show win0_2.index t 1 * 1024 + 1 * k.val = k.val
              rw [(by decide +kernel : ∀ t : Fin grid0.N, win0_2.index t 1 = 0) t]; omega

theorem blk3 (c : Dev nD) (t : Fin cfg0.N) (r : Fin 1) (k : Fin 1024) :
    (iblk m c 3 t : S1x1024.Idx → EReal) (ix2 r k) = A3 m c (ix2 r k) := by
  unfold iblk; rw [View.read_apply]
  show (V m c main_v1 : S1x1024.Idx → EReal) _ = _
  refine congrArg (A3 m c) (funext fun a => Fin.ext ?_)
  match a with
  | ⟨0, _⟩ => show win0_3.index t 0 * 1 + 1 * r.val = r.val
              rw [(by decide +kernel : ∀ t : Fin grid0.N, win0_3.index t 0 = 0) t]; omega
  | ⟨1, _⟩ => show win0_3.index t 1 * 1024 + 1 * k.val = k.val
              rw [(by decide +kernel : ∀ t : Fin grid0.N, win0_3.index t 1 = 0) t]; omega

theorem blk4 (c : Dev nD) (t : Fin cfg0.N) (r : Fin 1) (k : Fin 1024) :
    (iblk m c 4 t : S1x1024.Idx → EReal) (ix2 r k) = A4 m c (ix2 r k) := by
  unfold iblk; rw [View.read_apply]
  show (V m c main_v2 : S1x1024.Idx → EReal) _ = _
  refine congrArg (A4 m c) (funext fun a => Fin.ext ?_)
  match a with
  | ⟨0, _⟩ => show win0_4.index t 0 * 1 + 1 * r.val = r.val
              rw [(by decide +kernel : ∀ t : Fin grid0.N, win0_4.index t 0 = 0) t]; omega
  | ⟨1, _⟩ => show win0_4.index t 1 * 1024 + 1 * k.val = k.val
              rw [(by decide +kernel : ∀ t : Fin grid0.N, win0_4.index t 1 = 0) t]; omega

theorem blk5 (c : Dev nD) (t : Fin cfg0.N) (r : Fin 1) (k : Fin 1024) :
    (iblk m c 5 t : S1x1024.Idx → EReal) (ix2 r k) = A5 m c (ix2 r k) := by
  unfold iblk; rw [View.read_apply]
  show (V m c main_v3 : S1x1024.Idx → EReal) _ = _
  refine congrArg (A5 m c) (funext fun a => Fin.ext ?_)
  match a with
  | ⟨0, _⟩ => show win0_5.index t 0 * 1 + 1 * r.val = r.val
              rw [(by decide +kernel : ∀ t : Fin grid0.N, win0_5.index t 0 = 0) t]; omega
  | ⟨1, _⟩ => show win0_5.index t 1 * 1024 + 1 * k.val = k.val
              rw [(by decide +kernel : ∀ t : Fin grid0.N, win0_5.index t 1 = 0) t]; omega

/-- Element `(R, q)` of result `6`. -/
def res6 (c : Dev nD) (R : Fin 8192) (q : Fin 1024) : EReal :=
  pre0 (fun k => A0 m c (ix2 R k)) (fun k => A1 m c (ix2 R k)) (fun a b => A2 m c (ix2 a b)) (fun a b => A3 m c (ix2 a b)) (fun a b => A4 m c (ix2 a b)) (fun a b => A5 m c (ix2 a b)) q

theorem row6 (c : Dev nD) (t : Fin cfg0.N) (r : Fin 512) (q : Fin 1024) :
    out0_6 (iblk m c 0 t) (iblk m c 1 t) (iblk m c 2 t) (iblk m c 3 t) (iblk m c 4 t) (iblk m c 5 t) (ix2 r q) = res6 m c (Rows.row (T := 8192) rfl t r) q := by
  rw [out6_apply]
  unfold res6
  simp only [blk0 m c t, blk1 m c t, blk2 m c t, blk3 m c t, blk4 m c t, blk5 m c t]

/-- Result `6`. -/
def G6 (c : Dev nD) : Vec Ideal S8192x1024 .f32 := fun i => res6 m c (i 0) (i 1)

theorem final6 (c : Dev nD) : (dats m 0 c).arrAt 6 cfg0.N = G6 m c := by
    refine (dats m 0 c).arrAt_eq_of_cover 6 (G6 m c) (fun t hf => ?_) (fun i => ?_)
    · refine (Value.flushed6 m c t).trans ?_
      have hrow := row6 m c t
      generalize out0_6 (iblk m c 0 t) (iblk m c 1 t) (iblk m c 2 t) (iblk m c 3 t) (iblk m c 4 t) (iblk m c 5 t) = y at hrow ⊢
      funext j
      have hx0 : win0_6.xsize (grid0.coords t) 0 = 512 := (by decide +kernel : ∀ t : Fin grid0.N, win0_6.xsize (grid0.coords t) 0 = 512) t
      have hx1 : win0_6.xsize (grid0.coords t) 1 = 1024 := (by decide +kernel : ∀ t : Fin grid0.N, win0_6.xsize (grid0.coords t) 1 = 1024) t
      have hj0 : (j 0 : Nat) < 512 := lt_of_lt_of_eq (j 0).isLt hx0
      have hj1 : (j 1 : Nat) < 1024 := lt_of_lt_of_eq (j 1).isLt hx1
      rw [View.read_apply]
      refine Eq.trans (congrArg y (funext fun a => Fin.ext ?_)) ((hrow ⟨j 0, hj0⟩ ⟨j 1, hj1⟩).trans ?_)
      · match a with
        | ⟨0, _⟩ => rfl
        | ⟨1, _⟩ => rfl
      · show res6 m c _ _ = res6 m c _ _
        congr 1
        · refine Fin.ext ?_
          show 512 * t.val + (j 0 : Nat) = win0_6.index t 0 * 512 + 1 * (j 0 : Nat)
          rw [(by decide +kernel : ∀ t : Fin grid0.N, win0_6.index t 0 = t.val) t]; omega
        · refine Fin.ext ?_
          show (j 1 : Nat) = win0_6.index t 1 * 1024 + 1 * (j 1 : Nat)
          rw [(by decide +kernel : ∀ t : Fin grid0.N, win0_6.index t 1 = 0) t]; omega
    · obtain ⟨t, r, h⟩ := Rows.exists_row (N := 16) (B := 512) (T := 8192) rfl (by decide) (i 0)
      refine ⟨t, flush0_6 t, ?_⟩
      show i ∈ ((View.whole main_v4_0).slice (win0_6.rect t)).set
      rw [View.set_slice_whole, Rect.mem_set_unit]
      intro a
      have h1 : (i 1 : Nat) < 1024 := (i 1).isLt
      have h0 : (i 0 : Nat) = 512 * t.val + r.val := congrArg Fin.val h
      have hr := r.isLt
      match a with
      | ⟨0, _⟩ => show win0_6.index t 0 * 512 ≤ (i 0 : Nat) ∧ (i 0 : Nat) < win0_6.index t 0 * 512 + win0_6.xsize (grid0.coords t) 0
                  rw [(by decide +kernel : ∀ t : Fin grid0.N, win0_6.index t 0 = t.val) t, (by decide +kernel : ∀ t : Fin grid0.N, win0_6.xsize (grid0.coords t) 0 = 512) t]; omega
      | ⟨1, _⟩ => show win0_6.index t 1 * 1024 ≤ (i 1 : Nat) ∧ (i 1 : Nat) < win0_6.index t 1 * 1024 + win0_6.xsize (grid0.coords t) 1
                  rw [(by decide +kernel : ∀ t : Fin grid0.N, win0_6.index t 1 = 0) t, (by decide +kernel : ∀ t : Fin grid0.N, win0_6.xsize (grid0.coords t) 1 = 1024) t]; omega

/-- Element `(R, q)` of result `7`. -/
def res7 (c : Dev nD) (R : Fin 8192) (q : Fin 1024) : EReal :=
  post0 (fun k => A0 m c (ix2 R k)) (fun k => A1 m c (ix2 R k)) (fun a b => A2 m c (ix2 a b)) (fun a b => A3 m c (ix2 a b)) (fun a b => A4 m c (ix2 a b)) (fun a b => A5 m c (ix2 a b)) q

theorem row7 (c : Dev nD) (t : Fin cfg0.N) (r : Fin 512) (q : Fin 1024) :
    out0_7 (iblk m c 0 t) (iblk m c 1 t) (iblk m c 2 t) (iblk m c 3 t) (iblk m c 4 t) (iblk m c 5 t) (ix2 r q) = res7 m c (Rows.row (T := 8192) rfl t r) q := by
  rw [out7_apply]
  unfold res7
  simp only [blk0 m c t, blk1 m c t, blk2 m c t, blk3 m c t, blk4 m c t, blk5 m c t]

/-- Result `7`. -/
def G7 (c : Dev nD) : Vec Ideal S8192x1024 .f32 := fun i => res7 m c (i 0) (i 1)

theorem final7 (c : Dev nD) : (dats m 0 c).arrAt 7 cfg0.N = G7 m c := by
    refine (dats m 0 c).arrAt_eq_of_cover 7 (G7 m c) (fun t hf => ?_) (fun i => ?_)
    · refine (Value.flushed7 m c t).trans ?_
      have hrow := row7 m c t
      generalize out0_7 (iblk m c 0 t) (iblk m c 1 t) (iblk m c 2 t) (iblk m c 3 t) (iblk m c 4 t) (iblk m c 5 t) = y at hrow ⊢
      funext j
      have hx0 : win0_7.xsize (grid0.coords t) 0 = 512 := (by decide +kernel : ∀ t : Fin grid0.N, win0_7.xsize (grid0.coords t) 0 = 512) t
      have hx1 : win0_7.xsize (grid0.coords t) 1 = 1024 := (by decide +kernel : ∀ t : Fin grid0.N, win0_7.xsize (grid0.coords t) 1 = 1024) t
      have hj0 : (j 0 : Nat) < 512 := lt_of_lt_of_eq (j 0).isLt hx0
      have hj1 : (j 1 : Nat) < 1024 := lt_of_lt_of_eq (j 1).isLt hx1
      rw [View.read_apply]
      refine Eq.trans (congrArg y (funext fun a => Fin.ext ?_)) ((hrow ⟨j 0, hj0⟩ ⟨j 1, hj1⟩).trans ?_)
      · match a with
        | ⟨0, _⟩ => rfl
        | ⟨1, _⟩ => rfl
      · show res7 m c _ _ = res7 m c _ _
        congr 1
        · refine Fin.ext ?_
          show 512 * t.val + (j 0 : Nat) = win0_7.index t 0 * 512 + 1 * (j 0 : Nat)
          rw [(by decide +kernel : ∀ t : Fin grid0.N, win0_7.index t 0 = t.val) t]; omega
        · refine Fin.ext ?_
          show (j 1 : Nat) = win0_7.index t 1 * 1024 + 1 * (j 1 : Nat)
          rw [(by decide +kernel : ∀ t : Fin grid0.N, win0_7.index t 1 = 0) t]; omega
    · obtain ⟨t, r, h⟩ := Rows.exists_row (N := 16) (B := 512) (T := 8192) rfl (by decide) (i 0)
      refine ⟨t, flush0_7 t, ?_⟩
      show i ∈ ((View.whole main_v4_1).slice (win0_7.rect t)).set
      rw [View.set_slice_whole, Rect.mem_set_unit]
      intro a
      have h1 : (i 1 : Nat) < 1024 := (i 1).isLt
      have h0 : (i 0 : Nat) = 512 * t.val + r.val := congrArg Fin.val h
      have hr := r.isLt
      match a with
      | ⟨0, _⟩ => show win0_7.index t 0 * 512 ≤ (i 0 : Nat) ∧ (i 0 : Nat) < win0_7.index t 0 * 512 + win0_7.xsize (grid0.coords t) 0
                  rw [(by decide +kernel : ∀ t : Fin grid0.N, win0_7.index t 0 = t.val) t, (by decide +kernel : ∀ t : Fin grid0.N, win0_7.xsize (grid0.coords t) 0 = 512) t]; omega
      | ⟨1, _⟩ => show win0_7.index t 1 * 1024 ≤ (i 1 : Nat) ∧ (i 1 : Nat) < win0_7.index t 1 * 1024 + win0_7.xsize (grid0.coords t) 1
                  rw [(by decide +kernel : ∀ t : Fin grid0.N, win0_7.index t 1 = 0) t, (by decide +kernel : ∀ t : Fin grid0.N, win0_7.xsize (grid0.coords t) 1 = 1024) t]; omega

end Cert.Ff2fIdeal.Body

end
-- ==== Proof.Ff2fClaim.lean ====
/- The claim on the call `ff2`: its results are the sum of the product and the residual stream and its layer normalisation. -/
module

public import proofs.«01_k».proof.Defs
public import proofs.«01_k».proof.Proof.Ff2fValue
public import proofs.«01_k».proof.Proof.Gen.Ff2fRefIdeal
public import proofs.«01_k».proof.Proof.Gen.Ff2fRefIdeal.Run
public import proofs.«01_k».proof.Proof.Gen.Ff2fRefIdeal.Read

@[expose] public section

noncomputable section

open Idealize.ShloMosaic Idealize.ShloMosaic.TcCoe Idealize.SL.Sem Idealize.ShloMosaic.StableHlo

namespace Cert.Ff2fRef

open Cert.Ff2fRefIdeal Cert.Ff2fRefIdeal.Read Cert.Ff2fRefIdeal.Gen

theorem out0 (x0 : Vec Ideal S8192x4096 .bf16) (x1 : Vec Ideal S8192x1024 .f32) (x2 : Vec Ideal S4096x1024 .f32) (x3 : Vec Ideal S1024 .f32) (x4 : Vec Ideal S1024 .f32) (x5 : Vec Ideal S1024 .f32) (p : Fin 8192) (q : Fin 1024) :
    val_main_v7 (F := Ideal) x0 x1 x2 x3 (ix2 p q) = Cert.Ff2fIdeal.Body.pre0 (fun k => x0 (ix2 p k)) (fun k => x1 (ix2 p k)) (fun a b => x2 (ix2 a b)) (fun a b => x3 (ix1 b)) (fun a b => x4 (ix1 b)) (fun a b => x5 (ix1 b)) q := by
  rw [← val_main_v7_eq]
  pointwise [Rows.norm, Rows.istd, Rows.mean, Cert.Ff2fIdeal.Body.pre0, Cert.Ff2fIdeal.Body.pre0]
  exact (add_assoc _ _ _).symm

theorem out1 (x0 : Vec Ideal S8192x4096 .bf16) (x1 : Vec Ideal S8192x1024 .f32) (x2 : Vec Ideal S4096x1024 .f32) (x3 : Vec Ideal S1024 .f32) (x4 : Vec Ideal S1024 .f32) (x5 : Vec Ideal S1024 .f32) (p : Fin 8192) (q : Fin 1024) :
    val_main_v31 (F := Ideal) x0 x1 x2 x3 x4 x5 (ix2 p q) = Cert.Ff2fIdeal.Body.post0 (fun k => x0 (ix2 p k)) (fun k => x1 (ix2 p k)) (fun a b => x2 (ix2 a b)) (fun a b => x3 (ix1 b)) (fun a b => x4 (ix1 b)) (fun a b => x5 (ix1 b)) q := by
  pointwise [val_main_cst, val_main_v0, val_main_v1, val_main_v2, val_main_v3, val_main_v4, val_main_v5, val_main_v6, val_main_v7, val_main_cst_0, val_main_v8, val_main_v9, val_main_cst_1, val_main_v10, val_main_v11, val_main_v12, val_main_v13, val_main_v14, val_main_cst_2, val_main_v15, val_main_v16, val_main_cst_3, val_main_v17, val_main_v18, val_main_v19, val_main_v20, val_main_cst_4, val_main_v21, val_main_v22, val_main_v23, val_main_v24, val_main_v25, val_main_v26, val_main_v27, val_main_v28, val_main_v29, val_main_v30, val_main_v31, Rows.norm, Rows.istd, Rows.mean, Cert.Ff2fIdeal.Body.pre0, Cert.Ff2fIdeal.Body.post0]
  simp only [add_assoc]

end Cert.Ff2fRef

namespace Cert.Ff2fIdeal.Body

open Cert.Ff2fIdeal Cert.Ff2fIdeal.Gen

variable (m : (ℓ : Loc nD τ sig) → Buf (Elt Ideal) ℓ)

/-- Argument `0`. -/
abbrev x0 (c : Dev nD) : Vec Ideal S8192x4096 .bf16 := m ((c : Thread nD τ).loc main_arg0)

/-- Argument `1`. -/
abbrev x1 (c : Dev nD) : Vec Ideal S8192x1024 .f32 := m ((c : Thread nD τ).loc main_arg1)

/-- Argument `2`. -/
abbrev x2 (c : Dev nD) : Vec Ideal S4096x1024 .f32 := m ((c : Thread nD τ).loc main_arg2)

/-- Argument `3`. -/
abbrev x3 (c : Dev nD) : Vec Ideal S1024 .f32 := m ((c : Thread nD τ).loc main_arg3)

/-- Argument `4`. -/
abbrev x4 (c : Dev nD) : Vec Ideal S1024 .f32 := m ((c : Thread nD τ).loc main_arg4)

/-- Argument `5`. -/
abbrev x5 (c : Dev nD) : Vec Ideal S1024 .f32 := m ((c : Thread nD τ).loc main_arg5)

theorem read0 (c : Dev nD) (R : Fin 8192) (k : Fin 4096) : A0 m c (ix2 R k) = x0 m c (ix2 R k) := by
  unfold A0 V
  simp only [hostOps0, List.flatten_cons, List.flatten_nil, List.append_nil, List.cons_append, List.nil_append,
    TRef.binary, TRef.nullary, TRef.unary, TRef.toBuf, TRef.ofBuf, cast_eq]
  after_results_simp
  try pointwise []

theorem read1 (c : Dev nD) (R : Fin 8192) (k : Fin 1024) : A1 m c (ix2 R k) = x1 m c (ix2 R k) := by
  unfold A1 V
  simp only [hostOps0, List.flatten_cons, List.flatten_nil, List.append_nil, List.cons_append, List.nil_append,
    TRef.binary, TRef.nullary, TRef.unary, TRef.toBuf, TRef.ofBuf, cast_eq]
  after_results_simp
  try pointwise []

theorem read2 (c : Dev nD) (a : Fin 4096) (b : Fin 1024) : A2 m c (ix2 a b) = x2 m c (ix2 a b) := by
  unfold A2 V
  simp only [hostOps0, List.flatten_cons, List.flatten_nil, List.append_nil, List.cons_append, List.nil_append,
    TRef.binary, TRef.nullary, TRef.unary, TRef.toBuf, TRef.ofBuf, cast_eq]
  after_results_simp
  try pointwise []

theorem read3 (c : Dev nD) (a : Fin 1) (b : Fin 1024) : A3 m c (ix2 a b) = x3 m c (ix1 b) := by
  unfold A3 V
  simp only [hostOps0, List.flatten_cons, List.flatten_nil, List.append_nil, List.cons_append, List.nil_append,
    TRef.binary, TRef.nullary, TRef.unary, TRef.toBuf, TRef.ofBuf, cast_eq]
  after_results_simp
  try pointwise []

theorem read4 (c : Dev nD) (a : Fin 1) (b : Fin 1024) : A4 m c (ix2 a b) = x4 m c (ix1 b) := by
  unfold A4 V
  simp only [hostOps0, List.flatten_cons, List.flatten_nil, List.append_nil, List.cons_append, List.nil_append,
    TRef.binary, TRef.nullary, TRef.unary, TRef.toBuf, TRef.ofBuf, cast_eq]
  after_results_simp
  try pointwise []

theorem read5 (c : Dev nD) (a : Fin 1) (b : Fin 1024) : A5 m c (ix2 a b) = x5 m c (ix1 b) := by
  unfold A5 V
  simp only [hostOps0, List.flatten_cons, List.flatten_nil, List.append_nil, List.cons_append, List.nil_append,
    TRef.binary, TRef.nullary, TRef.unary, TRef.toBuf, TRef.ofBuf, cast_eq]
  after_results_simp
  try pointwise []

theorem val6 (c : Dev nD) : G6 m c = Cert.Ff2fRefIdeal.Read.val_main_v7 (F := Ideal) (x0 m c) (x1 m c) (x2 m c) (x3 m c) := by
  funext i
  obtain ⟨p, q, rfl⟩ : ∃ (p : Fin 8192) (q : Fin 1024), i = ix2 p q := ⟨i 0, i 1, eq_ix2 i⟩
  refine Eq.trans ?_ (Cert.Ff2fRef.out0 (x0 m c) (x1 m c) (x2 m c) (x3 m c) (x4 m c) (x5 m c) p q).symm
  show res6 m c p q = _
  unfold res6
  simp only [read0 m, read1 m, read2 m, read3 m, read4 m, read5 m]

theorem val7 (c : Dev nD) : G7 m c = Cert.Ff2fRefIdeal.Read.val_main_v31 (F := Ideal) (x0 m c) (x1 m c) (x2 m c) (x3 m c) (x4 m c) (x5 m c) := by
  funext i
  obtain ⟨p, q, rfl⟩ : ∃ (p : Fin 8192) (q : Fin 1024), i = ix2 p q := ⟨i 0, i 1, eq_ix2 i⟩
  refine Eq.trans ?_ (Cert.Ff2fRef.out1 (x0 m c) (x1 m c) (x2 m c) (x3 m c) (x4 m c) (x5 m c) p q).symm
  show res7 m c p q = _
  unfold res7
  simp only [read0 m, read1 m, read2 m, read3 m, read4 m, read5 m]

theorem algebraic : Cert.algebraic_Ff2fIdeal_Ff2fRefIdeal := by
  intro m g m' g' hpre hag
  refine ⟨fun c => G6 m c, fun c => G7 m c, ?_, ?_⟩
  · exact (θ_run defs _ _).mono (fun r h c => ⟨(h c).1.trans (final6 m c), (h c).2.1.trans (final7 m c), (h c).2.2⟩) (Value.run_blocks m g)
  · refine (θ_run Cert.Ff2fRefIdeal.defs _ _).mono (fun r h c => ⟨(h c).1.trans ?_, (h c).2.1.trans ?_, (h c).2.2⟩) (Cert.Ff2fRefIdeal.Value.run m' g')
    · obtain ⟨h0, h1, h2, h3, h4, h5⟩ := hag c
      refine (Cert.Ff2fRefIdeal.Read.val_main_v7_eq _ _ _ _).trans ?_
      rw [h0, h1, h2, h3]
      exact (val6 m c).symm
    · obtain ⟨h0, h1, h2, h3, h4, h5⟩ := hag c
      refine (Cert.Ff2fRefIdeal.Read.val_main_v31_eq m' c).trans ?_
      rw [h0, h1, h2, h3, h4, h5]
      exact (val7 m c).symm

end Cert.Ff2fIdeal.Body

end
-- ==== Proof.LossValue.lean ====
/- The values of the call `loss`: the loss, and its gradient through the last layer norm. -/
module

public import proofs.«01_k».proof.Proof.Base
public import Idealize.ShloMosaic.Lib.Pipeline.ValueKit.Acc
public import Idealize.ShloMosaic.Lib.Pipeline.ValueKit.Geometry
public import proofs.«01_k».proof.Proof.Norm
public import proofs.«01_k».proof.Proof.Gen.LossIdeal.Value

@[expose] public section

set_option maxHeartbeats 4000000

noncomputable section

open Idealize.ShloMosaic Idealize.ShloMosaic.TcCoe Idealize.SL.Sem Idealize.ShloMosaic.StableHlo
open Idealize.ShloMosaic.Pipeline (Dat)

namespace Cert.LossIdeal.Body

open Cert.LossIdeal Cert.LossIdeal.Gen

/-- The gradient by the normalised row: the error divided by the row's length. -/
def dy (h t : Fin 1024 → EReal) (q : Fin 1024) : EReal := (h q - t q) * Ideal.ofBits .f32 0x3A800000#32

/-- The gradient by the sum before the normalisation. -/
def dpre (h t x : Fin 1024 → EReal) (g : Fin 1 → Fin 1024 → EReal) (q : Fin 1024) : EReal := Rows.bwd x (fun k => dy h t k * g 0 k) q

/-- A row's part of the loss. -/
def half2 (h t x : Fin 1024 → EReal) (g : Fin 1 → Fin 1024 → EReal) (q : Fin 128) : EReal :=
  Ideal.ofBits .f32 0x3F000000#32 * Ideal.div (∑ k, (h k - t k) * (h k - t k)) (Ideal.ofBits .f32 0x44800000#32)

/-- A row's part of the gradient by the gain. -/
def dgain (h t x : Fin 1024 → EReal) (g : Fin 1 → Fin 1024 → EReal) (q : Fin 1024) : EReal := dy h t q * Rows.hat x q

/-- A row's part of the gradient by the bias. -/
def dbias (h t x : Fin 1024 → EReal) (g : Fin 1 → Fin 1024 → EReal) (q : Fin 1024) : EReal := dy h t q

variable (m : (ℓ : Loc nD τ sig) → Buf (Elt Ideal) ℓ)

/-- Array `0` the call is given. -/
abbrev A0 (c : Dev nD) : S8192x1024.Idx → EReal := V m c main_v23

/-- Array `1` the call is given. -/
abbrev A1 (c : Dev nD) : S8192x1024.Idx → EReal := V m c main_arg3

/-- Array `2` the call is given. -/
abbrev A2 (c : Dev nD) : S8192x1024.Idx → EReal := V m c main_arg0

/-- Array `3` the call is given. -/
abbrev A3 (c : Dev nD) : S1x1024.Idx → EReal := V m c main_v24

theorem at0_0 : ∀ t : Fin cfg0.N, win0_0.index t = ![t.val, 0] := (by decide +kernel : ∀ t : Fin grid0.N, _)

theorem at0_1 : ∀ t : Fin cfg0.N, win0_1.index t = ![t.val, 0] := (by decide +kernel : ∀ t : Fin grid0.N, _)

theorem at0_2 : ∀ t : Fin cfg0.N, win0_2.index t = ![t.val, 0] := (by decide +kernel : ∀ t : Fin grid0.N, _)

theorem at0_3 : ∀ t : Fin cfg0.N, win0_3.index t = ![0, 0] := (by decide +kernel : ∀ t : Fin grid0.N, _)

theorem at0_4 : ∀ t : Fin cfg0.N, win0_4.index t = ![t.val, 0] := (by decide +kernel : ∀ t : Fin grid0.N, _)

theorem at0_5 : ∀ t : Fin cfg0.N, win0_5.index t = ![0, 0] := (by decide +kernel : ∀ t : Fin grid0.N, _)

theorem at0_6 : ∀ t : Fin cfg0.N, win0_6.index t = ![0, 0] := (by decide +kernel : ∀ t : Fin grid0.N, _)

theorem at0_7 : ∀ t : Fin cfg0.N, win0_7.index t = ![0, 0] := (by decide +kernel : ∀ t : Fin grid0.N, _)

theorem at0_8 : ∀ t : Fin cfg0.N, win0_8.index t = ![0, 0] := (by decide +kernel : ∀ t : Fin grid0.N, _)

theorem blk0 (c : Dev nD) (t : Fin cfg0.N) (r : Fin 1024) (k : Fin 1024) :
    (iblk m c 0 t : S1024x1024.Idx → EReal) (ix2 r k) = A0 m c (ix2 (Rows.row (T := 8192) rfl t r) k) := by
  blk_ext [at0_0, iblk]

theorem blk1 (c : Dev nD) (t : Fin cfg0.N) (r : Fin 1024) (k : Fin 1024) :
    (iblk m c 1 t : S1024x1024.Idx → EReal) (ix2 r k) = A1 m c (ix2 (Rows.row (T := 8192) rfl t r) k) := by
  blk_ext [at0_1, iblk]

theorem blk2 (c : Dev nD) (t : Fin cfg0.N) (r : Fin 1024) (k : Fin 1024) :
    (iblk m c 2 t : S1024x1024.Idx → EReal) (ix2 r k) = A2 m c (ix2 (Rows.row (T := 8192) rfl t r) k) := by
  blk_ext [at0_2, iblk]

theorem blk3 (c : Dev nD) (t : Fin cfg0.N) (r : Fin 1) (k : Fin 1024) :
    (iblk m c 3 t : S1x1024.Idx → EReal) (ix2 r k) = A3 m c (ix2 r k) := by
  blk_ext [at0_3, iblk]

/-- Element `(R, q)` of result `4`. -/
@[irreducible] def res4 (c : Dev nD) (R : Fin 8192) (q : Fin 1024) : EReal :=
  dpre (fun k => A0 m c (ix2 R k)) (fun k => A1 m c (ix2 R k)) (fun k => A2 m c (ix2 R k)) (fun a b => A3 m c (ix2 a b)) q

/-- Result `4`. -/
def G4 (c : Dev nD) : Vec Ideal S8192x1024 .f32 := fun i => res4 m c (i 0) (i 1)

/-- Element `(R, q)` of the summands of result `5`. -/
@[irreducible] def term5 (c : Dev nD) (R : Fin 8192) (q : Fin 128) : EReal :=
  half2 (fun k => A0 m c (ix2 R k)) (fun k => A1 m c (ix2 R k)) (fun k => A2 m c (ix2 R k)) (fun a b => A3 m c (ix2 a b)) q

/-- Its sum over the rows. -/
def acc5 (c : Dev nD) (q : Fin 128) : EReal := ∑ R : Fin 8192, term5 m c R q

/-- Result `5`. -/
def G5 (c : Dev nD) : Vec Ideal S1x128 .f32 := fun i => acc5 m c (i 1)

theorem G5_apply (c : Dev nD) (p : Fin 1) (q : Fin 128) : G5 m c (ix2 p q) = acc5 m c q := rfl

/-- Element `(R, q)` of the summands of result `6`. -/
@[irreducible] def term6 (c : Dev nD) (R : Fin 8192) (q : Fin 1024) : EReal :=
  dgain (fun k => A0 m c (ix2 R k)) (fun k => A1 m c (ix2 R k)) (fun k => A2 m c (ix2 R k)) (fun a b => A3 m c (ix2 a b)) q

/-- Its sum over the rows. -/
def acc6 (c : Dev nD) (q : Fin 1024) : EReal := ∑ R : Fin 8192, term6 m c R q

/-- Result `6`. -/
def G6 (c : Dev nD) : Vec Ideal S1x1024 .f32 := fun i => acc6 m c (i 1)

theorem G6_apply (c : Dev nD) (p : Fin 1) (q : Fin 1024) : G6 m c (ix2 p q) = acc6 m c q := rfl

/-- Element `(R, q)` of the summands of result `7`. -/
@[irreducible] def term7 (c : Dev nD) (R : Fin 8192) (q : Fin 1024) : EReal :=
  dbias (fun k => A0 m c (ix2 R k)) (fun k => A1 m c (ix2 R k)) (fun k => A2 m c (ix2 R k)) (fun a b => A3 m c (ix2 a b)) q

/-- Its sum over the rows. -/
def acc7 (c : Dev nD) (q : Fin 1024) : EReal := ∑ R : Fin 8192, term7 m c R q

/-- Result `7`. -/
def G7 (c : Dev nD) : Vec Ideal S1x1024 .f32 := fun i => acc7 m c (i 1)

theorem G7_apply (c : Dev nD) (p : Fin 1) (q : Fin 1024) : G7 m c (ix2 p q) = acc7 m c q := rfl

/-- Element `(R, q)` of the summands of result `8`. -/
@[irreducible] def term8 (c : Dev nD) (R : Fin 8192) (q : Fin 1024) : EReal :=
  dpre (fun k => A0 m c (ix2 R k)) (fun k => A1 m c (ix2 R k)) (fun k => A2 m c (ix2 R k)) (fun a b => A3 m c (ix2 a b)) q

/-- Its sum over the rows. -/
def acc8 (c : Dev nD) (q : Fin 1024) : EReal := ∑ R : Fin 8192, term8 m c R q

/-- Result `8`. -/
def G8 (c : Dev nD) : Vec Ideal S1x1024 .f32 := fun i => acc8 m c (i 1)

theorem G8_apply (c : Dev nD) (p : Fin 1) (q : Fin 1024) : G8 m c (ix2 p q) = acc8 m c q := rfl

theorem stepA (c : Dev nD) (t : Fin cfg0.N) (h0 : t.val % 8 = 0) (h1 : ¬1 ≤ t.val) :
    (∀ (r : Fin 1024) (q : Fin 1024), ((outsAt0 m c t.val t.isLt).1 : S1024x1024.Idx → EReal) (ix2 r q) = res4 m c (Rows.row (T := 8192) rfl t r) q)
      ∧ (∀ (q : Fin 128), ((outsAt0 m c t.val t.isLt).2.1 : S1x128.Idx → EReal) (ix2 0 q) = ∑ r : Fin 1024, term5 m c (Rows.row (N := 8) (T := 8192) rfl t r) q)
      ∧ (∀ (q : Fin 1024), ((outsAt0 m c t.val t.isLt).2.2.1 : S1x1024.Idx → EReal) (ix2 0 q) = ∑ r : Fin 1024, term6 m c (Rows.row (N := 8) (T := 8192) rfl t r) q)
      ∧ (∀ (q : Fin 1024), ((outsAt0 m c t.val t.isLt).2.2.2.1 : S1x1024.Idx → EReal) (ix2 0 q) = ∑ r : Fin 1024, term7 m c (Rows.row (N := 8) (T := 8192) rfl t r) q)
      ∧ (∀ (q : Fin 1024), ((outsAt0 m c t.val t.isLt).2.2.2.2 : S1x1024.Idx → EReal) (ix2 0 q) = ∑ r : Fin 1024, term8 m c (Rows.row (N := 8) (T := 8192) rfl t r) q) := by
  rw [outsAt0_A m c t h0 h1]
  refine ⟨fun r q => ?_, fun q => ?_, fun q => ?_, fun q => ?_, fun q => ?_⟩
  all_goals
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Rows.bwd, Rows.hat, Rows.istd, Rows.mean, dy, dpre, half2, dgain, dbias, res4, term5, term6, term7, term8]
    simp only [blk0 m c t, blk1 m c t, blk2 m c t, blk3 m c t]
  exact Rows.half_sum _ fun r => Rows.square_nonneg _

theorem stepB (c : Dev nD) (t : Fin cfg0.N) (h0 : ¬t.val % 8 = 0) (h1 : 1 ≤ t.val) :
    (∀ (r : Fin 1024) (q : Fin 1024), ((outsAt0 m c t.val t.isLt).1 : S1024x1024.Idx → EReal) (ix2 r q) = res4 m c (Rows.row (T := 8192) rfl t r) q)
      ∧ (∀ (q : Fin 128), ((outsAt0 m c t.val t.isLt).2.1 : S1x128.Idx → EReal) (ix2 0 q) = ((outsAt0 m c (t.val - 1) (Nat.lt_of_le_of_lt (Nat.sub_le _ _) t.isLt)).2.1 : S1x128.Idx → EReal) (ix2 0 q) + ∑ r : Fin 1024, term5 m c (Rows.row (N := 8) (T := 8192) rfl t r) q)
      ∧ (∀ (q : Fin 1024), ((outsAt0 m c t.val t.isLt).2.2.1 : S1x1024.Idx → EReal) (ix2 0 q) = ((outsAt0 m c (t.val - 1) (Nat.lt_of_le_of_lt (Nat.sub_le _ _) t.isLt)).2.2.1 : S1x1024.Idx → EReal) (ix2 0 q) + ∑ r : Fin 1024, term6 m c (Rows.row (N := 8) (T := 8192) rfl t r) q)
      ∧ (∀ (q : Fin 1024), ((outsAt0 m c t.val t.isLt).2.2.2.1 : S1x1024.Idx → EReal) (ix2 0 q) = ((outsAt0 m c (t.val - 1) (Nat.lt_of_le_of_lt (Nat.sub_le _ _) t.isLt)).2.2.2.1 : S1x1024.Idx → EReal) (ix2 0 q) + ∑ r : Fin 1024, term7 m c (Rows.row (N := 8) (T := 8192) rfl t r) q)
      ∧ (∀ (q : Fin 1024), ((outsAt0 m c t.val t.isLt).2.2.2.2 : S1x1024.Idx → EReal) (ix2 0 q) = ((outsAt0 m c (t.val - 1) (Nat.lt_of_le_of_lt (Nat.sub_le _ _) t.isLt)).2.2.2.2 : S1x1024.Idx → EReal) (ix2 0 q) + ∑ r : Fin 1024, term8 m c (Rows.row (N := 8) (T := 8192) rfl t r) q) := by
  rw [outsAt0_B m c t h0 h1]
  refine ⟨fun r q => ?_, fun q => ?_, fun q => ?_, fun q => ?_, fun q => ?_⟩
  all_goals
    frame_out
    pointwise [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, Rows.bwd, Rows.hat, Rows.istd, Rows.mean, dy, dpre, half2, dgain, dbias, res4, term5, term6, term7, term8]
    simp only [blk0 m c t, blk1 m c t, blk2 m c t, blk3 m c t]
  exact congrArg (_ + ·) (Rows.half_sum _ fun r => Rows.square_nonneg _)

theorem final4 (c : Dev nD) : (dats m 0 c).arrAt 4 cfg0.N = G4 m c := by
  refine (dats m 0 c).arrAt_eq_of_covers 4 _ (by decide +kernel) fun t hf y => ?_
  have ht : t.val < 8 := lt_of_lt_of_eq t.isLt (show cfg0.N = 8 from N_0)
  have h : ∀ (r : Fin 1024) (q : Fin 1024), ((outsAt0 m c t.val t.isLt).1 : S1024x1024.Idx → EReal) (ix2 r q) = res4 m c (Rows.row (T := 8192) rfl t r) q := fun r q => by
    by_cases h0 : t.val = 0
    · exact (stepA m c t (by omega) (by omega)).1 r q
    · exact (stepB m c t (by omega) (by omega)).1 r q
  blk_simp
  rw [after0_4]
  generalize (outsAt0 m c t.val t.isLt).1 = o at h ⊢
  refine (congrArg o (funext fun a => ?_)).trans ((h (y 0) (y 1)).trans ?_)
  · fin_cases a <;> rfl
  · show res4 m c _ _ = res4 m c _ _
    congr 1 <;> (apply Fin.ext; blk_simp [at0_4]; try simp [Nat.mul_comm])

theorem last5 (c : Dev nD) (h : 7 < cfg0.N) (q : Fin 128) : ((outsAt0 m c 7 h).2.1 : S1x128.Idx → EReal) (ix2 0 q) = acc5 m c q :=
  Rows.total (N := 8) (B := 1024) rfl (fun R => term5 m c R q) (fun n h => ((outsAt0 m c n h).2.1 : S1x128.Idx → EReal) (ix2 0 q))
    (fun h => (stepA m c ⟨0, h⟩ rfl (by dsimp only; omega)).2.1 q)
    (fun n h => (stepB m c ⟨n + 1, h⟩ (by dsimp only; omega) (by dsimp only; omega)).2.1 q) 7 h rfl

theorem final5 (c : Dev nD) : (dats m 0 c).arrAt 5 cfg0.N = G5 m c := by
  refine (dats m 0 c).arrAt_eq_of_covers 5 _ (by decide +kernel) fun t hf y => ?_
  have ht : t.val = 7 := by have := (flush0_5 t).mp hf; have := lt_of_lt_of_eq t.isLt (show cfg0.N = 8 from N_0); omega
  blk_simp
  rw [after0_5]
  obtain ⟨n, hn⟩ := t
  obtain rfl : n = 7 := ht
  have h := last5 m c hn
  dsimp only
  generalize (outsAt0 m c 7 hn).2.1 = o at h ⊢
  refine (congrArg o (funext fun a => ?_)).trans ((h (y 1)).trans ?_)
  · fin_cases a
    · exact Subsingleton.elim (α := Fin 1) _ _
    · rfl
  · show acc5 m c _ = acc5 m c _
    congr 1; apply Fin.ext; blk_simp; simp; exact congrFun (at0_5 ⟨7, hn⟩) 1

theorem last6 (c : Dev nD) (h : 7 < cfg0.N) (q : Fin 1024) : ((outsAt0 m c 7 h).2.2.1 : S1x1024.Idx → EReal) (ix2 0 q) = acc6 m c q :=
  Rows.total (N := 8) (B := 1024) rfl (fun R => term6 m c R q) (fun n h => ((outsAt0 m c n h).2.2.1 : S1x1024.Idx → EReal) (ix2 0 q))
    (fun h => (stepA m c ⟨0, h⟩ rfl (by dsimp only; omega)).2.2.1 q)
    (fun n h => (stepB m c ⟨n + 1, h⟩ (by dsimp only; omega) (by dsimp only; omega)).2.2.1 q) 7 h rfl

theorem final6 (c : Dev nD) : (dats m 0 c).arrAt 6 cfg0.N = G6 m c := by
  refine (dats m 0 c).arrAt_eq_of_covers 6 _ (by decide +kernel) fun t hf y => ?_
  have ht : t.val = 7 := by have := (flush0_6 t).mp hf; have := lt_of_lt_of_eq t.isLt (show cfg0.N = 8 from N_0); omega
  blk_simp
  rw [after0_6]
  obtain ⟨n, hn⟩ := t
  obtain rfl : n = 7 := ht
  have h := last6 m c hn
  dsimp only
  generalize (outsAt0 m c 7 hn).2.2.1 = o at h ⊢
  refine (congrArg o (funext fun a => ?_)).trans ((h (y 1)).trans ?_)
  · fin_cases a
    · exact Subsingleton.elim (α := Fin 1) _ _
    · rfl
  · show acc6 m c _ = acc6 m c _
    congr 1; apply Fin.ext; blk_simp; simp; exact congrFun (at0_6 ⟨7, hn⟩) 1

theorem last7 (c : Dev nD) (h : 7 < cfg0.N) (q : Fin 1024) : ((outsAt0 m c 7 h).2.2.2.1 : S1x1024.Idx → EReal) (ix2 0 q) = acc7 m c q :=
  Rows.total (N := 8) (B := 1024) rfl (fun R => term7 m c R q) (fun n h => ((outsAt0 m c n h).2.2.2.1 : S1x1024.Idx → EReal) (ix2 0 q))
    (fun h => (stepA m c ⟨0, h⟩ rfl (by dsimp only; omega)).2.2.2.1 q)
    (fun n h => (stepB m c ⟨n + 1, h⟩ (by dsimp only; omega) (by dsimp only; omega)).2.2.2.1 q) 7 h rfl

theorem final7 (c : Dev nD) : (dats m 0 c).arrAt 7 cfg0.N = G7 m c := by
  refine (dats m 0 c).arrAt_eq_of_covers 7 _ (by decide +kernel) fun t hf y => ?_
  have ht : t.val = 7 := by have := (flush0_7 t).mp hf; have := lt_of_lt_of_eq t.isLt (show cfg0.N = 8 from N_0); omega
  blk_simp
  rw [after0_7]
  obtain ⟨n, hn⟩ := t
  obtain rfl : n = 7 := ht
  have h := last7 m c hn
  dsimp only
  generalize (outsAt0 m c 7 hn).2.2.2.1 = o at h ⊢
  refine (congrArg o (funext fun a => ?_)).trans ((h (y 1)).trans ?_)
  · fin_cases a
    · exact Subsingleton.elim (α := Fin 1) _ _
    · rfl
  · show acc7 m c _ = acc7 m c _
    congr 1; apply Fin.ext; blk_simp; simp; exact congrFun (at0_7 ⟨7, hn⟩) 1

theorem last8 (c : Dev nD) (h : 7 < cfg0.N) (q : Fin 1024) : ((outsAt0 m c 7 h).2.2.2.2 : S1x1024.Idx → EReal) (ix2 0 q) = acc8 m c q :=
  Rows.total (N := 8) (B := 1024) rfl (fun R => term8 m c R q) (fun n h => ((outsAt0 m c n h).2.2.2.2 : S1x1024.Idx → EReal) (ix2 0 q))
    (fun h => (stepA m c ⟨0, h⟩ rfl (by dsimp only; omega)).2.2.2.2 q)
    (fun n h => (stepB m c ⟨n + 1, h⟩ (by dsimp only; omega) (by dsimp only; omega)).2.2.2.2 q) 7 h rfl

theorem final8 (c : Dev nD) : (dats m 0 c).arrAt 8 cfg0.N = G8 m c := by
  refine (dats m 0 c).arrAt_eq_of_covers 8 _ (by decide +kernel) fun t hf y => ?_
  have ht : t.val = 7 := by have := (flush0_8 t).mp hf; have := lt_of_lt_of_eq t.isLt (show cfg0.N = 8 from N_0); omega
  blk_simp
  rw [after0_8]
  obtain ⟨n, hn⟩ := t
  obtain rfl : n = 7 := ht
  have h := last8 m c hn
  dsimp only
  generalize (outsAt0 m c 7 hn).2.2.2.2 = o at h ⊢
  refine (congrArg o (funext fun a => ?_)).trans ((h (y 1)).trans ?_)
  · fin_cases a
    · exact Subsingleton.elim (α := Fin 1) _ _
    · rfl
  · show acc8 m c _ = acc8 m c _
    congr 1; apply Fin.ext; blk_simp; simp; exact congrFun (at0_8 ⟨7, hn⟩) 1

end Cert.LossIdeal.Body

end
-- ==== Proof.LossClaim.lean ====
/- The claim on the call `loss`: its results are half the mean square of the error, summed over the rows, and its gradients through the layer norm. -/
module

public import proofs.«01_k».proof.Defs
public import proofs.«01_k».proof.Proof.LossValue
public import proofs.«01_k».proof.Proof.Gen.LossRefIdeal
public import proofs.«01_k».proof.Proof.Gen.LossRefIdeal.Run
public import proofs.«01_k».proof.Proof.Gen.LossRefIdeal.Read

@[expose] public section

noncomputable section

open Idealize.ShloMosaic Idealize.ShloMosaic.TcCoe Idealize.SL.Sem Idealize.ShloMosaic.StableHlo

namespace Cert.LossRef

open Cert.LossRefIdeal Cert.LossRefIdeal.Read Cert.LossRefIdeal.Gen

/-- The gradient by the normalised row, as differentiation writes it. -/
def dyr (x0 : Vec Ideal S8192x1024 .f32) (x1 x2 : Vec Ideal S1024 .f32) (x3 : Vec Ideal S8192x1024 .f32) (R : Fin 8192) (k : Fin 1024) : EReal :=
  Ideal.div (Ideal.ofBits .f32 0x3F000000#32) (Ideal.ofBits .f32 0x44800000#32) * (Ideal.ofBits .f32 0x40000000#32 * (Rows.norm (fun k => x0 (ix2 R k)) (fun k => x1 (ix1 k)) (fun k => x2 (ix1 k)) k - x3 (ix2 R k)))

theorem word_scale : Ideal.ofBits .f32 0x3A800000#32 = ((1 / 1024 : ℝ) : EReal) := by
  simp [Ideal.ofBits, Ideal.ieee, -EReal.coe_mul]; norm_num

theorem scale (e : EReal) : Ideal.div (Ideal.ofBits .f32 0x3F000000#32) (Ideal.ofBits .f32 0x44800000#32) * (Ideal.ofBits .f32 0x40000000#32 * e) = ((1 / 1024 : ℝ) : EReal) * e := by
  rw [Rows.word_half, Rows.word_two, Rows.word_1024, Rows.div_1024, ← mul_assoc, ← EReal.coe_mul]
  norm_num

theorem dy_eq (x0 : Vec Ideal S8192x1024 .f32) (x1 x2 : Vec Ideal S1024 .f32) (x3 : Vec Ideal S8192x1024 .f32) (p : Fin 8192) (q : Fin 1024) :
    Cert.LossIdeal.Body.dy (fun k => Rows.norm (fun k => x0 (ix2 p k)) (fun k => x1 (ix1 k)) (fun k => x2 (ix1 k)) k) (fun k => x3 (ix2 p k)) q = dyr x0 x1 x2 x3 p q := by
  unfold Cert.LossIdeal.Body.dy dyr
  rw [scale, word_scale, mul_comm]

theorem out0 (x0 : Vec Ideal S8192x1024 .f32) (x1 : Vec Ideal S1024 .f32) (x2 : Vec Ideal S1024 .f32) (x3 : Vec Ideal S8192x1024 .f32) (h : ∀ (R : Fin 8192) (k : Fin 1024), ∃ t : ℝ, dyr x0 x1 x2 x3 R k * x1 (ix1 k) = t) (p : Fin 8192) (q : Fin 1024) :
    val_main_v76 (F := Ideal) x0 x1 x2 x3 (ix2 p q) = Cert.LossIdeal.Body.dpre (fun k => Rows.norm (fun k => x0 (ix2 p k)) (fun k => x1 (ix1 k)) (fun k => x2 (ix1 k)) k) (fun k => x3 (ix2 p k)) (fun k => x0 (ix2 p k)) (fun a b => x1 (ix1 b)) q := by
  have e : val_main_v76 (F := Ideal) x0 x1 x2 x3 (ix2 p q) = Rows.bwdDiff (fun k => x0 (ix2 p k)) (fun k => dyr x0 x1 x2 x3 p k * x1 (ix1 k)) q := by
    pointwise [val_main_cst, val_main_v0, val_main_v1, val_main_cst_0, val_main_v2, val_main_v3, val_main_v4, val_main_v5, val_main_v6, val_main_cst_1, val_main_v7, val_main_v8, val_main_cst_2, val_main_v9, val_main_v10, val_main_cst_3, val_main_v11, val_main_v12, val_main_v13, val_main_v14, val_main_cst_4, val_main_v15, val_main_v16, val_main_v17, val_main_v18, val_main_cst_5, val_main_v19, val_main_v20, val_main_v21, val_main_v22, val_main_v23, val_main_v24, val_main_v25, val_main_v26, val_main_v27, val_main_v28, val_main_v29, val_main_v30, val_main_cst_6, val_main_v31, val_main_v32, val_main_cst_7, val_main_v33, val_main_cst_8, val_main_v34, val_main_v35, val_main_cst_9, val_main_v36, val_main_cst_10, val_main_v37, val_main_cst_11, val_main_cst_12, val_main_v38, val_main_v39, val_main_cst_13, val_main_v40, val_main_v41, val_main_v42, val_main_v43, val_main_cst_14, val_main_v44, val_main_v45, val_main_cst_15, val_main_v46, val_main_v47, val_main_cst_16, val_main_v48, val_main_v49, val_main_v50, val_main_v51, val_main_cst_17, val_main_v52, val_main_v53, val_main_cst_18, val_main_v54, val_main_v55, val_main_v56, val_main_v57, val_main_v58, val_main_v59, val_main_cst_19, val_main_v60, val_main_v61, val_main_cst_20, val_main_v62, val_main_v63, val_main_cst_21, val_main_v64, val_main_v65, val_main_v66, val_main_v67, val_main_cst_22, val_main_v68, val_main_v69, val_main_v70, val_main_v71, val_main_cst_23, val_main_v72, val_main_v73, val_main_cst_24, val_main_v74, val_main_v75, val_main_v76, val_main_v77, val_main_v78, val_main_v79, val_main_cst_25, val_main_v80, val_main_v81, Rows.bwdDiff, Rows.viaVar, Rows.rvar, Rows.istd, Rows.mean, Rows.hat, dyr, Rows.norm]
  rw [e]
  rw [Rows.bwdDiff_agree _ _ (h p)]
  unfold Cert.LossIdeal.Body.dpre
  simp only [dy_eq]

theorem out1 (x0 : Vec Ideal S8192x1024 .f32) (x1 : Vec Ideal S1024 .f32) (x2 : Vec Ideal S1024 .f32) (x3 : Vec Ideal S8192x1024 .f32) (p : Fin 1) (q : Fin 128) :
    val_main_v77 (F := Ideal) x0 x1 x2 x3 (ix2 p q) = ∑ R : Fin 8192, Cert.LossIdeal.Body.half2 (fun k => Rows.norm (fun k => x0 (ix2 R k)) (fun k => x1 (ix1 k)) (fun k => x2 (ix1 k)) k) (fun k => x3 (ix2 R k)) (fun k => x0 (ix2 R k)) (fun a b => x1 (ix1 b)) q := by
  have e : val_main_v77 (F := Ideal) x0 x1 x2 x3 (ix2 p q) = Ideal.ofBits .f32 0x3F000000#32 * ∑ R : Fin 8192, Ideal.div (∑ k, (Rows.norm (fun k => x0 (ix2 R k)) (fun k => x1 (ix1 k)) (fun k => x2 (ix1 k)) k - x3 (ix2 R k)) * (Rows.norm (fun k => x0 (ix2 R k)) (fun k => x1 (ix1 k)) (fun k => x2 (ix1 k)) k - x3 (ix2 R k))) (Ideal.ofBits .f32 0x44800000#32) := by
    pointwise [val_main_cst, val_main_v0, val_main_v1, val_main_cst_0, val_main_v2, val_main_v3, val_main_v4, val_main_v5, val_main_v6, val_main_cst_1, val_main_v7, val_main_v8, val_main_cst_2, val_main_v9, val_main_v10, val_main_cst_3, val_main_v11, val_main_v12, val_main_v13, val_main_v14, val_main_cst_4, val_main_v15, val_main_v16, val_main_v17, val_main_v18, val_main_cst_5, val_main_v19, val_main_v20, val_main_v21, val_main_v22, val_main_v23, val_main_v24, val_main_v25, val_main_v26, val_main_v27, val_main_v28, val_main_v29, val_main_v30, val_main_cst_6, val_main_v31, val_main_v32, val_main_cst_7, val_main_v33, val_main_cst_8, val_main_v34, val_main_v35, val_main_cst_9, val_main_v36, val_main_cst_10, val_main_v37, val_main_cst_11, val_main_cst_12, val_main_v38, val_main_v39, val_main_cst_13, val_main_v40, val_main_v41, val_main_v42, val_main_v43, val_main_cst_14, val_main_v44, val_main_v45, val_main_cst_15, val_main_v46, val_main_v47, val_main_cst_16, val_main_v48, val_main_v49, val_main_v50, val_main_v51, val_main_cst_17, val_main_v52, val_main_v53, val_main_cst_18, val_main_v54, val_main_v55, val_main_v56, val_main_v57, val_main_v58, val_main_v59, val_main_cst_19, val_main_v60, val_main_v61, val_main_cst_20, val_main_v62, val_main_v63, val_main_cst_21, val_main_v64, val_main_v65, val_main_v66, val_main_v67, val_main_cst_22, val_main_v68, val_main_v69, val_main_v70, val_main_v71, val_main_cst_23, val_main_v72, val_main_v73, val_main_cst_24, val_main_v74, val_main_v75, val_main_v76, val_main_v77, val_main_v78, val_main_v79, val_main_cst_25, val_main_v80, val_main_v81, Rows.norm, Rows.istd, Rows.mean]
  rw [e]
  unfold Cert.LossIdeal.Body.half2
  exact Rows.half_sum _ fun r => Rows.square_nonneg _

theorem out2 (x0 : Vec Ideal S8192x1024 .f32) (x1 : Vec Ideal S1024 .f32) (x2 : Vec Ideal S1024 .f32) (x3 : Vec Ideal S8192x1024 .f32) (p : Fin 1) (q : Fin 1024) :
    val_main_v78 (F := Ideal) x0 x1 x2 x3 (ix2 p q) = ∑ R : Fin 8192, Cert.LossIdeal.Body.dgain (fun k => Rows.norm (fun k => x0 (ix2 R k)) (fun k => x1 (ix1 k)) (fun k => x2 (ix1 k)) k) (fun k => x3 (ix2 R k)) (fun k => x0 (ix2 R k)) (fun a b => x1 (ix1 b)) q := by
  have e : val_main_v78 (F := Ideal) x0 x1 x2 x3 (ix2 p q) = ∑ _ : Fin 1, ∑ R : Fin 8192, Rows.hat (fun k => x0 (ix2 R k)) q * dyr x0 x1 x2 x3 R q := by
    pointwise [val_main_cst, val_main_v0, val_main_v1, val_main_cst_0, val_main_v2, val_main_v3, val_main_v4, val_main_v5, val_main_v6, val_main_cst_1, val_main_v7, val_main_v8, val_main_cst_2, val_main_v9, val_main_v10, val_main_cst_3, val_main_v11, val_main_v12, val_main_v13, val_main_v14, val_main_cst_4, val_main_v15, val_main_v16, val_main_v17, val_main_v18, val_main_cst_5, val_main_v19, val_main_v20, val_main_v21, val_main_v22, val_main_v23, val_main_v24, val_main_v25, val_main_v26, val_main_v27, val_main_v28, val_main_v29, val_main_v30, val_main_cst_6, val_main_v31, val_main_v32, val_main_cst_7, val_main_v33, val_main_cst_8, val_main_v34, val_main_v35, val_main_cst_9, val_main_v36, val_main_cst_10, val_main_v37, val_main_cst_11, val_main_cst_12, val_main_v38, val_main_v39, val_main_cst_13, val_main_v40, val_main_v41, val_main_v42, val_main_v43, val_main_cst_14, val_main_v44, val_main_v45, val_main_cst_15, val_main_v46, val_main_v47, val_main_cst_16, val_main_v48, val_main_v49, val_main_v50, val_main_v51, val_main_cst_17, val_main_v52, val_main_v53, val_main_cst_18, val_main_v54, val_main_v55, val_main_v56, val_main_v57, val_main_v58, val_main_v59, val_main_cst_19, val_main_v60, val_main_v61, val_main_cst_20, val_main_v62, val_main_v63, val_main_cst_21, val_main_v64, val_main_v65, val_main_v66, val_main_v67, val_main_cst_22, val_main_v68, val_main_v69, val_main_v70, val_main_v71, val_main_cst_23, val_main_v72, val_main_v73, val_main_cst_24, val_main_v74, val_main_v75, val_main_v76, val_main_v77, val_main_v78, val_main_v79, val_main_cst_25, val_main_v80, val_main_v81, Rows.bwdDiff, Rows.viaVar, Rows.rvar, Rows.istd, Rows.mean, Rows.hat, dyr, Rows.norm]
  rw [e, Fin.sum_univ_one]
  unfold Cert.LossIdeal.Body.dgain
  simp only [dy_eq, mul_comm (Rows.hat _ _)]

theorem out3 (x0 : Vec Ideal S8192x1024 .f32) (x1 : Vec Ideal S1024 .f32) (x2 : Vec Ideal S1024 .f32) (x3 : Vec Ideal S8192x1024 .f32) (p : Fin 1) (q : Fin 1024) :
    val_main_v79 (F := Ideal) x0 x1 x2 x3 (ix2 p q) = ∑ R : Fin 8192, Cert.LossIdeal.Body.dbias (fun k => Rows.norm (fun k => x0 (ix2 R k)) (fun k => x1 (ix1 k)) (fun k => x2 (ix1 k)) k) (fun k => x3 (ix2 R k)) (fun k => x0 (ix2 R k)) (fun a b => x1 (ix1 b)) q := by
  have e : val_main_v79 (F := Ideal) x0 x1 x2 x3 (ix2 p q) = ∑ _ : Fin 1, ∑ R : Fin 8192, dyr x0 x1 x2 x3 R q := by
    rw [← val_main_v79_eq]
    pointwise [Rows.bwdDiff, Rows.viaVar, Rows.rvar, Rows.istd, Rows.mean, Rows.hat, dyr, Rows.norm]
  rw [e, Fin.sum_univ_one]
  unfold Cert.LossIdeal.Body.dbias
  simp only [dy_eq]

theorem out4 (x0 : Vec Ideal S8192x1024 .f32) (x1 : Vec Ideal S1024 .f32) (x2 : Vec Ideal S1024 .f32) (x3 : Vec Ideal S8192x1024 .f32) (h : ∀ (R : Fin 8192) (k : Fin 1024), ∃ t : ℝ, dyr x0 x1 x2 x3 R k * x1 (ix1 k) = t) (p : Fin 1) (q : Fin 1024) :
    val_main_v81 (F := Ideal) x0 x1 x2 x3 (ix2 p q) = ∑ R : Fin 8192, Cert.LossIdeal.Body.dpre (fun k => Rows.norm (fun k => x0 (ix2 R k)) (fun k => x1 (ix1 k)) (fun k => x2 (ix1 k)) k) (fun k => x3 (ix2 R k)) (fun k => x0 (ix2 R k)) (fun a b => x1 (ix1 b)) q := by
  have e : val_main_v81 (F := Ideal) x0 x1 x2 x3 (ix2 p q) = ∑ R : Fin 8192, Rows.bwdDiff (fun k => x0 (ix2 R k)) (fun k => dyr x0 x1 x2 x3 R k * x1 (ix1 k)) q := by
    pointwise [val_main_cst, val_main_v0, val_main_v1, val_main_cst_0, val_main_v2, val_main_v3, val_main_v4, val_main_v5, val_main_v6, val_main_cst_1, val_main_v7, val_main_v8, val_main_cst_2, val_main_v9, val_main_v10, val_main_cst_3, val_main_v11, val_main_v12, val_main_v13, val_main_v14, val_main_cst_4, val_main_v15, val_main_v16, val_main_v17, val_main_v18, val_main_cst_5, val_main_v19, val_main_v20, val_main_v21, val_main_v22, val_main_v23, val_main_v24, val_main_v25, val_main_v26, val_main_v27, val_main_v28, val_main_v29, val_main_v30, val_main_cst_6, val_main_v31, val_main_v32, val_main_cst_7, val_main_v33, val_main_cst_8, val_main_v34, val_main_v35, val_main_cst_9, val_main_v36, val_main_cst_10, val_main_v37, val_main_cst_11, val_main_cst_12, val_main_v38, val_main_v39, val_main_cst_13, val_main_v40, val_main_v41, val_main_v42, val_main_v43, val_main_cst_14, val_main_v44, val_main_v45, val_main_cst_15, val_main_v46, val_main_v47, val_main_cst_16, val_main_v48, val_main_v49, val_main_v50, val_main_v51, val_main_cst_17, val_main_v52, val_main_v53, val_main_cst_18, val_main_v54, val_main_v55, val_main_v56, val_main_v57, val_main_v58, val_main_v59, val_main_cst_19, val_main_v60, val_main_v61, val_main_cst_20, val_main_v62, val_main_v63, val_main_cst_21, val_main_v64, val_main_v65, val_main_v66, val_main_v67, val_main_cst_22, val_main_v68, val_main_v69, val_main_v70, val_main_v71, val_main_cst_23, val_main_v72, val_main_v73, val_main_cst_24, val_main_v74, val_main_v75, val_main_v76, val_main_v77, val_main_v78, val_main_v79, val_main_cst_25, val_main_v80, val_main_v81, Rows.bwdDiff, Rows.viaVar, Rows.rvar, Rows.istd, Rows.mean, Rows.hat, dyr, Rows.norm]
  rw [e]
  rw [show (∑ R : Fin 8192, Rows.bwdDiff (fun k => x0 (ix2 R k)) (fun k => dyr x0 x1 x2 x3 R k * x1 (ix1 k)) q) = ∑ R : Fin 8192, Rows.bwd (fun k => x0 (ix2 R k)) (fun k => dyr x0 x1 x2 x3 R k * x1 (ix1 k)) q from Finset.sum_congr rfl fun R _ => Rows.bwdDiff_agree _ _ (h R) q]
  unfold Cert.LossIdeal.Body.dpre
  simp only [dy_eq]

end Cert.LossRef

namespace Cert.LossIdeal.Body

open Cert.LossIdeal Cert.LossIdeal.Gen

variable (m : (ℓ : Loc nD τ sig) → Buf (Elt Ideal) ℓ)

/-- Argument `0`. -/
abbrev x0 (c : Dev nD) : Vec Ideal S8192x1024 .f32 := m ((c : Thread nD τ).loc main_arg0)

/-- Argument `1`. -/
abbrev x1 (c : Dev nD) : Vec Ideal S1024 .f32 := m ((c : Thread nD τ).loc main_arg1)

/-- Argument `2`. -/
abbrev x2 (c : Dev nD) : Vec Ideal S1024 .f32 := m ((c : Thread nD τ).loc main_arg2)

/-- Argument `3`. -/
abbrev x3 (c : Dev nD) : Vec Ideal S8192x1024 .f32 := m ((c : Thread nD τ).loc main_arg3)

theorem read0 (c : Dev nD) (R : Fin 8192) (k : Fin 1024) : A0 m c (ix2 R k) = Rows.norm (fun k => x0 m c (ix2 R k)) (fun k => x1 m c (ix1 k)) (fun k => x2 m c (ix1 k)) k := by
  unfold A0 V
  simp only [hostOps0, List.flatten_cons, List.flatten_nil, List.append_nil, List.cons_append, List.nil_append,
    TRef.binary, TRef.nullary, TRef.unary, TRef.toBuf, TRef.ofBuf, cast_eq]
  after_results_simp
  pointwise [Rows.norm, Rows.istd, Rows.mean]

theorem read1 (c : Dev nD) (R : Fin 8192) (k : Fin 1024) : A1 m c (ix2 R k) = x3 m c (ix2 R k) := by
  unfold A1 V
  simp only [hostOps0, List.flatten_cons, List.flatten_nil, List.append_nil, List.cons_append, List.nil_append,
    TRef.binary, TRef.nullary, TRef.unary, TRef.toBuf, TRef.ofBuf, cast_eq]
  after_results_simp
  try pointwise []

theorem read2 (c : Dev nD) (R : Fin 8192) (k : Fin 1024) : A2 m c (ix2 R k) = x0 m c (ix2 R k) := by
  unfold A2 V
  simp only [hostOps0, List.flatten_cons, List.flatten_nil, List.append_nil, List.cons_append, List.nil_append,
    TRef.binary, TRef.nullary, TRef.unary, TRef.toBuf, TRef.ofBuf, cast_eq]
  after_results_simp
  try pointwise []

theorem read3 (c : Dev nD) (a : Fin 1) (b : Fin 1024) : A3 m c (ix2 a b) = x1 m c (ix1 b) := by
  unfold A3 V
  simp only [hostOps0, List.flatten_cons, List.flatten_nil, List.append_nil, List.cons_append, List.nil_append,
    TRef.binary, TRef.nullary, TRef.unary, TRef.toBuf, TRef.ofBuf, cast_eq]
  after_results_simp
  try pointwise []

instance preFacts : Cert.Pre_finite_loss.Facts := ⟨by decide, by decide, by decide, by decide, by decide, by decide, by decide, by decide⟩

theorem fin (hpre : Cert.Pre_LossIdeal_finite_loss m) (c : Dev nD) (R : Fin 8192) (k : Fin 1024) : ∃ t : ℝ, Cert.LossRef.dyr (x0 m c) (x1 m c) (x2 m c) (x3 m c) R k * (x1 m c) (ix1 k) = t := by
  have h := congrFun (hpre c) (ix2 R k)
  revert h
  pointwise [Cert.Pre_finite_loss.fn, Cert.Pre_finite_loss.fn_part1, Rows.norm, Rows.istd, Rows.mean, Cert.LossRef.dyr]
  intro h
  obtain ⟨t, ht⟩ := Rows.finite_of _ h
  exact ⟨1 / 1024 * t, (congrArg (· * _) (Cert.LossRef.scale _)).trans ((mul_assoc _ _ _).trans ((congrArg _ ht).trans (EReal.coe_mul _ _).symm))⟩

theorem val4 (hpre : Cert.Pre_LossIdeal_finite_loss m) (c : Dev nD) : G4 m c = Cert.LossRefIdeal.Read.val_main_v76 (F := Ideal) (x0 m c) (x1 m c) (x2 m c) (x3 m c) := by
  funext i
  obtain ⟨p, q, rfl⟩ : ∃ (p : Fin 8192) (q : Fin 1024), i = ix2 p q := ⟨i 0, i 1, eq_ix2 i⟩
  refine Eq.trans ?_ (Cert.LossRef.out0 (x0 m c) (x1 m c) (x2 m c) (x3 m c) (fin m hpre c) p q).symm
  show res4 m c p q = _
  unfold res4
  simp only [read0 m, read1 m, read2 m, read3 m]

theorem val5 (hpre : Cert.Pre_LossIdeal_finite_loss m) (c : Dev nD) : G5 m c = Cert.LossRefIdeal.Read.val_main_v77 (F := Ideal) (x0 m c) (x1 m c) (x2 m c) (x3 m c) := by
  funext i
  obtain ⟨p, q, rfl⟩ : ∃ (p : Fin 1) (q : Fin 128), i = ix2 p q := ⟨i 0, i 1, eq_ix2 i⟩
  refine Eq.trans ?_ (Cert.LossRef.out1 (x0 m c) (x1 m c) (x2 m c) (x3 m c) p q).symm
  show acc5 m c q = _
  unfold acc5 term5
  simp only [read0 m, read1 m, read2 m, read3 m]

theorem val6 (hpre : Cert.Pre_LossIdeal_finite_loss m) (c : Dev nD) : G6 m c = Cert.LossRefIdeal.Read.val_main_v78 (F := Ideal) (x0 m c) (x1 m c) (x2 m c) (x3 m c) := by
  funext i
  obtain ⟨p, q, rfl⟩ : ∃ (p : Fin 1) (q : Fin 1024), i = ix2 p q := ⟨i 0, i 1, eq_ix2 i⟩
  refine Eq.trans ?_ (Cert.LossRef.out2 (x0 m c) (x1 m c) (x2 m c) (x3 m c) p q).symm
  show acc6 m c q = _
  unfold acc6 term6
  simp only [read0 m, read1 m, read2 m, read3 m]

theorem val7 (hpre : Cert.Pre_LossIdeal_finite_loss m) (c : Dev nD) : G7 m c = Cert.LossRefIdeal.Read.val_main_v79 (F := Ideal) (x0 m c) (x1 m c) (x2 m c) (x3 m c) := by
  funext i
  obtain ⟨p, q, rfl⟩ : ∃ (p : Fin 1) (q : Fin 1024), i = ix2 p q := ⟨i 0, i 1, eq_ix2 i⟩
  refine Eq.trans ?_ (Cert.LossRef.out3 (x0 m c) (x1 m c) (x2 m c) (x3 m c) p q).symm
  show acc7 m c q = _
  unfold acc7 term7
  simp only [read0 m, read1 m, read2 m, read3 m]

theorem val8 (hpre : Cert.Pre_LossIdeal_finite_loss m) (c : Dev nD) : G8 m c = Cert.LossRefIdeal.Read.val_main_v81 (F := Ideal) (x0 m c) (x1 m c) (x2 m c) (x3 m c) := by
  funext i
  obtain ⟨p, q, rfl⟩ : ∃ (p : Fin 1) (q : Fin 1024), i = ix2 p q := ⟨i 0, i 1, eq_ix2 i⟩
  refine Eq.trans ?_ (Cert.LossRef.out4 (x0 m c) (x1 m c) (x2 m c) (x3 m c) (fin m hpre c) p q).symm
  show acc8 m c q = _
  unfold acc8 term8
  simp only [read0 m, read1 m, read2 m, read3 m]

theorem algebraic : Cert.algebraic_LossIdeal_LossRefIdeal_pre_finite_loss := by
  intro m g m' g' hpre hag
  refine ⟨fun c => G4 m c, fun c => G5 m c, fun c => G6 m c, fun c => G7 m c, fun c => G8 m c, ?_, ?_⟩
  · exact (θ_run defs _ _).mono (fun r h c => ⟨(h c).1.trans (final4 m c), (h c).2.1.trans (final5 m c), (h c).2.2.1.trans (final6 m c), (h c).2.2.2.1.trans (final7 m c), (h c).2.2.2.2.1.trans (final8 m c), (h c).2.2.2.2.2⟩) (Value.run_blocks m g)
  · refine (θ_run Cert.LossRefIdeal.defs _ _).mono (fun r h c => ⟨(h c).1.trans ?_, (h c).2.1.trans ?_, (h c).2.2.1.trans ?_, (h c).2.2.2.1.trans ?_, (h c).2.2.2.2.1.trans ?_, (h c).2.2.2.2.2⟩) (Cert.LossRefIdeal.Value.run m' g')
    · obtain ⟨h0, h1, h2, h3⟩ := hag c
      refine (Cert.LossRefIdeal.Read.val_main_v76_eq m' c).trans ?_
      rw [h0, h1, h2, h3]
      exact (val4 m hpre c).symm
    · obtain ⟨h0, h1, h2, h3⟩ := hag c
      refine (Cert.LossRefIdeal.Read.val_main_v77_eq m' c).trans ?_
      rw [h0, h1, h2, h3]
      exact (val5 m hpre c).symm
    · obtain ⟨h0, h1, h2, h3⟩ := hag c
      refine (Cert.LossRefIdeal.Read.val_main_v78_eq m' c).trans ?_
      rw [h0, h1, h2, h3]
      exact (val6 m hpre c).symm
    · obtain ⟨h0, h1, h2, h3⟩ := hag c
      refine (Cert.LossRefIdeal.Read.val_main_v79_eq _ _ _ _).trans ?_
      rw [h0, h1, h2, h3]
      exact (val7 m hpre c).symm
    · obtain ⟨h0, h1, h2, h3⟩ := hag c
      refine (Cert.LossRefIdeal.Read.val_main_v81_eq m' c).trans ?_
      rw [h0, h1, h2, h3]
      exact (val8 m hpre c).symm

end Cert.LossIdeal.Body

end
-- ==== Proof.InbValue.lean ====
/- The values of the call `in_bwd`: the gradient through the four projections and the second layer norm of the layer below. -/
module

public import proofs.«01_k».proof.Proof.Base
public import proofs.«01_k».proof.Proof.Norm
public import proofs.«01_k».proof.Proof.Gen.InbIdeal.Value

@[expose] public section

noncomputable section

open Idealize.ShloMosaic Idealize.ShloMosaic.TcCoe Idealize.SL.Sem Idealize.ShloMosaic.StableHlo
open Idealize.ShloMosaic.Pipeline (Dat)

namespace Cert.InbIdeal.Body

open Cert.InbIdeal Cert.InbIdeal.Gen

theorem hz : (![0, 0] : Fin 2 → Nat) = fun _ => 0 := Rows.hz2

/-- The four gradients of the projections side by side. -/
def cat (p0 p1 p2 p3 : Fin 512 → EReal) (k : Fin 2048) : EReal :=
  if h : k.val < 512 then p0 ⟨k.val, h⟩ else if h : k.val - 512 < 512 then p1 ⟨k.val - 512, h⟩
  else if h : k.val - 512 - 512 < 512 then p2 ⟨k.val - 512 - 512, h⟩ else p3 ⟨k.val - 512 - 512 - 512, by omega⟩

/-- The last three of them. -/
def cat3 (p1 p2 p3 : Fin 512 → EReal) (k : Fin 1536) : EReal :=
  if h : k.val < 512 then p1 ⟨k.val, h⟩ else if h : k.val - 512 < 512 then p2 ⟨k.val - 512, h⟩ else p3 ⟨k.val - 512 - 512, by omega⟩

/-- The gradient by the normalised row, of the residual stream and of the projections. -/
def dy (p0 p1 p2 p3 : Fin 512 → EReal) (d : Fin 1024 → EReal) (w : Fin 8 → Fin 1024 → Fin 256 → EReal) (q : Fin 1024) : EReal :=
  Rows.al * d q + ∑ k : Fin 256, cat p0 p1 p2 p3 ⟨k.val, by omega⟩ * w 0 q k + ∑ k : Fin 256, cat p0 p1 p2 p3 ⟨256 + k.val, by omega⟩ * w 1 q k + ∑ k : Fin 256, cat3 p1 p2 p3 ⟨k.val, by omega⟩ * w 2 q k + ∑ k : Fin 256, cat p0 p1 p2 p3 ⟨768 + k.val, by omega⟩ * w 3 q k + ∑ k : Fin 256, cat p0 p1 p2 p3 ⟨1024 + k.val, by omega⟩ * w 4 q k + ∑ k : Fin 256, cat p0 p1 p2 p3 ⟨1280 + k.val, by omega⟩ * w 5 q k + ∑ k : Fin 256, cat p0 p1 p2 p3 ⟨1536 + k.val, by omega⟩ * w 6 q k + ∑ k : Fin 256, cat p0 p1 p2 p3 ⟨1792 + k.val, by omega⟩ * w 7 q k

/-- The gradient by the sum before the normalisation. -/
def dpre (p0 p1 p2 p3 : Fin 512 → EReal) (d x : Fin 1024 → EReal) (w : Fin 8 → Fin 1024 → Fin 256 → EReal) (g : Fin 1 → Fin 1024 → EReal) (q : Fin 1024) : EReal := Rows.bwd x (fun k => dy p0 p1 p2 p3 d w k * g 0 k) q

/-- A row's part of the gradient by the gain. -/
def dgain (p0 p1 p2 p3 : Fin 512 → EReal) (d x : Fin 1024 → EReal) (w : Fin 8 → Fin 1024 → Fin 256 → EReal) (g : Fin 1 → Fin 1024 → EReal) (q : Fin 1024) : EReal := dy p0 p1 p2 p3 d w q * Rows.hat x q

/-- A row's part of the gradient by the bias. -/
def dbias (p0 p1 p2 p3 : Fin 512 → EReal) (d x : Fin 1024 → EReal) (w : Fin 8 → Fin 1024 → Fin 256 → EReal) (g : Fin 1 → Fin 1024 → EReal) (q : Fin 1024) : EReal := dy p0 p1 p2 p3 d w q

section

variable (c : Dev nD) (i : grid0.Coords) (a1 : Memref sig .tc .vmem S1024x512 .bf16) (h1 : a1.IsWhole) (a2 : Memref sig .tc .vmem S1024x512 .bf16) (h2 : a2.IsWhole) (a3 : Memref sig .tc .vmem S1024x512 .bf16) (h3 : a3.IsWhole) (a4 : Memref sig .tc .vmem S1024x512 .bf16) (h4 : a4.IsWhole) (a5 : Memref sig .tc .vmem S1024x1024 .f32) (h5 : a5.IsWhole) (a6 : Memref sig .tc .vmem S1024x1024 .f32) (h6 : a6.IsWhole) (a7 : Memref sig .tc .vmem S8x1024x256 .bf16) (h7 : a7.IsWhole) (a8 : Memref sig .tc .vmem S1x1024 .f32) (h8 : a8.IsWhole) (a9 : Memref sig .tc .vmem S8x128 .f32) (h9 : a9.IsWhole) (a10 : Memref sig .tc .vmem S1024x1024 .f32) (h10 : a10.IsWhole) (a11 : Memref sig .tc .vmem S1x1024 .f32) (h11 : a11.IsWhole) (a12 : Memref sig .tc .vmem S1x1024 .f32) (h12 : a12.IsWhole) (a13 : Memref sig .tc .vmem S1x1024 .f32) (h13 : a13.IsWhole)

section

variable (hc0 : cond0_0 i) (hc1 : ¬cond0_1 i) (x0 : Vec Ideal S1024x512 .bf16) (x1 : Vec Ideal S1024x512 .bf16) (x2 : Vec Ideal S1024x512 .bf16) (x3 : Vec Ideal S1024x512 .bf16) (x4 : Vec Ideal S1024x1024 .f32) (x5 : Vec Ideal S1024x1024 .f32) (x6 : Vec Ideal S8x1024x256 .bf16) (x7 : Vec Ideal S1x1024 .f32) (x8 : Vec Ideal S8x128 .f32)

theorem out9_A (r : Fin 1024) (q : Fin 1024) :
    out0_A_9 c i a1 h1 a2 h2 a3 h3 a4 h4 a5 h5 a6 h6 a7 h7 a8 h8 a9 h9 a10 h10 a11 h11 a12 h12 a13 h13 hc0 hc1 x0 x1 x2 x3 x4 x5 x6 x7 x8 (ix2 r q) = dpre (fun k => x0 (ix2 r k)) (fun k => x1 (ix2 r k)) (fun k => x2 (ix2 r k)) (fun k => x3 (ix2 r k)) (fun k => x4 (ix2 r k)) (fun k => x5 (ix2 r k)) (fun a b d => x6 (ix3 a b d)) (fun a b => x7 (ix2 a b)) q := by
  unfold out0_A_9
  rw [View.read_writes_eq_canon _ _ _ (cover0_A_9 c i a1 h1 a2 h2 a3 h3 a4 h4 a5 h5 a6 h6 a7 h7 a8 h8 a9 h9 a10 h10 a11 h11 a12 h12 a13 h13 hc0 hc1 x0 x1 x2 x3 x4 x5 x6 x7 x8)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S1024x512) hz, View.ld_unit_zero (S := S1024x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, Rows.bwd, Rows.hat, Rows.istd, Rows.mean, dy, cat, cat3, dpre]

theorem out10_A (q : Fin 1024) :
    out0_A_10 c i a1 h1 a2 h2 a3 h3 a4 h4 a5 h5 a6 h6 a7 h7 a8 h8 a9 h9 a10 h10 a11 h11 a12 h12 a13 h13 hc0 hc1 x0 x1 x2 x3 x4 x5 x6 x7 x8 (ix2 0 q) = ∑ r : Fin 1024, dgain (fun k => x0 (ix2 r k)) (fun k => x1 (ix2 r k)) (fun k => x2 (ix2 r k)) (fun k => x3 (ix2 r k)) (fun k => x4 (ix2 r k)) (fun k => x5 (ix2 r k)) (fun a b d => x6 (ix3 a b d)) (fun a b => x7 (ix2 a b)) q := by
  unfold out0_A_10
  rw [View.read_writes_eq_canon _ _ _ (cover0_A_10 c i a1 h1 a2 h2 a3 h3 a4 h4 a5 h5 a6 h6 a7 h7 a8 h8 a9 h9 a10 h10 a11 h11 a12 h12 a13 h13 hc0 hc1 x0 x1 x2 x3 x4 x5 x6 x7 x8)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S1024x512) hz, View.ld_unit_zero (S := S1024x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, Rows.bwd, Rows.hat, Rows.istd, Rows.mean, dy, cat, cat3, dgain]

theorem out11_A (q : Fin 1024) :
    out0_A_11 c i a1 h1 a2 h2 a3 h3 a4 h4 a5 h5 a6 h6 a7 h7 a8 h8 a9 h9 a10 h10 a11 h11 a12 h12 a13 h13 hc0 hc1 x0 x1 x2 x3 x4 x5 x6 x7 x8 (ix2 0 q) = ∑ r : Fin 1024, dbias (fun k => x0 (ix2 r k)) (fun k => x1 (ix2 r k)) (fun k => x2 (ix2 r k)) (fun k => x3 (ix2 r k)) (fun k => x4 (ix2 r k)) (fun k => x5 (ix2 r k)) (fun a b d => x6 (ix3 a b d)) (fun a b => x7 (ix2 a b)) q := by
  unfold out0_A_11
  rw [View.read_writes_eq_canon _ _ _ (cover0_A_11 c i a1 h1 a2 h2 a3 h3 a4 h4 a5 h5 a6 h6 a7 h7 a8 h8 a9 h9 a10 h10 a11 h11 a12 h12 a13 h13 hc0 hc1 x0 x1 x2 x3 x4 x5 x6 x7 x8)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S1024x512) hz, View.ld_unit_zero (S := S1024x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, Rows.bwd, Rows.hat, Rows.istd, Rows.mean, dy, cat, cat3, dbias]

theorem out12_A (q : Fin 1024) :
    out0_A_12 c i a1 h1 a2 h2 a3 h3 a4 h4 a5 h5 a6 h6 a7 h7 a8 h8 a9 h9 a10 h10 a11 h11 a12 h12 a13 h13 hc0 hc1 x0 x1 x2 x3 x4 x5 x6 x7 x8 (ix2 0 q) = ∑ r : Fin 1024, dpre (fun k => x0 (ix2 r k)) (fun k => x1 (ix2 r k)) (fun k => x2 (ix2 r k)) (fun k => x3 (ix2 r k)) (fun k => x4 (ix2 r k)) (fun k => x5 (ix2 r k)) (fun a b d => x6 (ix3 a b d)) (fun a b => x7 (ix2 a b)) q := by
  unfold out0_A_12
  rw [View.read_writes_eq_canon _ _ _ (cover0_A_12 c i a1 h1 a2 h2 a3 h3 a4 h4 a5 h5 a6 h6 a7 h7 a8 h8 a9 h9 a10 h10 a11 h11 a12 h12 a13 h13 hc0 hc1 x0 x1 x2 x3 x4 x5 x6 x7 x8)]
  unfold kernelRun0_A
  dsimp only
  sl_unfold_words
  rw [View.canon_unit_zero hz]
  simp only [View.readAt_eq_ld, h1.read_unread, h2.read_unread, h3.read_unread, h4.read_unread, h5.read_unread, h6.read_unread, h7.read_unread, h8.read_unread, View.ld_unit_zero (S := S1024x512) hz, View.ld_unit_zero (S := S1024x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, Rows.bwd, Rows.hat, Rows.istd, Rows.mean, dy, cat, cat3, dpre]

end

section

variable (hc0 : ¬cond0_0 i) (hc1 : cond0_1 i) (x0 : Vec Ideal S1024x512 .bf16) (x1 : Vec Ideal S1024x512 .bf16) (x2 : Vec Ideal S1024x512 .bf16) (x3 : Vec Ideal S1024x512 .bf16) (x4 : Vec Ideal S1024x1024 .f32) (x5 : Vec Ideal S1024x1024 .f32) (x6 : Vec Ideal S8x1024x256 .bf16) (x7 : Vec Ideal S1x1024 .f32) (x8 : Vec Ideal S8x128 .f32) (y10 : Vec Ideal S1x1024 .f32) (y11 : Vec Ideal S1x1024 .f32) (y12 : Vec Ideal S1x1024 .f32)

theorem out9_B (r : Fin 1024) (q : Fin 1024) :
    out0_B_9 c i a1 h1 a2 h2 a3 h3 a4 h4 a5 h5 a6 h6 a7 h7 a8 h8 a9 h9 a10 h10 a11 h11 a12 h12 a13 h13 hc0 hc1 x0 x1 x2 x3 x4 x5 x6 x7 x8 y10 y11 y12 (ix2 r q) = dpre (fun k => x0 (ix2 r k)) (fun k => x1 (ix2 r k)) (fun k => x2 (ix2 r k)) (fun k => x3 (ix2 r k)) (fun k => x4 (ix2 r k)) (fun k => x5 (ix2 r k)) (fun a b d => x6 (ix3 a b d)) (fun a b => x7 (ix2 a b)) q := by
  unfold out0_B_9
  rw [View.read_writes_eq_canon _ _ _ (cover0_B_9 c i a1 h1 a2 h2 a3 h3 a4 h4 a5 h5 a6 h6 a7 h7 a8 h8 a9 h9 a10 h10 a11 h11 a12 h12 a13 h13 hc0 hc1 x0 x1 x2 x3 x4 x5 x6 x7 x8 y10 y11 y12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h11.read_unread, h12.read_unread, h13.read_unread, View.ld_unit_zero (S := S1024x512) hz, View.ld_unit_zero (S := S1024x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, Rows.bwd, Rows.hat, Rows.istd, Rows.mean, dy, cat, cat3, dpre]

theorem out10_B (q : Fin 1024) :
    out0_B_10 c i a1 h1 a2 h2 a3 h3 a4 h4 a5 h5 a6 h6 a7 h7 a8 h8 a9 h9 a10 h10 a11 h11 a12 h12 a13 h13 hc0 hc1 x0 x1 x2 x3 x4 x5 x6 x7 x8 y10 y11 y12 (ix2 0 q) = y10 (ix2 0 q) + ∑ r : Fin 1024, dgain (fun k => x0 (ix2 r k)) (fun k => x1 (ix2 r k)) (fun k => x2 (ix2 r k)) (fun k => x3 (ix2 r k)) (fun k => x4 (ix2 r k)) (fun k => x5 (ix2 r k)) (fun a b d => x6 (ix3 a b d)) (fun a b => x7 (ix2 a b)) q := by
  unfold out0_B_10
  rw [View.read_writes_eq_canon _ _ _ (cover0_B_10 c i a1 h1 a2 h2 a3 h3 a4 h4 a5 h5 a6 h6 a7 h7 a8 h8 a9 h9 a10 h10 a11 h11 a12 h12 a13 h13 hc0 hc1 x0 x1 x2 x3 x4 x5 x6 x7 x8 y10 y11 y12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h11.read_unread, h12.read_unread, h13.read_unread, View.ld_unit_zero (S := S1024x512) hz, View.ld_unit_zero (S := S1024x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, Rows.bwd, Rows.hat, Rows.istd, Rows.mean, dy, cat, cat3, dgain]

theorem out11_B (q : Fin 1024) :
    out0_B_11 c i a1 h1 a2 h2 a3 h3 a4 h4 a5 h5 a6 h6 a7 h7 a8 h8 a9 h9 a10 h10 a11 h11 a12 h12 a13 h13 hc0 hc1 x0 x1 x2 x3 x4 x5 x6 x7 x8 y10 y11 y12 (ix2 0 q) = y11 (ix2 0 q) + ∑ r : Fin 1024, dbias (fun k => x0 (ix2 r k)) (fun k => x1 (ix2 r k)) (fun k => x2 (ix2 r k)) (fun k => x3 (ix2 r k)) (fun k => x4 (ix2 r k)) (fun k => x5 (ix2 r k)) (fun a b d => x6 (ix3 a b d)) (fun a b => x7 (ix2 a b)) q := by
  unfold out0_B_11
  rw [View.read_writes_eq_canon _ _ _ (cover0_B_11 c i a1 h1 a2 h2 a3 h3 a4 h4 a5 h5 a6 h6 a7 h7 a8 h8 a9 h9 a10 h10 a11 h11 a12 h12 a13 h13 hc0 hc1 x0 x1 x2 x3 x4 x5 x6 x7 x8 y10 y11 y12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h11.read_unread, h12.read_unread, h13.read_unread, View.ld_unit_zero (S := S1024x512) hz, View.ld_unit_zero (S := S1024x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, Rows.bwd, Rows.hat, Rows.istd, Rows.mean, dy, cat, cat3, dbias]

theorem out12_B (q : Fin 1024) :
    out0_B_12 c i a1 h1 a2 h2 a3 h3 a4 h4 a5 h5 a6 h6 a7 h7 a8 h8 a9 h9 a10 h10 a11 h11 a12 h12 a13 h13 hc0 hc1 x0 x1 x2 x3 x4 x5 x6 x7 x8 y10 y11 y12 (ix2 0 q) = y12 (ix2 0 q) + ∑ r : Fin 1024, dpre (fun k => x0 (ix2 r k)) (fun k => x1 (ix2 r k)) (fun k => x2 (ix2 r k)) (fun k => x3 (ix2 r k)) (fun k => x4 (ix2 r k)) (fun k => x5 (ix2 r k)) (fun a b d => x6 (ix3 a b d)) (fun a b => x7 (ix2 a b)) q := by
  unfold out0_B_12
  rw [View.read_writes_eq_canon _ _ _ (cover0_B_12 c i a1 h1 a2 h2 a3 h3 a4 h4 a5 h5 a6 h6 a7 h7 a8 h8 a9 h9 a10 h10 a11 h11 a12 h12 a13 h13 hc0 hc1 x0 x1 x2 x3 x4 x5 x6 x7 x8 y10 y11 y12)]
  unfold kernelRun0_B
  dsimp only
  sl_unfold_words
  rw [View.canon_unit_zero hz]
  simp only [View.readAt_eq_ld, h1.read_unread, h2.read_unread, h3.read_unread, h4.read_unread, h5.read_unread, h6.read_unread, h7.read_unread, h8.read_unread, h11.read_unread, h12.read_unread, h13.read_unread, View.ld_unit_zero (S := S1024x512) hz, View.ld_unit_zero (S := S1024x1024) hz, View.ld_unit_zero (S := S1x1024) hz]
  pointwise [k0_pay1, k0_pay2, k0_pay3, k0_pay4, k0_pay5, k0_pay6, k0_pay7, k0_pay8, k0_pay9, k0_pay10, k0_pay11, k0_pay12, k0_pay13, k0_pay14, k0_pay15, Rows.bwd, Rows.hat, Rows.istd, Rows.mean, dy, cat, cat3, dpre]

end

end

variable (m : (ℓ : Loc nD τ sig) → Buf (Elt Ideal) ℓ)

/-- Array `0` the call is given. -/
abbrev A0 (c : Dev nD) : S8192x512.Idx → EReal := V m c main_arg5

/-- Array `1` the call is given. -/
abbrev A1 (c : Dev nD) : S8192x512.Idx → EReal := V m c main_arg6

/-- Array `2` the call is given. -/
abbrev A2 (c : Dev nD) : S8192x512.Idx → EReal := V m c main_arg7

/-- Array `3` the call is given. -/
abbrev A3 (c : Dev nD) : S8192x512.Idx → EReal := V m c main_arg8

/-- Array `4` the call is given. -/
abbrev A4 (c : Dev nD) : S8192x1024.Idx → EReal := V m c main_arg4

/-- Array `5` the call is given. -/
abbrev A5 (c : Dev nD) : S8192x1024.Idx → EReal := V m c main_arg0

/-- Array `6` the call is given. -/
abbrev A6 (c : Dev nD) : S8x1024x256.Idx → EReal := V m c main_v2

/-- Array `7` the call is given. -/
abbrev A7 (c : Dev nD) : S1x1024.Idx → EReal := V m c main_v4

theorem blk0 (c : Dev nD) (t : Fin cfg0.N) (r : Fin 1024) (k : Fin 512) :
    (iblk m c 0 t : S1024x512.Idx → EReal) (ix2 r k) = A0 m c (ix2 (Rows.row (T := 8192) rfl t r) k) := by
  unfold iblk; rw [View.read_apply]
  show (V m c main_arg5 : S8192x512.Idx → EReal) _ = _
  refine congrArg (A0 m c) (funext fun a => Fin.ext ?_)
  match a with
  | ⟨0, _⟩ => show win0_0.index t 0 * 1024 + 1 * r.val = 1024 * t.val + r.val
              rw [(by decide +kernel : ∀ t : Fin grid0.N, win0_0.index t 0 = t.val) t]; omega
  | ⟨1, _⟩ => show win0_0.index t 1 * 512 + 1 * k.val = k.val
              rw [(by decide +kernel : ∀ t : Fin grid0.N, win0_0.index t 1 = 0) t]; omega

theorem blk1 (c : Dev nD) (t : Fin cfg0.N) (r : Fin 1024) (k : Fin 512) :
    (iblk m c 1 t : S1024x512.Idx → EReal) (ix2 r k) = A1 m c (ix2 (Rows.row (T := 8192) rfl t r) k) := by
  unfold iblk; rw [View.read_apply]
  show (V m c main_arg6 : S8192x512.Idx → EReal) _ = _
  refine congrArg (A1 m c) (funext fun a => Fin.ext ?_)
  match a with
  | ⟨0, _⟩ => show win0_1.index t 0 * 1024 + 1 * r.val = 1024 * t.val + r.val
              rw [(by decide +kernel : ∀ t : Fin grid0.N, win0_1.index t 0 = t.val) t]; omega
  | ⟨1, _⟩ => show win0_1.index t 1 * 512 + 1 * k.val = k.val
              rw [(by decide +kernel : ∀ t : Fin grid0.N, win0_1.index t 1 = 0) t]; omega

theorem blk2 (c : Dev nD) (t : Fin cfg0.N) (r : Fin 1024) (k : Fin 512) :
    (iblk m c 2 t : S1024x512.Idx → EReal) (ix2 r k) = A2 m c (ix2 (Rows.row (T := 8192) rfl t r) k) := by
  unfold iblk; rw [View.read_apply]
  show (V m c main_arg7 : S8192x512.Idx → EReal) _ = _
  refine congrArg (A2 m c) (funext fun a => Fin.ext ?_)
  match a with
  | ⟨0, _⟩ => show win0_2.index t 0 * 1024 + 1 * r.val = 1024 * t.val + r.val
              rw [(by decide +kernel : ∀ t : Fin grid0.N, win0_2.index t 0 = t.val) t]; omega
  | ⟨1, _⟩ => show win0_2.index t 1 * 512 + 1 * k.val = k.val
              rw [(by decide +kernel : ∀ t : Fin grid0.N, win0_2.index t 1 = 0) t]; omega

theorem blk3 (c : Dev nD) (t : Fin cfg0.N) (r : Fin 1024) (k : Fin 512) :
    (iblk m c 3 t : S1024x512.Idx → EReal) (ix2 r k) = A3 m c (ix2 (Rows.row (T := 8192) rfl t r) k) := by
  unfold iblk; rw [View.read_apply]
  show (V m c main_arg8 : S8192x512.Idx → EReal) _ = _
  refine congrArg (A3 m c) (funext fun a => Fin.ext ?_)
  match a with
  | ⟨0, _⟩ => show win0_3.index t 0 * 1024 + 1 * r.val = 1024 * t.val + r.val
              rw [(by decide +kernel : ∀ t : Fin grid0.N, win0_3.index t 0 = t.val) t]; omega
  | ⟨1, _⟩ => show win0_3.index t 1 * 512 + 1 * k.val = k.val
              rw [(by decide +kernel : ∀ t : Fin grid0.N, win0_3.index t 1 = 0) t]; omega

theorem blk4 (c : Dev nD) (t : Fin cfg0.N) (r : Fin 1024) (k : Fin 1024) :
    (iblk m c 4 t : S1024x1024.Idx → EReal) (ix2 r k) = A4 m c (ix2 (Rows.row (T := 8192) rfl t r) k) := by
  unfold iblk; rw [View.read_apply]
  show (V m c main_arg4 : S8192x1024.Idx → EReal) _ = _
  refine congrArg (A4 m c) (funext fun a => Fin.ext ?_)
  match a with
  | ⟨0, _⟩ => show win0_4.index t 0 * 1024 + 1 * r.val = 1024 * t.val + r.val
              rw [(by decide +kernel : ∀ t : Fin grid0.N, win0_4.index t 0 = t.val) t]; omega
  | ⟨1, _⟩ => show win0_4.index t 1 * 1024 + 1 * k.val = k.val
              rw [(by decide +kernel : ∀ t : Fin grid0.N, win0_4.index t 1 = 0) t]; omega

theorem blk5 (c : Dev nD) (t : Fin cfg0.N) (r : Fin 1024) (k : Fin 1024) :
    (iblk m c 5 t : S1024x1024.Idx → EReal) (ix2 r k) = A5 m c (ix2 (Rows.row (T := 8192) rfl t r) k) := by
  unfold iblk; rw [View.read_apply]
  show (V m c main_arg0 : S8192x1024.Idx → EReal) _ = _
  refine congrArg (A5 m c) (funext fun a => Fin.ext ?_)
  match a with
  | ⟨0, _⟩ => show win0_5.index t 0 * 1024 + 1 * r.val = 1024 * t.val + r.val
              rw [(by decide +kernel : ∀ t : Fin grid0.N, win0_5.index t 0 = t.val) t]; omega
  | ⟨1, _⟩ => show win0_5.index t 1 * 1024 + 1 * k.val = k.val
              rw [(by decide +kernel : ∀ t : Fin grid0.N, win0_5.index t 1 = 0) t]; omega

theorem blk6 (c : Dev nD) (t : Fin cfg0.N) (j : Fin 8) (r : Fin 1024) (k : Fin 256) :
    (iblk m c 6 t : S8x1024x256.Idx → EReal) (ix3 j r k) = A6 m c (ix3 j r k) := by
  unfold iblk; rw [View.read_apply]
  show (V m c main_v2 : S8x1024x256.Idx → EReal) _ = _
  refine congrArg (A6 m c) (funext fun a => Fin.ext ?_)
  match a with
  | ⟨0, _⟩ => show win0_6.index t 0 * 8 + 1 * j.val = j.val
              rw [(by decide +kernel : ∀ t : Fin grid0.N, win0_6.index t 0 = 0) t]; omega
  | ⟨1, _⟩ => show win0_6.index t 1 * 1024 + 1 * r.val = r.val
              rw [(by decide +kernel : ∀ t : Fin grid0.N, win0_6.index t 1 = 0) t]; omega
  | ⟨2, _⟩ => show win0_6.index t 2 * 256 + 1 * k.val = k.val
              rw [(by decide +kernel : ∀ t : Fin grid0.N, win0_6.index t 2 = 0) t]; omega

theorem blk7 (c : Dev nD) (t : Fin cfg0.N) (r : Fin 1) (k : Fin 1024) :
    (iblk m c 7 t : S1x1024.Idx → EReal) (ix2 r k) = A7 m c (ix2 r k) := by
  unfold iblk; rw [View.read_apply]
  show (V m c main_v4 : S1x1024.Idx → EReal) _ = _
  refine congrArg (A7 m c) (funext fun a => Fin.ext ?_)
  match a with
  | ⟨0, _⟩ => show win0_7.index t 0 * 1 + 1 * r.val = r.val
              rw [(by decide +kernel : ∀ t : Fin grid0.N, win0_7.index t 0 = 0) t]; omega
  | ⟨1, _⟩ => show win0_7.index t 1 * 1024 + 1 * k.val = k.val
              rw [(by decide +kernel : ∀ t : Fin grid0.N, win0_7.index t 1 = 0) t]; omega

/-- Element `(R, q)` of result `9`. -/
@[irreducible] def res9 (c : Dev nD) (R : Fin 8192) (q : Fin 1024) : EReal :=
  dpre (fun k => A0 m c (ix2 R k)) (fun k => A1 m c (ix2 R k)) (fun k => A2 m c (ix2 R k)) (fun k => A3 m c (ix2 R k)) (fun k => A4 m c (ix2 R k)) (fun k => A5 m c (ix2 R k)) (fun a b d => A6 m c (ix3 a b d)) (fun a b => A7 m c (ix2 a b)) q

theorem row9 (c : Dev nD) (t : Fin cfg0.N) (r : Fin 1024) (q : Fin 1024) :
    ((outsAt0 m c t.val t.isLt).1 : S1024x1024.Idx → EReal) (ix2 r q) = res9 m c (Rows.row (T := 8192) rfl t r) q := by
  have ht : t.val < 8 := lt_of_lt_of_eq t.isLt (show cfg0.N = 8 from N_0)
  unfold res9
  by_cases h0 : t.val = 0
  · refine (congrFun (congrArg (fun o => o.1) (outsAt0_A m c t (by omega) (by omega))) (ix2 r q)).trans ?_
    dsimp only
    refine (out9_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr (by omega)) (fun h => absurd ((hcond0_1 t).mp h) (by omega)) (iblk m c 0 t) (iblk m c 1 t) (iblk m c 2 t) (iblk m c 3 t) (iblk m c 4 t) (iblk m c 5 t) (iblk m c 6 t) (iblk m c 7 t) (iblk m c 8 t) r q).trans ?_
    simp only [blk0 m c t, blk1 m c t, blk2 m c t, blk3 m c t, blk4 m c t, blk5 m c t, blk6 m c t, blk7 m c t]
  · refine (congrFun (congrArg (fun o => o.1) (outsAt0_B m c t (by omega) (by omega))) (ix2 r q)).trans ?_
    dsimp only
    refine (out9_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => absurd ((hcond0_0 t).mp h) (by omega)) ((hcond0_1 t).mpr (by omega)) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 r q).trans ?_
    simp only [blk0 m c t, blk1 m c t, blk2 m c t, blk3 m c t, blk4 m c t, blk5 m c t, blk6 m c t, blk7 m c t]

/-- Result `9`. -/
def G9 (c : Dev nD) : Vec Ideal S8192x1024 .f32 := fun i => res9 m c (i 0) (i 1)

theorem final9 (c : Dev nD) : (dats m 0 c).arrAt 9 cfg0.N = G9 m c := by
    refine (dats m 0 c).arrAt_eq_of_cover 9 (G9 m c) (fun t hf => ?_) (fun i => ?_)
    · refine (Value.flushed9 m c t).trans ?_
      have hrow := row9 m c t
      generalize (outsAt0 m c t.val t.isLt).1 = y at hrow ⊢
      funext j
      have hx0 : win0_9.xsize (grid0.coords t) 0 = 1024 := (by decide +kernel : ∀ t : Fin grid0.N, win0_9.xsize (grid0.coords t) 0 = 1024) t
      have hx1 : win0_9.xsize (grid0.coords t) 1 = 1024 := (by decide +kernel : ∀ t : Fin grid0.N, win0_9.xsize (grid0.coords t) 1 = 1024) t
      have hj0 : (j 0 : Nat) < 1024 := lt_of_lt_of_eq (j 0).isLt hx0
      have hj1 : (j 1 : Nat) < 1024 := lt_of_lt_of_eq (j 1).isLt hx1
      rw [View.read_apply]
      refine Eq.trans (congrArg y (funext fun a => Fin.ext ?_)) ((hrow ⟨j 0, hj0⟩ ⟨j 1, hj1⟩).trans ?_)
      · match a with
        | ⟨0, _⟩ => rfl
        | ⟨1, _⟩ => rfl
      · show res9 m c _ _ = res9 m c _ _
        congr 1
        · refine Fin.ext ?_
          show 1024 * t.val + (j 0 : Nat) = win0_9.index t 0 * 1024 + 1 * (j 0 : Nat)
          rw [(by decide +kernel : ∀ t : Fin grid0.N, win0_9.index t 0 = t.val) t]; omega
        · refine Fin.ext ?_
          show (j 1 : Nat) = win0_9.index t 1 * 1024 + 1 * (j 1 : Nat)
          rw [(by decide +kernel : ∀ t : Fin grid0.N, win0_9.index t 1 = 0) t]; omega
    · obtain ⟨t, r, h⟩ := Rows.exists_row (N := 8) (B := 1024) (T := 8192) rfl (by decide) (i 0)
      refine ⟨t, flush0_9 t, ?_⟩
      show i ∈ ((View.whole main_v5_0).slice (win0_9.rect t)).set
      rw [View.set_slice_whole, Rect.mem_set_unit]
      intro a
      have h1 : (i 1 : Nat) < 1024 := (i 1).isLt
      have h0 : (i 0 : Nat) = 1024 * t.val + r.val := congrArg Fin.val h
      have hr := r.isLt
      match a with
      | ⟨0, _⟩ => show win0_9.index t 0 * 1024 ≤ (i 0 : Nat) ∧ (i 0 : Nat) < win0_9.index t 0 * 1024 + win0_9.xsize (grid0.coords t) 0
                  rw [(by decide +kernel : ∀ t : Fin grid0.N, win0_9.index t 0 = t.val) t, (by decide +kernel : ∀ t : Fin grid0.N, win0_9.xsize (grid0.coords t) 0 = 1024) t]; omega
      | ⟨1, _⟩ => show win0_9.index t 1 * 1024 ≤ (i 1 : Nat) ∧ (i 1 : Nat) < win0_9.index t 1 * 1024 + win0_9.xsize (grid0.coords t) 1
                  rw [(by decide +kernel : ∀ t : Fin grid0.N, win0_9.index t 1 = 0) t, (by decide +kernel : ∀ t : Fin grid0.N, win0_9.xsize (grid0.coords t) 1 = 1024) t]; omega

/-- Element `(R, q)` of the summands of result `10`. -/
@[irreducible] def term10 (c : Dev nD) (R : Fin 8192) (q : Fin 1024) : EReal :=
  dgain (fun k => A0 m c (ix2 R k)) (fun k => A1 m c (ix2 R k)) (fun k => A2 m c (ix2 R k)) (fun k => A3 m c (ix2 R k)) (fun k => A4 m c (ix2 R k)) (fun k => A5 m c (ix2 R k)) (fun a b d => A6 m c (ix3 a b d)) (fun a b => A7 m c (ix2 a b)) q

/-- Its sum over the rows. -/
def acc10 (c : Dev nD) (q : Fin 1024) : EReal := ∑ R : Fin 8192, term10 m c R q

theorem stepA10 (c : Dev nD) (t : Fin cfg0.N) (h0 : t.val % 8 = 0) (h1 : ¬1 ≤ t.val) (q : Fin 1024) :
    ((outsAt0 m c t.val t.isLt).2.1 : S1x1024.Idx → EReal) (ix2 0 q) = ∑ r : Fin 1024, term10 m c (Rows.row (N := 8) (T := 8192) rfl t r) q := by
  refine (congrFun (congrArg (fun o => o.2.1) (outsAt0_A m c t h0 h1)) (ix2 0 q)).trans ?_
  dsimp only
  refine (out10_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (fun h => absurd ((hcond0_1 t).mp h) h1) (iblk m c 0 t) (iblk m c 1 t) (iblk m c 2 t) (iblk m c 3 t) (iblk m c 4 t) (iblk m c 5 t) (iblk m c 6 t) (iblk m c 7 t) (iblk m c 8 t) q).trans ?_
  unfold term10
  simp only [blk0 m c t, blk1 m c t, blk2 m c t, blk3 m c t, blk4 m c t, blk5 m c t, blk6 m c t, blk7 m c t]

theorem stepB10 (c : Dev nD) (t : Fin cfg0.N) (h0 : ¬t.val % 8 = 0) (h1 : 1 ≤ t.val) (q : Fin 1024) :
    ((outsAt0 m c t.val t.isLt).2.1 : S1x1024.Idx → EReal) (ix2 0 q)
      = ((outsAt0 m c (t.val - 1) (Nat.lt_of_le_of_lt (Nat.sub_le _ _) t.isLt)).2.1 : S1x1024.Idx → EReal) (ix2 0 q)
        + ∑ r : Fin 1024, term10 m c (Rows.row (N := 8) (T := 8192) rfl t r) q := by
  refine (congrFun (congrArg (fun o => o.2.1) (outsAt0_B m c t h0 h1)) (ix2 0 q)).trans ?_
  dsimp only
  refine (out10_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => absurd ((hcond0_0 t).mp h) h0) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 q).trans ?_
  unfold term10
  simp only [blk0 m c t, blk1 m c t, blk2 m c t, blk3 m c t, blk4 m c t, blk5 m c t, blk6 m c t, blk7 m c t]

theorem first10 (c : Dev nD) (h : 0 < cfg0.N) (q : Fin 1024) : ((outsAt0 m c 0 h).2.1 : S1x1024.Idx → EReal) (ix2 0 q) = ∑ r : Fin 1024, term10 m c (Rows.row (N := 8) (T := 8192) rfl ⟨0, h⟩ r) q :=
  stepA10 m c ⟨0, h⟩ rfl (by dsimp only; omega) q

theorem next10 (c : Dev nD) (n : ℕ) (h : n + 1 < cfg0.N) (q : Fin 1024) :
    ((outsAt0 m c (n + 1) h).2.1 : S1x1024.Idx → EReal) (ix2 0 q) = ((outsAt0 m c n (Nat.lt_of_succ_lt h)).2.1 : S1x1024.Idx → EReal) (ix2 0 q)
      + ∑ r : Fin 1024, term10 m c (Rows.row (N := 8) (T := 8192) rfl ⟨n + 1, h⟩ r) q := by
  have hN : cfg0.N = 8 := N_0
  exact stepB10 m c ⟨n + 1, h⟩ (by dsimp only; omega) (by dsimp only; omega) q

/-- Result `10`. -/
def G10 (c : Dev nD) : Vec Ideal S1x1024 .f32 := fun i => acc10 m c (i 1)

theorem G10_apply (c : Dev nD) (p : Fin 1) (q : Fin 1024) : G10 m c (ix2 p q) = acc10 m c q := rfl

theorem last10 (c : Dev nD) (h : 7 < cfg0.N) (q : Fin 1024) : ((outsAt0 m c 7 h).2.1 : S1x1024.Idx → EReal) (ix2 0 q) = G10 m c (ix2 0 q) := by
  refine Eq.trans ?_ (G10_apply m c 0 q).symm
  unfold acc10
  rw [← Rows.sum_rows (N := 8) (B := 1024) rfl]
  exact Rows.chain_last (fun t : Fin 8 => ∑ r : Fin 1024, term10 m c (Rows.row rfl t r) q) (fun n h => ((outsAt0 m c n h).2.1 : S1x1024.Idx → EReal) (ix2 0 q))
    (fun h => first10 m c h q) (fun n h => next10 m c n h q) 7 h rfl

theorem final10 (c : Dev nD) : (dats m 0 c).arrAt 10 cfg0.N = G10 m c := by
  refine (dats m 0 c).arrAt_eq_of_cover 10 (G10 m c) (fun t hf => ?_) (fun i => ?_)
  · refine (Value.flushed10 m c t).trans ?_
    have h15 : t.val = 7 := by have := (flush0_10 t).mp hf; have := t.isLt; have : cfg0.N = 8 := N_0; omega
    obtain ⟨n, hn⟩ := t
    obtain rfl : n = 7 := h15
    have hch := last10 m c hn
    dsimp only
    generalize (outsAt0 m c 7 hn).2.1 = y at hch ⊢
    generalize G10 m c = G at hch ⊢
    funext j
    have hx0 : win0_10.xsize (grid0.coords ⟨7, hn⟩) 0 = 1 := (by decide +kernel : ∀ t : Fin grid0.N, win0_10.xsize (grid0.coords t) 0 = 1) _
    have hx1 : win0_10.xsize (grid0.coords ⟨7, hn⟩) 1 = 1024 := (by decide +kernel : ∀ t : Fin grid0.N, win0_10.xsize (grid0.coords t) 1 = 1024) _
    have hj0 : (j 0 : Nat) < 1 := lt_of_lt_of_eq (j 0).isLt hx0
    have hj1 : (j 1 : Nat) < 1024 := lt_of_lt_of_eq (j 1).isLt hx1
    rw [View.read_apply]
    refine Eq.trans (congrArg y (funext fun a => Fin.ext ?_)) ((hch ⟨j 1, hj1⟩).trans (congrArg G (funext fun a => Fin.ext ?_)))
    · match a with
      | ⟨0, _⟩ => exact Nat.lt_one_iff.mp hj0
      | ⟨1, _⟩ => rfl
    · match a with
      | ⟨0, _⟩ =>
        show 0 = win0_10.index _ 0 * 1 + 1 * (j 0 : Nat)
        rw [(by decide +kernel : ∀ t : Fin grid0.N, win0_10.index t 0 = 0) _]; omega
      | ⟨1, _⟩ =>
        show (j 1 : Nat) = win0_10.index _ 1 * 1024 + 1 * (j 1 : Nat)
        rw [(by decide +kernel : ∀ t : Fin grid0.N, win0_10.index t 1 = 0) _]; omega
  · have hn : 7 < cfg0.N := by rw [show cfg0.N = 8 from N_0]; decide
    refine ⟨⟨7, hn⟩, (flush0_10 _).mpr rfl, ?_⟩
    show i ∈ ((View.whole main_v5_1).slice (win0_10.rect ⟨7, hn⟩)).set
    rw [View.set_slice_whole, Rect.mem_set_unit]
    intro a
    have h0 : (i 0 : Nat) < 1 := (i 0).isLt
    have h1 : (i 1 : Nat) < 1024 := (i 1).isLt
    match a with
    | ⟨0, _⟩ => show win0_10.index ⟨7, hn⟩ 0 * 1 ≤ (i 0 : Nat) ∧ (i 0 : Nat) < win0_10.index ⟨7, hn⟩ 0 * 1 + win0_10.xsize (grid0.coords ⟨7, hn⟩) 0
                rw [(by decide +kernel : ∀ t : Fin grid0.N, win0_10.index t 0 = 0) _, (by decide +kernel : ∀ t : Fin grid0.N, win0_10.xsize (grid0.coords t) 0 = 1) _]; omega
    | ⟨1, _⟩ => show win0_10.index ⟨7, hn⟩ 1 * 1024 ≤ (i 1 : Nat) ∧ (i 1 : Nat) < win0_10.index ⟨7, hn⟩ 1 * 1024 + win0_10.xsize (grid0.coords ⟨7, hn⟩) 1
                rw [(by decide +kernel : ∀ t : Fin grid0.N, win0_10.index t 1 = 0) _, (by decide +kernel : ∀ t : Fin grid0.N, win0_10.xsize (grid0.coords t) 1 = 1024) _]; omega

/-- Element `(R, q)` of the summands of result `11`. -/
@[irreducible] def term11 (c : Dev nD) (R : Fin 8192) (q : Fin 1024) : EReal :=
  dbias (fun k => A0 m c (ix2 R k)) (fun k => A1 m c (ix2 R k)) (fun k => A2 m c (ix2 R k)) (fun k => A3 m c (ix2 R k)) (fun k => A4 m c (ix2 R k)) (fun k => A5 m c (ix2 R k)) (fun a b d => A6 m c (ix3 a b d)) (fun a b => A7 m c (ix2 a b)) q

/-- Its sum over the rows. -/
def acc11 (c : Dev nD) (q : Fin 1024) : EReal := ∑ R : Fin 8192, term11 m c R q

theorem stepA11 (c : Dev nD) (t : Fin cfg0.N) (h0 : t.val % 8 = 0) (h1 : ¬1 ≤ t.val) (q : Fin 1024) :
    ((outsAt0 m c t.val t.isLt).2.2.1 : S1x1024.Idx → EReal) (ix2 0 q) = ∑ r : Fin 1024, term11 m c (Rows.row (N := 8) (T := 8192) rfl t r) q := by
  refine (congrFun (congrArg (fun o => o.2.2.1) (outsAt0_A m c t h0 h1)) (ix2 0 q)).trans ?_
  dsimp only
  refine (out11_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (fun h => absurd ((hcond0_1 t).mp h) h1) (iblk m c 0 t) (iblk m c 1 t) (iblk m c 2 t) (iblk m c 3 t) (iblk m c 4 t) (iblk m c 5 t) (iblk m c 6 t) (iblk m c 7 t) (iblk m c 8 t) q).trans ?_
  unfold term11
  simp only [blk0 m c t, blk1 m c t, blk2 m c t, blk3 m c t, blk4 m c t, blk5 m c t, blk6 m c t, blk7 m c t]

theorem stepB11 (c : Dev nD) (t : Fin cfg0.N) (h0 : ¬t.val % 8 = 0) (h1 : 1 ≤ t.val) (q : Fin 1024) :
    ((outsAt0 m c t.val t.isLt).2.2.1 : S1x1024.Idx → EReal) (ix2 0 q)
      = ((outsAt0 m c (t.val - 1) (Nat.lt_of_le_of_lt (Nat.sub_le _ _) t.isLt)).2.2.1 : S1x1024.Idx → EReal) (ix2 0 q)
        + ∑ r : Fin 1024, term11 m c (Rows.row (N := 8) (T := 8192) rfl t r) q := by
  refine (congrFun (congrArg (fun o => o.2.2.1) (outsAt0_B m c t h0 h1)) (ix2 0 q)).trans ?_
  dsimp only
  refine (out11_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => absurd ((hcond0_0 t).mp h) h0) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 q).trans ?_
  unfold term11
  simp only [blk0 m c t, blk1 m c t, blk2 m c t, blk3 m c t, blk4 m c t, blk5 m c t, blk6 m c t, blk7 m c t]

theorem first11 (c : Dev nD) (h : 0 < cfg0.N) (q : Fin 1024) : ((outsAt0 m c 0 h).2.2.1 : S1x1024.Idx → EReal) (ix2 0 q) = ∑ r : Fin 1024, term11 m c (Rows.row (N := 8) (T := 8192) rfl ⟨0, h⟩ r) q :=
  stepA11 m c ⟨0, h⟩ rfl (by dsimp only; omega) q

theorem next11 (c : Dev nD) (n : ℕ) (h : n + 1 < cfg0.N) (q : Fin 1024) :
    ((outsAt0 m c (n + 1) h).2.2.1 : S1x1024.Idx → EReal) (ix2 0 q) = ((outsAt0 m c n (Nat.lt_of_succ_lt h)).2.2.1 : S1x1024.Idx → EReal) (ix2 0 q)
      + ∑ r : Fin 1024, term11 m c (Rows.row (N := 8) (T := 8192) rfl ⟨n + 1, h⟩ r) q := by
  have hN : cfg0.N = 8 := N_0
  exact stepB11 m c ⟨n + 1, h⟩ (by dsimp only; omega) (by dsimp only; omega) q

/-- Result `11`. -/
def G11 (c : Dev nD) : Vec Ideal S1x1024 .f32 := fun i => acc11 m c (i 1)

theorem G11_apply (c : Dev nD) (p : Fin 1) (q : Fin 1024) : G11 m c (ix2 p q) = acc11 m c q := rfl

theorem last11 (c : Dev nD) (h : 7 < cfg0.N) (q : Fin 1024) : ((outsAt0 m c 7 h).2.2.1 : S1x1024.Idx → EReal) (ix2 0 q) = G11 m c (ix2 0 q) := by
  refine Eq.trans ?_ (G11_apply m c 0 q).symm
  unfold acc11
  rw [← Rows.sum_rows (N := 8) (B := 1024) rfl]
  exact Rows.chain_last (fun t : Fin 8 => ∑ r : Fin 1024, term11 m c (Rows.row rfl t r) q) (fun n h => ((outsAt0 m c n h).2.2.1 : S1x1024.Idx → EReal) (ix2 0 q))
    (fun h => first11 m c h q) (fun n h => next11 m c n h q) 7 h rfl

theorem final11 (c : Dev nD) : (dats m 0 c).arrAt 11 cfg0.N = G11 m c := by
  refine (dats m 0 c).arrAt_eq_of_cover 11 (G11 m c) (fun t hf => ?_) (fun i => ?_)
  · refine (Value.flushed11 m c t).trans ?_
    have h15 : t.val = 7 := by have := (flush0_11 t).mp hf; have := t.isLt; have : cfg0.N = 8 := N_0; omega
    obtain ⟨n, hn⟩ := t
    obtain rfl : n = 7 := h15
    have hch := last11 m c hn
    dsimp only
    generalize (outsAt0 m c 7 hn).2.2.1 = y at hch ⊢
    generalize G11 m c = G at hch ⊢
    funext j
    have hx0 : win0_11.xsize (grid0.coords ⟨7, hn⟩) 0 = 1 := (by decide +kernel : ∀ t : Fin grid0.N, win0_11.xsize (grid0.coords t) 0 = 1) _
    have hx1 : win0_11.xsize (grid0.coords ⟨7, hn⟩) 1 = 1024 := (by decide +kernel : ∀ t : Fin grid0.N, win0_11.xsize (grid0.coords t) 1 = 1024) _
    have hj0 : (j 0 : Nat) < 1 := lt_of_lt_of_eq (j 0).isLt hx0
    have hj1 : (j 1 : Nat) < 1024 := lt_of_lt_of_eq (j 1).isLt hx1
    rw [View.read_apply]
    refine Eq.trans (congrArg y (funext fun a => Fin.ext ?_)) ((hch ⟨j 1, hj1⟩).trans (congrArg G (funext fun a => Fin.ext ?_)))
    · match a with
      | ⟨0, _⟩ => exact Nat.lt_one_iff.mp hj0
      | ⟨1, _⟩ => rfl
    · match a with
      | ⟨0, _⟩ =>
        show 0 = win0_11.index _ 0 * 1 + 1 * (j 0 : Nat)
        rw [(by decide +kernel : ∀ t : Fin grid0.N, win0_11.index t 0 = 0) _]; omega
      | ⟨1, _⟩ =>
        show (j 1 : Nat) = win0_11.index _ 1 * 1024 + 1 * (j 1 : Nat)
        rw [(by decide +kernel : ∀ t : Fin grid0.N, win0_11.index t 1 = 0) _]; omega
  · have hn : 7 < cfg0.N := by rw [show cfg0.N = 8 from N_0]; decide
    refine ⟨⟨7, hn⟩, (flush0_11 _).mpr rfl, ?_⟩
    show i ∈ ((View.whole main_v5_2).slice (win0_11.rect ⟨7, hn⟩)).set
    rw [View.set_slice_whole, Rect.mem_set_unit]
    intro a
    have h0 : (i 0 : Nat) < 1 := (i 0).isLt
    have h1 : (i 1 : Nat) < 1024 := (i 1).isLt
    match a with
    | ⟨0, _⟩ => show win0_11.index ⟨7, hn⟩ 0 * 1 ≤ (i 0 : Nat) ∧ (i 0 : Nat) < win0_11.index ⟨7, hn⟩ 0 * 1 + win0_11.xsize (grid0.coords ⟨7, hn⟩) 0
                rw [(by decide +kernel : ∀ t : Fin grid0.N, win0_11.index t 0 = 0) _, (by decide +kernel : ∀ t : Fin grid0.N, win0_11.xsize (grid0.coords t) 0 = 1) _]; omega
    | ⟨1, _⟩ => show win0_11.index ⟨7, hn⟩ 1 * 1024 ≤ (i 1 : Nat) ∧ (i 1 : Nat) < win0_11.index ⟨7, hn⟩ 1 * 1024 + win0_11.xsize (grid0.coords ⟨7, hn⟩) 1
                rw [(by decide +kernel : ∀ t : Fin grid0.N, win0_11.index t 1 = 0) _, (by decide +kernel : ∀ t : Fin grid0.N, win0_11.xsize (grid0.coords t) 1 = 1024) _]; omega

/-- Element `(R, q)` of the summands of result `12`. -/
@[irreducible] def term12 (c : Dev nD) (R : Fin 8192) (q : Fin 1024) : EReal :=
  dpre (fun k => A0 m c (ix2 R k)) (fun k => A1 m c (ix2 R k)) (fun k => A2 m c (ix2 R k)) (fun k => A3 m c (ix2 R k)) (fun k => A4 m c (ix2 R k)) (fun k => A5 m c (ix2 R k)) (fun a b d => A6 m c (ix3 a b d)) (fun a b => A7 m c (ix2 a b)) q

/-- Its sum over the rows. -/
def acc12 (c : Dev nD) (q : Fin 1024) : EReal := ∑ R : Fin 8192, term12 m c R q

theorem stepA12 (c : Dev nD) (t : Fin cfg0.N) (h0 : t.val % 8 = 0) (h1 : ¬1 ≤ t.val) (q : Fin 1024) :
    ((outsAt0 m c t.val t.isLt).2.2.2 : S1x1024.Idx → EReal) (ix2 0 q) = ∑ r : Fin 1024, term12 m c (Rows.row (N := 8) (T := 8192) rfl t r) q := by
  refine (congrFun (congrArg (fun o => o.2.2.2) (outsAt0_A m c t h0 h1)) (ix2 0 q)).trans ?_
  dsimp only
  refine (out12_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) ((hcond0_0 t).mpr h0) (fun h => absurd ((hcond0_1 t).mp h) h1) (iblk m c 0 t) (iblk m c 1 t) (iblk m c 2 t) (iblk m c 3 t) (iblk m c 4 t) (iblk m c 5 t) (iblk m c 6 t) (iblk m c 7 t) (iblk m c 8 t) q).trans ?_
  unfold term12
  simp only [blk0 m c t, blk1 m c t, blk2 m c t, blk3 m c t, blk4 m c t, blk5 m c t, blk6 m c t, blk7 m c t]

theorem stepB12 (c : Dev nD) (t : Fin cfg0.N) (h0 : ¬t.val % 8 = 0) (h1 : 1 ≤ t.val) (q : Fin 1024) :
    ((outsAt0 m c t.val t.isLt).2.2.2 : S1x1024.Idx → EReal) (ix2 0 q)
      = ((outsAt0 m c (t.val - 1) (Nat.lt_of_le_of_lt (Nat.sub_le _ _) t.isLt)).2.2.2 : S1x1024.Idx → EReal) (ix2 0 q)
        + ∑ r : Fin 1024, term12 m c (Rows.row (N := 8) (T := 8192) rfl t r) q := by
  refine (congrFun (congrArg (fun o => o.2.2.2) (outsAt0_B m c t h0 h1)) (ix2 0 q)).trans ?_
  dsimp only
  refine (out12_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (fun h => absurd ((hcond0_0 t).mp h) h0) ((hcond0_1 t).mpr h1) (iblk m c 0 t) (iblk m c 1 t) (iblk m c 2 t) (iblk m c 3 t) (iblk m c 4 t) (iblk m c 5 t) (iblk m c 6 t) (iblk m c 7 t) (iblk m c 8 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2 q).trans ?_
  unfold term12
  simp only [blk0 m c t, blk1 m c t, blk2 m c t, blk3 m c t, blk4 m c t, blk5 m c t, blk6 m c t, blk7 m c t]

theorem first12 (c : Dev nD) (h : 0 < cfg0.N) (q : Fin 1024) : ((outsAt0 m c 0 h).2.2.2 : S1x1024.Idx → EReal) (ix2 0 q) = ∑ r : Fin 1024, term12 m c (Rows.row (N := 8) (T := 8192) rfl ⟨0, h⟩ r) q :=
  stepA12 m c ⟨0, h⟩ rfl (by dsimp only; omega) q

theorem next12 (c : Dev nD) (n : ℕ) (h : n + 1 < cfg0.N) (q : Fin 1024) :
    ((outsAt0 m c (n + 1) h).2.2.2 : S1x1024.Idx → EReal) (ix2 0 q) = ((outsAt0 m c n (Nat.lt_of_succ_lt h)).2.2.2 : S1x1024.Idx → EReal) (ix2 0 q)
      + ∑ r : Fin 1024, term12 m c (Rows.row (N := 8) (T := 8192) rfl ⟨n + 1, h⟩ r) q := by
  have hN : cfg0.N = 8 := N_0
  exact stepB12 m c ⟨n + 1, h⟩ (by dsimp only; omega) (by dsimp only; omega) q

/-- Result `12`. -/
def G12 (c : Dev nD) : Vec Ideal S1x1024 .f32 := fun i => acc12 m c (i 1)

theorem G12_apply (c : Dev nD) (p : Fin 1) (q : Fin 1024) : G12 m c (ix2 p q) = acc12 m c q := rfl

theorem last12 (c : Dev nD) (h : 7 < cfg0.N) (q : Fin 1024) : ((outsAt0 m c 7 h).2.2.2 : S1x1024.Idx → EReal) (ix2 0 q) = G12 m c (ix2 0 q) := by
  refine Eq.trans ?_ (G12_apply m c 0 q).symm
  unfold acc12
  rw [← Rows.sum_rows (N := 8) (B := 1024) rfl]
  exact Rows.chain_last (fun t : Fin 8 => ∑ r : Fin 1024, term12 m c (Rows.row rfl t r) q) (fun n h => ((outsAt0 m c n h).2.2.2 : S1x1024.Idx → EReal) (ix2 0 q))
    (fun h => first12 m c h q) (fun n h => next12 m c n h q) 7 h rfl

theorem final12 (c : Dev nD) : (dats m 0 c).arrAt 12 cfg0.N = G12 m c := by
  refine (dats m 0 c).arrAt_eq_of_cover 12 (G12 m c) (fun t hf => ?_) (fun i => ?_)
  · refine (Value.flushed12 m c t).trans ?_
    have h15 : t.val = 7 := by have := (flush0_12 t).mp hf; have := t.isLt; have : cfg0.N = 8 := N_0; omega
    obtain ⟨n, hn⟩ := t
    obtain rfl : n = 7 := h15
    have hch := last12 m c hn
    dsimp only
    generalize (outsAt0 m c 7 hn).2.2.2 = y at hch ⊢
    generalize G12 m c = G at hch ⊢
    funext j
    have hx0 : win0_12.xsize (grid0.coords ⟨7, hn⟩) 0 = 1 := (by decide +kernel : ∀ t : Fin grid0.N, win0_12.xsize (grid0.coords t) 0 = 1) _
    have hx1 : win0_12.xsize (grid0.coords ⟨7, hn⟩) 1 = 1024 := (by decide +kernel : ∀ t : Fin grid0.N, win0_12.xsize (grid0.coords t) 1 = 1024) _
    have hj0 : (j 0 : Nat) < 1 := lt_of_lt_of_eq (j 0).isLt hx0
    have hj1 : (j 1 : Nat) < 1024 := lt_of_lt_of_eq (j 1).isLt hx1
    rw [View.read_apply]
    refine Eq.trans (congrArg y (funext fun a => Fin.ext ?_)) ((hch ⟨j 1, hj1⟩).trans (congrArg G (funext fun a => Fin.ext ?_)))
    · match a with
      | ⟨0, _⟩ => exact Nat.lt_one_iff.mp hj0
      | ⟨1, _⟩ => rfl
    · match a with
      | ⟨0, _⟩ =>
        show 0 = win0_12.index _ 0 * 1 + 1 * (j 0 : Nat)
        rw [(by decide +kernel : ∀ t : Fin grid0.N, win0_12.index t 0 = 0) _]; omega
      | ⟨1, _⟩ =>
        show (j 1 : Nat) = win0_12.index _ 1 * 1024 + 1 * (j 1 : Nat)
        rw [(by decide +kernel : ∀ t : Fin grid0.N, win0_12.index t 1 = 0) _]; omega
  · have hn : 7 < cfg0.N := by rw [show cfg0.N = 8 from N_0]; decide
    refine ⟨⟨7, hn⟩, (flush0_12 _).mpr rfl, ?_⟩
    show i ∈ ((View.whole main_v5_3).slice (win0_12.rect ⟨7, hn⟩)).set
    rw [View.set_slice_whole, Rect.mem_set_unit]
    intro a
    have h0 : (i 0 : Nat) < 1 := (i 0).isLt
    have h1 : (i 1 : Nat) < 1024 := (i 1).isLt
    match a with
    | ⟨0, _⟩ => show win0_12.index ⟨7, hn⟩ 0 * 1 ≤ (i 0 : Nat) ∧ (i 0 : Nat) < win0_12.index ⟨7, hn⟩ 0 * 1 + win0_12.xsize (grid0.coords ⟨7, hn⟩) 0
                rw [(by decide +kernel : ∀ t : Fin grid0.N, win0_12.index t 0 = 0) _, (by decide +kernel : ∀ t : Fin grid0.N, win0_12.xsize (grid0.coords t) 0 = 1) _]; omega
    | ⟨1, _⟩ => show win0_12.index ⟨7, hn⟩ 1 * 1024 ≤ (i 1 : Nat) ∧ (i 1 : Nat) < win0_12.index ⟨7, hn⟩ 1 * 1024 + win0_12.xsize (grid0.coords ⟨7, hn⟩) 1
                rw [(by decide +kernel : ∀ t : Fin grid0.N, win0_12.index t 1 = 0) _, (by decide +kernel : ∀ t : Fin grid0.N, win0_12.xsize (grid0.coords t) 1 = 1024) _]; omega

end Cert.InbIdeal.Body

end
-- ==== Proof.InbClaim.lean ====
/- The claim on the call `in_bwd`: its results are the gradients of the layer norm followed by the projections. -/
module

public import proofs.«01_k».proof.Defs
public import proofs.«01_k».proof.Proof.InbValue
public import proofs.«01_k».proof.Proof.Gen.InbRefIdeal
public import proofs.«01_k».proof.Proof.Gen.InbRefIdeal.Run
public import proofs.«01_k».proof.Proof.Gen.InbRefIdeal.Read

@[expose] public section

noncomputable section

open Idealize.ShloMosaic Idealize.ShloMosaic.TcCoe Idealize.SL.Sem Idealize.ShloMosaic.StableHlo

namespace Cert.InbRef

open Cert.InbRefIdeal Cert.InbRefIdeal.Read Cert.InbRefIdeal.Gen

/-- The gradient by the normalised row: through the projections and of the residual stream. -/
def dyr (x3 : Vec Ideal S1024x2048 .f32) (x4 : Vec Ideal S8192x1024 .f32) (x5 x6 x7 x8 : Vec Ideal S8192x512 .bf16) (R : Fin 8192) (k : Fin 1024) : EReal :=
  ∑ j : Fin 2048, Cert.InbIdeal.Body.cat (fun k => x5 (ix2 R k)) (fun k => x6 (ix2 R k)) (fun k => x7 (ix2 R k)) (fun k => x8 (ix2 R k)) j * x3 (ix2 k j) + Rows.al * x4 (ix2 R k)

theorem cat3_eq (p0 p1 p2 p3 : Fin 512 → EReal) (k : Fin 256) :
    Cert.InbIdeal.Body.cat3 p1 p2 p3 ⟨k.val, by omega⟩ = Cert.InbIdeal.Body.cat p0 p1 p2 p3 (Rows.row (N := 8) (T := 2048) rfl ⟨2, by decide⟩ k) := by
  have hk := k.isLt
  unfold Cert.InbIdeal.Body.cat3 Cert.InbIdeal.Body.cat
  rw [dif_pos (by show k.val < 512; omega), dif_neg (by show ¬ 256 * 2 + k.val < 512; omega), dif_pos (by show 256 * 2 + k.val - 512 < 512; omega)]
  exact congrArg p1 (Fin.ext (by show k.val = 256 * 2 + k.val - 512; omega))

theorem dy_eq (x3 : Vec Ideal S1024x2048 .f32) (x4 : Vec Ideal S8192x1024 .f32) (x5 x6 x7 x8 : Vec Ideal S8192x512 .bf16) (p : Fin 8192) (q : Fin 1024) :
    Cert.InbIdeal.Body.dy (fun k => x5 (ix2 p k)) (fun k => x6 (ix2 p k)) (fun k => x7 (ix2 p k)) (fun k => x8 (ix2 p k)) (fun k => x4 (ix2 p k)) (fun a b d => x3 (ix2 b ⟨a.val * 256 + d.val, by omega⟩)) q
      = dyr x3 x4 x5 x6 x7 x8 p q := by
  unfold Cert.InbIdeal.Body.dy dyr
  rw [add_comm (∑ j : Fin 2048, _), ← Rows.sum_rows (N := 8) (B := 256) (T := 2048) rfl]
  refine Rows.add8 _ (fun j => ∑ k : Fin 256, Cert.InbIdeal.Body.cat (fun k => x5 (ix2 p k)) (fun k => x6 (ix2 p k)) (fun k => x7 (ix2 p k)) (fun k => x8 (ix2 p k)) (Rows.row (T := 2048) rfl j k) * x3 (ix2 q (Rows.row (T := 2048) rfl j k))) ?_ ?_ ?_ ?_ ?_ ?_ ?_ ?_ <;>
  · refine Finset.sum_congr rfl fun k _ => congrArg₂ (· * ·) ?_ (congrArg (fun a => x3 (ix2 q a)) (Fin.ext ?_))
    · first
      | exact cat3_eq _ _ _ _ k
      | exact congrArg (Cert.InbIdeal.Body.cat (fun k => x5 (ix2 p k)) (fun k => x6 (ix2 p k)) (fun k => x7 (ix2 p k)) (fun k => x8 (ix2 p k))) (Fin.ext (by simp [Rows.row]))
    · simp [Rows.row]

theorem out0 (x0 : Vec Ideal S8192x1024 .f32) (x1 : Vec Ideal S1024 .f32) (x3 : Vec Ideal S1024x2048 .f32) (x4 : Vec Ideal S8192x1024 .f32) (x5 : Vec Ideal S8192x512 .bf16) (x6 : Vec Ideal S8192x512 .bf16) (x7 : Vec Ideal S8192x512 .bf16) (x8 : Vec Ideal S8192x512 .bf16) (h : ∀ (R : Fin 8192) (k : Fin 1024), ∃ t : ℝ, dyr x3 x4 x5 x6 x7 x8 R k * x1 (ix1 k) = t) (p : Fin 8192) (q : Fin 1024) :
    val_main_v70 (F := Ideal) x0 x1 x3 x4 x5 x6 x7 x8 (ix2 p q) = Cert.InbIdeal.Body.dpre (fun k => x5 (ix2 p k)) (fun k => x6 (ix2 p k)) (fun k => x7 (ix2 p k)) (fun k => x8 (ix2 p k)) (fun k => x4 (ix2 p k)) (fun k => x0 (ix2 p k)) (fun a b d => x3 (ix2 b ⟨a.val * 256 + d.val, by omega⟩)) (fun a b => x1 (ix1 b)) q := by
  have e : val_main_v70 (F := Ideal) x0 x1 x3 x4 x5 x6 x7 x8 (ix2 p q) = Rows.bwdDiff (fun k => x0 (ix2 p k)) (fun k => dyr x3 x4 x5 x6 x7 x8 p k * x1 (ix1 k)) q := by
    pointwise [val_main_v0, val_main_v1, val_main_cst, val_main_v2, val_main_v3, val_main_cst_0, val_main_v4, val_main_v5, val_main_v6, val_main_v7, val_main_v8, val_main_cst_1, val_main_v9, val_main_v10, val_main_cst_2, val_main_v11, val_main_v12, val_main_cst_3, val_main_v13, val_main_v14, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_v30, val_main_cst_6, val_main_v31, val_main_v32, val_main_v33, val_main_v34, val_main_cst_7, val_main_v35, val_main_v36, val_main_v37, val_main_cst_8, val_main_v38, val_main_v39, val_main_cst_9, val_main_v40, val_main_v41, val_main_cst_10, val_main_v42, val_main_v43, val_main_v44, val_main_v45, val_main_cst_11, val_main_v46, val_main_v47, val_main_cst_12, val_main_v48, val_main_v49, val_main_v50, val_main_v51, val_main_v52, val_main_v53, val_main_cst_13, val_main_v54, val_main_v55, val_main_cst_14, val_main_v56, val_main_v57, val_main_cst_15, val_main_v58, val_main_v59, val_main_v60, val_main_v61, val_main_cst_16, val_main_v62, val_main_v63, val_main_v64, val_main_v65, val_main_cst_17, val_main_v66, val_main_v67, val_main_cst_18, val_main_v68, val_main_v69, val_main_v70, val_main_v71, val_main_v72, val_main_cst_19, val_main_v73, val_main_v74, Rows.bwdDiff, Rows.viaVar, Rows.rvar, Rows.istd, Rows.mean, Rows.hat, dyr, Cert.InbIdeal.Body.cat]
  rw [e]
  rw [Rows.bwdDiff_agree _ _ (h p)]
  unfold Cert.InbIdeal.Body.dpre
  simp only [dy_eq]

theorem out1 (x0 : Vec Ideal S8192x1024 .f32) (x1 : Vec Ideal S1024 .f32) (x3 : Vec Ideal S1024x2048 .f32) (x4 : Vec Ideal S8192x1024 .f32) (x5 : Vec Ideal S8192x512 .bf16) (x6 : Vec Ideal S8192x512 .bf16) (x7 : Vec Ideal S8192x512 .bf16) (x8 : Vec Ideal S8192x512 .bf16) (p : Fin 1) (q : Fin 1024) :
    val_main_v71 (F := Ideal) x0 x3 x4 x5 x6 x7 x8 (ix2 p q) = ∑ R : Fin 8192, Cert.InbIdeal.Body.dgain (fun k => x5 (ix2 R k)) (fun k => x6 (ix2 R k)) (fun k => x7 (ix2 R k)) (fun k => x8 (ix2 R k)) (fun k => x4 (ix2 R k)) (fun k => x0 (ix2 R k)) (fun a b d => x3 (ix2 b ⟨a.val * 256 + d.val, by omega⟩)) (fun a b => x1 (ix1 b)) q := by
  have e : val_main_v71 (F := Ideal) x0 x3 x4 x5 x6 x7 x8 (ix2 p q) = ∑ _ : Fin 1, ∑ R : Fin 8192, Rows.hat (fun k => x0 (ix2 R k)) q * dyr x3 x4 x5 x6 x7 x8 R q := by
    rw [← val_main_v71_eq]
    pointwise [Rows.bwdDiff, Rows.viaVar, Rows.rvar, Rows.istd, Rows.mean, Rows.hat, dyr, Cert.InbIdeal.Body.cat]
  rw [e, Fin.sum_univ_one]
  unfold Cert.InbIdeal.Body.dgain
  simp only [dy_eq, mul_comm (Rows.hat _ _)]

theorem out2 (x0 : Vec Ideal S8192x1024 .f32) (x1 : Vec Ideal S1024 .f32) (x3 : Vec Ideal S1024x2048 .f32) (x4 : Vec Ideal S8192x1024 .f32) (x5 : Vec Ideal S8192x512 .bf16) (x6 : Vec Ideal S8192x512 .bf16) (x7 : Vec Ideal S8192x512 .bf16) (x8 : Vec Ideal S8192x512 .bf16) (p : Fin 1) (q : Fin 1024) :
    val_main_v72 (F := Ideal) x3 x4 x5 x6 x7 x8 (ix2 p q) = ∑ R : Fin 8192, Cert.InbIdeal.Body.dbias (fun k => x5 (ix2 R k)) (fun k => x6 (ix2 R k)) (fun k => x7 (ix2 R k)) (fun k => x8 (ix2 R k)) (fun k => x4 (ix2 R k)) (fun k => x0 (ix2 R k)) (fun a b d => x3 (ix2 b ⟨a.val * 256 + d.val, by omega⟩)) (fun a b => x1 (ix1 b)) q := by
  have e : val_main_v72 (F := Ideal) x3 x4 x5 x6 x7 x8 (ix2 p q) = ∑ _ : Fin 1, ∑ R : Fin 8192, dyr x3 x4 x5 x6 x7 x8 R q := by
    rw [← val_main_v72_eq]
    pointwise [Rows.bwdDiff, Rows.viaVar, Rows.rvar, Rows.istd, Rows.mean, Rows.hat, dyr, Cert.InbIdeal.Body.cat]
  rw [e, Fin.sum_univ_one]
  unfold Cert.InbIdeal.Body.dbias
  simp only [dy_eq]

theorem out3 (x0 : Vec Ideal S8192x1024 .f32) (x1 : Vec Ideal S1024 .f32) (x3 : Vec Ideal S1024x2048 .f32) (x4 : Vec Ideal S8192x1024 .f32) (x5 : Vec Ideal S8192x512 .bf16) (x6 : Vec Ideal S8192x512 .bf16) (x7 : Vec Ideal S8192x512 .bf16) (x8 : Vec Ideal S8192x512 .bf16) (h : ∀ (R : Fin 8192) (k : Fin 1024), ∃ t : ℝ, dyr x3 x4 x5 x6 x7 x8 R k * x1 (ix1 k) = t) (p : Fin 1) (q : Fin 1024) :
    val_main_v74 (F := Ideal) x0 x1 x3 x4 x5 x6 x7 x8 (ix2 p q) = ∑ R : Fin 8192, Cert.InbIdeal.Body.dpre (fun k => x5 (ix2 R k)) (fun k => x6 (ix2 R k)) (fun k => x7 (ix2 R k)) (fun k => x8 (ix2 R k)) (fun k => x4 (ix2 R k)) (fun k => x0 (ix2 R k)) (fun a b d => x3 (ix2 b ⟨a.val * 256 + d.val, by omega⟩)) (fun a b => x1 (ix1 b)) q := by
  have e : val_main_v74 (F := Ideal) x0 x1 x3 x4 x5 x6 x7 x8 (ix2 p q) = ∑ R : Fin 8192, Rows.bwdDiff (fun k => x0 (ix2 R k)) (fun k => dyr x3 x4 x5 x6 x7 x8 R k * x1 (ix1 k)) q := by
    pointwise [val_main_v0, val_main_v1, val_main_cst, val_main_v2, val_main_v3, val_main_cst_0, val_main_v4, val_main_v5, val_main_v6, val_main_v7, val_main_v8, val_main_cst_1, val_main_v9, val_main_v10, val_main_cst_2, val_main_v11, val_main_v12, val_main_cst_3, val_main_v13, val_main_v14, val_main_v15, val_main_v16, val_main_cst_4, val_main_v17, val_main_v18, val_main_v19, val_main_v20, val_main_cst_5, val_main_v21, val_main_v22, val_main_v23, val_main_v24, val_main_v25, val_main_v26, val_main_v27, val_main_v28, val_main_v29, val_main_v30, val_main_cst_6, val_main_v31, val_main_v32, val_main_v33, val_main_v34, val_main_cst_7, val_main_v35, val_main_v36, val_main_v37, val_main_cst_8, val_main_v38, val_main_v39, val_main_cst_9, val_main_v40, val_main_v41, val_main_cst_10, val_main_v42, val_main_v43, val_main_v44, val_main_v45, val_main_cst_11, val_main_v46, val_main_v47, val_main_cst_12, val_main_v48, val_main_v49, val_main_v50, val_main_v51, val_main_v52, val_main_v53, val_main_cst_13, val_main_v54, val_main_v55, val_main_cst_14, val_main_v56, val_main_v57, val_main_cst_15, val_main_v58, val_main_v59, val_main_v60, val_main_v61, val_main_cst_16, val_main_v62, val_main_v63, val_main_v64, val_main_v65, val_main_cst_17, val_main_v66, val_main_v67, val_main_cst_18, val_main_v68, val_main_v69, val_main_v70, val_main_v71, val_main_v72, val_main_cst_19, val_main_v73, val_main_v74, Rows.bwdDiff, Rows.viaVar, Rows.rvar, Rows.istd, Rows.mean, Rows.hat, dyr, Cert.InbIdeal.Body.cat]
  rw [e]
  rw [show (∑ R : Fin 8192, Rows.bwdDiff (fun k => x0 (ix2 R k)) (fun k => dyr x3 x4 x5 x6 x7 x8 R k * x1 (ix1 k)) q) = ∑ R : Fin 8192, Rows.bwd (fun k => x0 (ix2 R k)) (fun k => dyr x3 x4 x5 x6 x7 x8 R k * x1 (ix1 k)) q from Finset.sum_congr rfl fun R _ => Rows.bwdDiff_agree _ _ (h R) q]
  unfold Cert.InbIdeal.Body.dpre
  simp only [dy_eq]

end Cert.InbRef

namespace Cert.InbIdeal.Body

open Cert.InbIdeal Cert.InbIdeal.Gen

variable (m : (ℓ : Loc nD τ sig) → Buf (Elt Ideal) ℓ)

/-- Argument `0`. -/
abbrev x0 (c : Dev nD) : Vec Ideal S8192x1024 .f32 := m ((c : Thread nD τ).loc main_arg0)

/-- Argument `1`. -/
abbrev x1 (c : Dev nD) : Vec Ideal S1024 .f32 := m ((c : Thread nD τ).loc main_arg1)

/-- Argument `3`. -/
abbrev x3 (c : Dev nD) : Vec Ideal S1024x2048 .f32 := m ((c : Thread nD τ).loc main_arg3)

/-- Argument `4`. -/
abbrev x4 (c : Dev nD) : Vec Ideal S8192x1024 .f32 := m ((c : Thread nD τ).loc main_arg4)

/-- Argument `5`. -/
abbrev x5 (c : Dev nD) : Vec Ideal S8192x512 .bf16 := m ((c : Thread nD τ).loc main_arg5)

/-- Argument `6`. -/
abbrev x6 (c : Dev nD) : Vec Ideal S8192x512 .bf16 := m ((c : Thread nD τ).loc main_arg6)

/-- Argument `7`. -/
abbrev x7 (c : Dev nD) : Vec Ideal S8192x512 .bf16 := m ((c : Thread nD τ).loc main_arg7)

/-- Argument `8`. -/
abbrev x8 (c : Dev nD) : Vec Ideal S8192x512 .bf16 := m ((c : Thread nD τ).loc main_arg8)

theorem read0 (c : Dev nD) (R : Fin 8192) (k : Fin 512) : A0 m c (ix2 R k) = x5 m c (ix2 R k) := by
  unfold A0 V
  simp only [hostOps0, List.flatten_cons, List.flatten_nil, List.append_nil, List.cons_append, List.nil_append,
    TRef.binary, TRef.nullary, TRef.unary, TRef.toBuf, TRef.ofBuf, cast_eq]
  after_results_simp
  try pointwise []

theorem read1 (c : Dev nD) (R : Fin 8192) (k : Fin 512) : A1 m c (ix2 R k) = x6 m c (ix2 R k) := by
  unfold A1 V
  simp only [hostOps0, List.flatten_cons, List.flatten_nil, List.append_nil, List.cons_append, List.nil_append,
    TRef.binary, TRef.nullary, TRef.unary, TRef.toBuf, TRef.ofBuf, cast_eq]
  after_results_simp
  try pointwise []

theorem read2 (c : Dev nD) (R : Fin 8192) (k : Fin 512) : A2 m c (ix2 R k) = x7 m c (ix2 R k) := by
  unfold A2 V
  simp only [hostOps0, List.flatten_cons, List.flatten_nil, List.append_nil, List.cons_append, List.nil_append,
    TRef.binary, TRef.nullary, TRef.unary, TRef.toBuf, TRef.ofBuf, cast_eq]
  after_results_simp
  try pointwise []

theorem read3 (c : Dev nD) (R : Fin 8192) (k : Fin 512) : A3 m c (ix2 R k) = x8 m c (ix2 R k) := by
  unfold A3 V
  simp only [hostOps0, List.flatten_cons, List.flatten_nil, List.append_nil, List.cons_append, List.nil_append,
    TRef.binary, TRef.nullary, TRef.unary, TRef.toBuf, TRef.ofBuf, cast_eq]
  after_results_simp
  try pointwise []

theorem read4 (c : Dev nD) (R : Fin 8192) (k : Fin 1024) : A4 m c (ix2 R k) = x4 m c (ix2 R k) := by
  unfold A4 V
  simp only [hostOps0, List.flatten_cons, List.flatten_nil, List.append_nil, List.cons_append, List.nil_append,
    TRef.binary, TRef.nullary, TRef.unary, TRef.toBuf, TRef.ofBuf, cast_eq]
  after_results_simp
  try pointwise []

theorem read5 (c : Dev nD) (R : Fin 8192) (k : Fin 1024) : A5 m c (ix2 R k) = x0 m c (ix2 R k) := by
  unfold A5 V
  simp only [hostOps0, List.flatten_cons, List.flatten_nil, List.append_nil, List.cons_append, List.nil_append,
    TRef.binary, TRef.nullary, TRef.unary, TRef.toBuf, TRef.ofBuf, cast_eq]
  after_results_simp
  try pointwise []

theorem read6 (c : Dev nD) (a : Fin 8) (b : Fin 1024) (d : Fin 256) : A6 m c (ix3 a b d) = x3 m c (ix2 b ⟨a.val * 256 + d.val, by omega⟩) := by
  unfold A6 V
  simp only [hostOps0, List.flatten_cons, List.flatten_nil, List.append_nil, List.cons_append, List.nil_append,
    TRef.binary, TRef.nullary, TRef.unary, TRef.toBuf, TRef.ofBuf, cast_eq]
  after_results_simp
  try pointwise []

theorem read7 (c : Dev nD) (a : Fin 1) (b : Fin 1024) : A7 m c (ix2 a b) = x1 m c (ix1 b) := by
  unfold A7 V
  simp only [hostOps0, List.flatten_cons, List.flatten_nil, List.append_nil, List.cons_append, List.nil_append,
    TRef.binary, TRef.nullary, TRef.unary, TRef.toBuf, TRef.ofBuf, cast_eq]
  after_results_simp
  try pointwise []

instance preFacts : Cert.Pre_finite_inb.Facts := ⟨by decide, by decide, by decide, by decide, by decide, by decide, by decide⟩

theorem fin (hpre : Cert.Pre_InbIdeal_finite_inb m) (c : Dev nD) (R : Fin 8192) (k : Fin 1024) : ∃ t : ℝ, Cert.InbRef.dyr (x3 m c) (x4 m c) (x5 m c) (x6 m c) (x7 m c) (x8 m c) R k * (x1 m c) (ix1 k) = t := by
  have h := congrFun (hpre c) (ix2 R k)
  revert h
  pointwise [Cert.Pre_finite_inb.fn, Cert.InbRef.dyr]
  intro h
  obtain ⟨t, ht⟩ := Rows.finite_of _ h
  exact ⟨t, (congrArg (· * _) (add_comm _ _)).trans ht⟩

theorem val9 (hpre : Cert.Pre_InbIdeal_finite_inb m) (c : Dev nD) : G9 m c = Cert.InbRefIdeal.Read.val_main_v70 (F := Ideal) (x0 m c) (x1 m c) (x3 m c) (x4 m c) (x5 m c) (x6 m c) (x7 m c) (x8 m c) := by
  funext i
  obtain ⟨p, q, rfl⟩ : ∃ (p : Fin 8192) (q : Fin 1024), i = ix2 p q := ⟨i 0, i 1, eq_ix2 i⟩
  refine Eq.trans ?_ (Cert.InbRef.out0 (x0 m c) (x1 m c) (x3 m c) (x4 m c) (x5 m c) (x6 m c) (x7 m c) (x8 m c) (fin m hpre c) p q).symm
  show res9 m c p q = _
  unfold res9
  simp only [read0 m, read1 m, read2 m, read3 m, read4 m, read5 m, read6 m, read7 m]

theorem val10 (hpre : Cert.Pre_InbIdeal_finite_inb m) (c : Dev nD) : G10 m c = Cert.InbRefIdeal.Read.val_main_v71 (F := Ideal) (x0 m c) (x3 m c) (x4 m c) (x5 m c) (x6 m c) (x7 m c) (x8 m c) := by
  funext i
  obtain ⟨p, q, rfl⟩ : ∃ (p : Fin 1) (q : Fin 1024), i = ix2 p q := ⟨i 0, i 1, eq_ix2 i⟩
  refine Eq.trans ?_ (Cert.InbRef.out1 (x0 m c) (x1 m c) (x3 m c) (x4 m c) (x5 m c) (x6 m c) (x7 m c) (x8 m c) p q).symm
  show acc10 m c q = _
  unfold acc10 term10
  simp only [read0 m, read1 m, read2 m, read3 m, read4 m, read5 m, read6 m, read7 m]

theorem val11 (hpre : Cert.Pre_InbIdeal_finite_inb m) (c : Dev nD) : G11 m c = Cert.InbRefIdeal.Read.val_main_v72 (F := Ideal) (x3 m c) (x4 m c) (x5 m c) (x6 m c) (x7 m c) (x8 m c) := by
  funext i
  obtain ⟨p, q, rfl⟩ : ∃ (p : Fin 1) (q : Fin 1024), i = ix2 p q := ⟨i 0, i 1, eq_ix2 i⟩
  refine Eq.trans ?_ (Cert.InbRef.out2 (x0 m c) (x1 m c) (x3 m c) (x4 m c) (x5 m c) (x6 m c) (x7 m c) (x8 m c) p q).symm
  show acc11 m c q = _
  unfold acc11 term11
  simp only [read0 m, read1 m, read2 m, read3 m, read4 m, read5 m, read6 m, read7 m]

theorem val12 (hpre : Cert.Pre_InbIdeal_finite_inb m) (c : Dev nD) : G12 m c = Cert.InbRefIdeal.Read.val_main_v74 (F := Ideal) (x0 m c) (x1 m c) (x3 m c) (x4 m c) (x5 m c) (x6 m c) (x7 m c) (x8 m c) := by
  funext i
  obtain ⟨p, q, rfl⟩ : ∃ (p : Fin 1) (q : Fin 1024), i = ix2 p q := ⟨i 0, i 1, eq_ix2 i⟩
  refine Eq.trans ?_ (Cert.InbRef.out3 (x0 m c) (x1 m c) (x3 m c) (x4 m c) (x5 m c) (x6 m c) (x7 m c) (x8 m c) (fin m hpre c) p q).symm
  show acc12 m c q = _
  unfold acc12 term12
  simp only [read0 m, read1 m, read2 m, read3 m, read4 m, read5 m, read6 m, read7 m]

theorem algebraic : Cert.algebraic_InbIdeal_InbRefIdeal_pre_finite_inb := by
  intro m g m' g' hpre hag
  refine ⟨fun c => G9 m c, fun c => G10 m c, fun c => G11 m c, fun c => G12 m c, ?_, ?_⟩
  · exact (θ_run defs _ _).mono (fun r h c => ⟨(h c).1.trans (final9 m c), (h c).2.1.trans (final10 m c), (h c).2.2.1.trans (final11 m c), (h c).2.2.2.1.trans (final12 m c), (h c).2.2.2.2⟩) (Value.run_blocks m g)
  · refine (θ_run Cert.InbRefIdeal.defs _ _).mono (fun r h c => ⟨(h c).1.trans ?_, (h c).2.1.trans ?_, (h c).2.2.1.trans ?_, (h c).2.2.2.1.trans ?_, (h c).2.2.2.2⟩) (Cert.InbRefIdeal.Value.run m' g')
    · obtain ⟨h0, h1, h2, h3, h4, h5, h6, h7, h8⟩ := hag c
      refine (Cert.InbRefIdeal.Read.val_main_v70_eq m' c).trans ?_
      rw [h0, h1, h3, h4, h5, h6, h7, h8]
      exact (val9 m hpre c).symm
    · obtain ⟨h0, h1, h2, h3, h4, h5, h6, h7, h8⟩ := hag c
      refine (Cert.InbRefIdeal.Read.val_main_v71_eq _ _ _ _ _ _ _).trans ?_
      rw [h0, h3, h4, h5, h6, h7, h8]
      exact (val10 m hpre c).symm
    · obtain ⟨h0, h1, h2, h3, h4, h5, h6, h7, h8⟩ := hag c
      refine (Cert.InbRefIdeal.Read.val_main_v72_eq _ _ _ _ _ _).trans ?_
      rw [h3, h4, h5, h6, h7, h8]
      exact (val11 m hpre c).symm
    · obtain ⟨h0, h1, h2, h3, h4, h5, h6, h7, h8⟩ := hag c
      refine (Cert.InbRefIdeal.Read.val_main_v74_eq m' c).trans ?_
      rw [h0, h1, h3, h4, h5, h6, h7, h8]
      exact (val12 m hpre c).symm

end Cert.InbIdeal.Body

end
-- ==== Proof.Inb0Value.lean ====
/- The values of the call `in_bwd0`: the gradient of the step's input. -/
module

public import proofs.«01_k».proof.Proof.Base
public import proofs.«01_k».proof.Proof.Forms
public import proofs.«01_k».proof.Proof.Gen.Inb0Ideal.Value

@[expose] public section

noncomputable section

open Idealize.ShloMosaic Idealize.ShloMosaic.TcCoe Idealize.SL.Sem Idealize.ShloMosaic.StableHlo
open Idealize.ShloMosaic.Pipeline (Dat)

namespace Cert.Inb0Ideal.Body

open Cert.Inb0Ideal Cert.Inb0Ideal.Gen

theorem hz : (![0, 0] : Fin 2 → Nat) = fun _ => 0 := Rows.hz2

/-- The four gradients of the projections side by side. -/
def cat (p0 p1 p2 p3 : Fin 512 → EReal) (k : Fin 2048) : EReal :=
  if h : k.val < 512 then p0 ⟨k.val, h⟩ else if h : k.val - 512 < 512 then p1 ⟨k.val - 512, h⟩
  else if h : k.val - 512 - 512 < 512 then p2 ⟨k.val - 512 - 512, h⟩ else p3 ⟨k.val - 512 - 512 - 512, by omega⟩

theorem cat_first (p0 p1 p2 p3 : Fin 512 → EReal) (x : Fin 256) : cat p0 p1 p2 p3 (Rows.row (N := 8) (T := 2048) rfl ⟨0, by decide⟩ x) = p0 ⟨x.val, by omega⟩ := by
  have hx := x.isLt
  unfold cat
  rw [dif_pos (by show 256 * 0 + x.val < 512; omega)]
  exact congrArg p0 (Fin.ext (by show 256 * 0 + x.val = x.val; omega))

theorem cat_mid (p0 p1 p2 p3 : Fin 512 → EReal) (x : Fin 256) : cat p0 p1 p2 p3 (Rows.row (N := 8) (T := 2048) rfl ⟨2, by decide⟩ x) = p1 ⟨x.val, by omega⟩ := by
  have hx := x.isLt
  unfold cat
  rw [dif_neg (by show ¬ 256 * 2 + x.val < 512; omega), dif_pos (by show 256 * 2 + x.val - 512 < 512; omega)]
  exact congrArg p1 (Fin.ext (by show 256 * 2 + x.val - 512 = x.val; omega))

/-- The gradient of the input of the projections. -/
def dx (p0 p1 p2 p3 : Fin 512 → EReal) (d : Fin 1024 → EReal) (w : Fin 8 → Fin 1024 → Fin 256 → EReal) (q : Fin 1024) : EReal :=
  Rows.al * d q + ∑ j : Fin 8, ∑ k : Fin 256, cat p0 p1 p2 p3 (Rows.row (T := 2048) rfl j k) * w j q k

theorem out7_apply (x0 : Vec Ideal S1024x512 .bf16) (x1 : Vec Ideal S1024x512 .bf16) (x2 : Vec Ideal S1024x512 .bf16) (x3 : Vec Ideal S1024x512 .bf16) (x4 : Vec Ideal S1024x1024 .f32) (x5 : Vec Ideal S8x1024x256 .bf16) (x6 : Vec Ideal S8x128 .f32) (r : Fin 1024) (q : Fin 1024) :
    out0_7 x0 x1 x2 x3 x4 x5 x6 (ix2 r q) = dx (fun k => x0 (ix2 r k)) (fun k => x1 (ix2 r k)) (fun k => x2 (ix2 r k)) (fun k => x3 (ix2 r k)) (fun k => x4 (ix2 r k)) (fun a b d => x5 (ix3 a b d)) q := by
  unfold out0_7
  rw [View.canon_unit_zero hz]
  simp only [View.ld_unit_zero (S := S1024x512) hz, View.ld_unit_zero (S := S1024x1024) hz]
  pointwise [k0_pay1, k0_pay2, k0_pay3, k0_pay4, dx]
  refine Rows.add8 _ (fun j => ∑ k : Fin 256, cat (fun k => x0 (ix2 r k)) (fun k => x1 (ix2 r k)) (fun k => x2 (ix2 r k)) (fun k => x3 (ix2 r k)) (Rows.row (T := 2048) rfl j k) * x5 (ix3 j q k)) ?_ ?_ ?_ ?_ ?_ ?_ ?_ ?_ <;>
  · refine Finset.sum_congr rfl fun x _ => congrArg (· * _) ?_
    have hx := x.isLt
    first
    | rfl
    | exact congrArg (cat (fun k => x0 (ix2 r k)) (fun k => x1 (ix2 r k)) (fun k => x2 (ix2 r k)) (fun k => x3 (ix2 r k))) (Fin.ext (show x.val = 256 * 0 + x.val by omega))
    | exact (dif_pos (by omega)).trans (cat_first (fun k => x0 (ix2 r k)) (fun k => x1 (ix2 r k)) (fun k => x2 (ix2 r k)) (fun k => x3 (ix2 r k)) x).symm
    | exact (dif_pos (by omega)).trans (cat_mid (fun k => x0 (ix2 r k)) (fun k => x1 (ix2 r k)) (fun k => x2 (ix2 r k)) (fun k => x3 (ix2 r k)) x).symm
variable (m : (ℓ : Loc nD τ sig) → Buf (Elt Ideal) ℓ)

/-- Array `0` the call is given. -/
abbrev A0 (c : Dev nD) : S8192x512.Idx → EReal := V m c main_arg3

/-- Array `1` the call is given. -/
abbrev A1 (c : Dev nD) : S8192x512.Idx → EReal := V m c main_arg4

/-- Array `2` the call is given. -/
abbrev A2 (c : Dev nD) : S8192x512.Idx → EReal := V m c main_arg5

/-- Array `3` the call is given. -/
abbrev A3 (c : Dev nD) : S8192x512.Idx → EReal := V m c main_arg6

/-- Array `4` the call is given. -/
abbrev A4 (c : Dev nD) : S8192x1024.Idx → EReal := V m c main_arg2

/-- Array `5` the call is given. -/
abbrev A5 (c : Dev nD) : S8x1024x256.Idx → EReal := V m c main_v2

theorem blk0 (c : Dev nD) (t : Fin cfg0.N) (r : Fin 1024) (k : Fin 512) :
    (iblk m c 0 t : S1024x512.Idx → EReal) (ix2 r k) = A0 m c (ix2 (Rows.row (T := 8192) rfl t r) k) := by
  unfold iblk; rw [View.read_apply]
  show (V m c main_arg3 : S8192x512.Idx → EReal) _ = _
  refine congrArg (A0 m c) (funext fun a => Fin.ext ?_)
  match a with
  | ⟨0, _⟩ => show win0_0.index t 0 * 1024 + 1 * r.val = 1024 * t.val + r.val
              rw [(by decide +kernel : ∀ t : Fin grid0.N, win0_0.index t 0 = t.val) t]; omega
  | ⟨1, _⟩ => show win0_0.index t 1 * 512 + 1 * k.val = k.val
              rw [(by decide +kernel : ∀ t : Fin grid0.N, win0_0.index t 1 = 0) t]; omega

theorem blk1 (c : Dev nD) (t : Fin cfg0.N) (r : Fin 1024) (k : Fin 512) :
    (iblk m c 1 t : S1024x512.Idx → EReal) (ix2 r k) = A1 m c (ix2 (Rows.row (T := 8192) rfl t r) k) := by
  unfold iblk; rw [View.read_apply]
  show (V m c main_arg4 : S8192x512.Idx → EReal) _ = _
  refine congrArg (A1 m c) (funext fun a => Fin.ext ?_)
  match a with
  | ⟨0, _⟩ => show win0_1.index t 0 * 1024 + 1 * r.val = 1024 * t.val + r.val
              rw [(by decide +kernel : ∀ t : Fin grid0.N, win0_1.index t 0 = t.val) t]; omega
  | ⟨1, _⟩ => show win0_1.index t 1 * 512 + 1 * k.val = k.val
              rw [(by decide +kernel : ∀ t : Fin grid0.N, win0_1.index t 1 = 0) t]; omega

theorem blk2 (c : Dev nD) (t : Fin cfg0.N) (r : Fin 1024) (k : Fin 512) :
    (iblk m c 2 t : S1024x512.Idx → EReal) (ix2 r k) = A2 m c (ix2 (Rows.row (T := 8192) rfl t r) k) := by
  unfold iblk; rw [View.read_apply]
  show (V m c main_arg5 : S8192x512.Idx → EReal) _ = _
  refine congrArg (A2 m c) (funext fun a => Fin.ext ?_)
  match a with
  | ⟨0, _⟩ => show win0_2.index t 0 * 1024 + 1 * r.val = 1024 * t.val + r.val
              rw [(by decide +kernel : ∀ t : Fin grid0.N, win0_2.index t 0 = t.val) t]; omega
  | ⟨1, _⟩ => show win0_2.index t 1 * 512 + 1 * k.val = k.val
              rw [(by decide +kernel : ∀ t : Fin grid0.N, win0_2.index t 1 = 0) t]; omega

theorem blk3 (c : Dev nD) (t : Fin cfg0.N) (r : Fin 1024) (k : Fin 512) :
    (iblk m c 3 t : S1024x512.Idx → EReal) (ix2 r k) = A3 m c (ix2 (Rows.row (T := 8192) rfl t r) k) := by
  unfold iblk; rw [View.read_apply]
  show (V m c main_arg6 : S8192x512.Idx → EReal) _ = _
  refine congrArg (A3 m c) (funext fun a => Fin.ext ?_)
  match a with
  | ⟨0, _⟩ => show win0_3.index t 0 * 1024 + 1 * r.val = 1024 * t.val + r.val
              rw [(by decide +kernel : ∀ t : Fin grid0.N, win0_3.index t 0 = t.val) t]; omega
  | ⟨1, _⟩ => show win0_3.index t 1 * 512 + 1 * k.val = k.val
              rw [(by decide +kernel : ∀ t : Fin grid0.N, win0_3.index t 1 = 0) t]; omega

theorem blk4 (c : Dev nD) (t : Fin cfg0.N) (r : Fin 1024) (k : Fin 1024) :
    (iblk m c 4 t : S1024x1024.Idx → EReal) (ix2 r k) = A4 m c (ix2 (Rows.row (T := 8192) rfl t r) k) := by
  unfold iblk; rw [View.read_apply]
  show (V m c main_arg2 : S8192x1024.Idx → EReal) _ = _
  refine congrArg (A4 m c) (funext fun a => Fin.ext ?_)
  match a with
  | ⟨0, _⟩ => show win0_4.index t 0 * 1024 + 1 * r.val = 1024 * t.val + r.val
              rw [(by decide +kernel : ∀ t : Fin grid0.N, win0_4.index t 0 = t.val) t]; omega
  | ⟨1, _⟩ => show win0_4.index t 1 * 1024 + 1 * k.val = k.val
              rw [(by decide +kernel : ∀ t : Fin grid0.N, win0_4.index t 1 = 0) t]; omega

theorem blk5 (c : Dev nD) (t : Fin cfg0.N) (j : Fin 8) (r : Fin 1024) (k : Fin 256) :
    (iblk m c 5 t : S8x1024x256.Idx → EReal) (ix3 j r k) = A5 m c (ix3 j r k) := by
  unfold iblk; rw [View.read_apply]
  show (V m c main_v2 : S8x1024x256.Idx → EReal) _ = _
  refine congrArg (A5 m c) (funext fun a => Fin.ext ?_)
  match a with
  | ⟨0, _⟩ => show win0_5.index t 0 * 8 + 1 * j.val = j.val
              rw [(by decide +kernel : ∀ t : Fin grid0.N, win0_5.index t 0 = 0) t]; omega
  | ⟨1, _⟩ => show win0_5.index t 1 * 1024 + 1 * r.val = r.val
              rw [(by decide +kernel : ∀ t : Fin grid0.N, win0_5.index t 1 = 0) t]; omega
  | ⟨2, _⟩ => show win0_5.index t 2 * 256 + 1 * k.val = k.val
              rw [(by decide +kernel : ∀ t : Fin grid0.N, win0_5.index t 2 = 0) t]; omega

/-- Element `(R, q)` of result `7`. -/
def res7 (c : Dev nD) (R : Fin 8192) (q : Fin 1024) : EReal :=
  dx (fun k => A0 m c (ix2 R k)) (fun k => A1 m c (ix2 R k)) (fun k => A2 m c (ix2 R k)) (fun k => A3 m c (ix2 R k)) (fun k => A4 m c (ix2 R k)) (fun a b d => A5 m c (ix3 a b d)) q

theorem row7 (c : Dev nD) (t : Fin cfg0.N) (r : Fin 1024) (q : Fin 1024) :
    out0_7 (iblk m c 0 t) (iblk m c 1 t) (iblk m c 2 t) (iblk m c 3 t) (iblk m c 4 t) (iblk m c 5 t) (iblk m c 6 t) (ix2 r q) = res7 m c (Rows.row (T := 8192) rfl t r) q := by
  rw [out7_apply]
  unfold res7
  simp only [blk0 m c t, blk1 m c t, blk2 m c t, blk3 m c t, blk4 m c t, blk5 m c t]

/-- Result `7`. -/
def G7 (c : Dev nD) : Vec Ideal S8192x1024 .f32 := fun i => res7 m c (i 0) (i 1)

theorem final7 (c : Dev nD) : (dats m 0 c).arrAt 7 cfg0.N = G7 m c := by
    refine (dats m 0 c).arrAt_eq_of_cover 7 (G7 m c) (fun t hf => ?_) (fun i => ?_)
    · refine (Value.flushed7 m c t).trans ?_
      have hrow := row7 m c t
      generalize out0_7 (iblk m c 0 t) (iblk m c 1 t) (iblk m c 2 t) (iblk m c 3 t) (iblk m c 4 t) (iblk m c 5 t) (iblk m c 6 t) = y at hrow ⊢
      funext j
      have hx0 : win0_7.xsize (grid0.coords t) 0 = 1024 := (by decide +kernel : ∀ t : Fin grid0.N, win0_7.xsize (grid0.coords t) 0 = 1024) t
      have hx1 : win0_7.xsize (grid0.coords t) 1 = 1024 := (by decide +kernel : ∀ t : Fin grid0.N, win0_7.xsize (grid0.coords t) 1 = 1024) t
      have hj0 : (j 0 : Nat) < 1024 := lt_of_lt_of_eq (j 0).isLt hx0
      have hj1 : (j 1 : Nat) < 1024 := lt_of_lt_of_eq (j 1).isLt hx1
      rw [View.read_apply]
      refine Eq.trans (congrArg y (funext fun a => Fin.ext ?_)) ((hrow ⟨j 0, hj0⟩ ⟨j 1, hj1⟩).trans ?_)
      · match a with
        | ⟨0, _⟩ => rfl
        | ⟨1, _⟩ => rfl
      · show res7 m c _ _ = res7 m c _ _
        congr 1
        · refine Fin.ext ?_
          show 1024 * t.val + (j 0 : Nat) = win0_7.index t 0 * 1024 + 1 * (j 0 : Nat)
          rw [(by decide +kernel : ∀ t : Fin grid0.N, win0_7.index t 0 = t.val) t]; omega
        · refine Fin.ext ?_
          show (j 1 : Nat) = win0_7.index t 1 * 1024 + 1 * (j 1 : Nat)
          rw [(by decide +kernel : ∀ t : Fin grid0.N, win0_7.index t 1 = 0) t]; omega
    · obtain ⟨t, r, h⟩ := Rows.exists_row (N := 8) (B := 1024) (T := 8192) rfl (by decide) (i 0)
      refine ⟨t, flush0_7 t, ?_⟩
      show i ∈ ((View.whole main_v4).slice (win0_7.rect t)).set
      rw [View.set_slice_whole, Rect.mem_set_unit]
      intro a
      have h1 : (i 1 : Nat) < 1024 := (i 1).isLt
      have h0 : (i 0 : Nat) = 1024 * t.val + r.val := congrArg Fin.val h
      have hr := r.isLt
      match a with
      | ⟨0, _⟩ => show win0_7.index t 0 * 1024 ≤ (i 0 : Nat) ∧ (i 0 : Nat) < win0_7.index t 0 * 1024 + win0_7.xsize (grid0.coords t) 0
                  rw [(by decide +kernel : ∀ t : Fin grid0.N, win0_7.index t 0 = t.val) t, (by decide +kernel : ∀ t : Fin grid0.N, win0_7.xsize (grid0.coords t) 0 = 1024) t]; omega
      | ⟨1, _⟩ => show win0_7.index t 1 * 1024 ≤ (i 1 : Nat) ∧ (i 1 : Nat) < win0_7.index t 1 * 1024 + win0_7.xsize (grid0.coords t) 1
                  rw [(by decide +kernel : ∀ t : Fin grid0.N, win0_7.index t 1 = 0) t, (by decide +kernel : ∀ t : Fin grid0.N, win0_7.xsize (grid0.coords t) 1 = 1024) t]; omega

end Cert.Inb0Ideal.Body

end
-- ==== Proof.Inb0Claim.lean ====
/- The claim on the call `in_bwd0`: its result is the gradient of the step's input. -/
module

public import proofs.«01_k».proof.Defs
public import proofs.«01_k».proof.Proof.Inb0Value
public import proofs.«01_k».proof.Proof.Gen.Inb0RefIdeal
public import proofs.«01_k».proof.Proof.Gen.Inb0RefIdeal.Run
public import proofs.«01_k».proof.Proof.Gen.Inb0RefIdeal.Read

@[expose] public section

noncomputable section

open Idealize.ShloMosaic Idealize.ShloMosaic.TcCoe Idealize.SL.Sem Idealize.ShloMosaic.StableHlo

namespace Cert.Inb0Ref

open Cert.Inb0RefIdeal Cert.Inb0RefIdeal.Read Cert.Inb0RefIdeal.Gen

theorem out0 (x1 : Vec Ideal S1024x2048 .f32) (x2 : Vec Ideal S8192x1024 .f32) (x3 : Vec Ideal S8192x512 .bf16) (x4 : Vec Ideal S8192x512 .bf16) (x5 : Vec Ideal S8192x512 .bf16) (x6 : Vec Ideal S8192x512 .bf16) (p : Fin 8192) (q : Fin 1024) :
    val_main_v8 (F := Ideal) x1 x2 x3 x4 x5 x6 (ix2 p q) = Cert.Inb0Ideal.Body.dx (fun k => x3 (ix2 p k)) (fun k => x4 (ix2 p k)) (fun k => x5 (ix2 p k)) (fun k => x6 (ix2 p k)) (fun k => x2 (ix2 p k)) (fun a b d => x1 (ix2 b ⟨a.val * 256 + d.val, by omega⟩)) q := by
  rw [← val_main_v8_eq]
  pointwise [Cert.Inb0Ideal.Body.dx]
  rw [add_comm, ← Rows.sum_rows (N := 8) (B := 256) (T := 2048) rfl]
  refine congrArg (_ + ·) (Finset.sum_congr rfl fun j _ => Finset.sum_congr rfl fun k _ => congrArg (fun a => _ * x1 (ix2 q a)) (Fin.ext ?_))
  dsimp only; omega

end Cert.Inb0Ref

namespace Cert.Inb0Ideal.Body

open Cert.Inb0Ideal Cert.Inb0Ideal.Gen

variable (m : (ℓ : Loc nD τ sig) → Buf (Elt Ideal) ℓ)

/-- Argument `1`. -/
abbrev x1 (c : Dev nD) : Vec Ideal S1024x2048 .f32 := m ((c : Thread nD τ).loc main_arg1)

/-- Argument `2`. -/
abbrev x2 (c : Dev nD) : Vec Ideal S8192x1024 .f32 := m ((c : Thread nD τ).loc main_arg2)

/-- Argument `3`. -/
abbrev x3 (c : Dev nD) : Vec Ideal S8192x512 .bf16 := m ((c : Thread nD τ).loc main_arg3)

/-- Argument `4`. -/
abbrev x4 (c : Dev nD) : Vec Ideal S8192x512 .bf16 := m ((c : Thread nD τ).loc main_arg4)

/-- Argument `5`. -/
abbrev x5 (c : Dev nD) : Vec Ideal S8192x512 .bf16 := m ((c : Thread nD τ).loc main_arg5)

/-- Argument `6`. -/
abbrev x6 (c : Dev nD) : Vec Ideal S8192x512 .bf16 := m ((c : Thread nD τ).loc main_arg6)

theorem read0 (c : Dev nD) (R : Fin 8192) (k : Fin 512) : A0 m c (ix2 R k) = x3 m c (ix2 R k) := by
  unfold A0 V
  simp only [hostOps0, List.flatten_cons, List.flatten_nil, List.append_nil, List.cons_append, List.nil_append,
    TRef.binary, TRef.nullary, TRef.unary, TRef.toBuf, TRef.ofBuf, cast_eq]
  after_results_simp
  try pointwise []

theorem read1 (c : Dev nD) (R : Fin 8192) (k : Fin 512) : A1 m c (ix2 R k) = x4 m c (ix2 R k) := by
  unfold A1 V
  simp only [hostOps0, List.flatten_cons, List.flatten_nil, List.append_nil, List.cons_append, List.nil_append,
    TRef.binary, TRef.nullary, TRef.unary, TRef.toBuf, TRef.ofBuf, cast_eq]
  after_results_simp
  try pointwise []

theorem read2 (c : Dev nD) (R : Fin 8192) (k : Fin 512) : A2 m c (ix2 R k) = x5 m c (ix2 R k) := by
  unfold A2 V
  simp only [hostOps0, List.flatten_cons, List.flatten_nil, List.append_nil, List.cons_append, List.nil_append,
    TRef.binary, TRef.nullary, TRef.unary, TRef.toBuf, TRef.ofBuf, cast_eq]
  after_results_simp
  try pointwise []

theorem read3 (c : Dev nD) (R : Fin 8192) (k : Fin 512) : A3 m c (ix2 R k) = x6 m c (ix2 R k) := by
  unfold A3 V
  simp only [hostOps0, List.flatten_cons, List.flatten_nil, List.append_nil, List.cons_append, List.nil_append,
    TRef.binary, TRef.nullary, TRef.unary, TRef.toBuf, TRef.ofBuf, cast_eq]
  after_results_simp
  try pointwise []

theorem read4 (c : Dev nD) (R : Fin 8192) (k : Fin 1024) : A4 m c (ix2 R k) = x2 m c (ix2 R k) := by
  unfold A4 V
  simp only [hostOps0, List.flatten_cons, List.flatten_nil, List.append_nil, List.cons_append, List.nil_append,
    TRef.binary, TRef.nullary, TRef.unary, TRef.toBuf, TRef.ofBuf, cast_eq]
  after_results_simp
  try pointwise []

theorem read5 (c : Dev nD) (a : Fin 8) (b : Fin 1024) (d : Fin 256) : A5 m c (ix3 a b d) = x1 m c (ix2 b ⟨a.val * 256 + d.val, by omega⟩) := by
  unfold A5 V
  simp only [hostOps0, List.flatten_cons, List.flatten_nil, List.append_nil, List.cons_append, List.nil_append,
    TRef.binary, TRef.nullary, TRef.unary, TRef.toBuf, TRef.ofBuf, cast_eq]
  after_results_simp
  try pointwise []

theorem val7 (c : Dev nD) : G7 m c = Cert.Inb0RefIdeal.Read.val_main_v8 (F := Ideal) (x1 m c) (x2 m c) (x3 m c) (x4 m c) (x5 m c) (x6 m c) := by
  funext i
  obtain ⟨p, q, rfl⟩ : ∃ (p : Fin 8192) (q : Fin 1024), i = ix2 p q := ⟨i 0, i 1, eq_ix2 i⟩
  refine Eq.trans ?_ (Cert.Inb0Ref.out0 (x1 m c) (x2 m c) (x3 m c) (x4 m c) (x5 m c) (x6 m c) p q).symm
  show res7 m c p q = _
  unfold res7
  simp only [read0 m, read1 m, read2 m, read3 m, read4 m, read5 m]

theorem algebraic : Cert.algebraic_Inb0Ideal_Inb0RefIdeal := by
  intro m g m' g' hpre hag
  refine ⟨fun c => G7 m c, ?_, ?_⟩
  · exact (θ_run defs _ _).mono (fun r h c => ⟨(h c).1.trans (final7 m c), (h c).2⟩) (Value.run_blocks m g)
  · refine (θ_run Cert.Inb0RefIdeal.defs _ _).mono (fun r h c => ⟨(h c).1.trans ?_, (h c).2⟩) (Cert.Inb0RefIdeal.Value.run m' g')
    obtain ⟨h0, h1, h2, h3, h4, h5, h6⟩ := hag c
    refine (Cert.Inb0RefIdeal.Read.val_main_v8_eq _ _ _ _ _ _).trans ?_
    rw [h1, h2, h3, h4, h5, h6]
    exact (val7 m c).symm

end Cert.Inb0Ideal.Body

end
-- ==== Proof.WoutValue.lean ====
/- The values of the call `wgrad_out`: the gradient by `w_out`. -/
module

public import proofs.«01_k».proof.Proof.Base
public import proofs.«01_k».proof.Proof.Forms
public import proofs.«01_k».proof.Proof.Slab
public import proofs.«01_k».proof.Proof.Gen.WoutIdeal.Value

@[expose] public section

noncomputable section

open Idealize.ShloMosaic Idealize.ShloMosaic.TcCoe Idealize.SL.Sem Idealize.ShloMosaic.StableHlo
open Idealize.ShloMosaic.Pipeline (Dat)

namespace Cert.WoutIdeal.Body

open Cert.WoutIdeal Cert.WoutIdeal.Gen

/-- A row's part of the gradient. -/
def part (x : Fin 1024 → EReal) (d1 : Fin 1024 → EReal) (j : Fin 8) (a : Fin 128) (b : Fin 1024) : EReal :=
  x (Rows.row (N := 8) (B := 128) (T := 1024) rfl j a) * d1 b

/-- The first point leaves the sum over its rows. -/
theorem scr_A (c : Dev nD) (i : grid0.Coords) (a1 : Memref sig .tc .vmem S1024x1024 .bf16) (h1 : a1.IsWhole) (a2 : Memref sig .tc .vmem S1024x1024 .f32) (h2 : a2.IsWhole) (a3 : Memref sig .tc .vmem S8x128x1024 .bf16) (h3 : a3.IsWhole) (a4 : Memref sig .tc .vmem S8x128x1024 .f32) (h4 : a4.IsWhole) (hc0 : cond0_0 i) (hc1 : ¬cond0_1 i)
    (x0 : Vec Ideal S1024x1024 .bf16) (x1 : Vec Ideal S1024x1024 .f32) (j : Fin 8) (a : Fin 128) (b : Fin 1024) :
    sout0_A_0 c i a1 h1 a2 h2 a3 h3 a4 h4 hc0 hc1 x0 x1 (ix3 j a b) = ∑ r : Fin 1024, part (fun k => x0 (ix2 r k)) (fun k => x1 (ix2 r k)) j a b := by
  unfold sout0_A_0
  rw [View.read_writes_eq_canon _ _ _ (scover0_A_0 c i a1 h1 a2 h2 a3 h3 a4 h4 hc0 hc1 x0 x1)]
  unfold kernelRun0_A
  dsimp only
  sl_unfold_words
  simp only [View.readAt_eq_ld, h1.read_unread, h2.read_unread, View.ld_unit_zero (S := S1024x1024) Rows.hz2]
  obtain ⟨n, hj⟩ := j
  interval_cases n
  all_goals
    repeat refine (Rows.slab_miss _ _ _ _ _ _ _ (by dsimp only; omega)).trans ?_
    refine (Rows.slab_hit _ hj _ _ _ a b).trans ?_
    generalize hy : View.readCov (Val := Elt Ideal) _ _ (Rect.unit (s := S8x128x1024) _ ![1, 128, 1024] _).toLoadRect = y
    suffices e : y (ix3 0 a b) = 0 by
      refine Eq.trans (?_ : _ = y (ix3 0 a b) + ∑ r : Fin 1024, part (fun k => x0 (ix2 r k)) (fun k => x1 (ix2 r k)) ⟨_, hj⟩ a b) (by rw [e, zero_add])
      pointwise [k0_pay1, k0_pay2, k0_pay5, k0_pay6, k0_pay7, k0_pay8, k0_pay9, k0_pay10, k0_pay11, k0_pay12, k0_pay13, part]
      first
      | done
      | rfl
      | exact congrArg (fun s : EReal => y (ix3 0 a b) + s) (Finset.sum_congr rfl fun x _ => congrArg (fun k => x0 (ix2 x k) * x1 (ix2 x b)) (Fin.ext (by show a.val = 128 * 0 + a.val; omega)))
    rw [← hy]
    refine (Rows.slab_read _ _ _ hj _ a b).trans ?_
  on_goal 2 => refine (Rows.slab_miss _ _ _ _ _ _ _ (by dsimp only; omega)).trans ?_
  on_goal 3 => iterate 2 refine (Rows.slab_miss _ _ _ _ _ _ _ (by dsimp only; omega)).trans ?_
  on_goal 4 => iterate 3 refine (Rows.slab_miss _ _ _ _ _ _ _ (by dsimp only; omega)).trans ?_
  on_goal 5 => iterate 4 refine (Rows.slab_miss _ _ _ _ _ _ _ (by dsimp only; omega)).trans ?_
  on_goal 6 => iterate 5 refine (Rows.slab_miss _ _ _ _ _ _ _ (by dsimp only; omega)).trans ?_
  on_goal 7 => iterate 6 refine (Rows.slab_miss _ _ _ _ _ _ _ (by dsimp only; omega)).trans ?_
  on_goal 8 => iterate 7 refine (Rows.slab_miss _ _ _ _ _ _ _ (by dsimp only; omega)).trans ?_
  all_goals
    rw [View.canon_unit_zero Rows.hz3]
    pointwise [k0_pay4]

/-- A later point adds the sum over its rows. -/
theorem scr_B (c : Dev nD) (i : grid0.Coords) (a1 : Memref sig .tc .vmem S1024x1024 .bf16) (h1 : a1.IsWhole) (a2 : Memref sig .tc .vmem S1024x1024 .f32) (h2 : a2.IsWhole) (a3 : Memref sig .tc .vmem S8x128x1024 .bf16) (h3 : a3.IsWhole) (a4 : Memref sig .tc .vmem S8x128x1024 .f32) (h4 : a4.IsWhole) (hc0 : ¬cond0_0 i) (hc1 : ¬cond0_1 i)
    (x0 : Vec Ideal S1024x1024 .bf16) (x1 : Vec Ideal S1024x1024 .f32) (y : Vec Ideal S8x128x1024 .f32) (j : Fin 8) (a : Fin 128) (b : Fin 1024) :
    sout0_B_0 c i a1 h1 a2 h2 a3 h3 a4 h4 hc0 hc1 x0 x1 y (ix3 j a b) = y (ix3 j a b) + ∑ r : Fin 1024, part (fun k => x0 (ix2 r k)) (fun k => x1 (ix2 r k)) j a b := by
  unfold sout0_B_0
  rw [View.read_writes_eq_canon _ _ _ (scover0_B_0 c i a1 h1 a2 h2 a3 h3 a4 h4 hc0 hc1 x0 x1 y)]
  unfold kernelRun0_B
  dsimp only
  sl_unfold_words
  simp only [View.readAt_eq_ld, h1.read_unread, h2.read_unread, h4.read_unread, View.ld_unit_zero (S := S1024x1024) Rows.hz2]
  obtain ⟨n, hj⟩ := j
  interval_cases n
  all_goals
    repeat refine (Rows.slab_miss _ _ _ _ _ _ _ (by dsimp only; omega)).trans ?_
    refine (Rows.slab_hit _ hj _ _ _ a b).trans ?_
    pointwise [k0_pay1, k0_pay2, k0_pay5, k0_pay6, k0_pay7, k0_pay8, k0_pay9, k0_pay10, k0_pay11, k0_pay12, k0_pay13, part]
    first
    | done
    | rfl
    | exact congrArg (fun s : EReal => y (ix3 0 a b) + s) (Finset.sum_congr rfl fun x _ => congrArg (fun k => x0 (ix2 x k) * x1 (ix2 x b)) (Fin.ext (by show a.val = 128 * 0 + a.val; omega)))

/-- The last point writes what it leaves. -/
theorem out_C (c : Dev nD) (i : grid0.Coords) (a1 : Memref sig .tc .vmem S1024x1024 .bf16) (h1 : a1.IsWhole) (a2 : Memref sig .tc .vmem S1024x1024 .f32) (h2 : a2.IsWhole) (a3 : Memref sig .tc .vmem S8x128x1024 .bf16) (h3 : a3.IsWhole) (a4 : Memref sig .tc .vmem S8x128x1024 .f32) (h4 : a4.IsWhole) (hc0 : ¬cond0_0 i) (hc1 : cond0_1 i)
    (x0 : Vec Ideal S1024x1024 .bf16) (x1 : Vec Ideal S1024x1024 .f32) (y : Vec Ideal S8x128x1024 .f32) (j : Fin 8) (a : Fin 128) (b : Fin 1024) :
    out0_C_2 c i a1 h1 a2 h2 a3 h3 a4 h4 hc0 hc1 x0 x1 y (ix3 j a b) = y (ix3 j a b) + ∑ r : Fin 1024, part (fun k => x0 (ix2 r k)) (fun k => x1 (ix2 r k)) j a b := by
  unfold out0_C_2
  rw [View.read_writes_eq_canon _ _ _ (cover0_C_2 c i a1 h1 a2 h2 a3 h3 a4 h4 hc0 hc1 x0 x1 y)]
  unfold kernelRun0_C
  dsimp only
  sl_unfold_words
  simp only [View.readAt_eq_ld, h1.read_unread, h2.read_unread, h4.read_unread, View.ld_unit_zero (S := S1024x1024) Rows.hz2]
  rw [View.canon_unit_zero Rows.hz3]
  generalize hz : View.readCov (Val := Elt Ideal) (s := S8x128x1024) (e := .f32) _ _ _ = z
  refine Eq.trans (?_ : _ = z (ix3 j a b)) ?_
  · pointwise [k0_pay3]
  rw [← hz]
  refine (Rows.whole_read _ _ _ j a b).trans ?_
  obtain ⟨n, hj⟩ := j
  interval_cases n
  all_goals
    repeat refine (Rows.slab_miss _ _ _ _ _ _ _ (by dsimp only; omega)).trans ?_
    refine (Rows.slab_hit _ hj _ _ _ a b).trans ?_
    pointwise [k0_pay1, k0_pay2, k0_pay5, k0_pay6, k0_pay7, k0_pay8, k0_pay9, k0_pay10, k0_pay11, k0_pay12, k0_pay13, part]
    first
    | done
    | rfl
    | exact congrArg (fun s : EReal => y (ix3 0 a b) + s) (Finset.sum_congr rfl fun x _ => congrArg (fun k => x0 (ix2 x k) * x1 (ix2 x b)) (Fin.ext (by show a.val = 128 * 0 + a.val; omega)))

variable (m : (ℓ : Loc nD τ sig) → Buf (Elt Ideal) ℓ)

/-- Array `0` the call is given. -/
abbrev A0 (c : Dev nD) : S8192x1024.Idx → EReal := V m c main_arg0

/-- Array `1` the call is given. -/
abbrev A1 (c : Dev nD) : S8192x1024.Idx → EReal := V m c main_arg2

theorem blk0 (c : Dev nD) (t : Fin cfg0.N) (r : Fin 1024) (k : Fin 1024) :
    (iblk m c 0 t : S1024x1024.Idx → EReal) (ix2 r k) = A0 m c (ix2 (Rows.row (T := 8192) rfl t r) k) := by
  unfold iblk; rw [View.read_apply]
  show (V m c main_arg0 : S8192x1024.Idx → EReal) _ = _
  refine congrArg (A0 m c) (funext fun a => Fin.ext ?_)
  match a with
  | ⟨0, _⟩ => show win0_0.index t 0 * 1024 + 1 * r.val = 1024 * t.val + r.val
              rw [(by decide +kernel : ∀ t : Fin grid0.N, win0_0.index t 0 = t.val) t]; omega
  | ⟨1, _⟩ => show win0_0.index t 1 * 1024 + 1 * k.val = k.val
              rw [(by decide +kernel : ∀ t : Fin grid0.N, win0_0.index t 1 = 0) t]; omega

theorem blk1 (c : Dev nD) (t : Fin cfg0.N) (r : Fin 1024) (k : Fin 1024) :
    (iblk m c 1 t : S1024x1024.Idx → EReal) (ix2 r k) = A1 m c (ix2 (Rows.row (T := 8192) rfl t r) k) := by
  unfold iblk; rw [View.read_apply]
  show (V m c main_arg2 : S8192x1024.Idx → EReal) _ = _
  refine congrArg (A1 m c) (funext fun a => Fin.ext ?_)
  match a with
  | ⟨0, _⟩ => show win0_1.index t 0 * 1024 + 1 * r.val = 1024 * t.val + r.val
              rw [(by decide +kernel : ∀ t : Fin grid0.N, win0_1.index t 0 = t.val) t]; omega
  | ⟨1, _⟩ => show win0_1.index t 1 * 1024 + 1 * k.val = k.val
              rw [(by decide +kernel : ∀ t : Fin grid0.N, win0_1.index t 1 = 0) t]; omega

/-- Row `R`'s part of the gradient. -/
def term (c : Dev nD) (R : Fin 8192) (j : Fin 8) (a : Fin 128) (b : Fin 1024) : EReal := part (fun k => A0 m c (ix2 R k)) (fun k => A1 m c (ix2 R k)) j a b

/-- What point `n` leaves: in the scratch, after the last point in the result. -/
def left (c : Dev nD) (j : Fin 8) (a : Fin 128) (b : Fin 1024) (n : ℕ) (h : n < cfg0.N) : EReal :=
  if n = 7 then ((outsAt0 m c n h).1 : S8x128x1024.Idx → EReal) (ix3 j a b) else ((outsAt0 m c n h).2 : S8x128x1024.Idx → EReal) (ix3 j a b)

theorem step_A (c : Dev nD) (t : Fin cfg0.N) (h0 : t.val % 8 = 0) (h1 : ¬t.val % 8 = 7) (j : Fin 8) (a : Fin 128) (b : Fin 1024) :
    ((outsAt0 m c t.val t.isLt).2 : S8x128x1024.Idx → EReal) (ix3 j a b) = ∑ r : Fin 1024, term m c (Rows.row (N := 8) (T := 8192) rfl t r) j a b := by
  refine (congrFun (congrArg Prod.snd (outsAt0_A m c t h0 h1)) (ix3 j a b)).trans ?_
  dsimp only
  refine (scr_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) j a b).trans ?_
  unfold term
  simp only [blk0 m c t, blk1 m c t]

theorem step_B (c : Dev nD) (t : Fin cfg0.N) (h0 : ¬t.val % 8 = 0) (h1 : ¬t.val % 8 = 7) (j : Fin 8) (a : Fin 128) (b : Fin 1024) :
    ((outsAt0 m c t.val t.isLt).2 : S8x128x1024.Idx → EReal) (ix3 j a b) = ((outsAt0 m c (t.val - 1) (Nat.lt_of_le_of_lt (Nat.sub_le _ _) t.isLt)).2 : S8x128x1024.Idx → EReal) (ix3 j a b) + ∑ r : Fin 1024, term m c (Rows.row (N := 8) (T := 8192) rfl t r) j a b := by
  refine (congrFun (congrArg Prod.snd (outsAt0_B m c t h0 h1)) (ix3 j a b)).trans ?_
  dsimp only
  refine (scr_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2 j a b).trans ?_
  unfold term
  simp only [blk0 m c t, blk1 m c t]

theorem step_C (c : Dev nD) (t : Fin cfg0.N) (h0 : ¬t.val % 8 = 0) (h1 : t.val % 8 = 7) (j : Fin 8) (a : Fin 128) (b : Fin 1024) :
    ((outsAt0 m c t.val t.isLt).1 : S8x128x1024.Idx → EReal) (ix3 j a b) = ((outsAt0 m c (t.val - 1) (Nat.lt_of_le_of_lt (Nat.sub_le _ _) t.isLt)).2 : S8x128x1024.Idx → EReal) (ix3 j a b) + ∑ r : Fin 1024, term m c (Rows.row (N := 8) (T := 8192) rfl t r) j a b := by
  refine (congrFun (congrArg Prod.fst (outsAt0_C m c t h0 h1)) (ix3 j a b)).trans ?_
  dsimp only
  refine (out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 j a b).trans ?_
  unfold term
  simp only [blk0 m c t, blk1 m c t]

theorem left_zero (c : Dev nD) (j : Fin 8) (a : Fin 128) (b : Fin 1024) (h : 0 < cfg0.N) : left m c j a b 0 h = ∑ r : Fin 1024, term m c (Rows.row (N := 8) (T := 8192) rfl ⟨0, h⟩ r) j a b :=
  (if_neg (by decide)).trans (step_A m c ⟨0, h⟩ rfl (by dsimp only; omega) j a b)

theorem left_succ (c : Dev nD) (j : Fin 8) (a : Fin 128) (b : Fin 1024) (n : ℕ) (h : n + 1 < cfg0.N) :
    left m c j a b (n + 1) h = left m c j a b n (Nat.lt_of_succ_lt h) + ∑ r : Fin 1024, term m c (Rows.row (N := 8) (T := 8192) rfl ⟨n + 1, h⟩ r) j a b := by
  have hN : cfg0.N = 8 := N_0
  have e : left m c j a b n (Nat.lt_of_succ_lt h) = ((outsAt0 m c n (Nat.lt_of_succ_lt h)).2 : S8x128x1024.Idx → EReal) (ix3 j a b) := if_neg (by omega)
  rw [e]
  by_cases hl : n + 1 = 7
  · exact (if_pos hl).trans (step_C m c ⟨n + 1, h⟩ (by dsimp only; omega) (by dsimp only; omega) j a b)
  · exact (if_neg hl).trans (step_B m c ⟨n + 1, h⟩ (by dsimp only; omega) (by dsimp only; omega) j a b)

/-- The result is the sum over the rows. -/
theorem result (c : Dev nD) (j : Fin 8) (a : Fin 128) (b : Fin 1024) : (Value.G2 m c : S8x128x1024.Idx → EReal) (ix3 j a b) = ∑ R : Fin 8192, term m c R j a b := by
  have hn : 7 < cfg0.N := by rw [show cfg0.N = 8 from N_0]; decide
  rw [Value.G2_last m c, ← Value.outsAt0_sweep m c 7 hn]
  rw [← Rows.sum_rows (N := 8) (B := 1024) rfl]
  refine Eq.trans (if_pos rfl).symm (Rows.chain_last (fun t : Fin 8 => ∑ r : Fin 1024, term m c (Rows.row rfl t r) j a b) (left m c j a b)
    (fun h => left_zero m c j a b h) (fun n h => left_succ m c j a b n h) 7 hn rfl)

end Cert.WoutIdeal.Body

end
-- ==== Proof.WoutClaim.lean ====
/- The claim on the call `wgrad_out`: its result is the gradient by `w_out`. -/
module

public import proofs.«01_k».proof.Defs
public import proofs.«01_k».proof.Proof.WoutValue
public import proofs.«01_k».proof.Proof.Gen.WoutRefIdeal
public import proofs.«01_k».proof.Proof.Gen.WoutRefIdeal.Run
public import proofs.«01_k».proof.Proof.Gen.WoutRefIdeal.Read

@[expose] public section

noncomputable section

open Idealize.ShloMosaic Idealize.ShloMosaic.TcCoe Idealize.SL.Sem Idealize.ShloMosaic.StableHlo

namespace Cert.WoutRef

open Cert.WoutRefIdeal Cert.WoutRefIdeal.Read Cert.WoutRefIdeal.Gen

theorem out0 (x0 : Vec Ideal S8192x1024 .bf16) (x2 : Vec Ideal S8192x1024 .f32) (j : Fin 8) (a : Fin 128) (b : Fin 1024) :
    val_main_v5 (F := Ideal) x0 x2 (ix3 j a b) = ∑ R : Fin 8192, Cert.WoutIdeal.Body.part (fun k => x0 (ix2 R k)) (fun k => x2 (ix2 R k)) j a b := by
  rw [← val_main_v5_eq]
  pointwise [Cert.WoutIdeal.Body.part]
  exact Finset.sum_congr rfl fun x _ => (mul_comm _ _).trans (congrArg (fun k => x0 (ix2 x k) * x2 (ix2 x b)) (Fin.ext (by dsimp only; omega)))

end Cert.WoutRef

namespace Cert.WoutIdeal.Body

open Cert.WoutIdeal Cert.WoutIdeal.Gen

variable (m : (ℓ : Loc nD τ sig) → Buf (Elt Ideal) ℓ)

/-- Argument `0`. -/
abbrev x0 (c : Dev nD) : Vec Ideal S8192x1024 .bf16 := m ((c : Thread nD τ).loc main_arg0)

/-- Argument `2`. -/
abbrev x2 (c : Dev nD) : Vec Ideal S8192x1024 .f32 := m ((c : Thread nD τ).loc main_arg2)

theorem read0 (c : Dev nD) (R : Fin 8192) (k : Fin 1024) : A0 m c (ix2 R k) = x0 m c (ix2 R k) := by
  exact congrFun (V_main_arg0 m c) _

theorem read1 (c : Dev nD) (R : Fin 8192) (k : Fin 1024) : A1 m c (ix2 R k) = x2 m c (ix2 R k) := by
  exact congrFun (V_main_arg2 m c) _

theorem val (c : Dev nD) : Value.G2 m c = Cert.WoutRefIdeal.Read.val_main_v5 (F := Ideal) (x0 m c) (x2 m c) := by
  funext i
  obtain ⟨j, a, b, rfl⟩ : ∃ (j : Fin 8) (a : Fin 128) (b : Fin 1024), i = ix3 j a b := ⟨i 0, i 1, i 2, eq_ix3 i⟩
  refine (result m c j a b).trans (Eq.trans ?_ (Cert.WoutRef.out0 (x0 m c) (x2 m c) j a b).symm)
  unfold term
  simp only [read0 m, read1 m]

theorem algebraic : Cert.algebraic_WoutIdeal_WoutRefIdeal := by
  intro m g m' g' hpre hag
  refine ⟨fun c => Value.G2 m c, ?_, ?_⟩
  · exact (θ_run defs _ _).mono (fun r h c => ⟨(h c).1, (h c).2⟩) (Value.run m g)
  · refine (θ_run Cert.WoutRefIdeal.defs _ _).mono (fun r h c => ⟨(h c).1.trans ?_, (h c).2⟩) (Cert.WoutRefIdeal.Value.run m' g')
    obtain ⟨h0, h1, h2⟩ := hag c
    refine (Cert.WoutRefIdeal.Read.val_main_v5_eq _ _).trans ?_
    rw [h0, h2]
    exact (val m c).symm

end Cert.WoutIdeal.Body

end
-- ==== Proof.WgluValue.lean ====
/- The values of the call `wgrad_glu`: the gradient by `w_glu`. -/
module

public import proofs.«01_k».proof.Proof.Base
public import proofs.«01_k».proof.Proof.Forms
public import proofs.«01_k».proof.Proof.Slab
public import proofs.«01_k».proof.Proof.Gen.WgluIdeal.Value

@[expose] public section

noncomputable section

open Idealize.ShloMosaic Idealize.ShloMosaic.TcCoe Idealize.SL.Sem Idealize.ShloMosaic.StableHlo
open Idealize.ShloMosaic.Pipeline (Dat)

namespace Cert.WgluIdeal.Body

open Cert.WgluIdeal Cert.WgluIdeal.Gen

/-- A row's part of the gradient. -/
def part (x : Fin 512 → EReal) (d1 : Fin 512 → EReal) (j : Fin 1) (a : Fin 512) (b : Fin 512) : EReal :=
  Rows.gelu (x a) * d1 b

/-- The first point leaves the sum over its rows. -/
theorem scr_A (c : Dev nD) (i : grid0.Coords) (a1 : Memref sig .tc .vmem S1024x512 .f32) (h1 : a1.IsWhole) (a2 : Memref sig .tc .vmem S1024x512 .bf16) (h2 : a2.IsWhole) (a3 : Memref sig .tc .vmem S1x512x512 .bf16) (h3 : a3.IsWhole) (a4 : Memref sig .tc .vmem S1x512x512 .f32) (h4 : a4.IsWhole) (hc0 : cond0_0 i) (hc1 : ¬cond0_1 i)
    (x0 : Vec Ideal S1024x512 .f32) (x1 : Vec Ideal S1024x512 .bf16) (j : Fin 1) (a : Fin 512) (b : Fin 512) :
    sout0_A_0 c i a1 h1 a2 h2 a3 h3 a4 h4 hc0 hc1 x0 x1 (ix3 j a b) = ∑ r : Fin 1024, part (fun k => x0 (ix2 r k)) (fun k => x1 (ix2 r k)) j a b := by
  unfold sout0_A_0
  rw [View.read_writes_eq_canon _ _ _ (scover0_A_0 c i a1 h1 a2 h2 a3 h3 a4 h4 hc0 hc1 x0 x1)]
  unfold kernelRun0_A
  dsimp only
  sl_unfold_words
  simp only [View.readAt_eq_ld, h1.read_unread, h2.read_unread, View.ld_unit_zero (S := S1024x512) Rows.hz2]
  match j with
  | ⟨0, hj⟩ =>
    refine (Rows.slab_hit 0 hj _ _ _ a b).trans ?_
    generalize hy : View.readCov (Val := Elt Ideal) _ _ (Rect.unit (s := S1x512x512) ![0, 0, 0] ![1, 512, 512] _).toLoadRect = y
    have e : y (ix3 0 a b) = 0 := by
      rw [← hy]
      refine (Rows.slab_read _ _ 0 hj _ a b).trans ?_
      rw [View.canon_unit_zero Rows.hz3]
      pointwise [k0_pay1]
    refine Eq.trans (?_ : _ = y (ix3 0 a b) + ∑ r : Fin 1024, part (fun k => x0 (ix2 r k)) (fun k => x1 (ix2 r k)) ⟨0, hj⟩ a b) (by rw [e, zero_add])
    pointwise [k0_pay2, Rows.gelu, part]
    try rfl

/-- A later point adds the sum over its rows. -/
theorem scr_B (c : Dev nD) (i : grid0.Coords) (a1 : Memref sig .tc .vmem S1024x512 .f32) (h1 : a1.IsWhole) (a2 : Memref sig .tc .vmem S1024x512 .bf16) (h2 : a2.IsWhole) (a3 : Memref sig .tc .vmem S1x512x512 .bf16) (h3 : a3.IsWhole) (a4 : Memref sig .tc .vmem S1x512x512 .f32) (h4 : a4.IsWhole) (hc0 : ¬cond0_0 i) (hc1 : ¬cond0_1 i)
    (x0 : Vec Ideal S1024x512 .f32) (x1 : Vec Ideal S1024x512 .bf16) (y : Vec Ideal S1x512x512 .f32) (j : Fin 1) (a : Fin 512) (b : Fin 512) :
    sout0_B_0 c i a1 h1 a2 h2 a3 h3 a4 h4 hc0 hc1 x0 x1 y (ix3 j a b) = y (ix3 j a b) + ∑ r : Fin 1024, part (fun k => x0 (ix2 r k)) (fun k => x1 (ix2 r k)) j a b := by
  unfold sout0_B_0
  rw [View.read_writes_eq_canon _ _ _ (scover0_B_0 c i a1 h1 a2 h2 a3 h3 a4 h4 hc0 hc1 x0 x1 y)]
  unfold kernelRun0_B
  dsimp only
  sl_unfold_words
  simp only [View.readAt_eq_ld, h1.read_unread, h2.read_unread, h4.read_unread, View.ld_unit_zero (S := S1024x512) Rows.hz2]
  match j with
  | ⟨0, hj⟩ =>
    refine (Rows.slab_hit 0 hj _ _ _ a b).trans ?_
    pointwise [k0_pay2, Rows.gelu, part]
    try rfl

/-- The last point writes what it leaves. -/
theorem out_C (c : Dev nD) (i : grid0.Coords) (a1 : Memref sig .tc .vmem S1024x512 .f32) (h1 : a1.IsWhole) (a2 : Memref sig .tc .vmem S1024x512 .bf16) (h2 : a2.IsWhole) (a3 : Memref sig .tc .vmem S1x512x512 .bf16) (h3 : a3.IsWhole) (a4 : Memref sig .tc .vmem S1x512x512 .f32) (h4 : a4.IsWhole) (hc0 : ¬cond0_0 i) (hc1 : cond0_1 i)
    (x0 : Vec Ideal S1024x512 .f32) (x1 : Vec Ideal S1024x512 .bf16) (y : Vec Ideal S1x512x512 .f32) (j : Fin 1) (a : Fin 512) (b : Fin 512) :
    out0_C_2 c i a1 h1 a2 h2 a3 h3 a4 h4 hc0 hc1 x0 x1 y (ix3 j a b) = y (ix3 j a b) + ∑ r : Fin 1024, part (fun k => x0 (ix2 r k)) (fun k => x1 (ix2 r k)) j a b := by
  unfold out0_C_2
  rw [View.read_writes_eq_canon _ _ _ (cover0_C_2 c i a1 h1 a2 h2 a3 h3 a4 h4 hc0 hc1 x0 x1 y)]
  unfold kernelRun0_C
  dsimp only
  sl_unfold_words
  simp only [View.readAt_eq_ld, h1.read_unread, h2.read_unread, h4.read_unread, View.ld_unit_zero (S := S1024x512) Rows.hz2]
  rw [View.canon_unit_zero Rows.hz3]
  generalize hz : View.readCov (Val := Elt Ideal) (s := S1x512x512) (e := .f32) _ _ _ = z
  refine Eq.trans (?_ : _ = z (ix3 j a b)) ?_
  · pointwise [k0_pay3]
  rw [← hz]
  refine (Rows.whole_read _ _ _ j a b).trans ?_
  match j with
  | ⟨0, hj⟩ =>
    refine (Rows.slab_hit 0 hj _ _ _ a b).trans ?_
    pointwise [k0_pay2, Rows.gelu, part]
    try rfl

variable (m : (ℓ : Loc nD τ sig) → Buf (Elt Ideal) ℓ)

/-- Array `0` the call is given. -/
abbrev A0 (c : Dev nD) : S8192x512.Idx → EReal := V m c main_arg0

/-- Array `1` the call is given. -/
abbrev A1 (c : Dev nD) : S8192x512.Idx → EReal := V m c main_arg2

theorem blk0 (c : Dev nD) (t : Fin cfg0.N) (r : Fin 1024) (k : Fin 512) :
    (iblk m c 0 t : S1024x512.Idx → EReal) (ix2 r k) = A0 m c (ix2 (Rows.row (T := 8192) rfl t r) k) := by
  unfold iblk; rw [View.read_apply]
  show (V m c main_arg0 : S8192x512.Idx → EReal) _ = _
  refine congrArg (A0 m c) (funext fun a => Fin.ext ?_)
  match a with
  | ⟨0, _⟩ => show win0_0.index t 0 * 1024 + 1 * r.val = 1024 * t.val + r.val
              rw [(by decide +kernel : ∀ t : Fin grid0.N, win0_0.index t 0 = t.val) t]; omega
  | ⟨1, _⟩ => show win0_0.index t 1 * 512 + 1 * k.val = k.val
              rw [(by decide +kernel : ∀ t : Fin grid0.N, win0_0.index t 1 = 0) t]; omega

theorem blk1 (c : Dev nD) (t : Fin cfg0.N) (r : Fin 1024) (k : Fin 512) :
    (iblk m c 1 t : S1024x512.Idx → EReal) (ix2 r k) = A1 m c (ix2 (Rows.row (T := 8192) rfl t r) k) := by
  unfold iblk; rw [View.read_apply]
  show (V m c main_arg2 : S8192x512.Idx → EReal) _ = _
  refine congrArg (A1 m c) (funext fun a => Fin.ext ?_)
  match a with
  | ⟨0, _⟩ => show win0_1.index t 0 * 1024 + 1 * r.val = 1024 * t.val + r.val
              rw [(by decide +kernel : ∀ t : Fin grid0.N, win0_1.index t 0 = t.val) t]; omega
  | ⟨1, _⟩ => show win0_1.index t 1 * 512 + 1 * k.val = k.val
              rw [(by decide +kernel : ∀ t : Fin grid0.N, win0_1.index t 1 = 0) t]; omega

/-- Row `R`'s part of the gradient. -/
def term (c : Dev nD) (R : Fin 8192) (j : Fin 1) (a : Fin 512) (b : Fin 512) : EReal := part (fun k => A0 m c (ix2 R k)) (fun k => A1 m c (ix2 R k)) j a b

/-- What point `n` leaves: in the scratch, after the last point in the result. -/
def left (c : Dev nD) (j : Fin 1) (a : Fin 512) (b : Fin 512) (n : ℕ) (h : n < cfg0.N) : EReal :=
  if n = 7 then ((outsAt0 m c n h).1 : S1x512x512.Idx → EReal) (ix3 j a b) else ((outsAt0 m c n h).2 : S1x512x512.Idx → EReal) (ix3 j a b)

theorem step_A (c : Dev nD) (t : Fin cfg0.N) (h0 : t.val % 8 = 0) (h1 : ¬t.val % 8 = 7) (j : Fin 1) (a : Fin 512) (b : Fin 512) :
    ((outsAt0 m c t.val t.isLt).2 : S1x512x512.Idx → EReal) (ix3 j a b) = ∑ r : Fin 1024, term m c (Rows.row (N := 8) (T := 8192) rfl t r) j a b := by
  refine (congrFun (congrArg Prod.snd (outsAt0_A m c t h0 h1)) (ix3 j a b)).trans ?_
  dsimp only
  refine (scr_A c (grid0.coords t) (ms0_0 t) (hs0_0 t) (ms0_1 t) (hs0_1 t) (ms0_2 t) (hs0_2 t) scM0_0 (Memref.isWhole_whole _) ((hcond0_0 t).mpr h0) (fun h => h1 ((hcond0_1 t).mp h)) (iblk m c 0 t) (iblk m c 1 t) j a b).trans ?_
  unfold term
  simp only [blk0 m c t, blk1 m c t]

theorem step_B (c : Dev nD) (t : Fin cfg0.N) (h0 : ¬t.val % 8 = 0) (h1 : ¬t.val % 8 = 7) (j : Fin 1) (a : Fin 512) (b : Fin 512) :
    ((outsAt0 m c t.val t.isLt).2 : S1x512x512.Idx → EReal) (ix3 j a b) = ((outsAt0 m c (t.val - 1) (Nat.lt_of_le_of_lt (Nat.sub_le _ _) t.isLt)).2 : S1x512x512.Idx → EReal) (ix3 j a b) + ∑ r : Fin 1024, term m c (Rows.row (N := 8) (T := 8192) rfl t r) j a b := by
  refine (congrFun (congrArg Prod.snd (outsAt0_B m c t h0 h1)) (ix3 j a b)).trans ?_
  dsimp only
  refine (scr_B c (grid0.coords t) (ms0_0 t) (hs0_0 t) (ms0_1 t) (hs0_1 t) (ms0_2 t) (hs0_2 t) scM0_0 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2 j a b).trans ?_
  unfold term
  simp only [blk0 m c t, blk1 m c t]

theorem step_C (c : Dev nD) (t : Fin cfg0.N) (h0 : ¬t.val % 8 = 0) (h1 : t.val % 8 = 7) (j : Fin 1) (a : Fin 512) (b : Fin 512) :
    ((outsAt0 m c t.val t.isLt).1 : S1x512x512.Idx → EReal) (ix3 j a b) = ((outsAt0 m c (t.val - 1) (Nat.lt_of_le_of_lt (Nat.sub_le _ _) t.isLt)).2 : S1x512x512.Idx → EReal) (ix3 j a b) + ∑ r : Fin 1024, term m c (Rows.row (N := 8) (T := 8192) rfl t r) j a b := by
  refine (congrFun (congrArg Prod.fst (outsAt0_C m c t h0 h1)) (ix3 j a b)).trans ?_
  dsimp only
  refine (out_C c (grid0.coords t) (ms0_0 t) (hs0_0 t) (ms0_1 t) (hs0_1 t) (ms0_2 t) (hs0_2 t) scM0_0 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2 j a b).trans ?_
  unfold term
  simp only [blk0 m c t, blk1 m c t]

theorem left_zero (c : Dev nD) (j : Fin 1) (a : Fin 512) (b : Fin 512) (h : 0 < cfg0.N) : left m c j a b 0 h = ∑ r : Fin 1024, term m c (Rows.row (N := 8) (T := 8192) rfl ⟨0, h⟩ r) j a b :=
  (if_neg (by decide)).trans (step_A m c ⟨0, h⟩ rfl (by dsimp only; omega) j a b)

theorem left_succ (c : Dev nD) (j : Fin 1) (a : Fin 512) (b : Fin 512) (n : ℕ) (h : n + 1 < cfg0.N) :
    left m c j a b (n + 1) h = left m c j a b n (Nat.lt_of_succ_lt h) + ∑ r : Fin 1024, term m c (Rows.row (N := 8) (T := 8192) rfl ⟨n + 1, h⟩ r) j a b := by
  have hN : cfg0.N = 8 := N_0
  have e : left m c j a b n (Nat.lt_of_succ_lt h) = ((outsAt0 m c n (Nat.lt_of_succ_lt h)).2 : S1x512x512.Idx → EReal) (ix3 j a b) := if_neg (by omega)
  rw [e]
  by_cases hl : n + 1 = 7
  · exact (if_pos hl).trans (step_C m c ⟨n + 1, h⟩ (by dsimp only; omega) (by dsimp only; omega) j a b)
  · exact (if_neg hl).trans (step_B m c ⟨n + 1, h⟩ (by dsimp only; omega) (by dsimp only; omega) j a b)

/-- The result is the sum over the rows. -/
theorem result (c : Dev nD) (j : Fin 1) (a : Fin 512) (b : Fin 512) : (Value.G2 m c : S1x512x512.Idx → EReal) (ix3 j a b) = ∑ R : Fin 8192, term m c R j a b := by
  have hn : 7 < cfg0.N := by rw [show cfg0.N = 8 from N_0]; decide
  rw [Value.G2_last m c, ← Value.outsAt0_sweep m c 7 hn]
  rw [← Rows.sum_rows (N := 8) (B := 1024) rfl]
  refine Eq.trans (if_pos rfl).symm (Rows.chain_last (fun t : Fin 8 => ∑ r : Fin 1024, term m c (Rows.row rfl t r) j a b) (left m c j a b)
    (fun h => left_zero m c j a b h) (fun n h => left_succ m c j a b n h) 7 hn rfl)

end Cert.WgluIdeal.Body

end
-- ==== Proof.WgluClaim.lean ====
/- The claim on the call `wgrad_glu`: its result is the gradient by `w_glu`. -/
module

public import proofs.«01_k».proof.Defs
public import proofs.«01_k».proof.Proof.WgluValue
public import proofs.«01_k».proof.Proof.Gen.WgluRefIdeal
public import proofs.«01_k».proof.Proof.Gen.WgluRefIdeal.Run
public import proofs.«01_k».proof.Proof.Gen.WgluRefIdeal.Read

@[expose] public section

noncomputable section

open Idealize.ShloMosaic Idealize.ShloMosaic.TcCoe Idealize.SL.Sem Idealize.ShloMosaic.StableHlo

namespace Cert.WgluRef

open Cert.WgluRefIdeal Cert.WgluRefIdeal.Read Cert.WgluRefIdeal.Gen

theorem out0 (x0 : Vec Ideal S8192x512 .f32) (x2 : Vec Ideal S8192x512 .bf16) (j : Fin 1) (a : Fin 512) (b : Fin 512) :
    val_main_v18 (F := Ideal) x0 x2 (ix3 j a b) = ∑ R : Fin 8192, Cert.WgluIdeal.Body.part (fun k => x0 (ix2 R k)) (fun k => x2 (ix2 R k)) j a b := by
  rw [← val_main_v18_eq]
  pointwise [Cert.WgluIdeal.Body.part, Rows.gelu]
  exact Finset.sum_congr rfl fun x _ => (mul_comm _ _).trans (congrArg (fun s : EReal => s * _) (Rows.gelu_eq _ _))

end Cert.WgluRef

namespace Cert.WgluIdeal.Body

open Cert.WgluIdeal Cert.WgluIdeal.Gen

variable (m : (ℓ : Loc nD τ sig) → Buf (Elt Ideal) ℓ)

/-- Argument `0`. -/
abbrev x0 (c : Dev nD) : Vec Ideal S8192x512 .f32 := m ((c : Thread nD τ).loc main_arg0)

/-- Argument `2`. -/
abbrev x2 (c : Dev nD) : Vec Ideal S8192x512 .bf16 := m ((c : Thread nD τ).loc main_arg2)

theorem read0 (c : Dev nD) (R : Fin 8192) (k : Fin 512) : A0 m c (ix2 R k) = x0 m c (ix2 R k) := by
  exact congrFun (V_main_arg0 m c) _

theorem read1 (c : Dev nD) (R : Fin 8192) (k : Fin 512) : A1 m c (ix2 R k) = x2 m c (ix2 R k) := by
  exact congrFun (V_main_arg2 m c) _

theorem val (c : Dev nD) : Value.G2 m c = Cert.WgluRefIdeal.Read.val_main_v18 (F := Ideal) (x0 m c) (x2 m c) := by
  funext i
  obtain ⟨j, a, b, rfl⟩ : ∃ (j : Fin 1) (a : Fin 512) (b : Fin 512), i = ix3 j a b := ⟨i 0, i 1, i 2, eq_ix3 i⟩
  refine (result m c j a b).trans (Eq.trans ?_ (Cert.WgluRef.out0 (x0 m c) (x2 m c) j a b).symm)
  unfold term
  simp only [read0 m, read1 m]

theorem algebraic : Cert.algebraic_WgluIdeal_WgluRefIdeal := by
  intro m g m' g' hpre hag
  refine ⟨fun c => Value.G2 m c, ?_, ?_⟩
  · exact (θ_run defs _ _).mono (fun r h c => ⟨(h c).1, (h c).2⟩) (Value.run m g)
  · refine (θ_run Cert.WgluRefIdeal.defs _ _).mono (fun r h c => ⟨(h c).1.trans ?_, (h c).2⟩) (Cert.WgluRefIdeal.Value.run m' g')
    obtain ⟨h0, h1, h2⟩ := hag c
    refine (Cert.WgluRefIdeal.Read.val_main_v18_eq _ _).trans ?_
    rw [h0, h2]
    exact (val m c).symm

end Cert.WgluIdeal.Body

end
-- ==== Proof.WinValue.lean ====
/- The values of the call `wgrad_in`: the gradient by `w_in`. -/
module

public import proofs.«01_k».proof.Proof.Base
public import proofs.«01_k».proof.Proof.Forms
public import proofs.«01_k».proof.Proof.Slab
public import proofs.«01_k».proof.Proof.Gen.WinIdeal.Value

@[expose] public section

noncomputable section

open Idealize.ShloMosaic Idealize.ShloMosaic.TcCoe Idealize.SL.Sem Idealize.ShloMosaic.StableHlo
open Idealize.ShloMosaic.Pipeline (Dat)

namespace Cert.WinIdeal.Body

open Cert.WinIdeal Cert.WinIdeal.Gen

/-- The four gradients of the projections side by side. -/
def cat (p0 p1 p2 p3 : Fin 512 → EReal) (k : Fin 2048) : EReal :=
  if h : k.val < 512 then p0 ⟨k.val, h⟩ else if h : k.val - 512 < 512 then p1 ⟨k.val - 512, h⟩
  else if h : k.val - 512 - 512 < 512 then p2 ⟨k.val - 512 - 512, h⟩ else p3 ⟨k.val - 512 - 512 - 512, by omega⟩

theorem cat_first (p0 p1 p2 p3 : Fin 512 → EReal) (x : Fin 256) : cat p0 p1 p2 p3 (Rows.row (N := 8) (T := 2048) rfl ⟨0, by decide⟩ x) = p0 ⟨x.val, by omega⟩ := by
  have hx := x.isLt
  unfold cat
  rw [dif_pos (by show 256 * 0 + x.val < 512; omega)]
  exact congrArg p0 (Fin.ext (by show 256 * 0 + x.val = x.val; omega))

theorem cat_mid (p0 p1 p2 p3 : Fin 512 → EReal) (x : Fin 256) : cat p0 p1 p2 p3 (Rows.row (N := 8) (T := 2048) rfl ⟨2, by decide⟩ x) = p1 ⟨x.val, by omega⟩ := by
  have hx := x.isLt
  unfold cat
  rw [dif_neg (by show ¬ 256 * 2 + x.val < 512; omega), dif_pos (by show 256 * 2 + x.val - 512 < 512; omega)]
  exact congrArg p1 (Fin.ext (by show 256 * 2 + x.val - 512 = x.val; omega))

/-- A row's part of the gradient. -/
def part (x : Fin 1024 → EReal) (d1 d2 d3 d4 : Fin 512 → EReal) (j : Fin 8) (a : Fin 1024) (b : Fin 256) : EReal :=
  x a * cat d1 d2 d3 d4 (Rows.row (N := 8) (B := 256) (T := 2048) rfl j b)

/-- The first point leaves the sum over its rows. -/
theorem scr_A (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x512 .bf16) (h4 : a4.IsWhole) (a5 : Memref sig .tc .vmem S1024x512 .bf16) (h5 : a5.IsWhole) (a6 : Memref sig .tc .vmem S8x1024x256 .bf16) (h6 : a6.IsWhole) (a7 : Memref sig .tc .vmem S8x1024x256 .f32) (h7 : a7.IsWhole) (hc0 : cond0_0 i) (hc1 : ¬cond0_1 i)
    (x0 : Vec Ideal S1024x1024 .f32) (x1 : Vec Ideal S1024x512 .bf16) (x2 : Vec Ideal S1024x512 .bf16) (x3 : Vec Ideal S1024x512 .bf16) (x4 : Vec Ideal S1024x512 .bf16) (j : Fin 8) (a : Fin 1024) (b : Fin 256) :
    sout0_A_0 c i a1 h1 a2 h2 a3 h3 a4 h4 a5 h5 a6 h6 a7 h7 hc0 hc1 x0 x1 x2 x3 x4 (ix3 j a b) = ∑ r : Fin 1024, part (fun k => x0 (ix2 r k)) (fun k => x1 (ix2 r k)) (fun k => x2 (ix2 r k)) (fun k => x3 (ix2 r k)) (fun k => x4 (ix2 r k)) j a b := by
  unfold sout0_A_0
  rw [View.read_writes_eq_canon _ _ _ (scover0_A_0 c i a1 h1 a2 h2 a3 h3 a4 h4 a5 h5 a6 h6 a7 h7 hc0 hc1 x0 x1 x2 x3 x4)]
  unfold kernelRun0_A
  dsimp only
  sl_unfold_words
  simp only [View.readAt_eq_ld, h1.read_unread, h2.read_unread, h3.read_unread, h4.read_unread, h5.read_unread, View.ld_unit_zero (S := S1024x1024) Rows.hz2, View.ld_unit_zero (S := S1024x512) Rows.hz2]
  obtain ⟨n, hj⟩ := j
  interval_cases n
  all_goals
    repeat refine (Rows.slab_miss _ _ _ _ _ _ _ (by dsimp only; omega)).trans ?_
    refine (Rows.slab_hit _ hj _ _ _ a b).trans ?_
    generalize hy : View.readCov (Val := Elt Ideal) _ _ (Rect.unit (s := S8x1024x256) _ ![1, 1024, 256] _).toLoadRect = y
    suffices e : y (ix3 0 a b) = 0 by
      refine Eq.trans (?_ : _ = y (ix3 0 a b) + ∑ r : Fin 1024, part (fun k => x0 (ix2 r k)) (fun k => x1 (ix2 r k)) (fun k => x2 (ix2 r k)) (fun k => x3 (ix2 r k)) (fun k => x4 (ix2 r k)) ⟨_, hj⟩ a b) (by rw [e, zero_add])
      pointwise [k0_pay1, k0_pay2, k0_pay5, k0_pay6, k0_pay7, k0_pay8, k0_pay9, k0_pay10, k0_pay11, k0_pay12, k0_pay13, part]
      refine congrArg (fun s : EReal => y _ + s) (Finset.sum_congr rfl fun x _ => congrArg (fun s : EReal => x0 (ix2 x a) * s) ?_)
      have hb := b.isLt
      first
      | rfl
      | exact congrArg (cat (fun k => x1 (ix2 x k)) (fun k => x2 (ix2 x k)) (fun k => x3 (ix2 x k)) (fun k => x4 (ix2 x k))) (Fin.ext (show b.val = 256 * 0 + b.val by omega))
      | exact (dif_pos (by omega)).trans (cat_first (fun k => x1 (ix2 x k)) (fun k => x2 (ix2 x k)) (fun k => x3 (ix2 x k)) (fun k => x4 (ix2 x k)) b).symm
      | exact (dif_pos (by omega)).trans (cat_mid (fun k => x1 (ix2 x k)) (fun k => x2 (ix2 x k)) (fun k => x3 (ix2 x k)) (fun k => x4 (ix2 x k)) b).symm
    rw [← hy]
    refine (Rows.slab_read _ _ _ hj _ a b).trans ?_
  on_goal 2 => refine (Rows.slab_miss _ _ _ _ _ _ _ (by dsimp only; omega)).trans ?_
  on_goal 3 => iterate 2 refine (Rows.slab_miss _ _ _ _ _ _ _ (by dsimp only; omega)).trans ?_
  on_goal 4 => iterate 3 refine (Rows.slab_miss _ _ _ _ _ _ _ (by dsimp only; omega)).trans ?_
  on_goal 5 => iterate 4 refine (Rows.slab_miss _ _ _ _ _ _ _ (by dsimp only; omega)).trans ?_
  on_goal 6 => iterate 5 refine (Rows.slab_miss _ _ _ _ _ _ _ (by dsimp only; omega)).trans ?_
  on_goal 7 => iterate 6 refine (Rows.slab_miss _ _ _ _ _ _ _ (by dsimp only; omega)).trans ?_
  on_goal 8 => iterate 7 refine (Rows.slab_miss _ _ _ _ _ _ _ (by dsimp only; omega)).trans ?_
  all_goals
    rw [View.canon_unit_zero Rows.hz3]
    pointwise [k0_pay4]

/-- A later point adds the sum over its rows. -/
theorem scr_B (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x512 .bf16) (h4 : a4.IsWhole) (a5 : Memref sig .tc .vmem S1024x512 .bf16) (h5 : a5.IsWhole) (a6 : Memref sig .tc .vmem S8x1024x256 .bf16) (h6 : a6.IsWhole) (a7 : Memref sig .tc .vmem S8x1024x256 .f32) (h7 : a7.IsWhole) (hc0 : ¬cond0_0 i) (hc1 : ¬cond0_1 i)
    (x0 : Vec Ideal S1024x1024 .f32) (x1 : Vec Ideal S1024x512 .bf16) (x2 : Vec Ideal S1024x512 .bf16) (x3 : Vec Ideal S1024x512 .bf16) (x4 : Vec Ideal S1024x512 .bf16) (y : Vec Ideal S8x1024x256 .f32) (j : Fin 8) (a : Fin 1024) (b : Fin 256) :
    sout0_B_0 c i a1 h1 a2 h2 a3 h3 a4 h4 a5 h5 a6 h6 a7 h7 hc0 hc1 x0 x1 x2 x3 x4 y (ix3 j a b) = y (ix3 j a b) + ∑ r : Fin 1024, part (fun k => x0 (ix2 r k)) (fun k => x1 (ix2 r k)) (fun k => x2 (ix2 r k)) (fun k => x3 (ix2 r k)) (fun k => x4 (ix2 r k)) j a b := by
  unfold sout0_B_0
  rw [View.read_writes_eq_canon _ _ _ (scover0_B_0 c i a1 h1 a2 h2 a3 h3 a4 h4 a5 h5 a6 h6 a7 h7 hc0 hc1 x0 x1 x2 x3 x4 y)]
  unfold kernelRun0_B
  dsimp only
  sl_unfold_words
  simp only [View.readAt_eq_ld, h1.read_unread, h2.read_unread, h3.read_unread, h4.read_unread, h5.read_unread, h7.read_unread, View.ld_unit_zero (S := S1024x1024) Rows.hz2, View.ld_unit_zero (S := S1024x512) Rows.hz2]
  obtain ⟨n, hj⟩ := j
  interval_cases n
  all_goals
    repeat refine (Rows.slab_miss _ _ _ _ _ _ _ (by dsimp only; omega)).trans ?_
    refine (Rows.slab_hit _ hj _ _ _ a b).trans ?_
    pointwise [k0_pay1, k0_pay2, k0_pay5, k0_pay6, k0_pay7, k0_pay8, k0_pay9, k0_pay10, k0_pay11, k0_pay12, k0_pay13, part]
    refine congrArg (fun s : EReal => y _ + s) (Finset.sum_congr rfl fun x _ => congrArg (fun s : EReal => x0 (ix2 x a) * s) ?_)
    have hb := b.isLt
    first
    | rfl
    | exact congrArg (cat (fun k => x1 (ix2 x k)) (fun k => x2 (ix2 x k)) (fun k => x3 (ix2 x k)) (fun k => x4 (ix2 x k))) (Fin.ext (show b.val = 256 * 0 + b.val by omega))
    | exact (dif_pos (by omega)).trans (cat_first (fun k => x1 (ix2 x k)) (fun k => x2 (ix2 x k)) (fun k => x3 (ix2 x k)) (fun k => x4 (ix2 x k)) b).symm
    | exact (dif_pos (by omega)).trans (cat_mid (fun k => x1 (ix2 x k)) (fun k => x2 (ix2 x k)) (fun k => x3 (ix2 x k)) (fun k => x4 (ix2 x k)) b).symm

/-- The last point writes what it leaves. -/
theorem out_C (c : Dev nD) (i : grid0.Coords) (a1 : Memref sig .tc .vmem S1024x1024 .f32) (h1 : a1.IsWhole) (a2 : Memref sig .tc .vmem S1024x512 .bf16) (h2 : a2.IsWhole) (a3 : Memref sig .tc .vmem S1024x512 .bf16) (h3 : a3.IsWhole) (a4 : Memref sig .tc .vmem S1024x512 .bf16) (h4 : a4.IsWhole) (a5 : Memref sig .tc .vmem S1024x512 .bf16) (h5 : a5.IsWhole) (a6 : Memref sig .tc .vmem S8x1024x256 .bf16) (h6 : a6.IsWhole) (a7 : Memref sig .tc .vmem S8x1024x256 .f32) (h7 : a7.IsWhole) (hc0 : ¬cond0_0 i) (hc1 : cond0_1 i)
    (x0 : Vec Ideal S1024x1024 .f32) (x1 : Vec Ideal S1024x512 .bf16) (x2 : Vec Ideal S1024x512 .bf16) (x3 : Vec Ideal S1024x512 .bf16) (x4 : Vec Ideal S1024x512 .bf16) (y : Vec Ideal S8x1024x256 .f32) (j : Fin 8) (a : Fin 1024) (b : Fin 256) :
    out0_C_5 c i a1 h1 a2 h2 a3 h3 a4 h4 a5 h5 a6 h6 a7 h7 hc0 hc1 x0 x1 x2 x3 x4 y (ix3 j a b) = y (ix3 j a b) + ∑ r : Fin 1024, part (fun k => x0 (ix2 r k)) (fun k => x1 (ix2 r k)) (fun k => x2 (ix2 r k)) (fun k => x3 (ix2 r k)) (fun k => x4 (ix2 r k)) j a b := by
  unfold out0_C_5
  rw [View.read_writes_eq_canon _ _ _ (cover0_C_5 c i a1 h1 a2 h2 a3 h3 a4 h4 a5 h5 a6 h6 a7 h7 hc0 hc1 x0 x1 x2 x3 x4 y)]
  unfold kernelRun0_C
  dsimp only
  sl_unfold_words
  simp only [View.readAt_eq_ld, h1.read_unread, h2.read_unread, h3.read_unread, h4.read_unread, h5.read_unread, h7.read_unread, View.ld_unit_zero (S := S1024x1024) Rows.hz2, View.ld_unit_zero (S := S1024x512) Rows.hz2]
  rw [View.canon_unit_zero Rows.hz3]
  generalize hz : View.readCov (Val := Elt Ideal) (s := S8x1024x256) (e := .f32) _ _ _ = z
  refine Eq.trans (?_ : _ = z (ix3 j a b)) ?_
  · pointwise [k0_pay3]
  rw [← hz]
  refine (Rows.whole_read _ _ _ j a b).trans ?_
  obtain ⟨n, hj⟩ := j
  interval_cases n
  all_goals
    repeat refine (Rows.slab_miss _ _ _ _ _ _ _ (by dsimp only; omega)).trans ?_
    refine (Rows.slab_hit _ hj _ _ _ a b).trans ?_
    pointwise [k0_pay1, k0_pay2, k0_pay5, k0_pay6, k0_pay7, k0_pay8, k0_pay9, k0_pay10, k0_pay11, k0_pay12, k0_pay13, part]
    refine congrArg (fun s : EReal => y _ + s) (Finset.sum_congr rfl fun x _ => congrArg (fun s : EReal => x0 (ix2 x a) * s) ?_)
    have hb := b.isLt
    first
    | rfl
    | exact congrArg (cat (fun k => x1 (ix2 x k)) (fun k => x2 (ix2 x k)) (fun k => x3 (ix2 x k)) (fun k => x4 (ix2 x k))) (Fin.ext (show b.val = 256 * 0 + b.val by omega))
    | exact (dif_pos (by omega)).trans (cat_first (fun k => x1 (ix2 x k)) (fun k => x2 (ix2 x k)) (fun k => x3 (ix2 x k)) (fun k => x4 (ix2 x k)) b).symm
    | exact (dif_pos (by omega)).trans (cat_mid (fun k => x1 (ix2 x k)) (fun k => x2 (ix2 x k)) (fun k => x3 (ix2 x k)) (fun k => x4 (ix2 x k)) b).symm

variable (m : (ℓ : Loc nD τ sig) → Buf (Elt Ideal) ℓ)

/-- Array `0` the call is given. -/
abbrev A0 (c : Dev nD) : S8192x1024.Idx → EReal := V m c main_arg0

/-- Array `1` the call is given. -/
abbrev A1 (c : Dev nD) : S8192x512.Idx → EReal := V m c main_arg2

/-- Array `2` the call is given. -/
abbrev A2 (c : Dev nD) : S8192x512.Idx → EReal := V m c main_arg3

/-- Array `3` the call is given. -/
abbrev A3 (c : Dev nD) : S8192x512.Idx → EReal := V m c main_arg4

/-- Array `4` the call is given. -/
abbrev A4 (c : Dev nD) : S8192x512.Idx → EReal := V m c main_arg5

theorem blk0 (c : Dev nD) (t : Fin cfg0.N) (r : Fin 1024) (k : Fin 1024) :
    (iblk m c 0 t : S1024x1024.Idx → EReal) (ix2 r k) = A0 m c (ix2 (Rows.row (T := 8192) rfl t r) k) := by
  unfold iblk; rw [View.read_apply]
  show (V m c main_arg0 : S8192x1024.Idx → EReal) _ = _
  refine congrArg (A0 m c) (funext fun a => Fin.ext ?_)
  match a with
  | ⟨0, _⟩ => show win0_0.index t 0 * 1024 + 1 * r.val = 1024 * t.val + r.val
              rw [(by decide +kernel : ∀ t : Fin grid0.N, win0_0.index t 0 = t.val) t]; omega
  | ⟨1, _⟩ => show win0_0.index t 1 * 1024 + 1 * k.val = k.val
              rw [(by decide +kernel : ∀ t : Fin grid0.N, win0_0.index t 1 = 0) t]; omega

theorem blk1 (c : Dev nD) (t : Fin cfg0.N) (r : Fin 1024) (k : Fin 512) :
    (iblk m c 1 t : S1024x512.Idx → EReal) (ix2 r k) = A1 m c (ix2 (Rows.row (T := 8192) rfl t r) k) := by
  unfold iblk; rw [View.read_apply]
  show (V m c main_arg2 : S8192x512.Idx → EReal) _ = _
  refine congrArg (A1 m c) (funext fun a => Fin.ext ?_)
  match a with
  | ⟨0, _⟩ => show win0_1.index t 0 * 1024 + 1 * r.val = 1024 * t.val + r.val
              rw [(by decide +kernel : ∀ t : Fin grid0.N, win0_1.index t 0 = t.val) t]; omega
  | ⟨1, _⟩ => show win0_1.index t 1 * 512 + 1 * k.val = k.val
              rw [(by decide +kernel : ∀ t : Fin grid0.N, win0_1.index t 1 = 0) t]; omega

theorem blk2 (c : Dev nD) (t : Fin cfg0.N) (r : Fin 1024) (k : Fin 512) :
    (iblk m c 2 t : S1024x512.Idx → EReal) (ix2 r k) = A2 m c (ix2 (Rows.row (T := 8192) rfl t r) k) := by
  unfold iblk; rw [View.read_apply]
  show (V m c main_arg3 : S8192x512.Idx → EReal) _ = _
  refine congrArg (A2 m c) (funext fun a => Fin.ext ?_)
  match a with
  | ⟨0, _⟩ => show win0_2.index t 0 * 1024 + 1 * r.val = 1024 * t.val + r.val
              rw [(by decide +kernel : ∀ t : Fin grid0.N, win0_2.index t 0 = t.val) t]; omega
  | ⟨1, _⟩ => show win0_2.index t 1 * 512 + 1 * k.val = k.val
              rw [(by decide +kernel : ∀ t : Fin grid0.N, win0_2.index t 1 = 0) t]; omega

theorem blk3 (c : Dev nD) (t : Fin cfg0.N) (r : Fin 1024) (k : Fin 512) :
    (iblk m c 3 t : S1024x512.Idx → EReal) (ix2 r k) = A3 m c (ix2 (Rows.row (T := 8192) rfl t r) k) := by
  unfold iblk; rw [View.read_apply]
  show (V m c main_arg4 : S8192x512.Idx → EReal) _ = _
  refine congrArg (A3 m c) (funext fun a => Fin.ext ?_)
  match a with
  | ⟨0, _⟩ => show win0_3.index t 0 * 1024 + 1 * r.val = 1024 * t.val + r.val
              rw [(by decide +kernel : ∀ t : Fin grid0.N, win0_3.index t 0 = t.val) t]; omega
  | ⟨1, _⟩ => show win0_3.index t 1 * 512 + 1 * k.val = k.val
              rw [(by decide +kernel : ∀ t : Fin grid0.N, win0_3.index t 1 = 0) t]; omega

theorem blk4 (c : Dev nD) (t : Fin cfg0.N) (r : Fin 1024) (k : Fin 512) :
    (iblk m c 4 t : S1024x512.Idx → EReal) (ix2 r k) = A4 m c (ix2 (Rows.row (T := 8192) rfl t r) k) := by
  unfold iblk; rw [View.read_apply]
  show (V m c main_arg5 : S8192x512.Idx → EReal) _ = _
  refine congrArg (A4 m c) (funext fun a => Fin.ext ?_)
  match a with
  | ⟨0, _⟩ => show win0_4.index t 0 * 1024 + 1 * r.val = 1024 * t.val + r.val
              rw [(by decide +kernel : ∀ t : Fin grid0.N, win0_4.index t 0 = t.val) t]; omega
  | ⟨1, _⟩ => show win0_4.index t 1 * 512 + 1 * k.val = k.val
              rw [(by decide +kernel : ∀ t : Fin grid0.N, win0_4.index t 1 = 0) t]; omega

/-- Row `R`'s part of the gradient. -/
def term (c : Dev nD) (R : Fin 8192) (j : Fin 8) (a : Fin 1024) (b : Fin 256) : EReal := part (fun k => A0 m c (ix2 R k)) (fun k => A1 m c (ix2 R k)) (fun k => A2 m c (ix2 R k)) (fun k => A3 m c (ix2 R k)) (fun k => A4 m c (ix2 R k)) j a b

/-- What point `n` leaves: in the scratch, after the last point in the result. -/
def left (c : Dev nD) (j : Fin 8) (a : Fin 1024) (b : Fin 256) (n : ℕ) (h : n < cfg0.N) : EReal :=
  if n = 7 then ((outsAt0 m c n h).1 : S8x1024x256.Idx → EReal) (ix3 j a b) else ((outsAt0 m c n h).2 : S8x1024x256.Idx → EReal) (ix3 j a b)

theorem step_A (c : Dev nD) (t : Fin cfg0.N) (h0 : t.val % 8 = 0) (h1 : ¬t.val % 8 = 7) (j : Fin 8) (a : Fin 1024) (b : Fin 256) :
    ((outsAt0 m c t.val t.isLt).2 : S8x1024x256.Idx → EReal) (ix3 j a b) = ∑ r : Fin 1024, term m c (Rows.row (N := 8) (T := 8192) rfl t r) j a b := by
  refine (congrFun (congrArg Prod.snd (outsAt0_A m c t h0 h1)) (ix3 j a b)).trans ?_
  dsimp only
  refine (scr_A c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) ((hcond0_0 t).mpr h0) (fun h => h1 ((hcond0_1 t).mp h)) (iblk m c 0 t) (iblk m c 1 t) (iblk m c 2 t) (iblk m c 3 t) (iblk m c 4 t) j a b).trans ?_
  unfold term
  simp only [blk0 m c t, blk1 m c t, blk2 m c t, blk3 m c t, blk4 m c t]

theorem step_B (c : Dev nD) (t : Fin cfg0.N) (h0 : ¬t.val % 8 = 0) (h1 : ¬t.val % 8 = 7) (j : Fin 8) (a : Fin 1024) (b : Fin 256) :
    ((outsAt0 m c t.val t.isLt).2 : S8x1024x256.Idx → EReal) (ix3 j a b) = ((outsAt0 m c (t.val - 1) (Nat.lt_of_le_of_lt (Nat.sub_le _ _) t.isLt)).2 : S8x1024x256.Idx → EReal) (ix3 j a b) + ∑ r : Fin 1024, term m c (Rows.row (N := 8) (T := 8192) rfl t r) j a b := by
  refine (congrFun (congrArg Prod.snd (outsAt0_B m c t h0 h1)) (ix3 j a b)).trans ?_
  dsimp only
  refine (scr_B c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (outsAt0 m c (t.val - 1) (Nat.lt_of_le_of_lt (Nat.sub_le _ _) t.isLt)).2 j a b).trans ?_
  unfold term
  simp only [blk0 m c t, blk1 m c t, blk2 m c t, blk3 m c t, blk4 m c t]

theorem step_C (c : Dev nD) (t : Fin cfg0.N) (h0 : ¬t.val % 8 = 0) (h1 : t.val % 8 = 7) (j : Fin 8) (a : Fin 1024) (b : Fin 256) :
    ((outsAt0 m c t.val t.isLt).1 : S8x1024x256.Idx → EReal) (ix3 j a b) = ((outsAt0 m c (t.val - 1) (Nat.lt_of_le_of_lt (Nat.sub_le _ _) t.isLt)).2 : S8x1024x256.Idx → EReal) (ix3 j a b) + ∑ r : Fin 1024, term m c (Rows.row (N := 8) (T := 8192) rfl t r) j a b := by
  refine (congrFun (congrArg Prod.fst (outsAt0_C m c t h0 h1)) (ix3 j a b)).trans ?_
  dsimp only
  refine (out_C c (grid0.coords t) (ms0_0 t) (hs0_0 t) (ms0_1 t) (hs0_1 t) (ms0_2 t) (hs0_2 t) (ms0_3 t) (hs0_3 t) (ms0_4 t) (hs0_4 t) (ms0_5 t) (hs0_5 t) scM0_0 (Memref.isWhole_whole _) (fun h => h0 ((hcond0_0 t).mp h)) ((hcond0_1 t).mpr h1) (iblk m c 0 t) (iblk m c 1 t) (iblk m c 2 t) (iblk m c 3 t) (iblk m c 4 t) (outsAt0 m c (t.val - 1) (Nat.lt_of_le_of_lt (Nat.sub_le _ _) t.isLt)).2 j a b).trans ?_
  unfold term
  simp only [blk0 m c t, blk1 m c t, blk2 m c t, blk3 m c t, blk4 m c t]

theorem left_zero (c : Dev nD) (j : Fin 8) (a : Fin 1024) (b : Fin 256) (h : 0 < cfg0.N) : left m c j a b 0 h = ∑ r : Fin 1024, term m c (Rows.row (N := 8) (T := 8192) rfl ⟨0, h⟩ r) j a b :=
  (if_neg (by decide)).trans (step_A m c ⟨0, h⟩ rfl (by dsimp only; omega) j a b)

theorem left_succ (c : Dev nD) (j : Fin 8) (a : Fin 1024) (b : Fin 256) (n : ℕ) (h : n + 1 < cfg0.N) :
    left m c j a b (n + 1) h = left m c j a b n (Nat.lt_of_succ_lt h) + ∑ r : Fin 1024, term m c (Rows.row (N := 8) (T := 8192) rfl ⟨n + 1, h⟩ r) j a b := by
  have hN : cfg0.N = 8 := N_0
  have e : left m c j a b n (Nat.lt_of_succ_lt h) = ((outsAt0 m c n (Nat.lt_of_succ_lt h)).2 : S8x1024x256.Idx → EReal) (ix3 j a b) := if_neg (by omega)
  rw [e]
  by_cases hl : n + 1 = 7
  · exact (if_pos hl).trans (step_C m c ⟨n + 1, h⟩ (by dsimp only; omega) (by dsimp only; omega) j a b)
  · exact (if_neg hl).trans (step_B m c ⟨n + 1, h⟩ (by dsimp only; omega) (by dsimp only; omega) j a b)

/-- The result is the sum over the rows. -/
theorem result (c : Dev nD) (j : Fin 8) (a : Fin 1024) (b : Fin 256) : (Value.G5 m c : S8x1024x256.Idx → EReal) (ix3 j a b) = ∑ R : Fin 8192, term m c R j a b := by
  have hn : 7 < cfg0.N := by rw [show cfg0.N = 8 from N_0]; decide
  rw [Value.G5_last m c, ← Value.outsAt0_sweep m c 7 hn]
  rw [← Rows.sum_rows (N := 8) (B := 1024) rfl]
  refine Eq.trans (if_pos rfl).symm (Rows.chain_last (fun t : Fin 8 => ∑ r : Fin 1024, term m c (Rows.row rfl t r) j a b) (left m c j a b)
    (fun h => left_zero m c j a b h) (fun n h => left_succ m c j a b n h) 7 hn rfl)

end Cert.WinIdeal.Body

end
-- ==== Proof.WinClaim.lean ====
/- The claim on the call `wgrad_in`: its result is the gradient by `w_in`. -/
module

public import proofs.«01_k».proof.Defs
public import proofs.«01_k».proof.Proof.WinValue
public import proofs.«01_k».proof.Proof.Gen.WinRefIdeal
public import proofs.«01_k».proof.Proof.Gen.WinRefIdeal.Run
public import proofs.«01_k».proof.Proof.Gen.WinRefIdeal.Read

@[expose] public section

noncomputable section

open Idealize.ShloMosaic Idealize.ShloMosaic.TcCoe Idealize.SL.Sem Idealize.ShloMosaic.StableHlo

namespace Cert.WinRef

open Cert.WinRefIdeal Cert.WinRefIdeal.Read Cert.WinRefIdeal.Gen

theorem out0 (x0 : Vec Ideal S8192x1024 .f32) (x2 : Vec Ideal S8192x512 .bf16) (x3 : Vec Ideal S8192x512 .bf16) (x4 : Vec Ideal S8192x512 .bf16) (x5 : Vec Ideal S8192x512 .bf16) (j : Fin 8) (a : Fin 1024) (b : Fin 256) :
    val_main_v7 (F := Ideal) x0 x2 x3 x4 x5 (ix3 j a b) = ∑ R : Fin 8192, Cert.WinIdeal.Body.part (fun k => x0 (ix2 R k)) (fun k => x2 (ix2 R k)) (fun k => x3 (ix2 R k)) (fun k => x4 (ix2 R k)) (fun k => x5 (ix2 R k)) j a b := by
  rw [← val_main_v7_eq]
  pointwise [Cert.WinIdeal.Body.part]
  refine Finset.sum_congr rfl fun x _ => (mul_comm _ _).trans (congrArg (fun s : EReal => _ * s) ?_)
  have e : (⟨256 * j.val + b.val, by have := j.isLt; have := b.isLt; omega⟩ : Fin 2048) = ⟨j.val * 256 + b.val, by have := j.isLt; have := b.isLt; omega⟩ := Fin.ext (by dsimp only; omega)
  exact (congrArg (Cert.WinIdeal.Body.cat (fun k => x2 (ix2 x k)) (fun k => x3 (ix2 x k)) (fun k => x4 (ix2 x k)) (fun k => x5 (ix2 x k))) e).symm

end Cert.WinRef

namespace Cert.WinIdeal.Body

open Cert.WinIdeal Cert.WinIdeal.Gen

variable (m : (ℓ : Loc nD τ sig) → Buf (Elt Ideal) ℓ)

/-- Argument `0`. -/
abbrev x0 (c : Dev nD) : Vec Ideal S8192x1024 .f32 := m ((c : Thread nD τ).loc main_arg0)

/-- Argument `2`. -/
abbrev x2 (c : Dev nD) : Vec Ideal S8192x512 .bf16 := m ((c : Thread nD τ).loc main_arg2)

/-- Argument `3`. -/
abbrev x3 (c : Dev nD) : Vec Ideal S8192x512 .bf16 := m ((c : Thread nD τ).loc main_arg3)

/-- Argument `4`. -/
abbrev x4 (c : Dev nD) : Vec Ideal S8192x512 .bf16 := m ((c : Thread nD τ).loc main_arg4)

/-- Argument `5`. -/
abbrev x5 (c : Dev nD) : Vec Ideal S8192x512 .bf16 := m ((c : Thread nD τ).loc main_arg5)

theorem read0 (c : Dev nD) (R : Fin 8192) (k : Fin 1024) : A0 m c (ix2 R k) = x0 m c (ix2 R k) := by
  exact congrFun (V_main_arg0 m c) _

theorem read1 (c : Dev nD) (R : Fin 8192) (k : Fin 512) : A1 m c (ix2 R k) = x2 m c (ix2 R k) := by
  exact congrFun (V_main_arg2 m c) _

theorem read2 (c : Dev nD) (R : Fin 8192) (k : Fin 512) : A2 m c (ix2 R k) = x3 m c (ix2 R k) := by
  exact congrFun (V_main_arg3 m c) _

theorem read3 (c : Dev nD) (R : Fin 8192) (k : Fin 512) : A3 m c (ix2 R k) = x4 m c (ix2 R k) := by
  exact congrFun (V_main_arg4 m c) _

theorem read4 (c : Dev nD) (R : Fin 8192) (k : Fin 512) : A4 m c (ix2 R k) = x5 m c (ix2 R k) := by
  exact congrFun (V_main_arg5 m c) _

theorem val (c : Dev nD) : Value.G5 m c = Cert.WinRefIdeal.Read.val_main_v7 (F := Ideal) (x0 m c) (x2 m c) (x3 m c) (x4 m c) (x5 m c) := by
  funext i
  obtain ⟨j, a, b, rfl⟩ : ∃ (j : Fin 8) (a : Fin 1024) (b : Fin 256), i = ix3 j a b := ⟨i 0, i 1, i 2, eq_ix3 i⟩
  refine (result m c j a b).trans (Eq.trans ?_ (Cert.WinRef.out0 (x0 m c) (x2 m c) (x3 m c) (x4 m c) (x5 m c) j a b).symm)
  unfold term
  simp only [read0 m, read1 m, read2 m, read3 m, read4 m]

theorem algebraic : Cert.algebraic_WinIdeal_WinRefIdeal := by
  intro m g m' g' hpre hag
  refine ⟨fun c => Value.G5 m c, ?_, ?_⟩
  · exact (θ_run defs _ _).mono (fun r h c => ⟨(h c).1, (h c).2⟩) (Value.run m g)
  · refine (θ_run Cert.WinRefIdeal.defs _ _).mono (fun r h c => ⟨(h c).1.trans ?_, (h c).2⟩) (Cert.WinRefIdeal.Value.run m' g')
    obtain ⟨h0, h1, h2, h3, h4, h5⟩ := hag c
    refine (Cert.WinRefIdeal.Read.val_main_v7_eq _ _ _ _ _).trans ?_
    rw [h0, h2, h3, h4, h5]
    exact (val m c).symm

end Cert.WinIdeal.Body

end
-- ==== Proof.Adam.lean ====
/- One step of the optimiser on one weight, and the sum of the parts of a gradient. -/
module

public import Idealize.ShloMosaic.Lib.Pipeline.Value
public import Idealize.ShloMosaic.Lib.Pointwise
public import Idealize.ShloMosaic.Lib.Tactic

@[expose] public section

noncomputable section

open Idealize.ShloMosaic Idealize.ShloMosaic.TcCoe

namespace Rows

/-- The new first moment: `0.9 m + 0.1 g`. -/
def newM (g m : EReal) : EReal := Ideal.ofBits .f32 0x3F666666#32 * m + Ideal.ofBits .f32 0x3DCCCCCD#32 * g

/-- The new second moment: `0.999 v + 0.001 g²`. -/
def newV (g v : EReal) : EReal := Ideal.ofBits .f32 0x3F7FBE77#32 * v + Ideal.ofBits .f32 0x3A83126F#32 * (g * g)

/-- The step: minus the rate times the corrected first moment over the root of the corrected second one, and the decay of the weight. -/
def stepD (g w m v : EReal) : EReal :=
  Ideal.ofBits .f32 0xBA83126F#32 *
    (Ideal.div (Ideal.div (newM g m) (Ideal.ofBits .f32 0x3F26BD02#32))
        (Ideal.sqrt (Ideal.div (newV g v) (Ideal.ofBits .f32 0x3C231ACC#32)) + Ideal.ofBits .f32 0x322BCC77#32)
      + Ideal.ofBits .f32 0x3C23D70A#32 * w)

/-- The sum of the eight parts of a gradient. -/
def sum8 (p : Fin 8 → EReal) : EReal := ∑ k, p k

theorem sum8_eq (p : Fin 8 → EReal) : sum8 p = p 0 + p 1 + p 2 + p 3 + p 4 + p 5 + p 6 + p 7 := Fin.sum_univ_eight p

end Rows

end
-- ==== Proof.AwinValue.lean ====
/- The values of the optimiser's call on the input weights of the state space layer. -/
module

public import proofs.«01_k».proof.Proof.Base
public import proofs.«01_k».proof.Proof.Adam
public import proofs.«01_k».proof.Proof.Gen.AwinIdeal.Value

@[expose] public section

noncomputable section

open Idealize.ShloMosaic Idealize.ShloMosaic.TcCoe Idealize.SL.Sem Idealize.ShloMosaic.StableHlo
open Idealize.ShloMosaic.Pipeline (Dat)

namespace Cert.AwinIdeal.Body

open Cert.AwinIdeal Cert.AwinIdeal.Gen

theorem hz : (![0, 0, 0] : Fin 3 → Nat) = fun _ => 0 := Rows.hz3

/-- Row `a` of the block at point `t`. -/
abbrev at_ (t : Fin cfg0.N) (a : Fin 256) : Fin 1024 := Rows.row (T := 1024) rfl t a

variable (m : (ℓ : Loc nD τ sig) → Buf (Elt Ideal) ℓ)

/-- The parts of the gradient. -/
abbrev A0 (c : Dev nD) : S8x1024x256.Idx → EReal := V m c main_arg0

/-- The weight. -/
abbrev A1 (c : Dev nD) : S4x1024x256.Idx → EReal := V m c main_arg1

/-- The first moment. -/
abbrev A2 (c : Dev nD) : S4x1024x256.Idx → EReal := V m c main_arg2

/-- The second moment. -/
abbrev A3 (c : Dev nD) : S4x1024x256.Idx → EReal := V m c main_arg3

/-- Where the windows' blocks lie: the parts' at all eight parts and a block of rows, the others' at layer 0 and a block of rows. -/
theorem at0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

theorem at1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

theorem at4 : ∀ t : Fin cfg0.N, win0_4.xsize (grid0.coords t) 0 = 1 ∧ win0_4.xsize (grid0.coords t) 1 = 256 ∧ win0_4.xsize (grid0.coords t) 2 = 256 :=
  (by decide +kernel : ∀ t : Fin grid0.N, win0_4.xsize (grid0.coords t) 0 = 1 ∧ win0_4.xsize (grid0.coords t) 1 = 256 ∧ win0_4.xsize (grid0.coords t) 2 = 256)

theorem blk0 (c : Dev nD) (t : Fin cfg0.N) (j : Fin 8) (a : Fin 256) (b : Fin 256) :
    (iblk m c 0 t : S8x256x256.Idx → EReal) (ix3 j a b) = A0 m c (ix3 j (at_ t a) b) := by
  obtain ⟨h0, h1, h2⟩ := at0 t
  unfold iblk; rw [View.read_apply]
  show (V m c main_arg0 : S8x1024x256.Idx → EReal) _ = _
  refine congrArg (A0 m c) (funext fun d => Fin.ext ?_)
  match d with
  | ⟨0, _⟩ => show win0_0.index t 0 * 8 + 1 * j.val = j.val; omega
  | ⟨1, _⟩ => show win0_0.index t 1 * 256 + 1 * a.val = 256 * t.val + a.val; rw [h1]; omega
  | ⟨2, _⟩ => show win0_0.index t 2 * 256 + 1 * b.val = b.val; omega

/-- A block of a weight or of a moment lies at layer 0. -/
theorem pos (t : Fin cfg0.N) (a : Fin 256) (b : Fin 256) : (win0_1.rect t).emb (ix3 0 a b) = (ix3 0 (at_ t a) b : S4x1024x256.Idx) := by
  obtain ⟨h0, h1, h2⟩ := at1 t
  refine funext fun d => Fin.ext ?_
  match d with
  | ⟨0, _⟩ => show win0_1.index t 0 * 1 + 1 * 0 = 0; omega
  | ⟨1, _⟩ => show win0_1.index t 1 * 256 + 1 * a.val = 256 * t.val + a.val; rw [h1]; omega
  | ⟨2, _⟩ => show win0_1.index t 2 * 256 + 1 * b.val = b.val; omega

theorem blk1 (c : Dev nD) (t : Fin cfg0.N) (a : Fin 256) (b : Fin 256) :
    (iblk m c 1 t : S1x256x256.Idx → EReal) (ix3 0 a b) = A1 m c (ix3 0 (at_ t a) b) := by
  unfold iblk; rw [View.read_apply]
  exact congrArg (A1 m c) (pos t a b)

theorem blk2 (c : Dev nD) (t : Fin cfg0.N) (a : Fin 256) (b : Fin 256) :
    (iblk m c 2 t : S1x256x256.Idx → EReal) (ix3 0 a b) = A2 m c (ix3 0 (at_ t a) b) := by
  unfold iblk; rw [View.read_apply]
  exact congrArg (A2 m c) (pos t a b)

theorem blk3 (c : Dev nD) (t : Fin cfg0.N) (a : Fin 256) (b : Fin 256) :
    (iblk m c 3 t : S1x256x256.Idx → EReal) (ix3 0 a b) = A3 m c (ix3 0 (at_ t a) b) := by
  unfold iblk; rw [View.read_apply]
  exact congrArg (A3 m c) (pos t a b)

/-- What is written back at a point is the function `g` on the point's block, if the values are those of `g` at layer 0. -/
theorem cut_eq (t : Fin cfg0.N) (y : S1x256x256.Idx → EReal) (g : S4x1024x256.Idx → EReal) (h : ∀ a b, y (ix3 0 a b) = g (ix3 0 (at_ t a) b))
    (j : (win0_4.xblock (grid0.coords t)).Idx) : y (win0_4.xinj (grid0.coords t) j) = g ((win0_4.rect t).emb j) := by
  obtain ⟨x0, x1, x2⟩ := at4 t
  have hj0 : (j 0 : Nat) < 1 := lt_of_lt_of_eq (j 0).isLt x0
  have e : (win0_4.xinj (grid0.coords t) j : S1x256x256.Idx) = ix3 0 ⟨j 1, lt_of_lt_of_eq (j 1).isLt x1⟩ ⟨j 2, lt_of_lt_of_eq (j 2).isLt x2⟩ := by
    refine funext fun d => Fin.ext ?_
    match d with
    | ⟨0, _⟩ => show (j 0 : Nat) = 0; omega
    | ⟨1, _⟩ => rfl
    | ⟨2, _⟩ => rfl
  refine (congrArg y e).trans ((h _ _).trans (congrArg g ((pos t _ _).symm.trans (funext fun d => Fin.ext ?_))))
  match d with
  | ⟨0, _⟩ => show win0_1.index t 0 * 1 + 1 * 0 = win0_1.index t 0 * 1 + 1 * (j 0 : Nat); omega
  | ⟨1, _⟩ => rfl
  | ⟨2, _⟩ => rfl

/-- The blocks cover layer 0. -/
theorem cover (i : S4x1024x256.Idx) (h : (i 0).val = 0) : ∃ t : Fin cfg0.N, i ∈ (win0_4.rect t).set := by
  obtain ⟨t, s, hs⟩ := Rows.exists_row (N := 4) (B := 256) (T := 1024) rfl (by decide) (i 1)
  obtain ⟨h0, h1, h2⟩ := at1 t
  obtain ⟨x0, x1, x2⟩ := at4 t
  refine ⟨t, ?_⟩
  rw [Rect.mem_set_unit]
  have g2 : (i 2 : Nat) < 256 := (i 2).isLt
  have g1 : (i 1 : Nat) = 256 * t.val + s.val := congrArg Fin.val hs
  have hr := s.isLt
  intro a
  match a with
  | ⟨0, _⟩ => show win0_1.index t 0 * 1 ≤ (i 0 : Nat) ∧ (i 0 : Nat) < win0_1.index t 0 * 1 + win0_4.xsize (grid0.coords t) 0
              rw [x0]; omega
  | ⟨1, _⟩ => show win0_1.index t 1 * 256 ≤ (i 1 : Nat) ∧ (i 1 : Nat) < win0_1.index t 1 * 256 + win0_4.xsize (grid0.coords t) 1
              rw [x1, h1]; omega
  | ⟨2, _⟩ => show win0_1.index t 2 * 256 ≤ (i 2 : Nat) ∧ (i 2 : Nat) < win0_1.index t 2 * 256 + win0_4.xsize (grid0.coords t) 2
              rw [x2]; omega

/-- Element `(R, q)` of layer 0 of result `0`: the sum of the parts of the gradient. -/
def res4 (c : Dev nD) (R : Fin 1024) (q : Fin 256) : EReal :=
  Rows.sum8 (fun k => A0 m c (ix3 k R q))

/-- Result `0`: layer 0 is new, the other layers stay. -/
def G4 (c : Dev nD) : Vec Ideal S4x1024x256 .f32 :=
  fun i => if (i 0).val = 0 then res4 m c (i 1) (i 2) else (V m c main_v0_0 : S4x1024x256.Idx → EReal) i

theorem row4 (c : Dev nD) (t : Fin cfg0.N) (a : Fin 256) (b : Fin 256) : (outsAt0 m c t).1 (ix3 0 a b) = G4 m c (ix3 0 (at_ t a) b) := by
  refine Eq.trans (b := res4 m c (at_ t a) b) ?_ (if_pos rfl).symm
  unfold outsAt0 out0_A_4
  dsimp only
  rw [View.read_writes_eq_canon _ _ _ (cover0_A_4 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x256x256) hz]
  pointwise [k0_pay1, k0_pay2, k0_pay3, k0_pay4, k0_pay5, k0_pay6, k0_pay7, res4, Rows.newM, Rows.newV, Rows.stepD]
  simp only [Rows.sum8_eq, blk0 m c t]
  try rfl

theorem final4 (c : Dev nD) : (dats m 0 c).arrAt 4 cfg0.N = G4 m c := by
  funext i
  refine ((dats m 0 c).arrAt_eq_piecewise 4 (G4 m c) (fun t hf => (Value.flushed4 m c t).trans (funext fun j => ?_)) i).trans ?_
  · rw [View.read_apply]
    exact cut_eq t _ (G4 m c) (row4 m c t) j
  · split
    · rfl
    · rename_i hno
      refine (congrFun (A_eq m c 4) i).trans (if_neg fun h0 => hno ?_).symm
      obtain ⟨t, ht⟩ := cover i h0
      exact ⟨t, flush0_4 t, (View.set_slice_whole main_v0_0 (win0_4.rect t)).symm ▸ ht⟩

/-- Element `(R, q)` of layer 0 of result `1`: the step. -/
def res5 (c : Dev nD) (R : Fin 1024) (q : Fin 256) : EReal :=
  Rows.stepD (Rows.sum8 (fun k => A0 m c (ix3 k R q))) (A1 m c (ix3 0 R q)) (A2 m c (ix3 0 R q)) (A3 m c (ix3 0 R q))

/-- Result `1`: layer 0 is new, the other layers stay. -/
def G5 (c : Dev nD) : Vec Ideal S4x1024x256 .f32 :=
  fun i => if (i 0).val = 0 then res5 m c (i 1) (i 2) else (V m c main_v0_1 : S4x1024x256.Idx → EReal) i

theorem row5 (c : Dev nD) (t : Fin cfg0.N) (a : Fin 256) (b : Fin 256) : (outsAt0 m c t).2.1 (ix3 0 a b) = G5 m c (ix3 0 (at_ t a) b) := by
  refine Eq.trans (b := res5 m c (at_ t a) b) ?_ (if_pos rfl).symm
  unfold outsAt0 out0_A_5
  dsimp only
  rw [View.read_writes_eq_canon _ _ _ (cover0_A_5 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x256x256) hz]
  pointwise [k0_pay1, k0_pay2, k0_pay3, k0_pay4, k0_pay5, k0_pay6, k0_pay7, res5, Rows.newM, Rows.newV, Rows.stepD]
  simp only [Rows.sum8_eq, blk0 m c t, blk1 m c t, blk2 m c t, blk3 m c t]
  try rfl

theorem final5 (c : Dev nD) : (dats m 0 c).arrAt 5 cfg0.N = G5 m c := by
  funext i
  refine ((dats m 0 c).arrAt_eq_piecewise 5 (G5 m c) (fun t hf => (Value.flushed5 m c t).trans (funext fun j => ?_)) i).trans ?_
  · rw [View.read_apply]
    exact cut_eq t _ (G5 m c) (row5 m c t) j
  · split
    · rfl
    · rename_i hno
      refine (congrFun (A_eq m c 5) i).trans (if_neg fun h0 => hno ?_).symm
      obtain ⟨t, ht⟩ := cover i h0
      exact ⟨t, flush0_5 t, (View.set_slice_whole main_v0_1 (win0_5.rect t)).symm ▸ ht⟩

/-- Element `(R, q)` of layer 0 of result `2`: the new first moment. -/
def res6 (c : Dev nD) (R : Fin 1024) (q : Fin 256) : EReal :=
  Rows.newM (Rows.sum8 (fun k => A0 m c (ix3 k R q))) (A2 m c (ix3 0 R q))

/-- Result `2`: layer 0 is new, the other layers stay. -/
def G6 (c : Dev nD) : Vec Ideal S4x1024x256 .f32 :=
  fun i => if (i 0).val = 0 then res6 m c (i 1) (i 2) else (V m c main_v0_2 : S4x1024x256.Idx → EReal) i

theorem row6 (c : Dev nD) (t : Fin cfg0.N) (a : Fin 256) (b : Fin 256) : (outsAt0 m c t).2.2.1 (ix3 0 a b) = G6 m c (ix3 0 (at_ t a) b) := by
  refine Eq.trans (b := res6 m c (at_ t a) b) ?_ (if_pos rfl).symm
  unfold outsAt0 out0_A_6
  dsimp only
  rw [View.read_writes_eq_canon _ _ _ (cover0_A_6 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x256x256) hz]
  pointwise [k0_pay1, k0_pay2, k0_pay3, k0_pay4, k0_pay5, k0_pay6, k0_pay7, res6, Rows.newM, Rows.newV, Rows.stepD]
  simp only [Rows.sum8_eq, blk0 m c t, blk2 m c t]
  try rfl

theorem final6 (c : Dev nD) : (dats m 0 c).arrAt 6 cfg0.N = G6 m c := by
  funext i
  refine ((dats m 0 c).arrAt_eq_piecewise 6 (G6 m c) (fun t hf => (Value.flushed6 m c t).trans (funext fun j => ?_)) i).trans ?_
  · rw [View.read_apply]
    exact cut_eq t _ (G6 m c) (row6 m c t) j
  · split
    · rfl
    · rename_i hno
      refine (congrFun (A_eq m c 6) i).trans (if_neg fun h0 => hno ?_).symm
      obtain ⟨t, ht⟩ := cover i h0
      exact ⟨t, flush0_6 t, (View.set_slice_whole main_v0_2 (win0_6.rect t)).symm ▸ ht⟩

/-- Element `(R, q)` of layer 0 of result `3`: the new second moment. -/
def res7 (c : Dev nD) (R : Fin 1024) (q : Fin 256) : EReal :=
  Rows.newV (Rows.sum8 (fun k => A0 m c (ix3 k R q))) (A3 m c (ix3 0 R q))

/-- Result `3`: layer 0 is new, the other layers stay. -/
def G7 (c : Dev nD) : Vec Ideal S4x1024x256 .f32 :=
  fun i => if (i 0).val = 0 then res7 m c (i 1) (i 2) else (V m c main_v0_3 : S4x1024x256.Idx → EReal) i

theorem row7 (c : Dev nD) (t : Fin cfg0.N) (a : Fin 256) (b : Fin 256) : (outsAt0 m c t).2.2.2 (ix3 0 a b) = G7 m c (ix3 0 (at_ t a) b) := by
  refine Eq.trans (b := res7 m c (at_ t a) b) ?_ (if_pos rfl).symm
  unfold outsAt0 out0_A_7
  dsimp only
  rw [View.read_writes_eq_canon _ _ _ (cover0_A_7 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x256x256) hz]
  pointwise [k0_pay1, k0_pay2, k0_pay3, k0_pay4, k0_pay5, k0_pay6, k0_pay7, res7, Rows.newM, Rows.newV, Rows.stepD]
  simp only [Rows.sum8_eq, blk0 m c t, blk3 m c t]
  try rfl

theorem final7 (c : Dev nD) : (dats m 0 c).arrAt 7 cfg0.N = G7 m c := by
  funext i
  refine ((dats m 0 c).arrAt_eq_piecewise 7 (G7 m c) (fun t hf => (Value.flushed7 m c t).trans (funext fun j => ?_)) i).trans ?_
  · rw [View.read_apply]
    exact cut_eq t _ (G7 m c) (row7 m c t) j
  · split
    · rfl
    · rename_i hno
      refine (congrFun (A_eq m c 7) i).trans (if_neg fun h0 => hno ?_).symm
      obtain ⟨t, ht⟩ := cover i h0
      exact ⟨t, flush0_7 t, (View.set_slice_whole main_v0_3 (win0_7.rect t)).symm ▸ ht⟩

end Cert.AwinIdeal.Body

end
-- ==== Proof.AwinClaim.lean ====
/- The claim on the optimiser's call on the input weights of the state space layer: layer 0 of the four results is the sum of the parts of the gradient and the step it gives. -/
module

public import proofs.«01_k».proof.Defs
public import proofs.«01_k».proof.Proof.AwinValue
public import proofs.«01_k».proof.Proof.Gen.AwinRefIdeal
public import proofs.«01_k».proof.Proof.Gen.AwinRefIdeal.Run
public import proofs.«01_k».proof.Proof.Gen.AwinRefIdeal.Read

@[expose] public section

noncomputable section

open Idealize.ShloMosaic Idealize.ShloMosaic.TcCoe Idealize.SL.Sem Idealize.ShloMosaic.StableHlo

namespace Cert.AwinRef

open Cert.AwinRefIdeal Cert.AwinRefIdeal.Read Cert.AwinRefIdeal.Gen

/-- A new layer 0 before the layers from 1 on of an array. -/
theorem cat (u : Vec Ideal S1x1024x256 .f32) (x : Vec Ideal S4x1024x256 .f32) (l : Fin 4) (p : Fin 1024) (q : Fin 256) :
    concatenate S4x1024x256 0 [⟨S1x1024x256, u⟩, ⟨S3x1024x256, extractStridedSlice S3x1024x256 ![1, 0, 0] x slices_S4x1024x256_S3x1024x256_1_0_0⟩] concatenates_S1x1024x256_S3x1024x256_S4x1024x256_d0 (ix3 l p q)
      = if l.val = 0 then u (ix3 0 p q) else x (ix3 l p q) := by
  pointwise []
  by_cases h : l.val = 0
  · rw [dif_pos (by omega), if_pos h]
    exact congrArg (fun k => u (ix3 k p q)) (Fin.ext h)
  · rw [dif_neg (by omega), if_neg h]
    exact congrArg (fun k => x (ix3 k p q)) (Fin.ext (by dsimp only; omega))

theorem out4 (x0 : Vec Ideal S8x1024x256 .bf16) (x4 : Vec Ideal S4x1024x256 .f32) (l : Fin 4) (p : Fin 1024) (q : Fin 256) :
    val_main_v34 (F := Ideal) x0 x4 (ix3 l p q) = if l.val = 0 then Rows.sum8 (fun k => x0 (ix3 k p q)) else x4 (ix3 l p q) := by
  rw [← val_main_v34_eq]
  refine (cat _ _ l p q).trans (congrArg (fun y => if l.val = 0 then y else x4 (ix3 l p q)) ?_)
  pointwise [Rows.newM, Rows.newV, Rows.stepD, Rows.sum8]

theorem out5 (x0 : Vec Ideal S8x1024x256 .bf16) (x1 : Vec Ideal S4x1024x256 .f32) (x2 : Vec Ideal S4x1024x256 .f32) (x3 : Vec Ideal S4x1024x256 .f32) (x5 : Vec Ideal S4x1024x256 .f32) (l : Fin 4) (p : Fin 1024) (q : Fin 256) :
    val_main_v37 (F := Ideal) x0 x1 x2 x3 x5 (ix3 l p q) = if l.val = 0 then Rows.stepD (Rows.sum8 (fun k => x0 (ix3 k p q))) (x1 (ix3 0 p q)) (x2 (ix3 0 p q)) (x3 (ix3 0 p q)) else x5 (ix3 l p q) := by
  rw [← val_main_v37_eq]
  refine (cat _ _ l p q).trans (congrArg (fun y => if l.val = 0 then y else x5 (ix3 l p q)) ?_)
  pointwise [Rows.newM, Rows.newV, Rows.stepD, Rows.sum8]

theorem out6 (x0 : Vec Ideal S8x1024x256 .bf16) (x2 : Vec Ideal S4x1024x256 .f32) (x6 : Vec Ideal S4x1024x256 .f32) (l : Fin 4) (p : Fin 1024) (q : Fin 256) :
    val_main_v40 (F := Ideal) x0 x2 x6 (ix3 l p q) = if l.val = 0 then Rows.newM (Rows.sum8 (fun k => x0 (ix3 k p q))) (x2 (ix3 0 p q)) else x6 (ix3 l p q) := by
  rw [← val_main_v40_eq]
  refine (cat _ _ l p q).trans (congrArg (fun y => if l.val = 0 then y else x6 (ix3 l p q)) ?_)
  pointwise [Rows.newM, Rows.newV, Rows.stepD, Rows.sum8]

theorem out7 (x0 : Vec Ideal S8x1024x256 .bf16) (x3 : Vec Ideal S4x1024x256 .f32) (x7 : Vec Ideal S4x1024x256 .f32) (l : Fin 4) (p : Fin 1024) (q : Fin 256) :
    val_main_v43 (F := Ideal) x0 x3 x7 (ix3 l p q) = if l.val = 0 then Rows.newV (Rows.sum8 (fun k => x0 (ix3 k p q))) (x3 (ix3 0 p q)) else x7 (ix3 l p q) := by
  rw [← val_main_v43_eq]
  refine (cat _ _ l p q).trans (congrArg (fun y => if l.val = 0 then y else x7 (ix3 l p q)) ?_)
  pointwise [Rows.newM, Rows.newV, Rows.stepD, Rows.sum8]

end Cert.AwinRef

namespace Cert.AwinIdeal.Body

open Cert.AwinIdeal Cert.AwinIdeal.Gen

variable (m : (ℓ : Loc nD τ sig) → Buf (Elt Ideal) ℓ)

/-- Argument `0`. -/
abbrev x0 (c : Dev nD) : Vec Ideal S8x1024x256 .bf16 := m ((c : Thread nD τ).loc main_arg0)

/-- Argument `1`. -/
abbrev x1 (c : Dev nD) : Vec Ideal S4x1024x256 .f32 := m ((c : Thread nD τ).loc main_arg1)

/-- Argument `2`. -/
abbrev x2 (c : Dev nD) : Vec Ideal S4x1024x256 .f32 := m ((c : Thread nD τ).loc main_arg2)

/-- Argument `3`. -/
abbrev x3 (c : Dev nD) : Vec Ideal S4x1024x256 .f32 := m ((c : Thread nD τ).loc main_arg3)

/-- Argument `4`. -/
abbrev x4 (c : Dev nD) : Vec Ideal S4x1024x256 .f32 := m ((c : Thread nD τ).loc main_arg4)

/-- Argument `5`. -/
abbrev x5 (c : Dev nD) : Vec Ideal S4x1024x256 .f32 := m ((c : Thread nD τ).loc main_arg5)

/-- Argument `6`. -/
abbrev x6 (c : Dev nD) : Vec Ideal S4x1024x256 .f32 := m ((c : Thread nD τ).loc main_arg6)

/-- Argument `7`. -/
abbrev x7 (c : Dev nD) : Vec Ideal S4x1024x256 .f32 := m ((c : Thread nD τ).loc main_arg7)

/-- The operands the call is given are the arguments. -/
theorem reads (c : Dev nD) : A0 m c = x0 m c ∧ A1 m c = x1 m c ∧ A2 m c = x2 m c ∧ A3 m c = x3 m c ∧ (V m c main_v0_0 : S4x1024x256.Idx → EReal) = x4 m c ∧ (V m c main_v0_1 : S4x1024x256.Idx → EReal) = x5 m c ∧ (V m c main_v0_2 : S4x1024x256.Idx → EReal) = x6 m c ∧ (V m c main_v0_3 : S4x1024x256.Idx → EReal) = x7 m c := by
  unfold A0 A1 A2 A3 V
  simp only [hostOps0, List.flatten_cons, List.flatten_nil, List.append_nil, List.cons_append, List.nil_append,
    TRef.binary, TRef.nullary, TRef.unary, TRef.toBuf, TRef.ofBuf, cast_eq]
  refine ⟨?_, ?_, ?_, ?_, ?_, ?_, ?_, ?_⟩ <;> (after_results_simp; try rfl)

theorem val4 (c : Dev nD) : G4 m c = Cert.AwinRefIdeal.Read.val_main_v34 (F := Ideal) (x0 m c) (x4 m c) := by
  funext i
  obtain ⟨l, p, q, rfl⟩ : ∃ (l : Fin 4) (p : Fin 1024) (q : Fin 256), i = ix3 l p q := ⟨i 0, i 1, i 2, eq_ix3 i⟩
  refine Eq.trans ?_ (Cert.AwinRef.out4 (x0 m c) (x4 m c) l p q).symm
  show (if l.val = 0 then res4 m c p q else (V m c main_v0_0 : S4x1024x256.Idx → EReal) (ix3 l p q)) = _
  unfold res4
  obtain ⟨h0, h1, h2, h3, h4, h5, h6, h7⟩ := reads m c
  rw [h0, h4]

theorem val5 (c : Dev nD) : G5 m c = Cert.AwinRefIdeal.Read.val_main_v37 (F := Ideal) (x0 m c) (x1 m c) (x2 m c) (x3 m c) (x5 m c) := by
  funext i
  obtain ⟨l, p, q, rfl⟩ : ∃ (l : Fin 4) (p : Fin 1024) (q : Fin 256), i = ix3 l p q := ⟨i 0, i 1, i 2, eq_ix3 i⟩
  refine Eq.trans ?_ (Cert.AwinRef.out5 (x0 m c) (x1 m c) (x2 m c) (x3 m c) (x5 m c) l p q).symm
  show (if l.val = 0 then res5 m c p q else (V m c main_v0_1 : S4x1024x256.Idx → EReal) (ix3 l p q)) = _
  unfold res5
  obtain ⟨h0, h1, h2, h3, h4, h5, h6, h7⟩ := reads m c
  rw [h0, h1, h2, h3, h5]

theorem val6 (c : Dev nD) : G6 m c = Cert.AwinRefIdeal.Read.val_main_v40 (F := Ideal) (x0 m c) (x2 m c) (x6 m c) := by
  funext i
  obtain ⟨l, p, q, rfl⟩ : ∃ (l : Fin 4) (p : Fin 1024) (q : Fin 256), i = ix3 l p q := ⟨i 0, i 1, i 2, eq_ix3 i⟩
  refine Eq.trans ?_ (Cert.AwinRef.out6 (x0 m c) (x2 m c) (x6 m c) l p q).symm
  show (if l.val = 0 then res6 m c p q else (V m c main_v0_2 : S4x1024x256.Idx → EReal) (ix3 l p q)) = _
  unfold res6
  obtain ⟨h0, h1, h2, h3, h4, h5, h6, h7⟩ := reads m c
  rw [h0, h2, h6]

theorem val7 (c : Dev nD) : G7 m c = Cert.AwinRefIdeal.Read.val_main_v43 (F := Ideal) (x0 m c) (x3 m c) (x7 m c) := by
  funext i
  obtain ⟨l, p, q, rfl⟩ : ∃ (l : Fin 4) (p : Fin 1024) (q : Fin 256), i = ix3 l p q := ⟨i 0, i 1, i 2, eq_ix3 i⟩
  refine Eq.trans ?_ (Cert.AwinRef.out7 (x0 m c) (x3 m c) (x7 m c) l p q).symm
  show (if l.val = 0 then res7 m c p q else (V m c main_v0_3 : S4x1024x256.Idx → EReal) (ix3 l p q)) = _
  unfold res7
  obtain ⟨h0, h1, h2, h3, h4, h5, h6, h7⟩ := reads m c
  rw [h0, h3, h7]

theorem algebraic : Cert.algebraic_AwinIdeal_AwinRefIdeal := by
  intro m g m' g' hpre hag
  refine ⟨fun c => G4 m c, fun c => G5 m c, fun c => G6 m c, fun c => G7 m c, ?_, ?_⟩
  · exact (θ_run defs _ _).mono (fun r h c => ⟨(h c).1.trans (final4 m c), (h c).2.1.trans (final5 m c), (h c).2.2.1.trans (final6 m c), (h c).2.2.2.1.trans (final7 m c), (h c).2.2.2.2⟩) (Value.run_blocks m g)
  · refine (θ_run Cert.AwinRefIdeal.defs _ _).mono (fun r h c => ⟨(h c).1.trans ?_, (h c).2.1.trans ?_, (h c).2.2.1.trans ?_, (h c).2.2.2.1.trans ?_, (h c).2.2.2.2⟩) (Cert.AwinRefIdeal.Value.run m' g')
    · obtain ⟨h0, h1, h2, h3, h4, h5, h6, h7⟩ := hag c
      refine (Cert.AwinRefIdeal.Read.val_main_v34_eq _ _).trans ?_
      rw [h0, h4]
      exact (val4 m c).symm
    · obtain ⟨h0, h1, h2, h3, h4, h5, h6, h7⟩ := hag c
      refine (Cert.AwinRefIdeal.Read.val_main_v37_eq _ _ _ _ _).trans ?_
      rw [h0, h1, h2, h3, h5]
      exact (val5 m c).symm
    · obtain ⟨h0, h1, h2, h3, h4, h5, h6, h7⟩ := hag c
      refine (Cert.AwinRefIdeal.Read.val_main_v40_eq _ _ _).trans ?_
      rw [h0, h2, h6]
      exact (val6 m c).symm
    · obtain ⟨h0, h1, h2, h3, h4, h5, h6, h7⟩ := hag c
      refine (Cert.AwinRefIdeal.Read.val_main_v43_eq _ _ _).trans ?_
      rw [h0, h3, h7]
      exact (val7 m c).symm

end Cert.AwinIdeal.Body

end
-- ==== Proof.AwgluValue.lean ====
/- The values of the optimiser's call on the weights of the gate. -/
module

public import proofs.«01_k».proof.Proof.Base
public import proofs.«01_k».proof.Proof.Adam
public import proofs.«01_k».proof.Proof.Gen.AwgluIdeal.Value

@[expose] public section

noncomputable section

open Idealize.ShloMosaic Idealize.ShloMosaic.TcCoe Idealize.SL.Sem Idealize.ShloMosaic.StableHlo
open Idealize.ShloMosaic.Pipeline (Dat)

namespace Cert.AwgluIdeal.Body

open Cert.AwgluIdeal Cert.AwgluIdeal.Gen

theorem hz : (![0, 0, 0] : Fin 3 → Nat) = fun _ => 0 := Rows.hz3

/-- Row `a` of the block at point `t`. -/
abbrev at_ (t : Fin cfg0.N) (a : Fin 64) : Fin 64 := Rows.row (T := 64) rfl t a

variable (m : (ℓ : Loc nD τ sig) → Buf (Elt Ideal) ℓ)

/-- The parts of the gradient. -/
abbrev A0 (c : Dev nD) : S8x64x512.Idx → EReal := V m c main_arg0

/-- The weight. -/
abbrev A1 (c : Dev nD) : S4x64x512.Idx → EReal := V m c main_arg1

/-- The first moment. -/
abbrev A2 (c : Dev nD) : S4x64x512.Idx → EReal := V m c main_arg2

/-- The second moment. -/
abbrev A3 (c : Dev nD) : S4x64x512.Idx → EReal := V m c main_arg3

/-- Where the windows' blocks lie: the parts' at all eight parts and a block of rows, the others' at layer 0 and a block of rows. -/
theorem at0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

theorem at1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

theorem at4 : ∀ t : Fin cfg0.N, win0_4.xsize (grid0.coords t) 0 = 1 ∧ win0_4.xsize (grid0.coords t) 1 = 64 ∧ win0_4.xsize (grid0.coords t) 2 = 512 :=
  (by decide +kernel : ∀ t : Fin grid0.N, win0_4.xsize (grid0.coords t) 0 = 1 ∧ win0_4.xsize (grid0.coords t) 1 = 64 ∧ win0_4.xsize (grid0.coords t) 2 = 512)

theorem blk0 (c : Dev nD) (t : Fin cfg0.N) (j : Fin 8) (a : Fin 64) (b : Fin 512) :
    (iblk m c 0 t : S8x64x512.Idx → EReal) (ix3 j a b) = A0 m c (ix3 j (at_ t a) b) := by
  obtain ⟨h0, h1, h2⟩ := at0 t
  unfold iblk; rw [View.read_apply]
  show (V m c main_arg0 : S8x64x512.Idx → EReal) _ = _
  refine congrArg (A0 m c) (funext fun d => Fin.ext ?_)
  match d with
  | ⟨0, _⟩ => show win0_0.index t 0 * 8 + 1 * j.val = j.val; omega
  | ⟨1, _⟩ => show win0_0.index t 1 * 64 + 1 * a.val = 64 * t.val + a.val; rw [h1]; omega
  | ⟨2, _⟩ => show win0_0.index t 2 * 512 + 1 * b.val = b.val; omega

/-- A block of a weight or of a moment lies at layer 0. -/
theorem pos (t : Fin cfg0.N) (a : Fin 64) (b : Fin 512) : (win0_1.rect t).emb (ix3 0 a b) = (ix3 0 (at_ t a) b : S4x64x512.Idx) := by
  obtain ⟨h0, h1, h2⟩ := at1 t
  refine funext fun d => Fin.ext ?_
  match d with
  | ⟨0, _⟩ => show win0_1.index t 0 * 1 + 1 * 0 = 0; omega
  | ⟨1, _⟩ => show win0_1.index t 1 * 64 + 1 * a.val = 64 * t.val + a.val; rw [h1]; omega
  | ⟨2, _⟩ => show win0_1.index t 2 * 512 + 1 * b.val = b.val; omega

theorem blk1 (c : Dev nD) (t : Fin cfg0.N) (a : Fin 64) (b : Fin 512) :
    (iblk m c 1 t : S1x64x512.Idx → EReal) (ix3 0 a b) = A1 m c (ix3 0 (at_ t a) b) := by
  unfold iblk; rw [View.read_apply]
  exact congrArg (A1 m c) (pos t a b)

theorem blk2 (c : Dev nD) (t : Fin cfg0.N) (a : Fin 64) (b : Fin 512) :
    (iblk m c 2 t : S1x64x512.Idx → EReal) (ix3 0 a b) = A2 m c (ix3 0 (at_ t a) b) := by
  unfold iblk; rw [View.read_apply]
  exact congrArg (A2 m c) (pos t a b)

theorem blk3 (c : Dev nD) (t : Fin cfg0.N) (a : Fin 64) (b : Fin 512) :
    (iblk m c 3 t : S1x64x512.Idx → EReal) (ix3 0 a b) = A3 m c (ix3 0 (at_ t a) b) := by
  unfold iblk; rw [View.read_apply]
  exact congrArg (A3 m c) (pos t a b)

/-- What is written back at a point is the function `g` on the point's block, if the values are those of `g` at layer 0. -/
theorem cut_eq (t : Fin cfg0.N) (y : S1x64x512.Idx → EReal) (g : S4x64x512.Idx → EReal) (h : ∀ a b, y (ix3 0 a b) = g (ix3 0 (at_ t a) b))
    (j : (win0_4.xblock (grid0.coords t)).Idx) : y (win0_4.xinj (grid0.coords t) j) = g ((win0_4.rect t).emb j) := by
  obtain ⟨x0, x1, x2⟩ := at4 t
  have hj0 : (j 0 : Nat) < 1 := lt_of_lt_of_eq (j 0).isLt x0
  have e : (win0_4.xinj (grid0.coords t) j : S1x64x512.Idx) = ix3 0 ⟨j 1, lt_of_lt_of_eq (j 1).isLt x1⟩ ⟨j 2, lt_of_lt_of_eq (j 2).isLt x2⟩ := by
    refine funext fun d => Fin.ext ?_
    match d with
    | ⟨0, _⟩ => show (j 0 : Nat) = 0; omega
    | ⟨1, _⟩ => rfl
    | ⟨2, _⟩ => rfl
  refine (congrArg y e).trans ((h _ _).trans (congrArg g ((pos t _ _).symm.trans (funext fun d => Fin.ext ?_))))
  match d with
  | ⟨0, _⟩ => show win0_1.index t 0 * 1 + 1 * 0 = win0_1.index t 0 * 1 + 1 * (j 0 : Nat); omega
  | ⟨1, _⟩ => rfl
  | ⟨2, _⟩ => rfl

/-- The blocks cover layer 0. -/
theorem cover (i : S4x64x512.Idx) (h : (i 0).val = 0) : ∃ t : Fin cfg0.N, i ∈ (win0_4.rect t).set := by
  obtain ⟨t, s, hs⟩ := Rows.exists_row (N := 1) (B := 64) (T := 64) rfl (by decide) (i 1)
  obtain ⟨h0, h1, h2⟩ := at1 t
  obtain ⟨x0, x1, x2⟩ := at4 t
  refine ⟨t, ?_⟩
  rw [Rect.mem_set_unit]
  have g2 : (i 2 : Nat) < 512 := (i 2).isLt
  have g1 : (i 1 : Nat) = 64 * t.val + s.val := congrArg Fin.val hs
  have hr := s.isLt
  intro a
  match a with
  | ⟨0, _⟩ => show win0_1.index t 0 * 1 ≤ (i 0 : Nat) ∧ (i 0 : Nat) < win0_1.index t 0 * 1 + win0_4.xsize (grid0.coords t) 0
              rw [x0]; omega
  | ⟨1, _⟩ => show win0_1.index t 1 * 64 ≤ (i 1 : Nat) ∧ (i 1 : Nat) < win0_1.index t 1 * 64 + win0_4.xsize (grid0.coords t) 1
              rw [x1, h1]; omega
  | ⟨2, _⟩ => show win0_1.index t 2 * 512 ≤ (i 2 : Nat) ∧ (i 2 : Nat) < win0_1.index t 2 * 512 + win0_4.xsize (grid0.coords t) 2
              rw [x2]; omega

/-- Element `(R, q)` of layer 0 of result `0`: the sum of the parts of the gradient. -/
def res4 (c : Dev nD) (R : Fin 64) (q : Fin 512) : EReal :=
  Rows.sum8 (fun k => A0 m c (ix3 k R q))

/-- Result `0`: layer 0 is new, the other layers stay. -/
def G4 (c : Dev nD) : Vec Ideal S4x64x512 .f32 :=
  fun i => if (i 0).val = 0 then res4 m c (i 1) (i 2) else (V m c main_v0_0 : S4x64x512.Idx → EReal) i

theorem row4 (c : Dev nD) (t : Fin cfg0.N) (a : Fin 64) (b : Fin 512) : (outsAt0 m c t).1 (ix3 0 a b) = G4 m c (ix3 0 (at_ t a) b) := by
  refine Eq.trans (b := res4 m c (at_ t a) b) ?_ (if_pos rfl).symm
  unfold outsAt0 out0_A_4
  dsimp only
  rw [View.read_writes_eq_canon _ _ _ (cover0_A_4 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x64x512) hz]
  pointwise [k0_pay1, k0_pay2, k0_pay3, k0_pay4, k0_pay5, k0_pay6, k0_pay7, res4, Rows.newM, Rows.newV, Rows.stepD]
  simp only [Rows.sum8_eq, blk0 m c t]
  try rfl

theorem final4 (c : Dev nD) : (dats m 0 c).arrAt 4 cfg0.N = G4 m c := by
  funext i
  refine ((dats m 0 c).arrAt_eq_piecewise 4 (G4 m c) (fun t hf => (Value.flushed4 m c t).trans (funext fun j => ?_)) i).trans ?_
  · rw [View.read_apply]
    exact cut_eq t _ (G4 m c) (row4 m c t) j
  · split
    · rfl
    · rename_i hno
      refine (congrFun (A_eq m c 4) i).trans (if_neg fun h0 => hno ?_).symm
      obtain ⟨t, ht⟩ := cover i h0
      exact ⟨t, flush0_4 t, (View.set_slice_whole main_v0_0 (win0_4.rect t)).symm ▸ ht⟩

/-- Element `(R, q)` of layer 0 of result `1`: the step. -/
def res5 (c : Dev nD) (R : Fin 64) (q : Fin 512) : EReal :=
  Rows.stepD (Rows.sum8 (fun k => A0 m c (ix3 k R q))) (A1 m c (ix3 0 R q)) (A2 m c (ix3 0 R q)) (A3 m c (ix3 0 R q))

/-- Result `1`: layer 0 is new, the other layers stay. -/
def G5 (c : Dev nD) : Vec Ideal S4x64x512 .f32 :=
  fun i => if (i 0).val = 0 then res5 m c (i 1) (i 2) else (V m c main_v0_1 : S4x64x512.Idx → EReal) i

theorem row5 (c : Dev nD) (t : Fin cfg0.N) (a : Fin 64) (b : Fin 512) : (outsAt0 m c t).2.1 (ix3 0 a b) = G5 m c (ix3 0 (at_ t a) b) := by
  refine Eq.trans (b := res5 m c (at_ t a) b) ?_ (if_pos rfl).symm
  unfold outsAt0 out0_A_5
  dsimp only
  rw [View.read_writes_eq_canon _ _ _ (cover0_A_5 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x64x512) hz]
  pointwise [k0_pay1, k0_pay2, k0_pay3, k0_pay4, k0_pay5, k0_pay6, k0_pay7, res5, Rows.newM, Rows.newV, Rows.stepD]
  simp only [Rows.sum8_eq, blk0 m c t, blk1 m c t, blk2 m c t, blk3 m c t]
  try rfl

theorem final5 (c : Dev nD) : (dats m 0 c).arrAt 5 cfg0.N = G5 m c := by
  funext i
  refine ((dats m 0 c).arrAt_eq_piecewise 5 (G5 m c) (fun t hf => (Value.flushed5 m c t).trans (funext fun j => ?_)) i).trans ?_
  · rw [View.read_apply]
    exact cut_eq t _ (G5 m c) (row5 m c t) j
  · split
    · rfl
    · rename_i hno
      refine (congrFun (A_eq m c 5) i).trans (if_neg fun h0 => hno ?_).symm
      obtain ⟨t, ht⟩ := cover i h0
      exact ⟨t, flush0_5 t, (View.set_slice_whole main_v0_1 (win0_5.rect t)).symm ▸ ht⟩

/-- Element `(R, q)` of layer 0 of result `2`: the new first moment. -/
def res6 (c : Dev nD) (R : Fin 64) (q : Fin 512) : EReal :=
  Rows.newM (Rows.sum8 (fun k => A0 m c (ix3 k R q))) (A2 m c (ix3 0 R q))

/-- Result `2`: layer 0 is new, the other layers stay. -/
def G6 (c : Dev nD) : Vec Ideal S4x64x512 .f32 :=
  fun i => if (i 0).val = 0 then res6 m c (i 1) (i 2) else (V m c main_v0_2 : S4x64x512.Idx → EReal) i

theorem row6 (c : Dev nD) (t : Fin cfg0.N) (a : Fin 64) (b : Fin 512) : (outsAt0 m c t).2.2.1 (ix3 0 a b) = G6 m c (ix3 0 (at_ t a) b) := by
  refine Eq.trans (b := res6 m c (at_ t a) b) ?_ (if_pos rfl).symm
  unfold outsAt0 out0_A_6
  dsimp only
  rw [View.read_writes_eq_canon _ _ _ (cover0_A_6 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x64x512) hz]
  pointwise [k0_pay1, k0_pay2, k0_pay3, k0_pay4, k0_pay5, k0_pay6, k0_pay7, res6, Rows.newM, Rows.newV, Rows.stepD]
  simp only [Rows.sum8_eq, blk0 m c t, blk2 m c t]
  try rfl

theorem final6 (c : Dev nD) : (dats m 0 c).arrAt 6 cfg0.N = G6 m c := by
  funext i
  refine ((dats m 0 c).arrAt_eq_piecewise 6 (G6 m c) (fun t hf => (Value.flushed6 m c t).trans (funext fun j => ?_)) i).trans ?_
  · rw [View.read_apply]
    exact cut_eq t _ (G6 m c) (row6 m c t) j
  · split
    · rfl
    · rename_i hno
      refine (congrFun (A_eq m c 6) i).trans (if_neg fun h0 => hno ?_).symm
      obtain ⟨t, ht⟩ := cover i h0
      exact ⟨t, flush0_6 t, (View.set_slice_whole main_v0_2 (win0_6.rect t)).symm ▸ ht⟩

/-- Element `(R, q)` of layer 0 of result `3`: the new second moment. -/
def res7 (c : Dev nD) (R : Fin 64) (q : Fin 512) : EReal :=
  Rows.newV (Rows.sum8 (fun k => A0 m c (ix3 k R q))) (A3 m c (ix3 0 R q))

/-- Result `3`: layer 0 is new, the other layers stay. -/
def G7 (c : Dev nD) : Vec Ideal S4x64x512 .f32 :=
  fun i => if (i 0).val = 0 then res7 m c (i 1) (i 2) else (V m c main_v0_3 : S4x64x512.Idx → EReal) i

theorem row7 (c : Dev nD) (t : Fin cfg0.N) (a : Fin 64) (b : Fin 512) : (outsAt0 m c t).2.2.2 (ix3 0 a b) = G7 m c (ix3 0 (at_ t a) b) := by
  refine Eq.trans (b := res7 m c (at_ t a) b) ?_ (if_pos rfl).symm
  unfold outsAt0 out0_A_7
  dsimp only
  rw [View.read_writes_eq_canon _ _ _ (cover0_A_7 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x64x512) hz]
  pointwise [k0_pay1, k0_pay2, k0_pay3, k0_pay4, k0_pay5, k0_pay6, k0_pay7, res7, Rows.newM, Rows.newV, Rows.stepD]
  simp only [Rows.sum8_eq, blk0 m c t, blk3 m c t]
  try rfl

theorem final7 (c : Dev nD) : (dats m 0 c).arrAt 7 cfg0.N = G7 m c := by
  funext i
  refine ((dats m 0 c).arrAt_eq_piecewise 7 (G7 m c) (fun t hf => (Value.flushed7 m c t).trans (funext fun j => ?_)) i).trans ?_
  · rw [View.read_apply]
    exact cut_eq t _ (G7 m c) (row7 m c t) j
  · split
    · rfl
    · rename_i hno
      refine (congrFun (A_eq m c 7) i).trans (if_neg fun h0 => hno ?_).symm
      obtain ⟨t, ht⟩ := cover i h0
      exact ⟨t, flush0_7 t, (View.set_slice_whole main_v0_3 (win0_7.rect t)).symm ▸ ht⟩

end Cert.AwgluIdeal.Body

end
-- ==== Proof.AwgluClaim.lean ====
/- The claim on the optimiser's call on the weights of the gate: layer 0 of the four results is the sum of the parts of the gradient and the step it gives. -/
module

public import proofs.«01_k».proof.Defs
public import proofs.«01_k».proof.Proof.AwgluValue
public import proofs.«01_k».proof.Proof.Gen.AwgluRefIdeal
public import proofs.«01_k».proof.Proof.Gen.AwgluRefIdeal.Run
public import proofs.«01_k».proof.Proof.Gen.AwgluRefIdeal.Read

@[expose] public section

noncomputable section

open Idealize.ShloMosaic Idealize.ShloMosaic.TcCoe Idealize.SL.Sem Idealize.ShloMosaic.StableHlo

namespace Cert.AwgluRef

open Cert.AwgluRefIdeal Cert.AwgluRefIdeal.Read Cert.AwgluRefIdeal.Gen

/-- A new layer 0 before the layers from 1 on of an array. -/
theorem cat (u : Vec Ideal S1x64x512 .f32) (x : Vec Ideal S4x64x512 .f32) (l : Fin 4) (p : Fin 64) (q : Fin 512) :
    concatenate S4x64x512 0 [⟨S1x64x512, u⟩, ⟨S3x64x512, extractStridedSlice S3x64x512 ![1, 0, 0] x slices_S4x64x512_S3x64x512_1_0_0⟩] concatenates_S1x64x512_S3x64x512_S4x64x512_d0 (ix3 l p q)
      = if l.val = 0 then u (ix3 0 p q) else x (ix3 l p q) := by
  pointwise []
  by_cases h : l.val = 0
  · rw [dif_pos (by omega), if_pos h]
    exact congrArg (fun k => u (ix3 k p q)) (Fin.ext h)
  · rw [dif_neg (by omega), if_neg h]
    exact congrArg (fun k => x (ix3 k p q)) (Fin.ext (by dsimp only; omega))

theorem out4 (x0 : Vec Ideal S8x64x512 .bf16) (x4 : Vec Ideal S4x64x512 .f32) (l : Fin 4) (p : Fin 64) (q : Fin 512) :
    val_main_v34 (F := Ideal) x0 x4 (ix3 l p q) = if l.val = 0 then Rows.sum8 (fun k => x0 (ix3 k p q)) else x4 (ix3 l p q) := by
  rw [← val_main_v34_eq]
  refine (cat _ _ l p q).trans (congrArg (fun y => if l.val = 0 then y else x4 (ix3 l p q)) ?_)
  pointwise [Rows.newM, Rows.newV, Rows.stepD, Rows.sum8]

theorem out5 (x0 : Vec Ideal S8x64x512 .bf16) (x1 : Vec Ideal S4x64x512 .f32) (x2 : Vec Ideal S4x64x512 .f32) (x3 : Vec Ideal S4x64x512 .f32) (x5 : Vec Ideal S4x64x512 .f32) (l : Fin 4) (p : Fin 64) (q : Fin 512) :
    val_main_v37 (F := Ideal) x0 x1 x2 x3 x5 (ix3 l p q) = if l.val = 0 then Rows.stepD (Rows.sum8 (fun k => x0 (ix3 k p q))) (x1 (ix3 0 p q)) (x2 (ix3 0 p q)) (x3 (ix3 0 p q)) else x5 (ix3 l p q) := by
  rw [← val_main_v37_eq]
  refine (cat _ _ l p q).trans (congrArg (fun y => if l.val = 0 then y else x5 (ix3 l p q)) ?_)
  pointwise [Rows.newM, Rows.newV, Rows.stepD, Rows.sum8]

theorem out6 (x0 : Vec Ideal S8x64x512 .bf16) (x2 : Vec Ideal S4x64x512 .f32) (x6 : Vec Ideal S4x64x512 .f32) (l : Fin 4) (p : Fin 64) (q : Fin 512) :
    val_main_v40 (F := Ideal) x0 x2 x6 (ix3 l p q) = if l.val = 0 then Rows.newM (Rows.sum8 (fun k => x0 (ix3 k p q))) (x2 (ix3 0 p q)) else x6 (ix3 l p q) := by
  rw [← val_main_v40_eq]
  refine (cat _ _ l p q).trans (congrArg (fun y => if l.val = 0 then y else x6 (ix3 l p q)) ?_)
  pointwise [Rows.newM, Rows.newV, Rows.stepD, Rows.sum8]

theorem out7 (x0 : Vec Ideal S8x64x512 .bf16) (x3 : Vec Ideal S4x64x512 .f32) (x7 : Vec Ideal S4x64x512 .f32) (l : Fin 4) (p : Fin 64) (q : Fin 512) :
    val_main_v43 (F := Ideal) x0 x3 x7 (ix3 l p q) = if l.val = 0 then Rows.newV (Rows.sum8 (fun k => x0 (ix3 k p q))) (x3 (ix3 0 p q)) else x7 (ix3 l p q) := by
  rw [← val_main_v43_eq]
  refine (cat _ _ l p q).trans (congrArg (fun y => if l.val = 0 then y else x7 (ix3 l p q)) ?_)
  pointwise [Rows.newM, Rows.newV, Rows.stepD, Rows.sum8]

end Cert.AwgluRef

namespace Cert.AwgluIdeal.Body

open Cert.AwgluIdeal Cert.AwgluIdeal.Gen

variable (m : (ℓ : Loc nD τ sig) → Buf (Elt Ideal) ℓ)

/-- Argument `0`. -/
abbrev x0 (c : Dev nD) : Vec Ideal S8x64x512 .bf16 := m ((c : Thread nD τ).loc main_arg0)

/-- Argument `1`. -/
abbrev x1 (c : Dev nD) : Vec Ideal S4x64x512 .f32 := m ((c : Thread nD τ).loc main_arg1)

/-- Argument `2`. -/
abbrev x2 (c : Dev nD) : Vec Ideal S4x64x512 .f32 := m ((c : Thread nD τ).loc main_arg2)

/-- Argument `3`. -/
abbrev x3 (c : Dev nD) : Vec Ideal S4x64x512 .f32 := m ((c : Thread nD τ).loc main_arg3)

/-- Argument `4`. -/
abbrev x4 (c : Dev nD) : Vec Ideal S4x64x512 .f32 := m ((c : Thread nD τ).loc main_arg4)

/-- Argument `5`. -/
abbrev x5 (c : Dev nD) : Vec Ideal S4x64x512 .f32 := m ((c : Thread nD τ).loc main_arg5)

/-- Argument `6`. -/
abbrev x6 (c : Dev nD) : Vec Ideal S4x64x512 .f32 := m ((c : Thread nD τ).loc main_arg6)

/-- Argument `7`. -/
abbrev x7 (c : Dev nD) : Vec Ideal S4x64x512 .f32 := m ((c : Thread nD τ).loc main_arg7)

/-- The operands the call is given are the arguments. -/
theorem reads (c : Dev nD) : A0 m c = x0 m c ∧ A1 m c = x1 m c ∧ A2 m c = x2 m c ∧ A3 m c = x3 m c ∧ (V m c main_v0_0 : S4x64x512.Idx → EReal) = x4 m c ∧ (V m c main_v0_1 : S4x64x512.Idx → EReal) = x5 m c ∧ (V m c main_v0_2 : S4x64x512.Idx → EReal) = x6 m c ∧ (V m c main_v0_3 : S4x64x512.Idx → EReal) = x7 m c := by
  unfold A0 A1 A2 A3 V
  simp only [hostOps0, List.flatten_cons, List.flatten_nil, List.append_nil, List.cons_append, List.nil_append,
    TRef.binary, TRef.nullary, TRef.unary, TRef.toBuf, TRef.ofBuf, cast_eq]
  refine ⟨?_, ?_, ?_, ?_, ?_, ?_, ?_, ?_⟩ <;> (after_results_simp; try rfl)

theorem val4 (c : Dev nD) : G4 m c = Cert.AwgluRefIdeal.Read.val_main_v34 (F := Ideal) (x0 m c) (x4 m c) := by
  funext i
  obtain ⟨l, p, q, rfl⟩ : ∃ (l : Fin 4) (p : Fin 64) (q : Fin 512), i = ix3 l p q := ⟨i 0, i 1, i 2, eq_ix3 i⟩
  refine Eq.trans ?_ (Cert.AwgluRef.out4 (x0 m c) (x4 m c) l p q).symm
  show (if l.val = 0 then res4 m c p q else (V m c main_v0_0 : S4x64x512.Idx → EReal) (ix3 l p q)) = _
  unfold res4
  obtain ⟨h0, h1, h2, h3, h4, h5, h6, h7⟩ := reads m c
  rw [h0, h4]

theorem val5 (c : Dev nD) : G5 m c = Cert.AwgluRefIdeal.Read.val_main_v37 (F := Ideal) (x0 m c) (x1 m c) (x2 m c) (x3 m c) (x5 m c) := by
  funext i
  obtain ⟨l, p, q, rfl⟩ : ∃ (l : Fin 4) (p : Fin 64) (q : Fin 512), i = ix3 l p q := ⟨i 0, i 1, i 2, eq_ix3 i⟩
  refine Eq.trans ?_ (Cert.AwgluRef.out5 (x0 m c) (x1 m c) (x2 m c) (x3 m c) (x5 m c) l p q).symm
  show (if l.val = 0 then res5 m c p q else (V m c main_v0_1 : S4x64x512.Idx → EReal) (ix3 l p q)) = _
  unfold res5
  obtain ⟨h0, h1, h2, h3, h4, h5, h6, h7⟩ := reads m c
  rw [h0, h1, h2, h3, h5]

theorem val6 (c : Dev nD) : G6 m c = Cert.AwgluRefIdeal.Read.val_main_v40 (F := Ideal) (x0 m c) (x2 m c) (x6 m c) := by
  funext i
  obtain ⟨l, p, q, rfl⟩ : ∃ (l : Fin 4) (p : Fin 64) (q : Fin 512), i = ix3 l p q := ⟨i 0, i 1, i 2, eq_ix3 i⟩
  refine Eq.trans ?_ (Cert.AwgluRef.out6 (x0 m c) (x2 m c) (x6 m c) l p q).symm
  show (if l.val = 0 then res6 m c p q else (V m c main_v0_2 : S4x64x512.Idx → EReal) (ix3 l p q)) = _
  unfold res6
  obtain ⟨h0, h1, h2, h3, h4, h5, h6, h7⟩ := reads m c
  rw [h0, h2, h6]

theorem val7 (c : Dev nD) : G7 m c = Cert.AwgluRefIdeal.Read.val_main_v43 (F := Ideal) (x0 m c) (x3 m c) (x7 m c) := by
  funext i
  obtain ⟨l, p, q, rfl⟩ : ∃ (l : Fin 4) (p : Fin 64) (q : Fin 512), i = ix3 l p q := ⟨i 0, i 1, i 2, eq_ix3 i⟩
  refine Eq.trans ?_ (Cert.AwgluRef.out7 (x0 m c) (x3 m c) (x7 m c) l p q).symm
  show (if l.val = 0 then res7 m c p q else (V m c main_v0_3 : S4x64x512.Idx → EReal) (ix3 l p q)) = _
  unfold res7
  obtain ⟨h0, h1, h2, h3, h4, h5, h6, h7⟩ := reads m c
  rw [h0, h3, h7]

theorem algebraic : Cert.algebraic_AwgluIdeal_AwgluRefIdeal := by
  intro m g m' g' hpre hag
  refine ⟨fun c => G4 m c, fun c => G5 m c, fun c => G6 m c, fun c => G7 m c, ?_, ?_⟩
  · exact (θ_run defs _ _).mono (fun r h c => ⟨(h c).1.trans (final4 m c), (h c).2.1.trans (final5 m c), (h c).2.2.1.trans (final6 m c), (h c).2.2.2.1.trans (final7 m c), (h c).2.2.2.2⟩) (Value.run_blocks m g)
  · refine (θ_run Cert.AwgluRefIdeal.defs _ _).mono (fun r h c => ⟨(h c).1.trans ?_, (h c).2.1.trans ?_, (h c).2.2.1.trans ?_, (h c).2.2.2.1.trans ?_, (h c).2.2.2.2⟩) (Cert.AwgluRefIdeal.Value.run m' g')
    · obtain ⟨h0, h1, h2, h3, h4, h5, h6, h7⟩ := hag c
      refine (Cert.AwgluRefIdeal.Read.val_main_v34_eq _ _).trans ?_
      rw [h0, h4]
      exact (val4 m c).symm
    · obtain ⟨h0, h1, h2, h3, h4, h5, h6, h7⟩ := hag c
      refine (Cert.AwgluRefIdeal.Read.val_main_v37_eq _ _ _ _ _).trans ?_
      rw [h0, h1, h2, h3, h5]
      exact (val5 m c).symm
    · obtain ⟨h0, h1, h2, h3, h4, h5, h6, h7⟩ := hag c
      refine (Cert.AwgluRefIdeal.Read.val_main_v40_eq _ _ _).trans ?_
      rw [h0, h2, h6]
      exact (val6 m c).symm
    · obtain ⟨h0, h1, h2, h3, h4, h5, h6, h7⟩ := hag c
      refine (Cert.AwgluRefIdeal.Read.val_main_v43_eq _ _ _).trans ?_
      rw [h0, h3, h7]
      exact (val7 m c).symm

end Cert.AwgluIdeal.Body

end
-- ==== Proof.AwoutValue.lean ====
/- The values of the optimiser's call on the output weights. -/
module

public import proofs.«01_k».proof.Proof.Base
public import proofs.«01_k».proof.Proof.Adam
public import proofs.«01_k».proof.Proof.Gen.AwoutIdeal.Value

@[expose] public section

noncomputable section

open Idealize.ShloMosaic Idealize.ShloMosaic.TcCoe Idealize.SL.Sem Idealize.ShloMosaic.StableHlo
open Idealize.ShloMosaic.Pipeline (Dat)

namespace Cert.AwoutIdeal.Body

open Cert.AwoutIdeal Cert.AwoutIdeal.Gen

theorem hz : (![0, 0, 0] : Fin 3 → Nat) = fun _ => 0 := Rows.hz3

/-- Row `a` of the block at point `t`. -/
abbrev at_ (t : Fin cfg0.N) (a : Fin 128) : Fin 128 := Rows.row (T := 128) rfl t a

variable (m : (ℓ : Loc nD τ sig) → Buf (Elt Ideal) ℓ)

/-- The parts of the gradient. -/
abbrev A0 (c : Dev nD) : S8x128x1024.Idx → EReal := V m c main_arg0

/-- The weight. -/
abbrev A1 (c : Dev nD) : S4x128x1024.Idx → EReal := V m c main_arg1

/-- The first moment. -/
abbrev A2 (c : Dev nD) : S4x128x1024.Idx → EReal := V m c main_arg2

/-- The second moment. -/
abbrev A3 (c : Dev nD) : S4x128x1024.Idx → EReal := V m c main_arg3

/-- Where the windows' blocks lie: the parts' at all eight parts and a block of rows, the others' at layer 0 and a block of rows. -/
theorem at0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

theorem at1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

theorem at4 : ∀ t : Fin cfg0.N, win0_4.xsize (grid0.coords t) 0 = 1 ∧ win0_4.xsize (grid0.coords t) 1 = 128 ∧ win0_4.xsize (grid0.coords t) 2 = 1024 :=
  (by decide +kernel : ∀ t : Fin grid0.N, win0_4.xsize (grid0.coords t) 0 = 1 ∧ win0_4.xsize (grid0.coords t) 1 = 128 ∧ win0_4.xsize (grid0.coords t) 2 = 1024)

theorem blk0 (c : Dev nD) (t : Fin cfg0.N) (j : Fin 8) (a : Fin 128) (b : Fin 1024) :
    (iblk m c 0 t : S8x128x1024.Idx → EReal) (ix3 j a b) = A0 m c (ix3 j (at_ t a) b) := by
  obtain ⟨h0, h1, h2⟩ := at0 t
  unfold iblk; rw [View.read_apply]
  show (V m c main_arg0 : S8x128x1024.Idx → EReal) _ = _
  refine congrArg (A0 m c) (funext fun d => Fin.ext ?_)
  match d with
  | ⟨0, _⟩ => show win0_0.index t 0 * 8 + 1 * j.val = j.val; omega
  | ⟨1, _⟩ => show win0_0.index t 1 * 128 + 1 * a.val = 128 * t.val + a.val; rw [h1]; omega
  | ⟨2, _⟩ => show win0_0.index t 2 * 1024 + 1 * b.val = b.val; omega

/-- A block of a weight or of a moment lies at layer 0. -/
theorem pos (t : Fin cfg0.N) (a : Fin 128) (b : Fin 1024) : (win0_1.rect t).emb (ix3 0 a b) = (ix3 0 (at_ t a) b : S4x128x1024.Idx) := by
  obtain ⟨h0, h1, h2⟩ := at1 t
  refine funext fun d => Fin.ext ?_
  match d with
  | ⟨0, _⟩ => show win0_1.index t 0 * 1 + 1 * 0 = 0; omega
  | ⟨1, _⟩ => show win0_1.index t 1 * 128 + 1 * a.val = 128 * t.val + a.val; rw [h1]; omega
  | ⟨2, _⟩ => show win0_1.index t 2 * 1024 + 1 * b.val = b.val; omega

theorem blk1 (c : Dev nD) (t : Fin cfg0.N) (a : Fin 128) (b : Fin 1024) :
    (iblk m c 1 t : S1x128x1024.Idx → EReal) (ix3 0 a b) = A1 m c (ix3 0 (at_ t a) b) := by
  unfold iblk; rw [View.read_apply]
  exact congrArg (A1 m c) (pos t a b)

theorem blk2 (c : Dev nD) (t : Fin cfg0.N) (a : Fin 128) (b : Fin 1024) :
    (iblk m c 2 t : S1x128x1024.Idx → EReal) (ix3 0 a b) = A2 m c (ix3 0 (at_ t a) b) := by
  unfold iblk; rw [View.read_apply]
  exact congrArg (A2 m c) (pos t a b)

theorem blk3 (c : Dev nD) (t : Fin cfg0.N) (a : Fin 128) (b : Fin 1024) :
    (iblk m c 3 t : S1x128x1024.Idx → EReal) (ix3 0 a b) = A3 m c (ix3 0 (at_ t a) b) := by
  unfold iblk; rw [View.read_apply]
  exact congrArg (A3 m c) (pos t a b)

/-- What is written back at a point is the function `g` on the point's block, if the values are those of `g` at layer 0. -/
theorem cut_eq (t : Fin cfg0.N) (y : S1x128x1024.Idx → EReal) (g : S4x128x1024.Idx → EReal) (h : ∀ a b, y (ix3 0 a b) = g (ix3 0 (at_ t a) b))
    (j : (win0_4.xblock (grid0.coords t)).Idx) : y (win0_4.xinj (grid0.coords t) j) = g ((win0_4.rect t).emb j) := by
  obtain ⟨x0, x1, x2⟩ := at4 t
  have hj0 : (j 0 : Nat) < 1 := lt_of_lt_of_eq (j 0).isLt x0
  have e : (win0_4.xinj (grid0.coords t) j : S1x128x1024.Idx) = ix3 0 ⟨j 1, lt_of_lt_of_eq (j 1).isLt x1⟩ ⟨j 2, lt_of_lt_of_eq (j 2).isLt x2⟩ := by
    refine funext fun d => Fin.ext ?_
    match d with
    | ⟨0, _⟩ => show (j 0 : Nat) = 0; omega
    | ⟨1, _⟩ => rfl
    | ⟨2, _⟩ => rfl
  refine (congrArg y e).trans ((h _ _).trans (congrArg g ((pos t _ _).symm.trans (funext fun d => Fin.ext ?_))))
  match d with
  | ⟨0, _⟩ => show win0_1.index t 0 * 1 + 1 * 0 = win0_1.index t 0 * 1 + 1 * (j 0 : Nat); omega
  | ⟨1, _⟩ => rfl
  | ⟨2, _⟩ => rfl

/-- The blocks cover layer 0. -/
theorem cover (i : S4x128x1024.Idx) (h : (i 0).val = 0) : ∃ t : Fin cfg0.N, i ∈ (win0_4.rect t).set := by
  obtain ⟨t, s, hs⟩ := Rows.exists_row (N := 1) (B := 128) (T := 128) rfl (by decide) (i 1)
  obtain ⟨h0, h1, h2⟩ := at1 t
  obtain ⟨x0, x1, x2⟩ := at4 t
  refine ⟨t, ?_⟩
  rw [Rect.mem_set_unit]
  have g2 : (i 2 : Nat) < 1024 := (i 2).isLt
  have g1 : (i 1 : Nat) = 128 * t.val + s.val := congrArg Fin.val hs
  have hr := s.isLt
  intro a
  match a with
  | ⟨0, _⟩ => show win0_1.index t 0 * 1 ≤ (i 0 : Nat) ∧ (i 0 : Nat) < win0_1.index t 0 * 1 + win0_4.xsize (grid0.coords t) 0
              rw [x0]; omega
  | ⟨1, _⟩ => show win0_1.index t 1 * 128 ≤ (i 1 : Nat) ∧ (i 1 : Nat) < win0_1.index t 1 * 128 + win0_4.xsize (grid0.coords t) 1
              rw [x1, h1]; omega
  | ⟨2, _⟩ => show win0_1.index t 2 * 1024 ≤ (i 2 : Nat) ∧ (i 2 : Nat) < win0_1.index t 2 * 1024 + win0_4.xsize (grid0.coords t) 2
              rw [x2]; omega

/-- Element `(R, q)` of layer 0 of result `0`: the sum of the parts of the gradient. -/
def res4 (c : Dev nD) (R : Fin 128) (q : Fin 1024) : EReal :=
  Rows.sum8 (fun k => A0 m c (ix3 k R q))

/-- Result `0`: layer 0 is new, the other layers stay. -/
def G4 (c : Dev nD) : Vec Ideal S4x128x1024 .f32 :=
  fun i => if (i 0).val = 0 then res4 m c (i 1) (i 2) else (V m c main_v0_0 : S4x128x1024.Idx → EReal) i

theorem row4 (c : Dev nD) (t : Fin cfg0.N) (a : Fin 128) (b : Fin 1024) : (outsAt0 m c t).1 (ix3 0 a b) = G4 m c (ix3 0 (at_ t a) b) := by
  refine Eq.trans (b := res4 m c (at_ t a) b) ?_ (if_pos rfl).symm
  unfold outsAt0 out0_A_4
  dsimp only
  rw [View.read_writes_eq_canon _ _ _ (cover0_A_4 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x128x1024) hz]
  pointwise [k0_pay1, k0_pay2, k0_pay3, k0_pay4, k0_pay5, k0_pay6, k0_pay7, res4, Rows.newM, Rows.newV, Rows.stepD]
  simp only [Rows.sum8_eq, blk0 m c t]
  try rfl

theorem final4 (c : Dev nD) : (dats m 0 c).arrAt 4 cfg0.N = G4 m c := by
  funext i
  refine ((dats m 0 c).arrAt_eq_piecewise 4 (G4 m c) (fun t hf => (Value.flushed4 m c t).trans (funext fun j => ?_)) i).trans ?_
  · rw [View.read_apply]
    exact cut_eq t _ (G4 m c) (row4 m c t) j
  · split
    · rfl
    · rename_i hno
      refine (congrFun (A_eq m c 4) i).trans (if_neg fun h0 => hno ?_).symm
      obtain ⟨t, ht⟩ := cover i h0
      exact ⟨t, flush0_4 t, (View.set_slice_whole main_v0_0 (win0_4.rect t)).symm ▸ ht⟩

/-- Element `(R, q)` of layer 0 of result `1`: the step. -/
def res5 (c : Dev nD) (R : Fin 128) (q : Fin 1024) : EReal :=
  Rows.stepD (Rows.sum8 (fun k => A0 m c (ix3 k R q))) (A1 m c (ix3 0 R q)) (A2 m c (ix3 0 R q)) (A3 m c (ix3 0 R q))

/-- Result `1`: layer 0 is new, the other layers stay. -/
def G5 (c : Dev nD) : Vec Ideal S4x128x1024 .f32 :=
  fun i => if (i 0).val = 0 then res5 m c (i 1) (i 2) else (V m c main_v0_1 : S4x128x1024.Idx → EReal) i

theorem row5 (c : Dev nD) (t : Fin cfg0.N) (a : Fin 128) (b : Fin 1024) : (outsAt0 m c t).2.1 (ix3 0 a b) = G5 m c (ix3 0 (at_ t a) b) := by
  refine Eq.trans (b := res5 m c (at_ t a) b) ?_ (if_pos rfl).symm
  unfold outsAt0 out0_A_5
  dsimp only
  rw [View.read_writes_eq_canon _ _ _ (cover0_A_5 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x128x1024) hz]
  pointwise [k0_pay1, k0_pay2, k0_pay3, k0_pay4, k0_pay5, k0_pay6, k0_pay7, res5, Rows.newM, Rows.newV, Rows.stepD]
  simp only [Rows.sum8_eq, blk0 m c t, blk1 m c t, blk2 m c t, blk3 m c t]
  try rfl

theorem final5 (c : Dev nD) : (dats m 0 c).arrAt 5 cfg0.N = G5 m c := by
  funext i
  refine ((dats m 0 c).arrAt_eq_piecewise 5 (G5 m c) (fun t hf => (Value.flushed5 m c t).trans (funext fun j => ?_)) i).trans ?_
  · rw [View.read_apply]
    exact cut_eq t _ (G5 m c) (row5 m c t) j
  · split
    · rfl
    · rename_i hno
      refine (congrFun (A_eq m c 5) i).trans (if_neg fun h0 => hno ?_).symm
      obtain ⟨t, ht⟩ := cover i h0
      exact ⟨t, flush0_5 t, (View.set_slice_whole main_v0_1 (win0_5.rect t)).symm ▸ ht⟩

/-- Element `(R, q)` of layer 0 of result `2`: the new first moment. -/
def res6 (c : Dev nD) (R : Fin 128) (q : Fin 1024) : EReal :=
  Rows.newM (Rows.sum8 (fun k => A0 m c (ix3 k R q))) (A2 m c (ix3 0 R q))

/-- Result `2`: layer 0 is new, the other layers stay. -/
def G6 (c : Dev nD) : Vec Ideal S4x128x1024 .f32 :=
  fun i => if (i 0).val = 0 then res6 m c (i 1) (i 2) else (V m c main_v0_2 : S4x128x1024.Idx → EReal) i

theorem row6 (c : Dev nD) (t : Fin cfg0.N) (a : Fin 128) (b : Fin 1024) : (outsAt0 m c t).2.2.1 (ix3 0 a b) = G6 m c (ix3 0 (at_ t a) b) := by
  refine Eq.trans (b := res6 m c (at_ t a) b) ?_ (if_pos rfl).symm
  unfold outsAt0 out0_A_6
  dsimp only
  rw [View.read_writes_eq_canon _ _ _ (cover0_A_6 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x128x1024) hz]
  pointwise [k0_pay1, k0_pay2, k0_pay3, k0_pay4, k0_pay5, k0_pay6, k0_pay7, res6, Rows.newM, Rows.newV, Rows.stepD]
  simp only [Rows.sum8_eq, blk0 m c t, blk2 m c t]
  try rfl

theorem final6 (c : Dev nD) : (dats m 0 c).arrAt 6 cfg0.N = G6 m c := by
  funext i
  refine ((dats m 0 c).arrAt_eq_piecewise 6 (G6 m c) (fun t hf => (Value.flushed6 m c t).trans (funext fun j => ?_)) i).trans ?_
  · rw [View.read_apply]
    exact cut_eq t _ (G6 m c) (row6 m c t) j
  · split
    · rfl
    · rename_i hno
      refine (congrFun (A_eq m c 6) i).trans (if_neg fun h0 => hno ?_).symm
      obtain ⟨t, ht⟩ := cover i h0
      exact ⟨t, flush0_6 t, (View.set_slice_whole main_v0_2 (win0_6.rect t)).symm ▸ ht⟩

/-- Element `(R, q)` of layer 0 of result `3`: the new second moment. -/
def res7 (c : Dev nD) (R : Fin 128) (q : Fin 1024) : EReal :=
  Rows.newV (Rows.sum8 (fun k => A0 m c (ix3 k R q))) (A3 m c (ix3 0 R q))

/-- Result `3`: layer 0 is new, the other layers stay. -/
def G7 (c : Dev nD) : Vec Ideal S4x128x1024 .f32 :=
  fun i => if (i 0).val = 0 then res7 m c (i 1) (i 2) else (V m c main_v0_3 : S4x128x1024.Idx → EReal) i

theorem row7 (c : Dev nD) (t : Fin cfg0.N) (a : Fin 128) (b : Fin 1024) : (outsAt0 m c t).2.2.2 (ix3 0 a b) = G7 m c (ix3 0 (at_ t a) b) := by
  refine Eq.trans (b := res7 m c (at_ t a) b) ?_ (if_pos rfl).symm
  unfold outsAt0 out0_A_7
  dsimp only
  rw [View.read_writes_eq_canon _ _ _ (cover0_A_7 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x128x1024) hz]
  pointwise [k0_pay1, k0_pay2, k0_pay3, k0_pay4, k0_pay5, k0_pay6, k0_pay7, res7, Rows.newM, Rows.newV, Rows.stepD]
  simp only [Rows.sum8_eq, blk0 m c t, blk3 m c t]
  try rfl

theorem final7 (c : Dev nD) : (dats m 0 c).arrAt 7 cfg0.N = G7 m c := by
  funext i
  refine ((dats m 0 c).arrAt_eq_piecewise 7 (G7 m c) (fun t hf => (Value.flushed7 m c t).trans (funext fun j => ?_)) i).trans ?_
  · rw [View.read_apply]
    exact cut_eq t _ (G7 m c) (row7 m c t) j
  · split
    · rfl
    · rename_i hno
      refine (congrFun (A_eq m c 7) i).trans (if_neg fun h0 => hno ?_).symm
      obtain ⟨t, ht⟩ := cover i h0
      exact ⟨t, flush0_7 t, (View.set_slice_whole main_v0_3 (win0_7.rect t)).symm ▸ ht⟩

end Cert.AwoutIdeal.Body

end
-- ==== Proof.AwoutClaim.lean ====
/- The claim on the optimiser's call on the output weights: layer 0 of the four results is the sum of the parts of the gradient and the step it gives. -/
module

public import proofs.«01_k».proof.Defs
public import proofs.«01_k».proof.Proof.AwoutValue
public import proofs.«01_k».proof.Proof.Gen.AwoutRefIdeal
public import proofs.«01_k».proof.Proof.Gen.AwoutRefIdeal.Run
public import proofs.«01_k».proof.Proof.Gen.AwoutRefIdeal.Read

@[expose] public section

noncomputable section

open Idealize.ShloMosaic Idealize.ShloMosaic.TcCoe Idealize.SL.Sem Idealize.ShloMosaic.StableHlo

namespace Cert.AwoutRef

open Cert.AwoutRefIdeal Cert.AwoutRefIdeal.Read Cert.AwoutRefIdeal.Gen

/-- A new layer 0 before the layers from 1 on of an array. -/
theorem cat (u : Vec Ideal S1x128x1024 .f32) (x : Vec Ideal S4x128x1024 .f32) (l : Fin 4) (p : Fin 128) (q : Fin 1024) :
    concatenate S4x128x1024 0 [⟨S1x128x1024, u⟩, ⟨S3x128x1024, extractStridedSlice S3x128x1024 ![1, 0, 0] x slices_S4x128x1024_S3x128x1024_1_0_0⟩] concatenates_S1x128x1024_S3x128x1024_S4x128x1024_d0 (ix3 l p q)
      = if l.val = 0 then u (ix3 0 p q) else x (ix3 l p q) := by
  pointwise []
  by_cases h : l.val = 0
  · rw [dif_pos (by omega), if_pos h]
    exact congrArg (fun k => u (ix3 k p q)) (Fin.ext h)
  · rw [dif_neg (by omega), if_neg h]
    exact congrArg (fun k => x (ix3 k p q)) (Fin.ext (by dsimp only; omega))

theorem out4 (x0 : Vec Ideal S8x128x1024 .bf16) (x4 : Vec Ideal S4x128x1024 .f32) (l : Fin 4) (p : Fin 128) (q : Fin 1024) :
    val_main_v34 (F := Ideal) x0 x4 (ix3 l p q) = if l.val = 0 then Rows.sum8 (fun k => x0 (ix3 k p q)) else x4 (ix3 l p q) := by
  rw [← val_main_v34_eq]
  refine (cat _ _ l p q).trans (congrArg (fun y => if l.val = 0 then y else x4 (ix3 l p q)) ?_)
  pointwise [Rows.newM, Rows.newV, Rows.stepD, Rows.sum8]

theorem out5 (x0 : Vec Ideal S8x128x1024 .bf16) (x1 : Vec Ideal S4x128x1024 .f32) (x2 : Vec Ideal S4x128x1024 .f32) (x3 : Vec Ideal S4x128x1024 .f32) (x5 : Vec Ideal S4x128x1024 .f32) (l : Fin 4) (p : Fin 128) (q : Fin 1024) :
    val_main_v37 (F := Ideal) x0 x1 x2 x3 x5 (ix3 l p q) = if l.val = 0 then Rows.stepD (Rows.sum8 (fun k => x0 (ix3 k p q))) (x1 (ix3 0 p q)) (x2 (ix3 0 p q)) (x3 (ix3 0 p q)) else x5 (ix3 l p q) := by
  rw [← val_main_v37_eq]
  refine (cat _ _ l p q).trans (congrArg (fun y => if l.val = 0 then y else x5 (ix3 l p q)) ?_)
  pointwise [Rows.newM, Rows.newV, Rows.stepD, Rows.sum8]

theorem out6 (x0 : Vec Ideal S8x128x1024 .bf16) (x2 : Vec Ideal S4x128x1024 .f32) (x6 : Vec Ideal S4x128x1024 .f32) (l : Fin 4) (p : Fin 128) (q : Fin 1024) :
    val_main_v40 (F := Ideal) x0 x2 x6 (ix3 l p q) = if l.val = 0 then Rows.newM (Rows.sum8 (fun k => x0 (ix3 k p q))) (x2 (ix3 0 p q)) else x6 (ix3 l p q) := by
  rw [← val_main_v40_eq]
  refine (cat _ _ l p q).trans (congrArg (fun y => if l.val = 0 then y else x6 (ix3 l p q)) ?_)
  pointwise [Rows.newM, Rows.newV, Rows.stepD, Rows.sum8]

theorem out7 (x0 : Vec Ideal S8x128x1024 .bf16) (x3 : Vec Ideal S4x128x1024 .f32) (x7 : Vec Ideal S4x128x1024 .f32) (l : Fin 4) (p : Fin 128) (q : Fin 1024) :
    val_main_v43 (F := Ideal) x0 x3 x7 (ix3 l p q) = if l.val = 0 then Rows.newV (Rows.sum8 (fun k => x0 (ix3 k p q))) (x3 (ix3 0 p q)) else x7 (ix3 l p q) := by
  rw [← val_main_v43_eq]
  refine (cat _ _ l p q).trans (congrArg (fun y => if l.val = 0 then y else x7 (ix3 l p q)) ?_)
  pointwise [Rows.newM, Rows.newV, Rows.stepD, Rows.sum8]

end Cert.AwoutRef

namespace Cert.AwoutIdeal.Body

open Cert.AwoutIdeal Cert.AwoutIdeal.Gen

variable (m : (ℓ : Loc nD τ sig) → Buf (Elt Ideal) ℓ)

/-- Argument `0`. -/
abbrev x0 (c : Dev nD) : Vec Ideal S8x128x1024 .bf16 := m ((c : Thread nD τ).loc main_arg0)

/-- Argument `1`. -/
abbrev x1 (c : Dev nD) : Vec Ideal S4x128x1024 .f32 := m ((c : Thread nD τ).loc main_arg1)

/-- Argument `2`. -/
abbrev x2 (c : Dev nD) : Vec Ideal S4x128x1024 .f32 := m ((c : Thread nD τ).loc main_arg2)

/-- Argument `3`. -/
abbrev x3 (c : Dev nD) : Vec Ideal S4x128x1024 .f32 := m ((c : Thread nD τ).loc main_arg3)

/-- Argument `4`. -/
abbrev x4 (c : Dev nD) : Vec Ideal S4x128x1024 .f32 := m ((c : Thread nD τ).loc main_arg4)

/-- Argument `5`. -/
abbrev x5 (c : Dev nD) : Vec Ideal S4x128x1024 .f32 := m ((c : Thread nD τ).loc main_arg5)

/-- Argument `6`. -/
abbrev x6 (c : Dev nD) : Vec Ideal S4x128x1024 .f32 := m ((c : Thread nD τ).loc main_arg6)

/-- Argument `7`. -/
abbrev x7 (c : Dev nD) : Vec Ideal S4x128x1024 .f32 := m ((c : Thread nD τ).loc main_arg7)

/-- The operands the call is given are the arguments. -/
theorem reads (c : Dev nD) : A0 m c = x0 m c ∧ A1 m c = x1 m c ∧ A2 m c = x2 m c ∧ A3 m c = x3 m c ∧ (V m c main_v0_0 : S4x128x1024.Idx → EReal) = x4 m c ∧ (V m c main_v0_1 : S4x128x1024.Idx → EReal) = x5 m c ∧ (V m c main_v0_2 : S4x128x1024.Idx → EReal) = x6 m c ∧ (V m c main_v0_3 : S4x128x1024.Idx → EReal) = x7 m c := by
  unfold A0 A1 A2 A3 V
  simp only [hostOps0, List.flatten_cons, List.flatten_nil, List.append_nil, List.cons_append, List.nil_append,
    TRef.binary, TRef.nullary, TRef.unary, TRef.toBuf, TRef.ofBuf, cast_eq]
  refine ⟨?_, ?_, ?_, ?_, ?_, ?_, ?_, ?_⟩ <;> (after_results_simp; try rfl)

theorem val4 (c : Dev nD) : G4 m c = Cert.AwoutRefIdeal.Read.val_main_v34 (F := Ideal) (x0 m c) (x4 m c) := by
  funext i
  obtain ⟨l, p, q, rfl⟩ : ∃ (l : Fin 4) (p : Fin 128) (q : Fin 1024), i = ix3 l p q := ⟨i 0, i 1, i 2, eq_ix3 i⟩
  refine Eq.trans ?_ (Cert.AwoutRef.out4 (x0 m c) (x4 m c) l p q).symm
  show (if l.val = 0 then res4 m c p q else (V m c main_v0_0 : S4x128x1024.Idx → EReal) (ix3 l p q)) = _
  unfold res4
  obtain ⟨h0, h1, h2, h3, h4, h5, h6, h7⟩ := reads m c
  rw [h0, h4]

theorem val5 (c : Dev nD) : G5 m c = Cert.AwoutRefIdeal.Read.val_main_v37 (F := Ideal) (x0 m c) (x1 m c) (x2 m c) (x3 m c) (x5 m c) := by
  funext i
  obtain ⟨l, p, q, rfl⟩ : ∃ (l : Fin 4) (p : Fin 128) (q : Fin 1024), i = ix3 l p q := ⟨i 0, i 1, i 2, eq_ix3 i⟩
  refine Eq.trans ?_ (Cert.AwoutRef.out5 (x0 m c) (x1 m c) (x2 m c) (x3 m c) (x5 m c) l p q).symm
  show (if l.val = 0 then res5 m c p q else (V m c main_v0_1 : S4x128x1024.Idx → EReal) (ix3 l p q)) = _
  unfold res5
  obtain ⟨h0, h1, h2, h3, h4, h5, h6, h7⟩ := reads m c
  rw [h0, h1, h2, h3, h5]

theorem val6 (c : Dev nD) : G6 m c = Cert.AwoutRefIdeal.Read.val_main_v40 (F := Ideal) (x0 m c) (x2 m c) (x6 m c) := by
  funext i
  obtain ⟨l, p, q, rfl⟩ : ∃ (l : Fin 4) (p : Fin 128) (q : Fin 1024), i = ix3 l p q := ⟨i 0, i 1, i 2, eq_ix3 i⟩
  refine Eq.trans ?_ (Cert.AwoutRef.out6 (x0 m c) (x2 m c) (x6 m c) l p q).symm
  show (if l.val = 0 then res6 m c p q else (V m c main_v0_2 : S4x128x1024.Idx → EReal) (ix3 l p q)) = _
  unfold res6
  obtain ⟨h0, h1, h2, h3, h4, h5, h6, h7⟩ := reads m c
  rw [h0, h2, h6]

theorem val7 (c : Dev nD) : G7 m c = Cert.AwoutRefIdeal.Read.val_main_v43 (F := Ideal) (x0 m c) (x3 m c) (x7 m c) := by
  funext i
  obtain ⟨l, p, q, rfl⟩ : ∃ (l : Fin 4) (p : Fin 128) (q : Fin 1024), i = ix3 l p q := ⟨i 0, i 1, i 2, eq_ix3 i⟩
  refine Eq.trans ?_ (Cert.AwoutRef.out7 (x0 m c) (x3 m c) (x7 m c) l p q).symm
  show (if l.val = 0 then res7 m c p q else (V m c main_v0_3 : S4x128x1024.Idx → EReal) (ix3 l p q)) = _
  unfold res7
  obtain ⟨h0, h1, h2, h3, h4, h5, h6, h7⟩ := reads m c
  rw [h0, h3, h7]

theorem algebraic : Cert.algebraic_AwoutIdeal_AwoutRefIdeal := by
  intro m g m' g' hpre hag
  refine ⟨fun c => G4 m c, fun c => G5 m c, fun c => G6 m c, fun c => G7 m c, ?_, ?_⟩
  · exact (θ_run defs _ _).mono (fun r h c => ⟨(h c).1.trans (final4 m c), (h c).2.1.trans (final5 m c), (h c).2.2.1.trans (final6 m c), (h c).2.2.2.1.trans (final7 m c), (h c).2.2.2.2⟩) (Value.run_blocks m g)
  · refine (θ_run Cert.AwoutRefIdeal.defs _ _).mono (fun r h c => ⟨(h c).1.trans ?_, (h c).2.1.trans ?_, (h c).2.2.1.trans ?_, (h c).2.2.2.1.trans ?_, (h c).2.2.2.2⟩) (Cert.AwoutRefIdeal.Value.run m' g')
    · obtain ⟨h0, h1, h2, h3, h4, h5, h6, h7⟩ := hag c
      refine (Cert.AwoutRefIdeal.Read.val_main_v34_eq _ _).trans ?_
      rw [h0, h4]
      exact (val4 m c).symm
    · obtain ⟨h0, h1, h2, h3, h4, h5, h6, h7⟩ := hag c
      refine (Cert.AwoutRefIdeal.Read.val_main_v37_eq _ _ _ _ _).trans ?_
      rw [h0, h1, h2, h3, h5]
      exact (val5 m c).symm
    · obtain ⟨h0, h1, h2, h3, h4, h5, h6, h7⟩ := hag c
      refine (Cert.AwoutRefIdeal.Read.val_main_v40_eq _ _ _).trans ?_
      rw [h0, h2, h6]
      exact (val6 m c).symm
    · obtain ⟨h0, h1, h2, h3, h4, h5, h6, h7⟩ := hag c
      refine (Cert.AwoutRefIdeal.Read.val_main_v43_eq _ _ _).trans ?_
      rw [h0, h3, h7]
      exact (val7 m c).symm

end Cert.AwoutIdeal.Body

end
-- ==== Proof.Awff1Value.lean ====
/- The values of the optimiser's call on the first weights of the feed-forward layer. -/
module

public import proofs.«01_k».proof.Proof.Base
public import proofs.«01_k».proof.Proof.Adam
public import proofs.«01_k».proof.Proof.Gen.Awff1Ideal.Value

@[expose] public section

noncomputable section

open Idealize.ShloMosaic Idealize.ShloMosaic.TcCoe Idealize.SL.Sem Idealize.ShloMosaic.StableHlo
open Idealize.ShloMosaic.Pipeline (Dat)

namespace Cert.Awff1Ideal.Body

open Cert.Awff1Ideal Cert.Awff1Ideal.Gen

theorem hz : (![0, 0, 0] : Fin 3 → Nat) = fun _ => 0 := Rows.hz3

/-- Row `a` of the block at point `t`. -/
abbrev at_ (t : Fin cfg0.N) (a : Fin 256) : Fin 1024 := Rows.row (T := 1024) rfl t a

variable (m : (ℓ : Loc nD τ sig) → Buf (Elt Ideal) ℓ)

/-- The parts of the gradient. -/
abbrev A0 (c : Dev nD) : S8x1024x512.Idx → EReal := V m c main_arg0

/-- The weight. -/
abbrev A1 (c : Dev nD) : S4x1024x512.Idx → EReal := V m c main_arg1

/-- The first moment. -/
abbrev A2 (c : Dev nD) : S4x1024x512.Idx → EReal := V m c main_arg2

/-- The second moment. -/
abbrev A3 (c : Dev nD) : S4x1024x512.Idx → EReal := V m c main_arg3

/-- Where the windows' blocks lie: the parts' at all eight parts and a block of rows, the others' at layer 0 and a block of rows. -/
theorem at0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

theorem at1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

theorem at4 : ∀ t : Fin cfg0.N, win0_4.xsize (grid0.coords t) 0 = 1 ∧ win0_4.xsize (grid0.coords t) 1 = 256 ∧ win0_4.xsize (grid0.coords t) 2 = 512 :=
  (by decide +kernel : ∀ t : Fin grid0.N, win0_4.xsize (grid0.coords t) 0 = 1 ∧ win0_4.xsize (grid0.coords t) 1 = 256 ∧ win0_4.xsize (grid0.coords t) 2 = 512)

theorem blk0 (c : Dev nD) (t : Fin cfg0.N) (j : Fin 8) (a : Fin 256) (b : Fin 512) :
    (iblk m c 0 t : S8x256x512.Idx → EReal) (ix3 j a b) = A0 m c (ix3 j (at_ t a) b) := by
  obtain ⟨h0, h1, h2⟩ := at0 t
  unfold iblk; rw [View.read_apply]
  show (V m c main_arg0 : S8x1024x512.Idx → EReal) _ = _
  refine congrArg (A0 m c) (funext fun d => Fin.ext ?_)
  match d with
  | ⟨0, _⟩ => show win0_0.index t 0 * 8 + 1 * j.val = j.val; omega
  | ⟨1, _⟩ => show win0_0.index t 1 * 256 + 1 * a.val = 256 * t.val + a.val; rw [h1]; omega
  | ⟨2, _⟩ => show win0_0.index t 2 * 512 + 1 * b.val = b.val; omega

/-- A block of a weight or of a moment lies at layer 0. -/
theorem pos (t : Fin cfg0.N) (a : Fin 256) (b : Fin 512) : (win0_1.rect t).emb (ix3 0 a b) = (ix3 0 (at_ t a) b : S4x1024x512.Idx) := by
  obtain ⟨h0, h1, h2⟩ := at1 t
  refine funext fun d => Fin.ext ?_
  match d with
  | ⟨0, _⟩ => show win0_1.index t 0 * 1 + 1 * 0 = 0; omega
  | ⟨1, _⟩ => show win0_1.index t 1 * 256 + 1 * a.val = 256 * t.val + a.val; rw [h1]; omega
  | ⟨2, _⟩ => show win0_1.index t 2 * 512 + 1 * b.val = b.val; omega

theorem blk1 (c : Dev nD) (t : Fin cfg0.N) (a : Fin 256) (b : Fin 512) :
    (iblk m c 1 t : S1x256x512.Idx → EReal) (ix3 0 a b) = A1 m c (ix3 0 (at_ t a) b) := by
  unfold iblk; rw [View.read_apply]
  exact congrArg (A1 m c) (pos t a b)

theorem blk2 (c : Dev nD) (t : Fin cfg0.N) (a : Fin 256) (b : Fin 512) :
    (iblk m c 2 t : S1x256x512.Idx → EReal) (ix3 0 a b) = A2 m c (ix3 0 (at_ t a) b) := by
  unfold iblk; rw [View.read_apply]
  exact congrArg (A2 m c) (pos t a b)

theorem blk3 (c : Dev nD) (t : Fin cfg0.N) (a : Fin 256) (b : Fin 512) :
    (iblk m c 3 t : S1x256x512.Idx → EReal) (ix3 0 a b) = A3 m c (ix3 0 (at_ t a) b) := by
  unfold iblk; rw [View.read_apply]
  exact congrArg (A3 m c) (pos t a b)

/-- What is written back at a point is the function `g` on the point's block, if the values are those of `g` at layer 0. -/
theorem cut_eq (t : Fin cfg0.N) (y : S1x256x512.Idx → EReal) (g : S4x1024x512.Idx → EReal) (h : ∀ a b, y (ix3 0 a b) = g (ix3 0 (at_ t a) b))
    (j : (win0_4.xblock (grid0.coords t)).Idx) : y (win0_4.xinj (grid0.coords t) j) = g ((win0_4.rect t).emb j) := by
  obtain ⟨x0, x1, x2⟩ := at4 t
  have hj0 : (j 0 : Nat) < 1 := lt_of_lt_of_eq (j 0).isLt x0
  have e : (win0_4.xinj (grid0.coords t) j : S1x256x512.Idx) = ix3 0 ⟨j 1, lt_of_lt_of_eq (j 1).isLt x1⟩ ⟨j 2, lt_of_lt_of_eq (j 2).isLt x2⟩ := by
    refine funext fun d => Fin.ext ?_
    match d with
    | ⟨0, _⟩ => show (j 0 : Nat) = 0; omega
    | ⟨1, _⟩ => rfl
    | ⟨2, _⟩ => rfl
  refine (congrArg y e).trans ((h _ _).trans (congrArg g ((pos t _ _).symm.trans (funext fun d => Fin.ext ?_))))
  match d with
  | ⟨0, _⟩ => show win0_1.index t 0 * 1 + 1 * 0 = win0_1.index t 0 * 1 + 1 * (j 0 : Nat); omega
  | ⟨1, _⟩ => rfl
  | ⟨2, _⟩ => rfl

/-- The blocks cover layer 0. -/
theorem cover (i : S4x1024x512.Idx) (h : (i 0).val = 0) : ∃ t : Fin cfg0.N, i ∈ (win0_4.rect t).set := by
  obtain ⟨t, s, hs⟩ := Rows.exists_row (N := 4) (B := 256) (T := 1024) rfl (by decide) (i 1)
  obtain ⟨h0, h1, h2⟩ := at1 t
  obtain ⟨x0, x1, x2⟩ := at4 t
  refine ⟨t, ?_⟩
  rw [Rect.mem_set_unit]
  have g2 : (i 2 : Nat) < 512 := (i 2).isLt
  have g1 : (i 1 : Nat) = 256 * t.val + s.val := congrArg Fin.val hs
  have hr := s.isLt
  intro a
  match a with
  | ⟨0, _⟩ => show win0_1.index t 0 * 1 ≤ (i 0 : Nat) ∧ (i 0 : Nat) < win0_1.index t 0 * 1 + win0_4.xsize (grid0.coords t) 0
              rw [x0]; omega
  | ⟨1, _⟩ => show win0_1.index t 1 * 256 ≤ (i 1 : Nat) ∧ (i 1 : Nat) < win0_1.index t 1 * 256 + win0_4.xsize (grid0.coords t) 1
              rw [x1, h1]; omega
  | ⟨2, _⟩ => show win0_1.index t 2 * 512 ≤ (i 2 : Nat) ∧ (i 2 : Nat) < win0_1.index t 2 * 512 + win0_4.xsize (grid0.coords t) 2
              rw [x2]; omega

/-- Element `(R, q)` of layer 0 of result `0`: the sum of the parts of the gradient. -/
def res4 (c : Dev nD) (R : Fin 1024) (q : Fin 512) : EReal :=
  Rows.sum8 (fun k => A0 m c (ix3 k R q))

/-- Result `0`: layer 0 is new, the other layers stay. -/
def G4 (c : Dev nD) : Vec Ideal S4x1024x512 .f32 :=
  fun i => if (i 0).val = 0 then res4 m c (i 1) (i 2) else (V m c main_v0_0 : S4x1024x512.Idx → EReal) i

theorem row4 (c : Dev nD) (t : Fin cfg0.N) (a : Fin 256) (b : Fin 512) : (outsAt0 m c t).1 (ix3 0 a b) = G4 m c (ix3 0 (at_ t a) b) := by
  refine Eq.trans (b := res4 m c (at_ t a) b) ?_ (if_pos rfl).symm
  unfold outsAt0 out0_A_4
  dsimp only
  rw [View.read_writes_eq_canon _ _ _ (cover0_A_4 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x256x512) hz]
  pointwise [k0_pay1, k0_pay2, k0_pay3, k0_pay4, k0_pay5, k0_pay6, k0_pay7, res4, Rows.newM, Rows.newV, Rows.stepD]
  simp only [Rows.sum8_eq, blk0 m c t]
  try rfl

theorem final4 (c : Dev nD) : (dats m 0 c).arrAt 4 cfg0.N = G4 m c := by
  funext i
  refine ((dats m 0 c).arrAt_eq_piecewise 4 (G4 m c) (fun t hf => (Value.flushed4 m c t).trans (funext fun j => ?_)) i).trans ?_
  · rw [View.read_apply]
    exact cut_eq t _ (G4 m c) (row4 m c t) j
  · split
    · rfl
    · rename_i hno
      refine (congrFun (A_eq m c 4) i).trans (if_neg fun h0 => hno ?_).symm
      obtain ⟨t, ht⟩ := cover i h0
      exact ⟨t, flush0_4 t, (View.set_slice_whole main_v0_0 (win0_4.rect t)).symm ▸ ht⟩

/-- Element `(R, q)` of layer 0 of result `1`: the step. -/
def res5 (c : Dev nD) (R : Fin 1024) (q : Fin 512) : EReal :=
  Rows.stepD (Rows.sum8 (fun k => A0 m c (ix3 k R q))) (A1 m c (ix3 0 R q)) (A2 m c (ix3 0 R q)) (A3 m c (ix3 0 R q))

/-- Result `1`: layer 0 is new, the other layers stay. -/
def G5 (c : Dev nD) : Vec Ideal S4x1024x512 .f32 :=
  fun i => if (i 0).val = 0 then res5 m c (i 1) (i 2) else (V m c main_v0_1 : S4x1024x512.Idx → EReal) i

theorem row5 (c : Dev nD) (t : Fin cfg0.N) (a : Fin 256) (b : Fin 512) : (outsAt0 m c t).2.1 (ix3 0 a b) = G5 m c (ix3 0 (at_ t a) b) := by
  refine Eq.trans (b := res5 m c (at_ t a) b) ?_ (if_pos rfl).symm
  unfold outsAt0 out0_A_5
  dsimp only
  rw [View.read_writes_eq_canon _ _ _ (cover0_A_5 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x256x512) hz]
  pointwise [k0_pay1, k0_pay2, k0_pay3, k0_pay4, k0_pay5, k0_pay6, k0_pay7, res5, Rows.newM, Rows.newV, Rows.stepD]
  simp only [Rows.sum8_eq, blk0 m c t, blk1 m c t, blk2 m c t, blk3 m c t]
  try rfl

theorem final5 (c : Dev nD) : (dats m 0 c).arrAt 5 cfg0.N = G5 m c := by
  funext i
  refine ((dats m 0 c).arrAt_eq_piecewise 5 (G5 m c) (fun t hf => (Value.flushed5 m c t).trans (funext fun j => ?_)) i).trans ?_
  · rw [View.read_apply]
    exact cut_eq t _ (G5 m c) (row5 m c t) j
  · split
    · rfl
    · rename_i hno
      refine (congrFun (A_eq m c 5) i).trans (if_neg fun h0 => hno ?_).symm
      obtain ⟨t, ht⟩ := cover i h0
      exact ⟨t, flush0_5 t, (View.set_slice_whole main_v0_1 (win0_5.rect t)).symm ▸ ht⟩

/-- Element `(R, q)` of layer 0 of result `2`: the new first moment. -/
def res6 (c : Dev nD) (R : Fin 1024) (q : Fin 512) : EReal :=
  Rows.newM (Rows.sum8 (fun k => A0 m c (ix3 k R q))) (A2 m c (ix3 0 R q))

/-- Result `2`: layer 0 is new, the other layers stay. -/
def G6 (c : Dev nD) : Vec Ideal S4x1024x512 .f32 :=
  fun i => if (i 0).val = 0 then res6 m c (i 1) (i 2) else (V m c main_v0_2 : S4x1024x512.Idx → EReal) i

theorem row6 (c : Dev nD) (t : Fin cfg0.N) (a : Fin 256) (b : Fin 512) : (outsAt0 m c t).2.2.1 (ix3 0 a b) = G6 m c (ix3 0 (at_ t a) b) := by
  refine Eq.trans (b := res6 m c (at_ t a) b) ?_ (if_pos rfl).symm
  unfold outsAt0 out0_A_6
  dsimp only
  rw [View.read_writes_eq_canon _ _ _ (cover0_A_6 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x256x512) hz]
  pointwise [k0_pay1, k0_pay2, k0_pay3, k0_pay4, k0_pay5, k0_pay6, k0_pay7, res6, Rows.newM, Rows.newV, Rows.stepD]
  simp only [Rows.sum8_eq, blk0 m c t, blk2 m c t]
  try rfl

theorem final6 (c : Dev nD) : (dats m 0 c).arrAt 6 cfg0.N = G6 m c := by
  funext i
  refine ((dats m 0 c).arrAt_eq_piecewise 6 (G6 m c) (fun t hf => (Value.flushed6 m c t).trans (funext fun j => ?_)) i).trans ?_
  · rw [View.read_apply]
    exact cut_eq t _ (G6 m c) (row6 m c t) j
  · split
    · rfl
    · rename_i hno
      refine (congrFun (A_eq m c 6) i).trans (if_neg fun h0 => hno ?_).symm
      obtain ⟨t, ht⟩ := cover i h0
      exact ⟨t, flush0_6 t, (View.set_slice_whole main_v0_2 (win0_6.rect t)).symm ▸ ht⟩

/-- Element `(R, q)` of layer 0 of result `3`: the new second moment. -/
def res7 (c : Dev nD) (R : Fin 1024) (q : Fin 512) : EReal :=
  Rows.newV (Rows.sum8 (fun k => A0 m c (ix3 k R q))) (A3 m c (ix3 0 R q))

/-- Result `3`: layer 0 is new, the other layers stay. -/
def G7 (c : Dev nD) : Vec Ideal S4x1024x512 .f32 :=
  fun i => if (i 0).val = 0 then res7 m c (i 1) (i 2) else (V m c main_v0_3 : S4x1024x512.Idx → EReal) i

theorem row7 (c : Dev nD) (t : Fin cfg0.N) (a : Fin 256) (b : Fin 512) : (outsAt0 m c t).2.2.2 (ix3 0 a b) = G7 m c (ix3 0 (at_ t a) b) := by
  refine Eq.trans (b := res7 m c (at_ t a) b) ?_ (if_pos rfl).symm
  unfold outsAt0 out0_A_7
  dsimp only
  rw [View.read_writes_eq_canon _ _ _ (cover0_A_7 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x256x512) hz]
  pointwise [k0_pay1, k0_pay2, k0_pay3, k0_pay4, k0_pay5, k0_pay6, k0_pay7, res7, Rows.newM, Rows.newV, Rows.stepD]
  simp only [Rows.sum8_eq, blk0 m c t, blk3 m c t]
  try rfl

theorem final7 (c : Dev nD) : (dats m 0 c).arrAt 7 cfg0.N = G7 m c := by
  funext i
  refine ((dats m 0 c).arrAt_eq_piecewise 7 (G7 m c) (fun t hf => (Value.flushed7 m c t).trans (funext fun j => ?_)) i).trans ?_
  · rw [View.read_apply]
    exact cut_eq t _ (G7 m c) (row7 m c t) j
  · split
    · rfl
    · rename_i hno
      refine (congrFun (A_eq m c 7) i).trans (if_neg fun h0 => hno ?_).symm
      obtain ⟨t, ht⟩ := cover i h0
      exact ⟨t, flush0_7 t, (View.set_slice_whole main_v0_3 (win0_7.rect t)).symm ▸ ht⟩

end Cert.Awff1Ideal.Body

end
-- ==== Proof.Awff1Claim.lean ====
/- The claim on the optimiser's call on the first weights of the feed-forward layer: layer 0 of the four results is the sum of the parts of the gradient and the step it gives. -/
module

public import proofs.«01_k».proof.Defs
public import proofs.«01_k».proof.Proof.Awff1Value
public import proofs.«01_k».proof.Proof.Gen.Awff1RefIdeal
public import proofs.«01_k».proof.Proof.Gen.Awff1RefIdeal.Run
public import proofs.«01_k».proof.Proof.Gen.Awff1RefIdeal.Read

@[expose] public section

noncomputable section

open Idealize.ShloMosaic Idealize.ShloMosaic.TcCoe Idealize.SL.Sem Idealize.ShloMosaic.StableHlo

namespace Cert.Awff1Ref

open Cert.Awff1RefIdeal Cert.Awff1RefIdeal.Read Cert.Awff1RefIdeal.Gen

/-- A new layer 0 before the layers from 1 on of an array. -/
theorem cat (u : Vec Ideal S1x1024x512 .f32) (x : Vec Ideal S4x1024x512 .f32) (l : Fin 4) (p : Fin 1024) (q : Fin 512) :
    concatenate S4x1024x512 0 [⟨S1x1024x512, u⟩, ⟨S3x1024x512, extractStridedSlice S3x1024x512 ![1, 0, 0] x slices_S4x1024x512_S3x1024x512_1_0_0⟩] concatenates_S1x1024x512_S3x1024x512_S4x1024x512_d0 (ix3 l p q)
      = if l.val = 0 then u (ix3 0 p q) else x (ix3 l p q) := by
  pointwise []
  by_cases h : l.val = 0
  · rw [dif_pos (by omega), if_pos h]
    exact congrArg (fun k => u (ix3 k p q)) (Fin.ext h)
  · rw [dif_neg (by omega), if_neg h]
    exact congrArg (fun k => x (ix3 k p q)) (Fin.ext (by dsimp only; omega))

theorem out4 (x0 : Vec Ideal S8x1024x512 .bf16) (x4 : Vec Ideal S4x1024x512 .f32) (l : Fin 4) (p : Fin 1024) (q : Fin 512) :
    val_main_v34 (F := Ideal) x0 x4 (ix3 l p q) = if l.val = 0 then Rows.sum8 (fun k => x0 (ix3 k p q)) else x4 (ix3 l p q) := by
  rw [← val_main_v34_eq]
  refine (cat _ _ l p q).trans (congrArg (fun y => if l.val = 0 then y else x4 (ix3 l p q)) ?_)
  pointwise [Rows.newM, Rows.newV, Rows.stepD, Rows.sum8]

theorem out5 (x0 : Vec Ideal S8x1024x512 .bf16) (x1 : Vec Ideal S4x1024x512 .f32) (x2 : Vec Ideal S4x1024x512 .f32) (x3 : Vec Ideal S4x1024x512 .f32) (x5 : Vec Ideal S4x1024x512 .f32) (l : Fin 4) (p : Fin 1024) (q : Fin 512) :
    val_main_v37 (F := Ideal) x0 x1 x2 x3 x5 (ix3 l p q) = if l.val = 0 then Rows.stepD (Rows.sum8 (fun k => x0 (ix3 k p q))) (x1 (ix3 0 p q)) (x2 (ix3 0 p q)) (x3 (ix3 0 p q)) else x5 (ix3 l p q) := by
  rw [← val_main_v37_eq]
  refine (cat _ _ l p q).trans (congrArg (fun y => if l.val = 0 then y else x5 (ix3 l p q)) ?_)
  pointwise [Rows.newM, Rows.newV, Rows.stepD, Rows.sum8]

theorem out6 (x0 : Vec Ideal S8x1024x512 .bf16) (x2 : Vec Ideal S4x1024x512 .f32) (x6 : Vec Ideal S4x1024x512 .f32) (l : Fin 4) (p : Fin 1024) (q : Fin 512) :
    val_main_v40 (F := Ideal) x0 x2 x6 (ix3 l p q) = if l.val = 0 then Rows.newM (Rows.sum8 (fun k => x0 (ix3 k p q))) (x2 (ix3 0 p q)) else x6 (ix3 l p q) := by
  rw [← val_main_v40_eq]
  refine (cat _ _ l p q).trans (congrArg (fun y => if l.val = 0 then y else x6 (ix3 l p q)) ?_)
  pointwise [Rows.newM, Rows.newV, Rows.stepD, Rows.sum8]

theorem out7 (x0 : Vec Ideal S8x1024x512 .bf16) (x3 : Vec Ideal S4x1024x512 .f32) (x7 : Vec Ideal S4x1024x512 .f32) (l : Fin 4) (p : Fin 1024) (q : Fin 512) :
    val_main_v43 (F := Ideal) x0 x3 x7 (ix3 l p q) = if l.val = 0 then Rows.newV (Rows.sum8 (fun k => x0 (ix3 k p q))) (x3 (ix3 0 p q)) else x7 (ix3 l p q) := by
  rw [← val_main_v43_eq]
  refine (cat _ _ l p q).trans (congrArg (fun y => if l.val = 0 then y else x7 (ix3 l p q)) ?_)
  pointwise [Rows.newM, Rows.newV, Rows.stepD, Rows.sum8]

end Cert.Awff1Ref

namespace Cert.Awff1Ideal.Body

open Cert.Awff1Ideal Cert.Awff1Ideal.Gen

variable (m : (ℓ : Loc nD τ sig) → Buf (Elt Ideal) ℓ)

/-- Argument `0`. -/
abbrev x0 (c : Dev nD) : Vec Ideal S8x1024x512 .bf16 := m ((c : Thread nD τ).loc main_arg0)

/-- Argument `1`. -/
abbrev x1 (c : Dev nD) : Vec Ideal S4x1024x512 .f32 := m ((c : Thread nD τ).loc main_arg1)

/-- Argument `2`. -/
abbrev x2 (c : Dev nD) : Vec Ideal S4x1024x512 .f32 := m ((c : Thread nD τ).loc main_arg2)

/-- Argument `3`. -/
abbrev x3 (c : Dev nD) : Vec Ideal S4x1024x512 .f32 := m ((c : Thread nD τ).loc main_arg3)

/-- Argument `4`. -/
abbrev x4 (c : Dev nD) : Vec Ideal S4x1024x512 .f32 := m ((c : Thread nD τ).loc main_arg4)

/-- Argument `5`. -/
abbrev x5 (c : Dev nD) : Vec Ideal S4x1024x512 .f32 := m ((c : Thread nD τ).loc main_arg5)

/-- Argument `6`. -/
abbrev x6 (c : Dev nD) : Vec Ideal S4x1024x512 .f32 := m ((c : Thread nD τ).loc main_arg6)

/-- Argument `7`. -/
abbrev x7 (c : Dev nD) : Vec Ideal S4x1024x512 .f32 := m ((c : Thread nD τ).loc main_arg7)

/-- The operands the call is given are the arguments. -/
theorem reads (c : Dev nD) : A0 m c = x0 m c ∧ A1 m c = x1 m c ∧ A2 m c = x2 m c ∧ A3 m c = x3 m c ∧ (V m c main_v0_0 : S4x1024x512.Idx → EReal) = x4 m c ∧ (V m c main_v0_1 : S4x1024x512.Idx → EReal) = x5 m c ∧ (V m c main_v0_2 : S4x1024x512.Idx → EReal) = x6 m c ∧ (V m c main_v0_3 : S4x1024x512.Idx → EReal) = x7 m c := by
  unfold A0 A1 A2 A3 V
  simp only [hostOps0, List.flatten_cons, List.flatten_nil, List.append_nil, List.cons_append, List.nil_append,
    TRef.binary, TRef.nullary, TRef.unary, TRef.toBuf, TRef.ofBuf, cast_eq]
  refine ⟨?_, ?_, ?_, ?_, ?_, ?_, ?_, ?_⟩ <;> (after_results_simp; try rfl)

theorem val4 (c : Dev nD) : G4 m c = Cert.Awff1RefIdeal.Read.val_main_v34 (F := Ideal) (x0 m c) (x4 m c) := by
  funext i
  obtain ⟨l, p, q, rfl⟩ : ∃ (l : Fin 4) (p : Fin 1024) (q : Fin 512), i = ix3 l p q := ⟨i 0, i 1, i 2, eq_ix3 i⟩
  refine Eq.trans ?_ (Cert.Awff1Ref.out4 (x0 m c) (x4 m c) l p q).symm
  show (if l.val = 0 then res4 m c p q else (V m c main_v0_0 : S4x1024x512.Idx → EReal) (ix3 l p q)) = _
  unfold res4
  obtain ⟨h0, h1, h2, h3, h4, h5, h6, h7⟩ := reads m c
  rw [h0, h4]

theorem val5 (c : Dev nD) : G5 m c = Cert.Awff1RefIdeal.Read.val_main_v37 (F := Ideal) (x0 m c) (x1 m c) (x2 m c) (x3 m c) (x5 m c) := by
  funext i
  obtain ⟨l, p, q, rfl⟩ : ∃ (l : Fin 4) (p : Fin 1024) (q : Fin 512), i = ix3 l p q := ⟨i 0, i 1, i 2, eq_ix3 i⟩
  refine Eq.trans ?_ (Cert.Awff1Ref.out5 (x0 m c) (x1 m c) (x2 m c) (x3 m c) (x5 m c) l p q).symm
  show (if l.val = 0 then res5 m c p q else (V m c main_v0_1 : S4x1024x512.Idx → EReal) (ix3 l p q)) = _
  unfold res5
  obtain ⟨h0, h1, h2, h3, h4, h5, h6, h7⟩ := reads m c
  rw [h0, h1, h2, h3, h5]

theorem val6 (c : Dev nD) : G6 m c = Cert.Awff1RefIdeal.Read.val_main_v40 (F := Ideal) (x0 m c) (x2 m c) (x6 m c) := by
  funext i
  obtain ⟨l, p, q, rfl⟩ : ∃ (l : Fin 4) (p : Fin 1024) (q : Fin 512), i = ix3 l p q := ⟨i 0, i 1, i 2, eq_ix3 i⟩
  refine Eq.trans ?_ (Cert.Awff1Ref.out6 (x0 m c) (x2 m c) (x6 m c) l p q).symm
  show (if l.val = 0 then res6 m c p q else (V m c main_v0_2 : S4x1024x512.Idx → EReal) (ix3 l p q)) = _
  unfold res6
  obtain ⟨h0, h1, h2, h3, h4, h5, h6, h7⟩ := reads m c
  rw [h0, h2, h6]

theorem val7 (c : Dev nD) : G7 m c = Cert.Awff1RefIdeal.Read.val_main_v43 (F := Ideal) (x0 m c) (x3 m c) (x7 m c) := by
  funext i
  obtain ⟨l, p, q, rfl⟩ : ∃ (l : Fin 4) (p : Fin 1024) (q : Fin 512), i = ix3 l p q := ⟨i 0, i 1, i 2, eq_ix3 i⟩
  refine Eq.trans ?_ (Cert.Awff1Ref.out7 (x0 m c) (x3 m c) (x7 m c) l p q).symm
  show (if l.val = 0 then res7 m c p q else (V m c main_v0_3 : S4x1024x512.Idx → EReal) (ix3 l p q)) = _
  unfold res7
  obtain ⟨h0, h1, h2, h3, h4, h5, h6, h7⟩ := reads m c
  rw [h0, h3, h7]

theorem algebraic : Cert.algebraic_Awff1Ideal_Awff1RefIdeal := by
  intro m g m' g' hpre hag
  refine ⟨fun c => G4 m c, fun c => G5 m c, fun c => G6 m c, fun c => G7 m c, ?_, ?_⟩
  · exact (θ_run defs _ _).mono (fun r h c => ⟨(h c).1.trans (final4 m c), (h c).2.1.trans (final5 m c), (h c).2.2.1.trans (final6 m c), (h c).2.2.2.1.trans (final7 m c), (h c).2.2.2.2⟩) (Value.run_blocks m g)
  · refine (θ_run Cert.Awff1RefIdeal.defs _ _).mono (fun r h c => ⟨(h c).1.trans ?_, (h c).2.1.trans ?_, (h c).2.2.1.trans ?_, (h c).2.2.2.1.trans ?_, (h c).2.2.2.2⟩) (Cert.Awff1RefIdeal.Value.run m' g')
    · obtain ⟨h0, h1, h2, h3, h4, h5, h6, h7⟩ := hag c
      refine (Cert.Awff1RefIdeal.Read.val_main_v34_eq _ _).trans ?_
      rw [h0, h4]
      exact (val4 m c).symm
    · obtain ⟨h0, h1, h2, h3, h4, h5, h6, h7⟩ := hag c
      refine (Cert.Awff1RefIdeal.Read.val_main_v37_eq _ _ _ _ _).trans ?_
      rw [h0, h1, h2, h3, h5]
      exact (val5 m c).symm
    · obtain ⟨h0, h1, h2, h3, h4, h5, h6, h7⟩ := hag c
      refine (Cert.Awff1RefIdeal.Read.val_main_v40_eq _ _ _).trans ?_
      rw [h0, h2, h6]
      exact (val6 m c).symm
    · obtain ⟨h0, h1, h2, h3, h4, h5, h6, h7⟩ := hag c
      refine (Cert.Awff1RefIdeal.Read.val_main_v43_eq _ _ _).trans ?_
      rw [h0, h3, h7]
      exact (val7 m c).symm

end Cert.Awff1Ideal.Body

end
-- ==== Proof.Awff2Value.lean ====
/- The values of the optimiser's call on the second weights of the feed-forward layer. -/
module

public import proofs.«01_k».proof.Proof.Base
public import proofs.«01_k».proof.Proof.Adam
public import proofs.«01_k».proof.Proof.Gen.Awff2Ideal.Value

@[expose] public section

noncomputable section

open Idealize.ShloMosaic Idealize.ShloMosaic.TcCoe Idealize.SL.Sem Idealize.ShloMosaic.StableHlo
open Idealize.ShloMosaic.Pipeline (Dat)

namespace Cert.Awff2Ideal.Body

open Cert.Awff2Ideal Cert.Awff2Ideal.Gen

theorem hz : (![0, 0, 0] : Fin 3 → Nat) = fun _ => 0 := Rows.hz3

/-- Row `a` of the block at point `t`. -/
abbrev at_ (t : Fin cfg0.N) (a : Fin 256) : Fin 512 := Rows.row (T := 512) rfl t a

variable (m : (ℓ : Loc nD τ sig) → Buf (Elt Ideal) ℓ)

/-- The parts of the gradient. -/
abbrev A0 (c : Dev nD) : S8x512x1024.Idx → EReal := V m c main_arg0

/-- The weight. -/
abbrev A1 (c : Dev nD) : S4x512x1024.Idx → EReal := V m c main_arg1

/-- The first moment. -/
abbrev A2 (c : Dev nD) : S4x512x1024.Idx → EReal := V m c main_arg2

/-- The second moment. -/
abbrev A3 (c : Dev nD) : S4x512x1024.Idx → EReal := V m c main_arg3

/-- Where the windows' blocks lie: the parts' at all eight parts and a block of rows, the others' at layer 0 and a block of rows. -/
theorem at0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

theorem at1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

theorem at4 : ∀ t : Fin cfg0.N, win0_4.xsize (grid0.coords t) 0 = 1 ∧ win0_4.xsize (grid0.coords t) 1 = 256 ∧ win0_4.xsize (grid0.coords t) 2 = 1024 :=
  (by decide +kernel : ∀ t : Fin grid0.N, win0_4.xsize (grid0.coords t) 0 = 1 ∧ win0_4.xsize (grid0.coords t) 1 = 256 ∧ win0_4.xsize (grid0.coords t) 2 = 1024)

theorem blk0 (c : Dev nD) (t : Fin cfg0.N) (j : Fin 8) (a : Fin 256) (b : Fin 1024) :
    (iblk m c 0 t : S8x256x1024.Idx → EReal) (ix3 j a b) = A0 m c (ix3 j (at_ t a) b) := by
  obtain ⟨h0, h1, h2⟩ := at0 t
  unfold iblk; rw [View.read_apply]
  show (V m c main_arg0 : S8x512x1024.Idx → EReal) _ = _
  refine congrArg (A0 m c) (funext fun d => Fin.ext ?_)
  match d with
  | ⟨0, _⟩ => show win0_0.index t 0 * 8 + 1 * j.val = j.val; omega
  | ⟨1, _⟩ => show win0_0.index t 1 * 256 + 1 * a.val = 256 * t.val + a.val; rw [h1]; omega
  | ⟨2, _⟩ => show win0_0.index t 2 * 1024 + 1 * b.val = b.val; omega

/-- A block of a weight or of a moment lies at layer 0. -/
theorem pos (t : Fin cfg0.N) (a : Fin 256) (b : Fin 1024) : (win0_1.rect t).emb (ix3 0 a b) = (ix3 0 (at_ t a) b : S4x512x1024.Idx) := by
  obtain ⟨h0, h1, h2⟩ := at1 t
  refine funext fun d => Fin.ext ?_
  match d with
  | ⟨0, _⟩ => show win0_1.index t 0 * 1 + 1 * 0 = 0; omega
  | ⟨1, _⟩ => show win0_1.index t 1 * 256 + 1 * a.val = 256 * t.val + a.val; rw [h1]; omega
  | ⟨2, _⟩ => show win0_1.index t 2 * 1024 + 1 * b.val = b.val; omega

theorem blk1 (c : Dev nD) (t : Fin cfg0.N) (a : Fin 256) (b : Fin 1024) :
    (iblk m c 1 t : S1x256x1024.Idx → EReal) (ix3 0 a b) = A1 m c (ix3 0 (at_ t a) b) := by
  unfold iblk; rw [View.read_apply]
  exact congrArg (A1 m c) (pos t a b)

theorem blk2 (c : Dev nD) (t : Fin cfg0.N) (a : Fin 256) (b : Fin 1024) :
    (iblk m c 2 t : S1x256x1024.Idx → EReal) (ix3 0 a b) = A2 m c (ix3 0 (at_ t a) b) := by
  unfold iblk; rw [View.read_apply]
  exact congrArg (A2 m c) (pos t a b)

theorem blk3 (c : Dev nD) (t : Fin cfg0.N) (a : Fin 256) (b : Fin 1024) :
    (iblk m c 3 t : S1x256x1024.Idx → EReal) (ix3 0 a b) = A3 m c (ix3 0 (at_ t a) b) := by
  unfold iblk; rw [View.read_apply]
  exact congrArg (A3 m c) (pos t a b)

/-- What is written back at a point is the function `g` on the point's block, if the values are those of `g` at layer 0. -/
theorem cut_eq (t : Fin cfg0.N) (y : S1x256x1024.Idx → EReal) (g : S4x512x1024.Idx → EReal) (h : ∀ a b, y (ix3 0 a b) = g (ix3 0 (at_ t a) b))
    (j : (win0_4.xblock (grid0.coords t)).Idx) : y (win0_4.xinj (grid0.coords t) j) = g ((win0_4.rect t).emb j) := by
  obtain ⟨x0, x1, x2⟩ := at4 t
  have hj0 : (j 0 : Nat) < 1 := lt_of_lt_of_eq (j 0).isLt x0
  have e : (win0_4.xinj (grid0.coords t) j : S1x256x1024.Idx) = ix3 0 ⟨j 1, lt_of_lt_of_eq (j 1).isLt x1⟩ ⟨j 2, lt_of_lt_of_eq (j 2).isLt x2⟩ := by
    refine funext fun d => Fin.ext ?_
    match d with
    | ⟨0, _⟩ => show (j 0 : Nat) = 0; omega
    | ⟨1, _⟩ => rfl
    | ⟨2, _⟩ => rfl
  refine (congrArg y e).trans ((h _ _).trans (congrArg g ((pos t _ _).symm.trans (funext fun d => Fin.ext ?_))))
  match d with
  | ⟨0, _⟩ => show win0_1.index t 0 * 1 + 1 * 0 = win0_1.index t 0 * 1 + 1 * (j 0 : Nat); omega
  | ⟨1, _⟩ => rfl
  | ⟨2, _⟩ => rfl

/-- The blocks cover layer 0. -/
theorem cover (i : S4x512x1024.Idx) (h : (i 0).val = 0) : ∃ t : Fin cfg0.N, i ∈ (win0_4.rect t).set := by
  obtain ⟨t, s, hs⟩ := Rows.exists_row (N := 2) (B := 256) (T := 512) rfl (by decide) (i 1)
  obtain ⟨h0, h1, h2⟩ := at1 t
  obtain ⟨x0, x1, x2⟩ := at4 t
  refine ⟨t, ?_⟩
  rw [Rect.mem_set_unit]
  have g2 : (i 2 : Nat) < 1024 := (i 2).isLt
  have g1 : (i 1 : Nat) = 256 * t.val + s.val := congrArg Fin.val hs
  have hr := s.isLt
  intro a
  match a with
  | ⟨0, _⟩ => show win0_1.index t 0 * 1 ≤ (i 0 : Nat) ∧ (i 0 : Nat) < win0_1.index t 0 * 1 + win0_4.xsize (grid0.coords t) 0
              rw [x0]; omega
  | ⟨1, _⟩ => show win0_1.index t 1 * 256 ≤ (i 1 : Nat) ∧ (i 1 : Nat) < win0_1.index t 1 * 256 + win0_4.xsize (grid0.coords t) 1
              rw [x1, h1]; omega
  | ⟨2, _⟩ => show win0_1.index t 2 * 1024 ≤ (i 2 : Nat) ∧ (i 2 : Nat) < win0_1.index t 2 * 1024 + win0_4.xsize (grid0.coords t) 2
              rw [x2]; omega

/-- Element `(R, q)` of layer 0 of result `0`: the sum of the parts of the gradient. -/
def res4 (c : Dev nD) (R : Fin 512) (q : Fin 1024) : EReal :=
  Rows.sum8 (fun k => A0 m c (ix3 k R q))

/-- Result `0`: layer 0 is new, the other layers stay. -/
def G4 (c : Dev nD) : Vec Ideal S4x512x1024 .f32 :=
  fun i => if (i 0).val = 0 then res4 m c (i 1) (i 2) else (V m c main_v0_0 : S4x512x1024.Idx → EReal) i

theorem row4 (c : Dev nD) (t : Fin cfg0.N) (a : Fin 256) (b : Fin 1024) : (outsAt0 m c t).1 (ix3 0 a b) = G4 m c (ix3 0 (at_ t a) b) := by
  refine Eq.trans (b := res4 m c (at_ t a) b) ?_ (if_pos rfl).symm
  unfold outsAt0 out0_A_4
  dsimp only
  rw [View.read_writes_eq_canon _ _ _ (cover0_A_4 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x256x1024) hz]
  pointwise [k0_pay1, k0_pay2, k0_pay3, k0_pay4, k0_pay5, k0_pay6, k0_pay7, res4, Rows.newM, Rows.newV, Rows.stepD]
  simp only [Rows.sum8_eq, blk0 m c t]
  try rfl

theorem final4 (c : Dev nD) : (dats m 0 c).arrAt 4 cfg0.N = G4 m c := by
  funext i
  refine ((dats m 0 c).arrAt_eq_piecewise 4 (G4 m c) (fun t hf => (Value.flushed4 m c t).trans (funext fun j => ?_)) i).trans ?_
  · rw [View.read_apply]
    exact cut_eq t _ (G4 m c) (row4 m c t) j
  · split
    · rfl
    · rename_i hno
      refine (congrFun (A_eq m c 4) i).trans (if_neg fun h0 => hno ?_).symm
      obtain ⟨t, ht⟩ := cover i h0
      exact ⟨t, flush0_4 t, (View.set_slice_whole main_v0_0 (win0_4.rect t)).symm ▸ ht⟩

/-- Element `(R, q)` of layer 0 of result `1`: the step. -/
def res5 (c : Dev nD) (R : Fin 512) (q : Fin 1024) : EReal :=
  Rows.stepD (Rows.sum8 (fun k => A0 m c (ix3 k R q))) (A1 m c (ix3 0 R q)) (A2 m c (ix3 0 R q)) (A3 m c (ix3 0 R q))

/-- Result `1`: layer 0 is new, the other layers stay. -/
def G5 (c : Dev nD) : Vec Ideal S4x512x1024 .f32 :=
  fun i => if (i 0).val = 0 then res5 m c (i 1) (i 2) else (V m c main_v0_1 : S4x512x1024.Idx → EReal) i

theorem row5 (c : Dev nD) (t : Fin cfg0.N) (a : Fin 256) (b : Fin 1024) : (outsAt0 m c t).2.1 (ix3 0 a b) = G5 m c (ix3 0 (at_ t a) b) := by
  refine Eq.trans (b := res5 m c (at_ t a) b) ?_ (if_pos rfl).symm
  unfold outsAt0 out0_A_5
  dsimp only
  rw [View.read_writes_eq_canon _ _ _ (cover0_A_5 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x256x1024) hz]
  pointwise [k0_pay1, k0_pay2, k0_pay3, k0_pay4, k0_pay5, k0_pay6, k0_pay7, res5, Rows.newM, Rows.newV, Rows.stepD]
  simp only [Rows.sum8_eq, blk0 m c t, blk1 m c t, blk2 m c t, blk3 m c t]
  try rfl

theorem final5 (c : Dev nD) : (dats m 0 c).arrAt 5 cfg0.N = G5 m c := by
  funext i
  refine ((dats m 0 c).arrAt_eq_piecewise 5 (G5 m c) (fun t hf => (Value.flushed5 m c t).trans (funext fun j => ?_)) i).trans ?_
  · rw [View.read_apply]
    exact cut_eq t _ (G5 m c) (row5 m c t) j
  · split
    · rfl
    · rename_i hno
      refine (congrFun (A_eq m c 5) i).trans (if_neg fun h0 => hno ?_).symm
      obtain ⟨t, ht⟩ := cover i h0
      exact ⟨t, flush0_5 t, (View.set_slice_whole main_v0_1 (win0_5.rect t)).symm ▸ ht⟩

/-- Element `(R, q)` of layer 0 of result `2`: the new first moment. -/
def res6 (c : Dev nD) (R : Fin 512) (q : Fin 1024) : EReal :=
  Rows.newM (Rows.sum8 (fun k => A0 m c (ix3 k R q))) (A2 m c (ix3 0 R q))

/-- Result `2`: layer 0 is new, the other layers stay. -/
def G6 (c : Dev nD) : Vec Ideal S4x512x1024 .f32 :=
  fun i => if (i 0).val = 0 then res6 m c (i 1) (i 2) else (V m c main_v0_2 : S4x512x1024.Idx → EReal) i

theorem row6 (c : Dev nD) (t : Fin cfg0.N) (a : Fin 256) (b : Fin 1024) : (outsAt0 m c t).2.2.1 (ix3 0 a b) = G6 m c (ix3 0 (at_ t a) b) := by
  refine Eq.trans (b := res6 m c (at_ t a) b) ?_ (if_pos rfl).symm
  unfold outsAt0 out0_A_6
  dsimp only
  rw [View.read_writes_eq_canon _ _ _ (cover0_A_6 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x256x1024) hz]
  pointwise [k0_pay1, k0_pay2, k0_pay3, k0_pay4, k0_pay5, k0_pay6, k0_pay7, res6, Rows.newM, Rows.newV, Rows.stepD]
  simp only [Rows.sum8_eq, blk0 m c t, blk2 m c t]
  try rfl

theorem final6 (c : Dev nD) : (dats m 0 c).arrAt 6 cfg0.N = G6 m c := by
  funext i
  refine ((dats m 0 c).arrAt_eq_piecewise 6 (G6 m c) (fun t hf => (Value.flushed6 m c t).trans (funext fun j => ?_)) i).trans ?_
  · rw [View.read_apply]
    exact cut_eq t _ (G6 m c) (row6 m c t) j
  · split
    · rfl
    · rename_i hno
      refine (congrFun (A_eq m c 6) i).trans (if_neg fun h0 => hno ?_).symm
      obtain ⟨t, ht⟩ := cover i h0
      exact ⟨t, flush0_6 t, (View.set_slice_whole main_v0_2 (win0_6.rect t)).symm ▸ ht⟩

/-- Element `(R, q)` of layer 0 of result `3`: the new second moment. -/
def res7 (c : Dev nD) (R : Fin 512) (q : Fin 1024) : EReal :=
  Rows.newV (Rows.sum8 (fun k => A0 m c (ix3 k R q))) (A3 m c (ix3 0 R q))

/-- Result `3`: layer 0 is new, the other layers stay. -/
def G7 (c : Dev nD) : Vec Ideal S4x512x1024 .f32 :=
  fun i => if (i 0).val = 0 then res7 m c (i 1) (i 2) else (V m c main_v0_3 : S4x512x1024.Idx → EReal) i

theorem row7 (c : Dev nD) (t : Fin cfg0.N) (a : Fin 256) (b : Fin 1024) : (outsAt0 m c t).2.2.2 (ix3 0 a b) = G7 m c (ix3 0 (at_ t a) b) := by
  refine Eq.trans (b := res7 m c (at_ t a) b) ?_ (if_pos rfl).symm
  unfold outsAt0 out0_A_7
  dsimp only
  rw [View.read_writes_eq_canon _ _ _ (cover0_A_7 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x256x1024) hz]
  pointwise [k0_pay1, k0_pay2, k0_pay3, k0_pay4, k0_pay5, k0_pay6, k0_pay7, res7, Rows.newM, Rows.newV, Rows.stepD]
  simp only [Rows.sum8_eq, blk0 m c t, blk3 m c t]
  try rfl

theorem final7 (c : Dev nD) : (dats m 0 c).arrAt 7 cfg0.N = G7 m c := by
  funext i
  refine ((dats m 0 c).arrAt_eq_piecewise 7 (G7 m c) (fun t hf => (Value.flushed7 m c t).trans (funext fun j => ?_)) i).trans ?_
  · rw [View.read_apply]
    exact cut_eq t _ (G7 m c) (row7 m c t) j
  · split
    · rfl
    · rename_i hno
      refine (congrFun (A_eq m c 7) i).trans (if_neg fun h0 => hno ?_).symm
      obtain ⟨t, ht⟩ := cover i h0
      exact ⟨t, flush0_7 t, (View.set_slice_whole main_v0_3 (win0_7.rect t)).symm ▸ ht⟩

end Cert.Awff2Ideal.Body

end
-- ==== Proof.Awff2Claim.lean ====
/- The claim on the optimiser's call on the second weights of the feed-forward layer: layer 0 of the four results is the sum of the parts of the gradient and the step it gives. -/
module

public import proofs.«01_k».proof.Defs
public import proofs.«01_k».proof.Proof.Awff2Value
public import proofs.«01_k».proof.Proof.Gen.Awff2RefIdeal
public import proofs.«01_k».proof.Proof.Gen.Awff2RefIdeal.Run
public import proofs.«01_k».proof.Proof.Gen.Awff2RefIdeal.Read

@[expose] public section

noncomputable section

open Idealize.ShloMosaic Idealize.ShloMosaic.TcCoe Idealize.SL.Sem Idealize.ShloMosaic.StableHlo

namespace Cert.Awff2Ref

open Cert.Awff2RefIdeal Cert.Awff2RefIdeal.Read Cert.Awff2RefIdeal.Gen

/-- A new layer 0 before the layers from 1 on of an array. -/
theorem cat (u : Vec Ideal S1x512x1024 .f32) (x : Vec Ideal S4x512x1024 .f32) (l : Fin 4) (p : Fin 512) (q : Fin 1024) :
    concatenate S4x512x1024 0 [⟨S1x512x1024, u⟩, ⟨S3x512x1024, extractStridedSlice S3x512x1024 ![1, 0, 0] x slices_S4x512x1024_S3x512x1024_1_0_0⟩] concatenates_S1x512x1024_S3x512x1024_S4x512x1024_d0 (ix3 l p q)
      = if l.val = 0 then u (ix3 0 p q) else x (ix3 l p q) := by
  pointwise []
  by_cases h : l.val = 0
  · rw [dif_pos (by omega), if_pos h]
    exact congrArg (fun k => u (ix3 k p q)) (Fin.ext h)
  · rw [dif_neg (by omega), if_neg h]
    exact congrArg (fun k => x (ix3 k p q)) (Fin.ext (by dsimp only; omega))

theorem out4 (x0 : Vec Ideal S8x512x1024 .bf16) (x4 : Vec Ideal S4x512x1024 .f32) (l : Fin 4) (p : Fin 512) (q : Fin 1024) :
    val_main_v34 (F := Ideal) x0 x4 (ix3 l p q) = if l.val = 0 then Rows.sum8 (fun k => x0 (ix3 k p q)) else x4 (ix3 l p q) := by
  rw [← val_main_v34_eq]
  refine (cat _ _ l p q).trans (congrArg (fun y => if l.val = 0 then y else x4 (ix3 l p q)) ?_)
  pointwise [Rows.newM, Rows.newV, Rows.stepD, Rows.sum8]

theorem out5 (x0 : Vec Ideal S8x512x1024 .bf16) (x1 : Vec Ideal S4x512x1024 .f32) (x2 : Vec Ideal S4x512x1024 .f32) (x3 : Vec Ideal S4x512x1024 .f32) (x5 : Vec Ideal S4x512x1024 .f32) (l : Fin 4) (p : Fin 512) (q : Fin 1024) :
    val_main_v37 (F := Ideal) x0 x1 x2 x3 x5 (ix3 l p q) = if l.val = 0 then Rows.stepD (Rows.sum8 (fun k => x0 (ix3 k p q))) (x1 (ix3 0 p q)) (x2 (ix3 0 p q)) (x3 (ix3 0 p q)) else x5 (ix3 l p q) := by
  rw [← val_main_v37_eq]
  refine (cat _ _ l p q).trans (congrArg (fun y => if l.val = 0 then y else x5 (ix3 l p q)) ?_)
  pointwise [Rows.newM, Rows.newV, Rows.stepD, Rows.sum8]

theorem out6 (x0 : Vec Ideal S8x512x1024 .bf16) (x2 : Vec Ideal S4x512x1024 .f32) (x6 : Vec Ideal S4x512x1024 .f32) (l : Fin 4) (p : Fin 512) (q : Fin 1024) :
    val_main_v40 (F := Ideal) x0 x2 x6 (ix3 l p q) = if l.val = 0 then Rows.newM (Rows.sum8 (fun k => x0 (ix3 k p q))) (x2 (ix3 0 p q)) else x6 (ix3 l p q) := by
  rw [← val_main_v40_eq]
  refine (cat _ _ l p q).trans (congrArg (fun y => if l.val = 0 then y else x6 (ix3 l p q)) ?_)
  pointwise [Rows.newM, Rows.newV, Rows.stepD, Rows.sum8]

theorem out7 (x0 : Vec Ideal S8x512x1024 .bf16) (x3 : Vec Ideal S4x512x1024 .f32) (x7 : Vec Ideal S4x512x1024 .f32) (l : Fin 4) (p : Fin 512) (q : Fin 1024) :
    val_main_v43 (F := Ideal) x0 x3 x7 (ix3 l p q) = if l.val = 0 then Rows.newV (Rows.sum8 (fun k => x0 (ix3 k p q))) (x3 (ix3 0 p q)) else x7 (ix3 l p q) := by
  rw [← val_main_v43_eq]
  refine (cat _ _ l p q).trans (congrArg (fun y => if l.val = 0 then y else x7 (ix3 l p q)) ?_)
  pointwise [Rows.newM, Rows.newV, Rows.stepD, Rows.sum8]

end Cert.Awff2Ref

namespace Cert.Awff2Ideal.Body

open Cert.Awff2Ideal Cert.Awff2Ideal.Gen

variable (m : (ℓ : Loc nD τ sig) → Buf (Elt Ideal) ℓ)

/-- Argument `0`. -/
abbrev x0 (c : Dev nD) : Vec Ideal S8x512x1024 .bf16 := m ((c : Thread nD τ).loc main_arg0)

/-- Argument `1`. -/
abbrev x1 (c : Dev nD) : Vec Ideal S4x512x1024 .f32 := m ((c : Thread nD τ).loc main_arg1)

/-- Argument `2`. -/
abbrev x2 (c : Dev nD) : Vec Ideal S4x512x1024 .f32 := m ((c : Thread nD τ).loc main_arg2)

/-- Argument `3`. -/
abbrev x3 (c : Dev nD) : Vec Ideal S4x512x1024 .f32 := m ((c : Thread nD τ).loc main_arg3)

/-- Argument `4`. -/
abbrev x4 (c : Dev nD) : Vec Ideal S4x512x1024 .f32 := m ((c : Thread nD τ).loc main_arg4)

/-- Argument `5`. -/
abbrev x5 (c : Dev nD) : Vec Ideal S4x512x1024 .f32 := m ((c : Thread nD τ).loc main_arg5)

/-- Argument `6`. -/
abbrev x6 (c : Dev nD) : Vec Ideal S4x512x1024 .f32 := m ((c : Thread nD τ).loc main_arg6)

/-- Argument `7`. -/
abbrev x7 (c : Dev nD) : Vec Ideal S4x512x1024 .f32 := m ((c : Thread nD τ).loc main_arg7)

/-- The operands the call is given are the arguments. -/
theorem reads (c : Dev nD) : A0 m c = x0 m c ∧ A1 m c = x1 m c ∧ A2 m c = x2 m c ∧ A3 m c = x3 m c ∧ (V m c main_v0_0 : S4x512x1024.Idx → EReal) = x4 m c ∧ (V m c main_v0_1 : S4x512x1024.Idx → EReal) = x5 m c ∧ (V m c main_v0_2 : S4x512x1024.Idx → EReal) = x6 m c ∧ (V m c main_v0_3 : S4x512x1024.Idx → EReal) = x7 m c := by
  unfold A0 A1 A2 A3 V
  simp only [hostOps0, List.flatten_cons, List.flatten_nil, List.append_nil, List.cons_append, List.nil_append,
    TRef.binary, TRef.nullary, TRef.unary, TRef.toBuf, TRef.ofBuf, cast_eq]
  refine ⟨?_, ?_, ?_, ?_, ?_, ?_, ?_, ?_⟩ <;> (after_results_simp; try rfl)

theorem val4 (c : Dev nD) : G4 m c = Cert.Awff2RefIdeal.Read.val_main_v34 (F := Ideal) (x0 m c) (x4 m c) := by
  funext i
  obtain ⟨l, p, q, rfl⟩ : ∃ (l : Fin 4) (p : Fin 512) (q : Fin 1024), i = ix3 l p q := ⟨i 0, i 1, i 2, eq_ix3 i⟩
  refine Eq.trans ?_ (Cert.Awff2Ref.out4 (x0 m c) (x4 m c) l p q).symm
  show (if l.val = 0 then res4 m c p q else (V m c main_v0_0 : S4x512x1024.Idx → EReal) (ix3 l p q)) = _
  unfold res4
  obtain ⟨h0, h1, h2, h3, h4, h5, h6, h7⟩ := reads m c
  rw [h0, h4]

theorem val5 (c : Dev nD) : G5 m c = Cert.Awff2RefIdeal.Read.val_main_v37 (F := Ideal) (x0 m c) (x1 m c) (x2 m c) (x3 m c) (x5 m c) := by
  funext i
  obtain ⟨l, p, q, rfl⟩ : ∃ (l : Fin 4) (p : Fin 512) (q : Fin 1024), i = ix3 l p q := ⟨i 0, i 1, i 2, eq_ix3 i⟩
  refine Eq.trans ?_ (Cert.Awff2Ref.out5 (x0 m c) (x1 m c) (x2 m c) (x3 m c) (x5 m c) l p q).symm
  show (if l.val = 0 then res5 m c p q else (V m c main_v0_1 : S4x512x1024.Idx → EReal) (ix3 l p q)) = _
  unfold res5
  obtain ⟨h0, h1, h2, h3, h4, h5, h6, h7⟩ := reads m c
  rw [h0, h1, h2, h3, h5]

theorem val6 (c : Dev nD) : G6 m c = Cert.Awff2RefIdeal.Read.val_main_v40 (F := Ideal) (x0 m c) (x2 m c) (x6 m c) := by
  funext i
  obtain ⟨l, p, q, rfl⟩ : ∃ (l : Fin 4) (p : Fin 512) (q : Fin 1024), i = ix3 l p q := ⟨i 0, i 1, i 2, eq_ix3 i⟩
  refine Eq.trans ?_ (Cert.Awff2Ref.out6 (x0 m c) (x2 m c) (x6 m c) l p q).symm
  show (if l.val = 0 then res6 m c p q else (V m c main_v0_2 : S4x512x1024.Idx → EReal) (ix3 l p q)) = _
  unfold res6
  obtain ⟨h0, h1, h2, h3, h4, h5, h6, h7⟩ := reads m c
  rw [h0, h2, h6]

theorem val7 (c : Dev nD) : G7 m c = Cert.Awff2RefIdeal.Read.val_main_v43 (F := Ideal) (x0 m c) (x3 m c) (x7 m c) := by
  funext i
  obtain ⟨l, p, q, rfl⟩ : ∃ (l : Fin 4) (p : Fin 512) (q : Fin 1024), i = ix3 l p q := ⟨i 0, i 1, i 2, eq_ix3 i⟩
  refine Eq.trans ?_ (Cert.Awff2Ref.out7 (x0 m c) (x3 m c) (x7 m c) l p q).symm
  show (if l.val = 0 then res7 m c p q else (V m c main_v0_3 : S4x512x1024.Idx → EReal) (ix3 l p q)) = _
  unfold res7
  obtain ⟨h0, h1, h2, h3, h4, h5, h6, h7⟩ := reads m c
  rw [h0, h3, h7]

theorem algebraic : Cert.algebraic_Awff2Ideal_Awff2RefIdeal := by
  intro m g m' g' hpre hag
  refine ⟨fun c => G4 m c, fun c => G5 m c, fun c => G6 m c, fun c => G7 m c, ?_, ?_⟩
  · exact (θ_run defs _ _).mono (fun r h c => ⟨(h c).1.trans (final4 m c), (h c).2.1.trans (final5 m c), (h c).2.2.1.trans (final6 m c), (h c).2.2.2.1.trans (final7 m c), (h c).2.2.2.2⟩) (Value.run_blocks m g)
  · refine (θ_run Cert.Awff2RefIdeal.defs _ _).mono (fun r h c => ⟨(h c).1.trans ?_, (h c).2.1.trans ?_, (h c).2.2.1.trans ?_, (h c).2.2.2.1.trans ?_, (h c).2.2.2.2⟩) (Cert.Awff2RefIdeal.Value.run m' g')
    · obtain ⟨h0, h1, h2, h3, h4, h5, h6, h7⟩ := hag c
      refine (Cert.Awff2RefIdeal.Read.val_main_v34_eq _ _).trans ?_
      rw [h0, h4]
      exact (val4 m c).symm
    · obtain ⟨h0, h1, h2, h3, h4, h5, h6, h7⟩ := hag c
      refine (Cert.Awff2RefIdeal.Read.val_main_v37_eq _ _ _ _ _).trans ?_
      rw [h0, h1, h2, h3, h5]
      exact (val5 m c).symm
    · obtain ⟨h0, h1, h2, h3, h4, h5, h6, h7⟩ := hag c
      refine (Cert.Awff2RefIdeal.Read.val_main_v40_eq _ _ _).trans ?_
      rw [h0, h2, h6]
      exact (val6 m c).symm
    · obtain ⟨h0, h1, h2, h3, h4, h5, h6, h7⟩ := hag c
      refine (Cert.Awff2RefIdeal.Read.val_main_v43_eq _ _ _).trans ?_
      rw [h0, h3, h7]
      exact (val7 m c).symm

end Cert.Awff2Ideal.Body

end
-- ==== Proof.AsmallValue.lean ====
/- The values of the optimiser's call on the packed small weights. -/
module

public import proofs.«01_k».proof.Proof.Base
public import proofs.«01_k».proof.Proof.Adam
public import proofs.«01_k».proof.Proof.Gen.AsmallIdeal.Value

@[expose] public section

noncomputable section

open Idealize.ShloMosaic Idealize.ShloMosaic.TcCoe Idealize.SL.Sem Idealize.ShloMosaic.StableHlo
open Idealize.ShloMosaic.Pipeline (Dat)

namespace Cert.AsmallIdeal.Body

open Cert.AsmallIdeal Cert.AsmallIdeal.Gen

theorem hz : (![0, 0, 0] : Fin 3 → Nat) = fun _ => 0 := Rows.hz3

/-- Row `a` of the block at point `t`. -/
abbrev at_ (t : Fin cfg0.N) (a : Fin 1176) : Fin 1176 := Rows.row (T := 1176) rfl t a

variable (m : (ℓ : Loc nD τ sig) → Buf (Elt Ideal) ℓ)

/-- The parts of the gradient. -/
abbrev A0 (c : Dev nD) : S8x1176x128.Idx → EReal := V m c main_arg0

/-- The weight. -/
abbrev A1 (c : Dev nD) : S4x1176x128.Idx → EReal := V m c main_arg1

/-- The first moment. -/
abbrev A2 (c : Dev nD) : S4x1176x128.Idx → EReal := V m c main_arg2

/-- The second moment. -/
abbrev A3 (c : Dev nD) : S4x1176x128.Idx → EReal := V m c main_arg3

/-- Where the windows' blocks lie: the parts' at all eight parts and a block of rows, the others' at layer 0 and a block of rows. -/
theorem at0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)

theorem at1 : ∀ t : Fin cfg0.N, win0_1.index t 0 = 0 ∧ win0_1.index t 1 = t.val ∧ win0_1.index t 2 = 0 :=
  (by decide +kernel : ∀ t : Fin grid0.N, win0_1.index t 0 = 0 ∧ win0_1.index t 1 = t.val ∧ win0_1.index t 2 = 0)

theorem at4 : ∀ t : Fin cfg0.N, win0_4.xsize (grid0.coords t) 0 = 1 ∧ win0_4.xsize (grid0.coords t) 1 = 1176 ∧ win0_4.xsize (grid0.coords t) 2 = 128 :=
  (by decide +kernel : ∀ t : Fin grid0.N, win0_4.xsize (grid0.coords t) 0 = 1 ∧ win0_4.xsize (grid0.coords t) 1 = 1176 ∧ win0_4.xsize (grid0.coords t) 2 = 128)

theorem blk0 (c : Dev nD) (t : Fin cfg0.N) (j : Fin 8) (a : Fin 1176) (b : Fin 128) :
    (iblk m c 0 t : S8x1176x128.Idx → EReal) (ix3 j a b) = A0 m c (ix3 j (at_ t a) b) := by
  obtain ⟨h0, h1, h2⟩ := at0 t
  unfold iblk; rw [View.read_apply]
  show (V m c main_arg0 : S8x1176x128.Idx → EReal) _ = _
  refine congrArg (A0 m c) (funext fun d => Fin.ext ?_)
  match d with
  | ⟨0, _⟩ => show win0_0.index t 0 * 8 + 1 * j.val = j.val; omega
  | ⟨1, _⟩ => show win0_0.index t 1 * 1176 + 1 * a.val = 1176 * t.val + a.val; rw [h1]; omega
  | ⟨2, _⟩ => show win0_0.index t 2 * 128 + 1 * b.val = b.val; omega

/-- A block of a weight or of a moment lies at layer 0. -/
theorem pos (t : Fin cfg0.N) (a : Fin 1176) (b : Fin 128) : (win0_1.rect t).emb (ix3 0 a b) = (ix3 0 (at_ t a) b : S4x1176x128.Idx) := by
  obtain ⟨h0, h1, h2⟩ := at1 t
  refine funext fun d => Fin.ext ?_
  match d with
  | ⟨0, _⟩ => show win0_1.index t 0 * 1 + 1 * 0 = 0; omega
  | ⟨1, _⟩ => show win0_1.index t 1 * 1176 + 1 * a.val = 1176 * t.val + a.val; rw [h1]; omega
  | ⟨2, _⟩ => show win0_1.index t 2 * 128 + 1 * b.val = b.val; omega

theorem blk1 (c : Dev nD) (t : Fin cfg0.N) (a : Fin 1176) (b : Fin 128) :
    (iblk m c 1 t : S1x1176x128.Idx → EReal) (ix3 0 a b) = A1 m c (ix3 0 (at_ t a) b) := by
  unfold iblk; rw [View.read_apply]
  exact congrArg (A1 m c) (pos t a b)

theorem blk2 (c : Dev nD) (t : Fin cfg0.N) (a : Fin 1176) (b : Fin 128) :
    (iblk m c 2 t : S1x1176x128.Idx → EReal) (ix3 0 a b) = A2 m c (ix3 0 (at_ t a) b) := by
  unfold iblk; rw [View.read_apply]
  exact congrArg (A2 m c) (pos t a b)

theorem blk3 (c : Dev nD) (t : Fin cfg0.N) (a : Fin 1176) (b : Fin 128) :
    (iblk m c 3 t : S1x1176x128.Idx → EReal) (ix3 0 a b) = A3 m c (ix3 0 (at_ t a) b) := by
  unfold iblk; rw [View.read_apply]
  exact congrArg (A3 m c) (pos t a b)

/-- What is written back at a point is the function `g` on the point's block, if the values are those of `g` at layer 0. -/
theorem cut_eq (t : Fin cfg0.N) (y : S1x1176x128.Idx → EReal) (g : S4x1176x128.Idx → EReal) (h : ∀ a b, y (ix3 0 a b) = g (ix3 0 (at_ t a) b))
    (j : (win0_4.xblock (grid0.coords t)).Idx) : y (win0_4.xinj (grid0.coords t) j) = g ((win0_4.rect t).emb j) := by
  obtain ⟨x0, x1, x2⟩ := at4 t
  have hj0 : (j 0 : Nat) < 1 := lt_of_lt_of_eq (j 0).isLt x0
  have e : (win0_4.xinj (grid0.coords t) j : S1x1176x128.Idx) = ix3 0 ⟨j 1, lt_of_lt_of_eq (j 1).isLt x1⟩ ⟨j 2, lt_of_lt_of_eq (j 2).isLt x2⟩ := by
    refine funext fun d => Fin.ext ?_
    match d with
    | ⟨0, _⟩ => show (j 0 : Nat) = 0; omega
    | ⟨1, _⟩ => rfl
    | ⟨2, _⟩ => rfl
  refine (congrArg y e).trans ((h _ _).trans (congrArg g ((pos t _ _).symm.trans (funext fun d => Fin.ext ?_))))
  match d with
  | ⟨0, _⟩ => show win0_1.index t 0 * 1 + 1 * 0 = win0_1.index t 0 * 1 + 1 * (j 0 : Nat); omega
  | ⟨1, _⟩ => rfl
  | ⟨2, _⟩ => rfl

/-- The blocks cover layer 0. -/
theorem cover (i : S4x1176x128.Idx) (h : (i 0).val = 0) : ∃ t : Fin cfg0.N, i ∈ (win0_4.rect t).set := by
  obtain ⟨t, s, hs⟩ := Rows.exists_row (N := 1) (B := 1176) (T := 1176) rfl (by decide) (i 1)
  obtain ⟨h0, h1, h2⟩ := at1 t
  obtain ⟨x0, x1, x2⟩ := at4 t
  refine ⟨t, ?_⟩
  rw [Rect.mem_set_unit]
  have g2 : (i 2 : Nat) < 128 := (i 2).isLt
  have g1 : (i 1 : Nat) = 1176 * t.val + s.val := congrArg Fin.val hs
  have hr := s.isLt
  intro a
  match a with
  | ⟨0, _⟩ => show win0_1.index t 0 * 1 ≤ (i 0 : Nat) ∧ (i 0 : Nat) < win0_1.index t 0 * 1 + win0_4.xsize (grid0.coords t) 0
              rw [x0]; omega
  | ⟨1, _⟩ => show win0_1.index t 1 * 1176 ≤ (i 1 : Nat) ∧ (i 1 : Nat) < win0_1.index t 1 * 1176 + win0_4.xsize (grid0.coords t) 1
              rw [x1, h1]; omega
  | ⟨2, _⟩ => show win0_1.index t 2 * 128 ≤ (i 2 : Nat) ∧ (i 2 : Nat) < win0_1.index t 2 * 128 + win0_4.xsize (grid0.coords t) 2
              rw [x2]; omega

/-- Element `(R, q)` of layer 0 of result `0`: the sum of the parts of the gradient. -/
def res4 (c : Dev nD) (R : Fin 1176) (q : Fin 128) : EReal :=
  Rows.sum8 (fun k => A0 m c (ix3 k R q))

/-- Result `0`: layer 0 is new, the other layers stay. -/
def G4 (c : Dev nD) : Vec Ideal S4x1176x128 .f32 :=
  fun i => if (i 0).val = 0 then res4 m c (i 1) (i 2) else (V m c main_v0_0 : S4x1176x128.Idx → EReal) i

theorem row4 (c : Dev nD) (t : Fin cfg0.N) (a : Fin 1176) (b : Fin 128) : (outsAt0 m c t).1 (ix3 0 a b) = G4 m c (ix3 0 (at_ t a) b) := by
  refine Eq.trans (b := res4 m c (at_ t a) b) ?_ (if_pos rfl).symm
  unfold outsAt0 out0_A_4
  dsimp only
  rw [View.read_writes_eq_canon _ _ _ (cover0_A_4 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x1176x128) hz]
  pointwise [k0_pay1, k0_pay2, k0_pay3, k0_pay4, k0_pay5, k0_pay6, k0_pay7, k0_pay8, k0_pay9, res4, Rows.newM, Rows.newV, Rows.stepD]
  simp only [Rows.sum8_eq, blk0 m c t]
  try rfl

theorem final4 (c : Dev nD) : (dats m 0 c).arrAt 4 cfg0.N = G4 m c := by
  funext i
  refine ((dats m 0 c).arrAt_eq_piecewise 4 (G4 m c) (fun t hf => (Value.flushed4 m c t).trans (funext fun j => ?_)) i).trans ?_
  · rw [View.read_apply]
    exact cut_eq t _ (G4 m c) (row4 m c t) j
  · split
    · rfl
    · rename_i hno
      refine (congrFun (A_eq m c 4) i).trans (if_neg fun h0 => hno ?_).symm
      obtain ⟨t, ht⟩ := cover i h0
      exact ⟨t, flush0_4 t, (View.set_slice_whole main_v0_0 (win0_4.rect t)).symm ▸ ht⟩

/-- Element `(R, q)` of layer 0 of result `1`: the step. -/
def res5 (c : Dev nD) (R : Fin 1176) (q : Fin 128) : EReal :=
  Rows.stepD (Rows.sum8 (fun k => A0 m c (ix3 k R q))) (A1 m c (ix3 0 R q)) (A2 m c (ix3 0 R q)) (A3 m c (ix3 0 R q))

/-- Result `1`: layer 0 is new, the other layers stay. -/
def G5 (c : Dev nD) : Vec Ideal S4x1176x128 .f32 :=
  fun i => if (i 0).val = 0 then res5 m c (i 1) (i 2) else (V m c main_v0_1 : S4x1176x128.Idx → EReal) i

theorem row5 (c : Dev nD) (t : Fin cfg0.N) (a : Fin 1176) (b : Fin 128) : (outsAt0 m c t).2.1 (ix3 0 a b) = G5 m c (ix3 0 (at_ t a) b) := by
  refine Eq.trans (b := res5 m c (at_ t a) b) ?_ (if_pos rfl).symm
  unfold outsAt0 out0_A_5
  dsimp only
  rw [View.read_writes_eq_canon _ _ _ (cover0_A_5 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x1176x128) hz]
  pointwise [k0_pay1, k0_pay2, k0_pay3, k0_pay4, k0_pay5, k0_pay6, k0_pay7, k0_pay8, k0_pay9, res5, Rows.newM, Rows.newV, Rows.stepD]
  simp only [Rows.sum8_eq, blk0 m c t, blk1 m c t, blk2 m c t, blk3 m c t]
  try rfl

theorem final5 (c : Dev nD) : (dats m 0 c).arrAt 5 cfg0.N = G5 m c := by
  funext i
  refine ((dats m 0 c).arrAt_eq_piecewise 5 (G5 m c) (fun t hf => (Value.flushed5 m c t).trans (funext fun j => ?_)) i).trans ?_
  · rw [View.read_apply]
    exact cut_eq t _ (G5 m c) (row5 m c t) j
  · split
    · rfl
    · rename_i hno
      refine (congrFun (A_eq m c 5) i).trans (if_neg fun h0 => hno ?_).symm
      obtain ⟨t, ht⟩ := cover i h0
      exact ⟨t, flush0_5 t, (View.set_slice_whole main_v0_1 (win0_5.rect t)).symm ▸ ht⟩

/-- Element `(R, q)` of layer 0 of result `2`: the new first moment. -/
def res6 (c : Dev nD) (R : Fin 1176) (q : Fin 128) : EReal :=
  Rows.newM (Rows.sum8 (fun k => A0 m c (ix3 k R q))) (A2 m c (ix3 0 R q))

/-- Result `2`: layer 0 is new, the other layers stay. -/
def G6 (c : Dev nD) : Vec Ideal S4x1176x128 .f32 :=
  fun i => if (i 0).val = 0 then res6 m c (i 1) (i 2) else (V m c main_v0_2 : S4x1176x128.Idx → EReal) i

theorem row6 (c : Dev nD) (t : Fin cfg0.N) (a : Fin 1176) (b : Fin 128) : (outsAt0 m c t).2.2.1 (ix3 0 a b) = G6 m c (ix3 0 (at_ t a) b) := by
  refine Eq.trans (b := res6 m c (at_ t a) b) ?_ (if_pos rfl).symm
  unfold outsAt0 out0_A_6
  dsimp only
  rw [View.read_writes_eq_canon _ _ _ (cover0_A_6 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x1176x128) hz]
  pointwise [k0_pay1, k0_pay2, k0_pay3, k0_pay4, k0_pay5, k0_pay6, k0_pay7, k0_pay8, k0_pay9, res6, Rows.newM, Rows.newV, Rows.stepD]
  simp only [Rows.sum8_eq, blk0 m c t, blk2 m c t]
  try rfl

theorem final6 (c : Dev nD) : (dats m 0 c).arrAt 6 cfg0.N = G6 m c := by
  funext i
  refine ((dats m 0 c).arrAt_eq_piecewise 6 (G6 m c) (fun t hf => (Value.flushed6 m c t).trans (funext fun j => ?_)) i).trans ?_
  · rw [View.read_apply]
    exact cut_eq t _ (G6 m c) (row6 m c t) j
  · split
    · rfl
    · rename_i hno
      refine (congrFun (A_eq m c 6) i).trans (if_neg fun h0 => hno ?_).symm
      obtain ⟨t, ht⟩ := cover i h0
      exact ⟨t, flush0_6 t, (View.set_slice_whole main_v0_2 (win0_6.rect t)).symm ▸ ht⟩

/-- Element `(R, q)` of layer 0 of result `3`: the new second moment. -/
def res7 (c : Dev nD) (R : Fin 1176) (q : Fin 128) : EReal :=
  Rows.newV (Rows.sum8 (fun k => A0 m c (ix3 k R q))) (A3 m c (ix3 0 R q))

/-- Result `3`: layer 0 is new, the other layers stay. -/
def G7 (c : Dev nD) : Vec Ideal S4x1176x128 .f32 :=
  fun i => if (i 0).val = 0 then res7 m c (i 1) (i 2) else (V m c main_v0_3 : S4x1176x128.Idx → EReal) i

theorem row7 (c : Dev nD) (t : Fin cfg0.N) (a : Fin 1176) (b : Fin 128) : (outsAt0 m c t).2.2.2 (ix3 0 a b) = G7 m c (ix3 0 (at_ t a) b) := by
  refine Eq.trans (b := res7 m c (at_ t a) b) ?_ (if_pos rfl).symm
  unfold outsAt0 out0_A_7
  dsimp only
  rw [View.read_writes_eq_canon _ _ _ (cover0_A_7 _ _ _ _ _ _ _ _ _ _ _ _ _ _ _ _ _ _ _ _ _ _)]
  unfold kernelRun0_A
  dsimp only
  sl_unfold_words
  rw [View.canon_unit_zero hz]
  simp only [View.readAt_eq_ld, (hs0_0 t).read_unread, (hs0_1 t).read_unread, (hs0_2 t).read_unread, (hs0_3 t).read_unread, View.ld_unit_zero (S := S1x1176x128) hz]
  pointwise [k0_pay1, k0_pay2, k0_pay3, k0_pay4, k0_pay5, k0_pay6, k0_pay7, k0_pay8, k0_pay9, res7, Rows.newM, Rows.newV, Rows.stepD]
  simp only [Rows.sum8_eq, blk0 m c t, blk3 m c t]
  try rfl

theorem final7 (c : Dev nD) : (dats m 0 c).arrAt 7 cfg0.N = G7 m c := by
  funext i
  refine ((dats m 0 c).arrAt_eq_piecewise 7 (G7 m c) (fun t hf => (Value.flushed7 m c t).trans (funext fun j => ?_)) i).trans ?_
  · rw [View.read_apply]
    exact cut_eq t _ (G7 m c) (row7 m c t) j
  · split
    · rfl
    · rename_i hno
      refine (congrFun (A_eq m c 7) i).trans (if_neg fun h0 => hno ?_).symm
      obtain ⟨t, ht⟩ := cover i h0
      exact ⟨t, flush0_7 t, (View.set_slice_whole main_v0_3 (win0_7.rect t)).symm ▸ ht⟩

end Cert.AsmallIdeal.Body

end
-- ==== Proof.AsmallClaim.lean ====
/- The claim on the optimiser's call on the packed small weights: layer 0 of the four results is the sum of the parts of the gradient and the step it gives. -/
module

public import proofs.«01_k».proof.Defs
public import proofs.«01_k».proof.Proof.AsmallValue
public import proofs.«01_k».proof.Proof.Gen.AsmallRefIdeal
public import proofs.«01_k».proof.Proof.Gen.AsmallRefIdeal.Run
public import proofs.«01_k».proof.Proof.Gen.AsmallRefIdeal.Read

@[expose] public section

noncomputable section

open Idealize.ShloMosaic Idealize.ShloMosaic.TcCoe Idealize.SL.Sem Idealize.ShloMosaic.StableHlo

namespace Cert.AsmallRef

open Cert.AsmallRefIdeal Cert.AsmallRefIdeal.Read Cert.AsmallRefIdeal.Gen

/-- A new layer 0 before the layers from 1 on of an array. -/
theorem cat (u : Vec Ideal S1x1176x128 .f32) (x : Vec Ideal S4x1176x128 .f32) (l : Fin 4) (p : Fin 1176) (q : Fin 128) :
    concatenate S4x1176x128 0 [⟨S1x1176x128, u⟩, ⟨S3x1176x128, extractStridedSlice S3x1176x128 ![1, 0, 0] x slices_S4x1176x128_S3x1176x128_1_0_0⟩] concatenates_S1x1176x128_S3x1176x128_S4x1176x128_d0 (ix3 l p q)
      = if l.val = 0 then u (ix3 0 p q) else x (ix3 l p q) := by
  pointwise []
  by_cases h : l.val = 0
  · rw [dif_pos (by omega), if_pos h]
    exact congrArg (fun k => u (ix3 k p q)) (Fin.ext h)
  · rw [dif_neg (by omega), if_neg h]
    exact congrArg (fun k => x (ix3 k p q)) (Fin.ext (by dsimp only; omega))

theorem out4 (x0 : Vec Ideal S8x1176x128 .f32) (x4 : Vec Ideal S4x1176x128 .f32) (l : Fin 4) (p : Fin 1176) (q : Fin 128) :
    val_main_v33 (F := Ideal) x0 x4 (ix3 l p q) = if l.val = 0 then Rows.sum8 (fun k => x0 (ix3 k p q)) else x4 (ix3 l p q) := by
  rw [← val_main_v33_eq]
  refine (cat _ _ l p q).trans (congrArg (fun y => if l.val = 0 then y else x4 (ix3 l p q)) ?_)
  pointwise [Rows.newM, Rows.newV, Rows.stepD, Rows.sum8]

theorem out5 (x0 : Vec Ideal S8x1176x128 .f32) (x1 : Vec Ideal S4x1176x128 .f32) (x2 : Vec Ideal S4x1176x128 .f32) (x3 : Vec Ideal S4x1176x128 .f32) (x5 : Vec Ideal S4x1176x128 .f32) (l : Fin 4) (p : Fin 1176) (q : Fin 128) :
    val_main_v36 (F := Ideal) x0 x1 x2 x3 x5 (ix3 l p q) = if l.val = 0 then Rows.stepD (Rows.sum8 (fun k => x0 (ix3 k p q))) (x1 (ix3 0 p q)) (x2 (ix3 0 p q)) (x3 (ix3 0 p q)) else x5 (ix3 l p q) := by
  rw [← val_main_v36_eq]
  refine (cat _ _ l p q).trans (congrArg (fun y => if l.val = 0 then y else x5 (ix3 l p q)) ?_)
  pointwise [Rows.newM, Rows.newV, Rows.stepD, Rows.sum8]

theorem out6 (x0 : Vec Ideal S8x1176x128 .f32) (x2 : Vec Ideal S4x1176x128 .f32) (x6 : Vec Ideal S4x1176x128 .f32) (l : Fin 4) (p : Fin 1176) (q : Fin 128) :
    val_main_v39 (F := Ideal) x0 x2 x6 (ix3 l p q) = if l.val = 0 then Rows.newM (Rows.sum8 (fun k => x0 (ix3 k p q))) (x2 (ix3 0 p q)) else x6 (ix3 l p q) := by
  rw [← val_main_v39_eq]
  refine (cat _ _ l p q).trans (congrArg (fun y => if l.val = 0 then y else x6 (ix3 l p q)) ?_)
  pointwise [Rows.newM, Rows.newV, Rows.stepD, Rows.sum8]

theorem out7 (x0 : Vec Ideal S8x1176x128 .f32) (x3 : Vec Ideal S4x1176x128 .f32) (x7 : Vec Ideal S4x1176x128 .f32) (l : Fin 4) (p : Fin 1176) (q : Fin 128) :
    val_main_v42 (F := Ideal) x0 x3 x7 (ix3 l p q) = if l.val = 0 then Rows.newV (Rows.sum8 (fun k => x0 (ix3 k p q))) (x3 (ix3 0 p q)) else x7 (ix3 l p q) := by
  rw [← val_main_v42_eq]
  refine (cat _ _ l p q).trans (congrArg (fun y => if l.val = 0 then y else x7 (ix3 l p q)) ?_)
  pointwise [Rows.newM, Rows.newV, Rows.stepD, Rows.sum8]

end Cert.AsmallRef

namespace Cert.AsmallIdeal.Body

open Cert.AsmallIdeal Cert.AsmallIdeal.Gen

variable (m : (ℓ : Loc nD τ sig) → Buf (Elt Ideal) ℓ)

/-- Argument `0`. -/
abbrev x0 (c : Dev nD) : Vec Ideal S8x1176x128 .f32 := m ((c : Thread nD τ).loc main_arg0)

/-- Argument `1`. -/
abbrev x1 (c : Dev nD) : Vec Ideal S4x1176x128 .f32 := m ((c : Thread nD τ).loc main_arg1)

/-- Argument `2`. -/
abbrev x2 (c : Dev nD) : Vec Ideal S4x1176x128 .f32 := m ((c : Thread nD τ).loc main_arg2)

/-- Argument `3`. -/
abbrev x3 (c : Dev nD) : Vec Ideal S4x1176x128 .f32 := m ((c : Thread nD τ).loc main_arg3)

/-- Argument `4`. -/
abbrev x4 (c : Dev nD) : Vec Ideal S4x1176x128 .f32 := m ((c : Thread nD τ).loc main_arg4)

/-- Argument `5`. -/
abbrev x5 (c : Dev nD) : Vec Ideal S4x1176x128 .f32 := m ((c : Thread nD τ).loc main_arg5)

/-- Argument `6`. -/
abbrev x6 (c : Dev nD) : Vec Ideal S4x1176x128 .f32 := m ((c : Thread nD τ).loc main_arg6)

/-- Argument `7`. -/
abbrev x7 (c : Dev nD) : Vec Ideal S4x1176x128 .f32 := m ((c : Thread nD τ).loc main_arg7)

/-- The operands the call is given are the arguments. -/
theorem reads (c : Dev nD) : A0 m c = x0 m c ∧ A1 m c = x1 m c ∧ A2 m c = x2 m c ∧ A3 m c = x3 m c ∧ (V m c main_v0_0 : S4x1176x128.Idx → EReal) = x4 m c ∧ (V m c main_v0_1 : S4x1176x128.Idx → EReal) = x5 m c ∧ (V m c main_v0_2 : S4x1176x128.Idx → EReal) = x6 m c ∧ (V m c main_v0_3 : S4x1176x128.Idx → EReal) = x7 m c := by
  unfold A0 A1 A2 A3 V
  simp only [hostOps0, List.flatten_cons, List.flatten_nil, List.append_nil, List.cons_append, List.nil_append,
    TRef.binary, TRef.nullary, TRef.unary, TRef.toBuf, TRef.ofBuf, cast_eq]
  refine ⟨?_, ?_, ?_, ?_, ?_, ?_, ?_, ?_⟩ <;> (after_results_simp; try rfl)

theorem val4 (c : Dev nD) : G4 m c = Cert.AsmallRefIdeal.Read.val_main_v33 (F := Ideal) (x0 m c) (x4 m c) := by
  funext i
  obtain ⟨l, p, q, rfl⟩ : ∃ (l : Fin 4) (p : Fin 1176) (q : Fin 128), i = ix3 l p q := ⟨i 0, i 1, i 2, eq_ix3 i⟩
  refine Eq.trans ?_ (Cert.AsmallRef.out4 (x0 m c) (x4 m c) l p q).symm
  show (if l.val = 0 then res4 m c p q else (V m c main_v0_0 : S4x1176x128.Idx → EReal) (ix3 l p q)) = _
  unfold res4
  obtain ⟨h0, h1, h2, h3, h4, h5, h6, h7⟩ := reads m c
  rw [h0, h4]

theorem val5 (c : Dev nD) : G5 m c = Cert.AsmallRefIdeal.Read.val_main_v36 (F := Ideal) (x0 m c) (x1 m c) (x2 m c) (x3 m c) (x5 m c) := by
  funext i
  obtain ⟨l, p, q, rfl⟩ : ∃ (l : Fin 4) (p : Fin 1176) (q : Fin 128), i = ix3 l p q := ⟨i 0, i 1, i 2, eq_ix3 i⟩
  refine Eq.trans ?_ (Cert.AsmallRef.out5 (x0 m c) (x1 m c) (x2 m c) (x3 m c) (x5 m c) l p q).symm
  show (if l.val = 0 then res5 m c p q else (V m c main_v0_1 : S4x1176x128.Idx → EReal) (ix3 l p q)) = _
  unfold res5
  obtain ⟨h0, h1, h2, h3, h4, h5, h6, h7⟩ := reads m c
  rw [h0, h1, h2, h3, h5]

theorem val6 (c : Dev nD) : G6 m c = Cert.AsmallRefIdeal.Read.val_main_v39 (F := Ideal) (x0 m c) (x2 m c) (x6 m c) := by
  funext i
  obtain ⟨l, p, q, rfl⟩ : ∃ (l : Fin 4) (p : Fin 1176) (q : Fin 128), i = ix3 l p q := ⟨i 0, i 1, i 2, eq_ix3 i⟩
  refine Eq.trans ?_ (Cert.AsmallRef.out6 (x0 m c) (x2 m c) (x6 m c) l p q).symm
  show (if l.val = 0 then res6 m c p q else (V m c main_v0_2 : S4x1176x128.Idx → EReal) (ix3 l p q)) = _
  unfold res6
  obtain ⟨h0, h1, h2, h3, h4, h5, h6, h7⟩ := reads m c
  rw [h0, h2, h6]

theorem val7 (c : Dev nD) : G7 m c = Cert.AsmallRefIdeal.Read.val_main_v42 (F := Ideal) (x0 m c) (x3 m c) (x7 m c) := by
  funext i
  obtain ⟨l, p, q, rfl⟩ : ∃ (l : Fin 4) (p : Fin 1176) (q : Fin 128), i = ix3 l p q := ⟨i 0, i 1, i 2, eq_ix3 i⟩
  refine Eq.trans ?_ (Cert.AsmallRef.out7 (x0 m c) (x3 m c) (x7 m c) l p q).symm
  show (if l.val = 0 then res7 m c p q else (V m c main_v0_3 : S4x1176x128.Idx → EReal) (ix3 l p q)) = _
  unfold res7
  obtain ⟨h0, h1, h2, h3, h4, h5, h6, h7⟩ := reads m c
  rw [h0, h3, h7]

theorem algebraic : Cert.algebraic_AsmallIdeal_AsmallRefIdeal := by
  intro m g m' g' hpre hag
  refine ⟨fun c => G4 m c, fun c => G5 m c, fun c => G6 m c, fun c => G7 m c, ?_, ?_⟩
  · exact (θ_run defs _ _).mono (fun r h c => ⟨(h c).1.trans (final4 m c), (h c).2.1.trans (final5 m c), (h c).2.2.1.trans (final6 m c), (h c).2.2.2.1.trans (final7 m c), (h c).2.2.2.2⟩) (Value.run_blocks m g)
  · refine (θ_run Cert.AsmallRefIdeal.defs _ _).mono (fun r h c => ⟨(h c).1.trans ?_, (h c).2.1.trans ?_, (h c).2.2.1.trans ?_, (h c).2.2.2.1.trans ?_, (h c).2.2.2.2⟩) (Cert.AsmallRefIdeal.Value.run m' g')
    · obtain ⟨h0, h1, h2, h3, h4, h5, h6, h7⟩ := hag c
      refine (Cert.AsmallRefIdeal.Read.val_main_v33_eq _ _).trans ?_
      rw [h0, h4]
      exact (val4 m c).symm
    · obtain ⟨h0, h1, h2, h3, h4, h5, h6, h7⟩ := hag c
      refine (Cert.AsmallRefIdeal.Read.val_main_v36_eq _ _ _ _ _).trans ?_
      rw [h0, h1, h2, h3, h5]
      exact (val5 m c).symm
    · obtain ⟨h0, h1, h2, h3, h4, h5, h6, h7⟩ := hag c
      refine (Cert.AsmallRefIdeal.Read.val_main_v39_eq _ _ _).trans ?_
      rw [h0, h2, h6]
      exact (val6 m c).symm
    · obtain ⟨h0, h1, h2, h3, h4, h5, h6, h7⟩ := hag c
      refine (Cert.AsmallRefIdeal.Read.val_main_v42_eq _ _ _).trans ?_
      rw [h0, h3, h7]
      exact (val7 m c).symm

end Cert.AsmallIdeal.Body

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.Ff2
public import proofs.«01_k».proof.Proof.Gen.Ff2.Frame
public import proofs.«01_k».proof.Proof.Gen.Ff2Ideal
public import proofs.«01_k».proof.Proof.Gen.Ff2Ideal.Frame
public import proofs.«01_k».proof.Proof.Gen.Ff2Ideal.Value
public import proofs.«01_k».proof.Proof.Gen.Ff2RefIdeal
public import proofs.«01_k».proof.Proof.Gen.Ff2RefIdeal.Run
public import proofs.«01_k».proof.Proof.Gen.Ff2RefIdeal.Read
public import proofs.«01_k».proof.Proof.Gen.Ff1
public import proofs.«01_k».proof.Proof.Gen.Ff1.Frame
public import proofs.«01_k».proof.Proof.Gen.Ff1Ideal
public import proofs.«01_k».proof.Proof.Gen.Ff1Ideal.Frame
public import proofs.«01_k».proof.Proof.Gen.Ff1Ideal.Value
public import proofs.«01_k».proof.Proof.Gen.Ff1RefIdeal
public import proofs.«01_k».proof.Proof.Gen.Ff1RefIdeal.Run
public import proofs.«01_k».proof.Proof.Gen.Ff1RefIdeal.Read
public import proofs.«01_k».proof.Proof.Gen.Mix
public import proofs.«01_k».proof.Proof.Gen.Mix.Frame
public import proofs.«01_k».proof.Proof.Gen.MixIdeal
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.Gen.Wff2
public import proofs.«01_k».proof.Proof.Gen.Wff2.Frame
public import proofs.«01_k».proof.Proof.Gen.Wff2Ideal
public import proofs.«01_k».proof.Proof.Gen.Wff2Ideal.Frame
public import proofs.«01_k».proof.Proof.Gen.Wff2Ideal.Value
public import proofs.«01_k».proof.Proof.Gen.Wff2RefIdeal
public import proofs.«01_k».proof.Proof.Gen.Wff2RefIdeal.Run
public import proofs.«01_k».proof.Proof.Gen.Wff2RefIdeal.Read
public import proofs.«01_k».proof.Proof.Gen.Wff1
public import proofs.«01_k».proof.Proof.Gen.Wff1.Frame
public import proofs.«01_k».proof.Proof.Gen.Wff1Ideal
public import proofs.«01_k».proof.Proof.Gen.Wff1Ideal.Frame
public import proofs.«01_k».proof.Proof.Gen.Wff1Ideal.Value
public import proofs.«01_k».proof.Proof.Gen.Wff1RefIdeal
public import proofs.«01_k».proof.Proof.Gen.Wff1RefIdeal.Run
public import proofs.«01_k».proof.Proof.Gen.Wff1RefIdeal.Read
public import proofs.«01_k».proof.Proof.Gen.In
public import proofs.«01_k».proof.Proof.Gen.In.Frame
public import proofs.«01_k».proof.Proof.Gen.InIdeal
public import proofs.«01_k».proof.Proof.Gen.InIdeal.Frame
public import proofs.«01_k».proof.Proof.Gen.InIdeal.Value
public import proofs.«01_k».proof.Proof.Gen.InRefIdeal
public import proofs.«01_k».proof.Proof.Gen.InRefIdeal.Run
public import proofs.«01_k».proof.Proof.Gen.InRefIdeal.Read
public import proofs.«01_k».proof.Proof.Gen.Mixf
public import proofs.«01_k».proof.Proof.Gen.Mixf.Frame
public import proofs.«01_k».proof.Proof.Gen.MixfIdeal
public import proofs.«01_k».proof.Proof.Gen.MixfIdeal.Frame
public import proofs.«01_k».proof.Proof.Gen.MixfIdeal.Value
public import proofs.«01_k».proof.Proof.Gen.MixfRefIdeal
public import proofs.«01_k».proof.Proof.Gen.MixfRefIdeal.Run
public import proofs.«01_k».proof.Proof.Gen.MixfRefIdeal.Read
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutIdeal.Value
public import proofs.«01_k».proof.Proof.Gen.OutRefIdeal
public import proofs.«01_k».proof.Proof.Gen.OutRefIdeal.Run
public import proofs.«01_k».proof.Proof.Gen.OutRefIdeal.Read
public import proofs.«01_k».proof.Proof.Gen.Ff1f
public import proofs.«01_k».proof.Proof.Gen.Ff1f.Frame
public import proofs.«01_k».proof.Proof.Gen.Ff1fIdeal
public import proofs.«01_k».proof.Proof.Gen.Ff1fIdeal.Frame
public import proofs.«01_k».proof.Proof.Gen.Ff1fIdeal.Value
public import proofs.«01_k».proof.Proof.Gen.Ff1fRefIdeal
public import proofs.«01_k».proof.Proof.Gen.Ff1fRefIdeal.Run
public import proofs.«01_k».proof.Proof.Gen.Ff1fRefIdeal.Read
public import proofs.«01_k».proof.Proof.Gen.Ff2f
public import proofs.«01_k».proof.Proof.Gen.Ff2f.Frame
public import proofs.«01_k».proof.Proof.Gen.Ff2fIdeal
public import proofs.«01_k».proof.Proof.Gen.Ff2fIdeal.Frame
public import proofs.«01_k».proof.Proof.Gen.Ff2fIdeal.Value
public import proofs.«01_k».proof.Proof.Gen.Ff2fRefIdeal
public import proofs.«01_k».proof.Proof.Gen.Ff2fRefIdeal.Run
public import proofs.«01_k».proof.Proof.Gen.Ff2fRefIdeal.Read
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.Gen.Inb
public import proofs.«01_k».proof.Proof.Gen.Inb.Frame
public import proofs.«01_k».proof.Proof.Gen.InbIdeal
public import proofs.«01_k».proof.Proof.Gen.InbIdeal.Frame
public import proofs.«01_k».proof.Proof.Gen.InbIdeal.Value
public import proofs.«01_k».proof.Proof.Gen.InbRefIdeal
public import proofs.«01_k».proof.Proof.Gen.InbRefIdeal.Run
public import proofs.«01_k».proof.Proof.Gen.InbRefIdeal.Read
public import proofs.«01_k».proof.Proof.Gen.Inb0
public import proofs.«01_k».proof.Proof.Gen.Inb0.Frame
public import proofs.«01_k».proof.Proof.Gen.Inb0Ideal
public import proofs.«01_k».proof.Proof.Gen.Inb0Ideal.Frame
public import proofs.«01_k».proof.Proof.Gen.Inb0Ideal.Value
public import proofs.«01_k».proof.Proof.Gen.Inb0RefIdeal
public import proofs.«01_k».proof.Proof.Gen.Inb0RefIdeal.Run
public import proofs.«01_k».proof.Proof.Gen.Inb0RefIdeal.Read
public import proofs.«01_k».proof.Proof.Gen.Wout
public import proofs.«01_k».proof.Proof.Gen.Wout.Frame
public import proofs.«01_k».proof.Proof.Gen.WoutIdeal
public import proofs.«01_k».proof.Proof.Gen.WoutIdeal.Frame
public import proofs.«01_k».proof.Proof.Gen.WoutIdeal.Value
public import proofs.«01_k».proof.Proof.Gen.WoutRefIdeal
public import proofs.«01_k».proof.Proof.Gen.WoutRefIdeal.Run
public import proofs.«01_k».proof.Proof.Gen.WoutRefIdeal.Read
public import proofs.«01_k».proof.Proof.Gen.Wglu
public import proofs.«01_k».proof.Proof.Gen.Wglu.Frame
public import proofs.«01_k».proof.Proof.Gen.WgluIdeal
public import proofs.«01_k».proof.Proof.Gen.WgluIdeal.Frame
public import proofs.«01_k».proof.Proof.Gen.WgluIdeal.Value
public import proofs.«01_k».proof.Proof.Gen.WgluRefIdeal
public import proofs.«01_k».proof.Proof.Gen.WgluRefIdeal.Run
public import proofs.«01_k».proof.Proof.Gen.WgluRefIdeal.Read
public import proofs.«01_k».proof.Proof.Gen.Win
public import proofs.«01_k».proof.Proof.Gen.Win.Frame
public import proofs.«01_k».proof.Proof.Gen.WinIdeal
public import proofs.«01_k».proof.Proof.Gen.WinIdeal.Frame
public import proofs.«01_k».proof.Proof.Gen.WinIdeal.Value
public import proofs.«01_k».proof.Proof.Gen.WinRefIdeal
public import proofs.«01_k».proof.Proof.Gen.WinRefIdeal.Run
public import proofs.«01_k».proof.Proof.Gen.WinRefIdeal.Read
public import proofs.«01_k».proof.Proof.Gen.Awin
public import proofs.«01_k».proof.Proof.Gen.Awin.Frame
public import proofs.«01_k».proof.Proof.Gen.AwinIdeal
public import proofs.«01_k».proof.Proof.Gen.AwinIdeal.Frame
public import proofs.«01_k».proof.Proof.Gen.AwinIdeal.Value
public import proofs.«01_k».proof.Proof.Gen.AwinRefIdeal
public import proofs.«01_k».proof.Proof.Gen.AwinRefIdeal.Run
public import proofs.«01_k».proof.Proof.Gen.AwinRefIdeal.Read
public import proofs.«01_k».proof.Proof.Gen.Awglu
public import proofs.«01_k».proof.Proof.Gen.Awglu.Frame
public import proofs.«01_k».proof.Proof.Gen.AwgluIdeal
public import proofs.«01_k».proof.Proof.Gen.AwgluIdeal.Frame
public import proofs.«01_k».proof.Proof.Gen.AwgluIdeal.Value
public import proofs.«01_k».proof.Proof.Gen.AwgluRefIdeal
public import proofs.«01_k».proof.Proof.Gen.AwgluRefIdeal.Run
public import proofs.«01_k».proof.Proof.Gen.AwgluRefIdeal.Read
public import proofs.«01_k».proof.Proof.Gen.Awout
public import proofs.«01_k».proof.Proof.Gen.Awout.Frame
public import proofs.«01_k».proof.Proof.Gen.AwoutIdeal
public import proofs.«01_k».proof.Proof.Gen.AwoutIdeal.Frame
public import proofs.«01_k».proof.Proof.Gen.AwoutIdeal.Value
public import proofs.«01_k».proof.Proof.Gen.AwoutRefIdeal
public import proofs.«01_k».proof.Proof.Gen.AwoutRefIdeal.Run
public import proofs.«01_k».proof.Proof.Gen.AwoutRefIdeal.Read
public import proofs.«01_k».proof.Proof.Gen.Awff1
public import proofs.«01_k».proof.Proof.Gen.Awff1.Frame
public import proofs.«01_k».proof.Proof.Gen.Awff1Ideal
public import proofs.«01_k».proof.Proof.Gen.Awff1Ideal.Frame
public import proofs.«01_k».proof.Proof.Gen.Awff1Ideal.Value
public import proofs.«01_k».proof.Proof.Gen.Awff1RefIdeal
public import proofs.«01_k».proof.Proof.Gen.Awff1RefIdeal.Run
public import proofs.«01_k».proof.Proof.Gen.Awff1RefIdeal.Read
public import proofs.«01_k».proof.Proof.Gen.Awff2
public import proofs.«01_k».proof.Proof.Gen.Awff2.Frame
public import proofs.«01_k».proof.Proof.Gen.Awff2Ideal
public import proofs.«01_k».proof.Proof.Gen.Awff2Ideal.Frame
public import proofs.«01_k».proof.Proof.Gen.Awff2Ideal.Value
public import proofs.«01_k».proof.Proof.Gen.Awff2RefIdeal
public import proofs.«01_k».proof.Proof.Gen.Awff2RefIdeal.Run
public import proofs.«01_k».proof.Proof.Gen.Awff2RefIdeal.Read
public import proofs.«01_k».proof.Proof.Gen.Asmall
public import proofs.«01_k».proof.Proof.Gen.Asmall.Frame
public import proofs.«01_k».proof.Proof.Gen.AsmallIdeal
public import proofs.«01_k».proof.Proof.Gen.AsmallIdeal.Frame
public import proofs.«01_k».proof.Proof.Gen.AsmallIdeal.Value
public import proofs.«01_k».proof.Proof.Gen.AsmallRefIdeal
public import proofs.«01_k».proof.Proof.Gen.AsmallRefIdeal.Run
public import proofs.«01_k».proof.Proof.Gen.AsmallRefIdeal.Read
public import proofs.«01_k».proof.Proof.Ff2Claim
public import proofs.«01_k».proof.Proof.Ff1Claim
public import proofs.«01_k».proof.Proof.MixClaim
public import proofs.«01_k».proof.Proof.Wff2Claim
public import proofs.«01_k».proof.Proof.Wff1Claim
public import proofs.«01_k».proof.Proof.InClaim
public import proofs.«01_k».proof.Proof.MixfClaim
public import proofs.«01_k».proof.Proof.OutClaim
public import proofs.«01_k».proof.Proof.Ff1fClaim
public import proofs.«01_k».proof.Proof.Ff2fClaim
public import proofs.«01_k».proof.Proof.LossClaim
public import proofs.«01_k».proof.Proof.InbClaim
public import proofs.«01_k».proof.Proof.Inb0Claim
public import proofs.«01_k».proof.Proof.WoutClaim
public import proofs.«01_k».proof.Proof.WgluClaim
public import proofs.«01_k».proof.Proof.WinClaim
public import proofs.«01_k».proof.Proof.AwinClaim
public import proofs.«01_k».proof.Proof.AwgluClaim
public import proofs.«01_k».proof.Proof.AwoutClaim
public import proofs.«01_k».proof.Proof.Awff1Claim
public import proofs.«01_k».proof.Proof.Awff2Claim
public import proofs.«01_k».proof.Proof.AsmallClaim
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts,
    Cert.KernelIdeal.Gen.facts,
    Cert.Ff2.Gen.facts,
    Cert.Ff2Ideal.Gen.facts,
    Cert.Ff2RefIdeal.Gen.facts,
    Cert.Ff1.Gen.facts,
    Cert.Ff1Ideal.Gen.facts,
    Cert.Ff1RefIdeal.Gen.facts,
    Cert.Mix.Gen.facts,
    Cert.MixIdeal.Gen.facts,
    Cert.MixRefIdeal.Gen.facts,
    Cert.Wff2.Gen.facts,
    Cert.Wff2Ideal.Gen.facts,
    Cert.Wff2RefIdeal.Gen.facts,
    Cert.Wff1.Gen.facts,
    Cert.Wff1Ideal.Gen.facts,
    Cert.Wff1RefIdeal.Gen.facts,
    Cert.In.Gen.facts,
    Cert.InIdeal.Gen.facts,
    Cert.InRefIdeal.Gen.facts,
    Cert.Mixf.Gen.facts,
    Cert.MixfIdeal.Gen.facts,
    Cert.MixfRefIdeal.Gen.facts,
    Cert.Out.Gen.facts,
    Cert.OutIdeal.Gen.facts,
    Cert.OutRefIdeal.Gen.facts,
    Cert.Ff1f.Gen.facts,
    Cert.Ff1fIdeal.Gen.facts,
    Cert.Ff1fRefIdeal.Gen.facts,
    Cert.Ff2f.Gen.facts,
    Cert.Ff2fIdeal.Gen.facts,
    Cert.Ff2fRefIdeal.Gen.facts,
    Cert.Loss.Gen.facts,
    Cert.LossIdeal.Gen.facts,
    Cert.LossRefIdeal.Gen.facts,
    Cert.Inb.Gen.facts,
    Cert.InbIdeal.Gen.facts,
    Cert.InbRefIdeal.Gen.facts,
    Cert.Inb0.Gen.facts,
    Cert.Inb0Ideal.Gen.facts,
    Cert.Inb0RefIdeal.Gen.facts,
    Cert.Wout.Gen.facts,
    Cert.WoutIdeal.Gen.facts,
    Cert.WoutRefIdeal.Gen.facts,
    Cert.Wglu.Gen.facts,
    Cert.WgluIdeal.Gen.facts,
    Cert.WgluRefIdeal.Gen.facts,
    Cert.Win.Gen.facts,
    Cert.WinIdeal.Gen.facts,
    Cert.WinRefIdeal.Gen.facts,
    Cert.Awin.Gen.facts,
    Cert.AwinIdeal.Gen.facts,
    Cert.AwinRefIdeal.Gen.facts,
    Cert.Awglu.Gen.facts,
    Cert.AwgluIdeal.Gen.facts,
    Cert.AwgluRefIdeal.Gen.facts,
    Cert.Awout.Gen.facts,
    Cert.AwoutIdeal.Gen.facts,
    Cert.AwoutRefIdeal.Gen.facts,
    Cert.Awff1.Gen.facts,
    Cert.Awff1Ideal.Gen.facts,
    Cert.Awff1RefIdeal.Gen.facts,
    Cert.Awff2.Gen.facts,
    Cert.Awff2Ideal.Gen.facts,
    Cert.Awff2RefIdeal.Gen.facts,
    Cert.Asmall.Gen.facts,
    Cert.AsmallIdeal.Gen.facts,
    Cert.AsmallRefIdeal.Gen.facts,
    Cert.Ff2Ideal.Body.preFacts,
    Cert.Ff1Ideal.Body.preFacts,
    Cert.LossIdeal.Body.preFacts,
    Cert.InbIdeal.Body.preFacts,
    fun m ρ _ => Cert.Kernel.Gen.frame m ρ,
    fun m ρ _ => Cert.KernelIdeal.Gen.frame m ρ,
    fun m ρ _ => Cert.Ff2.Gen.frame m ρ,
    fun m ρ _ => Cert.Ff2Ideal.Gen.frame m ρ,
    fun m ρ _ => Cert.Ff2Ideal.Gen.frame m ρ,
    fun m ρ _ => (θ_run Cert.Ff2RefIdeal.defs _ _).mono (fun r h => ⟨fun c => (h c).2.2, sem_eq_zero_of_no_sems rfl _⟩) (Cert.Ff2RefIdeal.Value.run m ρ),
    fun m ρ _ => (θ_run Cert.Ff2RefIdeal.defs _ _).mono (fun r h => ⟨fun c => (h c).2.2, sem_eq_zero_of_no_sems rfl _⟩) (Cert.Ff2RefIdeal.Value.run m ρ),
    fun m ρ _ => Cert.Ff1.Gen.frame m ρ,
    fun m ρ _ => Cert.Ff1Ideal.Gen.frame m ρ,
    fun m ρ _ => Cert.Ff1Ideal.Gen.frame m ρ,
    fun m ρ _ => (θ_run Cert.Ff1RefIdeal.defs _ _).mono (fun r h => ⟨fun c => (h c).2.2.2.2, sem_eq_zero_of_no_sems rfl _⟩) (Cert.Ff1RefIdeal.Value.run m ρ),
    fun m ρ _ => (θ_run Cert.Ff1RefIdeal.defs _ _).mono (fun r h => ⟨fun c => (h c).2.2.2.2, sem_eq_zero_of_no_sems rfl _⟩) (Cert.Ff1RefIdeal.Value.run m ρ),
    fun m ρ _ => Cert.Mix.Gen.frame m ρ,
    fun m ρ _ => Cert.MixIdeal.Gen.frame m ρ,
    fun m ρ _ => (θ_run Cert.MixRefIdeal.defs _ _).mono (fun r h => ⟨fun c => (h c).2.2.2.2.2, sem_eq_zero_of_no_sems rfl _⟩) (Cert.MixRefIdeal.Value.run m ρ),
    fun m ρ _ => Cert.Wff2.Gen.frame m ρ,
    fun m ρ _ => Cert.Wff2Ideal.Gen.frame m ρ,
    fun m ρ _ => (θ_run Cert.Wff2RefIdeal.defs _ _).mono (fun r h => ⟨fun c => (h c).2, sem_eq_zero_of_no_sems rfl _⟩) (Cert.Wff2RefIdeal.Value.run m ρ),
    fun m ρ _ => Cert.Wff1.Gen.frame m ρ,
    fun m ρ _ => Cert.Wff1Ideal.Gen.frame m ρ,
    fun m ρ _ => (θ_run Cert.Wff1RefIdeal.defs _ _).mono (fun r h => ⟨fun c => (h c).2, sem_eq_zero_of_no_sems rfl _⟩) (Cert.Wff1RefIdeal.Value.run m ρ),
    fun m ρ _ => Cert.In.Gen.frame m ρ,
    fun m ρ _ => Cert.InIdeal.Gen.frame m ρ,
    fun m ρ _ => (θ_run Cert.InRefIdeal.defs _ _).mono (fun r h => ⟨fun c => (h c).2, sem_eq_zero_of_no_sems rfl _⟩) (Cert.InRefIdeal.Value.run m ρ),
    fun m ρ _ => Cert.Mixf.Gen.frame m ρ,
    fun m ρ _ => Cert.MixfIdeal.Gen.frame m ρ,
    fun m ρ _ => (θ_run Cert.MixfRefIdeal.defs _ _).mono (fun r h => ⟨fun c => (h c).2, sem_eq_zero_of_no_sems rfl _⟩) (Cert.MixfRefIdeal.Value.run m ρ),
    fun m ρ _ => Cert.Out.Gen.frame m ρ,
    fun m ρ _ => Cert.OutIdeal.Gen.frame m ρ,
    fun m ρ _ => (θ_run Cert.OutRefIdeal.defs _ _).mono (fun r h => ⟨fun c => (h c).2.2, sem_eq_zero_of_no_sems rfl _⟩) (Cert.OutRefIdeal.Value.run m ρ),
    fun m ρ _ => Cert.Ff1f.Gen.frame m ρ,
    fun m ρ _ => Cert.Ff1fIdeal.Gen.frame m ρ,
    fun m ρ _ => (θ_run Cert.Ff1fRefIdeal.defs _ _).mono (fun r h => ⟨fun c => (h c).2, sem_eq_zero_of_no_sems rfl _⟩) (Cert.Ff1fRefIdeal.Value.run m ρ),
    fun m ρ _ => Cert.Ff2f.Gen.frame m ρ,
    fun m ρ _ => Cert.Ff2fIdeal.Gen.frame m ρ,
    fun m ρ _ => (θ_run Cert.Ff2fRefIdeal.defs _ _).mono (fun r h => ⟨fun c => (h c).2.2, sem_eq_zero_of_no_sems rfl _⟩) (Cert.Ff2fRefIdeal.Value.run m ρ),
    fun m ρ _ => Cert.Loss.Gen.frame m ρ,
    fun m ρ _ => Cert.LossIdeal.Gen.frame m ρ,
    fun m ρ _ => Cert.LossIdeal.Gen.frame m ρ,
    fun m ρ _ => (θ_run Cert.LossRefIdeal.defs _ _).mono (fun r h => ⟨fun c => (h c).2.2.2.2.2, sem_eq_zero_of_no_sems rfl _⟩) (Cert.LossRefIdeal.Value.run m ρ),
    fun m ρ _ => (θ_run Cert.LossRefIdeal.defs _ _).mono (fun r h => ⟨fun c => (h c).2.2.2.2.2, sem_eq_zero_of_no_sems rfl _⟩) (Cert.LossRefIdeal.Value.run m ρ),
    fun m ρ _ => Cert.Inb.Gen.frame m ρ,
    fun m ρ _ => Cert.InbIdeal.Gen.frame m ρ,
    fun m ρ _ => Cert.InbIdeal.Gen.frame m ρ,
    fun m ρ _ => (θ_run Cert.InbRefIdeal.defs _ _).mono (fun r h => ⟨fun c => (h c).2.2.2.2, sem_eq_zero_of_no_sems rfl _⟩) (Cert.InbRefIdeal.Value.run m ρ),
    fun m ρ _ => (θ_run Cert.InbRefIdeal.defs _ _).mono (fun r h => ⟨fun c => (h c).2.2.2.2, sem_eq_zero_of_no_sems rfl _⟩) (Cert.InbRefIdeal.Value.run m ρ),
    fun m ρ _ => Cert.Inb0.Gen.frame m ρ,
    fun m ρ _ => Cert.Inb0Ideal.Gen.frame m ρ,
    fun m ρ _ => (θ_run Cert.Inb0RefIdeal.defs _ _).mono (fun r h => ⟨fun c => (h c).2, sem_eq_zero_of_no_sems rfl _⟩) (Cert.Inb0RefIdeal.Value.run m ρ),
    fun m ρ _ => Cert.Wout.Gen.frame m ρ,
    fun m ρ _ => Cert.WoutIdeal.Gen.frame m ρ,
    fun m ρ _ => (θ_run Cert.WoutRefIdeal.defs _ _).mono (fun r h => ⟨fun c => (h c).2, sem_eq_zero_of_no_sems rfl _⟩) (Cert.WoutRefIdeal.Value.run m ρ),
    fun m ρ _ => Cert.Wglu.Gen.frame m ρ,
    fun m ρ _ => Cert.WgluIdeal.Gen.frame m ρ,
    fun m ρ _ => (θ_run Cert.WgluRefIdeal.defs _ _).mono (fun r h => ⟨fun c => (h c).2, sem_eq_zero_of_no_sems rfl _⟩) (Cert.WgluRefIdeal.Value.run m ρ),
    fun m ρ _ => Cert.Win.Gen.frame m ρ,
    fun m ρ _ => Cert.WinIdeal.Gen.frame m ρ,
    fun m ρ _ => (θ_run Cert.WinRefIdeal.defs _ _).mono (fun r h => ⟨fun c => (h c).2, sem_eq_zero_of_no_sems rfl _⟩) (Cert.WinRefIdeal.Value.run m ρ),
    fun m ρ _ => Cert.Awin.Gen.frame m ρ,
    fun m ρ _ => Cert.AwinIdeal.Gen.frame m ρ,
    fun m ρ _ => (θ_run Cert.AwinRefIdeal.defs _ _).mono (fun r h => ⟨fun c => (h c).2.2.2.2, sem_eq_zero_of_no_sems rfl _⟩) (Cert.AwinRefIdeal.Value.run m ρ),
    fun m ρ _ => Cert.Awglu.Gen.frame m ρ,
    fun m ρ _ => Cert.AwgluIdeal.Gen.frame m ρ,
    fun m ρ _ => (θ_run Cert.AwgluRefIdeal.defs _ _).mono (fun r h => ⟨fun c => (h c).2.2.2.2, sem_eq_zero_of_no_sems rfl _⟩) (Cert.AwgluRefIdeal.Value.run m ρ),
    fun m ρ _ => Cert.Awout.Gen.frame m ρ,
    fun m ρ _ => Cert.AwoutIdeal.Gen.frame m ρ,
    fun m ρ _ => (θ_run Cert.AwoutRefIdeal.defs _ _).mono (fun r h => ⟨fun c => (h c).2.2.2.2, sem_eq_zero_of_no_sems rfl _⟩) (Cert.AwoutRefIdeal.Value.run m ρ),
    fun m ρ _ => Cert.Awff1.Gen.frame m ρ,
    fun m ρ _ => Cert.Awff1Ideal.Gen.frame m ρ,
    fun m ρ _ => (θ_run Cert.Awff1RefIdeal.defs _ _).mono (fun r h => ⟨fun c => (h c).2.2.2.2, sem_eq_zero_of_no_sems rfl _⟩) (Cert.Awff1RefIdeal.Value.run m ρ),
    fun m ρ _ => Cert.Awff2.Gen.frame m ρ,
    fun m ρ _ => Cert.Awff2Ideal.Gen.frame m ρ,
    fun m ρ _ => (θ_run Cert.Awff2RefIdeal.defs _ _).mono (fun r h => ⟨fun c => (h c).2.2.2.2, sem_eq_zero_of_no_sems rfl _⟩) (Cert.Awff2RefIdeal.Value.run m ρ),
    fun m ρ _ => Cert.Asmall.Gen.frame m ρ,
    fun m ρ _ => Cert.AsmallIdeal.Gen.frame m ρ,
    fun m ρ _ => (θ_run Cert.AsmallRefIdeal.defs _ _).mono (fun r h => ⟨fun c => (h c).2.2.2.2, sem_eq_zero_of_no_sems rfl _⟩) (Cert.AsmallRefIdeal.Value.run m ρ),
    trivial,
    trivial,
    Cert.Ff2Ideal.Body.algebraic,
    trivial,
    Cert.Ff1Ideal.Body.algebraic,
    trivial,
    Cert.MixIdeal.Body.algebraic,
    trivial,
    Cert.Wff2Ideal.Body.algebraic,
    trivial,
    Cert.Wff1Ideal.Body.algebraic,
    trivial,
    Cert.InIdeal.Body.algebraic,
    trivial,
    Cert.MixfIdeal.Body.algebraic,
    trivial,
    Cert.OutIdeal.Body.algebraic,
    trivial,
    Cert.Ff1fIdeal.Body.algebraic,
    trivial,
    Cert.Ff2fIdeal.Body.algebraic,
    trivial,
    Cert.LossIdeal.Body.algebraic,
    trivial,
    Cert.InbIdeal.Body.algebraic,
    trivial,
    Cert.Inb0Ideal.Body.algebraic,
    trivial,
    Cert.WoutIdeal.Body.algebraic,
    trivial,
    Cert.WgluIdeal.Body.algebraic,
    trivial,
    Cert.WinIdeal.Body.algebraic,
    trivial,
    Cert.AwinIdeal.Body.algebraic,
    trivial,
    Cert.AwgluIdeal.Body.algebraic,
    trivial,
    Cert.AwoutIdeal.Body.algebraic,
    trivial,
    Cert.Awff1Ideal.Body.algebraic,
    trivial,
    Cert.Awff2Ideal.Body.algebraic,
    trivial,
    Cert.AsmallIdeal.Body.algebraic⟩

end Cert.Proof

end
